-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_KernelIdeal_ids_in_range_tables_finite [hPre_ids_in_range_tables_finite : Cert.Pre_ids_in_range_tables_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_tables_finite [hPre_ids_in_range_tables_finite : Cert.Pre_ids_in_range_tables_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_ids_in_range_tables_finite [hKernelIdeal : Cert.KernelIdeal.Facts] [hPre_ids_in_range_tables_finite : Cert.Pre_ids_in_range_tables_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_tables_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_ids_in_range_tables_finite [hReferenceIdeal : Cert.ReferenceIdeal.Facts] [hPre_ids_in_range_tables_finite : Cert.Pre_ids_in_range_tables_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_tables_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_ids_in_range_tables_finite [hKernelIdeal : Cert.KernelIdeal.Facts] [hReferenceIdeal : Cert.ReferenceIdeal.Facts] [hPre_ids_in_range_tables_finite : Cert.Pre_ids_in_range_tables_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_tables_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_in_range_tables_finite : Cert.Pre_ids_in_range_tables_finite.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_in_range_tables_finite (hKernelIdeal := hKernelIdeal) (hPre_ids_in_range_tables_finite := hPre_ids_in_range_tables_finite)
    ∧ quiescent_ReferenceIdeal (hReferenceIdeal := hReferenceIdeal)
    ∧ quiescent_ReferenceIdeal_pre_ids_in_range_tables_finite (hReferenceIdeal := hReferenceIdeal) (hPre_ids_in_range_tables_finite := hPre_ids_in_range_tables_finite)
    ∧ preserves_Kernel_KernelIdeal
    ∧ algebraic_KernelIdeal_ReferenceIdeal_pre_ids_in_range_tables_finite (hKernelIdeal := hKernelIdeal) (hReferenceIdeal := hReferenceIdeal) (hPre_ids_in_range_tables_finite := hPre_ids_in_range_tables_finite)
-- ==== Pre_ids_in_range.lean ====
abbrev S16384 : Shape := ⟨1, ![16384]⟩
abbrev S16384x50 : Shape := ⟨2, ![16384, 50]⟩
abbrev S100000x64 : Shape := ⟨2, ![100000, 64]⟩
abbrev S50000x64 : Shape := ⟨2, ![50000, 64]⟩
abbrev S20000x64 : Shape := ⟨2, ![20000, 64]⟩
abbrev S128x16 : Shape := ⟨2, ![128, 16]⟩
abbrev S16 : Shape := ⟨1, ![16]⟩
abbrev S16x1 : Shape := ⟨2, ![16, 1]⟩
abbrev S1 : Shape := ⟨1, ![1]⟩
abbrev S192x8 : Shape := ⟨2, ![192, 8]⟩
abbrev S8 : Shape := ⟨1, ![8]⟩
abbrev S8x1 : Shape := ⟨2, ![8, 1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x50 : S_.BroadcastsInDim S16384x50 (![] : Fin 0 → Fin S16384x50.rank)
  reducesTo_S16384x50_S_d0_1 : S16384x50.ReducesTo [0, 1] S_

variable [Facts]

def fn_part1 {F : FTy → Type} [FloatOps F] (main_arg2 : IVec S16384x50 32) (main_arg3 : IVec S16384 32) (main_v12 : IVec S_ 1) (main_v14 : IVec S16384x50 1) (main_v15 : IVec S16384x50 32) : IVec S_ 1 :=
  let main_v16 : IVec S16384x50 1 := cmpi .slt main_arg2 main_v15
  let main_v17 : IVec S16384x50 1 := andi main_v14 main_v16
  let main_c_7 : IVec S_ 1 := constantI S_ 1 1#1
  let main_v18 : IVec S_ 1 := (fun x v => Host.reduce IntOp.andi x v reducesTo_S16384x50_S_d0_1 h_S_) main_v17 main_c_7
  let main_v19 : IVec S_ 1 := andi main_v12 main_v18
  let main_c_8 : IVec S_ 32 := constantI S_ 32 0#32
  let main_v20 : IVec S16384 32 := broadcastInDim S16384 ![] bcast_S_S16384 main_c_8
  let main_v21 : IVec S16384 1 := cmpi .sge main_arg3 main_v20
  let main_c_9 : IVec S_ 32 := constantI S_ 32 50#32
  let main_v22 : IVec S16384 32 := broadcastInDim S16384 ![] bcast_S_S16384 main_c_9
  let main_v23 : IVec S16384 1 := cmpi .slt main_arg3 main_v22
  let main_v24 : IVec S16384 1 := andi main_v21 main_v23
  let main_c_10 : IVec S_ 1 := constantI S_ 1 1#1
  let main_v25 : IVec S_ 1 := (fun x v => Host.reduce IntOp.andi x v reducesTo_S16384_S_d0 h_S_) main_v24 main_c_10
  let main_v26 : IVec S_ 1 := andi main_v19 main_v25
  main_v26

def fn {F : FTy → Type} [FloatOps F] (main_arg0 : IVec S16384 32) (main_arg1 : IVec S16384 32) (main_arg2 : IVec S16384x50 32) (main_arg3 : IVec S16384 32) (main_arg4 : FVec F S100000x64 .f32) (main_arg5 : FVec F S50000x64 .f32) (main_arg6 : FVec F S20000x64 .f32) (main_arg7 : FVec F S128x16 .f32) (main_arg8 : FVec F S16 .f32) (main_arg9 : FVec F S16x1 .f32) (main_arg10 : FVec F S1 .f32) (main_arg11 : FVec F S192x8 .f32) (main_arg12 : FVec F S8 .f32) (main_arg13 : FVec F S8x1 .f32) (main_arg14 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 20000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 50000#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  let main_c_5 : IVec S_ 32 := constantI S_ 32 0#32
  let main_v13 : IVec S16384x50 32 := broadcastInDim S16384x50 ![] bcast_S_S16384x50 main_c_5
  let main_v14 : IVec S16384x50 1 := cmpi .sge main_arg2 main_v13
  let main_c_6 : IVec S_ 32 := constantI S_ 32 100000#32
  let main_v15 : IVec S16384x50 32 := broadcastInDim S16384x50 ![] bcast_S_S16384x50 main_c_6
  fn_part1 (F := F) main_arg2 main_arg3 main_v12 main_v14 main_v15
-- ==== Pre_ids_in_range_tables_finite.lean ====
abbrev S16384 : Shape := ⟨1, ![16384]⟩
abbrev S16384x50 : Shape := ⟨2, ![16384, 50]⟩
abbrev S100000x64 : Shape := ⟨2, ![100000, 64]⟩
abbrev S50000x64 : Shape := ⟨2, ![50000, 64]⟩
abbrev S20000x64 : Shape := ⟨2, ![20000, 64]⟩
abbrev S128x16 : Shape := ⟨2, ![128, 16]⟩
abbrev S16 : Shape := ⟨1, ![16]⟩
abbrev S16x1 : Shape := ⟨2, ![16, 1]⟩
abbrev S1 : Shape := ⟨1, ![1]⟩
abbrev S192x8 : Shape := ⟨2, ![192, 8]⟩
abbrev S8 : Shape := ⟨1, ![8]⟩
abbrev S8x1 : Shape := ⟨2, ![8, 1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x50 : S_.BroadcastsInDim S16384x50 (![] : Fin 0 → Fin S16384x50.rank)
  reducesTo_S16384x50_S_d0_1 : S16384x50.ReducesTo [0, 1] S_
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_
  bcast_S_S20000x64 : S_.BroadcastsInDim S20000x64 (![] : Fin 0 → Fin S20000x64.rank)
  reducesTo_S20000x64_S_d0_1 : S20000x64.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg9 : FVec F S16x1 .f32) (main_arg10 : FVec F S1 .f32) (main_v46 : IVec S_ 1) (main_v49 : IVec S16 1) (main_c_19 : IVec S_ 1) : IVec S_ 1 :=
  let main_v50 : IVec S_ 1 := (fun x v => Host.reduce IntOp.andi x v reducesTo_S16_S_d0 h_S_) main_v49 main_c_19
  let main_v51 : IVec S_ 1 := andi main_v46 main_v50
  let main_v52 : FVec F S16x1 .f32 := Host.absf main_arg9
  let main_cst_20 : FVec F S_ .f32 := constant S_ .f32 0x7F800000#32
  let main_v53 : FVec F S16x1 .f32 := broadcastInDim S16x1 ![] bcast_S_S16x1 main_cst_20
  let main_v54 : IVec S16x1 1 := cmpf .olt main_v52 main_v53
  let main_c_21 : IVec S_ 1 := constantI S_ 1 1#1
  let main_v55 : IVec S_ 1 := (fun x v => Host.reduce IntOp.andi x v reducesTo_S16x1_S_d0_1 h_S_) main_v54 main_c_21
  let main_v56 : IVec S_ 1 := andi main_v51 main_v55
  let main_v57 : FVec F S1 .f32 := Host.absf main_arg10
  let main_cst_22 : FVec F S_ .f32 := constant S_ .f32 0x7F800000#32
  let main_v58 : FVec F S1 .f32 := broadcastInDim S1 ![] bcast_S_S1 main_cst_22
  let main_v59 : IVec S1 1 := cmpf .olt main_v57 main_v58
  let main_c_23 : IVec S_ 1 := constantI S_ 1 1#1
  let main_v60 : IVec S_ 1 := (fun x v => Host.reduce IntOp.andi x v reducesTo_S1_S_d0 h_S_) main_v59 main_c_23
  let main_v61 : IVec S_ 1 := andi main_v56 main_v60
  main_v61

def fn_part2 {F : FTy → Type} [FloatOps F] (main_arg6 : FVec F S20000x64 .f32) (main_arg7 : FVec F S128x16 .f32) (main_arg8 : FVec F S16 .f32) (main_arg9 : FVec F S16x1 .f32) (main_arg10 : FVec F S1 .f32) (main_v31 : IVec S_ 1) (main_v32 : FVec F S50000x64 .f32) (main_cst_12 : FVec F S_ .f32) : IVec S_ 1 :=
  let main_v33 : FVec F S50000x64 .f32 := broadcastInDim S50000x64 ![] bcast_S_S50000x64 main_cst_12
  let main_v34 : IVec S50000x64 1 := cmpf .olt main_v32 main_v33
  let main_c_13 : IVec S_ 1 := constantI S_ 1 1#1
  let main_v35 : IVec S_ 1 := (fun x v => Host.reduce IntOp.andi x v reducesTo_S50000x64_S_d0_1 h_S_) main_v34 main_c_13
  let main_v36 : IVec S_ 1 := andi main_v31 main_v35
  let main_v37 : FVec F S20000x64 .f32 := Host.absf main_arg6
  let main_cst_14 : FVec F S_ .f32 := constant S_ .f32 0x7F800000#32
  let main_v38 : FVec F S20000x64 .f32 := broadcastInDim S20000x64 ![] bcast_S_S20000x64 main_cst_14
  let main_v39 : IVec S20000x64 1 := cmpf .olt main_v37 main_v38
  let main_c_15 : IVec S_ 1 := constantI S_ 1 1#1
  let main_v40 : IVec S_ 1 := (fun x v => Host.reduce IntOp.andi x v reducesTo_S20000x64_S_d0_1 h_S_) main_v39 main_c_15
  let main_v41 : IVec S_ 1 := andi main_v36 main_v40
  let main_v42 : FVec F S128x16 .f32 := Host.absf main_arg7
  let main_cst_16 : FVec F S_ .f32 := constant S_ .f32 0x7F800000#32
  let main_v43 : FVec F S128x16 .f32 := broadcastInDim S128x16 ![] bcast_S_S128x16 main_cst_16
  let main_v44 : IVec S128x16 1 := cmpf .olt main_v42 main_v43
  let main_c_17 : IVec S_ 1 := constantI S_ 1 1#1
  let main_v45 : IVec S_ 1 := (fun x v => Host.reduce IntOp.andi x v reducesTo_S128x16_S_d0_1 h_S_) main_v44 main_c_17
  let main_v46 : IVec S_ 1 := andi main_v41 main_v45
  let main_v47 : FVec F S16 .f32 := Host.absf main_arg8
  let main_cst_18 : FVec F S_ .f32 := constant S_ .f32 0x7F800000#32
  let main_v48 : FVec F S16 .f32 := broadcastInDim S16 ![] bcast_S_S16 main_cst_18
  let main_v49 : IVec S16 1 := cmpf .olt main_v47 main_v48
  let main_c_19 : IVec S_ 1 := constantI S_ 1 1#1
  fn_part3 (F := F) main_arg9 main_arg10 main_v46 main_v49 main_c_19

def fn_part1 {F : FTy → Type} [FloatOps F] (main_arg2 : IVec S16384x50 32) (main_arg3 : IVec S16384 32) (main_arg4 : FVec F S100000x64 .f32) (main_arg5 : FVec F S50000x64 .f32) (main_arg6 : FVec F S20000x64 .f32) (main_arg7 : FVec F S128x16 .f32) (main_arg8 : FVec F S16 .f32) (main_arg9 : FVec F S16x1 .f32) (main_arg10 : FVec F S1 .f32) (main_v12 : IVec S_ 1) (main_v14 : IVec S16384x50 1) (main_v15 : IVec S16384x50 32) : IVec S_ 1 :=
  let main_v16 : IVec S16384x50 1 := cmpi .slt main_arg2 main_v15
  let main_v17 : IVec S16384x50 1 := andi main_v14 main_v16
  let main_c_7 : IVec S_ 1 := constantI S_ 1 1#1
  let main_v18 : IVec S_ 1 := (fun x v => Host.reduce IntOp.andi x v reducesTo_S16384x50_S_d0_1 h_S_) main_v17 main_c_7
  let main_v19 : IVec S_ 1 := andi main_v12 main_v18
  let main_c_8 : IVec S_ 32 := constantI S_ 32 0#32
  let main_v20 : IVec S16384 32 := broadcastInDim S16384 ![] bcast_S_S16384 main_c_8
  let main_v21 : IVec S16384 1 := cmpi .sge main_arg3 main_v20
  let main_c_9 : IVec S_ 32 := constantI S_ 32 50#32
  let main_v22 : IVec S16384 32 := broadcastInDim S16384 ![] bcast_S_S16384 main_c_9
  let main_v23 : IVec S16384 1 := cmpi .slt main_arg3 main_v22
  let main_v24 : IVec S16384 1 := andi main_v21 main_v23
  let main_c_10 : IVec S_ 1 := constantI S_ 1 1#1
  let main_v25 : IVec S_ 1 := (fun x v => Host.reduce IntOp.andi x v reducesTo_S16384_S_d0 h_S_) main_v24 main_c_10
  let main_v26 : IVec S_ 1 := andi main_v19 main_v25
  let main_v27 : FVec F S100000x64 .f32 := Host.absf main_arg4
  let main_cst : FVec F S_ .f32 := constant S_ .f32 0x7F800000#32
  let main_v28 : FVec F S100000x64 .f32 := broadcastInDim S100000x64 ![] bcast_S_S100000x64 main_cst
  let main_v29 : IVec S100000x64 1 := cmpf .olt main_v27 main_v28
  let main_c_11 : IVec S_ 1 := constantI S_ 1 1#1
  let main_v30 : IVec S_ 1 := (fun x v => Host.reduce IntOp.andi x v reducesTo_S100000x64_S_d0_1 h_S_) main_v29 main_c_11
  let main_v31 : IVec S_ 1 := andi main_v26 main_v30
  let main_v32 : FVec F S50000x64 .f32 := Host.absf main_arg5
  let main_cst_12 : FVec F S_ .f32 := constant S_ .f32 0x7F800000#32
  fn_part2 (F := F) main_arg6 main_arg7 main_arg8 main_arg9 main_arg10 main_v31 main_v32 main_cst_12

def fn {F : FTy → Type} [FloatOps F] (main_arg0 : IVec S16384 32) (main_arg1 : IVec S16384 32) (main_arg2 : IVec S16384x50 32) (main_arg3 : IVec S16384 32) (main_arg4 : FVec F S100000x64 .f32) (main_arg5 : FVec F S50000x64 .f32) (main_arg6 : FVec F S20000x64 .f32) (main_arg7 : FVec F S128x16 .f32) (main_arg8 : FVec F S16 .f32) (main_arg9 : FVec F S16x1 .f32) (main_arg10 : FVec F S1 .f32) (main_arg11 : FVec F S192x8 .f32) (main_arg12 : FVec F S8 .f32) (main_arg13 : FVec F S8x1 .f32) (main_arg14 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 20000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 50000#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  let main_c_5 : IVec S_ 32 := constantI S_ 32 0#32
  let main_v13 : IVec S16384x50 32 := broadcastInDim S16384x50 ![] bcast_S_S16384x50 main_c_5
  let main_v14 : IVec S16384x50 1 := cmpi .sge main_arg2 main_v13
  let main_c_6 : IVec S_ 32 := constantI S_ 32 100000#32
  let main_v15 : IVec S16384x50 32 := broadcastInDim S16384x50 ![] bcast_S_S16384x50 main_c_6
  fn_part1 (F := F) main_arg2 main_arg3 main_arg4 main_arg5 main_arg6 main_arg7 main_arg8 main_arg9 main_arg10 main_v12 main_v14 main_v15
-- ==== Kernel.lean ====
abbrev S16384 : Shape := ⟨1, ![16384]⟩
abbrev S16384x50 : Shape := ⟨2, ![16384, 50]⟩
abbrev S100000x64 : Shape := ⟨2, ![100000, 64]⟩
abbrev S50000x64 : Shape := ⟨2, ![50000, 64]⟩
abbrev S20000x64 : Shape := ⟨2, ![20000, 64]⟩
abbrev S128x16 : Shape := ⟨2, ![128, 16]⟩
abbrev S16 : Shape := ⟨1, ![16]⟩
abbrev S16x1 : Shape := ⟨2, ![16, 1]⟩
abbrev S1 : Shape := ⟨1, ![1]⟩
abbrev S192x8 : Shape := ⟨2, ![192, 8]⟩
abbrev S8 : Shape := ⟨1, ![8]⟩
abbrev S8x1 : Shape := ⟨2, ![8, 1]⟩
abbrev S50000x1x128 : Shape := ⟨3, ![50000, 1, 128]⟩
abbrev S25000x1x128 : Shape := ⟨3, ![25000, 1, 128]⟩
abbrev S10000x1x128 : Shape := ⟨3, ![10000, 1, 128]⟩
abbrev S_ : Shape := ⟨0, ![]⟩
abbrev S16384x1 : Shape := ⟨2, ![16384, 1]⟩
abbrev S128x128 : Shape := ⟨2, ![128, 128]⟩
abbrev S128 : Shape := ⟨1, ![128]⟩
abbrev S128x128x50 : Shape := ⟨3, ![128, 128, 50]⟩
abbrev S128x50x128 : Shape := ⟨3, ![128, 50, 128]⟩
abbrev S128x1x6400 : Shape := ⟨3, ![128, 1, 6400]⟩
abbrev S16384x128 : Shape := ⟨2, ![16384, 128]⟩
abbrev S128x128x128 : Shape := ⟨3, ![128, 128, 128]⟩
abbrev S16384x64 : Shape := ⟨2, ![16384, 64]⟩
abbrev S128x1x128 : Shape := ⟨3, ![128, 1, 128]⟩
abbrev S128x1x1 : Shape := ⟨3, ![128, 1, 1]⟩
abbrev S128x1x8 : Shape := ⟨3, ![128, 1, 8]⟩
abbrev S128x1x264 : Shape := ⟨3, ![128, 1, 264]⟩
abbrev S128x128x1 : Shape := ⟨3, ![128, 128, 1]⟩
abbrev S64x16 : Shape := ⟨2, ![64, 16]⟩
abbrev S128x32 : Shape := ⟨2, ![128, 32]⟩
abbrev S1x16 : Shape := ⟨2, ![1, 16]⟩
abbrev S50x50 : Shape := ⟨2, ![50, 50]⟩
abbrev S50x1x50 : Shape := ⟨3, ![50, 1, 50]⟩
abbrev S1x16x1 : Shape := ⟨3, ![1, 16, 1]⟩
abbrev S50x16x50 : Shape := ⟨3, ![50, 16, 50]⟩
abbrev S800x50 : Shape := ⟨2, ![800, 50]⟩
abbrev S800x128 : Shape := ⟨2, ![800, 128]⟩
abbrev S256 : Shape := ⟨1, ![256]⟩
abbrev S256x1 : Shape := ⟨2, ![256, 1]⟩
abbrev S6400 : Shape := ⟨1, ![6400]⟩
abbrev S1x6400 : Shape := ⟨2, ![1, 6400]⟩
abbrev S256x6400 : Shape := ⟨2, ![256, 6400]⟩
abbrev S16x16 : Shape := ⟨2, ![16, 16]⟩
abbrev S1x16x1x16 : Shape := ⟨4, ![1, 16, 1, 16]⟩
abbrev S1x16x50x16 : Shape := ⟨4, ![1, 16, 50, 16]⟩
abbrev S16x800 : Shape := ⟨2, ![16, 800]⟩
abbrev S192x128 : Shape := ⟨2, ![192, 128]⟩
abbrev S1x128 : Shape := ⟨2, ![1, 128]⟩
abbrev S1x1x6400 : Shape := ⟨3, ![1, 1, 6400]⟩
abbrev S1x1x264 : Shape := ⟨3, ![1, 1, 264]⟩
abbrev S1x128x1 : Shape := ⟨3, ![1, 128, 1]⟩
abbrev S1x128x128 : Shape := ⟨3, ![1, 128, 128]⟩
abbrev S6400x128 : Shape := ⟨2, ![6400, 128]⟩
abbrev S6400x32 : Shape := ⟨2, ![6400, 32]⟩
abbrev S128x800 : Shape := ⟨2, ![128, 800]⟩
abbrev S128x256 : Shape := ⟨2, ![128, 256]⟩
abbrev S128x6400 : Shape := ⟨2, ![128, 6400]⟩
abbrev S264 : Shape := ⟨1, ![264]⟩
abbrev S1x1x128 : Shape := ⟨3, ![1, 1, 128]⟩
abbrev S128x1 : Shape := ⟨2, ![128, 1]⟩
abbrev S128x64 : Shape := ⟨2, ![128, 64]⟩
abbrev S128x192 : Shape := ⟨2, ![128, 192]⟩

abbrev nBuf : Space → Nat
  | .hbm => 244
  | .vmem => 34
  | .smem => 2
  | _ => 0

abbrev hbmTy0_0 (i : Nat) : BufTy := match i % 128 with
  | 0 => ⟨S16384, .i32⟩
  | 1 => ⟨S16384, .i32⟩
  | 2 => ⟨S16384x50, .i32⟩
  | 3 => ⟨S16384, .i32⟩
  | 4 => ⟨S100000x64, .f32⟩
  | 5 => ⟨S50000x64, .f32⟩
  | 6 => ⟨S20000x64, .f32⟩
  | 7 => ⟨S128x16, .f32⟩
  | 8 => ⟨S16, .f32⟩
  | 9 => ⟨S16x1, .f32⟩
  | 10 => ⟨S1, .f32⟩
  | 11 => ⟨S192x8, .f32⟩
  | 12 => ⟨S8, .f32⟩
  | 13 => ⟨S8x1, .f32⟩
  | 14 => ⟨S1, .f32⟩
  | 15 => ⟨S50000x1x128, .f32⟩
  | 16 => ⟨S25000x1x128, .f32⟩
  | 17 => ⟨S10000x1x128, .f32⟩
  | 18 => ⟨S16384, .i32⟩
  | 19 => ⟨S16384, .i32⟩
  | 20 => ⟨S16384, .i32⟩
  | 21 => ⟨S_, .i32⟩
  | 22 => ⟨S16384, .i32⟩
  | 23 => ⟨S16384, .i1⟩
  | 24 => ⟨S_, .i32⟩
  | 25 => ⟨S16384, .i32⟩
  | 26 => ⟨S16384, .i32⟩
  | 27 => ⟨S16384, .i32⟩
  | 28 => ⟨S16384x1, .i32⟩
  | 29 => ⟨S16384x50, .i32⟩
  | 30 => ⟨S_, .i32⟩
  | 31 => ⟨S16384, .i32⟩
  | 32 => ⟨S16384, .i1⟩
  | 33 => ⟨S_, .i32⟩
  | 34 => ⟨S16384, .i32⟩
  | 35 => ⟨S16384, .i32⟩
  | 36 => ⟨S16384, .i32⟩
  | 37 => ⟨S16384x1, .i32⟩
  | 38 => ⟨S16384, .i32⟩
  | 39 => ⟨S_, .i32⟩
  | 40 => ⟨S16384, .i32⟩
  | 41 => ⟨S16384, .i1⟩
  | 42 => ⟨S_, .i32⟩
  | 43 => ⟨S16384, .i32⟩
  | 44 => ⟨S16384, .i32⟩
  | 45 => ⟨S16384, .i32⟩
  | 46 => ⟨S16384x1, .i32⟩
  | 47 => ⟨S16384, .i32⟩
  | 48 => ⟨S_, .i32⟩
  | 49 => ⟨S16384, .i32⟩
  | 50 => ⟨S16384, .i1⟩
  | 51 => ⟨S_, .i32⟩
  | 52 => ⟨S16384, .i32⟩
  | 53 => ⟨S16384, .i32⟩
  | 54 => ⟨S16384, .i32⟩
  | 55 => ⟨S16384x1, .i32⟩
  | 56 => ⟨S16384, .i32⟩
  | 57 => ⟨S128x128, .i32⟩
  | 58 => ⟨S_, .i32⟩
  | 59 => ⟨S128, .i32⟩
  | 60 => ⟨S_, .i32⟩
  | 61 => ⟨S128, .i32⟩
  | 62 => ⟨S128, .i32⟩
  | 63 => ⟨S_, .i32⟩
  | 64 => ⟨S16384x50, .i32⟩
  | 65 => ⟨S16384x50, .i32⟩
  | 66 => ⟨S128x128x50, .i32⟩
  | 67 => ⟨S128x50x128, .i32⟩
  | 68 => ⟨S128x1x6400, .i32⟩
  | 69 => ⟨S_, .i32⟩
  | 70 => ⟨S16384x50, .i32⟩
  | 71 => ⟨S16384x50, .i32⟩
  | 72 => ⟨S16384x50, .f32⟩
  | 73 => ⟨S_, .i32⟩
  | 74 => ⟨S_, .f32⟩
  | 75 => ⟨S16384x128, .f32⟩
  | 76 => ⟨S128x128x128, .f32⟩
  | 77 => ⟨S_, .i32⟩
  | 78 => ⟨S16384, .i32⟩
  | 79 => ⟨S16384, .i32⟩
  | 80 => ⟨S16384, .f32⟩
  | 81 => ⟨S16384x1, .f32⟩
  | 82 => ⟨S16384x64, .f32⟩
  | 83 => ⟨S_, .i32⟩
  | 84 => ⟨S16384, .i32⟩
  | 85 => ⟨S16384, .i32⟩
  | 86 => ⟨S16384, .f32⟩
  | 87 => ⟨S16384x1, .f32⟩
  | 88 => ⟨S16384x64, .f32⟩
  | 89 => ⟨S16384x128, .f32⟩
  | 90 => ⟨S128x128x128, .f32⟩
  | 91 => ⟨S_, .i32⟩
  | 92 => ⟨S16384, .i32⟩
  | 93 => ⟨S16384, .i32⟩
  | 94 => ⟨S128x1x128, .i32⟩
  | 95 => ⟨S_, .i32⟩
  | 96 => ⟨S16384, .i32⟩
  | 97 => ⟨S16384, .i32⟩
  | 98 => ⟨S128x1x128, .i32⟩
  | 99 => ⟨S128x1x1, .i32⟩
  | 100 => ⟨S128x1x8, .i32⟩
  | 101 => ⟨S128x1x264, .i32⟩
  | 102 => ⟨S128x128x1, .i32⟩
  | 103 => ⟨S_, .f32⟩
  | 104 => ⟨S64x16, .f32⟩
  | 105 => ⟨S64x16, .f32⟩
  | 106 => ⟨S128x16, .f32⟩
  | 107 => ⟨S64x16, .f32⟩
  | 108 => ⟨S128x16, .f32⟩
  | 109 => ⟨S128x32, .f32⟩
  | 110 => ⟨S64x16, .f32⟩
  | 111 => ⟨S128x16, .f32⟩
  | 112 => ⟨S64x16, .f32⟩
  | 113 => ⟨S128x16, .f32⟩
  | 114 => ⟨S128x32, .f32⟩
  | 115 => ⟨S1x16, .f32⟩
  | 116 => ⟨S50x50, .i32⟩
  | 117 => ⟨S50x50, .i32⟩
  | 118 => ⟨S_, .i32⟩
  | 119 => ⟨S50x50, .i32⟩
  | 120 => ⟨S50x50, .i32⟩
  | 121 => ⟨S50x50, .i1⟩
  | 122 => ⟨S50x50, .f32⟩
  | 123 => ⟨S50x1x50, .f32⟩
  | 124 => ⟨S16, .f32⟩
  | 125 => ⟨S1x16x1, .f32⟩
  | 126 => ⟨S50x16x50, .f32⟩
  | 127 => ⟨S50x16x50, .f32⟩
  | _ => ⟨S16384, .i32⟩

abbrev hbmTy0_1 (i : Nat) : BufTy := match i % 128 with
  | 0 => ⟨S50x16x50, .f32⟩
  | 1 => ⟨S800x50, .f32⟩
  | 2 => ⟨S_, .i32⟩
  | 3 => ⟨S_, .f32⟩
  | 4 => ⟨S800x128, .f32⟩
  | 5 => ⟨S256, .i32⟩
  | 6 => ⟨S256x1, .i32⟩
  | 7 => ⟨S6400, .i32⟩
  | 8 => ⟨S1x6400, .i32⟩
  | 9 => ⟨S_, .i32⟩
  | 10 => ⟨S_, .i32⟩
  | 11 => ⟨S1x6400, .i32⟩
  | 12 => ⟨S1x6400, .i32⟩
  | 13 => ⟨S1x6400, .i32⟩
  | 14 => ⟨S_, .i32⟩
  | 15 => ⟨S1x6400, .i32⟩
  | 16 => ⟨S1x6400, .i1⟩
  | 17 => ⟨S1x6400, .i32⟩
  | 18 => ⟨S1x6400, .i32⟩
  | 19 => ⟨S_, .i32⟩
  | 20 => ⟨S1x6400, .i32⟩
  | 21 => ⟨S1x6400, .i1⟩
  | 22 => ⟨S1x6400, .i1⟩
  | 23 => ⟨S_, .i32⟩
  | 24 => ⟨S1x6400, .i32⟩
  | 25 => ⟨S1x6400, .i32⟩
  | 26 => ⟨S1x6400, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S1x6400, .i32⟩
  | 34 => ⟨S1x6400, .i32⟩
  | 35 => ⟨S_, .i32⟩
  | 36 => ⟨S1x6400, .i32⟩
  | 37 => ⟨S1x6400, .i1⟩
  | 38 => ⟨S_, .i32⟩
  | 39 => ⟨S1x6400, .i32⟩
  | 40 => ⟨S1x6400, .i1⟩
  | 41 => ⟨S_, .i32⟩
  | 42 => ⟨S_, .i1⟩
  | 43 => ⟨S1x6400, .i1⟩
  | 44 => ⟨S1x6400, .i1⟩
  | 45 => ⟨S1x6400, .i1⟩
  | 46 => ⟨S1x6400, .i32⟩
  | 47 => ⟨S1x6400, .i32⟩
  | 48 => ⟨S1x6400, .i32⟩
  | 49 => ⟨S_, .i32⟩
  | 50 => ⟨S256x1, .i32⟩
  | 51 => ⟨S256x1, .i1⟩
  | 52 => ⟨S256x6400, .i32⟩
  | 53 => ⟨S256x6400, .i32⟩
  | 54 => ⟨S256x6400, .i1⟩
  | 55 => ⟨S256x6400, .i1⟩
  | 56 => ⟨S256x6400, .i1⟩
  | 57 => ⟨S_, .i32⟩
  | 58 => ⟨S1x6400, .i32⟩
  | 59 => ⟨S1x6400, .i1⟩
  | 60 => ⟨S256x6400, .i1⟩
  | 61 => ⟨S256x6400, .i1⟩
  | 62 => ⟨S_, .i32⟩
  | 63 => ⟨S256x1, .i32⟩
  | 64 => ⟨S256x1, .i1⟩
  | 65 => ⟨S_, .i32⟩
  | 66 => ⟨S256x1, .i32⟩
  | 67 => ⟨S256x1, .i32⟩
  | 68 => ⟨S256x6400, .i32⟩
  | 69 => ⟨S256x6400, .i32⟩
  | 70 => ⟨S256x6400, .i1⟩
  | 71 => ⟨S256x6400, .i1⟩
  | 72 => ⟨S256x6400, .i1⟩
  | 73 => ⟨S_, .i32⟩
  | 74 => ⟨S1x6400, .i32⟩
  | 75 => ⟨S1x6400, .i1⟩
  | 76 => ⟨S256x6400, .i1⟩
  | 77 => ⟨S256x6400, .i1⟩
  | 78 => ⟨S256x6400, .i1⟩
  | 79 => ⟨S256x6400, .bf16⟩
  | 80 => ⟨S16x16, .i32⟩
  | 81 => ⟨S16x16, .i32⟩
  | 82 => ⟨S_, .i32⟩
  | 83 => ⟨S16x16, .i32⟩
  | 84 => ⟨S16x16, .i32⟩
  | 85 => ⟨S16x16, .i1⟩
  | 86 => ⟨S16x16, .f32⟩
  | 87 => ⟨S1x16x1x16, .f32⟩
  | 88 => ⟨S1x16x50x16, .f32⟩
  | 89 => ⟨S16x800, .f32⟩
  | 90 => ⟨S_, .i32⟩
  | 91 => ⟨S_, .f32⟩
  | 92 => ⟨S192x128, .f32⟩
  | 93 => ⟨S_, .i32⟩
  | 94 => ⟨S_, .f32⟩
  | 95 => ⟨S128, .f32⟩
  | 96 => ⟨S1x128, .f32⟩
  | 97 => ⟨S_, .i32⟩
  | 98 => ⟨S_, .f32⟩
  | 99 => ⟨S128x128, .f32⟩
  | 100 => ⟨S_, .f32⟩
  | 101 => ⟨S1x128, .f32⟩
  | 102 => ⟨S128x128x1, .f32⟩
  | 103 => ⟨S16384, .i32⟩
  | 104 => ⟨S16384, .i32⟩
  | 105 => ⟨S16384, .i32⟩
  | 106 => ⟨S16384x1, .f32⟩
  | 107 => ⟨S_, .i32⟩
  | 108 => ⟨S16384, .i32⟩
  | 109 => ⟨S16384, .i1⟩
  | 110 => ⟨S_, .i32⟩
  | 111 => ⟨S16384, .i32⟩
  | 112 => ⟨S16384, .i32⟩
  | 113 => ⟨S16384, .i32⟩
  | 114 => ⟨S16384x1, .i32⟩
  | 115 => ⟨S16384x1, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | .local _ .vmem, ⟨0, _⟩ => ⟨S1x1x6400, .i32⟩
  | .local _ .vmem, ⟨1, _⟩ => ⟨S1x1x6400, .i32⟩
  | .local _ .vmem, ⟨2, _⟩ => ⟨S1x1x264, .i32⟩
  | .local _ .vmem, ⟨3, _⟩ => ⟨S1x1x264, .i32⟩
  | .local _ .vmem, ⟨4, _⟩ => ⟨S1x128x1, .i32⟩
  | .local _ .vmem, ⟨5, _⟩ => ⟨S1x128x1, .i32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S50000x1x128, .f32⟩
  | .local _ .vmem, ⟨11, _⟩ => ⟨S25000x1x128, .f32⟩
  | .local _ .vmem, ⟨12, _⟩ => ⟨S10000x1x128, .f32⟩
  | .local _ .vmem, ⟨13, _⟩ => ⟨S128x32, .f32⟩
  | .local _ .vmem, ⟨14, _⟩ => ⟨S128x32, .f32⟩
  | .local _ .vmem, ⟨15, _⟩ => ⟨S1x16, .f32⟩
  | .local _ .vmem, ⟨16, _⟩ => ⟨S800x128, .f32⟩
  | .local _ .vmem, ⟨17, _⟩ => ⟨S256x6400, .bf16⟩
  | .local _ .vmem, ⟨18, _⟩ => ⟨S16x800, .f32⟩
  | .local _ .vmem, ⟨19, _⟩ => ⟨S192x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S1x128x1, .f32⟩
  | .local _ .vmem, ⟨24, _⟩ => ⟨S1x128x1, .f32⟩
  | .local _ .vmem, ⟨25, _⟩ => ⟨S6400x128, .f32⟩
  | .local _ .vmem, ⟨26, _⟩ => ⟨S6400x32, .f32⟩
  | .local _ .vmem, ⟨27, _⟩ => ⟨S128x800, .f32⟩
  | .local _ .vmem, ⟨28, _⟩ => ⟨S128x800, .f32⟩
  | .local _ .vmem, ⟨29, _⟩ => ⟨S128x128, .f32⟩
  | .local _ .vmem, ⟨30, _⟩ => ⟨S128x128, .f32⟩
  | .local _ .vmem, ⟨31, _⟩ => ⟨S128x256, .f32⟩
  | .local _ .vmem, ⟨32, _⟩ => ⟨S128x6400, .f32⟩
  | .local _ .vmem, ⟨33, _⟩ => ⟨S128x800, .f32⟩
  | .local _ .smem, ⟨0, _⟩ => ⟨S6400, .i32⟩
  | .local _ .smem, ⟨1, _⟩ => ⟨S264, .i32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_call0_v0 : Ref sig .tc := ⟨.hbm, 18, rfl⟩
abbrev main_call0_v1_0 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_c_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_10 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_11 : Ref sig .tc := ⟨.hbm, 73, rfl⟩
abbrev main_call1_v0 : Ref sig .tc := ⟨.hbm, 74, rfl⟩
abbrev main_v44 : Ref sig .tc := ⟨.hbm, 75, rfl⟩
abbrev main_v45 : Ref sig .tc := ⟨.hbm, 76, rfl⟩
abbrev main_c_12 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_13 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_14 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_15 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_16 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_c_17 : Ref sig .tc := ⟨.hbm, 130, rfl⟩
abbrev main_call2_v0 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_c_18 : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_call3_v5 : Ref sig .tc := ⟨.hbm, 143, rfl⟩
abbrev main_call3_v6 : Ref sig .tc := ⟨.hbm, 144, rfl⟩
abbrev main_call3_v7 : Ref sig .tc := ⟨.hbm, 145, rfl⟩
abbrev main_call3_v8 : Ref sig .tc := ⟨.hbm, 146, rfl⟩
abbrev main_call3_c : Ref sig .tc := ⟨.hbm, 147, rfl⟩
abbrev main_call3_v9 : Ref sig .tc := ⟨.hbm, 148, rfl⟩
abbrev main_call3_v10 : Ref sig .tc := ⟨.hbm, 149, rfl⟩
abbrev main_call3_v11 : Ref sig .tc := ⟨.hbm, 150, rfl⟩
abbrev main_call3_c_0 : Ref sig .tc := ⟨.hbm, 151, rfl⟩
abbrev main_call3_v12 : Ref sig .tc := ⟨.hbm, 152, rfl⟩
abbrev main_call3_v13 : Ref sig .tc := ⟨.hbm, 153, rfl⟩
abbrev main_v98 : Ref sig .tc := ⟨.hbm, 154, rfl⟩
abbrev main_c_19 : Ref sig .tc := ⟨.hbm, 155, rfl⟩
abbrev main_call4_v0 : Ref sig .tc := ⟨.hbm, 156, rfl⟩
abbrev main_call4_c : Ref sig .tc := ⟨.hbm, 157, rfl⟩
abbrev main_call4_v1 : Ref sig .tc := ⟨.hbm, 158, rfl⟩
abbrev main_call4_c_0 : Ref sig .tc := ⟨.hbm, 159, rfl⟩
abbrev main_call4_v2 : Ref sig .tc := ⟨.hbm, 160, rfl⟩
abbrev main_call4_v3 : Ref sig .tc := ⟨.hbm, 161, rfl⟩
abbrev main_call4_v4 : Ref sig .tc := ⟨.hbm, 162, rfl⟩
abbrev main_call4_c_1 : Ref sig .tc := ⟨.hbm, 163, rfl⟩
abbrev main_call4_v5 : Ref sig .tc := ⟨.hbm, 164, rfl⟩
abbrev main_call4_v6 : Ref sig .tc := ⟨.hbm, 165, rfl⟩
abbrev main_call4_c_2 : Ref sig .tc := ⟨.hbm, 166, rfl⟩
abbrev main_call4_v7 : Ref sig .tc := ⟨.hbm, 167, rfl⟩
abbrev main_call4_v8 : Ref sig .tc := ⟨.hbm, 168, rfl⟩
abbrev main_call4_c_3 : Ref sig .tc := ⟨.hbm, 169, rfl⟩
abbrev main_call4_v9 : Ref sig .tc := ⟨.hbm, 170, rfl⟩
abbrev main_call4_v10 : Ref sig .tc := ⟨.hbm, 171, rfl⟩
abbrev main_call4_v11 : Ref sig .tc := ⟨.hbm, 172, rfl⟩
abbrev main_call4_v12 : Ref sig .tc := ⟨.hbm, 173, rfl⟩
abbrev main_call4_v13 : Ref sig .tc := ⟨.hbm, 174, rfl⟩
abbrev main_call4_v14 : Ref sig .tc := ⟨.hbm, 175, rfl⟩
abbrev main_v99 : Ref sig .tc := ⟨.hbm, 176, rfl⟩
abbrev main_c_20 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_c_21 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_c_22 : Ref sig .tc := ⟨.hbm, 190, rfl⟩
abbrev main_v111 : Ref sig .tc := ⟨.hbm, 191, rfl⟩
abbrev main_v112 : Ref sig .tc := ⟨.hbm, 192, rfl⟩
abbrev main_c_23 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_c_24 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_c_25 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_c_26 : Ref sig .tc := ⟨.hbm, 218, rfl⟩
abbrev main_call5_v0 : Ref sig .tc := ⟨.hbm, 219, rfl⟩
abbrev main_v135 : Ref sig .tc := ⟨.hbm, 220, rfl⟩
abbrev main_c_27 : Ref sig .tc := ⟨.hbm, 221, rfl⟩
abbrev main_call6_v0 : Ref sig .tc := ⟨.hbm, 222, rfl⟩
abbrev main_v136 : Ref sig .tc := ⟨.hbm, 223, rfl⟩
abbrev main_v137 : Ref sig .tc := ⟨.hbm, 224, rfl⟩
abbrev main_c_28 : Ref sig .tc := ⟨.hbm, 225, rfl⟩
abbrev main_call7_v0 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_call8_v0 : Ref sig .tc := ⟨.hbm, 231, rfl⟩
abbrev main_call8_v1_0 : Ref sig .tc := ⟨.hbm, 232, rfl⟩
abbrev main_v142 : Ref sig .tc := ⟨.hbm, 233, rfl⟩
abbrev main_v143 : Ref sig .tc := ⟨.hbm, 234, rfl⟩
abbrev main_c_29 : Ref sig .tc := ⟨.hbm, 235, rfl⟩
abbrev main_v144 : Ref sig .tc := ⟨.hbm, 236, rfl⟩
abbrev main_v145 : Ref sig .tc := ⟨.hbm, 237, rfl⟩
abbrev main_c_30 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg18_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch8 : Ref sig .tc := ⟨.vmem, 33, rfl⟩
abbrev cc0_scratch9 : Ref sig .tc := ⟨.smem, 0, rfl⟩
abbrev cc0_scratch10 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem18_1 : DmaSem sig := 24

abbrev nD : Nat := 1
abbrev τ : Topo := Topo.v7x

variable {F : FTy → Type} [FloatOps F]

abbrev grid0 : Pipeline.Grid := ⟨1, ![128], ![false]⟩

def k0_off1 (v11 : BitVec 32) : Fin 3 → Nat :=
  let v12 : Index := Scalar.indexCast v11
  let c0_13 : Index := 0#32
  let c0_14 : Index := 0#32
  ![v12.toNat, 0, 0]

def k0_chk1 (v11 : BitVec 32) : Prop :=
  (∀ a, (k0_off1 v11) a + S1x1x128.size a ≤ S25000x1x128.size a)
theorem k0_off1_inb : ∀ (v11 : BitVec 32) (k0_hw1 : k0_chk1 v11), ∀ a, (k0_off1 v11) a + S1x1x128.size a ≤ S25000x1x128.size a := fun v11 k0_hw1 => k0_hw1

def k0_off2 (v18 : BitVec 32) : Fin 3 → Nat :=
  let v19 : Index := Scalar.indexCast v18
  let c0_17 : Index := 0#32
  let c0_18 : Index := 0#32
  ![v19.toNat, 0, 0]

def k0_chk2 (v18 : BitVec 32) : Prop :=
  (∀ a, (k0_off2 v18) a + S1x1x128.size a ≤ S10000x1x128.size a)
theorem k0_off2_inb : ∀ (v18 : BitVec 32) (k0_hw2 : k0_chk2 v18), ∀ a, (k0_off2 v18) a + S1x1x128.size a ≤ S10000x1x128.size a := fun v18 k0_hw2 => k0_hw2

def k0_off3 (v25 : BitVec 32) : Fin 3 → Nat :=
  let v26 : Index := Scalar.indexCast v25
  let c0_21 : Index := 0#32
  let c0_22 : Index := 0#32
  ![v26.toNat, 0, 0]

def k0_chk3 (v25 : BitVec 32) : Prop :=
  (∀ a, (k0_off3 v25) a + S1x1x128.size a ≤ S25000x1x128.size a)
theorem k0_off3_inb : ∀ (v25 : BitVec 32) (k0_hw3 : k0_chk3 v25), ∀ a, (k0_off3 v25) a + S1x1x128.size a ≤ S25000x1x128.size a := fun v25 k0_hw3 => k0_hw3

def k0_off4 (v32 : BitVec 32) : Fin 3 → Nat :=
  let v33 : Index := Scalar.indexCast v32
  let c0_25 : Index := 0#32
  let c0_26 : Index := 0#32
  ![v33.toNat, 0, 0]

def k0_chk4 (v32 : BitVec 32) : Prop :=
  (∀ a, (k0_off4 v32) a + S1x1x128.size a ≤ S10000x1x128.size a)
theorem k0_off4_inb : ∀ (v32 : BitVec 32) (k0_hw4 : k0_chk4 v32), ∀ a, (k0_off4 v32) a + S1x1x128.size a ≤ S10000x1x128.size a := fun v32 k0_hw4 => k0_hw4

def k0_off5 (v39 : BitVec 32) : Fin 3 → Nat :=
  let v40 : Index := Scalar.indexCast v39
  let c0_29 : Index := 0#32
  let c0_30 : Index := 0#32
  ![v40.toNat, 0, 0]

def k0_chk5 (v39 : BitVec 32) : Prop :=
  (∀ a, (k0_off5 v39) a + S1x1x128.size a ≤ S25000x1x128.size a)
theorem k0_off5_inb : ∀ (v39 : BitVec 32) (k0_hw5 : k0_chk5 v39), ∀ a, (k0_off5 v39) a + S1x1x128.size a ≤ S25000x1x128.size a := fun v39 k0_hw5 => k0_hw5

def k0_off6 (v46 : BitVec 32) : Fin 3 → Nat :=
  let v47 : Index := Scalar.indexCast v46
  let c0_33 : Index := 0#32
  let c0_34 : Index := 0#32
  ![v47.toNat, 0, 0]

def k0_chk6 (v46 : BitVec 32) : Prop :=
  (∀ a, (k0_off6 v46) a + S1x1x128.size a ≤ S10000x1x128.size a)
theorem k0_off6_inb : ∀ (v46 : BitVec 32) (k0_hw6 : k0_chk6 v46), ∀ a, (k0_off6 v46) a + S1x1x128.size a ≤ S10000x1x128.size a := fun v46 k0_hw6 => k0_hw6

def k0_off7 (v53 : BitVec 32) : Fin 3 → Nat :=
  let v54 : Index := Scalar.indexCast v53
  let c0_37 : Index := 0#32
  let c0_38 : Index := 0#32
  ![v54.toNat, 0, 0]

def k0_chk7 (v53 : BitVec 32) : Prop :=
  (∀ a, (k0_off7 v53) a + S1x1x128.size a ≤ S25000x1x128.size a)
theorem k0_off7_inb : ∀ (v53 : BitVec 32) (k0_hw7 : k0_chk7 v53), ∀ a, (k0_off7 v53) a + S1x1x128.size a ≤ S25000x1x128.size a := fun v53 k0_hw7 => k0_hw7

def k0_off8 (v60 : BitVec 32) : Fin 3 → Nat :=
  let v61 : Index := Scalar.indexCast v60
  let c0_41 : Index := 0#32
  let c0_42 : Index := 0#32
  ![v61.toNat, 0, 0]

def k0_chk8 (v60 : BitVec 32) : Prop :=
  (∀ a, (k0_off8 v60) a + S1x1x128.size a ≤ S10000x1x128.size a)
theorem k0_off8_inb : ∀ (v60 : BitVec 32) (k0_hw8 : k0_chk8 v60), ∀ a, (k0_off8 v60) a + S1x1x128.size a ≤ S10000x1x128.size a := fun v60 k0_hw8 => k0_hw8

def k0_off9 (v67 : BitVec 32) : Fin 3 → Nat :=
  let v68 : Index := Scalar.indexCast v67
  let c0_45 : Index := 0#32
  let c0_46 : Index := 0#32
  ![v68.toNat, 0, 0]

def k0_chk9 (v67 : BitVec 32) : Prop :=
  (∀ a, (k0_off9 v67) a + S1x1x128.size a ≤ S25000x1x128.size a)
theorem k0_off9_inb : ∀ (v67 : BitVec 32) (k0_hw9 : k0_chk9 v67), ∀ a, (k0_off9 v67) a + S1x1x128.size a ≤ S25000x1x128.size a := fun v67 k0_hw9 => k0_hw9

def k0_off10 (v74 : BitVec 32) : Fin 3 → Nat :=
  let v75 : Index := Scalar.indexCast v74
  let c0_49 : Index := 0#32
  let c0_50 : Index := 0#32
  ![v75.toNat, 0, 0]

def k0_chk10 (v74 : BitVec 32) : Prop :=
  (∀ a, (k0_off10 v74) a + S1x1x128.size a ≤ S10000x1x128.size a)
theorem k0_off10_inb : ∀ (v74 : BitVec 32) (k0_hw10 : k0_chk10 v74), ∀ a, (k0_off10 v74) a + S1x1x128.size a ≤ S10000x1x128.size a := fun v74 k0_hw10 => k0_hw10

def k0_off11 (v81 : BitVec 32) : Fin 3 → Nat :=
  let v82 : Index := Scalar.indexCast v81
  let c0_53 : Index := 0#32
  let c0_54 : Index := 0#32
  ![v82.toNat, 0, 0]

def k0_chk11 (v81 : BitVec 32) : Prop :=
  (∀ a, (k0_off11 v81) a + S1x1x128.size a ≤ S25000x1x128.size a)
theorem k0_off11_inb : ∀ (v81 : BitVec 32) (k0_hw11 : k0_chk11 v81), ∀ a, (k0_off11 v81) a + S1x1x128.size a ≤ S25000x1x128.size a := fun v81 k0_hw11 => k0_hw11

def k0_off12 (v88 : BitVec 32) : Fin 3 → Nat :=
  let v89 : Index := Scalar.indexCast v88
  let c0_57 : Index := 0#32
  let c0_58 : Index := 0#32
  ![v89.toNat, 0, 0]

def k0_chk12 (v88 : BitVec 32) : Prop :=
  (∀ a, (k0_off12 v88) a + S1x1x128.size a ≤ S10000x1x128.size a)
theorem k0_off12_inb : ∀ (v88 : BitVec 32) (k0_hw12 : k0_chk12 v88), ∀ a, (k0_off12 v88) a + S1x1x128.size a ≤ S10000x1x128.size a := fun v88 k0_hw12 => k0_hw12

def k0_off13 (v95 : BitVec 32) : Fin 3 → Nat :=
  let v96 : Index := Scalar.indexCast v95
  let c0_61 : Index := 0#32
  let c0_62 : Index := 0#32
  ![v96.toNat, 0, 0]

def k0_chk13 (v95 : BitVec 32) : Prop :=
  (∀ a, (k0_off13 v95) a + S1x1x128.size a ≤ S25000x1x128.size a)
theorem k0_off13_inb : ∀ (v95 : BitVec 32) (k0_hw13 : k0_chk13 v95), ∀ a, (k0_off13 v95) a + S1x1x128.size a ≤ S25000x1x128.size a := fun v95 k0_hw13 => k0_hw13

def k0_off14 (v102 : BitVec 32) : Fin 3 → Nat :=
  let v103 : Index := Scalar.indexCast v102
  let c0_65 : Index := 0#32
  let c0_66 : Index := 0#32
  ![v103.toNat, 0, 0]

def k0_chk14 (v102 : BitVec 32) : Prop :=
  (∀ a, (k0_off14 v102) a + S1x1x128.size a ≤ S10000x1x128.size a)
theorem k0_off14_inb : ∀ (v102 : BitVec 32) (k0_hw14 : k0_chk14 v102), ∀ a, (k0_off14 v102) a + S1x1x128.size a ≤ S10000x1x128.size a := fun v102 k0_hw14 => k0_hw14

def k0_off15 (v109 : BitVec 32) : Fin 3 → Nat :=
  let v110 : Index := Scalar.indexCast v109
  let c0_69 : Index := 0#32
  let c0_70 : Index := 0#32
  ![v110.toNat, 0, 0]

def k0_chk15 (v109 : BitVec 32) : Prop :=
  (∀ a, (k0_off15 v109) a + S1x1x128.size a ≤ S25000x1x128.size a)
theorem k0_off15_inb : ∀ (v109 : BitVec 32) (k0_hw15 : k0_chk15 v109), ∀ a, (k0_off15 v109) a + S1x1x128.size a ≤ S25000x1x128.size a := fun v109 k0_hw15 => k0_hw15

def k0_off16 (v116 : BitVec 32) : Fin 3 → Nat :=
  let v117 : Index := Scalar.indexCast v116
  let c0_73 : Index := 0#32
  let c0_74 : Index := 0#32
  ![v117.toNat, 0, 0]

def k0_chk16 (v116 : BitVec 32) : Prop :=
  (∀ a, (k0_off16 v116) a + S1x1x128.size a ≤ S10000x1x128.size a)
theorem k0_off16_inb : ∀ (v116 : BitVec 32) (k0_hw16 : k0_chk16 v116), ∀ a, (k0_off16 v116) a + S1x1x128.size a ≤ S10000x1x128.size a := fun v116 k0_hw16 => k0_hw16

def k0_off17 (v123 : BitVec 32) : Fin 3 → Nat :=
  let v124 : Index := Scalar.indexCast v123
  let c0_77 : Index := 0#32
  let c0_78 : Index := 0#32
  ![v124.toNat, 0, 0]

def k0_chk17 (v123 : BitVec 32) : Prop :=
  (∀ a, (k0_off17 v123) a + S1x1x128.size a ≤ S25000x1x128.size a)
theorem k0_off17_inb : ∀ (v123 : BitVec 32) (k0_hw17 : k0_chk17 v123), ∀ a, (k0_off17 v123) a + S1x1x128.size a ≤ S25000x1x128.size a := fun v123 k0_hw17 => k0_hw17

def k0_off18 (v130 : BitVec 32) : Fin 3 → Nat :=
  let v131 : Index := Scalar.indexCast v130
  let c0_81 : Index := 0#32
  let c0_82 : Index := 0#32
  ![v131.toNat, 0, 0]

def k0_chk18 (v130 : BitVec 32) : Prop :=
  (∀ a, (k0_off18 v130) a + S1x1x128.size a ≤ S10000x1x128.size a)
theorem k0_off18_inb : ∀ (v130 : BitVec 32) (k0_hw18 : k0_chk18 v130), ∀ a, (k0_off18 v130) a + S1x1x128.size a ≤ S10000x1x128.size a := fun v130 k0_hw18 => k0_hw18

def k0_off19 (v137 : BitVec 32) : Fin 3 → Nat :=
  let v138 : Index := Scalar.indexCast v137
  let c0_85 : Index := 0#32
  let c0_86 : Index := 0#32
  ![v138.toNat, 0, 0]

def k0_chk19 (v137 : BitVec 32) : Prop :=
  (∀ a, (k0_off19 v137) a + S1x1x128.size a ≤ S25000x1x128.size a)
theorem k0_off19_inb : ∀ (v137 : BitVec 32) (k0_hw19 : k0_chk19 v137), ∀ a, (k0_off19 v137) a + S1x1x128.size a ≤ S25000x1x128.size a := fun v137 k0_hw19 => k0_hw19

def k0_off20 (v144 : BitVec 32) : Fin 3 → Nat :=
  let v145 : Index := Scalar.indexCast v144
  let c0_89 : Index := 0#32
  let c0_90 : Index := 0#32
  ![v145.toNat, 0, 0]

def k0_chk20 (v144 : BitVec 32) : Prop :=
  (∀ a, (k0_off20 v144) a + S1x1x128.size a ≤ S10000x1x128.size a)
theorem k0_off20_inb : ∀ (v144 : BitVec 32) (k0_hw20 : k0_chk20 v144), ∀ a, (k0_off20 v144) a + S1x1x128.size a ≤ S10000x1x128.size a := fun v144 k0_hw20 => k0_hw20

def k0_off21 (v151 : BitVec 32) : Fin 3 → Nat :=
  let v152 : Index := Scalar.indexCast v151
  let c0_93 : Index := 0#32
  let c0_94 : Index := 0#32
  ![v152.toNat, 0, 0]

def k0_chk21 (v151 : BitVec 32) : Prop :=
  (∀ a, (k0_off21 v151) a + S1x1x128.size a ≤ S25000x1x128.size a)
theorem k0_off21_inb : ∀ (v151 : BitVec 32) (k0_hw21 : k0_chk21 v151), ∀ a, (k0_off21 v151) a + S1x1x128.size a ≤ S25000x1x128.size a := fun v151 k0_hw21 => k0_hw21

def k0_off22 (v158 : BitVec 32) : Fin 3 → Nat :=
  let v159 : Index := Scalar.indexCast v158
  let c0_97 : Index := 0#32
  let c0_98 : Index := 0#32
  ![v159.toNat, 0, 0]

def k0_chk22 (v158 : BitVec 32) : Prop :=
  (∀ a, (k0_off22 v158) a + S1x1x128.size a ≤ S10000x1x128.size a)
theorem k0_off22_inb : ∀ (v158 : BitVec 32) (k0_hw22 : k0_chk22 v158), ∀ a, (k0_off22 v158) a + S1x1x128.size a ≤ S10000x1x128.size a := fun v158 k0_hw22 => k0_hw22

def k0_off23 (v165 : BitVec 32) : Fin 3 → Nat :=
  let v166 : Index := Scalar.indexCast v165
  let c0_101 : Index := 0#32
  let c0_102 : Index := 0#32
  ![v166.toNat, 0, 0]

def k0_chk23 (v165 : BitVec 32) : Prop :=
  (∀ a, (k0_off23 v165) a + S1x1x128.size a ≤ S25000x1x128.size a)
theorem k0_off23_inb : ∀ (v165 : BitVec 32) (k0_hw23 : k0_chk23 v165), ∀ a, (k0_off23 v165) a + S1x1x128.size a ≤ S25000x1x128.size a := fun v165 k0_hw23 => k0_hw23

def k0_off24 (v172 : BitVec 32) : Fin 3 → Nat :=
  let v173 : Index := Scalar.indexCast v172
  let c0_105 : Index := 0#32
  let c0_106 : Index := 0#32
  ![v173.toNat, 0, 0]

def k0_chk24 (v172 : BitVec 32) : Prop :=
  (∀ a, (k0_off24 v172) a + S1x1x128.size a ≤ S10000x1x128.size a)
theorem k0_off24_inb : ∀ (v172 : BitVec 32) (k0_hw24 : k0_chk24 v172), ∀ a, (k0_off24 v172) a + S1x1x128.size a ≤ S10000x1x128.size a := fun v172 k0_hw24 => k0_hw24

def k0_off25 (v179 : BitVec 32) : Fin 3 → Nat :=
  let v180 : Index := Scalar.indexCast v179
  let c0_109 : Index := 0#32
  let c0_110 : Index := 0#32
  ![v180.toNat, 0, 0]

def k0_chk25 (v179 : BitVec 32) : Prop :=
  (∀ a, (k0_off25 v179) a + S1x1x128.size a ≤ S25000x1x128.size a)
theorem k0_off25_inb : ∀ (v179 : BitVec 32) (k0_hw25 : k0_chk25 v179), ∀ a, (k0_off25 v179) a + S1x1x128.size a ≤ S25000x1x128.size a := fun v179 k0_hw25 => k0_hw25

def k0_off26 (v186 : BitVec 32) : Fin 3 → Nat :=
  let v187 : Index := Scalar.indexCast v186
  let c0_113 : Index := 0#32
  let c0_114 : Index := 0#32
  ![v187.toNat, 0, 0]

def k0_chk26 (v186 : BitVec 32) : Prop :=
  (∀ a, (k0_off26 v186) a + S1x1x128.size a ≤ S10000x1x128.size a)
theorem k0_off26_inb : ∀ (v186 : BitVec 32) (k0_hw26 : k0_chk26 v186), ∀ a, (k0_off26 v186) a + S1x1x128.size a ≤ S10000x1x128.size a := fun v186 k0_hw26 => k0_hw26

def k0_off27 (v193 : BitVec 32) : Fin 3 → Nat :=
  let v194 : Index := Scalar.indexCast v193
  let c0_117 : Index := 0#32
  let c0_118 : Index := 0#32
  ![v194.toNat, 0, 0]

def k0_chk27 (v193 : BitVec 32) : Prop :=
  (∀ a, (k0_off27 v193) a + S1x1x128.size a ≤ S25000x1x128.size a)
theorem k0_off27_inb : ∀ (v193 : BitVec 32) (k0_hw27 : k0_chk27 v193), ∀ a, (k0_off27 v193) a + S1x1x128.size a ≤ S25000x1x128.size a := fun v193 k0_hw27 => k0_hw27

def k0_off28 (v200 : BitVec 32) : Fin 3 → Nat :=
  let v201 : Index := Scalar.indexCast v200
  let c0_121 : Index := 0#32
  let c0_122 : Index := 0#32
  ![v201.toNat, 0, 0]

def k0_chk28 (v200 : BitVec 32) : Prop :=
  (∀ a, (k0_off28 v200) a + S1x1x128.size a ≤ S10000x1x128.size a)
theorem k0_off28_inb : ∀ (v200 : BitVec 32) (k0_hw28 : k0_chk28 v200), ∀ a, (k0_off28 v200) a + S1x1x128.size a ≤ S10000x1x128.size a := fun v200 k0_hw28 => k0_hw28

def k0_off29 (v207 : BitVec 32) : Fin 3 → Nat :=
  let v208 : Index := Scalar.indexCast v207
  let c0_125 : Index := 0#32
  let c0_126 : Index := 0#32
  ![v208.toNat, 0, 0]

def k0_chk29 (v207 : BitVec 32) : Prop :=
  (∀ a, (k0_off29 v207) a + S1x1x128.size a ≤ S25000x1x128.size a)
theorem k0_off29_inb : ∀ (v207 : BitVec 32) (k0_hw29 : k0_chk29 v207), ∀ a, (k0_off29 v207) a + S1x1x128.size a ≤ S25000x1x128.size a := fun v207 k0_hw29 => k0_hw29

def k0_off30 (v214 : BitVec 32) : Fin 3 → Nat :=
  let v215 : Index := Scalar.indexCast v214
  let c0_129 : Index := 0#32
  let c0_130 : Index := 0#32
  ![v215.toNat, 0, 0]

def k0_chk30 (v214 : BitVec 32) : Prop :=
  (∀ a, (k0_off30 v214) a + S1x1x128.size a ≤ S10000x1x128.size a)
theorem k0_off30_inb : ∀ (v214 : BitVec 32) (k0_hw30 : k0_chk30 v214), ∀ a, (k0_off30 v214) a + S1x1x128.size a ≤ S10000x1x128.size a := fun v214 k0_hw30 => k0_hw30

def k0_off31 (v221 : BitVec 32) : Fin 3 → Nat :=
  let v222 : Index := Scalar.indexCast v221
  let c0_133 : Index := 0#32
  let c0_134 : Index := 0#32
  ![v222.toNat, 0, 0]

def k0_chk31 (v221 : BitVec 32) : Prop :=
  (∀ a, (k0_off31 v221) a + S1x1x128.size a ≤ S25000x1x128.size a)
theorem k0_off31_inb : ∀ (v221 : BitVec 32) (k0_hw31 : k0_chk31 v221), ∀ a, (k0_off31 v221) a + S1x1x128.size a ≤ S25000x1x128.size a := fun v221 k0_hw31 => k0_hw31

def k0_off32 (v228 : BitVec 32) : Fin 3 → Nat :=
  let v229 : Index := Scalar.indexCast v228
  let c0_137 : Index := 0#32
  let c0_138 : Index := 0#32
  ![v229.toNat, 0, 0]

def k0_chk32 (v228 : BitVec 32) : Prop :=
  (∀ a, (k0_off32 v228) a + S1x1x128.size a ≤ S10000x1x128.size a)
theorem k0_off32_inb : ∀ (v228 : BitVec 32) (k0_hw32 : k0_chk32 v228), ∀ a, (k0_off32 v228) a + S1x1x128.size a ≤ S10000x1x128.size a := fun v228 k0_hw32 => k0_hw32

def k0_off33 (v235 : BitVec 32) : Fin 3 → Nat :=
  let v236 : Index := Scalar.indexCast v235
  let c0_141 : Index := 0#32
  let c0_142 : Index := 0#32
  ![v236.toNat, 0, 0]

def k0_chk33 (v235 : BitVec 32) : Prop :=
  (∀ a, (k0_off33 v235) a + S1x1x128.size a ≤ S25000x1x128.size a)
theorem k0_off33_inb : ∀ (v235 : BitVec 32) (k0_hw33 : k0_chk33 v235), ∀ a, (k0_off33 v235) a + S1x1x128.size a ≤ S25000x1x128.size a := fun v235 k0_hw33 => k0_hw33

def k0_off34 (v242 : BitVec 32) : Fin 3 → Nat :=
  let v243 : Index := Scalar.indexCast v242
  let c0_145 : Index := 0#32
  let c0_146 : Index := 0#32
  ![v243.toNat, 0, 0]

def k0_chk34 (v242 : BitVec 32) : Prop :=
  (∀ a, (k0_off34 v242) a + S1x1x128.size a ≤ S10000x1x128.size a)
theorem k0_off34_inb : ∀ (v242 : BitVec 32) (k0_hw34 : k0_chk34 v242), ∀ a, (k0_off34 v242) a + S1x1x128.size a ≤ S10000x1x128.size a := fun v242 k0_hw34 => k0_hw34

def k0_off35 (v249 : BitVec 32) : Fin 3 → Nat :=
  let v250 : Index := Scalar.indexCast v249
  let c0_149 : Index := 0#32
  let c0_150 : Index := 0#32
  ![v250.toNat, 0, 0]

def k0_chk35 (v249 : BitVec 32) : Prop :=
  (∀ a, (k0_off35 v249) a + S1x1x128.size a ≤ S25000x1x128.size a)
theorem k0_off35_inb : ∀ (v249 : BitVec 32) (k0_hw35 : k0_chk35 v249), ∀ a, (k0_off35 v249) a + S1x1x128.size a ≤ S25000x1x128.size a := fun v249 k0_hw35 => k0_hw35

def k0_off36 (v256 : BitVec 32) : Fin 3 → Nat :=
  let v257 : Index := Scalar.indexCast v256
  let c0_153 : Index := 0#32
  let c0_154 : Index := 0#32
  ![v257.toNat, 0, 0]

def k0_chk36 (v256 : BitVec 32) : Prop :=
  (∀ a, (k0_off36 v256) a + S1x1x128.size a ≤ S10000x1x128.size a)
theorem k0_off36_inb : ∀ (v256 : BitVec 32) (k0_hw36 : k0_chk36 v256), ∀ a, (k0_off36 v256) a + S1x1x128.size a ≤ S10000x1x128.size a := fun v256 k0_hw36 => k0_hw36

def k0_off37 (v263 : BitVec 32) : Fin 3 → Nat :=
  let v264 : Index := Scalar.indexCast v263
  let c0_157 : Index := 0#32
  let c0_158 : Index := 0#32
  ![v264.toNat, 0, 0]

def k0_chk37 (v263 : BitVec 32) : Prop :=
  (∀ a, (k0_off37 v263) a + S1x1x128.size a ≤ S25000x1x128.size a)
theorem k0_off37_inb : ∀ (v263 : BitVec 32) (k0_hw37 : k0_chk37 v263), ∀ a, (k0_off37 v263) a + S1x1x128.size a ≤ S25000x1x128.size a := fun v263 k0_hw37 => k0_hw37

def k0_off38 (v270 : BitVec 32) : Fin 3 → Nat :=
  let v271 : Index := Scalar.indexCast v270
  let c0_161 : Index := 0#32
  let c0_162 : Index := 0#32
  ![v271.toNat, 0, 0]

def k0_chk38 (v270 : BitVec 32) : Prop :=
  (∀ a, (k0_off38 v270) a + S1x1x128.size a ≤ S10000x1x128.size a)
theorem k0_off38_inb : ∀ (v270 : BitVec 32) (k0_hw38 : k0_chk38 v270), ∀ a, (k0_off38 v270) a + S1x1x128.size a ≤ S10000x1x128.size a := fun v270 k0_hw38 => k0_hw38

def k0_off39 (v277 : BitVec 32) : Fin 3 → Nat :=
  let v278 : Index := Scalar.indexCast v277
  let c0_165 : Index := 0#32
  let c0_166 : Index := 0#32
  ![v278.toNat, 0, 0]

def k0_chk39 (v277 : BitVec 32) : Prop :=
  (∀ a, (k0_off39 v277) a + S1x1x128.size a ≤ S25000x1x128.size a)
theorem k0_off39_inb : ∀ (v277 : BitVec 32) (k0_hw39 : k0_chk39 v277), ∀ a, (k0_off39 v277) a + S1x1x128.size a ≤ S25000x1x128.size a := fun v277 k0_hw39 => k0_hw39

def k0_off40 (v284 : BitVec 32) : Fin 3 → Nat :=
  let v285 : Index := Scalar.indexCast v284
  let c0_169 : Index := 0#32
  let c0_170 : Index := 0#32
  ![v285.toNat, 0, 0]

def k0_chk40 (v284 : BitVec 32) : Prop :=
  (∀ a, (k0_off40 v284) a + S1x1x128.size a ≤ S10000x1x128.size a)
theorem k0_off40_inb : ∀ (v284 : BitVec 32) (k0_hw40 : k0_chk40 v284), ∀ a, (k0_off40 v284) a + S1x1x128.size a ≤ S10000x1x128.size a := fun v284 k0_hw40 => k0_hw40

def k0_off41 (v291 : BitVec 32) : Fin 3 → Nat :=
  let v292 : Index := Scalar.indexCast v291
  let c0_173 : Index := 0#32
  let c0_174 : Index := 0#32
  ![v292.toNat, 0, 0]

def k0_chk41 (v291 : BitVec 32) : Prop :=
  (∀ a, (k0_off41 v291) a + S1x1x128.size a ≤ S25000x1x128.size a)
theorem k0_off41_inb : ∀ (v291 : BitVec 32) (k0_hw41 : k0_chk41 v291), ∀ a, (k0_off41 v291) a + S1x1x128.size a ≤ S25000x1x128.size a := fun v291 k0_hw41 => k0_hw41

def k0_off42 (v298 : BitVec 32) : Fin 3 → Nat :=
  let v299 : Index := Scalar.indexCast v298
  let c0_177 : Index := 0#32
  let c0_178 : Index := 0#32
  ![v299.toNat, 0, 0]

def k0_chk42 (v298 : BitVec 32) : Prop :=
  (∀ a, (k0_off42 v298) a + S1x1x128.size a ≤ S10000x1x128.size a)
theorem k0_off42_inb : ∀ (v298 : BitVec 32) (k0_hw42 : k0_chk42 v298), ∀ a, (k0_off42 v298) a + S1x1x128.size a ≤ S10000x1x128.size a := fun v298 k0_hw42 => k0_hw42

def k0_off43 (v305 : BitVec 32) : Fin 3 → Nat :=
  let v306 : Index := Scalar.indexCast v305
  let c0_181 : Index := 0#32
  let c0_182 : Index := 0#32
  ![v306.toNat, 0, 0]

def k0_chk43 (v305 : BitVec 32) : Prop :=
  (∀ a, (k0_off43 v305) a + S1x1x128.size a ≤ S25000x1x128.size a)
theorem k0_off43_inb : ∀ (v305 : BitVec 32) (k0_hw43 : k0_chk43 v305), ∀ a, (k0_off43 v305) a + S1x1x128.size a ≤ S25000x1x128.size a := fun v305 k0_hw43 => k0_hw43

def k0_off44 (v312 : BitVec 32) : Fin 3 → Nat :=
  let v313 : Index := Scalar.indexCast v312
  let c0_185 : Index := 0#32
  let c0_186 : Index := 0#32
  ![v313.toNat, 0, 0]

def k0_chk44 (v312 : BitVec 32) : Prop :=
  (∀ a, (k0_off44 v312) a + S1x1x128.size a ≤ S10000x1x128.size a)
theorem k0_off44_inb : ∀ (v312 : BitVec 32) (k0_hw44 : k0_chk44 v312), ∀ a, (k0_off44 v312) a + S1x1x128.size a ≤ S10000x1x128.size a := fun v312 k0_hw44 => k0_hw44

def k0_off45 (v319 : BitVec 32) : Fin 3 → Nat :=
  let v320 : Index := Scalar.indexCast v319
  let c0_189 : Index := 0#32
  let c0_190 : Index := 0#32
  ![v320.toNat, 0, 0]

def k0_chk45 (v319 : BitVec 32) : Prop :=
  (∀ a, (k0_off45 v319) a + S1x1x128.size a ≤ S25000x1x128.size a)
theorem k0_off45_inb : ∀ (v319 : BitVec 32) (k0_hw45 : k0_chk45 v319), ∀ a, (k0_off45 v319) a + S1x1x128.size a ≤ S25000x1x128.size a := fun v319 k0_hw45 => k0_hw45

def k0_off46 (v326 : BitVec 32) : Fin 3 → Nat :=
  let v327 : Index := Scalar.indexCast v326
  let c0_193 : Index := 0#32
  let c0_194 : Index := 0#32
  ![v327.toNat, 0, 0]

def k0_chk46 (v326 : BitVec 32) : Prop :=
  (∀ a, (k0_off46 v326) a + S1x1x128.size a ≤ S10000x1x128.size a)
theorem k0_off46_inb : ∀ (v326 : BitVec 32) (k0_hw46 : k0_chk46 v326), ∀ a, (k0_off46 v326) a + S1x1x128.size a ≤ S10000x1x128.size a := fun v326 k0_hw46 => k0_hw46

def k0_off47 (v333 : BitVec 32) : Fin 3 → Nat :=
  let v334 : Index := Scalar.indexCast v333
  let c0_197 : Index := 0#32
  let c0_198 : Index := 0#32
  ![v334.toNat, 0, 0]

def k0_chk47 (v333 : BitVec 32) : Prop :=
  (∀ a, (k0_off47 v333) a + S1x1x128.size a ≤ S25000x1x128.size a)
theorem k0_off47_inb : ∀ (v333 : BitVec 32) (k0_hw47 : k0_chk47 v333), ∀ a, (k0_off47 v333) a + S1x1x128.size a ≤ S25000x1x128.size a := fun v333 k0_hw47 => k0_hw47

def k0_off48 (v340 : BitVec 32) : Fin 3 → Nat :=
  let v341 : Index := Scalar.indexCast v340
  let c0_201 : Index := 0#32
  let c0_202 : Index := 0#32
  ![v341.toNat, 0, 0]

def k0_chk48 (v340 : BitVec 32) : Prop :=
  (∀ a, (k0_off48 v340) a + S1x1x128.size a ≤ S10000x1x128.size a)
theorem k0_off48_inb : ∀ (v340 : BitVec 32) (k0_hw48 : k0_chk48 v340), ∀ a, (k0_off48 v340) a + S1x1x128.size a ≤ S10000x1x128.size a := fun v340 k0_hw48 => k0_hw48

def k0_off49 (v347 : BitVec 32) : Fin 3 → Nat :=
  let v348 : Index := Scalar.indexCast v347
  let c0_205 : Index := 0#32
  let c0_206 : Index := 0#32
  ![v348.toNat, 0, 0]

def k0_chk49 (v347 : BitVec 32) : Prop :=
  (∀ a, (k0_off49 v347) a + S1x1x128.size a ≤ S25000x1x128.size a)
theorem k0_off49_inb : ∀ (v347 : BitVec 32) (k0_hw49 : k0_chk49 v347), ∀ a, (k0_off49 v347) a + S1x1x128.size a ≤ S25000x1x128.size a := fun v347 k0_hw49 => k0_hw49

def k0_off50 (v354 : BitVec 32) : Fin 3 → Nat :=
  let v355 : Index := Scalar.indexCast v354
  let c0_209 : Index := 0#32
  let c0_210 : Index := 0#32
  ![v355.toNat, 0, 0]

def k0_chk50 (v354 : BitVec 32) : Prop :=
  (∀ a, (k0_off50 v354) a + S1x1x128.size a ≤ S10000x1x128.size a)
theorem k0_off50_inb : ∀ (v354 : BitVec 32) (k0_hw50 : k0_chk50 v354), ∀ a, (k0_off50 v354) a + S1x1x128.size a ≤ S10000x1x128.size a := fun v354 k0_hw50 => k0_hw50

def k0_off51 (v361 : BitVec 32) : Fin 3 → Nat :=
  let v362 : Index := Scalar.indexCast v361
  let c0_213 : Index := 0#32
  let c0_214 : Index := 0#32
  ![v362.toNat, 0, 0]

def k0_chk51 (v361 : BitVec 32) : Prop :=
  (∀ a, (k0_off51 v361) a + S1x1x128.size a ≤ S25000x1x128.size a)
theorem k0_off51_inb : ∀ (v361 : BitVec 32) (k0_hw51 : k0_chk51 v361), ∀ a, (k0_off51 v361) a + S1x1x128.size a ≤ S25000x1x128.size a := fun v361 k0_hw51 => k0_hw51

def k0_off52 (v368 : BitVec 32) : Fin 3 → Nat :=
  let v369 : Index := Scalar.indexCast v368
  let c0_217 : Index := 0#32
  let c0_218 : Index := 0#32
  ![v369.toNat, 0, 0]

def k0_chk52 (v368 : BitVec 32) : Prop :=
  (∀ a, (k0_off52 v368) a + S1x1x128.size a ≤ S10000x1x128.size a)
theorem k0_off52_inb : ∀ (v368 : BitVec 32) (k0_hw52 : k0_chk52 v368), ∀ a, (k0_off52 v368) a + S1x1x128.size a ≤ S10000x1x128.size a := fun v368 k0_hw52 => k0_hw52

def k0_off53 (v375 : BitVec 32) : Fin 3 → Nat :=
  let v376 : Index := Scalar.indexCast v375
  let c0_221 : Index := 0#32
  let c0_222 : Index := 0#32
  ![v376.toNat, 0, 0]

def k0_chk53 (v375 : BitVec 32) : Prop :=
  (∀ a, (k0_off53 v375) a + S1x1x128.size a ≤ S25000x1x128.size a)
theorem k0_off53_inb : ∀ (v375 : BitVec 32) (k0_hw53 : k0_chk53 v375), ∀ a, (k0_off53 v375) a + S1x1x128.size a ≤ S25000x1x128.size a := fun v375 k0_hw53 => k0_hw53

def k0_off54 (v382 : BitVec 32) : Fin 3 → Nat :=
  let v383 : Index := Scalar.indexCast v382
  let c0_225 : Index := 0#32
  let c0_226 : Index := 0#32
  ![v383.toNat, 0, 0]

def k0_chk54 (v382 : BitVec 32) : Prop :=
  (∀ a, (k0_off54 v382) a + S1x1x128.size a ≤ S10000x1x128.size a)
theorem k0_off54_inb : ∀ (v382 : BitVec 32) (k0_hw54 : k0_chk54 v382), ∀ a, (k0_off54 v382) a + S1x1x128.size a ≤ S10000x1x128.size a := fun v382 k0_hw54 => k0_hw54

def k0_off55 (v389 : BitVec 32) : Fin 3 → Nat :=
  let v390 : Index := Scalar.indexCast v389
  let c0_229 : Index := 0#32
  let c0_230 : Index := 0#32
  ![v390.toNat, 0, 0]

def k0_chk55 (v389 : BitVec 32) : Prop :=
  (∀ a, (k0_off55 v389) a + S1x1x128.size a ≤ S25000x1x128.size a)
theorem k0_off55_inb : ∀ (v389 : BitVec 32) (k0_hw55 : k0_chk55 v389), ∀ a, (k0_off55 v389) a + S1x1x128.size a ≤ S25000x1x128.size a := fun v389 k0_hw55 => k0_hw55

def k0_off56 (v396 : BitVec 32) : Fin 3 → Nat :=
  let v397 : Index := Scalar.indexCast v396
  let c0_233 : Index := 0#32
  let c0_234 : Index := 0#32
  ![v397.toNat, 0, 0]

def k0_chk56 (v396 : BitVec 32) : Prop :=
  (∀ a, (k0_off56 v396) a + S1x1x128.size a ≤ S10000x1x128.size a)
theorem k0_off56_inb : ∀ (v396 : BitVec 32) (k0_hw56 : k0_chk56 v396), ∀ a, (k0_off56 v396) a + S1x1x128.size a ≤ S10000x1x128.size a := fun v396 k0_hw56 => k0_hw56

def k0_off57 (v403 : BitVec 32) : Fin 3 → Nat :=
  let v404 : Index := Scalar.indexCast v403
  let c0_237 : Index := 0#32
  let c0_238 : Index := 0#32
  ![v404.toNat, 0, 0]

def k0_chk57 (v403 : BitVec 32) : Prop :=
  (∀ a, (k0_off57 v403) a + S1x1x128.size a ≤ S25000x1x128.size a)
theorem k0_off57_inb : ∀ (v403 : BitVec 32) (k0_hw57 : k0_chk57 v403), ∀ a, (k0_off57 v403) a + S1x1x128.size a ≤ S25000x1x128.size a := fun v403 k0_hw57 => k0_hw57

def k0_off58 (v410 : BitVec 32) : Fin 3 → Nat :=
  let v411 : Index := Scalar.indexCast v410
  let c0_241 : Index := 0#32
  let c0_242 : Index := 0#32
  ![v411.toNat, 0, 0]

def k0_chk58 (v410 : BitVec 32) : Prop :=
  (∀ a, (k0_off58 v410) a + S1x1x128.size a ≤ S10000x1x128.size a)
theorem k0_off58_inb : ∀ (v410 : BitVec 32) (k0_hw58 : k0_chk58 v410), ∀ a, (k0_off58 v410) a + S1x1x128.size a ≤ S10000x1x128.size a := fun v410 k0_hw58 => k0_hw58

def k0_off59 (v417 : BitVec 32) : Fin 3 → Nat :=
  let v418 : Index := Scalar.indexCast v417
  let c0_245 : Index := 0#32
  let c0_246 : Index := 0#32
  ![v418.toNat, 0, 0]

def k0_chk59 (v417 : BitVec 32) : Prop :=
  (∀ a, (k0_off59 v417) a + S1x1x128.size a ≤ S25000x1x128.size a)
theorem k0_off59_inb : ∀ (v417 : BitVec 32) (k0_hw59 : k0_chk59 v417), ∀ a, (k0_off59 v417) a + S1x1x128.size a ≤ S25000x1x128.size a := fun v417 k0_hw59 => k0_hw59

def k0_off60 (v424 : BitVec 32) : Fin 3 → Nat :=
  let v425 : Index := Scalar.indexCast v424
  let c0_249 : Index := 0#32
  let c0_250 : Index := 0#32
  ![v425.toNat, 0, 0]

def k0_chk60 (v424 : BitVec 32) : Prop :=
  (∀ a, (k0_off60 v424) a + S1x1x128.size a ≤ S10000x1x128.size a)
theorem k0_off60_inb : ∀ (v424 : BitVec 32) (k0_hw60 : k0_chk60 v424), ∀ a, (k0_off60 v424) a + S1x1x128.size a ≤ S10000x1x128.size a := fun v424 k0_hw60 => k0_hw60

def k0_off61 (v431 : BitVec 32) : Fin 3 → Nat :=
  let v432 : Index := Scalar.indexCast v431
  let c0_253 : Index := 0#32
  let c0_254 : Index := 0#32
  ![v432.toNat, 0, 0]

def k0_chk61 (v431 : BitVec 32) : Prop :=
  (∀ a, (k0_off61 v431) a + S1x1x128.size a ≤ S25000x1x128.size a)
theorem k0_off61_inb : ∀ (v431 : BitVec 32) (k0_hw61 : k0_chk61 v431), ∀ a, (k0_off61 v431) a + S1x1x128.size a ≤ S25000x1x128.size a := fun v431 k0_hw61 => k0_hw61

def k0_off62 (v438 : BitVec 32) : Fin 3 → Nat :=
  let v439 : Index := Scalar.indexCast v438
  let c0_257 : Index := 0#32
  let c0_258 : Index := 0#32
  ![v439.toNat, 0, 0]

def k0_chk62 (v438 : BitVec 32) : Prop :=
  (∀ a, (k0_off62 v438) a + S1x1x128.size a ≤ S10000x1x128.size a)
theorem k0_off62_inb : ∀ (v438 : BitVec 32) (k0_hw62 : k0_chk62 v438), ∀ a, (k0_off62 v438) a + S1x1x128.size a ≤ S10000x1x128.size a := fun v438 k0_hw62 => k0_hw62

def k0_off63 (v445 : BitVec 32) : Fin 3 → Nat :=
  let v446 : Index := Scalar.indexCast v445
  let c0_261 : Index := 0#32
  let c0_262 : Index := 0#32
  ![v446.toNat, 0, 0]

def k0_chk63 (v445 : BitVec 32) : Prop :=
  (∀ a, (k0_off63 v445) a + S1x1x128.size a ≤ S25000x1x128.size a)
theorem k0_off63_inb : ∀ (v445 : BitVec 32) (k0_hw63 : k0_chk63 v445), ∀ a, (k0_off63 v445) a + S1x1x128.size a ≤ S25000x1x128.size a := fun v445 k0_hw63 => k0_hw63

def k0_off64 (v452 : BitVec 32) : Fin 3 → Nat :=
  let v453 : Index := Scalar.indexCast v452
  let c0_265 : Index := 0#32
  let c0_266 : Index := 0#32
  ![v453.toNat, 0, 0]

def k0_chk64 (v452 : BitVec 32) : Prop :=
  (∀ a, (k0_off64 v452) a + S1x1x128.size a ≤ S10000x1x128.size a)
theorem k0_off64_inb : ∀ (v452 : BitVec 32) (k0_hw64 : k0_chk64 v452), ∀ a, (k0_off64 v452) a + S1x1x128.size a ≤ S10000x1x128.size a := fun v452 k0_hw64 => k0_hw64

def k0_off65 (v459 : BitVec 32) : Fin 3 → Nat :=
  let v460 : Index := Scalar.indexCast v459
  let c0_269 : Index := 0#32
  let c0_270 : Index := 0#32
  ![v460.toNat, 0, 0]

def k0_chk65 (v459 : BitVec 32) : Prop :=
  (∀ a, (k0_off65 v459) a + S1x1x128.size a ≤ S25000x1x128.size a)
theorem k0_off65_inb : ∀ (v459 : BitVec 32) (k0_hw65 : k0_chk65 v459), ∀ a, (k0_off65 v459) a + S1x1x128.size a ≤ S25000x1x128.size a := fun v459 k0_hw65 => k0_hw65

def k0_off66 (v466 : BitVec 32) : Fin 3 → Nat :=
  let v467 : Index := Scalar.indexCast v466
  let c0_273 : Index := 0#32
  let c0_274 : Index := 0#32
  ![v467.toNat, 0, 0]

def k0_chk66 (v466 : BitVec 32) : Prop :=
  (∀ a, (k0_off66 v466) a + S1x1x128.size a ≤ S10000x1x128.size a)
theorem k0_off66_inb : ∀ (v466 : BitVec 32) (k0_hw66 : k0_chk66 v466), ∀ a, (k0_off66 v466) a + S1x1x128.size a ≤ S10000x1x128.size a := fun v466 k0_hw66 => k0_hw66

def k0_off67 (v473 : BitVec 32) : Fin 3 → Nat :=
  let v474 : Index := Scalar.indexCast v473
  let c0_277 : Index := 0#32
  let c0_278 : Index := 0#32
  ![v474.toNat, 0, 0]

def k0_chk67 (v473 : BitVec 32) : Prop :=
  (∀ a, (k0_off67 v473) a + S1x1x128.size a ≤ S25000x1x128.size a)
theorem k0_off67_inb : ∀ (v473 : BitVec 32) (k0_hw67 : k0_chk67 v473), ∀ a, (k0_off67 v473) a + S1x1x128.size a ≤ S25000x1x128.size a := fun v473 k0_hw67 => k0_hw67

def k0_off68 (v480 : BitVec 32) : Fin 3 → Nat :=
  let v481 : Index := Scalar.indexCast v480
  let c0_281 : Index := 0#32
  let c0_282 : Index := 0#32
  ![v481.toNat, 0, 0]

def k0_chk68 (v480 : BitVec 32) : Prop :=
  (∀ a, (k0_off68 v480) a + S1x1x128.size a ≤ S10000x1x128.size a)
theorem k0_off68_inb : ∀ (v480 : BitVec 32) (k0_hw68 : k0_chk68 v480), ∀ a, (k0_off68 v480) a + S1x1x128.size a ≤ S10000x1x128.size a := fun v480 k0_hw68 => k0_hw68

def k0_off69 (v487 : BitVec 32) : Fin 3 → Nat :=
  let v488 : Index := Scalar.indexCast v487
  let c0_285 : Index := 0#32
  let c0_286 : Index := 0#32
  ![v488.toNat, 0, 0]

def k0_chk69 (v487 : BitVec 32) : Prop :=
  (∀ a, (k0_off69 v487) a + S1x1x128.size a ≤ S25000x1x128.size a)
theorem k0_off69_inb : ∀ (v487 : BitVec 32) (k0_hw69 : k0_chk69 v487), ∀ a, (k0_off69 v487) a + S1x1x128.size a ≤ S25000x1x128.size a := fun v487 k0_hw69 => k0_hw69

def k0_off70 (v494 : BitVec 32) : Fin 3 → Nat :=
  let v495 : Index := Scalar.indexCast v494
  let c0_289 : Index := 0#32
  let c0_290 : Index := 0#32
  ![v495.toNat, 0, 0]

def k0_chk70 (v494 : BitVec 32) : Prop :=
  (∀ a, (k0_off70 v494) a + S1x1x128.size a ≤ S10000x1x128.size a)
theorem k0_off70_inb : ∀ (v494 : BitVec 32) (k0_hw70 : k0_chk70 v494), ∀ a, (k0_off70 v494) a + S1x1x128.size a ≤ S10000x1x128.size a := fun v494 k0_hw70 => k0_hw70

def k0_off71 (v501 : BitVec 32) : Fin 3 → Nat :=
  let v502 : Index := Scalar.indexCast v501
  let c0_293 : Index := 0#32
  let c0_294 : Index := 0#32
  ![v502.toNat, 0, 0]

def k0_chk71 (v501 : BitVec 32) : Prop :=
  (∀ a, (k0_off71 v501) a + S1x1x128.size a ≤ S25000x1x128.size a)
theorem k0_off71_inb : ∀ (v501 : BitVec 32) (k0_hw71 : k0_chk71 v501), ∀ a, (k0_off71 v501) a + S1x1x128.size a ≤ S25000x1x128.size a := fun v501 k0_hw71 => k0_hw71

def k0_off72 (v508 : BitVec 32) : Fin 3 → Nat :=
  let v509 : Index := Scalar.indexCast v508
  let c0_297 : Index := 0#32
  let c0_298 : Index := 0#32
  ![v509.toNat, 0, 0]

def k0_chk72 (v508 : BitVec 32) : Prop :=
  (∀ a, (k0_off72 v508) a + S1x1x128.size a ≤ S10000x1x128.size a)
theorem k0_off72_inb : ∀ (v508 : BitVec 32) (k0_hw72 : k0_chk72 v508), ∀ a, (k0_off72 v508) a + S1x1x128.size a ≤ S10000x1x128.size a := fun v508 k0_hw72 => k0_hw72

def k0_off73 (v515 : BitVec 32) : Fin 3 → Nat :=
  let v516 : Index := Scalar.indexCast v515
  let c0_301 : Index := 0#32
  let c0_302 : Index := 0#32
  ![v516.toNat, 0, 0]

def k0_chk73 (v515 : BitVec 32) : Prop :=
  (∀ a, (k0_off73 v515) a + S1x1x128.size a ≤ S25000x1x128.size a)
theorem k0_off73_inb : ∀ (v515 : BitVec 32) (k0_hw73 : k0_chk73 v515), ∀ a, (k0_off73 v515) a + S1x1x128.size a ≤ S25000x1x128.size a := fun v515 k0_hw73 => k0_hw73

def k0_off74 (v522 : BitVec 32) : Fin 3 → Nat :=
  let v523 : Index := Scalar.indexCast v522
  let c0_305 : Index := 0#32
  let c0_306 : Index := 0#32
  ![v523.toNat, 0, 0]

def k0_chk74 (v522 : BitVec 32) : Prop :=
  (∀ a, (k0_off74 v522) a + S1x1x128.size a ≤ S10000x1x128.size a)
theorem k0_off74_inb : ∀ (v522 : BitVec 32) (k0_hw74 : k0_chk74 v522), ∀ a, (k0_off74 v522) a + S1x1x128.size a ≤ S10000x1x128.size a := fun v522 k0_hw74 => k0_hw74

def k0_off75 (v529 : BitVec 32) : Fin 3 → Nat :=
  let v530 : Index := Scalar.indexCast v529
  let c0_309 : Index := 0#32
  let c0_310 : Index := 0#32
  ![v530.toNat, 0, 0]

def k0_chk75 (v529 : BitVec 32) : Prop :=
  (∀ a, (k0_off75 v529) a + S1x1x128.size a ≤ S25000x1x128.size a)
theorem k0_off75_inb : ∀ (v529 : BitVec 32) (k0_hw75 : k0_chk75 v529), ∀ a, (k0_off75 v529) a + S1x1x128.size a ≤ S25000x1x128.size a := fun v529 k0_hw75 => k0_hw75

def k0_off76 (v536 : BitVec 32) : Fin 3 → Nat :=
  let v537 : Index := Scalar.indexCast v536
  let c0_313 : Index := 0#32
  let c0_314 : Index := 0#32
  ![v537.toNat, 0, 0]

def k0_chk76 (v536 : BitVec 32) : Prop :=
  (∀ a, (k0_off76 v536) a + S1x1x128.size a ≤ S10000x1x128.size a)
theorem k0_off76_inb : ∀ (v536 : BitVec 32) (k0_hw76 : k0_chk76 v536), ∀ a, (k0_off76 v536) a + S1x1x128.size a ≤ S10000x1x128.size a := fun v536 k0_hw76 => k0_hw76

def k0_off77 (v543 : BitVec 32) : Fin 3 → Nat :=
  let v544 : Index := Scalar.indexCast v543
  let c0_317 : Index := 0#32
  let c0_318 : Index := 0#32
  ![v544.toNat, 0, 0]

def k0_chk77 (v543 : BitVec 32) : Prop :=
  (∀ a, (k0_off77 v543) a + S1x1x128.size a ≤ S25000x1x128.size a)
theorem k0_off77_inb : ∀ (v543 : BitVec 32) (k0_hw77 : k0_chk77 v543), ∀ a, (k0_off77 v543) a + S1x1x128.size a ≤ S25000x1x128.size a := fun v543 k0_hw77 => k0_hw77

def k0_off78 (v550 : BitVec 32) : Fin 3 → Nat :=
  let v551 : Index := Scalar.indexCast v550
  let c0_321 : Index := 0#32
  let c0_322 : Index := 0#32
  ![v551.toNat, 0, 0]

def k0_chk78 (v550 : BitVec 32) : Prop :=
  (∀ a, (k0_off78 v550) a + S1x1x128.size a ≤ S10000x1x128.size a)
theorem k0_off78_inb : ∀ (v550 : BitVec 32) (k0_hw78 : k0_chk78 v550), ∀ a, (k0_off78 v550) a + S1x1x128.size a ≤ S10000x1x128.size a := fun v550 k0_hw78 => k0_hw78

def k0_off79 (v557 : BitVec 32) : Fin 3 → Nat :=
  let v558 : Index := Scalar.indexCast v557
  let c0_325 : Index := 0#32
  let c0_326 : Index := 0#32
  ![v558.toNat, 0, 0]

def k0_chk79 (v557 : BitVec 32) : Prop :=
  (∀ a, (k0_off79 v557) a + S1x1x128.size a ≤ S25000x1x128.size a)
theorem k0_off79_inb : ∀ (v557 : BitVec 32) (k0_hw79 : k0_chk79 v557), ∀ a, (k0_off79 v557) a + S1x1x128.size a ≤ S25000x1x128.size a := fun v557 k0_hw79 => k0_hw79

def k0_off80 (v564 : BitVec 32) : Fin 3 → Nat :=
  let v565 : Index := Scalar.indexCast v564
  let c0_329 : Index := 0#32
  let c0_330 : Index := 0#32
  ![v565.toNat, 0, 0]

def k0_chk80 (v564 : BitVec 32) : Prop :=
  (∀ a, (k0_off80 v564) a + S1x1x128.size a ≤ S10000x1x128.size a)
theorem k0_off80_inb : ∀ (v564 : BitVec 32) (k0_hw80 : k0_chk80 v564), ∀ a, (k0_off80 v564) a + S1x1x128.size a ≤ S10000x1x128.size a := fun v564 k0_hw80 => k0_hw80

def k0_off81 (v571 : BitVec 32) : Fin 3 → Nat :=
  let v572 : Index := Scalar.indexCast v571
  let c0_333 : Index := 0#32
  let c0_334 : Index := 0#32
  ![v572.toNat, 0, 0]

def k0_chk81 (v571 : BitVec 32) : Prop :=
  (∀ a, (k0_off81 v571) a + S1x1x128.size a ≤ S25000x1x128.size a)
theorem k0_off81_inb : ∀ (v571 : BitVec 32) (k0_hw81 : k0_chk81 v571), ∀ a, (k0_off81 v571) a + S1x1x128.size a ≤ S25000x1x128.size a := fun v571 k0_hw81 => k0_hw81

def k0_off82 (v578 : BitVec 32) : Fin 3 → Nat :=
  let v579 : Index := Scalar.indexCast v578
  let c0_337 : Index := 0#32
  let c0_338 : Index := 0#32
  ![v579.toNat, 0, 0]

def k0_chk82 (v578 : BitVec 32) : Prop :=
  (∀ a, (k0_off82 v578) a + S1x1x128.size a ≤ S10000x1x128.size a)
theorem k0_off82_inb : ∀ (v578 : BitVec 32) (k0_hw82 : k0_chk82 v578), ∀ a, (k0_off82 v578) a + S1x1x128.size a ≤ S10000x1x128.size a := fun v578 k0_hw82 => k0_hw82

def k0_off83 (v585 : BitVec 32) : Fin 3 → Nat :=
  let v586 : Index := Scalar.indexCast v585
  let c0_341 : Index := 0#32
  let c0_342 : Index := 0#32
  ![v586.toNat, 0, 0]

def k0_chk83 (v585 : BitVec 32) : Prop :=
  (∀ a, (k0_off83 v585) a + S1x1x128.size a ≤ S25000x1x128.size a)
theorem k0_off83_inb : ∀ (v585 : BitVec 32) (k0_hw83 : k0_chk83 v585), ∀ a, (k0_off83 v585) a + S1x1x128.size a ≤ S25000x1x128.size a := fun v585 k0_hw83 => k0_hw83

def k0_off84 (v592 : BitVec 32) : Fin 3 → Nat :=
  let v593 : Index := Scalar.indexCast v592
  let c0_345 : Index := 0#32
  let c0_346 : Index := 0#32
  ![v593.toNat, 0, 0]

def k0_chk84 (v592 : BitVec 32) : Prop :=
  (∀ a, (k0_off84 v592) a + S1x1x128.size a ≤ S10000x1x128.size a)
theorem k0_off84_inb : ∀ (v592 : BitVec 32) (k0_hw84 : k0_chk84 v592), ∀ a, (k0_off84 v592) a + S1x1x128.size a ≤ S10000x1x128.size a := fun v592 k0_hw84 => k0_hw84

def k0_off85 (v599 : BitVec 32) : Fin 3 → Nat :=
  let v600 : Index := Scalar.indexCast v599
  let c0_349 : Index := 0#32
  let c0_350 : Index := 0#32
  ![v600.toNat, 0, 0]

def k0_chk85 (v599 : BitVec 32) : Prop :=
  (∀ a, (k0_off85 v599) a + S1x1x128.size a ≤ S25000x1x128.size a)
theorem k0_off85_inb : ∀ (v599 : BitVec 32) (k0_hw85 : k0_chk85 v599), ∀ a, (k0_off85 v599) a + S1x1x128.size a ≤ S25000x1x128.size a := fun v599 k0_hw85 => k0_hw85

def k0_off86 (v606 : BitVec 32) : Fin 3 → Nat :=
  let v607 : Index := Scalar.indexCast v606
  let c0_353 : Index := 0#32
  let c0_354 : Index := 0#32
  ![v607.toNat, 0, 0]

def k0_chk86 (v606 : BitVec 32) : Prop :=
  (∀ a, (k0_off86 v606) a + S1x1x128.size a ≤ S10000x1x128.size a)
theorem k0_off86_inb : ∀ (v606 : BitVec 32) (k0_hw86 : k0_chk86 v606), ∀ a, (k0_off86 v606) a + S1x1x128.size a ≤ S10000x1x128.size a := fun v606 k0_hw86 => k0_hw86

def k0_off87 (v613 : BitVec 32) : Fin 3 → Nat :=
  let v614 : Index := Scalar.indexCast v613
  let c0_357 : Index := 0#32
  let c0_358 : Index := 0#32
  ![v614.toNat, 0, 0]

def k0_chk87 (v613 : BitVec 32) : Prop :=
  (∀ a, (k0_off87 v613) a + S1x1x128.size a ≤ S25000x1x128.size a)
theorem k0_off87_inb : ∀ (v613 : BitVec 32) (k0_hw87 : k0_chk87 v613), ∀ a, (k0_off87 v613) a + S1x1x128.size a ≤ S25000x1x128.size a := fun v613 k0_hw87 => k0_hw87

def k0_off88 (v620 : BitVec 32) : Fin 3 → Nat :=
  let v621 : Index := Scalar.indexCast v620
  let c0_361 : Index := 0#32
  let c0_362 : Index := 0#32
  ![v621.toNat, 0, 0]

def k0_chk88 (v620 : BitVec 32) : Prop :=
  (∀ a, (k0_off88 v620) a + S1x1x128.size a ≤ S10000x1x128.size a)
theorem k0_off88_inb : ∀ (v620 : BitVec 32) (k0_hw88 : k0_chk88 v620), ∀ a, (k0_off88 v620) a + S1x1x128.size a ≤ S10000x1x128.size a := fun v620 k0_hw88 => k0_hw88

def k0_off89 (v627 : BitVec 32) : Fin 3 → Nat :=
  let v628 : Index := Scalar.indexCast v627
  let c0_365 : Index := 0#32
  let c0_366 : Index := 0#32
  ![v628.toNat, 0, 0]

def k0_chk89 (v627 : BitVec 32) : Prop :=
  (∀ a, (k0_off89 v627) a + S1x1x128.size a ≤ S25000x1x128.size a)
theorem k0_off89_inb : ∀ (v627 : BitVec 32) (k0_hw89 : k0_chk89 v627), ∀ a, (k0_off89 v627) a + S1x1x128.size a ≤ S25000x1x128.size a := fun v627 k0_hw89 => k0_hw89

def k0_off90 (v634 : BitVec 32) : Fin 3 → Nat :=
  let v635 : Index := Scalar.indexCast v634
  let c0_369 : Index := 0#32
  let c0_370 : Index := 0#32
  ![v635.toNat, 0, 0]

def k0_chk90 (v634 : BitVec 32) : Prop :=
  (∀ a, (k0_off90 v634) a + S1x1x128.size a ≤ S10000x1x128.size a)
theorem k0_off90_inb : ∀ (v634 : BitVec 32) (k0_hw90 : k0_chk90 v634), ∀ a, (k0_off90 v634) a + S1x1x128.size a ≤ S10000x1x128.size a := fun v634 k0_hw90 => k0_hw90

def k0_off91 (v641 : BitVec 32) : Fin 3 → Nat :=
  let v642 : Index := Scalar.indexCast v641
  let c0_373 : Index := 0#32
  let c0_374 : Index := 0#32
  ![v642.toNat, 0, 0]

def k0_chk91 (v641 : BitVec 32) : Prop :=
  (∀ a, (k0_off91 v641) a + S1x1x128.size a ≤ S25000x1x128.size a)
theorem k0_off91_inb : ∀ (v641 : BitVec 32) (k0_hw91 : k0_chk91 v641), ∀ a, (k0_off91 v641) a + S1x1x128.size a ≤ S25000x1x128.size a := fun v641 k0_hw91 => k0_hw91

def k0_off92 (v648 : BitVec 32) : Fin 3 → Nat :=
  let v649 : Index := Scalar.indexCast v648
  let c0_377 : Index := 0#32
  let c0_378 : Index := 0#32
  ![v649.toNat, 0, 0]

def k0_chk92 (v648 : BitVec 32) : Prop :=
  (∀ a, (k0_off92 v648) a + S1x1x128.size a ≤ S10000x1x128.size a)
theorem k0_off92_inb : ∀ (v648 : BitVec 32) (k0_hw92 : k0_chk92 v648), ∀ a, (k0_off92 v648) a + S1x1x128.size a ≤ S10000x1x128.size a := fun v648 k0_hw92 => k0_hw92

def k0_off93 (v655 : BitVec 32) : Fin 3 → Nat :=
  let v656 : Index := Scalar.indexCast v655
  let c0_381 : Index := 0#32
  let c0_382 : Index := 0#32
  ![v656.toNat, 0, 0]

def k0_chk93 (v655 : BitVec 32) : Prop :=
  (∀ a, (k0_off93 v655) a + S1x1x128.size a ≤ S25000x1x128.size a)
theorem k0_off93_inb : ∀ (v655 : BitVec 32) (k0_hw93 : k0_chk93 v655), ∀ a, (k0_off93 v655) a + S1x1x128.size a ≤ S25000x1x128.size a := fun v655 k0_hw93 => k0_hw93

def k0_off94 (v662 : BitVec 32) : Fin 3 → Nat :=
  let v663 : Index := Scalar.indexCast v662
  let c0_385 : Index := 0#32
  let c0_386 : Index := 0#32
  ![v663.toNat, 0, 0]

def k0_chk94 (v662 : BitVec 32) : Prop :=
  (∀ a, (k0_off94 v662) a + S1x1x128.size a ≤ S10000x1x128.size a)
theorem k0_off94_inb : ∀ (v662 : BitVec 32) (k0_hw94 : k0_chk94 v662), ∀ a, (k0_off94 v662) a + S1x1x128.size a ≤ S10000x1x128.size a := fun v662 k0_hw94 => k0_hw94

def k0_off95 (v669 : BitVec 32) : Fin 3 → Nat :=
  let v670 : Index := Scalar.indexCast v669
  let c0_389 : Index := 0#32
  let c0_390 : Index := 0#32
  ![v670.toNat, 0, 0]

def k0_chk95 (v669 : BitVec 32) : Prop :=
  (∀ a, (k0_off95 v669) a + S1x1x128.size a ≤ S25000x1x128.size a)
theorem k0_off95_inb : ∀ (v669 : BitVec 32) (k0_hw95 : k0_chk95 v669), ∀ a, (k0_off95 v669) a + S1x1x128.size a ≤ S25000x1x128.size a := fun v669 k0_hw95 => k0_hw95

def k0_off96 (v676 : BitVec 32) : Fin 3 → Nat :=
  let v677 : Index := Scalar.indexCast v676
  let c0_393 : Index := 0#32
  let c0_394 : Index := 0#32
  ![v677.toNat, 0, 0]

def k0_chk96 (v676 : BitVec 32) : Prop :=
  (∀ a, (k0_off96 v676) a + S1x1x128.size a ≤ S10000x1x128.size a)
theorem k0_off96_inb : ∀ (v676 : BitVec 32) (k0_hw96 : k0_chk96 v676), ∀ a, (k0_off96 v676) a + S1x1x128.size a ≤ S10000x1x128.size a := fun v676 k0_hw96 => k0_hw96

def k0_off97 (v683 : BitVec 32) : Fin 3 → Nat :=
  let v684 : Index := Scalar.indexCast v683
  let c0_397 : Index := 0#32
  let c0_398 : Index := 0#32
  ![v684.toNat, 0, 0]

def k0_chk97 (v683 : BitVec 32) : Prop :=
  (∀ a, (k0_off97 v683) a + S1x1x128.size a ≤ S25000x1x128.size a)
theorem k0_off97_inb : ∀ (v683 : BitVec 32) (k0_hw97 : k0_chk97 v683), ∀ a, (k0_off97 v683) a + S1x1x128.size a ≤ S25000x1x128.size a := fun v683 k0_hw97 => k0_hw97

def k0_off98 (v690 : BitVec 32) : Fin 3 → Nat :=
  let v691 : Index := Scalar.indexCast v690
  let c0_401 : Index := 0#32
  let c0_402 : Index := 0#32
  ![v691.toNat, 0, 0]

def k0_chk98 (v690 : BitVec 32) : Prop :=
  (∀ a, (k0_off98 v690) a + S1x1x128.size a ≤ S10000x1x128.size a)
theorem k0_off98_inb : ∀ (v690 : BitVec 32) (k0_hw98 : k0_chk98 v690), ∀ a, (k0_off98 v690) a + S1x1x128.size a ≤ S10000x1x128.size a := fun v690 k0_hw98 => k0_hw98

def k0_off99 (v697 : BitVec 32) : Fin 3 → Nat :=
  let v698 : Index := Scalar.indexCast v697
  let c0_405 : Index := 0#32
  let c0_406 : Index := 0#32
  ![v698.toNat, 0, 0]

def k0_chk99 (v697 : BitVec 32) : Prop :=
  (∀ a, (k0_off99 v697) a + S1x1x128.size a ≤ S25000x1x128.size a)
theorem k0_off99_inb : ∀ (v697 : BitVec 32) (k0_hw99 : k0_chk99 v697), ∀ a, (k0_off99 v697) a + S1x1x128.size a ≤ S25000x1x128.size a := fun v697 k0_hw99 => k0_hw99

def k0_off100 (v704 : BitVec 32) : Fin 3 → Nat :=
  let v705 : Index := Scalar.indexCast v704
  let c0_409 : Index := 0#32
  let c0_410 : Index := 0#32
  ![v705.toNat, 0, 0]

def k0_chk100 (v704 : BitVec 32) : Prop :=
  (∀ a, (k0_off100 v704) a + S1x1x128.size a ≤ S10000x1x128.size a)
theorem k0_off100_inb : ∀ (v704 : BitVec 32) (k0_hw100 : k0_chk100 v704), ∀ a, (k0_off100 v704) a + S1x1x128.size a ≤ S10000x1x128.size a := fun v704 k0_hw100 => k0_hw100

def k0_off101 (v711 : BitVec 32) : Fin 3 → Nat :=
  let v712 : Index := Scalar.indexCast v711
  let c0_413 : Index := 0#32
  let c0_414 : Index := 0#32
  ![v712.toNat, 0, 0]

def k0_chk101 (v711 : BitVec 32) : Prop :=
  (∀ a, (k0_off101 v711) a + S1x1x128.size a ≤ S25000x1x128.size a)
theorem k0_off101_inb : ∀ (v711 : BitVec 32) (k0_hw101 : k0_chk101 v711), ∀ a, (k0_off101 v711) a + S1x1x128.size a ≤ S25000x1x128.size a := fun v711 k0_hw101 => k0_hw101

def k0_off102 (v718 : BitVec 32) : Fin 3 → Nat :=
  let v719 : Index := Scalar.indexCast v718
  let c0_417 : Index := 0#32
  let c0_418 : Index := 0#32
  ![v719.toNat, 0, 0]

def k0_chk102 (v718 : BitVec 32) : Prop :=
  (∀ a, (k0_off102 v718) a + S1x1x128.size a ≤ S10000x1x128.size a)
theorem k0_off102_inb : ∀ (v718 : BitVec 32) (k0_hw102 : k0_chk102 v718), ∀ a, (k0_off102 v718) a + S1x1x128.size a ≤ S10000x1x128.size a := fun v718 k0_hw102 => k0_hw102

def k0_off103 (v725 : BitVec 32) : Fin 3 → Nat :=
  let v726 : Index := Scalar.indexCast v725
  let c0_421 : Index := 0#32
  let c0_422 : Index := 0#32
  ![v726.toNat, 0, 0]

def k0_chk103 (v725 : BitVec 32) : Prop :=
  (∀ a, (k0_off103 v725) a + S1x1x128.size a ≤ S25000x1x128.size a)
theorem k0_off103_inb : ∀ (v725 : BitVec 32) (k0_hw103 : k0_chk103 v725), ∀ a, (k0_off103 v725) a + S1x1x128.size a ≤ S25000x1x128.size a := fun v725 k0_hw103 => k0_hw103

def k0_off104 (v732 : BitVec 32) : Fin 3 → Nat :=
  let v733 : Index := Scalar.indexCast v732
  let c0_425 : Index := 0#32
  let c0_426 : Index := 0#32
  ![v733.toNat, 0, 0]

def k0_chk104 (v732 : BitVec 32) : Prop :=
  (∀ a, (k0_off104 v732) a + S1x1x128.size a ≤ S10000x1x128.size a)
theorem k0_off104_inb : ∀ (v732 : BitVec 32) (k0_hw104 : k0_chk104 v732), ∀ a, (k0_off104 v732) a + S1x1x128.size a ≤ S10000x1x128.size a := fun v732 k0_hw104 => k0_hw104

def k0_off105 (v739 : BitVec 32) : Fin 3 → Nat :=
  let v740 : Index := Scalar.indexCast v739
  let c0_429 : Index := 0#32
  let c0_430 : Index := 0#32
  ![v740.toNat, 0, 0]

def k0_chk105 (v739 : BitVec 32) : Prop :=
  (∀ a, (k0_off105 v739) a + S1x1x128.size a ≤ S25000x1x128.size a)
theorem k0_off105_inb : ∀ (v739 : BitVec 32) (k0_hw105 : k0_chk105 v739), ∀ a, (k0_off105 v739) a + S1x1x128.size a ≤ S25000x1x128.size a := fun v739 k0_hw105 => k0_hw105

def k0_off106 (v746 : BitVec 32) : Fin 3 → Nat :=
  let v747 : Index := Scalar.indexCast v746
  let c0_433 : Index := 0#32
  let c0_434 : Index := 0#32
  ![v747.toNat, 0, 0]

def k0_chk106 (v746 : BitVec 32) : Prop :=
  (∀ a, (k0_off106 v746) a + S1x1x128.size a ≤ S10000x1x128.size a)
theorem k0_off106_inb : ∀ (v746 : BitVec 32) (k0_hw106 : k0_chk106 v746), ∀ a, (k0_off106 v746) a + S1x1x128.size a ≤ S10000x1x128.size a := fun v746 k0_hw106 => k0_hw106

def k0_off107 (v753 : BitVec 32) : Fin 3 → Nat :=
  let v754 : Index := Scalar.indexCast v753
  let c0_437 : Index := 0#32
  let c0_438 : Index := 0#32
  ![v754.toNat, 0, 0]

def k0_chk107 (v753 : BitVec 32) : Prop :=
  (∀ a, (k0_off107 v753) a + S1x1x128.size a ≤ S25000x1x128.size a)
theorem k0_off107_inb : ∀ (v753 : BitVec 32) (k0_hw107 : k0_chk107 v753), ∀ a, (k0_off107 v753) a + S1x1x128.size a ≤ S25000x1x128.size a := fun v753 k0_hw107 => k0_hw107

def k0_off108 (v760 : BitVec 32) : Fin 3 → Nat :=
  let v761 : Index := Scalar.indexCast v760
  let c0_441 : Index := 0#32
  let c0_442 : Index := 0#32
  ![v761.toNat, 0, 0]

def k0_chk108 (v760 : BitVec 32) : Prop :=
  (∀ a, (k0_off108 v760) a + S1x1x128.size a ≤ S10000x1x128.size a)
theorem k0_off108_inb : ∀ (v760 : BitVec 32) (k0_hw108 : k0_chk108 v760), ∀ a, (k0_off108 v760) a + S1x1x128.size a ≤ S10000x1x128.size a := fun v760 k0_hw108 => k0_hw108

def k0_off109 (v767 : BitVec 32) : Fin 3 → Nat :=
  let v768 : Index := Scalar.indexCast v767
  let c0_445 : Index := 0#32
  let c0_446 : Index := 0#32
  ![v768.toNat, 0, 0]

def k0_chk109 (v767 : BitVec 32) : Prop :=
  (∀ a, (k0_off109 v767) a + S1x1x128.size a ≤ S25000x1x128.size a)
theorem k0_off109_inb : ∀ (v767 : BitVec 32) (k0_hw109 : k0_chk109 v767), ∀ a, (k0_off109 v767) a + S1x1x128.size a ≤ S25000x1x128.size a := fun v767 k0_hw109 => k0_hw109

def k0_off110 (v774 : BitVec 32) : Fin 3 → Nat :=
  let v775 : Index := Scalar.indexCast v774
  let c0_449 : Index := 0#32
  let c0_450 : Index := 0#32
  ![v775.toNat, 0, 0]

def k0_chk110 (v774 : BitVec 32) : Prop :=
  (∀ a, (k0_off110 v774) a + S1x1x128.size a ≤ S10000x1x128.size a)
theorem k0_off110_inb : ∀ (v774 : BitVec 32) (k0_hw110 : k0_chk110 v774), ∀ a, (k0_off110 v774) a + S1x1x128.size a ≤ S10000x1x128.size a := fun v774 k0_hw110 => k0_hw110

def k0_off111 (v781 : BitVec 32) : Fin 3 → Nat :=
  let v782 : Index := Scalar.indexCast v781
  let c0_453 : Index := 0#32
  let c0_454 : Index := 0#32
  ![v782.toNat, 0, 0]

def k0_chk111 (v781 : BitVec 32) : Prop :=
  (∀ a, (k0_off111 v781) a + S1x1x128.size a ≤ S25000x1x128.size a)
theorem k0_off111_inb : ∀ (v781 : BitVec 32) (k0_hw111 : k0_chk111 v781), ∀ a, (k0_off111 v781) a + S1x1x128.size a ≤ S25000x1x128.size a := fun v781 k0_hw111 => k0_hw111

def k0_off112 (v788 : BitVec 32) : Fin 3 → Nat :=
  let v789 : Index := Scalar.indexCast v788
  let c0_457 : Index := 0#32
  let c0_458 : Index := 0#32
  ![v789.toNat, 0, 0]

def k0_chk112 (v788 : BitVec 32) : Prop :=
  (∀ a, (k0_off112 v788) a + S1x1x128.size a ≤ S10000x1x128.size a)
theorem k0_off112_inb : ∀ (v788 : BitVec 32) (k0_hw112 : k0_chk112 v788), ∀ a, (k0_off112 v788) a + S1x1x128.size a ≤ S10000x1x128.size a := fun v788 k0_hw112 => k0_hw112

def k0_off113 (v795 : BitVec 32) : Fin 3 → Nat :=
  let v796 : Index := Scalar.indexCast v795
  let c0_461 : Index := 0#32
  let c0_462 : Index := 0#32
  ![v796.toNat, 0, 0]

def k0_chk113 (v795 : BitVec 32) : Prop :=
  (∀ a, (k0_off113 v795) a + S1x1x128.size a ≤ S25000x1x128.size a)
theorem k0_off113_inb : ∀ (v795 : BitVec 32) (k0_hw113 : k0_chk113 v795), ∀ a, (k0_off113 v795) a + S1x1x128.size a ≤ S25000x1x128.size a := fun v795 k0_hw113 => k0_hw113

def k0_off114 (v802 : BitVec 32) : Fin 3 → Nat :=
  let v803 : Index := Scalar.indexCast v802
  let c0_465 : Index := 0#32
  let c0_466 : Index := 0#32
  ![v803.toNat, 0, 0]

def k0_chk114 (v802 : BitVec 32) : Prop :=
  (∀ a, (k0_off114 v802) a + S1x1x128.size a ≤ S10000x1x128.size a)
theorem k0_off114_inb : ∀ (v802 : BitVec 32) (k0_hw114 : k0_chk114 v802), ∀ a, (k0_off114 v802) a + S1x1x128.size a ≤ S10000x1x128.size a := fun v802 k0_hw114 => k0_hw114

def k0_off115 (v809 : BitVec 32) : Fin 3 → Nat :=
  let v810 : Index := Scalar.indexCast v809
  let c0_469 : Index := 0#32
  let c0_470 : Index := 0#32
  ![v810.toNat, 0, 0]

def k0_chk115 (v809 : BitVec 32) : Prop :=
  (∀ a, (k0_off115 v809) a + S1x1x128.size a ≤ S25000x1x128.size a)
theorem k0_off115_inb : ∀ (v809 : BitVec 32) (k0_hw115 : k0_chk115 v809), ∀ a, (k0_off115 v809) a + S1x1x128.size a ≤ S25000x1x128.size a := fun v809 k0_hw115 => k0_hw115

def k0_off116 (v816 : BitVec 32) : Fin 3 → Nat :=
  let v817 : Index := Scalar.indexCast v816
  let c0_473 : Index := 0#32
  let c0_474 : Index := 0#32
  ![v817.toNat, 0, 0]

def k0_chk116 (v816 : BitVec 32) : Prop :=
  (∀ a, (k0_off116 v816) a + S1x1x128.size a ≤ S10000x1x128.size a)
theorem k0_off116_inb : ∀ (v816 : BitVec 32) (k0_hw116 : k0_chk116 v816), ∀ a, (k0_off116 v816) a + S1x1x128.size a ≤ S10000x1x128.size a := fun v816 k0_hw116 => k0_hw116

def k0_off117 (v823 : BitVec 32) : Fin 3 → Nat :=
  let v824 : Index := Scalar.indexCast v823
  let c0_477 : Index := 0#32
  let c0_478 : Index := 0#32
  ![v824.toNat, 0, 0]

def k0_chk117 (v823 : BitVec 32) : Prop :=
  (∀ a, (k0_off117 v823) a + S1x1x128.size a ≤ S25000x1x128.size a)
theorem k0_off117_inb : ∀ (v823 : BitVec 32) (k0_hw117 : k0_chk117 v823), ∀ a, (k0_off117 v823) a + S1x1x128.size a ≤ S25000x1x128.size a := fun v823 k0_hw117 => k0_hw117

def k0_off118 (v830 : BitVec 32) : Fin 3 → Nat :=
  let v831 : Index := Scalar.indexCast v830
  let c0_481 : Index := 0#32
  let c0_482 : Index := 0#32
  ![v831.toNat, 0, 0]

def k0_chk118 (v830 : BitVec 32) : Prop :=
  (∀ a, (k0_off118 v830) a + S1x1x128.size a ≤ S10000x1x128.size a)
theorem k0_off118_inb : ∀ (v830 : BitVec 32) (k0_hw118 : k0_chk118 v830), ∀ a, (k0_off118 v830) a + S1x1x128.size a ≤ S10000x1x128.size a := fun v830 k0_hw118 => k0_hw118

def k0_off119 (v837 : BitVec 32) : Fin 3 → Nat :=
  let v838 : Index := Scalar.indexCast v837
  let c0_485 : Index := 0#32
  let c0_486 : Index := 0#32
  ![v838.toNat, 0, 0]

def k0_chk119 (v837 : BitVec 32) : Prop :=
  (∀ a, (k0_off119 v837) a + S1x1x128.size a ≤ S25000x1x128.size a)
theorem k0_off119_inb : ∀ (v837 : BitVec 32) (k0_hw119 : k0_chk119 v837), ∀ a, (k0_off119 v837) a + S1x1x128.size a ≤ S25000x1x128.size a := fun v837 k0_hw119 => k0_hw119

def k0_off120 (v844 : BitVec 32) : Fin 3 → Nat :=
  let v845 : Index := Scalar.indexCast v844
  let c0_489 : Index := 0#32
  let c0_490 : Index := 0#32
  ![v845.toNat, 0, 0]

def k0_chk120 (v844 : BitVec 32) : Prop :=
  (∀ a, (k0_off120 v844) a + S1x1x128.size a ≤ S10000x1x128.size a)
theorem k0_off120_inb : ∀ (v844 : BitVec 32) (k0_hw120 : k0_chk120 v844), ∀ a, (k0_off120 v844) a + S1x1x128.size a ≤ S10000x1x128.size a := fun v844 k0_hw120 => k0_hw120

def k0_off121 (v851 : BitVec 32) : Fin 3 → Nat :=
  let v852 : Index := Scalar.indexCast v851
  let c0_493 : Index := 0#32
  let c0_494 : Index := 0#32
  ![v852.toNat, 0, 0]

def k0_chk121 (v851 : BitVec 32) : Prop :=
  (∀ a, (k0_off121 v851) a + S1x1x128.size a ≤ S25000x1x128.size a)
theorem k0_off121_inb : ∀ (v851 : BitVec 32) (k0_hw121 : k0_chk121 v851), ∀ a, (k0_off121 v851) a + S1x1x128.size a ≤ S25000x1x128.size a := fun v851 k0_hw121 => k0_hw121

def k0_off122 (v858 : BitVec 32) : Fin 3 → Nat :=
  let v859 : Index := Scalar.indexCast v858
  let c0_497 : Index := 0#32
  let c0_498 : Index := 0#32
  ![v859.toNat, 0, 0]

def k0_chk122 (v858 : BitVec 32) : Prop :=
  (∀ a, (k0_off122 v858) a + S1x1x128.size a ≤ S10000x1x128.size a)
theorem k0_off122_inb : ∀ (v858 : BitVec 32) (k0_hw122 : k0_chk122 v858), ∀ a, (k0_off122 v858) a + S1x1x128.size a ≤ S10000x1x128.size a := fun v858 k0_hw122 => k0_hw122

def k0_off123 (v865 : BitVec 32) : Fin 3 → Nat :=
  let v866 : Index := Scalar.indexCast v865
  let c0_501 : Index := 0#32
  let c0_502 : Index := 0#32
  ![v866.toNat, 0, 0]

def k0_chk123 (v865 : BitVec 32) : Prop :=
  (∀ a, (k0_off123 v865) a + S1x1x128.size a ≤ S25000x1x128.size a)
theorem k0_off123_inb : ∀ (v865 : BitVec 32) (k0_hw123 : k0_chk123 v865), ∀ a, (k0_off123 v865) a + S1x1x128.size a ≤ S25000x1x128.size a := fun v865 k0_hw123 => k0_hw123

def k0_off124 (v872 : BitVec 32) : Fin 3 → Nat :=
  let v873 : Index := Scalar.indexCast v872
  let c0_505 : Index := 0#32
  let c0_506 : Index := 0#32
  ![v873.toNat, 0, 0]

def k0_chk124 (v872 : BitVec 32) : Prop :=
  (∀ a, (k0_off124 v872) a + S1x1x128.size a ≤ S10000x1x128.size a)
theorem k0_off124_inb : ∀ (v872 : BitVec 32) (k0_hw124 : k0_chk124 v872), ∀ a, (k0_off124 v872) a + S1x1x128.size a ≤ S10000x1x128.size a := fun v872 k0_hw124 => k0_hw124

def k0_off125 (v879 : BitVec 32) : Fin 3 → Nat :=
  let v880 : Index := Scalar.indexCast v879
  let c0_509 : Index := 0#32
  let c0_510 : Index := 0#32
  ![v880.toNat, 0, 0]

def k0_chk125 (v879 : BitVec 32) : Prop :=
  (∀ a, (k0_off125 v879) a + S1x1x128.size a ≤ S25000x1x128.size a)
theorem k0_off125_inb : ∀ (v879 : BitVec 32) (k0_hw125 : k0_chk125 v879), ∀ a, (k0_off125 v879) a + S1x1x128.size a ≤ S25000x1x128.size a := fun v879 k0_hw125 => k0_hw125

def k0_off126 (v886 : BitVec 32) : Fin 3 → Nat :=
  let v887 : Index := Scalar.indexCast v886
  let c0_513 : Index := 0#32
  let c0_514 : Index := 0#32
  ![v887.toNat, 0, 0]

def k0_chk126 (v886 : BitVec 32) : Prop :=
  (∀ a, (k0_off126 v886) a + S1x1x128.size a ≤ S10000x1x128.size a)
theorem k0_off126_inb : ∀ (v886 : BitVec 32) (k0_hw126 : k0_chk126 v886), ∀ a, (k0_off126 v886) a + S1x1x128.size a ≤ S10000x1x128.size a := fun v886 k0_hw126 => k0_hw126

def k0_off127 (v893 : BitVec 32) : Fin 3 → Nat :=
  let v894 : Index := Scalar.indexCast v893
  let c0_517 : Index := 0#32
  let c0_518 : Index := 0#32
  ![v894.toNat, 0, 0]

def k0_chk127 (v893 : BitVec 32) : Prop :=
  (∀ a, (k0_off127 v893) a + S1x1x128.size a ≤ S25000x1x128.size a)
theorem k0_off127_inb : ∀ (v893 : BitVec 32) (k0_hw127 : k0_chk127 v893), ∀ a, (k0_off127 v893) a + S1x1x128.size a ≤ S25000x1x128.size a := fun v893 k0_hw127 => k0_hw127

def k0_off128 (v900 : BitVec 32) : Fin 3 → Nat :=
  let v901 : Index := Scalar.indexCast v900
  let c0_521 : Index := 0#32
  let c0_522 : Index := 0#32
  ![v901.toNat, 0, 0]

def k0_chk128 (v900 : BitVec 32) : Prop :=
  (∀ a, (k0_off128 v900) a + S1x1x128.size a ≤ S10000x1x128.size a)
theorem k0_off128_inb : ∀ (v900 : BitVec 32) (k0_hw128 : k0_chk128 v900), ∀ a, (k0_off128 v900) a + S1x1x128.size a ≤ S10000x1x128.size a := fun v900 k0_hw128 => k0_hw128

def k0_off129 (v907 : BitVec 32) : Fin 3 → Nat :=
  let v908 : Index := Scalar.indexCast v907
  let c0_525 : Index := 0#32
  let c0_526 : Index := 0#32
  ![v908.toNat, 0, 0]

def k0_chk129 (v907 : BitVec 32) : Prop :=
  (∀ a, (k0_off129 v907) a + S1x1x128.size a ≤ S25000x1x128.size a)
theorem k0_off129_inb : ∀ (v907 : BitVec 32) (k0_hw129 : k0_chk129 v907), ∀ a, (k0_off129 v907) a + S1x1x128.size a ≤ S25000x1x128.size a := fun v907 k0_hw129 => k0_hw129

def k0_off130 (v914 : BitVec 32) : Fin 3 → Nat :=
  let v915 : Index := Scalar.indexCast v914
  let c0_529 : Index := 0#32
  let c0_530 : Index := 0#32
  ![v915.toNat, 0, 0]

def k0_chk130 (v914 : BitVec 32) : Prop :=
  (∀ a, (k0_off130 v914) a + S1x1x128.size a ≤ S10000x1x128.size a)
theorem k0_off130_inb : ∀ (v914 : BitVec 32) (k0_hw130 : k0_chk130 v914), ∀ a, (k0_off130 v914) a + S1x1x128.size a ≤ S10000x1x128.size a := fun v914 k0_hw130 => k0_hw130

def k0_off131 (v921 : BitVec 32) : Fin 3 → Nat :=
  let v922 : Index := Scalar.indexCast v921
  let c0_533 : Index := 0#32
  let c0_534 : Index := 0#32
  ![v922.toNat, 0, 0]

def k0_chk131 (v921 : BitVec 32) : Prop :=
  (∀ a, (k0_off131 v921) a + S1x1x128.size a ≤ S25000x1x128.size a)
theorem k0_off131_inb : ∀ (v921 : BitVec 32) (k0_hw131 : k0_chk131 v921), ∀ a, (k0_off131 v921) a + S1x1x128.size a ≤ S25000x1x128.size a := fun v921 k0_hw131 => k0_hw131

def k0_off132 (v928 : BitVec 32) : Fin 3 → Nat :=
  let v929 : Index := Scalar.indexCast v928
  let c0_537 : Index := 0#32
  let c0_538 : Index := 0#32
  ![v929.toNat, 0, 0]

def k0_chk132 (v928 : BitVec 32) : Prop :=
  (∀ a, (k0_off132 v928) a + S1x1x128.size a ≤ S10000x1x128.size a)
theorem k0_off132_inb : ∀ (v928 : BitVec 32) (k0_hw132 : k0_chk132 v928), ∀ a, (k0_off132 v928) a + S1x1x128.size a ≤ S10000x1x128.size a := fun v928 k0_hw132 => k0_hw132

def k0_off133 (v935 : BitVec 32) : Fin 3 → Nat :=
  let v936 : Index := Scalar.indexCast v935
  let c0_541 : Index := 0#32
  let c0_542 : Index := 0#32
  ![v936.toNat, 0, 0]

def k0_chk133 (v935 : BitVec 32) : Prop :=
  (∀ a, (k0_off133 v935) a + S1x1x128.size a ≤ S25000x1x128.size a)
theorem k0_off133_inb : ∀ (v935 : BitVec 32) (k0_hw133 : k0_chk133 v935), ∀ a, (k0_off133 v935) a + S1x1x128.size a ≤ S25000x1x128.size a := fun v935 k0_hw133 => k0_hw133

def k0_off134 (v942 : BitVec 32) : Fin 3 → Nat :=
  let v943 : Index := Scalar.indexCast v942
  let c0_545 : Index := 0#32
  let c0_546 : Index := 0#32
  ![v943.toNat, 0, 0]

def k0_chk134 (v942 : BitVec 32) : Prop :=
  (∀ a, (k0_off134 v942) a + S1x1x128.size a ≤ S10000x1x128.size a)
theorem k0_off134_inb : ∀ (v942 : BitVec 32) (k0_hw134 : k0_chk134 v942), ∀ a, (k0_off134 v942) a + S1x1x128.size a ≤ S10000x1x128.size a := fun v942 k0_hw134 => k0_hw134

def k0_off135 (v949 : BitVec 32) : Fin 3 → Nat :=
  let v950 : Index := Scalar.indexCast v949
  let c0_549 : Index := 0#32
  let c0_550 : Index := 0#32
  ![v950.toNat, 0, 0]

def k0_chk135 (v949 : BitVec 32) : Prop :=
  (∀ a, (k0_off135 v949) a + S1x1x128.size a ≤ S25000x1x128.size a)
theorem k0_off135_inb : ∀ (v949 : BitVec 32) (k0_hw135 : k0_chk135 v949), ∀ a, (k0_off135 v949) a + S1x1x128.size a ≤ S25000x1x128.size a := fun v949 k0_hw135 => k0_hw135

def k0_off136 (v956 : BitVec 32) : Fin 3 → Nat :=
  let v957 : Index := Scalar.indexCast v956
  let c0_553 : Index := 0#32
  let c0_554 : Index := 0#32
  ![v957.toNat, 0, 0]

def k0_chk136 (v956 : BitVec 32) : Prop :=
  (∀ a, (k0_off136 v956) a + S1x1x128.size a ≤ S10000x1x128.size a)
theorem k0_off136_inb : ∀ (v956 : BitVec 32) (k0_hw136 : k0_chk136 v956), ∀ a, (k0_off136 v956) a + S1x1x128.size a ≤ S10000x1x128.size a := fun v956 k0_hw136 => k0_hw136

def k0_off137 (v963 : BitVec 32) : Fin 3 → Nat :=
  let v964 : Index := Scalar.indexCast v963
  let c0_557 : Index := 0#32
  let c0_558 : Index := 0#32
  ![v964.toNat, 0, 0]

def k0_chk137 (v963 : BitVec 32) : Prop :=
  (∀ a, (k0_off137 v963) a + S1x1x128.size a ≤ S25000x1x128.size a)
theorem k0_off137_inb : ∀ (v963 : BitVec 32) (k0_hw137 : k0_chk137 v963), ∀ a, (k0_off137 v963) a + S1x1x128.size a ≤ S25000x1x128.size a := fun v963 k0_hw137 => k0_hw137

def k0_off138 (v970 : BitVec 32) : Fin 3 → Nat :=
  let v971 : Index := Scalar.indexCast v970
  let c0_561 : Index := 0#32
  let c0_562 : Index := 0#32
  ![v971.toNat, 0, 0]

def k0_chk138 (v970 : BitVec 32) : Prop :=
  (∀ a, (k0_off138 v970) a + S1x1x128.size a ≤ S10000x1x128.size a)
theorem k0_off138_inb : ∀ (v970 : BitVec 32) (k0_hw138 : k0_chk138 v970), ∀ a, (k0_off138 v970) a + S1x1x128.size a ≤ S10000x1x128.size a := fun v970 k0_hw138 => k0_hw138

def k0_off139 (v977 : BitVec 32) : Fin 3 → Nat :=
  let v978 : Index := Scalar.indexCast v977
  let c0_565 : Index := 0#32
  let c0_566 : Index := 0#32
  ![v978.toNat, 0, 0]

def k0_chk139 (v977 : BitVec 32) : Prop :=
  (∀ a, (k0_off139 v977) a + S1x1x128.size a ≤ S25000x1x128.size a)
theorem k0_off139_inb : ∀ (v977 : BitVec 32) (k0_hw139 : k0_chk139 v977), ∀ a, (k0_off139 v977) a + S1x1x128.size a ≤ S25000x1x128.size a := fun v977 k0_hw139 => k0_hw139

def k0_off140 (v984 : BitVec 32) : Fin 3 → Nat :=
  let v985 : Index := Scalar.indexCast v984
  let c0_569 : Index := 0#32
  let c0_570 : Index := 0#32
  ![v985.toNat, 0, 0]

def k0_chk140 (v984 : BitVec 32) : Prop :=
  (∀ a, (k0_off140 v984) a + S1x1x128.size a ≤ S10000x1x128.size a)
theorem k0_off140_inb : ∀ (v984 : BitVec 32) (k0_hw140 : k0_chk140 v984), ∀ a, (k0_off140 v984) a + S1x1x128.size a ≤ S10000x1x128.size a := fun v984 k0_hw140 => k0_hw140

def k0_off141 (v991 : BitVec 32) : Fin 3 → Nat :=
  let v992 : Index := Scalar.indexCast v991
  let c0_573 : Index := 0#32
  let c0_574 : Index := 0#32
  ![v992.toNat, 0, 0]

def k0_chk141 (v991 : BitVec 32) : Prop :=
  (∀ a, (k0_off141 v991) a + S1x1x128.size a ≤ S25000x1x128.size a)
theorem k0_off141_inb : ∀ (v991 : BitVec 32) (k0_hw141 : k0_chk141 v991), ∀ a, (k0_off141 v991) a + S1x1x128.size a ≤ S25000x1x128.size a := fun v991 k0_hw141 => k0_hw141

def k0_off142 (v998 : BitVec 32) : Fin 3 → Nat :=
  let v999 : Index := Scalar.indexCast v998
  let c0_577 : Index := 0#32
  let c0_578 : Index := 0#32
  ![v999.toNat, 0, 0]

def k0_chk142 (v998 : BitVec 32) : Prop :=
  (∀ a, (k0_off142 v998) a + S1x1x128.size a ≤ S10000x1x128.size a)
theorem k0_off142_inb : ∀ (v998 : BitVec 32) (k0_hw142 : k0_chk142 v998), ∀ a, (k0_off142 v998) a + S1x1x128.size a ≤ S10000x1x128.size a := fun v998 k0_hw142 => k0_hw142

def k0_off143 (v1005 : BitVec 32) : Fin 3 → Nat :=
  let v1006 : Index := Scalar.indexCast v1005
  let c0_581 : Index := 0#32
  let c0_582 : Index := 0#32
  ![v1006.toNat, 0, 0]

def k0_chk143 (v1005 : BitVec 32) : Prop :=
  (∀ a, (k0_off143 v1005) a + S1x1x128.size a ≤ S25000x1x128.size a)
theorem k0_off143_inb : ∀ (v1005 : BitVec 32) (k0_hw143 : k0_chk143 v1005), ∀ a, (k0_off143 v1005) a + S1x1x128.size a ≤ S25000x1x128.size a := fun v1005 k0_hw143 => k0_hw143

def k0_off144 (v1012 : BitVec 32) : Fin 3 → Nat :=
  let v1013 : Index := Scalar.indexCast v1012
  let c0_585 : Index := 0#32
  let c0_586 : Index := 0#32
  ![v1013.toNat, 0, 0]

def k0_chk144 (v1012 : BitVec 32) : Prop :=
  (∀ a, (k0_off144 v1012) a + S1x1x128.size a ≤ S10000x1x128.size a)
theorem k0_off144_inb : ∀ (v1012 : BitVec 32) (k0_hw144 : k0_chk144 v1012), ∀ a, (k0_off144 v1012) a + S1x1x128.size a ≤ S10000x1x128.size a := fun v1012 k0_hw144 => k0_hw144

def k0_off145 (v1019 : BitVec 32) : Fin 3 → Nat :=
  let v1020 : Index := Scalar.indexCast v1019
  let c0_589 : Index := 0#32
  let c0_590 : Index := 0#32
  ![v1020.toNat, 0, 0]

def k0_chk145 (v1019 : BitVec 32) : Prop :=
  (∀ a, (k0_off145 v1019) a + S1x1x128.size a ≤ S25000x1x128.size a)
theorem k0_off145_inb : ∀ (v1019 : BitVec 32) (k0_hw145 : k0_chk145 v1019), ∀ a, (k0_off145 v1019) a + S1x1x128.size a ≤ S25000x1x128.size a := fun v1019 k0_hw145 => k0_hw145

def k0_off146 (v1026 : BitVec 32) : Fin 3 → Nat :=
  let v1027 : Index := Scalar.indexCast v1026
  let c0_593 : Index := 0#32
  let c0_594 : Index := 0#32
  ![v1027.toNat, 0, 0]

def k0_chk146 (v1026 : BitVec 32) : Prop :=
  (∀ a, (k0_off146 v1026) a + S1x1x128.size a ≤ S10000x1x128.size a)
theorem k0_off146_inb : ∀ (v1026 : BitVec 32) (k0_hw146 : k0_chk146 v1026), ∀ a, (k0_off146 v1026) a + S1x1x128.size a ≤ S10000x1x128.size a := fun v1026 k0_hw146 => k0_hw146

def k0_off147 (v1033 : BitVec 32) : Fin 3 → Nat :=
  let v1034 : Index := Scalar.indexCast v1033
  let c0_597 : Index := 0#32
  let c0_598 : Index := 0#32
  ![v1034.toNat, 0, 0]

def k0_chk147 (v1033 : BitVec 32) : Prop :=
  (∀ a, (k0_off147 v1033) a + S1x1x128.size a ≤ S25000x1x128.size a)
theorem k0_off147_inb : ∀ (v1033 : BitVec 32) (k0_hw147 : k0_chk147 v1033), ∀ a, (k0_off147 v1033) a + S1x1x128.size a ≤ S25000x1x128.size a := fun v1033 k0_hw147 => k0_hw147

def k0_off148 (v1040 : BitVec 32) : Fin 3 → Nat :=
  let v1041 : Index := Scalar.indexCast v1040
  let c0_601 : Index := 0#32
  let c0_602 : Index := 0#32
  ![v1041.toNat, 0, 0]

def k0_chk148 (v1040 : BitVec 32) : Prop :=
  (∀ a, (k0_off148 v1040) a + S1x1x128.size a ≤ S10000x1x128.size a)
theorem k0_off148_inb : ∀ (v1040 : BitVec 32) (k0_hw148 : k0_chk148 v1040), ∀ a, (k0_off148 v1040) a + S1x1x128.size a ≤ S10000x1x128.size a := fun v1040 k0_hw148 => k0_hw148

def k0_off149 (v1047 : BitVec 32) : Fin 3 → Nat :=
  let v1048 : Index := Scalar.indexCast v1047
  let c0_605 : Index := 0#32
  let c0_606 : Index := 0#32
  ![v1048.toNat, 0, 0]

def k0_chk149 (v1047 : BitVec 32) : Prop :=
  (∀ a, (k0_off149 v1047) a + S1x1x128.size a ≤ S25000x1x128.size a)
theorem k0_off149_inb : ∀ (v1047 : BitVec 32) (k0_hw149 : k0_chk149 v1047), ∀ a, (k0_off149 v1047) a + S1x1x128.size a ≤ S25000x1x128.size a := fun v1047 k0_hw149 => k0_hw149

def k0_off150 (v1054 : BitVec 32) : Fin 3 → Nat :=
  let v1055 : Index := Scalar.indexCast v1054
  let c0_609 : Index := 0#32
  let c0_610 : Index := 0#32
  ![v1055.toNat, 0, 0]

def k0_chk150 (v1054 : BitVec 32) : Prop :=
  (∀ a, (k0_off150 v1054) a + S1x1x128.size a ≤ S10000x1x128.size a)
theorem k0_off150_inb : ∀ (v1054 : BitVec 32) (k0_hw150 : k0_chk150 v1054), ∀ a, (k0_off150 v1054) a + S1x1x128.size a ≤ S10000x1x128.size a := fun v1054 k0_hw150 => k0_hw150

def k0_off151 (v1061 : BitVec 32) : Fin 3 → Nat :=
  let v1062 : Index := Scalar.indexCast v1061
  let c0_613 : Index := 0#32
  let c0_614 : Index := 0#32
  ![v1062.toNat, 0, 0]

def k0_chk151 (v1061 : BitVec 32) : Prop :=
  (∀ a, (k0_off151 v1061) a + S1x1x128.size a ≤ S25000x1x128.size a)
theorem k0_off151_inb : ∀ (v1061 : BitVec 32) (k0_hw151 : k0_chk151 v1061), ∀ a, (k0_off151 v1061) a + S1x1x128.size a ≤ S25000x1x128.size a := fun v1061 k0_hw151 => k0_hw151

def k0_off152 (v1068 : BitVec 32) : Fin 3 → Nat :=
  let v1069 : Index := Scalar.indexCast v1068
  let c0_617 : Index := 0#32
  let c0_618 : Index := 0#32
  ![v1069.toNat, 0, 0]

def k0_chk152 (v1068 : BitVec 32) : Prop :=
  (∀ a, (k0_off152 v1068) a + S1x1x128.size a ≤ S10000x1x128.size a)
theorem k0_off152_inb : ∀ (v1068 : BitVec 32) (k0_hw152 : k0_chk152 v1068), ∀ a, (k0_off152 v1068) a + S1x1x128.size a ≤ S10000x1x128.size a := fun v1068 k0_hw152 => k0_hw152

def k0_off153 (v1075 : BitVec 32) : Fin 3 → Nat :=
  let v1076 : Index := Scalar.indexCast v1075
  let c0_621 : Index := 0#32
  let c0_622 : Index := 0#32
  ![v1076.toNat, 0, 0]

def k0_chk153 (v1075 : BitVec 32) : Prop :=
  (∀ a, (k0_off153 v1075) a + S1x1x128.size a ≤ S25000x1x128.size a)
theorem k0_off153_inb : ∀ (v1075 : BitVec 32) (k0_hw153 : k0_chk153 v1075), ∀ a, (k0_off153 v1075) a + S1x1x128.size a ≤ S25000x1x128.size a := fun v1075 k0_hw153 => k0_hw153

def k0_off154 (v1082 : BitVec 32) : Fin 3 → Nat :=
  let v1083 : Index := Scalar.indexCast v1082
  let c0_625 : Index := 0#32
  let c0_626 : Index := 0#32
  ![v1083.toNat, 0, 0]

def k0_chk154 (v1082 : BitVec 32) : Prop :=
  (∀ a, (k0_off154 v1082) a + S1x1x128.size a ≤ S10000x1x128.size a)
theorem k0_off154_inb : ∀ (v1082 : BitVec 32) (k0_hw154 : k0_chk154 v1082), ∀ a, (k0_off154 v1082) a + S1x1x128.size a ≤ S10000x1x128.size a := fun v1082 k0_hw154 => k0_hw154

def k0_off155 (v1089 : BitVec 32) : Fin 3 → Nat :=
  let v1090 : Index := Scalar.indexCast v1089
  let c0_629 : Index := 0#32
  let c0_630 : Index := 0#32
  ![v1090.toNat, 0, 0]

def k0_chk155 (v1089 : BitVec 32) : Prop :=
  (∀ a, (k0_off155 v1089) a + S1x1x128.size a ≤ S25000x1x128.size a)
theorem k0_off155_inb : ∀ (v1089 : BitVec 32) (k0_hw155 : k0_chk155 v1089), ∀ a, (k0_off155 v1089) a + S1x1x128.size a ≤ S25000x1x128.size a := fun v1089 k0_hw155 => k0_hw155

def k0_off156 (v1096 : BitVec 32) : Fin 3 → Nat :=
  let v1097 : Index := Scalar.indexCast v1096
  let c0_633 : Index := 0#32
  let c0_634 : Index := 0#32
  ![v1097.toNat, 0, 0]

def k0_chk156 (v1096 : BitVec 32) : Prop :=
  (∀ a, (k0_off156 v1096) a + S1x1x128.size a ≤ S10000x1x128.size a)
theorem k0_off156_inb : ∀ (v1096 : BitVec 32) (k0_hw156 : k0_chk156 v1096), ∀ a, (k0_off156 v1096) a + S1x1x128.size a ≤ S10000x1x128.size a := fun v1096 k0_hw156 => k0_hw156

def k0_off157 (v1103 : BitVec 32) : Fin 3 → Nat :=
  let v1104 : Index := Scalar.indexCast v1103
  let c0_637 : Index := 0#32
  let c0_638 : Index := 0#32
  ![v1104.toNat, 0, 0]

def k0_chk157 (v1103 : BitVec 32) : Prop :=
  (∀ a, (k0_off157 v1103) a + S1x1x128.size a ≤ S25000x1x128.size a)
theorem k0_off157_inb : ∀ (v1103 : BitVec 32) (k0_hw157 : k0_chk157 v1103), ∀ a, (k0_off157 v1103) a + S1x1x128.size a ≤ S25000x1x128.size a := fun v1103 k0_hw157 => k0_hw157

def k0_off158 (v1110 : BitVec 32) : Fin 3 → Nat :=
  let v1111 : Index := Scalar.indexCast v1110
  let c0_641 : Index := 0#32
  let c0_642 : Index := 0#32
  ![v1111.toNat, 0, 0]

def k0_chk158 (v1110 : BitVec 32) : Prop :=
  (∀ a, (k0_off158 v1110) a + S1x1x128.size a ≤ S10000x1x128.size a)
theorem k0_off158_inb : ∀ (v1110 : BitVec 32) (k0_hw158 : k0_chk158 v1110), ∀ a, (k0_off158 v1110) a + S1x1x128.size a ≤ S10000x1x128.size a := fun v1110 k0_hw158 => k0_hw158

def k0_off159 (v1117 : BitVec 32) : Fin 3 → Nat :=
  let v1118 : Index := Scalar.indexCast v1117
  let c0_645 : Index := 0#32
  let c0_646 : Index := 0#32
  ![v1118.toNat, 0, 0]

def k0_chk159 (v1117 : BitVec 32) : Prop :=
  (∀ a, (k0_off159 v1117) a + S1x1x128.size a ≤ S25000x1x128.size a)
theorem k0_off159_inb : ∀ (v1117 : BitVec 32) (k0_hw159 : k0_chk159 v1117), ∀ a, (k0_off159 v1117) a + S1x1x128.size a ≤ S25000x1x128.size a := fun v1117 k0_hw159 => k0_hw159

def k0_off160 (v1124 : BitVec 32) : Fin 3 → Nat :=
  let v1125 : Index := Scalar.indexCast v1124
  let c0_649 : Index := 0#32
  let c0_650 : Index := 0#32
  ![v1125.toNat, 0, 0]

def k0_chk160 (v1124 : BitVec 32) : Prop :=
  (∀ a, (k0_off160 v1124) a + S1x1x128.size a ≤ S10000x1x128.size a)
theorem k0_off160_inb : ∀ (v1124 : BitVec 32) (k0_hw160 : k0_chk160 v1124), ∀ a, (k0_off160 v1124) a + S1x1x128.size a ≤ S10000x1x128.size a := fun v1124 k0_hw160 => k0_hw160

def k0_off161 (v1131 : BitVec 32) : Fin 3 → Nat :=
  let v1132 : Index := Scalar.indexCast v1131
  let c0_653 : Index := 0#32
  let c0_654 : Index := 0#32
  ![v1132.toNat, 0, 0]

def k0_chk161 (v1131 : BitVec 32) : Prop :=
  (∀ a, (k0_off161 v1131) a + S1x1x128.size a ≤ S25000x1x128.size a)
theorem k0_off161_inb : ∀ (v1131 : BitVec 32) (k0_hw161 : k0_chk161 v1131), ∀ a, (k0_off161 v1131) a + S1x1x128.size a ≤ S25000x1x128.size a := fun v1131 k0_hw161 => k0_hw161

def k0_off162 (v1138 : BitVec 32) : Fin 3 → Nat :=
  let v1139 : Index := Scalar.indexCast v1138
  let c0_657 : Index := 0#32
  let c0_658 : Index := 0#32
  ![v1139.toNat, 0, 0]

def k0_chk162 (v1138 : BitVec 32) : Prop :=
  (∀ a, (k0_off162 v1138) a + S1x1x128.size a ≤ S10000x1x128.size a)
theorem k0_off162_inb : ∀ (v1138 : BitVec 32) (k0_hw162 : k0_chk162 v1138), ∀ a, (k0_off162 v1138) a + S1x1x128.size a ≤ S10000x1x128.size a := fun v1138 k0_hw162 => k0_hw162

def k0_off163 (v1145 : BitVec 32) : Fin 3 → Nat :=
  let v1146 : Index := Scalar.indexCast v1145
  let c0_661 : Index := 0#32
  let c0_662 : Index := 0#32
  ![v1146.toNat, 0, 0]

def k0_chk163 (v1145 : BitVec 32) : Prop :=
  (∀ a, (k0_off163 v1145) a + S1x1x128.size a ≤ S25000x1x128.size a)
theorem k0_off163_inb : ∀ (v1145 : BitVec 32) (k0_hw163 : k0_chk163 v1145), ∀ a, (k0_off163 v1145) a + S1x1x128.size a ≤ S25000x1x128.size a := fun v1145 k0_hw163 => k0_hw163

def k0_off164 (v1152 : BitVec 32) : Fin 3 → Nat :=
  let v1153 : Index := Scalar.indexCast v1152
  let c0_665 : Index := 0#32
  let c0_666 : Index := 0#32
  ![v1153.toNat, 0, 0]

def k0_chk164 (v1152 : BitVec 32) : Prop :=
  (∀ a, (k0_off164 v1152) a + S1x1x128.size a ≤ S10000x1x128.size a)
theorem k0_off164_inb : ∀ (v1152 : BitVec 32) (k0_hw164 : k0_chk164 v1152), ∀ a, (k0_off164 v1152) a + S1x1x128.size a ≤ S10000x1x128.size a := fun v1152 k0_hw164 => k0_hw164

def k0_off165 (v1159 : BitVec 32) : Fin 3 → Nat :=
  let v1160 : Index := Scalar.indexCast v1159
  let c0_669 : Index := 0#32
  let c0_670 : Index := 0#32
  ![v1160.toNat, 0, 0]

def k0_chk165 (v1159 : BitVec 32) : Prop :=
  (∀ a, (k0_off165 v1159) a + S1x1x128.size a ≤ S25000x1x128.size a)
theorem k0_off165_inb : ∀ (v1159 : BitVec 32) (k0_hw165 : k0_chk165 v1159), ∀ a, (k0_off165 v1159) a + S1x1x128.size a ≤ S25000x1x128.size a := fun v1159 k0_hw165 => k0_hw165

def k0_off166 (v1166 : BitVec 32) : Fin 3 → Nat :=
  let v1167 : Index := Scalar.indexCast v1166
  let c0_673 : Index := 0#32
  let c0_674 : Index := 0#32
  ![v1167.toNat, 0, 0]

def k0_chk166 (v1166 : BitVec 32) : Prop :=
  (∀ a, (k0_off166 v1166) a + S1x1x128.size a ≤ S10000x1x128.size a)
theorem k0_off166_inb : ∀ (v1166 : BitVec 32) (k0_hw166 : k0_chk166 v1166), ∀ a, (k0_off166 v1166) a + S1x1x128.size a ≤ S10000x1x128.size a := fun v1166 k0_hw166 => k0_hw166

def k0_off167 (v1173 : BitVec 32) : Fin 3 → Nat :=
  let v1174 : Index := Scalar.indexCast v1173
  let c0_677 : Index := 0#32
  let c0_678 : Index := 0#32
  ![v1174.toNat, 0, 0]

def k0_chk167 (v1173 : BitVec 32) : Prop :=
  (∀ a, (k0_off167 v1173) a + S1x1x128.size a ≤ S25000x1x128.size a)
theorem k0_off167_inb : ∀ (v1173 : BitVec 32) (k0_hw167 : k0_chk167 v1173), ∀ a, (k0_off167 v1173) a + S1x1x128.size a ≤ S25000x1x128.size a := fun v1173 k0_hw167 => k0_hw167

def k0_off168 (v1180 : BitVec 32) : Fin 3 → Nat :=
  let v1181 : Index := Scalar.indexCast v1180
  let c0_681 : Index := 0#32
  let c0_682 : Index := 0#32
  ![v1181.toNat, 0, 0]

def k0_chk168 (v1180 : BitVec 32) : Prop :=
  (∀ a, (k0_off168 v1180) a + S1x1x128.size a ≤ S10000x1x128.size a)
theorem k0_off168_inb : ∀ (v1180 : BitVec 32) (k0_hw168 : k0_chk168 v1180), ∀ a, (k0_off168 v1180) a + S1x1x128.size a ≤ S10000x1x128.size a := fun v1180 k0_hw168 => k0_hw168

def k0_off169 (v1187 : BitVec 32) : Fin 3 → Nat :=
  let v1188 : Index := Scalar.indexCast v1187
  let c0_685 : Index := 0#32
  let c0_686 : Index := 0#32
  ![v1188.toNat, 0, 0]

def k0_chk169 (v1187 : BitVec 32) : Prop :=
  (∀ a, (k0_off169 v1187) a + S1x1x128.size a ≤ S25000x1x128.size a)
theorem k0_off169_inb : ∀ (v1187 : BitVec 32) (k0_hw169 : k0_chk169 v1187), ∀ a, (k0_off169 v1187) a + S1x1x128.size a ≤ S25000x1x128.size a := fun v1187 k0_hw169 => k0_hw169

def k0_off170 (v1194 : BitVec 32) : Fin 3 → Nat :=
  let v1195 : Index := Scalar.indexCast v1194
  let c0_689 : Index := 0#32
  let c0_690 : Index := 0#32
  ![v1195.toNat, 0, 0]

def k0_chk170 (v1194 : BitVec 32) : Prop :=
  (∀ a, (k0_off170 v1194) a + S1x1x128.size a ≤ S10000x1x128.size a)
theorem k0_off170_inb : ∀ (v1194 : BitVec 32) (k0_hw170 : k0_chk170 v1194), ∀ a, (k0_off170 v1194) a + S1x1x128.size a ≤ S10000x1x128.size a := fun v1194 k0_hw170 => k0_hw170

def k0_off171 (v1201 : BitVec 32) : Fin 3 → Nat :=
  let v1202 : Index := Scalar.indexCast v1201
  let c0_693 : Index := 0#32
  let c0_694 : Index := 0#32
  ![v1202.toNat, 0, 0]

def k0_chk171 (v1201 : BitVec 32) : Prop :=
  (∀ a, (k0_off171 v1201) a + S1x1x128.size a ≤ S25000x1x128.size a)
theorem k0_off171_inb : ∀ (v1201 : BitVec 32) (k0_hw171 : k0_chk171 v1201), ∀ a, (k0_off171 v1201) a + S1x1x128.size a ≤ S25000x1x128.size a := fun v1201 k0_hw171 => k0_hw171

def k0_off172 (v1208 : BitVec 32) : Fin 3 → Nat :=
  let v1209 : Index := Scalar.indexCast v1208
  let c0_697 : Index := 0#32
  let c0_698 : Index := 0#32
  ![v1209.toNat, 0, 0]

def k0_chk172 (v1208 : BitVec 32) : Prop :=
  (∀ a, (k0_off172 v1208) a + S1x1x128.size a ≤ S10000x1x128.size a)
theorem k0_off172_inb : ∀ (v1208 : BitVec 32) (k0_hw172 : k0_chk172 v1208), ∀ a, (k0_off172 v1208) a + S1x1x128.size a ≤ S10000x1x128.size a := fun v1208 k0_hw172 => k0_hw172

def k0_off173 (v1215 : BitVec 32) : Fin 3 → Nat :=
  let v1216 : Index := Scalar.indexCast v1215
  let c0_701 : Index := 0#32
  let c0_702 : Index := 0#32
  ![v1216.toNat, 0, 0]

def k0_chk173 (v1215 : BitVec 32) : Prop :=
  (∀ a, (k0_off173 v1215) a + S1x1x128.size a ≤ S25000x1x128.size a)
theorem k0_off173_inb : ∀ (v1215 : BitVec 32) (k0_hw173 : k0_chk173 v1215), ∀ a, (k0_off173 v1215) a + S1x1x128.size a ≤ S25000x1x128.size a := fun v1215 k0_hw173 => k0_hw173

def k0_off174 (v1222 : BitVec 32) : Fin 3 → Nat :=
  let v1223 : Index := Scalar.indexCast v1222
  let c0_705 : Index := 0#32
  let c0_706 : Index := 0#32
  ![v1223.toNat, 0, 0]

def k0_chk174 (v1222 : BitVec 32) : Prop :=
  (∀ a, (k0_off174 v1222) a + S1x1x128.size a ≤ S10000x1x128.size a)
theorem k0_off174_inb : ∀ (v1222 : BitVec 32) (k0_hw174 : k0_chk174 v1222), ∀ a, (k0_off174 v1222) a + S1x1x128.size a ≤ S10000x1x128.size a := fun v1222 k0_hw174 => k0_hw174

def k0_off175 (v1229 : BitVec 32) : Fin 3 → Nat :=
  let v1230 : Index := Scalar.indexCast v1229
  let c0_709 : Index := 0#32
  let c0_710 : Index := 0#32
  ![v1230.toNat, 0, 0]

def k0_chk175 (v1229 : BitVec 32) : Prop :=
  (∀ a, (k0_off175 v1229) a + S1x1x128.size a ≤ S25000x1x128.size a)
theorem k0_off175_inb : ∀ (v1229 : BitVec 32) (k0_hw175 : k0_chk175 v1229), ∀ a, (k0_off175 v1229) a + S1x1x128.size a ≤ S25000x1x128.size a := fun v1229 k0_hw175 => k0_hw175

def k0_off176 (v1236 : BitVec 32) : Fin 3 → Nat :=
  let v1237 : Index := Scalar.indexCast v1236
  let c0_713 : Index := 0#32
  let c0_714 : Index := 0#32
  ![v1237.toNat, 0, 0]

def k0_chk176 (v1236 : BitVec 32) : Prop :=
  (∀ a, (k0_off176 v1236) a + S1x1x128.size a ≤ S10000x1x128.size a)
theorem k0_off176_inb : ∀ (v1236 : BitVec 32) (k0_hw176 : k0_chk176 v1236), ∀ a, (k0_off176 v1236) a + S1x1x128.size a ≤ S10000x1x128.size a := fun v1236 k0_hw176 => k0_hw176

def k0_off177 (v1243 : BitVec 32) : Fin 3 → Nat :=
  let v1244 : Index := Scalar.indexCast v1243
  let c0_717 : Index := 0#32
  let c0_718 : Index := 0#32
  ![v1244.toNat, 0, 0]

def k0_chk177 (v1243 : BitVec 32) : Prop :=
  (∀ a, (k0_off177 v1243) a + S1x1x128.size a ≤ S25000x1x128.size a)
theorem k0_off177_inb : ∀ (v1243 : BitVec 32) (k0_hw177 : k0_chk177 v1243), ∀ a, (k0_off177 v1243) a + S1x1x128.size a ≤ S25000x1x128.size a := fun v1243 k0_hw177 => k0_hw177

def k0_off178 (v1250 : BitVec 32) : Fin 3 → Nat :=
  let v1251 : Index := Scalar.indexCast v1250
  let c0_721 : Index := 0#32
  let c0_722 : Index := 0#32
  ![v1251.toNat, 0, 0]

def k0_chk178 (v1250 : BitVec 32) : Prop :=
  (∀ a, (k0_off178 v1250) a + S1x1x128.size a ≤ S10000x1x128.size a)
theorem k0_off178_inb : ∀ (v1250 : BitVec 32) (k0_hw178 : k0_chk178 v1250), ∀ a, (k0_off178 v1250) a + S1x1x128.size a ≤ S10000x1x128.size a := fun v1250 k0_hw178 => k0_hw178

def k0_off179 (v1257 : BitVec 32) : Fin 3 → Nat :=
  let v1258 : Index := Scalar.indexCast v1257
  let c0_725 : Index := 0#32
  let c0_726 : Index := 0#32
  ![v1258.toNat, 0, 0]

def k0_chk179 (v1257 : BitVec 32) : Prop :=
  (∀ a, (k0_off179 v1257) a + S1x1x128.size a ≤ S25000x1x128.size a)
theorem k0_off179_inb : ∀ (v1257 : BitVec 32) (k0_hw179 : k0_chk179 v1257), ∀ a, (k0_off179 v1257) a + S1x1x128.size a ≤ S25000x1x128.size a := fun v1257 k0_hw179 => k0_hw179

def k0_off180 (v1264 : BitVec 32) : Fin 3 → Nat :=
  let v1265 : Index := Scalar.indexCast v1264
  let c0_729 : Index := 0#32
  let c0_730 : Index := 0#32
  ![v1265.toNat, 0, 0]

def k0_chk180 (v1264 : BitVec 32) : Prop :=
  (∀ a, (k0_off180 v1264) a + S1x1x128.size a ≤ S10000x1x128.size a)
theorem k0_off180_inb : ∀ (v1264 : BitVec 32) (k0_hw180 : k0_chk180 v1264), ∀ a, (k0_off180 v1264) a + S1x1x128.size a ≤ S10000x1x128.size a := fun v1264 k0_hw180 => k0_hw180

def k0_off181 (v1271 : BitVec 32) : Fin 3 → Nat :=
  let v1272 : Index := Scalar.indexCast v1271
  let c0_733 : Index := 0#32
  let c0_734 : Index := 0#32
  ![v1272.toNat, 0, 0]

def k0_chk181 (v1271 : BitVec 32) : Prop :=
  (∀ a, (k0_off181 v1271) a + S1x1x128.size a ≤ S25000x1x128.size a)
theorem k0_off181_inb : ∀ (v1271 : BitVec 32) (k0_hw181 : k0_chk181 v1271), ∀ a, (k0_off181 v1271) a + S1x1x128.size a ≤ S25000x1x128.size a := fun v1271 k0_hw181 => k0_hw181

def k0_off182 (v1278 : BitVec 32) : Fin 3 → Nat :=
  let v1279 : Index := Scalar.indexCast v1278
  let c0_737 : Index := 0#32
  let c0_738 : Index := 0#32
  ![v1279.toNat, 0, 0]

def k0_chk182 (v1278 : BitVec 32) : Prop :=
  (∀ a, (k0_off182 v1278) a + S1x1x128.size a ≤ S10000x1x128.size a)
theorem k0_off182_inb : ∀ (v1278 : BitVec 32) (k0_hw182 : k0_chk182 v1278), ∀ a, (k0_off182 v1278) a + S1x1x128.size a ≤ S10000x1x128.size a := fun v1278 k0_hw182 => k0_hw182

def k0_off183 (v1285 : BitVec 32) : Fin 3 → Nat :=
  let v1286 : Index := Scalar.indexCast v1285
  let c0_741 : Index := 0#32
  let c0_742 : Index := 0#32
  ![v1286.toNat, 0, 0]

def k0_chk183 (v1285 : BitVec 32) : Prop :=
  (∀ a, (k0_off183 v1285) a + S1x1x128.size a ≤ S25000x1x128.size a)
theorem k0_off183_inb : ∀ (v1285 : BitVec 32) (k0_hw183 : k0_chk183 v1285), ∀ a, (k0_off183 v1285) a + S1x1x128.size a ≤ S25000x1x128.size a := fun v1285 k0_hw183 => k0_hw183

def k0_off184 (v1292 : BitVec 32) : Fin 3 → Nat :=
  let v1293 : Index := Scalar.indexCast v1292
  let c0_745 : Index := 0#32
  let c0_746 : Index := 0#32
  ![v1293.toNat, 0, 0]

def k0_chk184 (v1292 : BitVec 32) : Prop :=
  (∀ a, (k0_off184 v1292) a + S1x1x128.size a ≤ S10000x1x128.size a)
theorem k0_off184_inb : ∀ (v1292 : BitVec 32) (k0_hw184 : k0_chk184 v1292), ∀ a, (k0_off184 v1292) a + S1x1x128.size a ≤ S10000x1x128.size a := fun v1292 k0_hw184 => k0_hw184

def k0_off185 (v1299 : BitVec 32) : Fin 3 → Nat :=
  let v1300 : Index := Scalar.indexCast v1299
  let c0_749 : Index := 0#32
  let c0_750 : Index := 0#32
  ![v1300.toNat, 0, 0]

def k0_chk185 (v1299 : BitVec 32) : Prop :=
  (∀ a, (k0_off185 v1299) a + S1x1x128.size a ≤ S25000x1x128.size a)
theorem k0_off185_inb : ∀ (v1299 : BitVec 32) (k0_hw185 : k0_chk185 v1299), ∀ a, (k0_off185 v1299) a + S1x1x128.size a ≤ S25000x1x128.size a := fun v1299 k0_hw185 => k0_hw185

def k0_off186 (v1306 : BitVec 32) : Fin 3 → Nat :=
  let v1307 : Index := Scalar.indexCast v1306
  let c0_753 : Index := 0#32
  let c0_754 : Index := 0#32
  ![v1307.toNat, 0, 0]

def k0_chk186 (v1306 : BitVec 32) : Prop :=
  (∀ a, (k0_off186 v1306) a + S1x1x128.size a ≤ S10000x1x128.size a)
theorem k0_off186_inb : ∀ (v1306 : BitVec 32) (k0_hw186 : k0_chk186 v1306), ∀ a, (k0_off186 v1306) a + S1x1x128.size a ≤ S10000x1x128.size a := fun v1306 k0_hw186 => k0_hw186

def k0_off187 (v1313 : BitVec 32) : Fin 3 → Nat :=
  let v1314 : Index := Scalar.indexCast v1313
  let c0_757 : Index := 0#32
  let c0_758 : Index := 0#32
  ![v1314.toNat, 0, 0]

def k0_chk187 (v1313 : BitVec 32) : Prop :=
  (∀ a, (k0_off187 v1313) a + S1x1x128.size a ≤ S25000x1x128.size a)
theorem k0_off187_inb : ∀ (v1313 : BitVec 32) (k0_hw187 : k0_chk187 v1313), ∀ a, (k0_off187 v1313) a + S1x1x128.size a ≤ S25000x1x128.size a := fun v1313 k0_hw187 => k0_hw187

def k0_off188 (v1320 : BitVec 32) : Fin 3 → Nat :=
  let v1321 : Index := Scalar.indexCast v1320
  let c0_761 : Index := 0#32
  let c0_762 : Index := 0#32
  ![v1321.toNat, 0, 0]

def k0_chk188 (v1320 : BitVec 32) : Prop :=
  (∀ a, (k0_off188 v1320) a + S1x1x128.size a ≤ S10000x1x128.size a)
theorem k0_off188_inb : ∀ (v1320 : BitVec 32) (k0_hw188 : k0_chk188 v1320), ∀ a, (k0_off188 v1320) a + S1x1x128.size a ≤ S10000x1x128.size a := fun v1320 k0_hw188 => k0_hw188

def k0_off189 (v1327 : BitVec 32) : Fin 3 → Nat :=
  let v1328 : Index := Scalar.indexCast v1327
  let c0_765 : Index := 0#32
  let c0_766 : Index := 0#32
  ![v1328.toNat, 0, 0]

def k0_chk189 (v1327 : BitVec 32) : Prop :=
  (∀ a, (k0_off189 v1327) a + S1x1x128.size a ≤ S25000x1x128.size a)
theorem k0_off189_inb : ∀ (v1327 : BitVec 32) (k0_hw189 : k0_chk189 v1327), ∀ a, (k0_off189 v1327) a + S1x1x128.size a ≤ S25000x1x128.size a := fun v1327 k0_hw189 => k0_hw189

def k0_off190 (v1334 : BitVec 32) : Fin 3 → Nat :=
  let v1335 : Index := Scalar.indexCast v1334
  let c0_769 : Index := 0#32
  let c0_770 : Index := 0#32
  ![v1335.toNat, 0, 0]

def k0_chk190 (v1334 : BitVec 32) : Prop :=
  (∀ a, (k0_off190 v1334) a + S1x1x128.size a ≤ S10000x1x128.size a)
theorem k0_off190_inb : ∀ (v1334 : BitVec 32) (k0_hw190 : k0_chk190 v1334), ∀ a, (k0_off190 v1334) a + S1x1x128.size a ≤ S10000x1x128.size a := fun v1334 k0_hw190 => k0_hw190

def k0_off191 (v1341 : BitVec 32) : Fin 3 → Nat :=
  let v1342 : Index := Scalar.indexCast v1341
  let c0_773 : Index := 0#32
  let c0_774 : Index := 0#32
  ![v1342.toNat, 0, 0]

def k0_chk191 (v1341 : BitVec 32) : Prop :=
  (∀ a, (k0_off191 v1341) a + S1x1x128.size a ≤ S25000x1x128.size a)
theorem k0_off191_inb : ∀ (v1341 : BitVec 32) (k0_hw191 : k0_chk191 v1341), ∀ a, (k0_off191 v1341) a + S1x1x128.size a ≤ S25000x1x128.size a := fun v1341 k0_hw191 => k0_hw191

def k0_off192 (v1348 : BitVec 32) : Fin 3 → Nat :=
  let v1349 : Index := Scalar.indexCast v1348
  let c0_777 : Index := 0#32
  let c0_778 : Index := 0#32
  ![v1349.toNat, 0, 0]

def k0_chk192 (v1348 : BitVec 32) : Prop :=
  (∀ a, (k0_off192 v1348) a + S1x1x128.size a ≤ S10000x1x128.size a)
theorem k0_off192_inb : ∀ (v1348 : BitVec 32) (k0_hw192 : k0_chk192 v1348), ∀ a, (k0_off192 v1348) a + S1x1x128.size a ≤ S10000x1x128.size a := fun v1348 k0_hw192 => k0_hw192

def k0_off193 (v1355 : BitVec 32) : Fin 3 → Nat :=
  let v1356 : Index := Scalar.indexCast v1355
  let c0_781 : Index := 0#32
  let c0_782 : Index := 0#32
  ![v1356.toNat, 0, 0]

def k0_chk193 (v1355 : BitVec 32) : Prop :=
  (∀ a, (k0_off193 v1355) a + S1x1x128.size a ≤ S25000x1x128.size a)
theorem k0_off193_inb : ∀ (v1355 : BitVec 32) (k0_hw193 : k0_chk193 v1355), ∀ a, (k0_off193 v1355) a + S1x1x128.size a ≤ S25000x1x128.size a := fun v1355 k0_hw193 => k0_hw193

def k0_off194 (v1362 : BitVec 32) : Fin 3 → Nat :=
  let v1363 : Index := Scalar.indexCast v1362
  let c0_785 : Index := 0#32
  let c0_786 : Index := 0#32
  ![v1363.toNat, 0, 0]

def k0_chk194 (v1362 : BitVec 32) : Prop :=
  (∀ a, (k0_off194 v1362) a + S1x1x128.size a ≤ S10000x1x128.size a)
theorem k0_off194_inb : ∀ (v1362 : BitVec 32) (k0_hw194 : k0_chk194 v1362), ∀ a, (k0_off194 v1362) a + S1x1x128.size a ≤ S10000x1x128.size a := fun v1362 k0_hw194 => k0_hw194

def k0_off195 (v1369 : BitVec 32) : Fin 3 → Nat :=
  let v1370 : Index := Scalar.indexCast v1369
  let c0_789 : Index := 0#32
  let c0_790 : Index := 0#32
  ![v1370.toNat, 0, 0]

def k0_chk195 (v1369 : BitVec 32) : Prop :=
  (∀ a, (k0_off195 v1369) a + S1x1x128.size a ≤ S25000x1x128.size a)
theorem k0_off195_inb : ∀ (v1369 : BitVec 32) (k0_hw195 : k0_chk195 v1369), ∀ a, (k0_off195 v1369) a + S1x1x128.size a ≤ S25000x1x128.size a := fun v1369 k0_hw195 => k0_hw195

def k0_off196 (v1376 : BitVec 32) : Fin 3 → Nat :=
  let v1377 : Index := Scalar.indexCast v1376
  let c0_793 : Index := 0#32
  let c0_794 : Index := 0#32
  ![v1377.toNat, 0, 0]

def k0_chk196 (v1376 : BitVec 32) : Prop :=
  (∀ a, (k0_off196 v1376) a + S1x1x128.size a ≤ S10000x1x128.size a)
theorem k0_off196_inb : ∀ (v1376 : BitVec 32) (k0_hw196 : k0_chk196 v1376), ∀ a, (k0_off196 v1376) a + S1x1x128.size a ≤ S10000x1x128.size a := fun v1376 k0_hw196 => k0_hw196

def k0_off197 (v1383 : BitVec 32) : Fin 3 → Nat :=
  let v1384 : Index := Scalar.indexCast v1383
  let c0_797 : Index := 0#32
  let c0_798 : Index := 0#32
  ![v1384.toNat, 0, 0]

def k0_chk197 (v1383 : BitVec 32) : Prop :=
  (∀ a, (k0_off197 v1383) a + S1x1x128.size a ≤ S25000x1x128.size a)
theorem k0_off197_inb : ∀ (v1383 : BitVec 32) (k0_hw197 : k0_chk197 v1383), ∀ a, (k0_off197 v1383) a + S1x1x128.size a ≤ S25000x1x128.size a := fun v1383 k0_hw197 => k0_hw197

def k0_off198 (v1390 : BitVec 32) : Fin 3 → Nat :=
  let v1391 : Index := Scalar.indexCast v1390
  let c0_801 : Index := 0#32
  let c0_802 : Index := 0#32
  ![v1391.toNat, 0, 0]

def k0_chk198 (v1390 : BitVec 32) : Prop :=
  (∀ a, (k0_off198 v1390) a + S1x1x128.size a ≤ S10000x1x128.size a)
theorem k0_off198_inb : ∀ (v1390 : BitVec 32) (k0_hw198 : k0_chk198 v1390), ∀ a, (k0_off198 v1390) a + S1x1x128.size a ≤ S10000x1x128.size a := fun v1390 k0_hw198 => k0_hw198

def k0_off199 (v1397 : BitVec 32) : Fin 3 → Nat :=
  let v1398 : Index := Scalar.indexCast v1397
  let c0_805 : Index := 0#32
  let c0_806 : Index := 0#32
  ![v1398.toNat, 0, 0]

def k0_chk199 (v1397 : BitVec 32) : Prop :=
  (∀ a, (k0_off199 v1397) a + S1x1x128.size a ≤ S25000x1x128.size a)
theorem k0_off199_inb : ∀ (v1397 : BitVec 32) (k0_hw199 : k0_chk199 v1397), ∀ a, (k0_off199 v1397) a + S1x1x128.size a ≤ S25000x1x128.size a := fun v1397 k0_hw199 => k0_hw199

def k0_off200 (v1404 : BitVec 32) : Fin 3 → Nat :=
  let v1405 : Index := Scalar.indexCast v1404
  let c0_809 : Index := 0#32
  let c0_810 : Index := 0#32
  ![v1405.toNat, 0, 0]

def k0_chk200 (v1404 : BitVec 32) : Prop :=
  (∀ a, (k0_off200 v1404) a + S1x1x128.size a ≤ S10000x1x128.size a)
theorem k0_off200_inb : ∀ (v1404 : BitVec 32) (k0_hw200 : k0_chk200 v1404), ∀ a, (k0_off200 v1404) a + S1x1x128.size a ≤ S10000x1x128.size a := fun v1404 k0_hw200 => k0_hw200

def k0_off201 (v1411 : BitVec 32) : Fin 3 → Nat :=
  let v1412 : Index := Scalar.indexCast v1411
  let c0_813 : Index := 0#32
  let c0_814 : Index := 0#32
  ![v1412.toNat, 0, 0]

def k0_chk201 (v1411 : BitVec 32) : Prop :=
  (∀ a, (k0_off201 v1411) a + S1x1x128.size a ≤ S25000x1x128.size a)
theorem k0_off201_inb : ∀ (v1411 : BitVec 32) (k0_hw201 : k0_chk201 v1411), ∀ a, (k0_off201 v1411) a + S1x1x128.size a ≤ S25000x1x128.size a := fun v1411 k0_hw201 => k0_hw201

def k0_off202 (v1418 : BitVec 32) : Fin 3 → Nat :=
  let v1419 : Index := Scalar.indexCast v1418
  let c0_817 : Index := 0#32
  let c0_818 : Index := 0#32
  ![v1419.toNat, 0, 0]

def k0_chk202 (v1418 : BitVec 32) : Prop :=
  (∀ a, (k0_off202 v1418) a + S1x1x128.size a ≤ S10000x1x128.size a)
theorem k0_off202_inb : ∀ (v1418 : BitVec 32) (k0_hw202 : k0_chk202 v1418), ∀ a, (k0_off202 v1418) a + S1x1x128.size a ≤ S10000x1x128.size a := fun v1418 k0_hw202 => k0_hw202

def k0_off203 (v1425 : BitVec 32) : Fin 3 → Nat :=
  let v1426 : Index := Scalar.indexCast v1425
  let c0_821 : Index := 0#32
  let c0_822 : Index := 0#32
  ![v1426.toNat, 0, 0]

def k0_chk203 (v1425 : BitVec 32) : Prop :=
  (∀ a, (k0_off203 v1425) a + S1x1x128.size a ≤ S25000x1x128.size a)
theorem k0_off203_inb : ∀ (v1425 : BitVec 32) (k0_hw203 : k0_chk203 v1425), ∀ a, (k0_off203 v1425) a + S1x1x128.size a ≤ S25000x1x128.size a := fun v1425 k0_hw203 => k0_hw203

def k0_off204 (v1432 : BitVec 32) : Fin 3 → Nat :=
  let v1433 : Index := Scalar.indexCast v1432
  let c0_825 : Index := 0#32
  let c0_826 : Index := 0#32
  ![v1433.toNat, 0, 0]

def k0_chk204 (v1432 : BitVec 32) : Prop :=
  (∀ a, (k0_off204 v1432) a + S1x1x128.size a ≤ S10000x1x128.size a)
theorem k0_off204_inb : ∀ (v1432 : BitVec 32) (k0_hw204 : k0_chk204 v1432), ∀ a, (k0_off204 v1432) a + S1x1x128.size a ≤ S10000x1x128.size a := fun v1432 k0_hw204 => k0_hw204

def k0_off205 (v1439 : BitVec 32) : Fin 3 → Nat :=
  let v1440 : Index := Scalar.indexCast v1439
  let c0_829 : Index := 0#32
  let c0_830 : Index := 0#32
  ![v1440.toNat, 0, 0]

def k0_chk205 (v1439 : BitVec 32) : Prop :=
  (∀ a, (k0_off205 v1439) a + S1x1x128.size a ≤ S25000x1x128.size a)
theorem k0_off205_inb : ∀ (v1439 : BitVec 32) (k0_hw205 : k0_chk205 v1439), ∀ a, (k0_off205 v1439) a + S1x1x128.size a ≤ S25000x1x128.size a := fun v1439 k0_hw205 => k0_hw205

def k0_off206 (v1446 : BitVec 32) : Fin 3 → Nat :=
  let v1447 : Index := Scalar.indexCast v1446
  let c0_833 : Index := 0#32
  let c0_834 : Index := 0#32
  ![v1447.toNat, 0, 0]

def k0_chk206 (v1446 : BitVec 32) : Prop :=
  (∀ a, (k0_off206 v1446) a + S1x1x128.size a ≤ S10000x1x128.size a)
theorem k0_off206_inb : ∀ (v1446 : BitVec 32) (k0_hw206 : k0_chk206 v1446), ∀ a, (k0_off206 v1446) a + S1x1x128.size a ≤ S10000x1x128.size a := fun v1446 k0_hw206 => k0_hw206

def k0_off207 (v1453 : BitVec 32) : Fin 3 → Nat :=
  let v1454 : Index := Scalar.indexCast v1453
  let c0_837 : Index := 0#32
  let c0_838 : Index := 0#32
  ![v1454.toNat, 0, 0]

def k0_chk207 (v1453 : BitVec 32) : Prop :=
  (∀ a, (k0_off207 v1453) a + S1x1x128.size a ≤ S25000x1x128.size a)
theorem k0_off207_inb : ∀ (v1453 : BitVec 32) (k0_hw207 : k0_chk207 v1453), ∀ a, (k0_off207 v1453) a + S1x1x128.size a ≤ S25000x1x128.size a := fun v1453 k0_hw207 => k0_hw207

def k0_off208 (v1460 : BitVec 32) : Fin 3 → Nat :=
  let v1461 : Index := Scalar.indexCast v1460
  let c0_841 : Index := 0#32
  let c0_842 : Index := 0#32
  ![v1461.toNat, 0, 0]

def k0_chk208 (v1460 : BitVec 32) : Prop :=
  (∀ a, (k0_off208 v1460) a + S1x1x128.size a ≤ S10000x1x128.size a)
theorem k0_off208_inb : ∀ (v1460 : BitVec 32) (k0_hw208 : k0_chk208 v1460), ∀ a, (k0_off208 v1460) a + S1x1x128.size a ≤ S10000x1x128.size a := fun v1460 k0_hw208 => k0_hw208

def k0_off209 (v1467 : BitVec 32) : Fin 3 → Nat :=
  let v1468 : Index := Scalar.indexCast v1467
  let c0_845 : Index := 0#32
  let c0_846 : Index := 0#32
  ![v1468.toNat, 0, 0]

def k0_chk209 (v1467 : BitVec 32) : Prop :=
  (∀ a, (k0_off209 v1467) a + S1x1x128.size a ≤ S25000x1x128.size a)
theorem k0_off209_inb : ∀ (v1467 : BitVec 32) (k0_hw209 : k0_chk209 v1467), ∀ a, (k0_off209 v1467) a + S1x1x128.size a ≤ S25000x1x128.size a := fun v1467 k0_hw209 => k0_hw209

def k0_off210 (v1474 : BitVec 32) : Fin 3 → Nat :=
  let v1475 : Index := Scalar.indexCast v1474
  let c0_849 : Index := 0#32
  let c0_850 : Index := 0#32
  ![v1475.toNat, 0, 0]

def k0_chk210 (v1474 : BitVec 32) : Prop :=
  (∀ a, (k0_off210 v1474) a + S1x1x128.size a ≤ S10000x1x128.size a)
theorem k0_off210_inb : ∀ (v1474 : BitVec 32) (k0_hw210 : k0_chk210 v1474), ∀ a, (k0_off210 v1474) a + S1x1x128.size a ≤ S10000x1x128.size a := fun v1474 k0_hw210 => k0_hw210

def k0_off211 (v1481 : BitVec 32) : Fin 3 → Nat :=
  let v1482 : Index := Scalar.indexCast v1481
  let c0_853 : Index := 0#32
  let c0_854 : Index := 0#32
  ![v1482.toNat, 0, 0]

def k0_chk211 (v1481 : BitVec 32) : Prop :=
  (∀ a, (k0_off211 v1481) a + S1x1x128.size a ≤ S25000x1x128.size a)
theorem k0_off211_inb : ∀ (v1481 : BitVec 32) (k0_hw211 : k0_chk211 v1481), ∀ a, (k0_off211 v1481) a + S1x1x128.size a ≤ S25000x1x128.size a := fun v1481 k0_hw211 => k0_hw211

def k0_off212 (v1488 : BitVec 32) : Fin 3 → Nat :=
  let v1489 : Index := Scalar.indexCast v1488
  let c0_857 : Index := 0#32
  let c0_858 : Index := 0#32
  ![v1489.toNat, 0, 0]

def k0_chk212 (v1488 : BitVec 32) : Prop :=
  (∀ a, (k0_off212 v1488) a + S1x1x128.size a ≤ S10000x1x128.size a)
theorem k0_off212_inb : ∀ (v1488 : BitVec 32) (k0_hw212 : k0_chk212 v1488), ∀ a, (k0_off212 v1488) a + S1x1x128.size a ≤ S10000x1x128.size a := fun v1488 k0_hw212 => k0_hw212

def k0_off213 (v1495 : BitVec 32) : Fin 3 → Nat :=
  let v1496 : Index := Scalar.indexCast v1495
  let c0_861 : Index := 0#32
  let c0_862 : Index := 0#32
  ![v1496.toNat, 0, 0]

def k0_chk213 (v1495 : BitVec 32) : Prop :=
  (∀ a, (k0_off213 v1495) a + S1x1x128.size a ≤ S25000x1x128.size a)
theorem k0_off213_inb : ∀ (v1495 : BitVec 32) (k0_hw213 : k0_chk213 v1495), ∀ a, (k0_off213 v1495) a + S1x1x128.size a ≤ S25000x1x128.size a := fun v1495 k0_hw213 => k0_hw213

def k0_off214 (v1502 : BitVec 32) : Fin 3 → Nat :=
  let v1503 : Index := Scalar.indexCast v1502
  let c0_865 : Index := 0#32
  let c0_866 : Index := 0#32
  ![v1503.toNat, 0, 0]

def k0_chk214 (v1502 : BitVec 32) : Prop :=
  (∀ a, (k0_off214 v1502) a + S1x1x128.size a ≤ S10000x1x128.size a)
theorem k0_off214_inb : ∀ (v1502 : BitVec 32) (k0_hw214 : k0_chk214 v1502), ∀ a, (k0_off214 v1502) a + S1x1x128.size a ≤ S10000x1x128.size a := fun v1502 k0_hw214 => k0_hw214

def k0_off215 (v1509 : BitVec 32) : Fin 3 → Nat :=
  let v1510 : Index := Scalar.indexCast v1509
  let c0_869 : Index := 0#32
  let c0_870 : Index := 0#32
  ![v1510.toNat, 0, 0]

def k0_chk215 (v1509 : BitVec 32) : Prop :=
  (∀ a, (k0_off215 v1509) a + S1x1x128.size a ≤ S25000x1x128.size a)
theorem k0_off215_inb : ∀ (v1509 : BitVec 32) (k0_hw215 : k0_chk215 v1509), ∀ a, (k0_off215 v1509) a + S1x1x128.size a ≤ S25000x1x128.size a := fun v1509 k0_hw215 => k0_hw215

def k0_off216 (v1516 : BitVec 32) : Fin 3 → Nat :=
  let v1517 : Index := Scalar.indexCast v1516
  let c0_873 : Index := 0#32
  let c0_874 : Index := 0#32
  ![v1517.toNat, 0, 0]

def k0_chk216 (v1516 : BitVec 32) : Prop :=
  (∀ a, (k0_off216 v1516) a + S1x1x128.size a ≤ S10000x1x128.size a)
theorem k0_off216_inb : ∀ (v1516 : BitVec 32) (k0_hw216 : k0_chk216 v1516), ∀ a, (k0_off216 v1516) a + S1x1x128.size a ≤ S10000x1x128.size a := fun v1516 k0_hw216 => k0_hw216

def k0_off217 (v1523 : BitVec 32) : Fin 3 → Nat :=
  let v1524 : Index := Scalar.indexCast v1523
  let c0_877 : Index := 0#32
  let c0_878 : Index := 0#32
  ![v1524.toNat, 0, 0]

def k0_chk217 (v1523 : BitVec 32) : Prop :=
  (∀ a, (k0_off217 v1523) a + S1x1x128.size a ≤ S25000x1x128.size a)
theorem k0_off217_inb : ∀ (v1523 : BitVec 32) (k0_hw217 : k0_chk217 v1523), ∀ a, (k0_off217 v1523) a + S1x1x128.size a ≤ S25000x1x128.size a := fun v1523 k0_hw217 => k0_hw217

def k0_off218 (v1530 : BitVec 32) : Fin 3 → Nat :=
  let v1531 : Index := Scalar.indexCast v1530
  let c0_881 : Index := 0#32
  let c0_882 : Index := 0#32
  ![v1531.toNat, 0, 0]

def k0_chk218 (v1530 : BitVec 32) : Prop :=
  (∀ a, (k0_off218 v1530) a + S1x1x128.size a ≤ S10000x1x128.size a)
theorem k0_off218_inb : ∀ (v1530 : BitVec 32) (k0_hw218 : k0_chk218 v1530), ∀ a, (k0_off218 v1530) a + S1x1x128.size a ≤ S10000x1x128.size a := fun v1530 k0_hw218 => k0_hw218

def k0_off219 (v1537 : BitVec 32) : Fin 3 → Nat :=
  let v1538 : Index := Scalar.indexCast v1537
  let c0_885 : Index := 0#32
  let c0_886 : Index := 0#32
  ![v1538.toNat, 0, 0]

def k0_chk219 (v1537 : BitVec 32) : Prop :=
  (∀ a, (k0_off219 v1537) a + S1x1x128.size a ≤ S25000x1x128.size a)
theorem k0_off219_inb : ∀ (v1537 : BitVec 32) (k0_hw219 : k0_chk219 v1537), ∀ a, (k0_off219 v1537) a + S1x1x128.size a ≤ S25000x1x128.size a := fun v1537 k0_hw219 => k0_hw219

def k0_off220 (v1544 : BitVec 32) : Fin 3 → Nat :=
  let v1545 : Index := Scalar.indexCast v1544
  let c0_889 : Index := 0#32
  let c0_890 : Index := 0#32
  ![v1545.toNat, 0, 0]

def k0_chk220 (v1544 : BitVec 32) : Prop :=
  (∀ a, (k0_off220 v1544) a + S1x1x128.size a ≤ S10000x1x128.size a)
theorem k0_off220_inb : ∀ (v1544 : BitVec 32) (k0_hw220 : k0_chk220 v1544), ∀ a, (k0_off220 v1544) a + S1x1x128.size a ≤ S10000x1x128.size a := fun v1544 k0_hw220 => k0_hw220

def k0_off221 (v1551 : BitVec 32) : Fin 3 → Nat :=
  let v1552 : Index := Scalar.indexCast v1551
  let c0_893 : Index := 0#32
  let c0_894 : Index := 0#32
  ![v1552.toNat, 0, 0]

def k0_chk221 (v1551 : BitVec 32) : Prop :=
  (∀ a, (k0_off221 v1551) a + S1x1x128.size a ≤ S25000x1x128.size a)
theorem k0_off221_inb : ∀ (v1551 : BitVec 32) (k0_hw221 : k0_chk221 v1551), ∀ a, (k0_off221 v1551) a + S1x1x128.size a ≤ S25000x1x128.size a := fun v1551 k0_hw221 => k0_hw221

def k0_off222 (v1558 : BitVec 32) : Fin 3 → Nat :=
  let v1559 : Index := Scalar.indexCast v1558
  let c0_897 : Index := 0#32
  let c0_898 : Index := 0#32
  ![v1559.toNat, 0, 0]

def k0_chk222 (v1558 : BitVec 32) : Prop :=
  (∀ a, (k0_off222 v1558) a + S1x1x128.size a ≤ S10000x1x128.size a)
theorem k0_off222_inb : ∀ (v1558 : BitVec 32) (k0_hw222 : k0_chk222 v1558), ∀ a, (k0_off222 v1558) a + S1x1x128.size a ≤ S10000x1x128.size a := fun v1558 k0_hw222 => k0_hw222

def k0_off223 (v1565 : BitVec 32) : Fin 3 → Nat :=
  let v1566 : Index := Scalar.indexCast v1565
  let c0_901 : Index := 0#32
  let c0_902 : Index := 0#32
  ![v1566.toNat, 0, 0]

def k0_chk223 (v1565 : BitVec 32) : Prop :=
  (∀ a, (k0_off223 v1565) a + S1x1x128.size a ≤ S25000x1x128.size a)
theorem k0_off223_inb : ∀ (v1565 : BitVec 32) (k0_hw223 : k0_chk223 v1565), ∀ a, (k0_off223 v1565) a + S1x1x128.size a ≤ S25000x1x128.size a := fun v1565 k0_hw223 => k0_hw223

def k0_off224 (v1572 : BitVec 32) : Fin 3 → Nat :=
  let v1573 : Index := Scalar.indexCast v1572
  let c0_905 : Index := 0#32
  let c0_906 : Index := 0#32
  ![v1573.toNat, 0, 0]

def k0_chk224 (v1572 : BitVec 32) : Prop :=
  (∀ a, (k0_off224 v1572) a + S1x1x128.size a ≤ S10000x1x128.size a)
theorem k0_off224_inb : ∀ (v1572 : BitVec 32) (k0_hw224 : k0_chk224 v1572), ∀ a, (k0_off224 v1572) a + S1x1x128.size a ≤ S10000x1x128.size a := fun v1572 k0_hw224 => k0_hw224

def k0_off225 (v1579 : BitVec 32) : Fin 3 → Nat :=
  let v1580 : Index := Scalar.indexCast v1579
  let c0_909 : Index := 0#32
  let c0_910 : Index := 0#32
  ![v1580.toNat, 0, 0]

def k0_chk225 (v1579 : BitVec 32) : Prop :=
  (∀ a, (k0_off225 v1579) a + S1x1x128.size a ≤ S25000x1x128.size a)
theorem k0_off225_inb : ∀ (v1579 : BitVec 32) (k0_hw225 : k0_chk225 v1579), ∀ a, (k0_off225 v1579) a + S1x1x128.size a ≤ S25000x1x128.size a := fun v1579 k0_hw225 => k0_hw225

def k0_off226 (v1586 : BitVec 32) : Fin 3 → Nat :=
  let v1587 : Index := Scalar.indexCast v1586
  let c0_913 : Index := 0#32
  let c0_914 : Index := 0#32
  ![v1587.toNat, 0, 0]

def k0_chk226 (v1586 : BitVec 32) : Prop :=
  (∀ a, (k0_off226 v1586) a + S1x1x128.size a ≤ S10000x1x128.size a)
theorem k0_off226_inb : ∀ (v1586 : BitVec 32) (k0_hw226 : k0_chk226 v1586), ∀ a, (k0_off226 v1586) a + S1x1x128.size a ≤ S10000x1x128.size a := fun v1586 k0_hw226 => k0_hw226

def k0_off227 (v1593 : BitVec 32) : Fin 3 → Nat :=
  let v1594 : Index := Scalar.indexCast v1593
  let c0_917 : Index := 0#32
  let c0_918 : Index := 0#32
  ![v1594.toNat, 0, 0]

def k0_chk227 (v1593 : BitVec 32) : Prop :=
  (∀ a, (k0_off227 v1593) a + S1x1x128.size a ≤ S25000x1x128.size a)
theorem k0_off227_inb : ∀ (v1593 : BitVec 32) (k0_hw227 : k0_chk227 v1593), ∀ a, (k0_off227 v1593) a + S1x1x128.size a ≤ S25000x1x128.size a := fun v1593 k0_hw227 => k0_hw227

def k0_off228 (v1600 : BitVec 32) : Fin 3 → Nat :=
  let v1601 : Index := Scalar.indexCast v1600
  let c0_921 : Index := 0#32
  let c0_922 : Index := 0#32
  ![v1601.toNat, 0, 0]

def k0_chk228 (v1600 : BitVec 32) : Prop :=
  (∀ a, (k0_off228 v1600) a + S1x1x128.size a ≤ S10000x1x128.size a)
theorem k0_off228_inb : ∀ (v1600 : BitVec 32) (k0_hw228 : k0_chk228 v1600), ∀ a, (k0_off228 v1600) a + S1x1x128.size a ≤ S10000x1x128.size a := fun v1600 k0_hw228 => k0_hw228

def k0_off229 (v1607 : BitVec 32) : Fin 3 → Nat :=
  let v1608 : Index := Scalar.indexCast v1607
  let c0_925 : Index := 0#32
  let c0_926 : Index := 0#32
  ![v1608.toNat, 0, 0]

def k0_chk229 (v1607 : BitVec 32) : Prop :=
  (∀ a, (k0_off229 v1607) a + S1x1x128.size a ≤ S25000x1x128.size a)
theorem k0_off229_inb : ∀ (v1607 : BitVec 32) (k0_hw229 : k0_chk229 v1607), ∀ a, (k0_off229 v1607) a + S1x1x128.size a ≤ S25000x1x128.size a := fun v1607 k0_hw229 => k0_hw229

def k0_off230 (v1614 : BitVec 32) : Fin 3 → Nat :=
  let v1615 : Index := Scalar.indexCast v1614
  let c0_929 : Index := 0#32
  let c0_930 : Index := 0#32
  ![v1615.toNat, 0, 0]

def k0_chk230 (v1614 : BitVec 32) : Prop :=
  (∀ a, (k0_off230 v1614) a + S1x1x128.size a ≤ S10000x1x128.size a)
theorem k0_off230_inb : ∀ (v1614 : BitVec 32) (k0_hw230 : k0_chk230 v1614), ∀ a, (k0_off230 v1614) a + S1x1x128.size a ≤ S10000x1x128.size a := fun v1614 k0_hw230 => k0_hw230

def k0_off231 (v1621 : BitVec 32) : Fin 3 → Nat :=
  let v1622 : Index := Scalar.indexCast v1621
  let c0_933 : Index := 0#32
  let c0_934 : Index := 0#32
  ![v1622.toNat, 0, 0]

def k0_chk231 (v1621 : BitVec 32) : Prop :=
  (∀ a, (k0_off231 v1621) a + S1x1x128.size a ≤ S25000x1x128.size a)
theorem k0_off231_inb : ∀ (v1621 : BitVec 32) (k0_hw231 : k0_chk231 v1621), ∀ a, (k0_off231 v1621) a + S1x1x128.size a ≤ S25000x1x128.size a := fun v1621 k0_hw231 => k0_hw231

def k0_off232 (v1628 : BitVec 32) : Fin 3 → Nat :=
  let v1629 : Index := Scalar.indexCast v1628
  let c0_937 : Index := 0#32
  let c0_938 : Index := 0#32
  ![v1629.toNat, 0, 0]

def k0_chk232 (v1628 : BitVec 32) : Prop :=
  (∀ a, (k0_off232 v1628) a + S1x1x128.size a ≤ S10000x1x128.size a)
theorem k0_off232_inb : ∀ (v1628 : BitVec 32) (k0_hw232 : k0_chk232 v1628), ∀ a, (k0_off232 v1628) a + S1x1x128.size a ≤ S10000x1x128.size a := fun v1628 k0_hw232 => k0_hw232

def k0_off233 (v1635 : BitVec 32) : Fin 3 → Nat :=
  let v1636 : Index := Scalar.indexCast v1635
  let c0_941 : Index := 0#32
  let c0_942 : Index := 0#32
  ![v1636.toNat, 0, 0]

def k0_chk233 (v1635 : BitVec 32) : Prop :=
  (∀ a, (k0_off233 v1635) a + S1x1x128.size a ≤ S25000x1x128.size a)
theorem k0_off233_inb : ∀ (v1635 : BitVec 32) (k0_hw233 : k0_chk233 v1635), ∀ a, (k0_off233 v1635) a + S1x1x128.size a ≤ S25000x1x128.size a := fun v1635 k0_hw233 => k0_hw233

def k0_off234 (v1642 : BitVec 32) : Fin 3 → Nat :=
  let v1643 : Index := Scalar.indexCast v1642
  let c0_945 : Index := 0#32
  let c0_946 : Index := 0#32
  ![v1643.toNat, 0, 0]

def k0_chk234 (v1642 : BitVec 32) : Prop :=
  (∀ a, (k0_off234 v1642) a + S1x1x128.size a ≤ S10000x1x128.size a)
theorem k0_off234_inb : ∀ (v1642 : BitVec 32) (k0_hw234 : k0_chk234 v1642), ∀ a, (k0_off234 v1642) a + S1x1x128.size a ≤ S10000x1x128.size a := fun v1642 k0_hw234 => k0_hw234

def k0_off235 (v1649 : BitVec 32) : Fin 3 → Nat :=
  let v1650 : Index := Scalar.indexCast v1649
  let c0_949 : Index := 0#32
  let c0_950 : Index := 0#32
  ![v1650.toNat, 0, 0]

def k0_chk235 (v1649 : BitVec 32) : Prop :=
  (∀ a, (k0_off235 v1649) a + S1x1x128.size a ≤ S25000x1x128.size a)
theorem k0_off235_inb : ∀ (v1649 : BitVec 32) (k0_hw235 : k0_chk235 v1649), ∀ a, (k0_off235 v1649) a + S1x1x128.size a ≤ S25000x1x128.size a := fun v1649 k0_hw235 => k0_hw235

def k0_off236 (v1656 : BitVec 32) : Fin 3 → Nat :=
  let v1657 : Index := Scalar.indexCast v1656
  let c0_953 : Index := 0#32
  let c0_954 : Index := 0#32
  ![v1657.toNat, 0, 0]

def k0_chk236 (v1656 : BitVec 32) : Prop :=
  (∀ a, (k0_off236 v1656) a + S1x1x128.size a ≤ S10000x1x128.size a)
theorem k0_off236_inb : ∀ (v1656 : BitVec 32) (k0_hw236 : k0_chk236 v1656), ∀ a, (k0_off236 v1656) a + S1x1x128.size a ≤ S10000x1x128.size a := fun v1656 k0_hw236 => k0_hw236

def k0_off237 (v1663 : BitVec 32) : Fin 3 → Nat :=
  let v1664 : Index := Scalar.indexCast v1663
  let c0_957 : Index := 0#32
  let c0_958 : Index := 0#32
  ![v1664.toNat, 0, 0]

def k0_chk237 (v1663 : BitVec 32) : Prop :=
  (∀ a, (k0_off237 v1663) a + S1x1x128.size a ≤ S25000x1x128.size a)
theorem k0_off237_inb : ∀ (v1663 : BitVec 32) (k0_hw237 : k0_chk237 v1663), ∀ a, (k0_off237 v1663) a + S1x1x128.size a ≤ S25000x1x128.size a := fun v1663 k0_hw237 => k0_hw237

def k0_off238 (v1670 : BitVec 32) : Fin 3 → Nat :=
  let v1671 : Index := Scalar.indexCast v1670
  let c0_961 : Index := 0#32
  let c0_962 : Index := 0#32
  ![v1671.toNat, 0, 0]

def k0_chk238 (v1670 : BitVec 32) : Prop :=
  (∀ a, (k0_off238 v1670) a + S1x1x128.size a ≤ S10000x1x128.size a)
theorem k0_off238_inb : ∀ (v1670 : BitVec 32) (k0_hw238 : k0_chk238 v1670), ∀ a, (k0_off238 v1670) a + S1x1x128.size a ≤ S10000x1x128.size a := fun v1670 k0_hw238 => k0_hw238

def k0_off239 (v1677 : BitVec 32) : Fin 3 → Nat :=
  let v1678 : Index := Scalar.indexCast v1677
  let c0_965 : Index := 0#32
  let c0_966 : Index := 0#32
  ![v1678.toNat, 0, 0]

def k0_chk239 (v1677 : BitVec 32) : Prop :=
  (∀ a, (k0_off239 v1677) a + S1x1x128.size a ≤ S25000x1x128.size a)
theorem k0_off239_inb : ∀ (v1677 : BitVec 32) (k0_hw239 : k0_chk239 v1677), ∀ a, (k0_off239 v1677) a + S1x1x128.size a ≤ S25000x1x128.size a := fun v1677 k0_hw239 => k0_hw239

def k0_off240 (v1684 : BitVec 32) : Fin 3 → Nat :=
  let v1685 : Index := Scalar.indexCast v1684
  let c0_969 : Index := 0#32
  let c0_970 : Index := 0#32
  ![v1685.toNat, 0, 0]

def k0_chk240 (v1684 : BitVec 32) : Prop :=
  (∀ a, (k0_off240 v1684) a + S1x1x128.size a ≤ S10000x1x128.size a)
theorem k0_off240_inb : ∀ (v1684 : BitVec 32) (k0_hw240 : k0_chk240 v1684), ∀ a, (k0_off240 v1684) a + S1x1x128.size a ≤ S10000x1x128.size a := fun v1684 k0_hw240 => k0_hw240

def k0_off241 (v1691 : BitVec 32) : Fin 3 → Nat :=
  let v1692 : Index := Scalar.indexCast v1691
  let c0_973 : Index := 0#32
  let c0_974 : Index := 0#32
  ![v1692.toNat, 0, 0]

def k0_chk241 (v1691 : BitVec 32) : Prop :=
  (∀ a, (k0_off241 v1691) a + S1x1x128.size a ≤ S25000x1x128.size a)
theorem k0_off241_inb : ∀ (v1691 : BitVec 32) (k0_hw241 : k0_chk241 v1691), ∀ a, (k0_off241 v1691) a + S1x1x128.size a ≤ S25000x1x128.size a := fun v1691 k0_hw241 => k0_hw241

def k0_off242 (v1698 : BitVec 32) : Fin 3 → Nat :=
  let v1699 : Index := Scalar.indexCast v1698
  let c0_977 : Index := 0#32
  let c0_978 : Index := 0#32
  ![v1699.toNat, 0, 0]

def k0_chk242 (v1698 : BitVec 32) : Prop :=
  (∀ a, (k0_off242 v1698) a + S1x1x128.size a ≤ S10000x1x128.size a)
theorem k0_off242_inb : ∀ (v1698 : BitVec 32) (k0_hw242 : k0_chk242 v1698), ∀ a, (k0_off242 v1698) a + S1x1x128.size a ≤ S10000x1x128.size a := fun v1698 k0_hw242 => k0_hw242

def k0_off243 (v1705 : BitVec 32) : Fin 3 → Nat :=
  let v1706 : Index := Scalar.indexCast v1705
  let c0_981 : Index := 0#32
  let c0_982 : Index := 0#32
  ![v1706.toNat, 0, 0]

def k0_chk243 (v1705 : BitVec 32) : Prop :=
  (∀ a, (k0_off243 v1705) a + S1x1x128.size a ≤ S25000x1x128.size a)
theorem k0_off243_inb : ∀ (v1705 : BitVec 32) (k0_hw243 : k0_chk243 v1705), ∀ a, (k0_off243 v1705) a + S1x1x128.size a ≤ S25000x1x128.size a := fun v1705 k0_hw243 => k0_hw243

def k0_off244 (v1712 : BitVec 32) : Fin 3 → Nat :=
  let v1713 : Index := Scalar.indexCast v1712
  let c0_985 : Index := 0#32
  let c0_986 : Index := 0#32
  ![v1713.toNat, 0, 0]

def k0_chk244 (v1712 : BitVec 32) : Prop :=
  (∀ a, (k0_off244 v1712) a + S1x1x128.size a ≤ S10000x1x128.size a)
theorem k0_off244_inb : ∀ (v1712 : BitVec 32) (k0_hw244 : k0_chk244 v1712), ∀ a, (k0_off244 v1712) a + S1x1x128.size a ≤ S10000x1x128.size a := fun v1712 k0_hw244 => k0_hw244

def k0_off245 (v1719 : BitVec 32) : Fin 3 → Nat :=
  let v1720 : Index := Scalar.indexCast v1719
  let c0_989 : Index := 0#32
  let c0_990 : Index := 0#32
  ![v1720.toNat, 0, 0]

def k0_chk245 (v1719 : BitVec 32) : Prop :=
  (∀ a, (k0_off245 v1719) a + S1x1x128.size a ≤ S25000x1x128.size a)
theorem k0_off245_inb : ∀ (v1719 : BitVec 32) (k0_hw245 : k0_chk245 v1719), ∀ a, (k0_off245 v1719) a + S1x1x128.size a ≤ S25000x1x128.size a := fun v1719 k0_hw245 => k0_hw245

def k0_off246 (v1726 : BitVec 32) : Fin 3 → Nat :=
  let v1727 : Index := Scalar.indexCast v1726
  let c0_993 : Index := 0#32
  let c0_994 : Index := 0#32
  ![v1727.toNat, 0, 0]

def k0_chk246 (v1726 : BitVec 32) : Prop :=
  (∀ a, (k0_off246 v1726) a + S1x1x128.size a ≤ S10000x1x128.size a)
theorem k0_off246_inb : ∀ (v1726 : BitVec 32) (k0_hw246 : k0_chk246 v1726), ∀ a, (k0_off246 v1726) a + S1x1x128.size a ≤ S10000x1x128.size a := fun v1726 k0_hw246 => k0_hw246

def k0_off247 (v1733 : BitVec 32) : Fin 3 → Nat :=
  let v1734 : Index := Scalar.indexCast v1733
  let c0_997 : Index := 0#32
  let c0_998 : Index := 0#32
  ![v1734.toNat, 0, 0]

def k0_chk247 (v1733 : BitVec 32) : Prop :=
  (∀ a, (k0_off247 v1733) a + S1x1x128.size a ≤ S25000x1x128.size a)
theorem k0_off247_inb : ∀ (v1733 : BitVec 32) (k0_hw247 : k0_chk247 v1733), ∀ a, (k0_off247 v1733) a + S1x1x128.size a ≤ S25000x1x128.size a := fun v1733 k0_hw247 => k0_hw247

def k0_off248 (v1740 : BitVec 32) : Fin 3 → Nat :=
  let v1741 : Index := Scalar.indexCast v1740
  let c0_1001 : Index := 0#32
  let c0_1002 : Index := 0#32
  ![v1741.toNat, 0, 0]

def k0_chk248 (v1740 : BitVec 32) : Prop :=
  (∀ a, (k0_off248 v1740) a + S1x1x128.size a ≤ S10000x1x128.size a)
theorem k0_off248_inb : ∀ (v1740 : BitVec 32) (k0_hw248 : k0_chk248 v1740), ∀ a, (k0_off248 v1740) a + S1x1x128.size a ≤ S10000x1x128.size a := fun v1740 k0_hw248 => k0_hw248

def k0_off249 (v1747 : BitVec 32) : Fin 3 → Nat :=
  let v1748 : Index := Scalar.indexCast v1747
  let c0_1005 : Index := 0#32
  let c0_1006 : Index := 0#32
  ![v1748.toNat, 0, 0]

def k0_chk249 (v1747 : BitVec 32) : Prop :=
  (∀ a, (k0_off249 v1747) a + S1x1x128.size a ≤ S25000x1x128.size a)
theorem k0_off249_inb : ∀ (v1747 : BitVec 32) (k0_hw249 : k0_chk249 v1747), ∀ a, (k0_off249 v1747) a + S1x1x128.size a ≤ S25000x1x128.size a := fun v1747 k0_hw249 => k0_hw249

def k0_off250 (v1754 : BitVec 32) : Fin 3 → Nat :=
  let v1755 : Index := Scalar.indexCast v1754
  let c0_1009 : Index := 0#32
  let c0_1010 : Index := 0#32
  ![v1755.toNat, 0, 0]

def k0_chk250 (v1754 : BitVec 32) : Prop :=
  (∀ a, (k0_off250 v1754) a + S1x1x128.size a ≤ S10000x1x128.size a)
theorem k0_off250_inb : ∀ (v1754 : BitVec 32) (k0_hw250 : k0_chk250 v1754), ∀ a, (k0_off250 v1754) a + S1x1x128.size a ≤ S10000x1x128.size a := fun v1754 k0_hw250 => k0_hw250

def k0_off251 (v1761 : BitVec 32) : Fin 3 → Nat :=
  let v1762 : Index := Scalar.indexCast v1761
  let c0_1013 : Index := 0#32
  let c0_1014 : Index := 0#32
  ![v1762.toNat, 0, 0]

def k0_chk251 (v1761 : BitVec 32) : Prop :=
  (∀ a, (k0_off251 v1761) a + S1x1x128.size a ≤ S25000x1x128.size a)
theorem k0_off251_inb : ∀ (v1761 : BitVec 32) (k0_hw251 : k0_chk251 v1761), ∀ a, (k0_off251 v1761) a + S1x1x128.size a ≤ S25000x1x128.size a := fun v1761 k0_hw251 => k0_hw251

def k0_off252 (v1768 : BitVec 32) : Fin 3 → Nat :=
  let v1769 : Index := Scalar.indexCast v1768
  let c0_1017 : Index := 0#32
  let c0_1018 : Index := 0#32
  ![v1769.toNat, 0, 0]

def k0_chk252 (v1768 : BitVec 32) : Prop :=
  (∀ a, (k0_off252 v1768) a + S1x1x128.size a ≤ S10000x1x128.size a)
theorem k0_off252_inb : ∀ (v1768 : BitVec 32) (k0_hw252 : k0_chk252 v1768), ∀ a, (k0_off252 v1768) a + S1x1x128.size a ≤ S10000x1x128.size a := fun v1768 k0_hw252 => k0_hw252

def k0_off253 (v1775 : BitVec 32) : Fin 3 → Nat :=
  let v1776 : Index := Scalar.indexCast v1775
  let c0_1021 : Index := 0#32
  let c0_1022 : Index := 0#32
  ![v1776.toNat, 0, 0]

def k0_chk253 (v1775 : BitVec 32) : Prop :=
  (∀ a, (k0_off253 v1775) a + S1x1x128.size a ≤ S25000x1x128.size a)
theorem k0_off253_inb : ∀ (v1775 : BitVec 32) (k0_hw253 : k0_chk253 v1775), ∀ a, (k0_off253 v1775) a + S1x1x128.size a ≤ S25000x1x128.size a := fun v1775 k0_hw253 => k0_hw253

def k0_off254 (v1782 : BitVec 32) : Fin 3 → Nat :=
  let v1783 : Index := Scalar.indexCast v1782
  let c0_1025 : Index := 0#32
  let c0_1026 : Index := 0#32
  ![v1783.toNat, 0, 0]

def k0_chk254 (v1782 : BitVec 32) : Prop :=
  (∀ a, (k0_off254 v1782) a + S1x1x128.size a ≤ S10000x1x128.size a)
theorem k0_off254_inb : ∀ (v1782 : BitVec 32) (k0_hw254 : k0_chk254 v1782), ∀ a, (k0_off254 v1782) a + S1x1x128.size a ≤ S10000x1x128.size a := fun v1782 k0_hw254 => k0_hw254

def k0_off255 (v1789 : BitVec 32) : Fin 3 → Nat :=
  let v1790 : Index := Scalar.indexCast v1789
  let c0_1029 : Index := 0#32
  let c0_1030 : Index := 0#32
  ![v1790.toNat, 0, 0]

def k0_chk255 (v1789 : BitVec 32) : Prop :=
  (∀ a, (k0_off255 v1789) a + S1x1x128.size a ≤ S25000x1x128.size a)
theorem k0_off255_inb : ∀ (v1789 : BitVec 32) (k0_hw255 : k0_chk255 v1789), ∀ a, (k0_off255 v1789) a + S1x1x128.size a ≤ S25000x1x128.size a := fun v1789 k0_hw255 => k0_hw255

def k0_off256 (v1796 : BitVec 32) : Fin 3 → Nat :=
  let v1797 : Index := Scalar.indexCast v1796
  let c0_1033 : Index := 0#32
  let c0_1034 : Index := 0#32
  ![v1797.toNat, 0, 0]

def k0_chk256 (v1796 : BitVec 32) : Prop :=
  (∀ a, (k0_off256 v1796) a + S1x1x128.size a ≤ S10000x1x128.size a)
theorem k0_off256_inb : ∀ (v1796 : BitVec 32) (k0_hw256 : k0_chk256 v1796), ∀ a, (k0_off256 v1796) a + S1x1x128.size a ≤ S10000x1x128.size a := fun v1796 k0_hw256 => k0_hw256

@[reducible] def k0_t1_loop (v1803 : BitVec 32) : Scf.Loop 32 :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1039 : BitVec 32 := 1#32
  ⟨c0_i32_1038, v1808, c1_i32_1039⟩

def k0_mult1 (v1803 : BitVec 32) (k0_t1 : Fin (k0_t1_loop v1803).trips) : BitVec 32 :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  v2592
def k0_off257 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1549 : BitVec 32 := 128#32
  let v2594 : BitVec 32 := Scalar.muli arg33 c128_i32_1549
  let c0_i32_1550 : BitVec 32 := 0#32
  let v2595 : BitVec 32 := Scalar.addi v2594 c0_i32_1550
  let v2596 : Index := Scalar.indexCast v2595
  ![v2596.toNat]
def k0_off258 (v2597 : BitVec 32) : Fin 3 → Nat :=
  let v2598 : Index := Scalar.indexCast v2597
  let c0_1551 : Index := 0#32
  let c0_1552 : Index := 0#32
  ![v2598.toNat, 0, 0]

def k0_chk258 (v2597 : BitVec 32) : Prop :=
  (∀ a, (k0_off258 v2597) a + S1x1x128.size a ≤ S50000x1x128.size a)
theorem k0_off258_inb : ∀ (v2597 : BitVec 32) (k0_hw258 : k0_chk258 v2597), ∀ a, (k0_off258 v2597) a + S1x1x128.size a ≤ S50000x1x128.size a := fun v2597 k0_hw258 => k0_hw258

def k0_off259 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c0_i32_1553 : BitVec 32 := 0#32
  let v2601 : BitVec 32 := Scalar.addi v2593 c0_i32_1553
  let v2602 : Index := Scalar.indexCast v2601
  let c0_1554 : Index := 0#32
  ![v2602.toNat, 0]
def k0_off260 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1555 : BitVec 32 := 128#32
  let v2606 : BitVec 32 := Scalar.muli arg33 c128_i32_1555
  let c1_i32_1556 : BitVec 32 := 1#32
  let v2607 : BitVec 32 := Scalar.addi v2606 c1_i32_1556
  let v2608 : Index := Scalar.indexCast v2607
  ![v2608.toNat]
def k0_off261 (v2609 : BitVec 32) : Fin 3 → Nat :=
  let v2610 : Index := Scalar.indexCast v2609
  let c0_1557 : Index := 0#32
  let c0_1558 : Index := 0#32
  ![v2610.toNat, 0, 0]

def k0_chk259 (v2609 : BitVec 32) : Prop :=
  (∀ a, (k0_off261 v2609) a + S1x1x128.size a ≤ S50000x1x128.size a)
theorem k0_off261_inb : ∀ (v2609 : BitVec 32) (k0_hw259 : k0_chk259 v2609), ∀ a, (k0_off261 v2609) a + S1x1x128.size a ≤ S50000x1x128.size a := fun v2609 k0_hw259 => k0_hw259

def k0_off262 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c1_i32_1559 : BitVec 32 := 1#32
  let v2613 : BitVec 32 := Scalar.addi v2593 c1_i32_1559
  let v2614 : Index := Scalar.indexCast v2613
  let c0_1560 : Index := 0#32
  ![v2614.toNat, 0]
def k0_off263 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1561 : BitVec 32 := 128#32
  let v2618 : BitVec 32 := Scalar.muli arg33 c128_i32_1561
  let c2_i32 : BitVec 32 := 2#32
  let v2619 : BitVec 32 := Scalar.addi v2618 c2_i32
  let v2620 : Index := Scalar.indexCast v2619
  ![v2620.toNat]
def k0_off264 (v2621 : BitVec 32) : Fin 3 → Nat :=
  let v2622 : Index := Scalar.indexCast v2621
  let c0_1562 : Index := 0#32
  let c0_1563 : Index := 0#32
  ![v2622.toNat, 0, 0]

def k0_chk260 (v2621 : BitVec 32) : Prop :=
  (∀ a, (k0_off264 v2621) a + S1x1x128.size a ≤ S50000x1x128.size a)
theorem k0_off264_inb : ∀ (v2621 : BitVec 32) (k0_hw260 : k0_chk260 v2621), ∀ a, (k0_off264 v2621) a + S1x1x128.size a ≤ S50000x1x128.size a := fun v2621 k0_hw260 => k0_hw260

def k0_off265 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c2_i32_1564 : BitVec 32 := 2#32
  let v2625 : BitVec 32 := Scalar.addi v2593 c2_i32_1564
  let v2626 : Index := Scalar.indexCast v2625
  let c0_1565 : Index := 0#32
  ![v2626.toNat, 0]
def k0_off266 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1566 : BitVec 32 := 128#32
  let v2630 : BitVec 32 := Scalar.muli arg33 c128_i32_1566
  let c3_i32 : BitVec 32 := 3#32
  let v2631 : BitVec 32 := Scalar.addi v2630 c3_i32
  let v2632 : Index := Scalar.indexCast v2631
  ![v2632.toNat]
def k0_off267 (v2633 : BitVec 32) : Fin 3 → Nat :=
  let v2634 : Index := Scalar.indexCast v2633
  let c0_1567 : Index := 0#32
  let c0_1568 : Index := 0#32
  ![v2634.toNat, 0, 0]

def k0_chk261 (v2633 : BitVec 32) : Prop :=
  (∀ a, (k0_off267 v2633) a + S1x1x128.size a ≤ S50000x1x128.size a)
theorem k0_off267_inb : ∀ (v2633 : BitVec 32) (k0_hw261 : k0_chk261 v2633), ∀ a, (k0_off267 v2633) a + S1x1x128.size a ≤ S50000x1x128.size a := fun v2633 k0_hw261 => k0_hw261

def k0_off268 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c3_i32_1569 : BitVec 32 := 3#32
  let v2637 : BitVec 32 := Scalar.addi v2593 c3_i32_1569
  let v2638 : Index := Scalar.indexCast v2637
  let c0_1570 : Index := 0#32
  ![v2638.toNat, 0]
def k0_off269 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1571 : BitVec 32 := 128#32
  let v2642 : BitVec 32 := Scalar.muli arg33 c128_i32_1571
  let c4_i32 : BitVec 32 := 4#32
  let v2643 : BitVec 32 := Scalar.addi v2642 c4_i32
  let v2644 : Index := Scalar.indexCast v2643
  ![v2644.toNat]
def k0_off270 (v2645 : BitVec 32) : Fin 3 → Nat :=
  let v2646 : Index := Scalar.indexCast v2645
  let c0_1572 : Index := 0#32
  let c0_1573 : Index := 0#32
  ![v2646.toNat, 0, 0]

def k0_chk262 (v2645 : BitVec 32) : Prop :=
  (∀ a, (k0_off270 v2645) a + S1x1x128.size a ≤ S50000x1x128.size a)
theorem k0_off270_inb : ∀ (v2645 : BitVec 32) (k0_hw262 : k0_chk262 v2645), ∀ a, (k0_off270 v2645) a + S1x1x128.size a ≤ S50000x1x128.size a := fun v2645 k0_hw262 => k0_hw262

def k0_off271 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c4_i32_1574 : BitVec 32 := 4#32
  let v2649 : BitVec 32 := Scalar.addi v2593 c4_i32_1574
  let v2650 : Index := Scalar.indexCast v2649
  let c0_1575 : Index := 0#32
  ![v2650.toNat, 0]
def k0_off272 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1576 : BitVec 32 := 128#32
  let v2654 : BitVec 32 := Scalar.muli arg33 c128_i32_1576
  let c5_i32 : BitVec 32 := 5#32
  let v2655 : BitVec 32 := Scalar.addi v2654 c5_i32
  let v2656 : Index := Scalar.indexCast v2655
  ![v2656.toNat]
def k0_off273 (v2657 : BitVec 32) : Fin 3 → Nat :=
  let v2658 : Index := Scalar.indexCast v2657
  let c0_1577 : Index := 0#32
  let c0_1578 : Index := 0#32
  ![v2658.toNat, 0, 0]

def k0_chk263 (v2657 : BitVec 32) : Prop :=
  (∀ a, (k0_off273 v2657) a + S1x1x128.size a ≤ S50000x1x128.size a)
theorem k0_off273_inb : ∀ (v2657 : BitVec 32) (k0_hw263 : k0_chk263 v2657), ∀ a, (k0_off273 v2657) a + S1x1x128.size a ≤ S50000x1x128.size a := fun v2657 k0_hw263 => k0_hw263

def k0_off274 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c5_i32_1579 : BitVec 32 := 5#32
  let v2661 : BitVec 32 := Scalar.addi v2593 c5_i32_1579
  let v2662 : Index := Scalar.indexCast v2661
  let c0_1580 : Index := 0#32
  ![v2662.toNat, 0]
def k0_off275 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1581 : BitVec 32 := 128#32
  let v2666 : BitVec 32 := Scalar.muli arg33 c128_i32_1581
  let c6_i32 : BitVec 32 := 6#32
  let v2667 : BitVec 32 := Scalar.addi v2666 c6_i32
  let v2668 : Index := Scalar.indexCast v2667
  ![v2668.toNat]
def k0_off276 (v2669 : BitVec 32) : Fin 3 → Nat :=
  let v2670 : Index := Scalar.indexCast v2669
  let c0_1582 : Index := 0#32
  let c0_1583 : Index := 0#32
  ![v2670.toNat, 0, 0]

def k0_chk264 (v2669 : BitVec 32) : Prop :=
  (∀ a, (k0_off276 v2669) a + S1x1x128.size a ≤ S50000x1x128.size a)
theorem k0_off276_inb : ∀ (v2669 : BitVec 32) (k0_hw264 : k0_chk264 v2669), ∀ a, (k0_off276 v2669) a + S1x1x128.size a ≤ S50000x1x128.size a := fun v2669 k0_hw264 => k0_hw264

def k0_off277 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c6_i32_1584 : BitVec 32 := 6#32
  let v2673 : BitVec 32 := Scalar.addi v2593 c6_i32_1584
  let v2674 : Index := Scalar.indexCast v2673
  let c0_1585 : Index := 0#32
  ![v2674.toNat, 0]
def k0_off278 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1586 : BitVec 32 := 128#32
  let v2678 : BitVec 32 := Scalar.muli arg33 c128_i32_1586
  let c7_i32 : BitVec 32 := 7#32
  let v2679 : BitVec 32 := Scalar.addi v2678 c7_i32
  let v2680 : Index := Scalar.indexCast v2679
  ![v2680.toNat]
def k0_off279 (v2681 : BitVec 32) : Fin 3 → Nat :=
  let v2682 : Index := Scalar.indexCast v2681
  let c0_1587 : Index := 0#32
  let c0_1588 : Index := 0#32
  ![v2682.toNat, 0, 0]

def k0_chk265 (v2681 : BitVec 32) : Prop :=
  (∀ a, (k0_off279 v2681) a + S1x1x128.size a ≤ S50000x1x128.size a)
theorem k0_off279_inb : ∀ (v2681 : BitVec 32) (k0_hw265 : k0_chk265 v2681), ∀ a, (k0_off279 v2681) a + S1x1x128.size a ≤ S50000x1x128.size a := fun v2681 k0_hw265 => k0_hw265

def k0_off280 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c7_i32_1589 : BitVec 32 := 7#32
  let v2685 : BitVec 32 := Scalar.addi v2593 c7_i32_1589
  let v2686 : Index := Scalar.indexCast v2685
  let c0_1590 : Index := 0#32
  ![v2686.toNat, 0]
def k0_off281 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1591 : BitVec 32 := 128#32
  let v2690 : BitVec 32 := Scalar.muli arg33 c128_i32_1591
  let c8_i32 : BitVec 32 := 8#32
  let v2691 : BitVec 32 := Scalar.addi v2690 c8_i32
  let v2692 : Index := Scalar.indexCast v2691
  ![v2692.toNat]
def k0_off282 (v2693 : BitVec 32) : Fin 3 → Nat :=
  let v2694 : Index := Scalar.indexCast v2693
  let c0_1592 : Index := 0#32
  let c0_1593 : Index := 0#32
  ![v2694.toNat, 0, 0]

def k0_chk266 (v2693 : BitVec 32) : Prop :=
  (∀ a, (k0_off282 v2693) a + S1x1x128.size a ≤ S50000x1x128.size a)
theorem k0_off282_inb : ∀ (v2693 : BitVec 32) (k0_hw266 : k0_chk266 v2693), ∀ a, (k0_off282 v2693) a + S1x1x128.size a ≤ S50000x1x128.size a := fun v2693 k0_hw266 => k0_hw266

def k0_off283 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c8_i32_1594 : BitVec 32 := 8#32
  let v2697 : BitVec 32 := Scalar.addi v2593 c8_i32_1594
  let v2698 : Index := Scalar.indexCast v2697
  let c0_1595 : Index := 0#32
  ![v2698.toNat, 0]
def k0_off284 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1596 : BitVec 32 := 128#32
  let v2702 : BitVec 32 := Scalar.muli arg33 c128_i32_1596
  let c9_i32 : BitVec 32 := 9#32
  let v2703 : BitVec 32 := Scalar.addi v2702 c9_i32
  let v2704 : Index := Scalar.indexCast v2703
  ![v2704.toNat]
def k0_off285 (v2705 : BitVec 32) : Fin 3 → Nat :=
  let v2706 : Index := Scalar.indexCast v2705
  let c0_1597 : Index := 0#32
  let c0_1598 : Index := 0#32
  ![v2706.toNat, 0, 0]

def k0_chk267 (v2705 : BitVec 32) : Prop :=
  (∀ a, (k0_off285 v2705) a + S1x1x128.size a ≤ S50000x1x128.size a)
theorem k0_off285_inb : ∀ (v2705 : BitVec 32) (k0_hw267 : k0_chk267 v2705), ∀ a, (k0_off285 v2705) a + S1x1x128.size a ≤ S50000x1x128.size a := fun v2705 k0_hw267 => k0_hw267

def k0_off286 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c9_i32_1599 : BitVec 32 := 9#32
  let v2709 : BitVec 32 := Scalar.addi v2593 c9_i32_1599
  let v2710 : Index := Scalar.indexCast v2709
  let c0_1600 : Index := 0#32
  ![v2710.toNat, 0]
def k0_off287 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1601 : BitVec 32 := 128#32
  let v2714 : BitVec 32 := Scalar.muli arg33 c128_i32_1601
  let c10_i32 : BitVec 32 := 10#32
  let v2715 : BitVec 32 := Scalar.addi v2714 c10_i32
  let v2716 : Index := Scalar.indexCast v2715
  ![v2716.toNat]
def k0_off288 (v2717 : BitVec 32) : Fin 3 → Nat :=
  let v2718 : Index := Scalar.indexCast v2717
  let c0_1602 : Index := 0#32
  let c0_1603 : Index := 0#32
  ![v2718.toNat, 0, 0]

def k0_chk268 (v2717 : BitVec 32) : Prop :=
  (∀ a, (k0_off288 v2717) a + S1x1x128.size a ≤ S50000x1x128.size a)
theorem k0_off288_inb : ∀ (v2717 : BitVec 32) (k0_hw268 : k0_chk268 v2717), ∀ a, (k0_off288 v2717) a + S1x1x128.size a ≤ S50000x1x128.size a := fun v2717 k0_hw268 => k0_hw268

def k0_off289 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c10_i32_1604 : BitVec 32 := 10#32
  let v2721 : BitVec 32 := Scalar.addi v2593 c10_i32_1604
  let v2722 : Index := Scalar.indexCast v2721
  let c0_1605 : Index := 0#32
  ![v2722.toNat, 0]
def k0_off290 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1606 : BitVec 32 := 128#32
  let v2726 : BitVec 32 := Scalar.muli arg33 c128_i32_1606
  let c11_i32 : BitVec 32 := 11#32
  let v2727 : BitVec 32 := Scalar.addi v2726 c11_i32
  let v2728 : Index := Scalar.indexCast v2727
  ![v2728.toNat]
def k0_off291 (v2729 : BitVec 32) : Fin 3 → Nat :=
  let v2730 : Index := Scalar.indexCast v2729
  let c0_1607 : Index := 0#32
  let c0_1608 : Index := 0#32
  ![v2730.toNat, 0, 0]

def k0_chk269 (v2729 : BitVec 32) : Prop :=
  (∀ a, (k0_off291 v2729) a + S1x1x128.size a ≤ S50000x1x128.size a)
theorem k0_off291_inb : ∀ (v2729 : BitVec 32) (k0_hw269 : k0_chk269 v2729), ∀ a, (k0_off291 v2729) a + S1x1x128.size a ≤ S50000x1x128.size a := fun v2729 k0_hw269 => k0_hw269

def k0_off292 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c11_i32_1609 : BitVec 32 := 11#32
  let v2733 : BitVec 32 := Scalar.addi v2593 c11_i32_1609
  let v2734 : Index := Scalar.indexCast v2733
  let c0_1610 : Index := 0#32
  ![v2734.toNat, 0]
def k0_off293 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1611 : BitVec 32 := 128#32
  let v2738 : BitVec 32 := Scalar.muli arg33 c128_i32_1611
  let c12_i32 : BitVec 32 := 12#32
  let v2739 : BitVec 32 := Scalar.addi v2738 c12_i32
  let v2740 : Index := Scalar.indexCast v2739
  ![v2740.toNat]
def k0_off294 (v2741 : BitVec 32) : Fin 3 → Nat :=
  let v2742 : Index := Scalar.indexCast v2741
  let c0_1612 : Index := 0#32
  let c0_1613 : Index := 0#32
  ![v2742.toNat, 0, 0]

def k0_chk270 (v2741 : BitVec 32) : Prop :=
  (∀ a, (k0_off294 v2741) a + S1x1x128.size a ≤ S50000x1x128.size a)
theorem k0_off294_inb : ∀ (v2741 : BitVec 32) (k0_hw270 : k0_chk270 v2741), ∀ a, (k0_off294 v2741) a + S1x1x128.size a ≤ S50000x1x128.size a := fun v2741 k0_hw270 => k0_hw270

def k0_off295 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c12_i32_1614 : BitVec 32 := 12#32
  let v2745 : BitVec 32 := Scalar.addi v2593 c12_i32_1614
  let v2746 : Index := Scalar.indexCast v2745
  let c0_1615 : Index := 0#32
  ![v2746.toNat, 0]
def k0_off296 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1616 : BitVec 32 := 128#32
  let v2750 : BitVec 32 := Scalar.muli arg33 c128_i32_1616
  let c13_i32 : BitVec 32 := 13#32
  let v2751 : BitVec 32 := Scalar.addi v2750 c13_i32
  let v2752 : Index := Scalar.indexCast v2751
  ![v2752.toNat]
def k0_off297 (v2753 : BitVec 32) : Fin 3 → Nat :=
  let v2754 : Index := Scalar.indexCast v2753
  let c0_1617 : Index := 0#32
  let c0_1618 : Index := 0#32
  ![v2754.toNat, 0, 0]

def k0_chk271 (v2753 : BitVec 32) : Prop :=
  (∀ a, (k0_off297 v2753) a + S1x1x128.size a ≤ S50000x1x128.size a)
theorem k0_off297_inb : ∀ (v2753 : BitVec 32) (k0_hw271 : k0_chk271 v2753), ∀ a, (k0_off297 v2753) a + S1x1x128.size a ≤ S50000x1x128.size a := fun v2753 k0_hw271 => k0_hw271

def k0_off298 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c13_i32_1619 : BitVec 32 := 13#32
  let v2757 : BitVec 32 := Scalar.addi v2593 c13_i32_1619
  let v2758 : Index := Scalar.indexCast v2757
  let c0_1620 : Index := 0#32
  ![v2758.toNat, 0]
def k0_off299 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1621 : BitVec 32 := 128#32
  let v2762 : BitVec 32 := Scalar.muli arg33 c128_i32_1621
  let c14_i32 : BitVec 32 := 14#32
  let v2763 : BitVec 32 := Scalar.addi v2762 c14_i32
  let v2764 : Index := Scalar.indexCast v2763
  ![v2764.toNat]
def k0_off300 (v2765 : BitVec 32) : Fin 3 → Nat :=
  let v2766 : Index := Scalar.indexCast v2765
  let c0_1622 : Index := 0#32
  let c0_1623 : Index := 0#32
  ![v2766.toNat, 0, 0]

def k0_chk272 (v2765 : BitVec 32) : Prop :=
  (∀ a, (k0_off300 v2765) a + S1x1x128.size a ≤ S50000x1x128.size a)
theorem k0_off300_inb : ∀ (v2765 : BitVec 32) (k0_hw272 : k0_chk272 v2765), ∀ a, (k0_off300 v2765) a + S1x1x128.size a ≤ S50000x1x128.size a := fun v2765 k0_hw272 => k0_hw272

def k0_off301 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c14_i32_1624 : BitVec 32 := 14#32
  let v2769 : BitVec 32 := Scalar.addi v2593 c14_i32_1624
  let v2770 : Index := Scalar.indexCast v2769
  let c0_1625 : Index := 0#32
  ![v2770.toNat, 0]
def k0_off302 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1626 : BitVec 32 := 128#32
  let v2774 : BitVec 32 := Scalar.muli arg33 c128_i32_1626
  let c15_i32 : BitVec 32 := 15#32
  let v2775 : BitVec 32 := Scalar.addi v2774 c15_i32
  let v2776 : Index := Scalar.indexCast v2775
  ![v2776.toNat]
def k0_off303 (v2777 : BitVec 32) : Fin 3 → Nat :=
  let v2778 : Index := Scalar.indexCast v2777
  let c0_1627 : Index := 0#32
  let c0_1628 : Index := 0#32
  ![v2778.toNat, 0, 0]

def k0_chk273 (v2777 : BitVec 32) : Prop :=
  (∀ a, (k0_off303 v2777) a + S1x1x128.size a ≤ S50000x1x128.size a)
theorem k0_off303_inb : ∀ (v2777 : BitVec 32) (k0_hw273 : k0_chk273 v2777), ∀ a, (k0_off303 v2777) a + S1x1x128.size a ≤ S50000x1x128.size a := fun v2777 k0_hw273 => k0_hw273

def k0_off304 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c15_i32_1629 : BitVec 32 := 15#32
  let v2781 : BitVec 32 := Scalar.addi v2593 c15_i32_1629
  let v2782 : Index := Scalar.indexCast v2781
  let c0_1630 : Index := 0#32
  ![v2782.toNat, 0]
def k0_off305 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1631 : BitVec 32 := 128#32
  let v2786 : BitVec 32 := Scalar.muli arg33 c128_i32_1631
  let c16_i32 : BitVec 32 := 16#32
  let v2787 : BitVec 32 := Scalar.addi v2786 c16_i32
  let v2788 : Index := Scalar.indexCast v2787
  ![v2788.toNat]
def k0_off306 (v2789 : BitVec 32) : Fin 3 → Nat :=
  let v2790 : Index := Scalar.indexCast v2789
  let c0_1632 : Index := 0#32
  let c0_1633 : Index := 0#32
  ![v2790.toNat, 0, 0]

def k0_chk274 (v2789 : BitVec 32) : Prop :=
  (∀ a, (k0_off306 v2789) a + S1x1x128.size a ≤ S50000x1x128.size a)
theorem k0_off306_inb : ∀ (v2789 : BitVec 32) (k0_hw274 : k0_chk274 v2789), ∀ a, (k0_off306 v2789) a + S1x1x128.size a ≤ S50000x1x128.size a := fun v2789 k0_hw274 => k0_hw274

def k0_off307 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c16_i32_1634 : BitVec 32 := 16#32
  let v2793 : BitVec 32 := Scalar.addi v2593 c16_i32_1634
  let v2794 : Index := Scalar.indexCast v2793
  let c0_1635 : Index := 0#32
  ![v2794.toNat, 0]
def k0_off308 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1636 : BitVec 32 := 128#32
  let v2798 : BitVec 32 := Scalar.muli arg33 c128_i32_1636
  let c17_i32 : BitVec 32 := 17#32
  let v2799 : BitVec 32 := Scalar.addi v2798 c17_i32
  let v2800 : Index := Scalar.indexCast v2799
  ![v2800.toNat]
def k0_off309 (v2801 : BitVec 32) : Fin 3 → Nat :=
  let v2802 : Index := Scalar.indexCast v2801
  let c0_1637 : Index := 0#32
  let c0_1638 : Index := 0#32
  ![v2802.toNat, 0, 0]

def k0_chk275 (v2801 : BitVec 32) : Prop :=
  (∀ a, (k0_off309 v2801) a + S1x1x128.size a ≤ S50000x1x128.size a)
theorem k0_off309_inb : ∀ (v2801 : BitVec 32) (k0_hw275 : k0_chk275 v2801), ∀ a, (k0_off309 v2801) a + S1x1x128.size a ≤ S50000x1x128.size a := fun v2801 k0_hw275 => k0_hw275

def k0_off310 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c17_i32_1639 : BitVec 32 := 17#32
  let v2805 : BitVec 32 := Scalar.addi v2593 c17_i32_1639
  let v2806 : Index := Scalar.indexCast v2805
  let c0_1640 : Index := 0#32
  ![v2806.toNat, 0]
def k0_off311 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1641 : BitVec 32 := 128#32
  let v2810 : BitVec 32 := Scalar.muli arg33 c128_i32_1641
  let c18_i32 : BitVec 32 := 18#32
  let v2811 : BitVec 32 := Scalar.addi v2810 c18_i32
  let v2812 : Index := Scalar.indexCast v2811
  ![v2812.toNat]
def k0_off312 (v2813 : BitVec 32) : Fin 3 → Nat :=
  let v2814 : Index := Scalar.indexCast v2813
  let c0_1642 : Index := 0#32
  let c0_1643 : Index := 0#32
  ![v2814.toNat, 0, 0]

def k0_chk276 (v2813 : BitVec 32) : Prop :=
  (∀ a, (k0_off312 v2813) a + S1x1x128.size a ≤ S50000x1x128.size a)
theorem k0_off312_inb : ∀ (v2813 : BitVec 32) (k0_hw276 : k0_chk276 v2813), ∀ a, (k0_off312 v2813) a + S1x1x128.size a ≤ S50000x1x128.size a := fun v2813 k0_hw276 => k0_hw276

def k0_off313 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c18_i32_1644 : BitVec 32 := 18#32
  let v2817 : BitVec 32 := Scalar.addi v2593 c18_i32_1644
  let v2818 : Index := Scalar.indexCast v2817
  let c0_1645 : Index := 0#32
  ![v2818.toNat, 0]
def k0_off314 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1646 : BitVec 32 := 128#32
  let v2822 : BitVec 32 := Scalar.muli arg33 c128_i32_1646
  let c19_i32 : BitVec 32 := 19#32
  let v2823 : BitVec 32 := Scalar.addi v2822 c19_i32
  let v2824 : Index := Scalar.indexCast v2823
  ![v2824.toNat]
def k0_off315 (v2825 : BitVec 32) : Fin 3 → Nat :=
  let v2826 : Index := Scalar.indexCast v2825
  let c0_1647 : Index := 0#32
  let c0_1648 : Index := 0#32
  ![v2826.toNat, 0, 0]

def k0_chk277 (v2825 : BitVec 32) : Prop :=
  (∀ a, (k0_off315 v2825) a + S1x1x128.size a ≤ S50000x1x128.size a)
theorem k0_off315_inb : ∀ (v2825 : BitVec 32) (k0_hw277 : k0_chk277 v2825), ∀ a, (k0_off315 v2825) a + S1x1x128.size a ≤ S50000x1x128.size a := fun v2825 k0_hw277 => k0_hw277

def k0_off316 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c19_i32_1649 : BitVec 32 := 19#32
  let v2829 : BitVec 32 := Scalar.addi v2593 c19_i32_1649
  let v2830 : Index := Scalar.indexCast v2829
  let c0_1650 : Index := 0#32
  ![v2830.toNat, 0]
def k0_off317 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1651 : BitVec 32 := 128#32
  let v2834 : BitVec 32 := Scalar.muli arg33 c128_i32_1651
  let c20_i32 : BitVec 32 := 20#32
  let v2835 : BitVec 32 := Scalar.addi v2834 c20_i32
  let v2836 : Index := Scalar.indexCast v2835
  ![v2836.toNat]
def k0_off318 (v2837 : BitVec 32) : Fin 3 → Nat :=
  let v2838 : Index := Scalar.indexCast v2837
  let c0_1652 : Index := 0#32
  let c0_1653 : Index := 0#32
  ![v2838.toNat, 0, 0]

def k0_chk278 (v2837 : BitVec 32) : Prop :=
  (∀ a, (k0_off318 v2837) a + S1x1x128.size a ≤ S50000x1x128.size a)
theorem k0_off318_inb : ∀ (v2837 : BitVec 32) (k0_hw278 : k0_chk278 v2837), ∀ a, (k0_off318 v2837) a + S1x1x128.size a ≤ S50000x1x128.size a := fun v2837 k0_hw278 => k0_hw278

def k0_off319 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c20_i32_1654 : BitVec 32 := 20#32
  let v2841 : BitVec 32 := Scalar.addi v2593 c20_i32_1654
  let v2842 : Index := Scalar.indexCast v2841
  let c0_1655 : Index := 0#32
  ![v2842.toNat, 0]
def k0_off320 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1656 : BitVec 32 := 128#32
  let v2846 : BitVec 32 := Scalar.muli arg33 c128_i32_1656
  let c21_i32 : BitVec 32 := 21#32
  let v2847 : BitVec 32 := Scalar.addi v2846 c21_i32
  let v2848 : Index := Scalar.indexCast v2847
  ![v2848.toNat]
def k0_off321 (v2849 : BitVec 32) : Fin 3 → Nat :=
  let v2850 : Index := Scalar.indexCast v2849
  let c0_1657 : Index := 0#32
  let c0_1658 : Index := 0#32
  ![v2850.toNat, 0, 0]

def k0_chk279 (v2849 : BitVec 32) : Prop :=
  (∀ a, (k0_off321 v2849) a + S1x1x128.size a ≤ S50000x1x128.size a)
theorem k0_off321_inb : ∀ (v2849 : BitVec 32) (k0_hw279 : k0_chk279 v2849), ∀ a, (k0_off321 v2849) a + S1x1x128.size a ≤ S50000x1x128.size a := fun v2849 k0_hw279 => k0_hw279

def k0_off322 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c21_i32_1659 : BitVec 32 := 21#32
  let v2853 : BitVec 32 := Scalar.addi v2593 c21_i32_1659
  let v2854 : Index := Scalar.indexCast v2853
  let c0_1660 : Index := 0#32
  ![v2854.toNat, 0]
def k0_off323 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1661 : BitVec 32 := 128#32
  let v2858 : BitVec 32 := Scalar.muli arg33 c128_i32_1661
  let c22_i32 : BitVec 32 := 22#32
  let v2859 : BitVec 32 := Scalar.addi v2858 c22_i32
  let v2860 : Index := Scalar.indexCast v2859
  ![v2860.toNat]
def k0_off324 (v2861 : BitVec 32) : Fin 3 → Nat :=
  let v2862 : Index := Scalar.indexCast v2861
  let c0_1662 : Index := 0#32
  let c0_1663 : Index := 0#32
  ![v2862.toNat, 0, 0]

def k0_chk280 (v2861 : BitVec 32) : Prop :=
  (∀ a, (k0_off324 v2861) a + S1x1x128.size a ≤ S50000x1x128.size a)
theorem k0_off324_inb : ∀ (v2861 : BitVec 32) (k0_hw280 : k0_chk280 v2861), ∀ a, (k0_off324 v2861) a + S1x1x128.size a ≤ S50000x1x128.size a := fun v2861 k0_hw280 => k0_hw280

def k0_off325 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c22_i32_1664 : BitVec 32 := 22#32
  let v2865 : BitVec 32 := Scalar.addi v2593 c22_i32_1664
  let v2866 : Index := Scalar.indexCast v2865
  let c0_1665 : Index := 0#32
  ![v2866.toNat, 0]
def k0_off326 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1666 : BitVec 32 := 128#32
  let v2870 : BitVec 32 := Scalar.muli arg33 c128_i32_1666
  let c23_i32 : BitVec 32 := 23#32
  let v2871 : BitVec 32 := Scalar.addi v2870 c23_i32
  let v2872 : Index := Scalar.indexCast v2871
  ![v2872.toNat]
def k0_off327 (v2873 : BitVec 32) : Fin 3 → Nat :=
  let v2874 : Index := Scalar.indexCast v2873
  let c0_1667 : Index := 0#32
  let c0_1668 : Index := 0#32
  ![v2874.toNat, 0, 0]

def k0_chk281 (v2873 : BitVec 32) : Prop :=
  (∀ a, (k0_off327 v2873) a + S1x1x128.size a ≤ S50000x1x128.size a)
theorem k0_off327_inb : ∀ (v2873 : BitVec 32) (k0_hw281 : k0_chk281 v2873), ∀ a, (k0_off327 v2873) a + S1x1x128.size a ≤ S50000x1x128.size a := fun v2873 k0_hw281 => k0_hw281

def k0_off328 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c23_i32_1669 : BitVec 32 := 23#32
  let v2877 : BitVec 32 := Scalar.addi v2593 c23_i32_1669
  let v2878 : Index := Scalar.indexCast v2877
  let c0_1670 : Index := 0#32
  ![v2878.toNat, 0]
def k0_off329 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1671 : BitVec 32 := 128#32
  let v2882 : BitVec 32 := Scalar.muli arg33 c128_i32_1671
  let c24_i32 : BitVec 32 := 24#32
  let v2883 : BitVec 32 := Scalar.addi v2882 c24_i32
  let v2884 : Index := Scalar.indexCast v2883
  ![v2884.toNat]
def k0_off330 (v2885 : BitVec 32) : Fin 3 → Nat :=
  let v2886 : Index := Scalar.indexCast v2885
  let c0_1672 : Index := 0#32
  let c0_1673 : Index := 0#32
  ![v2886.toNat, 0, 0]

def k0_chk282 (v2885 : BitVec 32) : Prop :=
  (∀ a, (k0_off330 v2885) a + S1x1x128.size a ≤ S50000x1x128.size a)
theorem k0_off330_inb : ∀ (v2885 : BitVec 32) (k0_hw282 : k0_chk282 v2885), ∀ a, (k0_off330 v2885) a + S1x1x128.size a ≤ S50000x1x128.size a := fun v2885 k0_hw282 => k0_hw282

def k0_off331 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c24_i32_1674 : BitVec 32 := 24#32
  let v2889 : BitVec 32 := Scalar.addi v2593 c24_i32_1674
  let v2890 : Index := Scalar.indexCast v2889
  let c0_1675 : Index := 0#32
  ![v2890.toNat, 0]
def k0_off332 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1676 : BitVec 32 := 128#32
  let v2894 : BitVec 32 := Scalar.muli arg33 c128_i32_1676
  let c25_i32 : BitVec 32 := 25#32
  let v2895 : BitVec 32 := Scalar.addi v2894 c25_i32
  let v2896 : Index := Scalar.indexCast v2895
  ![v2896.toNat]
def k0_off333 (v2897 : BitVec 32) : Fin 3 → Nat :=
  let v2898 : Index := Scalar.indexCast v2897
  let c0_1677 : Index := 0#32
  let c0_1678 : Index := 0#32
  ![v2898.toNat, 0, 0]

def k0_chk283 (v2897 : BitVec 32) : Prop :=
  (∀ a, (k0_off333 v2897) a + S1x1x128.size a ≤ S50000x1x128.size a)
theorem k0_off333_inb : ∀ (v2897 : BitVec 32) (k0_hw283 : k0_chk283 v2897), ∀ a, (k0_off333 v2897) a + S1x1x128.size a ≤ S50000x1x128.size a := fun v2897 k0_hw283 => k0_hw283

def k0_off334 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c25_i32_1679 : BitVec 32 := 25#32
  let v2901 : BitVec 32 := Scalar.addi v2593 c25_i32_1679
  let v2902 : Index := Scalar.indexCast v2901
  let c0_1680 : Index := 0#32
  ![v2902.toNat, 0]
def k0_off335 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1681 : BitVec 32 := 128#32
  let v2906 : BitVec 32 := Scalar.muli arg33 c128_i32_1681
  let c26_i32 : BitVec 32 := 26#32
  let v2907 : BitVec 32 := Scalar.addi v2906 c26_i32
  let v2908 : Index := Scalar.indexCast v2907
  ![v2908.toNat]
def k0_off336 (v2909 : BitVec 32) : Fin 3 → Nat :=
  let v2910 : Index := Scalar.indexCast v2909
  let c0_1682 : Index := 0#32
  let c0_1683 : Index := 0#32
  ![v2910.toNat, 0, 0]

def k0_chk284 (v2909 : BitVec 32) : Prop :=
  (∀ a, (k0_off336 v2909) a + S1x1x128.size a ≤ S50000x1x128.size a)
theorem k0_off336_inb : ∀ (v2909 : BitVec 32) (k0_hw284 : k0_chk284 v2909), ∀ a, (k0_off336 v2909) a + S1x1x128.size a ≤ S50000x1x128.size a := fun v2909 k0_hw284 => k0_hw284

def k0_off337 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c26_i32_1684 : BitVec 32 := 26#32
  let v2913 : BitVec 32 := Scalar.addi v2593 c26_i32_1684
  let v2914 : Index := Scalar.indexCast v2913
  let c0_1685 : Index := 0#32
  ![v2914.toNat, 0]
def k0_off338 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1686 : BitVec 32 := 128#32
  let v2918 : BitVec 32 := Scalar.muli arg33 c128_i32_1686
  let c27_i32 : BitVec 32 := 27#32
  let v2919 : BitVec 32 := Scalar.addi v2918 c27_i32
  let v2920 : Index := Scalar.indexCast v2919
  ![v2920.toNat]
def k0_off339 (v2921 : BitVec 32) : Fin 3 → Nat :=
  let v2922 : Index := Scalar.indexCast v2921
  let c0_1687 : Index := 0#32
  let c0_1688 : Index := 0#32
  ![v2922.toNat, 0, 0]

def k0_chk285 (v2921 : BitVec 32) : Prop :=
  (∀ a, (k0_off339 v2921) a + S1x1x128.size a ≤ S50000x1x128.size a)
theorem k0_off339_inb : ∀ (v2921 : BitVec 32) (k0_hw285 : k0_chk285 v2921), ∀ a, (k0_off339 v2921) a + S1x1x128.size a ≤ S50000x1x128.size a := fun v2921 k0_hw285 => k0_hw285

def k0_off340 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c27_i32_1689 : BitVec 32 := 27#32
  let v2925 : BitVec 32 := Scalar.addi v2593 c27_i32_1689
  let v2926 : Index := Scalar.indexCast v2925
  let c0_1690 : Index := 0#32
  ![v2926.toNat, 0]
def k0_off341 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1691 : BitVec 32 := 128#32
  let v2930 : BitVec 32 := Scalar.muli arg33 c128_i32_1691
  let c28_i32 : BitVec 32 := 28#32
  let v2931 : BitVec 32 := Scalar.addi v2930 c28_i32
  let v2932 : Index := Scalar.indexCast v2931
  ![v2932.toNat]
def k0_off342 (v2933 : BitVec 32) : Fin 3 → Nat :=
  let v2934 : Index := Scalar.indexCast v2933
  let c0_1692 : Index := 0#32
  let c0_1693 : Index := 0#32
  ![v2934.toNat, 0, 0]

def k0_chk286 (v2933 : BitVec 32) : Prop :=
  (∀ a, (k0_off342 v2933) a + S1x1x128.size a ≤ S50000x1x128.size a)
theorem k0_off342_inb : ∀ (v2933 : BitVec 32) (k0_hw286 : k0_chk286 v2933), ∀ a, (k0_off342 v2933) a + S1x1x128.size a ≤ S50000x1x128.size a := fun v2933 k0_hw286 => k0_hw286

def k0_off343 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c28_i32_1694 : BitVec 32 := 28#32
  let v2937 : BitVec 32 := Scalar.addi v2593 c28_i32_1694
  let v2938 : Index := Scalar.indexCast v2937
  let c0_1695 : Index := 0#32
  ![v2938.toNat, 0]
def k0_off344 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1696 : BitVec 32 := 128#32
  let v2942 : BitVec 32 := Scalar.muli arg33 c128_i32_1696
  let c29_i32 : BitVec 32 := 29#32
  let v2943 : BitVec 32 := Scalar.addi v2942 c29_i32
  let v2944 : Index := Scalar.indexCast v2943
  ![v2944.toNat]
def k0_off345 (v2945 : BitVec 32) : Fin 3 → Nat :=
  let v2946 : Index := Scalar.indexCast v2945
  let c0_1697 : Index := 0#32
  let c0_1698 : Index := 0#32
  ![v2946.toNat, 0, 0]

def k0_chk287 (v2945 : BitVec 32) : Prop :=
  (∀ a, (k0_off345 v2945) a + S1x1x128.size a ≤ S50000x1x128.size a)
theorem k0_off345_inb : ∀ (v2945 : BitVec 32) (k0_hw287 : k0_chk287 v2945), ∀ a, (k0_off345 v2945) a + S1x1x128.size a ≤ S50000x1x128.size a := fun v2945 k0_hw287 => k0_hw287

def k0_off346 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c29_i32_1699 : BitVec 32 := 29#32
  let v2949 : BitVec 32 := Scalar.addi v2593 c29_i32_1699
  let v2950 : Index := Scalar.indexCast v2949
  let c0_1700 : Index := 0#32
  ![v2950.toNat, 0]
def k0_off347 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1701 : BitVec 32 := 128#32
  let v2954 : BitVec 32 := Scalar.muli arg33 c128_i32_1701
  let c30_i32 : BitVec 32 := 30#32
  let v2955 : BitVec 32 := Scalar.addi v2954 c30_i32
  let v2956 : Index := Scalar.indexCast v2955
  ![v2956.toNat]
def k0_off348 (v2957 : BitVec 32) : Fin 3 → Nat :=
  let v2958 : Index := Scalar.indexCast v2957
  let c0_1702 : Index := 0#32
  let c0_1703 : Index := 0#32
  ![v2958.toNat, 0, 0]

def k0_chk288 (v2957 : BitVec 32) : Prop :=
  (∀ a, (k0_off348 v2957) a + S1x1x128.size a ≤ S50000x1x128.size a)
theorem k0_off348_inb : ∀ (v2957 : BitVec 32) (k0_hw288 : k0_chk288 v2957), ∀ a, (k0_off348 v2957) a + S1x1x128.size a ≤ S50000x1x128.size a := fun v2957 k0_hw288 => k0_hw288

def k0_off349 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c30_i32_1704 : BitVec 32 := 30#32
  let v2961 : BitVec 32 := Scalar.addi v2593 c30_i32_1704
  let v2962 : Index := Scalar.indexCast v2961
  let c0_1705 : Index := 0#32
  ![v2962.toNat, 0]
def k0_off350 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1706 : BitVec 32 := 128#32
  let v2966 : BitVec 32 := Scalar.muli arg33 c128_i32_1706
  let c31_i32 : BitVec 32 := 31#32
  let v2967 : BitVec 32 := Scalar.addi v2966 c31_i32
  let v2968 : Index := Scalar.indexCast v2967
  ![v2968.toNat]
def k0_off351 (v2969 : BitVec 32) : Fin 3 → Nat :=
  let v2970 : Index := Scalar.indexCast v2969
  let c0_1707 : Index := 0#32
  let c0_1708 : Index := 0#32
  ![v2970.toNat, 0, 0]

def k0_chk289 (v2969 : BitVec 32) : Prop :=
  (∀ a, (k0_off351 v2969) a + S1x1x128.size a ≤ S50000x1x128.size a)
theorem k0_off351_inb : ∀ (v2969 : BitVec 32) (k0_hw289 : k0_chk289 v2969), ∀ a, (k0_off351 v2969) a + S1x1x128.size a ≤ S50000x1x128.size a := fun v2969 k0_hw289 => k0_hw289

def k0_off352 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c31_i32_1709 : BitVec 32 := 31#32
  let v2973 : BitVec 32 := Scalar.addi v2593 c31_i32_1709
  let v2974 : Index := Scalar.indexCast v2973
  let c0_1710 : Index := 0#32
  ![v2974.toNat, 0]
def k0_off353 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1711 : BitVec 32 := 128#32
  let v2978 : BitVec 32 := Scalar.muli arg33 c128_i32_1711
  let c32_i32 : BitVec 32 := 32#32
  let v2979 : BitVec 32 := Scalar.addi v2978 c32_i32
  let v2980 : Index := Scalar.indexCast v2979
  ![v2980.toNat]
def k0_off354 (v2981 : BitVec 32) : Fin 3 → Nat :=
  let v2982 : Index := Scalar.indexCast v2981
  let c0_1712 : Index := 0#32
  let c0_1713 : Index := 0#32
  ![v2982.toNat, 0, 0]

def k0_chk290 (v2981 : BitVec 32) : Prop :=
  (∀ a, (k0_off354 v2981) a + S1x1x128.size a ≤ S50000x1x128.size a)
theorem k0_off354_inb : ∀ (v2981 : BitVec 32) (k0_hw290 : k0_chk290 v2981), ∀ a, (k0_off354 v2981) a + S1x1x128.size a ≤ S50000x1x128.size a := fun v2981 k0_hw290 => k0_hw290

def k0_off355 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c32_i32_1714 : BitVec 32 := 32#32
  let v2985 : BitVec 32 := Scalar.addi v2593 c32_i32_1714
  let v2986 : Index := Scalar.indexCast v2985
  let c0_1715 : Index := 0#32
  ![v2986.toNat, 0]
def k0_off356 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1716 : BitVec 32 := 128#32
  let v2990 : BitVec 32 := Scalar.muli arg33 c128_i32_1716
  let c33_i32 : BitVec 32 := 33#32
  let v2991 : BitVec 32 := Scalar.addi v2990 c33_i32
  let v2992 : Index := Scalar.indexCast v2991
  ![v2992.toNat]
def k0_off357 (v2993 : BitVec 32) : Fin 3 → Nat :=
  let v2994 : Index := Scalar.indexCast v2993
  let c0_1717 : Index := 0#32
  let c0_1718 : Index := 0#32
  ![v2994.toNat, 0, 0]

def k0_chk291 (v2993 : BitVec 32) : Prop :=
  (∀ a, (k0_off357 v2993) a + S1x1x128.size a ≤ S50000x1x128.size a)
theorem k0_off357_inb : ∀ (v2993 : BitVec 32) (k0_hw291 : k0_chk291 v2993), ∀ a, (k0_off357 v2993) a + S1x1x128.size a ≤ S50000x1x128.size a := fun v2993 k0_hw291 => k0_hw291

def k0_off358 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c33_i32_1719 : BitVec 32 := 33#32
  let v2997 : BitVec 32 := Scalar.addi v2593 c33_i32_1719
  let v2998 : Index := Scalar.indexCast v2997
  let c0_1720 : Index := 0#32
  ![v2998.toNat, 0]
def k0_off359 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1721 : BitVec 32 := 128#32
  let v3002 : BitVec 32 := Scalar.muli arg33 c128_i32_1721
  let c34_i32 : BitVec 32 := 34#32
  let v3003 : BitVec 32 := Scalar.addi v3002 c34_i32
  let v3004 : Index := Scalar.indexCast v3003
  ![v3004.toNat]
def k0_off360 (v3005 : BitVec 32) : Fin 3 → Nat :=
  let v3006 : Index := Scalar.indexCast v3005
  let c0_1722 : Index := 0#32
  let c0_1723 : Index := 0#32
  ![v3006.toNat, 0, 0]

def k0_chk292 (v3005 : BitVec 32) : Prop :=
  (∀ a, (k0_off360 v3005) a + S1x1x128.size a ≤ S50000x1x128.size a)
theorem k0_off360_inb : ∀ (v3005 : BitVec 32) (k0_hw292 : k0_chk292 v3005), ∀ a, (k0_off360 v3005) a + S1x1x128.size a ≤ S50000x1x128.size a := fun v3005 k0_hw292 => k0_hw292

def k0_off361 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c34_i32_1724 : BitVec 32 := 34#32
  let v3009 : BitVec 32 := Scalar.addi v2593 c34_i32_1724
  let v3010 : Index := Scalar.indexCast v3009
  let c0_1725 : Index := 0#32
  ![v3010.toNat, 0]
def k0_off362 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1726 : BitVec 32 := 128#32
  let v3014 : BitVec 32 := Scalar.muli arg33 c128_i32_1726
  let c35_i32 : BitVec 32 := 35#32
  let v3015 : BitVec 32 := Scalar.addi v3014 c35_i32
  let v3016 : Index := Scalar.indexCast v3015
  ![v3016.toNat]
def k0_off363 (v3017 : BitVec 32) : Fin 3 → Nat :=
  let v3018 : Index := Scalar.indexCast v3017
  let c0_1727 : Index := 0#32
  let c0_1728 : Index := 0#32
  ![v3018.toNat, 0, 0]

def k0_chk293 (v3017 : BitVec 32) : Prop :=
  (∀ a, (k0_off363 v3017) a + S1x1x128.size a ≤ S50000x1x128.size a)
theorem k0_off363_inb : ∀ (v3017 : BitVec 32) (k0_hw293 : k0_chk293 v3017), ∀ a, (k0_off363 v3017) a + S1x1x128.size a ≤ S50000x1x128.size a := fun v3017 k0_hw293 => k0_hw293

def k0_off364 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c35_i32_1729 : BitVec 32 := 35#32
  let v3021 : BitVec 32 := Scalar.addi v2593 c35_i32_1729
  let v3022 : Index := Scalar.indexCast v3021
  let c0_1730 : Index := 0#32
  ![v3022.toNat, 0]
def k0_off365 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1731 : BitVec 32 := 128#32
  let v3026 : BitVec 32 := Scalar.muli arg33 c128_i32_1731
  let c36_i32 : BitVec 32 := 36#32
  let v3027 : BitVec 32 := Scalar.addi v3026 c36_i32
  let v3028 : Index := Scalar.indexCast v3027
  ![v3028.toNat]
def k0_off366 (v3029 : BitVec 32) : Fin 3 → Nat :=
  let v3030 : Index := Scalar.indexCast v3029
  let c0_1732 : Index := 0#32
  let c0_1733 : Index := 0#32
  ![v3030.toNat, 0, 0]

def k0_chk294 (v3029 : BitVec 32) : Prop :=
  (∀ a, (k0_off366 v3029) a + S1x1x128.size a ≤ S50000x1x128.size a)
theorem k0_off366_inb : ∀ (v3029 : BitVec 32) (k0_hw294 : k0_chk294 v3029), ∀ a, (k0_off366 v3029) a + S1x1x128.size a ≤ S50000x1x128.size a := fun v3029 k0_hw294 => k0_hw294

def k0_off367 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c36_i32_1734 : BitVec 32 := 36#32
  let v3033 : BitVec 32 := Scalar.addi v2593 c36_i32_1734
  let v3034 : Index := Scalar.indexCast v3033
  let c0_1735 : Index := 0#32
  ![v3034.toNat, 0]
def k0_off368 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1736 : BitVec 32 := 128#32
  let v3038 : BitVec 32 := Scalar.muli arg33 c128_i32_1736
  let c37_i32 : BitVec 32 := 37#32
  let v3039 : BitVec 32 := Scalar.addi v3038 c37_i32
  let v3040 : Index := Scalar.indexCast v3039
  ![v3040.toNat]
def k0_off369 (v3041 : BitVec 32) : Fin 3 → Nat :=
  let v3042 : Index := Scalar.indexCast v3041
  let c0_1737 : Index := 0#32
  let c0_1738 : Index := 0#32
  ![v3042.toNat, 0, 0]

def k0_chk295 (v3041 : BitVec 32) : Prop :=
  (∀ a, (k0_off369 v3041) a + S1x1x128.size a ≤ S50000x1x128.size a)
theorem k0_off369_inb : ∀ (v3041 : BitVec 32) (k0_hw295 : k0_chk295 v3041), ∀ a, (k0_off369 v3041) a + S1x1x128.size a ≤ S50000x1x128.size a := fun v3041 k0_hw295 => k0_hw295

def k0_off370 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c37_i32_1739 : BitVec 32 := 37#32
  let v3045 : BitVec 32 := Scalar.addi v2593 c37_i32_1739
  let v3046 : Index := Scalar.indexCast v3045
  let c0_1740 : Index := 0#32
  ![v3046.toNat, 0]
def k0_off371 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1741 : BitVec 32 := 128#32
  let v3050 : BitVec 32 := Scalar.muli arg33 c128_i32_1741
  let c38_i32 : BitVec 32 := 38#32
  let v3051 : BitVec 32 := Scalar.addi v3050 c38_i32
  let v3052 : Index := Scalar.indexCast v3051
  ![v3052.toNat]
def k0_off372 (v3053 : BitVec 32) : Fin 3 → Nat :=
  let v3054 : Index := Scalar.indexCast v3053
  let c0_1742 : Index := 0#32
  let c0_1743 : Index := 0#32
  ![v3054.toNat, 0, 0]

def k0_chk296 (v3053 : BitVec 32) : Prop :=
  (∀ a, (k0_off372 v3053) a + S1x1x128.size a ≤ S50000x1x128.size a)
theorem k0_off372_inb : ∀ (v3053 : BitVec 32) (k0_hw296 : k0_chk296 v3053), ∀ a, (k0_off372 v3053) a + S1x1x128.size a ≤ S50000x1x128.size a := fun v3053 k0_hw296 => k0_hw296

def k0_off373 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c38_i32_1744 : BitVec 32 := 38#32
  let v3057 : BitVec 32 := Scalar.addi v2593 c38_i32_1744
  let v3058 : Index := Scalar.indexCast v3057
  let c0_1745 : Index := 0#32
  ![v3058.toNat, 0]
def k0_off374 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1746 : BitVec 32 := 128#32
  let v3062 : BitVec 32 := Scalar.muli arg33 c128_i32_1746
  let c39_i32 : BitVec 32 := 39#32
  let v3063 : BitVec 32 := Scalar.addi v3062 c39_i32
  let v3064 : Index := Scalar.indexCast v3063
  ![v3064.toNat]
def k0_off375 (v3065 : BitVec 32) : Fin 3 → Nat :=
  let v3066 : Index := Scalar.indexCast v3065
  let c0_1747 : Index := 0#32
  let c0_1748 : Index := 0#32
  ![v3066.toNat, 0, 0]

def k0_chk297 (v3065 : BitVec 32) : Prop :=
  (∀ a, (k0_off375 v3065) a + S1x1x128.size a ≤ S50000x1x128.size a)
theorem k0_off375_inb : ∀ (v3065 : BitVec 32) (k0_hw297 : k0_chk297 v3065), ∀ a, (k0_off375 v3065) a + S1x1x128.size a ≤ S50000x1x128.size a := fun v3065 k0_hw297 => k0_hw297

def k0_off376 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c39_i32_1749 : BitVec 32 := 39#32
  let v3069 : BitVec 32 := Scalar.addi v2593 c39_i32_1749
  let v3070 : Index := Scalar.indexCast v3069
  let c0_1750 : Index := 0#32
  ![v3070.toNat, 0]
def k0_off377 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1751 : BitVec 32 := 128#32
  let v3074 : BitVec 32 := Scalar.muli arg33 c128_i32_1751
  let c40_i32 : BitVec 32 := 40#32
  let v3075 : BitVec 32 := Scalar.addi v3074 c40_i32
  let v3076 : Index := Scalar.indexCast v3075
  ![v3076.toNat]
def k0_off378 (v3077 : BitVec 32) : Fin 3 → Nat :=
  let v3078 : Index := Scalar.indexCast v3077
  let c0_1752 : Index := 0#32
  let c0_1753 : Index := 0#32
  ![v3078.toNat, 0, 0]

def k0_chk298 (v3077 : BitVec 32) : Prop :=
  (∀ a, (k0_off378 v3077) a + S1x1x128.size a ≤ S50000x1x128.size a)
theorem k0_off378_inb : ∀ (v3077 : BitVec 32) (k0_hw298 : k0_chk298 v3077), ∀ a, (k0_off378 v3077) a + S1x1x128.size a ≤ S50000x1x128.size a := fun v3077 k0_hw298 => k0_hw298

def k0_off379 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c40_i32_1754 : BitVec 32 := 40#32
  let v3081 : BitVec 32 := Scalar.addi v2593 c40_i32_1754
  let v3082 : Index := Scalar.indexCast v3081
  let c0_1755 : Index := 0#32
  ![v3082.toNat, 0]
def k0_off380 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1756 : BitVec 32 := 128#32
  let v3086 : BitVec 32 := Scalar.muli arg33 c128_i32_1756
  let c41_i32 : BitVec 32 := 41#32
  let v3087 : BitVec 32 := Scalar.addi v3086 c41_i32
  let v3088 : Index := Scalar.indexCast v3087
  ![v3088.toNat]
def k0_off381 (v3089 : BitVec 32) : Fin 3 → Nat :=
  let v3090 : Index := Scalar.indexCast v3089
  let c0_1757 : Index := 0#32
  let c0_1758 : Index := 0#32
  ![v3090.toNat, 0, 0]

def k0_chk299 (v3089 : BitVec 32) : Prop :=
  (∀ a, (k0_off381 v3089) a + S1x1x128.size a ≤ S50000x1x128.size a)
theorem k0_off381_inb : ∀ (v3089 : BitVec 32) (k0_hw299 : k0_chk299 v3089), ∀ a, (k0_off381 v3089) a + S1x1x128.size a ≤ S50000x1x128.size a := fun v3089 k0_hw299 => k0_hw299

def k0_off382 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c41_i32_1759 : BitVec 32 := 41#32
  let v3093 : BitVec 32 := Scalar.addi v2593 c41_i32_1759
  let v3094 : Index := Scalar.indexCast v3093
  let c0_1760 : Index := 0#32
  ![v3094.toNat, 0]
def k0_off383 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1761 : BitVec 32 := 128#32
  let v3098 : BitVec 32 := Scalar.muli arg33 c128_i32_1761
  let c42_i32 : BitVec 32 := 42#32
  let v3099 : BitVec 32 := Scalar.addi v3098 c42_i32
  let v3100 : Index := Scalar.indexCast v3099
  ![v3100.toNat]
def k0_off384 (v3101 : BitVec 32) : Fin 3 → Nat :=
  let v3102 : Index := Scalar.indexCast v3101
  let c0_1762 : Index := 0#32
  let c0_1763 : Index := 0#32
  ![v3102.toNat, 0, 0]

def k0_chk300 (v3101 : BitVec 32) : Prop :=
  (∀ a, (k0_off384 v3101) a + S1x1x128.size a ≤ S50000x1x128.size a)
theorem k0_off384_inb : ∀ (v3101 : BitVec 32) (k0_hw300 : k0_chk300 v3101), ∀ a, (k0_off384 v3101) a + S1x1x128.size a ≤ S50000x1x128.size a := fun v3101 k0_hw300 => k0_hw300

def k0_off385 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c42_i32_1764 : BitVec 32 := 42#32
  let v3105 : BitVec 32 := Scalar.addi v2593 c42_i32_1764
  let v3106 : Index := Scalar.indexCast v3105
  let c0_1765 : Index := 0#32
  ![v3106.toNat, 0]
def k0_off386 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1766 : BitVec 32 := 128#32
  let v3110 : BitVec 32 := Scalar.muli arg33 c128_i32_1766
  let c43_i32 : BitVec 32 := 43#32
  let v3111 : BitVec 32 := Scalar.addi v3110 c43_i32
  let v3112 : Index := Scalar.indexCast v3111
  ![v3112.toNat]
def k0_off387 (v3113 : BitVec 32) : Fin 3 → Nat :=
  let v3114 : Index := Scalar.indexCast v3113
  let c0_1767 : Index := 0#32
  let c0_1768 : Index := 0#32
  ![v3114.toNat, 0, 0]

def k0_chk301 (v3113 : BitVec 32) : Prop :=
  (∀ a, (k0_off387 v3113) a + S1x1x128.size a ≤ S50000x1x128.size a)
theorem k0_off387_inb : ∀ (v3113 : BitVec 32) (k0_hw301 : k0_chk301 v3113), ∀ a, (k0_off387 v3113) a + S1x1x128.size a ≤ S50000x1x128.size a := fun v3113 k0_hw301 => k0_hw301

def k0_off388 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c43_i32_1769 : BitVec 32 := 43#32
  let v3117 : BitVec 32 := Scalar.addi v2593 c43_i32_1769
  let v3118 : Index := Scalar.indexCast v3117
  let c0_1770 : Index := 0#32
  ![v3118.toNat, 0]
def k0_off389 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1771 : BitVec 32 := 128#32
  let v3122 : BitVec 32 := Scalar.muli arg33 c128_i32_1771
  let c44_i32 : BitVec 32 := 44#32
  let v3123 : BitVec 32 := Scalar.addi v3122 c44_i32
  let v3124 : Index := Scalar.indexCast v3123
  ![v3124.toNat]
def k0_off390 (v3125 : BitVec 32) : Fin 3 → Nat :=
  let v3126 : Index := Scalar.indexCast v3125
  let c0_1772 : Index := 0#32
  let c0_1773 : Index := 0#32
  ![v3126.toNat, 0, 0]

def k0_chk302 (v3125 : BitVec 32) : Prop :=
  (∀ a, (k0_off390 v3125) a + S1x1x128.size a ≤ S50000x1x128.size a)
theorem k0_off390_inb : ∀ (v3125 : BitVec 32) (k0_hw302 : k0_chk302 v3125), ∀ a, (k0_off390 v3125) a + S1x1x128.size a ≤ S50000x1x128.size a := fun v3125 k0_hw302 => k0_hw302

def k0_off391 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c44_i32_1774 : BitVec 32 := 44#32
  let v3129 : BitVec 32 := Scalar.addi v2593 c44_i32_1774
  let v3130 : Index := Scalar.indexCast v3129
  let c0_1775 : Index := 0#32
  ![v3130.toNat, 0]
def k0_off392 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1776 : BitVec 32 := 128#32
  let v3134 : BitVec 32 := Scalar.muli arg33 c128_i32_1776
  let c45_i32 : BitVec 32 := 45#32
  let v3135 : BitVec 32 := Scalar.addi v3134 c45_i32
  let v3136 : Index := Scalar.indexCast v3135
  ![v3136.toNat]
def k0_off393 (v3137 : BitVec 32) : Fin 3 → Nat :=
  let v3138 : Index := Scalar.indexCast v3137
  let c0_1777 : Index := 0#32
  let c0_1778 : Index := 0#32
  ![v3138.toNat, 0, 0]

def k0_chk303 (v3137 : BitVec 32) : Prop :=
  (∀ a, (k0_off393 v3137) a + S1x1x128.size a ≤ S50000x1x128.size a)
theorem k0_off393_inb : ∀ (v3137 : BitVec 32) (k0_hw303 : k0_chk303 v3137), ∀ a, (k0_off393 v3137) a + S1x1x128.size a ≤ S50000x1x128.size a := fun v3137 k0_hw303 => k0_hw303

def k0_off394 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c45_i32_1779 : BitVec 32 := 45#32
  let v3141 : BitVec 32 := Scalar.addi v2593 c45_i32_1779
  let v3142 : Index := Scalar.indexCast v3141
  let c0_1780 : Index := 0#32
  ![v3142.toNat, 0]
def k0_off395 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1781 : BitVec 32 := 128#32
  let v3146 : BitVec 32 := Scalar.muli arg33 c128_i32_1781
  let c46_i32 : BitVec 32 := 46#32
  let v3147 : BitVec 32 := Scalar.addi v3146 c46_i32
  let v3148 : Index := Scalar.indexCast v3147
  ![v3148.toNat]
def k0_off396 (v3149 : BitVec 32) : Fin 3 → Nat :=
  let v3150 : Index := Scalar.indexCast v3149
  let c0_1782 : Index := 0#32
  let c0_1783 : Index := 0#32
  ![v3150.toNat, 0, 0]

def k0_chk304 (v3149 : BitVec 32) : Prop :=
  (∀ a, (k0_off396 v3149) a + S1x1x128.size a ≤ S50000x1x128.size a)
theorem k0_off396_inb : ∀ (v3149 : BitVec 32) (k0_hw304 : k0_chk304 v3149), ∀ a, (k0_off396 v3149) a + S1x1x128.size a ≤ S50000x1x128.size a := fun v3149 k0_hw304 => k0_hw304

def k0_off397 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c46_i32_1784 : BitVec 32 := 46#32
  let v3153 : BitVec 32 := Scalar.addi v2593 c46_i32_1784
  let v3154 : Index := Scalar.indexCast v3153
  let c0_1785 : Index := 0#32
  ![v3154.toNat, 0]
def k0_off398 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1786 : BitVec 32 := 128#32
  let v3158 : BitVec 32 := Scalar.muli arg33 c128_i32_1786
  let c47_i32 : BitVec 32 := 47#32
  let v3159 : BitVec 32 := Scalar.addi v3158 c47_i32
  let v3160 : Index := Scalar.indexCast v3159
  ![v3160.toNat]
def k0_off399 (v3161 : BitVec 32) : Fin 3 → Nat :=
  let v3162 : Index := Scalar.indexCast v3161
  let c0_1787 : Index := 0#32
  let c0_1788 : Index := 0#32
  ![v3162.toNat, 0, 0]

def k0_chk305 (v3161 : BitVec 32) : Prop :=
  (∀ a, (k0_off399 v3161) a + S1x1x128.size a ≤ S50000x1x128.size a)
theorem k0_off399_inb : ∀ (v3161 : BitVec 32) (k0_hw305 : k0_chk305 v3161), ∀ a, (k0_off399 v3161) a + S1x1x128.size a ≤ S50000x1x128.size a := fun v3161 k0_hw305 => k0_hw305

def k0_off400 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c47_i32_1789 : BitVec 32 := 47#32
  let v3165 : BitVec 32 := Scalar.addi v2593 c47_i32_1789
  let v3166 : Index := Scalar.indexCast v3165
  let c0_1790 : Index := 0#32
  ![v3166.toNat, 0]
def k0_off401 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1791 : BitVec 32 := 128#32
  let v3170 : BitVec 32 := Scalar.muli arg33 c128_i32_1791
  let c48_i32 : BitVec 32 := 48#32
  let v3171 : BitVec 32 := Scalar.addi v3170 c48_i32
  let v3172 : Index := Scalar.indexCast v3171
  ![v3172.toNat]
def k0_off402 (v3173 : BitVec 32) : Fin 3 → Nat :=
  let v3174 : Index := Scalar.indexCast v3173
  let c0_1792 : Index := 0#32
  let c0_1793 : Index := 0#32
  ![v3174.toNat, 0, 0]

def k0_chk306 (v3173 : BitVec 32) : Prop :=
  (∀ a, (k0_off402 v3173) a + S1x1x128.size a ≤ S50000x1x128.size a)
theorem k0_off402_inb : ∀ (v3173 : BitVec 32) (k0_hw306 : k0_chk306 v3173), ∀ a, (k0_off402 v3173) a + S1x1x128.size a ≤ S50000x1x128.size a := fun v3173 k0_hw306 => k0_hw306

def k0_off403 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c48_i32_1794 : BitVec 32 := 48#32
  let v3177 : BitVec 32 := Scalar.addi v2593 c48_i32_1794
  let v3178 : Index := Scalar.indexCast v3177
  let c0_1795 : Index := 0#32
  ![v3178.toNat, 0]
def k0_off404 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1796 : BitVec 32 := 128#32
  let v3182 : BitVec 32 := Scalar.muli arg33 c128_i32_1796
  let c49_i32 : BitVec 32 := 49#32
  let v3183 : BitVec 32 := Scalar.addi v3182 c49_i32
  let v3184 : Index := Scalar.indexCast v3183
  ![v3184.toNat]
def k0_off405 (v3185 : BitVec 32) : Fin 3 → Nat :=
  let v3186 : Index := Scalar.indexCast v3185
  let c0_1797 : Index := 0#32
  let c0_1798 : Index := 0#32
  ![v3186.toNat, 0, 0]

def k0_chk307 (v3185 : BitVec 32) : Prop :=
  (∀ a, (k0_off405 v3185) a + S1x1x128.size a ≤ S50000x1x128.size a)
theorem k0_off405_inb : ∀ (v3185 : BitVec 32) (k0_hw307 : k0_chk307 v3185), ∀ a, (k0_off405 v3185) a + S1x1x128.size a ≤ S50000x1x128.size a := fun v3185 k0_hw307 => k0_hw307

def k0_off406 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c49_i32_1799 : BitVec 32 := 49#32
  let v3189 : BitVec 32 := Scalar.addi v2593 c49_i32_1799
  let v3190 : Index := Scalar.indexCast v3189
  let c0_1800 : Index := 0#32
  ![v3190.toNat, 0]
def k0_off407 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1801 : BitVec 32 := 128#32
  let v3194 : BitVec 32 := Scalar.muli arg33 c128_i32_1801
  let c50_i32 : BitVec 32 := 50#32
  let v3195 : BitVec 32 := Scalar.addi v3194 c50_i32
  let v3196 : Index := Scalar.indexCast v3195
  ![v3196.toNat]
def k0_off408 (v3197 : BitVec 32) : Fin 3 → Nat :=
  let v3198 : Index := Scalar.indexCast v3197
  let c0_1802 : Index := 0#32
  let c0_1803 : Index := 0#32
  ![v3198.toNat, 0, 0]

def k0_chk308 (v3197 : BitVec 32) : Prop :=
  (∀ a, (k0_off408 v3197) a + S1x1x128.size a ≤ S50000x1x128.size a)
theorem k0_off408_inb : ∀ (v3197 : BitVec 32) (k0_hw308 : k0_chk308 v3197), ∀ a, (k0_off408 v3197) a + S1x1x128.size a ≤ S50000x1x128.size a := fun v3197 k0_hw308 => k0_hw308

def k0_off409 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c50_i32_1804 : BitVec 32 := 50#32
  let v3201 : BitVec 32 := Scalar.addi v2593 c50_i32_1804
  let v3202 : Index := Scalar.indexCast v3201
  let c0_1805 : Index := 0#32
  ![v3202.toNat, 0]
def k0_off410 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1806 : BitVec 32 := 128#32
  let v3206 : BitVec 32 := Scalar.muli arg33 c128_i32_1806
  let c51_i32 : BitVec 32 := 51#32
  let v3207 : BitVec 32 := Scalar.addi v3206 c51_i32
  let v3208 : Index := Scalar.indexCast v3207
  ![v3208.toNat]
def k0_off411 (v3209 : BitVec 32) : Fin 3 → Nat :=
  let v3210 : Index := Scalar.indexCast v3209
  let c0_1807 : Index := 0#32
  let c0_1808 : Index := 0#32
  ![v3210.toNat, 0, 0]

def k0_chk309 (v3209 : BitVec 32) : Prop :=
  (∀ a, (k0_off411 v3209) a + S1x1x128.size a ≤ S50000x1x128.size a)
theorem k0_off411_inb : ∀ (v3209 : BitVec 32) (k0_hw309 : k0_chk309 v3209), ∀ a, (k0_off411 v3209) a + S1x1x128.size a ≤ S50000x1x128.size a := fun v3209 k0_hw309 => k0_hw309

def k0_off412 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c51_i32_1809 : BitVec 32 := 51#32
  let v3213 : BitVec 32 := Scalar.addi v2593 c51_i32_1809
  let v3214 : Index := Scalar.indexCast v3213
  let c0_1810 : Index := 0#32
  ![v3214.toNat, 0]
def k0_off413 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1811 : BitVec 32 := 128#32
  let v3218 : BitVec 32 := Scalar.muli arg33 c128_i32_1811
  let c52_i32 : BitVec 32 := 52#32
  let v3219 : BitVec 32 := Scalar.addi v3218 c52_i32
  let v3220 : Index := Scalar.indexCast v3219
  ![v3220.toNat]
def k0_off414 (v3221 : BitVec 32) : Fin 3 → Nat :=
  let v3222 : Index := Scalar.indexCast v3221
  let c0_1812 : Index := 0#32
  let c0_1813 : Index := 0#32
  ![v3222.toNat, 0, 0]

def k0_chk310 (v3221 : BitVec 32) : Prop :=
  (∀ a, (k0_off414 v3221) a + S1x1x128.size a ≤ S50000x1x128.size a)
theorem k0_off414_inb : ∀ (v3221 : BitVec 32) (k0_hw310 : k0_chk310 v3221), ∀ a, (k0_off414 v3221) a + S1x1x128.size a ≤ S50000x1x128.size a := fun v3221 k0_hw310 => k0_hw310

def k0_off415 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c52_i32_1814 : BitVec 32 := 52#32
  let v3225 : BitVec 32 := Scalar.addi v2593 c52_i32_1814
  let v3226 : Index := Scalar.indexCast v3225
  let c0_1815 : Index := 0#32
  ![v3226.toNat, 0]
def k0_off416 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1816 : BitVec 32 := 128#32
  let v3230 : BitVec 32 := Scalar.muli arg33 c128_i32_1816
  let c53_i32 : BitVec 32 := 53#32
  let v3231 : BitVec 32 := Scalar.addi v3230 c53_i32
  let v3232 : Index := Scalar.indexCast v3231
  ![v3232.toNat]
def k0_off417 (v3233 : BitVec 32) : Fin 3 → Nat :=
  let v3234 : Index := Scalar.indexCast v3233
  let c0_1817 : Index := 0#32
  let c0_1818 : Index := 0#32
  ![v3234.toNat, 0, 0]

def k0_chk311 (v3233 : BitVec 32) : Prop :=
  (∀ a, (k0_off417 v3233) a + S1x1x128.size a ≤ S50000x1x128.size a)
theorem k0_off417_inb : ∀ (v3233 : BitVec 32) (k0_hw311 : k0_chk311 v3233), ∀ a, (k0_off417 v3233) a + S1x1x128.size a ≤ S50000x1x128.size a := fun v3233 k0_hw311 => k0_hw311

def k0_off418 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c53_i32_1819 : BitVec 32 := 53#32
  let v3237 : BitVec 32 := Scalar.addi v2593 c53_i32_1819
  let v3238 : Index := Scalar.indexCast v3237
  let c0_1820 : Index := 0#32
  ![v3238.toNat, 0]
def k0_off419 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1821 : BitVec 32 := 128#32
  let v3242 : BitVec 32 := Scalar.muli arg33 c128_i32_1821
  let c54_i32 : BitVec 32 := 54#32
  let v3243 : BitVec 32 := Scalar.addi v3242 c54_i32
  let v3244 : Index := Scalar.indexCast v3243
  ![v3244.toNat]
def k0_off420 (v3245 : BitVec 32) : Fin 3 → Nat :=
  let v3246 : Index := Scalar.indexCast v3245
  let c0_1822 : Index := 0#32
  let c0_1823 : Index := 0#32
  ![v3246.toNat, 0, 0]

def k0_chk312 (v3245 : BitVec 32) : Prop :=
  (∀ a, (k0_off420 v3245) a + S1x1x128.size a ≤ S50000x1x128.size a)
theorem k0_off420_inb : ∀ (v3245 : BitVec 32) (k0_hw312 : k0_chk312 v3245), ∀ a, (k0_off420 v3245) a + S1x1x128.size a ≤ S50000x1x128.size a := fun v3245 k0_hw312 => k0_hw312

def k0_off421 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c54_i32_1824 : BitVec 32 := 54#32
  let v3249 : BitVec 32 := Scalar.addi v2593 c54_i32_1824
  let v3250 : Index := Scalar.indexCast v3249
  let c0_1825 : Index := 0#32
  ![v3250.toNat, 0]
def k0_off422 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1826 : BitVec 32 := 128#32
  let v3254 : BitVec 32 := Scalar.muli arg33 c128_i32_1826
  let c55_i32 : BitVec 32 := 55#32
  let v3255 : BitVec 32 := Scalar.addi v3254 c55_i32
  let v3256 : Index := Scalar.indexCast v3255
  ![v3256.toNat]
def k0_off423 (v3257 : BitVec 32) : Fin 3 → Nat :=
  let v3258 : Index := Scalar.indexCast v3257
  let c0_1827 : Index := 0#32
  let c0_1828 : Index := 0#32
  ![v3258.toNat, 0, 0]

def k0_chk313 (v3257 : BitVec 32) : Prop :=
  (∀ a, (k0_off423 v3257) a + S1x1x128.size a ≤ S50000x1x128.size a)
theorem k0_off423_inb : ∀ (v3257 : BitVec 32) (k0_hw313 : k0_chk313 v3257), ∀ a, (k0_off423 v3257) a + S1x1x128.size a ≤ S50000x1x128.size a := fun v3257 k0_hw313 => k0_hw313

def k0_off424 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c55_i32_1829 : BitVec 32 := 55#32
  let v3261 : BitVec 32 := Scalar.addi v2593 c55_i32_1829
  let v3262 : Index := Scalar.indexCast v3261
  let c0_1830 : Index := 0#32
  ![v3262.toNat, 0]
def k0_off425 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1831 : BitVec 32 := 128#32
  let v3266 : BitVec 32 := Scalar.muli arg33 c128_i32_1831
  let c56_i32 : BitVec 32 := 56#32
  let v3267 : BitVec 32 := Scalar.addi v3266 c56_i32
  let v3268 : Index := Scalar.indexCast v3267
  ![v3268.toNat]
def k0_off426 (v3269 : BitVec 32) : Fin 3 → Nat :=
  let v3270 : Index := Scalar.indexCast v3269
  let c0_1832 : Index := 0#32
  let c0_1833 : Index := 0#32
  ![v3270.toNat, 0, 0]

def k0_chk314 (v3269 : BitVec 32) : Prop :=
  (∀ a, (k0_off426 v3269) a + S1x1x128.size a ≤ S50000x1x128.size a)
theorem k0_off426_inb : ∀ (v3269 : BitVec 32) (k0_hw314 : k0_chk314 v3269), ∀ a, (k0_off426 v3269) a + S1x1x128.size a ≤ S50000x1x128.size a := fun v3269 k0_hw314 => k0_hw314

def k0_off427 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c56_i32_1834 : BitVec 32 := 56#32
  let v3273 : BitVec 32 := Scalar.addi v2593 c56_i32_1834
  let v3274 : Index := Scalar.indexCast v3273
  let c0_1835 : Index := 0#32
  ![v3274.toNat, 0]
def k0_off428 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1836 : BitVec 32 := 128#32
  let v3278 : BitVec 32 := Scalar.muli arg33 c128_i32_1836
  let c57_i32 : BitVec 32 := 57#32
  let v3279 : BitVec 32 := Scalar.addi v3278 c57_i32
  let v3280 : Index := Scalar.indexCast v3279
  ![v3280.toNat]
def k0_off429 (v3281 : BitVec 32) : Fin 3 → Nat :=
  let v3282 : Index := Scalar.indexCast v3281
  let c0_1837 : Index := 0#32
  let c0_1838 : Index := 0#32
  ![v3282.toNat, 0, 0]

def k0_chk315 (v3281 : BitVec 32) : Prop :=
  (∀ a, (k0_off429 v3281) a + S1x1x128.size a ≤ S50000x1x128.size a)
theorem k0_off429_inb : ∀ (v3281 : BitVec 32) (k0_hw315 : k0_chk315 v3281), ∀ a, (k0_off429 v3281) a + S1x1x128.size a ≤ S50000x1x128.size a := fun v3281 k0_hw315 => k0_hw315

def k0_off430 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c57_i32_1839 : BitVec 32 := 57#32
  let v3285 : BitVec 32 := Scalar.addi v2593 c57_i32_1839
  let v3286 : Index := Scalar.indexCast v3285
  let c0_1840 : Index := 0#32
  ![v3286.toNat, 0]
def k0_off431 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1841 : BitVec 32 := 128#32
  let v3290 : BitVec 32 := Scalar.muli arg33 c128_i32_1841
  let c58_i32 : BitVec 32 := 58#32
  let v3291 : BitVec 32 := Scalar.addi v3290 c58_i32
  let v3292 : Index := Scalar.indexCast v3291
  ![v3292.toNat]
def k0_off432 (v3293 : BitVec 32) : Fin 3 → Nat :=
  let v3294 : Index := Scalar.indexCast v3293
  let c0_1842 : Index := 0#32
  let c0_1843 : Index := 0#32
  ![v3294.toNat, 0, 0]

def k0_chk316 (v3293 : BitVec 32) : Prop :=
  (∀ a, (k0_off432 v3293) a + S1x1x128.size a ≤ S50000x1x128.size a)
theorem k0_off432_inb : ∀ (v3293 : BitVec 32) (k0_hw316 : k0_chk316 v3293), ∀ a, (k0_off432 v3293) a + S1x1x128.size a ≤ S50000x1x128.size a := fun v3293 k0_hw316 => k0_hw316

def k0_off433 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c58_i32_1844 : BitVec 32 := 58#32
  let v3297 : BitVec 32 := Scalar.addi v2593 c58_i32_1844
  let v3298 : Index := Scalar.indexCast v3297
  let c0_1845 : Index := 0#32
  ![v3298.toNat, 0]
def k0_off434 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1846 : BitVec 32 := 128#32
  let v3302 : BitVec 32 := Scalar.muli arg33 c128_i32_1846
  let c59_i32 : BitVec 32 := 59#32
  let v3303 : BitVec 32 := Scalar.addi v3302 c59_i32
  let v3304 : Index := Scalar.indexCast v3303
  ![v3304.toNat]
def k0_off435 (v3305 : BitVec 32) : Fin 3 → Nat :=
  let v3306 : Index := Scalar.indexCast v3305
  let c0_1847 : Index := 0#32
  let c0_1848 : Index := 0#32
  ![v3306.toNat, 0, 0]

def k0_chk317 (v3305 : BitVec 32) : Prop :=
  (∀ a, (k0_off435 v3305) a + S1x1x128.size a ≤ S50000x1x128.size a)
theorem k0_off435_inb : ∀ (v3305 : BitVec 32) (k0_hw317 : k0_chk317 v3305), ∀ a, (k0_off435 v3305) a + S1x1x128.size a ≤ S50000x1x128.size a := fun v3305 k0_hw317 => k0_hw317

def k0_off436 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c59_i32_1849 : BitVec 32 := 59#32
  let v3309 : BitVec 32 := Scalar.addi v2593 c59_i32_1849
  let v3310 : Index := Scalar.indexCast v3309
  let c0_1850 : Index := 0#32
  ![v3310.toNat, 0]
def k0_off437 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1851 : BitVec 32 := 128#32
  let v3314 : BitVec 32 := Scalar.muli arg33 c128_i32_1851
  let c60_i32 : BitVec 32 := 60#32
  let v3315 : BitVec 32 := Scalar.addi v3314 c60_i32
  let v3316 : Index := Scalar.indexCast v3315
  ![v3316.toNat]
def k0_off438 (v3317 : BitVec 32) : Fin 3 → Nat :=
  let v3318 : Index := Scalar.indexCast v3317
  let c0_1852 : Index := 0#32
  let c0_1853 : Index := 0#32
  ![v3318.toNat, 0, 0]

def k0_chk318 (v3317 : BitVec 32) : Prop :=
  (∀ a, (k0_off438 v3317) a + S1x1x128.size a ≤ S50000x1x128.size a)
theorem k0_off438_inb : ∀ (v3317 : BitVec 32) (k0_hw318 : k0_chk318 v3317), ∀ a, (k0_off438 v3317) a + S1x1x128.size a ≤ S50000x1x128.size a := fun v3317 k0_hw318 => k0_hw318

def k0_off439 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c60_i32_1854 : BitVec 32 := 60#32
  let v3321 : BitVec 32 := Scalar.addi v2593 c60_i32_1854
  let v3322 : Index := Scalar.indexCast v3321
  let c0_1855 : Index := 0#32
  ![v3322.toNat, 0]
def k0_off440 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1856 : BitVec 32 := 128#32
  let v3326 : BitVec 32 := Scalar.muli arg33 c128_i32_1856
  let c61_i32 : BitVec 32 := 61#32
  let v3327 : BitVec 32 := Scalar.addi v3326 c61_i32
  let v3328 : Index := Scalar.indexCast v3327
  ![v3328.toNat]
def k0_off441 (v3329 : BitVec 32) : Fin 3 → Nat :=
  let v3330 : Index := Scalar.indexCast v3329
  let c0_1857 : Index := 0#32
  let c0_1858 : Index := 0#32
  ![v3330.toNat, 0, 0]

def k0_chk319 (v3329 : BitVec 32) : Prop :=
  (∀ a, (k0_off441 v3329) a + S1x1x128.size a ≤ S50000x1x128.size a)
theorem k0_off441_inb : ∀ (v3329 : BitVec 32) (k0_hw319 : k0_chk319 v3329), ∀ a, (k0_off441 v3329) a + S1x1x128.size a ≤ S50000x1x128.size a := fun v3329 k0_hw319 => k0_hw319

def k0_off442 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c61_i32_1859 : BitVec 32 := 61#32
  let v3333 : BitVec 32 := Scalar.addi v2593 c61_i32_1859
  let v3334 : Index := Scalar.indexCast v3333
  let c0_1860 : Index := 0#32
  ![v3334.toNat, 0]
def k0_off443 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1861 : BitVec 32 := 128#32
  let v3338 : BitVec 32 := Scalar.muli arg33 c128_i32_1861
  let c62_i32 : BitVec 32 := 62#32
  let v3339 : BitVec 32 := Scalar.addi v3338 c62_i32
  let v3340 : Index := Scalar.indexCast v3339
  ![v3340.toNat]
def k0_off444 (v3341 : BitVec 32) : Fin 3 → Nat :=
  let v3342 : Index := Scalar.indexCast v3341
  let c0_1862 : Index := 0#32
  let c0_1863 : Index := 0#32
  ![v3342.toNat, 0, 0]

def k0_chk320 (v3341 : BitVec 32) : Prop :=
  (∀ a, (k0_off444 v3341) a + S1x1x128.size a ≤ S50000x1x128.size a)
theorem k0_off444_inb : ∀ (v3341 : BitVec 32) (k0_hw320 : k0_chk320 v3341), ∀ a, (k0_off444 v3341) a + S1x1x128.size a ≤ S50000x1x128.size a := fun v3341 k0_hw320 => k0_hw320

def k0_off445 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c62_i32_1864 : BitVec 32 := 62#32
  let v3345 : BitVec 32 := Scalar.addi v2593 c62_i32_1864
  let v3346 : Index := Scalar.indexCast v3345
  let c0_1865 : Index := 0#32
  ![v3346.toNat, 0]
def k0_off446 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1866 : BitVec 32 := 128#32
  let v3350 : BitVec 32 := Scalar.muli arg33 c128_i32_1866
  let c63_i32 : BitVec 32 := 63#32
  let v3351 : BitVec 32 := Scalar.addi v3350 c63_i32
  let v3352 : Index := Scalar.indexCast v3351
  ![v3352.toNat]
def k0_off447 (v3353 : BitVec 32) : Fin 3 → Nat :=
  let v3354 : Index := Scalar.indexCast v3353
  let c0_1867 : Index := 0#32
  let c0_1868 : Index := 0#32
  ![v3354.toNat, 0, 0]

def k0_chk321 (v3353 : BitVec 32) : Prop :=
  (∀ a, (k0_off447 v3353) a + S1x1x128.size a ≤ S50000x1x128.size a)
theorem k0_off447_inb : ∀ (v3353 : BitVec 32) (k0_hw321 : k0_chk321 v3353), ∀ a, (k0_off447 v3353) a + S1x1x128.size a ≤ S50000x1x128.size a := fun v3353 k0_hw321 => k0_hw321

def k0_off448 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c63_i32_1869 : BitVec 32 := 63#32
  let v3357 : BitVec 32 := Scalar.addi v2593 c63_i32_1869
  let v3358 : Index := Scalar.indexCast v3357
  let c0_1870 : Index := 0#32
  ![v3358.toNat, 0]
def k0_off449 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1871 : BitVec 32 := 128#32
  let v3362 : BitVec 32 := Scalar.muli arg33 c128_i32_1871
  let c64_i32 : BitVec 32 := 64#32
  let v3363 : BitVec 32 := Scalar.addi v3362 c64_i32
  let v3364 : Index := Scalar.indexCast v3363
  ![v3364.toNat]
def k0_off450 (v3365 : BitVec 32) : Fin 3 → Nat :=
  let v3366 : Index := Scalar.indexCast v3365
  let c0_1872 : Index := 0#32
  let c0_1873 : Index := 0#32
  ![v3366.toNat, 0, 0]

def k0_chk322 (v3365 : BitVec 32) : Prop :=
  (∀ a, (k0_off450 v3365) a + S1x1x128.size a ≤ S50000x1x128.size a)
theorem k0_off450_inb : ∀ (v3365 : BitVec 32) (k0_hw322 : k0_chk322 v3365), ∀ a, (k0_off450 v3365) a + S1x1x128.size a ≤ S50000x1x128.size a := fun v3365 k0_hw322 => k0_hw322

def k0_off451 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c64_i32_1874 : BitVec 32 := 64#32
  let v3369 : BitVec 32 := Scalar.addi v2593 c64_i32_1874
  let v3370 : Index := Scalar.indexCast v3369
  let c0_1875 : Index := 0#32
  ![v3370.toNat, 0]
def k0_off452 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1876 : BitVec 32 := 128#32
  let v3374 : BitVec 32 := Scalar.muli arg33 c128_i32_1876
  let c65_i32 : BitVec 32 := 65#32
  let v3375 : BitVec 32 := Scalar.addi v3374 c65_i32
  let v3376 : Index := Scalar.indexCast v3375
  ![v3376.toNat]
def k0_off453 (v3377 : BitVec 32) : Fin 3 → Nat :=
  let v3378 : Index := Scalar.indexCast v3377
  let c0_1877 : Index := 0#32
  let c0_1878 : Index := 0#32
  ![v3378.toNat, 0, 0]

def k0_chk323 (v3377 : BitVec 32) : Prop :=
  (∀ a, (k0_off453 v3377) a + S1x1x128.size a ≤ S50000x1x128.size a)
theorem k0_off453_inb : ∀ (v3377 : BitVec 32) (k0_hw323 : k0_chk323 v3377), ∀ a, (k0_off453 v3377) a + S1x1x128.size a ≤ S50000x1x128.size a := fun v3377 k0_hw323 => k0_hw323

def k0_off454 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c65_i32_1879 : BitVec 32 := 65#32
  let v3381 : BitVec 32 := Scalar.addi v2593 c65_i32_1879
  let v3382 : Index := Scalar.indexCast v3381
  let c0_1880 : Index := 0#32
  ![v3382.toNat, 0]
def k0_off455 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1881 : BitVec 32 := 128#32
  let v3386 : BitVec 32 := Scalar.muli arg33 c128_i32_1881
  let c66_i32 : BitVec 32 := 66#32
  let v3387 : BitVec 32 := Scalar.addi v3386 c66_i32
  let v3388 : Index := Scalar.indexCast v3387
  ![v3388.toNat]
def k0_off456 (v3389 : BitVec 32) : Fin 3 → Nat :=
  let v3390 : Index := Scalar.indexCast v3389
  let c0_1882 : Index := 0#32
  let c0_1883 : Index := 0#32
  ![v3390.toNat, 0, 0]

def k0_chk324 (v3389 : BitVec 32) : Prop :=
  (∀ a, (k0_off456 v3389) a + S1x1x128.size a ≤ S50000x1x128.size a)
theorem k0_off456_inb : ∀ (v3389 : BitVec 32) (k0_hw324 : k0_chk324 v3389), ∀ a, (k0_off456 v3389) a + S1x1x128.size a ≤ S50000x1x128.size a := fun v3389 k0_hw324 => k0_hw324

def k0_off457 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c66_i32_1884 : BitVec 32 := 66#32
  let v3393 : BitVec 32 := Scalar.addi v2593 c66_i32_1884
  let v3394 : Index := Scalar.indexCast v3393
  let c0_1885 : Index := 0#32
  ![v3394.toNat, 0]
def k0_off458 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1886 : BitVec 32 := 128#32
  let v3398 : BitVec 32 := Scalar.muli arg33 c128_i32_1886
  let c67_i32 : BitVec 32 := 67#32
  let v3399 : BitVec 32 := Scalar.addi v3398 c67_i32
  let v3400 : Index := Scalar.indexCast v3399
  ![v3400.toNat]
def k0_off459 (v3401 : BitVec 32) : Fin 3 → Nat :=
  let v3402 : Index := Scalar.indexCast v3401
  let c0_1887 : Index := 0#32
  let c0_1888 : Index := 0#32
  ![v3402.toNat, 0, 0]

def k0_chk325 (v3401 : BitVec 32) : Prop :=
  (∀ a, (k0_off459 v3401) a + S1x1x128.size a ≤ S50000x1x128.size a)
theorem k0_off459_inb : ∀ (v3401 : BitVec 32) (k0_hw325 : k0_chk325 v3401), ∀ a, (k0_off459 v3401) a + S1x1x128.size a ≤ S50000x1x128.size a := fun v3401 k0_hw325 => k0_hw325

def k0_off460 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c67_i32_1889 : BitVec 32 := 67#32
  let v3405 : BitVec 32 := Scalar.addi v2593 c67_i32_1889
  let v3406 : Index := Scalar.indexCast v3405
  let c0_1890 : Index := 0#32
  ![v3406.toNat, 0]
def k0_off461 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1891 : BitVec 32 := 128#32
  let v3410 : BitVec 32 := Scalar.muli arg33 c128_i32_1891
  let c68_i32 : BitVec 32 := 68#32
  let v3411 : BitVec 32 := Scalar.addi v3410 c68_i32
  let v3412 : Index := Scalar.indexCast v3411
  ![v3412.toNat]
def k0_off462 (v3413 : BitVec 32) : Fin 3 → Nat :=
  let v3414 : Index := Scalar.indexCast v3413
  let c0_1892 : Index := 0#32
  let c0_1893 : Index := 0#32
  ![v3414.toNat, 0, 0]

def k0_chk326 (v3413 : BitVec 32) : Prop :=
  (∀ a, (k0_off462 v3413) a + S1x1x128.size a ≤ S50000x1x128.size a)
theorem k0_off462_inb : ∀ (v3413 : BitVec 32) (k0_hw326 : k0_chk326 v3413), ∀ a, (k0_off462 v3413) a + S1x1x128.size a ≤ S50000x1x128.size a := fun v3413 k0_hw326 => k0_hw326

def k0_off463 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c68_i32_1894 : BitVec 32 := 68#32
  let v3417 : BitVec 32 := Scalar.addi v2593 c68_i32_1894
  let v3418 : Index := Scalar.indexCast v3417
  let c0_1895 : Index := 0#32
  ![v3418.toNat, 0]
def k0_off464 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1896 : BitVec 32 := 128#32
  let v3422 : BitVec 32 := Scalar.muli arg33 c128_i32_1896
  let c69_i32 : BitVec 32 := 69#32
  let v3423 : BitVec 32 := Scalar.addi v3422 c69_i32
  let v3424 : Index := Scalar.indexCast v3423
  ![v3424.toNat]
def k0_off465 (v3425 : BitVec 32) : Fin 3 → Nat :=
  let v3426 : Index := Scalar.indexCast v3425
  let c0_1897 : Index := 0#32
  let c0_1898 : Index := 0#32
  ![v3426.toNat, 0, 0]

def k0_chk327 (v3425 : BitVec 32) : Prop :=
  (∀ a, (k0_off465 v3425) a + S1x1x128.size a ≤ S50000x1x128.size a)
theorem k0_off465_inb : ∀ (v3425 : BitVec 32) (k0_hw327 : k0_chk327 v3425), ∀ a, (k0_off465 v3425) a + S1x1x128.size a ≤ S50000x1x128.size a := fun v3425 k0_hw327 => k0_hw327

def k0_off466 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c69_i32_1899 : BitVec 32 := 69#32
  let v3429 : BitVec 32 := Scalar.addi v2593 c69_i32_1899
  let v3430 : Index := Scalar.indexCast v3429
  let c0_1900 : Index := 0#32
  ![v3430.toNat, 0]
def k0_off467 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1901 : BitVec 32 := 128#32
  let v3434 : BitVec 32 := Scalar.muli arg33 c128_i32_1901
  let c70_i32 : BitVec 32 := 70#32
  let v3435 : BitVec 32 := Scalar.addi v3434 c70_i32
  let v3436 : Index := Scalar.indexCast v3435
  ![v3436.toNat]
def k0_off468 (v3437 : BitVec 32) : Fin 3 → Nat :=
  let v3438 : Index := Scalar.indexCast v3437
  let c0_1902 : Index := 0#32
  let c0_1903 : Index := 0#32
  ![v3438.toNat, 0, 0]

def k0_chk328 (v3437 : BitVec 32) : Prop :=
  (∀ a, (k0_off468 v3437) a + S1x1x128.size a ≤ S50000x1x128.size a)
theorem k0_off468_inb : ∀ (v3437 : BitVec 32) (k0_hw328 : k0_chk328 v3437), ∀ a, (k0_off468 v3437) a + S1x1x128.size a ≤ S50000x1x128.size a := fun v3437 k0_hw328 => k0_hw328

def k0_off469 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c70_i32_1904 : BitVec 32 := 70#32
  let v3441 : BitVec 32 := Scalar.addi v2593 c70_i32_1904
  let v3442 : Index := Scalar.indexCast v3441
  let c0_1905 : Index := 0#32
  ![v3442.toNat, 0]
def k0_off470 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1906 : BitVec 32 := 128#32
  let v3446 : BitVec 32 := Scalar.muli arg33 c128_i32_1906
  let c71_i32 : BitVec 32 := 71#32
  let v3447 : BitVec 32 := Scalar.addi v3446 c71_i32
  let v3448 : Index := Scalar.indexCast v3447
  ![v3448.toNat]
def k0_off471 (v3449 : BitVec 32) : Fin 3 → Nat :=
  let v3450 : Index := Scalar.indexCast v3449
  let c0_1907 : Index := 0#32
  let c0_1908 : Index := 0#32
  ![v3450.toNat, 0, 0]

def k0_chk329 (v3449 : BitVec 32) : Prop :=
  (∀ a, (k0_off471 v3449) a + S1x1x128.size a ≤ S50000x1x128.size a)
theorem k0_off471_inb : ∀ (v3449 : BitVec 32) (k0_hw329 : k0_chk329 v3449), ∀ a, (k0_off471 v3449) a + S1x1x128.size a ≤ S50000x1x128.size a := fun v3449 k0_hw329 => k0_hw329

def k0_off472 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c71_i32_1909 : BitVec 32 := 71#32
  let v3453 : BitVec 32 := Scalar.addi v2593 c71_i32_1909
  let v3454 : Index := Scalar.indexCast v3453
  let c0_1910 : Index := 0#32
  ![v3454.toNat, 0]
def k0_off473 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1911 : BitVec 32 := 128#32
  let v3458 : BitVec 32 := Scalar.muli arg33 c128_i32_1911
  let c72_i32 : BitVec 32 := 72#32
  let v3459 : BitVec 32 := Scalar.addi v3458 c72_i32
  let v3460 : Index := Scalar.indexCast v3459
  ![v3460.toNat]
def k0_off474 (v3461 : BitVec 32) : Fin 3 → Nat :=
  let v3462 : Index := Scalar.indexCast v3461
  let c0_1912 : Index := 0#32
  let c0_1913 : Index := 0#32
  ![v3462.toNat, 0, 0]

def k0_chk330 (v3461 : BitVec 32) : Prop :=
  (∀ a, (k0_off474 v3461) a + S1x1x128.size a ≤ S50000x1x128.size a)
theorem k0_off474_inb : ∀ (v3461 : BitVec 32) (k0_hw330 : k0_chk330 v3461), ∀ a, (k0_off474 v3461) a + S1x1x128.size a ≤ S50000x1x128.size a := fun v3461 k0_hw330 => k0_hw330

def k0_off475 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c72_i32_1914 : BitVec 32 := 72#32
  let v3465 : BitVec 32 := Scalar.addi v2593 c72_i32_1914
  let v3466 : Index := Scalar.indexCast v3465
  let c0_1915 : Index := 0#32
  ![v3466.toNat, 0]
def k0_off476 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1916 : BitVec 32 := 128#32
  let v3470 : BitVec 32 := Scalar.muli arg33 c128_i32_1916
  let c73_i32 : BitVec 32 := 73#32
  let v3471 : BitVec 32 := Scalar.addi v3470 c73_i32
  let v3472 : Index := Scalar.indexCast v3471
  ![v3472.toNat]
def k0_off477 (v3473 : BitVec 32) : Fin 3 → Nat :=
  let v3474 : Index := Scalar.indexCast v3473
  let c0_1917 : Index := 0#32
  let c0_1918 : Index := 0#32
  ![v3474.toNat, 0, 0]

def k0_chk331 (v3473 : BitVec 32) : Prop :=
  (∀ a, (k0_off477 v3473) a + S1x1x128.size a ≤ S50000x1x128.size a)
theorem k0_off477_inb : ∀ (v3473 : BitVec 32) (k0_hw331 : k0_chk331 v3473), ∀ a, (k0_off477 v3473) a + S1x1x128.size a ≤ S50000x1x128.size a := fun v3473 k0_hw331 => k0_hw331

def k0_off478 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c73_i32_1919 : BitVec 32 := 73#32
  let v3477 : BitVec 32 := Scalar.addi v2593 c73_i32_1919
  let v3478 : Index := Scalar.indexCast v3477
  let c0_1920 : Index := 0#32
  ![v3478.toNat, 0]
def k0_off479 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1921 : BitVec 32 := 128#32
  let v3482 : BitVec 32 := Scalar.muli arg33 c128_i32_1921
  let c74_i32 : BitVec 32 := 74#32
  let v3483 : BitVec 32 := Scalar.addi v3482 c74_i32
  let v3484 : Index := Scalar.indexCast v3483
  ![v3484.toNat]
def k0_off480 (v3485 : BitVec 32) : Fin 3 → Nat :=
  let v3486 : Index := Scalar.indexCast v3485
  let c0_1922 : Index := 0#32
  let c0_1923 : Index := 0#32
  ![v3486.toNat, 0, 0]

def k0_chk332 (v3485 : BitVec 32) : Prop :=
  (∀ a, (k0_off480 v3485) a + S1x1x128.size a ≤ S50000x1x128.size a)
theorem k0_off480_inb : ∀ (v3485 : BitVec 32) (k0_hw332 : k0_chk332 v3485), ∀ a, (k0_off480 v3485) a + S1x1x128.size a ≤ S50000x1x128.size a := fun v3485 k0_hw332 => k0_hw332

def k0_off481 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c74_i32_1924 : BitVec 32 := 74#32
  let v3489 : BitVec 32 := Scalar.addi v2593 c74_i32_1924
  let v3490 : Index := Scalar.indexCast v3489
  let c0_1925 : Index := 0#32
  ![v3490.toNat, 0]
def k0_off482 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1926 : BitVec 32 := 128#32
  let v3494 : BitVec 32 := Scalar.muli arg33 c128_i32_1926
  let c75_i32 : BitVec 32 := 75#32
  let v3495 : BitVec 32 := Scalar.addi v3494 c75_i32
  let v3496 : Index := Scalar.indexCast v3495
  ![v3496.toNat]
def k0_off483 (v3497 : BitVec 32) : Fin 3 → Nat :=
  let v3498 : Index := Scalar.indexCast v3497
  let c0_1927 : Index := 0#32
  let c0_1928 : Index := 0#32
  ![v3498.toNat, 0, 0]

def k0_chk333 (v3497 : BitVec 32) : Prop :=
  (∀ a, (k0_off483 v3497) a + S1x1x128.size a ≤ S50000x1x128.size a)
theorem k0_off483_inb : ∀ (v3497 : BitVec 32) (k0_hw333 : k0_chk333 v3497), ∀ a, (k0_off483 v3497) a + S1x1x128.size a ≤ S50000x1x128.size a := fun v3497 k0_hw333 => k0_hw333

def k0_off484 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c75_i32_1929 : BitVec 32 := 75#32
  let v3501 : BitVec 32 := Scalar.addi v2593 c75_i32_1929
  let v3502 : Index := Scalar.indexCast v3501
  let c0_1930 : Index := 0#32
  ![v3502.toNat, 0]
def k0_off485 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1931 : BitVec 32 := 128#32
  let v3506 : BitVec 32 := Scalar.muli arg33 c128_i32_1931
  let c76_i32 : BitVec 32 := 76#32
  let v3507 : BitVec 32 := Scalar.addi v3506 c76_i32
  let v3508 : Index := Scalar.indexCast v3507
  ![v3508.toNat]
def k0_off486 (v3509 : BitVec 32) : Fin 3 → Nat :=
  let v3510 : Index := Scalar.indexCast v3509
  let c0_1932 : Index := 0#32
  let c0_1933 : Index := 0#32
  ![v3510.toNat, 0, 0]

def k0_chk334 (v3509 : BitVec 32) : Prop :=
  (∀ a, (k0_off486 v3509) a + S1x1x128.size a ≤ S50000x1x128.size a)
theorem k0_off486_inb : ∀ (v3509 : BitVec 32) (k0_hw334 : k0_chk334 v3509), ∀ a, (k0_off486 v3509) a + S1x1x128.size a ≤ S50000x1x128.size a := fun v3509 k0_hw334 => k0_hw334

def k0_off487 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c76_i32_1934 : BitVec 32 := 76#32
  let v3513 : BitVec 32 := Scalar.addi v2593 c76_i32_1934
  let v3514 : Index := Scalar.indexCast v3513
  let c0_1935 : Index := 0#32
  ![v3514.toNat, 0]
def k0_off488 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1936 : BitVec 32 := 128#32
  let v3518 : BitVec 32 := Scalar.muli arg33 c128_i32_1936
  let c77_i32 : BitVec 32 := 77#32
  let v3519 : BitVec 32 := Scalar.addi v3518 c77_i32
  let v3520 : Index := Scalar.indexCast v3519
  ![v3520.toNat]
def k0_off489 (v3521 : BitVec 32) : Fin 3 → Nat :=
  let v3522 : Index := Scalar.indexCast v3521
  let c0_1937 : Index := 0#32
  let c0_1938 : Index := 0#32
  ![v3522.toNat, 0, 0]

def k0_chk335 (v3521 : BitVec 32) : Prop :=
  (∀ a, (k0_off489 v3521) a + S1x1x128.size a ≤ S50000x1x128.size a)
theorem k0_off489_inb : ∀ (v3521 : BitVec 32) (k0_hw335 : k0_chk335 v3521), ∀ a, (k0_off489 v3521) a + S1x1x128.size a ≤ S50000x1x128.size a := fun v3521 k0_hw335 => k0_hw335

def k0_off490 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c77_i32_1939 : BitVec 32 := 77#32
  let v3525 : BitVec 32 := Scalar.addi v2593 c77_i32_1939
  let v3526 : Index := Scalar.indexCast v3525
  let c0_1940 : Index := 0#32
  ![v3526.toNat, 0]
def k0_off491 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1941 : BitVec 32 := 128#32
  let v3530 : BitVec 32 := Scalar.muli arg33 c128_i32_1941
  let c78_i32 : BitVec 32 := 78#32
  let v3531 : BitVec 32 := Scalar.addi v3530 c78_i32
  let v3532 : Index := Scalar.indexCast v3531
  ![v3532.toNat]
def k0_off492 (v3533 : BitVec 32) : Fin 3 → Nat :=
  let v3534 : Index := Scalar.indexCast v3533
  let c0_1942 : Index := 0#32
  let c0_1943 : Index := 0#32
  ![v3534.toNat, 0, 0]

def k0_chk336 (v3533 : BitVec 32) : Prop :=
  (∀ a, (k0_off492 v3533) a + S1x1x128.size a ≤ S50000x1x128.size a)
theorem k0_off492_inb : ∀ (v3533 : BitVec 32) (k0_hw336 : k0_chk336 v3533), ∀ a, (k0_off492 v3533) a + S1x1x128.size a ≤ S50000x1x128.size a := fun v3533 k0_hw336 => k0_hw336

def k0_off493 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c78_i32_1944 : BitVec 32 := 78#32
  let v3537 : BitVec 32 := Scalar.addi v2593 c78_i32_1944
  let v3538 : Index := Scalar.indexCast v3537
  let c0_1945 : Index := 0#32
  ![v3538.toNat, 0]
def k0_off494 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1946 : BitVec 32 := 128#32
  let v3542 : BitVec 32 := Scalar.muli arg33 c128_i32_1946
  let c79_i32 : BitVec 32 := 79#32
  let v3543 : BitVec 32 := Scalar.addi v3542 c79_i32
  let v3544 : Index := Scalar.indexCast v3543
  ![v3544.toNat]
def k0_off495 (v3545 : BitVec 32) : Fin 3 → Nat :=
  let v3546 : Index := Scalar.indexCast v3545
  let c0_1947 : Index := 0#32
  let c0_1948 : Index := 0#32
  ![v3546.toNat, 0, 0]

def k0_chk337 (v3545 : BitVec 32) : Prop :=
  (∀ a, (k0_off495 v3545) a + S1x1x128.size a ≤ S50000x1x128.size a)
theorem k0_off495_inb : ∀ (v3545 : BitVec 32) (k0_hw337 : k0_chk337 v3545), ∀ a, (k0_off495 v3545) a + S1x1x128.size a ≤ S50000x1x128.size a := fun v3545 k0_hw337 => k0_hw337

def k0_off496 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c79_i32_1949 : BitVec 32 := 79#32
  let v3549 : BitVec 32 := Scalar.addi v2593 c79_i32_1949
  let v3550 : Index := Scalar.indexCast v3549
  let c0_1950 : Index := 0#32
  ![v3550.toNat, 0]
def k0_off497 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1951 : BitVec 32 := 128#32
  let v3554 : BitVec 32 := Scalar.muli arg33 c128_i32_1951
  let c80_i32 : BitVec 32 := 80#32
  let v3555 : BitVec 32 := Scalar.addi v3554 c80_i32
  let v3556 : Index := Scalar.indexCast v3555
  ![v3556.toNat]
def k0_off498 (v3557 : BitVec 32) : Fin 3 → Nat :=
  let v3558 : Index := Scalar.indexCast v3557
  let c0_1952 : Index := 0#32
  let c0_1953 : Index := 0#32
  ![v3558.toNat, 0, 0]

def k0_chk338 (v3557 : BitVec 32) : Prop :=
  (∀ a, (k0_off498 v3557) a + S1x1x128.size a ≤ S50000x1x128.size a)
theorem k0_off498_inb : ∀ (v3557 : BitVec 32) (k0_hw338 : k0_chk338 v3557), ∀ a, (k0_off498 v3557) a + S1x1x128.size a ≤ S50000x1x128.size a := fun v3557 k0_hw338 => k0_hw338

def k0_off499 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c80_i32_1954 : BitVec 32 := 80#32
  let v3561 : BitVec 32 := Scalar.addi v2593 c80_i32_1954
  let v3562 : Index := Scalar.indexCast v3561
  let c0_1955 : Index := 0#32
  ![v3562.toNat, 0]
def k0_off500 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1956 : BitVec 32 := 128#32
  let v3566 : BitVec 32 := Scalar.muli arg33 c128_i32_1956
  let c81_i32 : BitVec 32 := 81#32
  let v3567 : BitVec 32 := Scalar.addi v3566 c81_i32
  let v3568 : Index := Scalar.indexCast v3567
  ![v3568.toNat]
def k0_off501 (v3569 : BitVec 32) : Fin 3 → Nat :=
  let v3570 : Index := Scalar.indexCast v3569
  let c0_1957 : Index := 0#32
  let c0_1958 : Index := 0#32
  ![v3570.toNat, 0, 0]

def k0_chk339 (v3569 : BitVec 32) : Prop :=
  (∀ a, (k0_off501 v3569) a + S1x1x128.size a ≤ S50000x1x128.size a)
theorem k0_off501_inb : ∀ (v3569 : BitVec 32) (k0_hw339 : k0_chk339 v3569), ∀ a, (k0_off501 v3569) a + S1x1x128.size a ≤ S50000x1x128.size a := fun v3569 k0_hw339 => k0_hw339

def k0_off502 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c81_i32_1959 : BitVec 32 := 81#32
  let v3573 : BitVec 32 := Scalar.addi v2593 c81_i32_1959
  let v3574 : Index := Scalar.indexCast v3573
  let c0_1960 : Index := 0#32
  ![v3574.toNat, 0]
def k0_off503 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1961 : BitVec 32 := 128#32
  let v3578 : BitVec 32 := Scalar.muli arg33 c128_i32_1961
  let c82_i32 : BitVec 32 := 82#32
  let v3579 : BitVec 32 := Scalar.addi v3578 c82_i32
  let v3580 : Index := Scalar.indexCast v3579
  ![v3580.toNat]
def k0_off504 (v3581 : BitVec 32) : Fin 3 → Nat :=
  let v3582 : Index := Scalar.indexCast v3581
  let c0_1962 : Index := 0#32
  let c0_1963 : Index := 0#32
  ![v3582.toNat, 0, 0]

def k0_chk340 (v3581 : BitVec 32) : Prop :=
  (∀ a, (k0_off504 v3581) a + S1x1x128.size a ≤ S50000x1x128.size a)
theorem k0_off504_inb : ∀ (v3581 : BitVec 32) (k0_hw340 : k0_chk340 v3581), ∀ a, (k0_off504 v3581) a + S1x1x128.size a ≤ S50000x1x128.size a := fun v3581 k0_hw340 => k0_hw340

def k0_off505 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c82_i32_1964 : BitVec 32 := 82#32
  let v3585 : BitVec 32 := Scalar.addi v2593 c82_i32_1964
  let v3586 : Index := Scalar.indexCast v3585
  let c0_1965 : Index := 0#32
  ![v3586.toNat, 0]
def k0_off506 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1966 : BitVec 32 := 128#32
  let v3590 : BitVec 32 := Scalar.muli arg33 c128_i32_1966
  let c83_i32 : BitVec 32 := 83#32
  let v3591 : BitVec 32 := Scalar.addi v3590 c83_i32
  let v3592 : Index := Scalar.indexCast v3591
  ![v3592.toNat]
def k0_off507 (v3593 : BitVec 32) : Fin 3 → Nat :=
  let v3594 : Index := Scalar.indexCast v3593
  let c0_1967 : Index := 0#32
  let c0_1968 : Index := 0#32
  ![v3594.toNat, 0, 0]

def k0_chk341 (v3593 : BitVec 32) : Prop :=
  (∀ a, (k0_off507 v3593) a + S1x1x128.size a ≤ S50000x1x128.size a)
theorem k0_off507_inb : ∀ (v3593 : BitVec 32) (k0_hw341 : k0_chk341 v3593), ∀ a, (k0_off507 v3593) a + S1x1x128.size a ≤ S50000x1x128.size a := fun v3593 k0_hw341 => k0_hw341

def k0_off508 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c83_i32_1969 : BitVec 32 := 83#32
  let v3597 : BitVec 32 := Scalar.addi v2593 c83_i32_1969
  let v3598 : Index := Scalar.indexCast v3597
  let c0_1970 : Index := 0#32
  ![v3598.toNat, 0]
def k0_off509 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1971 : BitVec 32 := 128#32
  let v3602 : BitVec 32 := Scalar.muli arg33 c128_i32_1971
  let c84_i32 : BitVec 32 := 84#32
  let v3603 : BitVec 32 := Scalar.addi v3602 c84_i32
  let v3604 : Index := Scalar.indexCast v3603
  ![v3604.toNat]
def k0_off510 (v3605 : BitVec 32) : Fin 3 → Nat :=
  let v3606 : Index := Scalar.indexCast v3605
  let c0_1972 : Index := 0#32
  let c0_1973 : Index := 0#32
  ![v3606.toNat, 0, 0]

def k0_chk342 (v3605 : BitVec 32) : Prop :=
  (∀ a, (k0_off510 v3605) a + S1x1x128.size a ≤ S50000x1x128.size a)
theorem k0_off510_inb : ∀ (v3605 : BitVec 32) (k0_hw342 : k0_chk342 v3605), ∀ a, (k0_off510 v3605) a + S1x1x128.size a ≤ S50000x1x128.size a := fun v3605 k0_hw342 => k0_hw342

def k0_off511 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c84_i32_1974 : BitVec 32 := 84#32
  let v3609 : BitVec 32 := Scalar.addi v2593 c84_i32_1974
  let v3610 : Index := Scalar.indexCast v3609
  let c0_1975 : Index := 0#32
  ![v3610.toNat, 0]
def k0_off512 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1976 : BitVec 32 := 128#32
  let v3614 : BitVec 32 := Scalar.muli arg33 c128_i32_1976
  let c85_i32 : BitVec 32 := 85#32
  let v3615 : BitVec 32 := Scalar.addi v3614 c85_i32
  let v3616 : Index := Scalar.indexCast v3615
  ![v3616.toNat]
def k0_off513 (v3617 : BitVec 32) : Fin 3 → Nat :=
  let v3618 : Index := Scalar.indexCast v3617
  let c0_1977 : Index := 0#32
  let c0_1978 : Index := 0#32
  ![v3618.toNat, 0, 0]

def k0_chk343 (v3617 : BitVec 32) : Prop :=
  (∀ a, (k0_off513 v3617) a + S1x1x128.size a ≤ S50000x1x128.size a)
theorem k0_off513_inb : ∀ (v3617 : BitVec 32) (k0_hw343 : k0_chk343 v3617), ∀ a, (k0_off513 v3617) a + S1x1x128.size a ≤ S50000x1x128.size a := fun v3617 k0_hw343 => k0_hw343

def k0_off514 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c85_i32_1979 : BitVec 32 := 85#32
  let v3621 : BitVec 32 := Scalar.addi v2593 c85_i32_1979
  let v3622 : Index := Scalar.indexCast v3621
  let c0_1980 : Index := 0#32
  ![v3622.toNat, 0]
def k0_off515 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1981 : BitVec 32 := 128#32
  let v3626 : BitVec 32 := Scalar.muli arg33 c128_i32_1981
  let c86_i32 : BitVec 32 := 86#32
  let v3627 : BitVec 32 := Scalar.addi v3626 c86_i32
  let v3628 : Index := Scalar.indexCast v3627
  ![v3628.toNat]
def k0_off516 (v3629 : BitVec 32) : Fin 3 → Nat :=
  let v3630 : Index := Scalar.indexCast v3629
  let c0_1982 : Index := 0#32
  let c0_1983 : Index := 0#32
  ![v3630.toNat, 0, 0]

def k0_chk344 (v3629 : BitVec 32) : Prop :=
  (∀ a, (k0_off516 v3629) a + S1x1x128.size a ≤ S50000x1x128.size a)
theorem k0_off516_inb : ∀ (v3629 : BitVec 32) (k0_hw344 : k0_chk344 v3629), ∀ a, (k0_off516 v3629) a + S1x1x128.size a ≤ S50000x1x128.size a := fun v3629 k0_hw344 => k0_hw344

def k0_off517 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c86_i32_1984 : BitVec 32 := 86#32
  let v3633 : BitVec 32 := Scalar.addi v2593 c86_i32_1984
  let v3634 : Index := Scalar.indexCast v3633
  let c0_1985 : Index := 0#32
  ![v3634.toNat, 0]
def k0_off518 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1986 : BitVec 32 := 128#32
  let v3638 : BitVec 32 := Scalar.muli arg33 c128_i32_1986
  let c87_i32 : BitVec 32 := 87#32
  let v3639 : BitVec 32 := Scalar.addi v3638 c87_i32
  let v3640 : Index := Scalar.indexCast v3639
  ![v3640.toNat]
def k0_off519 (v3641 : BitVec 32) : Fin 3 → Nat :=
  let v3642 : Index := Scalar.indexCast v3641
  let c0_1987 : Index := 0#32
  let c0_1988 : Index := 0#32
  ![v3642.toNat, 0, 0]

def k0_chk345 (v3641 : BitVec 32) : Prop :=
  (∀ a, (k0_off519 v3641) a + S1x1x128.size a ≤ S50000x1x128.size a)
theorem k0_off519_inb : ∀ (v3641 : BitVec 32) (k0_hw345 : k0_chk345 v3641), ∀ a, (k0_off519 v3641) a + S1x1x128.size a ≤ S50000x1x128.size a := fun v3641 k0_hw345 => k0_hw345

def k0_off520 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c87_i32_1989 : BitVec 32 := 87#32
  let v3645 : BitVec 32 := Scalar.addi v2593 c87_i32_1989
  let v3646 : Index := Scalar.indexCast v3645
  let c0_1990 : Index := 0#32
  ![v3646.toNat, 0]
def k0_off521 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1991 : BitVec 32 := 128#32
  let v3650 : BitVec 32 := Scalar.muli arg33 c128_i32_1991
  let c88_i32 : BitVec 32 := 88#32
  let v3651 : BitVec 32 := Scalar.addi v3650 c88_i32
  let v3652 : Index := Scalar.indexCast v3651
  ![v3652.toNat]
def k0_off522 (v3653 : BitVec 32) : Fin 3 → Nat :=
  let v3654 : Index := Scalar.indexCast v3653
  let c0_1992 : Index := 0#32
  let c0_1993 : Index := 0#32
  ![v3654.toNat, 0, 0]

def k0_chk346 (v3653 : BitVec 32) : Prop :=
  (∀ a, (k0_off522 v3653) a + S1x1x128.size a ≤ S50000x1x128.size a)
theorem k0_off522_inb : ∀ (v3653 : BitVec 32) (k0_hw346 : k0_chk346 v3653), ∀ a, (k0_off522 v3653) a + S1x1x128.size a ≤ S50000x1x128.size a := fun v3653 k0_hw346 => k0_hw346

def k0_off523 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c88_i32_1994 : BitVec 32 := 88#32
  let v3657 : BitVec 32 := Scalar.addi v2593 c88_i32_1994
  let v3658 : Index := Scalar.indexCast v3657
  let c0_1995 : Index := 0#32
  ![v3658.toNat, 0]
def k0_off524 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_1996 : BitVec 32 := 128#32
  let v3662 : BitVec 32 := Scalar.muli arg33 c128_i32_1996
  let c89_i32 : BitVec 32 := 89#32
  let v3663 : BitVec 32 := Scalar.addi v3662 c89_i32
  let v3664 : Index := Scalar.indexCast v3663
  ![v3664.toNat]
def k0_off525 (v3665 : BitVec 32) : Fin 3 → Nat :=
  let v3666 : Index := Scalar.indexCast v3665
  let c0_1997 : Index := 0#32
  let c0_1998 : Index := 0#32
  ![v3666.toNat, 0, 0]

def k0_chk347 (v3665 : BitVec 32) : Prop :=
  (∀ a, (k0_off525 v3665) a + S1x1x128.size a ≤ S50000x1x128.size a)
theorem k0_off525_inb : ∀ (v3665 : BitVec 32) (k0_hw347 : k0_chk347 v3665), ∀ a, (k0_off525 v3665) a + S1x1x128.size a ≤ S50000x1x128.size a := fun v3665 k0_hw347 => k0_hw347

def k0_off526 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c89_i32_1999 : BitVec 32 := 89#32
  let v3669 : BitVec 32 := Scalar.addi v2593 c89_i32_1999
  let v3670 : Index := Scalar.indexCast v3669
  let c0_2000 : Index := 0#32
  ![v3670.toNat, 0]
def k0_off527 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2001 : BitVec 32 := 128#32
  let v3674 : BitVec 32 := Scalar.muli arg33 c128_i32_2001
  let c90_i32 : BitVec 32 := 90#32
  let v3675 : BitVec 32 := Scalar.addi v3674 c90_i32
  let v3676 : Index := Scalar.indexCast v3675
  ![v3676.toNat]
def k0_off528 (v3677 : BitVec 32) : Fin 3 → Nat :=
  let v3678 : Index := Scalar.indexCast v3677
  let c0_2002 : Index := 0#32
  let c0_2003 : Index := 0#32
  ![v3678.toNat, 0, 0]

def k0_chk348 (v3677 : BitVec 32) : Prop :=
  (∀ a, (k0_off528 v3677) a + S1x1x128.size a ≤ S50000x1x128.size a)
theorem k0_off528_inb : ∀ (v3677 : BitVec 32) (k0_hw348 : k0_chk348 v3677), ∀ a, (k0_off528 v3677) a + S1x1x128.size a ≤ S50000x1x128.size a := fun v3677 k0_hw348 => k0_hw348

def k0_off529 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c90_i32_2004 : BitVec 32 := 90#32
  let v3681 : BitVec 32 := Scalar.addi v2593 c90_i32_2004
  let v3682 : Index := Scalar.indexCast v3681
  let c0_2005 : Index := 0#32
  ![v3682.toNat, 0]
def k0_off530 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2006 : BitVec 32 := 128#32
  let v3686 : BitVec 32 := Scalar.muli arg33 c128_i32_2006
  let c91_i32 : BitVec 32 := 91#32
  let v3687 : BitVec 32 := Scalar.addi v3686 c91_i32
  let v3688 : Index := Scalar.indexCast v3687
  ![v3688.toNat]
def k0_off531 (v3689 : BitVec 32) : Fin 3 → Nat :=
  let v3690 : Index := Scalar.indexCast v3689
  let c0_2007 : Index := 0#32
  let c0_2008 : Index := 0#32
  ![v3690.toNat, 0, 0]

def k0_chk349 (v3689 : BitVec 32) : Prop :=
  (∀ a, (k0_off531 v3689) a + S1x1x128.size a ≤ S50000x1x128.size a)
theorem k0_off531_inb : ∀ (v3689 : BitVec 32) (k0_hw349 : k0_chk349 v3689), ∀ a, (k0_off531 v3689) a + S1x1x128.size a ≤ S50000x1x128.size a := fun v3689 k0_hw349 => k0_hw349

def k0_off532 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c91_i32_2009 : BitVec 32 := 91#32
  let v3693 : BitVec 32 := Scalar.addi v2593 c91_i32_2009
  let v3694 : Index := Scalar.indexCast v3693
  let c0_2010 : Index := 0#32
  ![v3694.toNat, 0]
def k0_off533 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2011 : BitVec 32 := 128#32
  let v3698 : BitVec 32 := Scalar.muli arg33 c128_i32_2011
  let c92_i32 : BitVec 32 := 92#32
  let v3699 : BitVec 32 := Scalar.addi v3698 c92_i32
  let v3700 : Index := Scalar.indexCast v3699
  ![v3700.toNat]
def k0_off534 (v3701 : BitVec 32) : Fin 3 → Nat :=
  let v3702 : Index := Scalar.indexCast v3701
  let c0_2012 : Index := 0#32
  let c0_2013 : Index := 0#32
  ![v3702.toNat, 0, 0]

def k0_chk350 (v3701 : BitVec 32) : Prop :=
  (∀ a, (k0_off534 v3701) a + S1x1x128.size a ≤ S50000x1x128.size a)
theorem k0_off534_inb : ∀ (v3701 : BitVec 32) (k0_hw350 : k0_chk350 v3701), ∀ a, (k0_off534 v3701) a + S1x1x128.size a ≤ S50000x1x128.size a := fun v3701 k0_hw350 => k0_hw350

def k0_off535 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c92_i32_2014 : BitVec 32 := 92#32
  let v3705 : BitVec 32 := Scalar.addi v2593 c92_i32_2014
  let v3706 : Index := Scalar.indexCast v3705
  let c0_2015 : Index := 0#32
  ![v3706.toNat, 0]
def k0_off536 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2016 : BitVec 32 := 128#32
  let v3710 : BitVec 32 := Scalar.muli arg33 c128_i32_2016
  let c93_i32 : BitVec 32 := 93#32
  let v3711 : BitVec 32 := Scalar.addi v3710 c93_i32
  let v3712 : Index := Scalar.indexCast v3711
  ![v3712.toNat]
def k0_off537 (v3713 : BitVec 32) : Fin 3 → Nat :=
  let v3714 : Index := Scalar.indexCast v3713
  let c0_2017 : Index := 0#32
  let c0_2018 : Index := 0#32
  ![v3714.toNat, 0, 0]

def k0_chk351 (v3713 : BitVec 32) : Prop :=
  (∀ a, (k0_off537 v3713) a + S1x1x128.size a ≤ S50000x1x128.size a)
theorem k0_off537_inb : ∀ (v3713 : BitVec 32) (k0_hw351 : k0_chk351 v3713), ∀ a, (k0_off537 v3713) a + S1x1x128.size a ≤ S50000x1x128.size a := fun v3713 k0_hw351 => k0_hw351

def k0_off538 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c93_i32_2019 : BitVec 32 := 93#32
  let v3717 : BitVec 32 := Scalar.addi v2593 c93_i32_2019
  let v3718 : Index := Scalar.indexCast v3717
  let c0_2020 : Index := 0#32
  ![v3718.toNat, 0]
def k0_off539 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2021 : BitVec 32 := 128#32
  let v3722 : BitVec 32 := Scalar.muli arg33 c128_i32_2021
  let c94_i32 : BitVec 32 := 94#32
  let v3723 : BitVec 32 := Scalar.addi v3722 c94_i32
  let v3724 : Index := Scalar.indexCast v3723
  ![v3724.toNat]
def k0_off540 (v3725 : BitVec 32) : Fin 3 → Nat :=
  let v3726 : Index := Scalar.indexCast v3725
  let c0_2022 : Index := 0#32
  let c0_2023 : Index := 0#32
  ![v3726.toNat, 0, 0]

def k0_chk352 (v3725 : BitVec 32) : Prop :=
  (∀ a, (k0_off540 v3725) a + S1x1x128.size a ≤ S50000x1x128.size a)
theorem k0_off540_inb : ∀ (v3725 : BitVec 32) (k0_hw352 : k0_chk352 v3725), ∀ a, (k0_off540 v3725) a + S1x1x128.size a ≤ S50000x1x128.size a := fun v3725 k0_hw352 => k0_hw352

def k0_off541 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c94_i32_2024 : BitVec 32 := 94#32
  let v3729 : BitVec 32 := Scalar.addi v2593 c94_i32_2024
  let v3730 : Index := Scalar.indexCast v3729
  let c0_2025 : Index := 0#32
  ![v3730.toNat, 0]
def k0_off542 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2026 : BitVec 32 := 128#32
  let v3734 : BitVec 32 := Scalar.muli arg33 c128_i32_2026
  let c95_i32 : BitVec 32 := 95#32
  let v3735 : BitVec 32 := Scalar.addi v3734 c95_i32
  let v3736 : Index := Scalar.indexCast v3735
  ![v3736.toNat]
def k0_off543 (v3737 : BitVec 32) : Fin 3 → Nat :=
  let v3738 : Index := Scalar.indexCast v3737
  let c0_2027 : Index := 0#32
  let c0_2028 : Index := 0#32
  ![v3738.toNat, 0, 0]

def k0_chk353 (v3737 : BitVec 32) : Prop :=
  (∀ a, (k0_off543 v3737) a + S1x1x128.size a ≤ S50000x1x128.size a)
theorem k0_off543_inb : ∀ (v3737 : BitVec 32) (k0_hw353 : k0_chk353 v3737), ∀ a, (k0_off543 v3737) a + S1x1x128.size a ≤ S50000x1x128.size a := fun v3737 k0_hw353 => k0_hw353

def k0_off544 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c95_i32_2029 : BitVec 32 := 95#32
  let v3741 : BitVec 32 := Scalar.addi v2593 c95_i32_2029
  let v3742 : Index := Scalar.indexCast v3741
  let c0_2030 : Index := 0#32
  ![v3742.toNat, 0]
def k0_off545 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2031 : BitVec 32 := 128#32
  let v3746 : BitVec 32 := Scalar.muli arg33 c128_i32_2031
  let c96_i32 : BitVec 32 := 96#32
  let v3747 : BitVec 32 := Scalar.addi v3746 c96_i32
  let v3748 : Index := Scalar.indexCast v3747
  ![v3748.toNat]
def k0_off546 (v3749 : BitVec 32) : Fin 3 → Nat :=
  let v3750 : Index := Scalar.indexCast v3749
  let c0_2032 : Index := 0#32
  let c0_2033 : Index := 0#32
  ![v3750.toNat, 0, 0]

def k0_chk354 (v3749 : BitVec 32) : Prop :=
  (∀ a, (k0_off546 v3749) a + S1x1x128.size a ≤ S50000x1x128.size a)
theorem k0_off546_inb : ∀ (v3749 : BitVec 32) (k0_hw354 : k0_chk354 v3749), ∀ a, (k0_off546 v3749) a + S1x1x128.size a ≤ S50000x1x128.size a := fun v3749 k0_hw354 => k0_hw354

def k0_off547 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c96_i32_2034 : BitVec 32 := 96#32
  let v3753 : BitVec 32 := Scalar.addi v2593 c96_i32_2034
  let v3754 : Index := Scalar.indexCast v3753
  let c0_2035 : Index := 0#32
  ![v3754.toNat, 0]
def k0_off548 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2036 : BitVec 32 := 128#32
  let v3758 : BitVec 32 := Scalar.muli arg33 c128_i32_2036
  let c97_i32 : BitVec 32 := 97#32
  let v3759 : BitVec 32 := Scalar.addi v3758 c97_i32
  let v3760 : Index := Scalar.indexCast v3759
  ![v3760.toNat]
def k0_off549 (v3761 : BitVec 32) : Fin 3 → Nat :=
  let v3762 : Index := Scalar.indexCast v3761
  let c0_2037 : Index := 0#32
  let c0_2038 : Index := 0#32
  ![v3762.toNat, 0, 0]

def k0_chk355 (v3761 : BitVec 32) : Prop :=
  (∀ a, (k0_off549 v3761) a + S1x1x128.size a ≤ S50000x1x128.size a)
theorem k0_off549_inb : ∀ (v3761 : BitVec 32) (k0_hw355 : k0_chk355 v3761), ∀ a, (k0_off549 v3761) a + S1x1x128.size a ≤ S50000x1x128.size a := fun v3761 k0_hw355 => k0_hw355

def k0_off550 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c97_i32_2039 : BitVec 32 := 97#32
  let v3765 : BitVec 32 := Scalar.addi v2593 c97_i32_2039
  let v3766 : Index := Scalar.indexCast v3765
  let c0_2040 : Index := 0#32
  ![v3766.toNat, 0]
def k0_off551 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2041 : BitVec 32 := 128#32
  let v3770 : BitVec 32 := Scalar.muli arg33 c128_i32_2041
  let c98_i32 : BitVec 32 := 98#32
  let v3771 : BitVec 32 := Scalar.addi v3770 c98_i32
  let v3772 : Index := Scalar.indexCast v3771
  ![v3772.toNat]
def k0_off552 (v3773 : BitVec 32) : Fin 3 → Nat :=
  let v3774 : Index := Scalar.indexCast v3773
  let c0_2042 : Index := 0#32
  let c0_2043 : Index := 0#32
  ![v3774.toNat, 0, 0]

def k0_chk356 (v3773 : BitVec 32) : Prop :=
  (∀ a, (k0_off552 v3773) a + S1x1x128.size a ≤ S50000x1x128.size a)
theorem k0_off552_inb : ∀ (v3773 : BitVec 32) (k0_hw356 : k0_chk356 v3773), ∀ a, (k0_off552 v3773) a + S1x1x128.size a ≤ S50000x1x128.size a := fun v3773 k0_hw356 => k0_hw356

def k0_off553 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c98_i32_2044 : BitVec 32 := 98#32
  let v3777 : BitVec 32 := Scalar.addi v2593 c98_i32_2044
  let v3778 : Index := Scalar.indexCast v3777
  let c0_2045 : Index := 0#32
  ![v3778.toNat, 0]
def k0_off554 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2046 : BitVec 32 := 128#32
  let v3782 : BitVec 32 := Scalar.muli arg33 c128_i32_2046
  let c99_i32 : BitVec 32 := 99#32
  let v3783 : BitVec 32 := Scalar.addi v3782 c99_i32
  let v3784 : Index := Scalar.indexCast v3783
  ![v3784.toNat]
def k0_off555 (v3785 : BitVec 32) : Fin 3 → Nat :=
  let v3786 : Index := Scalar.indexCast v3785
  let c0_2047 : Index := 0#32
  let c0_2048 : Index := 0#32
  ![v3786.toNat, 0, 0]

def k0_chk357 (v3785 : BitVec 32) : Prop :=
  (∀ a, (k0_off555 v3785) a + S1x1x128.size a ≤ S50000x1x128.size a)
theorem k0_off555_inb : ∀ (v3785 : BitVec 32) (k0_hw357 : k0_chk357 v3785), ∀ a, (k0_off555 v3785) a + S1x1x128.size a ≤ S50000x1x128.size a := fun v3785 k0_hw357 => k0_hw357

def k0_off556 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c99_i32_2049 : BitVec 32 := 99#32
  let v3789 : BitVec 32 := Scalar.addi v2593 c99_i32_2049
  let v3790 : Index := Scalar.indexCast v3789
  let c0_2050 : Index := 0#32
  ![v3790.toNat, 0]
def k0_off557 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2051 : BitVec 32 := 128#32
  let v3794 : BitVec 32 := Scalar.muli arg33 c128_i32_2051
  let c100_i32 : BitVec 32 := 100#32
  let v3795 : BitVec 32 := Scalar.addi v3794 c100_i32
  let v3796 : Index := Scalar.indexCast v3795
  ![v3796.toNat]
def k0_off558 (v3797 : BitVec 32) : Fin 3 → Nat :=
  let v3798 : Index := Scalar.indexCast v3797
  let c0_2052 : Index := 0#32
  let c0_2053 : Index := 0#32
  ![v3798.toNat, 0, 0]

def k0_chk358 (v3797 : BitVec 32) : Prop :=
  (∀ a, (k0_off558 v3797) a + S1x1x128.size a ≤ S50000x1x128.size a)
theorem k0_off558_inb : ∀ (v3797 : BitVec 32) (k0_hw358 : k0_chk358 v3797), ∀ a, (k0_off558 v3797) a + S1x1x128.size a ≤ S50000x1x128.size a := fun v3797 k0_hw358 => k0_hw358

def k0_off559 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c100_i32_2054 : BitVec 32 := 100#32
  let v3801 : BitVec 32 := Scalar.addi v2593 c100_i32_2054
  let v3802 : Index := Scalar.indexCast v3801
  let c0_2055 : Index := 0#32
  ![v3802.toNat, 0]
def k0_off560 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2056 : BitVec 32 := 128#32
  let v3806 : BitVec 32 := Scalar.muli arg33 c128_i32_2056
  let c101_i32 : BitVec 32 := 101#32
  let v3807 : BitVec 32 := Scalar.addi v3806 c101_i32
  let v3808 : Index := Scalar.indexCast v3807
  ![v3808.toNat]
def k0_off561 (v3809 : BitVec 32) : Fin 3 → Nat :=
  let v3810 : Index := Scalar.indexCast v3809
  let c0_2057 : Index := 0#32
  let c0_2058 : Index := 0#32
  ![v3810.toNat, 0, 0]

def k0_chk359 (v3809 : BitVec 32) : Prop :=
  (∀ a, (k0_off561 v3809) a + S1x1x128.size a ≤ S50000x1x128.size a)
theorem k0_off561_inb : ∀ (v3809 : BitVec 32) (k0_hw359 : k0_chk359 v3809), ∀ a, (k0_off561 v3809) a + S1x1x128.size a ≤ S50000x1x128.size a := fun v3809 k0_hw359 => k0_hw359

def k0_off562 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c101_i32_2059 : BitVec 32 := 101#32
  let v3813 : BitVec 32 := Scalar.addi v2593 c101_i32_2059
  let v3814 : Index := Scalar.indexCast v3813
  let c0_2060 : Index := 0#32
  ![v3814.toNat, 0]
def k0_off563 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2061 : BitVec 32 := 128#32
  let v3818 : BitVec 32 := Scalar.muli arg33 c128_i32_2061
  let c102_i32 : BitVec 32 := 102#32
  let v3819 : BitVec 32 := Scalar.addi v3818 c102_i32
  let v3820 : Index := Scalar.indexCast v3819
  ![v3820.toNat]
def k0_off564 (v3821 : BitVec 32) : Fin 3 → Nat :=
  let v3822 : Index := Scalar.indexCast v3821
  let c0_2062 : Index := 0#32
  let c0_2063 : Index := 0#32
  ![v3822.toNat, 0, 0]

def k0_chk360 (v3821 : BitVec 32) : Prop :=
  (∀ a, (k0_off564 v3821) a + S1x1x128.size a ≤ S50000x1x128.size a)
theorem k0_off564_inb : ∀ (v3821 : BitVec 32) (k0_hw360 : k0_chk360 v3821), ∀ a, (k0_off564 v3821) a + S1x1x128.size a ≤ S50000x1x128.size a := fun v3821 k0_hw360 => k0_hw360

def k0_off565 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c102_i32_2064 : BitVec 32 := 102#32
  let v3825 : BitVec 32 := Scalar.addi v2593 c102_i32_2064
  let v3826 : Index := Scalar.indexCast v3825
  let c0_2065 : Index := 0#32
  ![v3826.toNat, 0]
def k0_off566 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2066 : BitVec 32 := 128#32
  let v3830 : BitVec 32 := Scalar.muli arg33 c128_i32_2066
  let c103_i32 : BitVec 32 := 103#32
  let v3831 : BitVec 32 := Scalar.addi v3830 c103_i32
  let v3832 : Index := Scalar.indexCast v3831
  ![v3832.toNat]
def k0_off567 (v3833 : BitVec 32) : Fin 3 → Nat :=
  let v3834 : Index := Scalar.indexCast v3833
  let c0_2067 : Index := 0#32
  let c0_2068 : Index := 0#32
  ![v3834.toNat, 0, 0]

def k0_chk361 (v3833 : BitVec 32) : Prop :=
  (∀ a, (k0_off567 v3833) a + S1x1x128.size a ≤ S50000x1x128.size a)
theorem k0_off567_inb : ∀ (v3833 : BitVec 32) (k0_hw361 : k0_chk361 v3833), ∀ a, (k0_off567 v3833) a + S1x1x128.size a ≤ S50000x1x128.size a := fun v3833 k0_hw361 => k0_hw361

def k0_off568 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c103_i32_2069 : BitVec 32 := 103#32
  let v3837 : BitVec 32 := Scalar.addi v2593 c103_i32_2069
  let v3838 : Index := Scalar.indexCast v3837
  let c0_2070 : Index := 0#32
  ![v3838.toNat, 0]
def k0_off569 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2071 : BitVec 32 := 128#32
  let v3842 : BitVec 32 := Scalar.muli arg33 c128_i32_2071
  let c104_i32 : BitVec 32 := 104#32
  let v3843 : BitVec 32 := Scalar.addi v3842 c104_i32
  let v3844 : Index := Scalar.indexCast v3843
  ![v3844.toNat]
def k0_off570 (v3845 : BitVec 32) : Fin 3 → Nat :=
  let v3846 : Index := Scalar.indexCast v3845
  let c0_2072 : Index := 0#32
  let c0_2073 : Index := 0#32
  ![v3846.toNat, 0, 0]

def k0_chk362 (v3845 : BitVec 32) : Prop :=
  (∀ a, (k0_off570 v3845) a + S1x1x128.size a ≤ S50000x1x128.size a)
theorem k0_off570_inb : ∀ (v3845 : BitVec 32) (k0_hw362 : k0_chk362 v3845), ∀ a, (k0_off570 v3845) a + S1x1x128.size a ≤ S50000x1x128.size a := fun v3845 k0_hw362 => k0_hw362

def k0_off571 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c104_i32_2074 : BitVec 32 := 104#32
  let v3849 : BitVec 32 := Scalar.addi v2593 c104_i32_2074
  let v3850 : Index := Scalar.indexCast v3849
  let c0_2075 : Index := 0#32
  ![v3850.toNat, 0]
def k0_off572 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2076 : BitVec 32 := 128#32
  let v3854 : BitVec 32 := Scalar.muli arg33 c128_i32_2076
  let c105_i32 : BitVec 32 := 105#32
  let v3855 : BitVec 32 := Scalar.addi v3854 c105_i32
  let v3856 : Index := Scalar.indexCast v3855
  ![v3856.toNat]
def k0_off573 (v3857 : BitVec 32) : Fin 3 → Nat :=
  let v3858 : Index := Scalar.indexCast v3857
  let c0_2077 : Index := 0#32
  let c0_2078 : Index := 0#32
  ![v3858.toNat, 0, 0]

def k0_chk363 (v3857 : BitVec 32) : Prop :=
  (∀ a, (k0_off573 v3857) a + S1x1x128.size a ≤ S50000x1x128.size a)
theorem k0_off573_inb : ∀ (v3857 : BitVec 32) (k0_hw363 : k0_chk363 v3857), ∀ a, (k0_off573 v3857) a + S1x1x128.size a ≤ S50000x1x128.size a := fun v3857 k0_hw363 => k0_hw363

def k0_off574 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c105_i32_2079 : BitVec 32 := 105#32
  let v3861 : BitVec 32 := Scalar.addi v2593 c105_i32_2079
  let v3862 : Index := Scalar.indexCast v3861
  let c0_2080 : Index := 0#32
  ![v3862.toNat, 0]
def k0_off575 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2081 : BitVec 32 := 128#32
  let v3866 : BitVec 32 := Scalar.muli arg33 c128_i32_2081
  let c106_i32 : BitVec 32 := 106#32
  let v3867 : BitVec 32 := Scalar.addi v3866 c106_i32
  let v3868 : Index := Scalar.indexCast v3867
  ![v3868.toNat]
def k0_off576 (v3869 : BitVec 32) : Fin 3 → Nat :=
  let v3870 : Index := Scalar.indexCast v3869
  let c0_2082 : Index := 0#32
  let c0_2083 : Index := 0#32
  ![v3870.toNat, 0, 0]

def k0_chk364 (v3869 : BitVec 32) : Prop :=
  (∀ a, (k0_off576 v3869) a + S1x1x128.size a ≤ S50000x1x128.size a)
theorem k0_off576_inb : ∀ (v3869 : BitVec 32) (k0_hw364 : k0_chk364 v3869), ∀ a, (k0_off576 v3869) a + S1x1x128.size a ≤ S50000x1x128.size a := fun v3869 k0_hw364 => k0_hw364

def k0_off577 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c106_i32_2084 : BitVec 32 := 106#32
  let v3873 : BitVec 32 := Scalar.addi v2593 c106_i32_2084
  let v3874 : Index := Scalar.indexCast v3873
  let c0_2085 : Index := 0#32
  ![v3874.toNat, 0]
def k0_off578 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2086 : BitVec 32 := 128#32
  let v3878 : BitVec 32 := Scalar.muli arg33 c128_i32_2086
  let c107_i32 : BitVec 32 := 107#32
  let v3879 : BitVec 32 := Scalar.addi v3878 c107_i32
  let v3880 : Index := Scalar.indexCast v3879
  ![v3880.toNat]
def k0_off579 (v3881 : BitVec 32) : Fin 3 → Nat :=
  let v3882 : Index := Scalar.indexCast v3881
  let c0_2087 : Index := 0#32
  let c0_2088 : Index := 0#32
  ![v3882.toNat, 0, 0]

def k0_chk365 (v3881 : BitVec 32) : Prop :=
  (∀ a, (k0_off579 v3881) a + S1x1x128.size a ≤ S50000x1x128.size a)
theorem k0_off579_inb : ∀ (v3881 : BitVec 32) (k0_hw365 : k0_chk365 v3881), ∀ a, (k0_off579 v3881) a + S1x1x128.size a ≤ S50000x1x128.size a := fun v3881 k0_hw365 => k0_hw365

def k0_off580 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c107_i32_2089 : BitVec 32 := 107#32
  let v3885 : BitVec 32 := Scalar.addi v2593 c107_i32_2089
  let v3886 : Index := Scalar.indexCast v3885
  let c0_2090 : Index := 0#32
  ![v3886.toNat, 0]
def k0_off581 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2091 : BitVec 32 := 128#32
  let v3890 : BitVec 32 := Scalar.muli arg33 c128_i32_2091
  let c108_i32 : BitVec 32 := 108#32
  let v3891 : BitVec 32 := Scalar.addi v3890 c108_i32
  let v3892 : Index := Scalar.indexCast v3891
  ![v3892.toNat]
def k0_off582 (v3893 : BitVec 32) : Fin 3 → Nat :=
  let v3894 : Index := Scalar.indexCast v3893
  let c0_2092 : Index := 0#32
  let c0_2093 : Index := 0#32
  ![v3894.toNat, 0, 0]

def k0_chk366 (v3893 : BitVec 32) : Prop :=
  (∀ a, (k0_off582 v3893) a + S1x1x128.size a ≤ S50000x1x128.size a)
theorem k0_off582_inb : ∀ (v3893 : BitVec 32) (k0_hw366 : k0_chk366 v3893), ∀ a, (k0_off582 v3893) a + S1x1x128.size a ≤ S50000x1x128.size a := fun v3893 k0_hw366 => k0_hw366

def k0_off583 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c108_i32_2094 : BitVec 32 := 108#32
  let v3897 : BitVec 32 := Scalar.addi v2593 c108_i32_2094
  let v3898 : Index := Scalar.indexCast v3897
  let c0_2095 : Index := 0#32
  ![v3898.toNat, 0]
def k0_off584 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2096 : BitVec 32 := 128#32
  let v3902 : BitVec 32 := Scalar.muli arg33 c128_i32_2096
  let c109_i32 : BitVec 32 := 109#32
  let v3903 : BitVec 32 := Scalar.addi v3902 c109_i32
  let v3904 : Index := Scalar.indexCast v3903
  ![v3904.toNat]
def k0_off585 (v3905 : BitVec 32) : Fin 3 → Nat :=
  let v3906 : Index := Scalar.indexCast v3905
  let c0_2097 : Index := 0#32
  let c0_2098 : Index := 0#32
  ![v3906.toNat, 0, 0]

def k0_chk367 (v3905 : BitVec 32) : Prop :=
  (∀ a, (k0_off585 v3905) a + S1x1x128.size a ≤ S50000x1x128.size a)
theorem k0_off585_inb : ∀ (v3905 : BitVec 32) (k0_hw367 : k0_chk367 v3905), ∀ a, (k0_off585 v3905) a + S1x1x128.size a ≤ S50000x1x128.size a := fun v3905 k0_hw367 => k0_hw367

def k0_off586 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c109_i32_2099 : BitVec 32 := 109#32
  let v3909 : BitVec 32 := Scalar.addi v2593 c109_i32_2099
  let v3910 : Index := Scalar.indexCast v3909
  let c0_2100 : Index := 0#32
  ![v3910.toNat, 0]
def k0_off587 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2101 : BitVec 32 := 128#32
  let v3914 : BitVec 32 := Scalar.muli arg33 c128_i32_2101
  let c110_i32 : BitVec 32 := 110#32
  let v3915 : BitVec 32 := Scalar.addi v3914 c110_i32
  let v3916 : Index := Scalar.indexCast v3915
  ![v3916.toNat]
def k0_off588 (v3917 : BitVec 32) : Fin 3 → Nat :=
  let v3918 : Index := Scalar.indexCast v3917
  let c0_2102 : Index := 0#32
  let c0_2103 : Index := 0#32
  ![v3918.toNat, 0, 0]

def k0_chk368 (v3917 : BitVec 32) : Prop :=
  (∀ a, (k0_off588 v3917) a + S1x1x128.size a ≤ S50000x1x128.size a)
theorem k0_off588_inb : ∀ (v3917 : BitVec 32) (k0_hw368 : k0_chk368 v3917), ∀ a, (k0_off588 v3917) a + S1x1x128.size a ≤ S50000x1x128.size a := fun v3917 k0_hw368 => k0_hw368

def k0_off589 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c110_i32_2104 : BitVec 32 := 110#32
  let v3921 : BitVec 32 := Scalar.addi v2593 c110_i32_2104
  let v3922 : Index := Scalar.indexCast v3921
  let c0_2105 : Index := 0#32
  ![v3922.toNat, 0]
def k0_off590 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2106 : BitVec 32 := 128#32
  let v3926 : BitVec 32 := Scalar.muli arg33 c128_i32_2106
  let c111_i32 : BitVec 32 := 111#32
  let v3927 : BitVec 32 := Scalar.addi v3926 c111_i32
  let v3928 : Index := Scalar.indexCast v3927
  ![v3928.toNat]
def k0_off591 (v3929 : BitVec 32) : Fin 3 → Nat :=
  let v3930 : Index := Scalar.indexCast v3929
  let c0_2107 : Index := 0#32
  let c0_2108 : Index := 0#32
  ![v3930.toNat, 0, 0]

def k0_chk369 (v3929 : BitVec 32) : Prop :=
  (∀ a, (k0_off591 v3929) a + S1x1x128.size a ≤ S50000x1x128.size a)
theorem k0_off591_inb : ∀ (v3929 : BitVec 32) (k0_hw369 : k0_chk369 v3929), ∀ a, (k0_off591 v3929) a + S1x1x128.size a ≤ S50000x1x128.size a := fun v3929 k0_hw369 => k0_hw369

def k0_off592 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c111_i32_2109 : BitVec 32 := 111#32
  let v3933 : BitVec 32 := Scalar.addi v2593 c111_i32_2109
  let v3934 : Index := Scalar.indexCast v3933
  let c0_2110 : Index := 0#32
  ![v3934.toNat, 0]
def k0_off593 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2111 : BitVec 32 := 128#32
  let v3938 : BitVec 32 := Scalar.muli arg33 c128_i32_2111
  let c112_i32 : BitVec 32 := 112#32
  let v3939 : BitVec 32 := Scalar.addi v3938 c112_i32
  let v3940 : Index := Scalar.indexCast v3939
  ![v3940.toNat]
def k0_off594 (v3941 : BitVec 32) : Fin 3 → Nat :=
  let v3942 : Index := Scalar.indexCast v3941
  let c0_2112 : Index := 0#32
  let c0_2113 : Index := 0#32
  ![v3942.toNat, 0, 0]

def k0_chk370 (v3941 : BitVec 32) : Prop :=
  (∀ a, (k0_off594 v3941) a + S1x1x128.size a ≤ S50000x1x128.size a)
theorem k0_off594_inb : ∀ (v3941 : BitVec 32) (k0_hw370 : k0_chk370 v3941), ∀ a, (k0_off594 v3941) a + S1x1x128.size a ≤ S50000x1x128.size a := fun v3941 k0_hw370 => k0_hw370

def k0_off595 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c112_i32_2114 : BitVec 32 := 112#32
  let v3945 : BitVec 32 := Scalar.addi v2593 c112_i32_2114
  let v3946 : Index := Scalar.indexCast v3945
  let c0_2115 : Index := 0#32
  ![v3946.toNat, 0]
def k0_off596 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2116 : BitVec 32 := 128#32
  let v3950 : BitVec 32 := Scalar.muli arg33 c128_i32_2116
  let c113_i32 : BitVec 32 := 113#32
  let v3951 : BitVec 32 := Scalar.addi v3950 c113_i32
  let v3952 : Index := Scalar.indexCast v3951
  ![v3952.toNat]
def k0_off597 (v3953 : BitVec 32) : Fin 3 → Nat :=
  let v3954 : Index := Scalar.indexCast v3953
  let c0_2117 : Index := 0#32
  let c0_2118 : Index := 0#32
  ![v3954.toNat, 0, 0]

def k0_chk371 (v3953 : BitVec 32) : Prop :=
  (∀ a, (k0_off597 v3953) a + S1x1x128.size a ≤ S50000x1x128.size a)
theorem k0_off597_inb : ∀ (v3953 : BitVec 32) (k0_hw371 : k0_chk371 v3953), ∀ a, (k0_off597 v3953) a + S1x1x128.size a ≤ S50000x1x128.size a := fun v3953 k0_hw371 => k0_hw371

def k0_off598 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c113_i32_2119 : BitVec 32 := 113#32
  let v3957 : BitVec 32 := Scalar.addi v2593 c113_i32_2119
  let v3958 : Index := Scalar.indexCast v3957
  let c0_2120 : Index := 0#32
  ![v3958.toNat, 0]
def k0_off599 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2121 : BitVec 32 := 128#32
  let v3962 : BitVec 32 := Scalar.muli arg33 c128_i32_2121
  let c114_i32 : BitVec 32 := 114#32
  let v3963 : BitVec 32 := Scalar.addi v3962 c114_i32
  let v3964 : Index := Scalar.indexCast v3963
  ![v3964.toNat]
def k0_off600 (v3965 : BitVec 32) : Fin 3 → Nat :=
  let v3966 : Index := Scalar.indexCast v3965
  let c0_2122 : Index := 0#32
  let c0_2123 : Index := 0#32
  ![v3966.toNat, 0, 0]

def k0_chk372 (v3965 : BitVec 32) : Prop :=
  (∀ a, (k0_off600 v3965) a + S1x1x128.size a ≤ S50000x1x128.size a)
theorem k0_off600_inb : ∀ (v3965 : BitVec 32) (k0_hw372 : k0_chk372 v3965), ∀ a, (k0_off600 v3965) a + S1x1x128.size a ≤ S50000x1x128.size a := fun v3965 k0_hw372 => k0_hw372

def k0_off601 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c114_i32_2124 : BitVec 32 := 114#32
  let v3969 : BitVec 32 := Scalar.addi v2593 c114_i32_2124
  let v3970 : Index := Scalar.indexCast v3969
  let c0_2125 : Index := 0#32
  ![v3970.toNat, 0]
def k0_off602 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2126 : BitVec 32 := 128#32
  let v3974 : BitVec 32 := Scalar.muli arg33 c128_i32_2126
  let c115_i32 : BitVec 32 := 115#32
  let v3975 : BitVec 32 := Scalar.addi v3974 c115_i32
  let v3976 : Index := Scalar.indexCast v3975
  ![v3976.toNat]
def k0_off603 (v3977 : BitVec 32) : Fin 3 → Nat :=
  let v3978 : Index := Scalar.indexCast v3977
  let c0_2127 : Index := 0#32
  let c0_2128 : Index := 0#32
  ![v3978.toNat, 0, 0]

def k0_chk373 (v3977 : BitVec 32) : Prop :=
  (∀ a, (k0_off603 v3977) a + S1x1x128.size a ≤ S50000x1x128.size a)
theorem k0_off603_inb : ∀ (v3977 : BitVec 32) (k0_hw373 : k0_chk373 v3977), ∀ a, (k0_off603 v3977) a + S1x1x128.size a ≤ S50000x1x128.size a := fun v3977 k0_hw373 => k0_hw373

def k0_off604 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c115_i32_2129 : BitVec 32 := 115#32
  let v3981 : BitVec 32 := Scalar.addi v2593 c115_i32_2129
  let v3982 : Index := Scalar.indexCast v3981
  let c0_2130 : Index := 0#32
  ![v3982.toNat, 0]
def k0_off605 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2131 : BitVec 32 := 128#32
  let v3986 : BitVec 32 := Scalar.muli arg33 c128_i32_2131
  let c116_i32 : BitVec 32 := 116#32
  let v3987 : BitVec 32 := Scalar.addi v3986 c116_i32
  let v3988 : Index := Scalar.indexCast v3987
  ![v3988.toNat]
def k0_off606 (v3989 : BitVec 32) : Fin 3 → Nat :=
  let v3990 : Index := Scalar.indexCast v3989
  let c0_2132 : Index := 0#32
  let c0_2133 : Index := 0#32
  ![v3990.toNat, 0, 0]

def k0_chk374 (v3989 : BitVec 32) : Prop :=
  (∀ a, (k0_off606 v3989) a + S1x1x128.size a ≤ S50000x1x128.size a)
theorem k0_off606_inb : ∀ (v3989 : BitVec 32) (k0_hw374 : k0_chk374 v3989), ∀ a, (k0_off606 v3989) a + S1x1x128.size a ≤ S50000x1x128.size a := fun v3989 k0_hw374 => k0_hw374

def k0_off607 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c116_i32_2134 : BitVec 32 := 116#32
  let v3993 : BitVec 32 := Scalar.addi v2593 c116_i32_2134
  let v3994 : Index := Scalar.indexCast v3993
  let c0_2135 : Index := 0#32
  ![v3994.toNat, 0]
def k0_off608 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2136 : BitVec 32 := 128#32
  let v3998 : BitVec 32 := Scalar.muli arg33 c128_i32_2136
  let c117_i32 : BitVec 32 := 117#32
  let v3999 : BitVec 32 := Scalar.addi v3998 c117_i32
  let v4000 : Index := Scalar.indexCast v3999
  ![v4000.toNat]
def k0_off609 (v4001 : BitVec 32) : Fin 3 → Nat :=
  let v4002 : Index := Scalar.indexCast v4001
  let c0_2137 : Index := 0#32
  let c0_2138 : Index := 0#32
  ![v4002.toNat, 0, 0]

def k0_chk375 (v4001 : BitVec 32) : Prop :=
  (∀ a, (k0_off609 v4001) a + S1x1x128.size a ≤ S50000x1x128.size a)
theorem k0_off609_inb : ∀ (v4001 : BitVec 32) (k0_hw375 : k0_chk375 v4001), ∀ a, (k0_off609 v4001) a + S1x1x128.size a ≤ S50000x1x128.size a := fun v4001 k0_hw375 => k0_hw375

def k0_off610 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c117_i32_2139 : BitVec 32 := 117#32
  let v4005 : BitVec 32 := Scalar.addi v2593 c117_i32_2139
  let v4006 : Index := Scalar.indexCast v4005
  let c0_2140 : Index := 0#32
  ![v4006.toNat, 0]
def k0_off611 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2141 : BitVec 32 := 128#32
  let v4010 : BitVec 32 := Scalar.muli arg33 c128_i32_2141
  let c118_i32 : BitVec 32 := 118#32
  let v4011 : BitVec 32 := Scalar.addi v4010 c118_i32
  let v4012 : Index := Scalar.indexCast v4011
  ![v4012.toNat]
def k0_off612 (v4013 : BitVec 32) : Fin 3 → Nat :=
  let v4014 : Index := Scalar.indexCast v4013
  let c0_2142 : Index := 0#32
  let c0_2143 : Index := 0#32
  ![v4014.toNat, 0, 0]

def k0_chk376 (v4013 : BitVec 32) : Prop :=
  (∀ a, (k0_off612 v4013) a + S1x1x128.size a ≤ S50000x1x128.size a)
theorem k0_off612_inb : ∀ (v4013 : BitVec 32) (k0_hw376 : k0_chk376 v4013), ∀ a, (k0_off612 v4013) a + S1x1x128.size a ≤ S50000x1x128.size a := fun v4013 k0_hw376 => k0_hw376

def k0_off613 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c118_i32_2144 : BitVec 32 := 118#32
  let v4017 : BitVec 32 := Scalar.addi v2593 c118_i32_2144
  let v4018 : Index := Scalar.indexCast v4017
  let c0_2145 : Index := 0#32
  ![v4018.toNat, 0]
def k0_off614 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2146 : BitVec 32 := 128#32
  let v4022 : BitVec 32 := Scalar.muli arg33 c128_i32_2146
  let c119_i32 : BitVec 32 := 119#32
  let v4023 : BitVec 32 := Scalar.addi v4022 c119_i32
  let v4024 : Index := Scalar.indexCast v4023
  ![v4024.toNat]
def k0_off615 (v4025 : BitVec 32) : Fin 3 → Nat :=
  let v4026 : Index := Scalar.indexCast v4025
  let c0_2147 : Index := 0#32
  let c0_2148 : Index := 0#32
  ![v4026.toNat, 0, 0]

def k0_chk377 (v4025 : BitVec 32) : Prop :=
  (∀ a, (k0_off615 v4025) a + S1x1x128.size a ≤ S50000x1x128.size a)
theorem k0_off615_inb : ∀ (v4025 : BitVec 32) (k0_hw377 : k0_chk377 v4025), ∀ a, (k0_off615 v4025) a + S1x1x128.size a ≤ S50000x1x128.size a := fun v4025 k0_hw377 => k0_hw377

def k0_off616 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c119_i32_2149 : BitVec 32 := 119#32
  let v4029 : BitVec 32 := Scalar.addi v2593 c119_i32_2149
  let v4030 : Index := Scalar.indexCast v4029
  let c0_2150 : Index := 0#32
  ![v4030.toNat, 0]
def k0_off617 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2151 : BitVec 32 := 128#32
  let v4034 : BitVec 32 := Scalar.muli arg33 c128_i32_2151
  let c120_i32 : BitVec 32 := 120#32
  let v4035 : BitVec 32 := Scalar.addi v4034 c120_i32
  let v4036 : Index := Scalar.indexCast v4035
  ![v4036.toNat]
def k0_off618 (v4037 : BitVec 32) : Fin 3 → Nat :=
  let v4038 : Index := Scalar.indexCast v4037
  let c0_2152 : Index := 0#32
  let c0_2153 : Index := 0#32
  ![v4038.toNat, 0, 0]

def k0_chk378 (v4037 : BitVec 32) : Prop :=
  (∀ a, (k0_off618 v4037) a + S1x1x128.size a ≤ S50000x1x128.size a)
theorem k0_off618_inb : ∀ (v4037 : BitVec 32) (k0_hw378 : k0_chk378 v4037), ∀ a, (k0_off618 v4037) a + S1x1x128.size a ≤ S50000x1x128.size a := fun v4037 k0_hw378 => k0_hw378

def k0_off619 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c120_i32_2154 : BitVec 32 := 120#32
  let v4041 : BitVec 32 := Scalar.addi v2593 c120_i32_2154
  let v4042 : Index := Scalar.indexCast v4041
  let c0_2155 : Index := 0#32
  ![v4042.toNat, 0]
def k0_off620 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2156 : BitVec 32 := 128#32
  let v4046 : BitVec 32 := Scalar.muli arg33 c128_i32_2156
  let c121_i32 : BitVec 32 := 121#32
  let v4047 : BitVec 32 := Scalar.addi v4046 c121_i32
  let v4048 : Index := Scalar.indexCast v4047
  ![v4048.toNat]
def k0_off621 (v4049 : BitVec 32) : Fin 3 → Nat :=
  let v4050 : Index := Scalar.indexCast v4049
  let c0_2157 : Index := 0#32
  let c0_2158 : Index := 0#32
  ![v4050.toNat, 0, 0]

def k0_chk379 (v4049 : BitVec 32) : Prop :=
  (∀ a, (k0_off621 v4049) a + S1x1x128.size a ≤ S50000x1x128.size a)
theorem k0_off621_inb : ∀ (v4049 : BitVec 32) (k0_hw379 : k0_chk379 v4049), ∀ a, (k0_off621 v4049) a + S1x1x128.size a ≤ S50000x1x128.size a := fun v4049 k0_hw379 => k0_hw379

def k0_off622 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c121_i32_2159 : BitVec 32 := 121#32
  let v4053 : BitVec 32 := Scalar.addi v2593 c121_i32_2159
  let v4054 : Index := Scalar.indexCast v4053
  let c0_2160 : Index := 0#32
  ![v4054.toNat, 0]
def k0_off623 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2161 : BitVec 32 := 128#32
  let v4058 : BitVec 32 := Scalar.muli arg33 c128_i32_2161
  let c122_i32 : BitVec 32 := 122#32
  let v4059 : BitVec 32 := Scalar.addi v4058 c122_i32
  let v4060 : Index := Scalar.indexCast v4059
  ![v4060.toNat]
def k0_off624 (v4061 : BitVec 32) : Fin 3 → Nat :=
  let v4062 : Index := Scalar.indexCast v4061
  let c0_2162 : Index := 0#32
  let c0_2163 : Index := 0#32
  ![v4062.toNat, 0, 0]

def k0_chk380 (v4061 : BitVec 32) : Prop :=
  (∀ a, (k0_off624 v4061) a + S1x1x128.size a ≤ S50000x1x128.size a)
theorem k0_off624_inb : ∀ (v4061 : BitVec 32) (k0_hw380 : k0_chk380 v4061), ∀ a, (k0_off624 v4061) a + S1x1x128.size a ≤ S50000x1x128.size a := fun v4061 k0_hw380 => k0_hw380

def k0_off625 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c122_i32_2164 : BitVec 32 := 122#32
  let v4065 : BitVec 32 := Scalar.addi v2593 c122_i32_2164
  let v4066 : Index := Scalar.indexCast v4065
  let c0_2165 : Index := 0#32
  ![v4066.toNat, 0]
def k0_off626 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2166 : BitVec 32 := 128#32
  let v4070 : BitVec 32 := Scalar.muli arg33 c128_i32_2166
  let c123_i32 : BitVec 32 := 123#32
  let v4071 : BitVec 32 := Scalar.addi v4070 c123_i32
  let v4072 : Index := Scalar.indexCast v4071
  ![v4072.toNat]
def k0_off627 (v4073 : BitVec 32) : Fin 3 → Nat :=
  let v4074 : Index := Scalar.indexCast v4073
  let c0_2167 : Index := 0#32
  let c0_2168 : Index := 0#32
  ![v4074.toNat, 0, 0]

def k0_chk381 (v4073 : BitVec 32) : Prop :=
  (∀ a, (k0_off627 v4073) a + S1x1x128.size a ≤ S50000x1x128.size a)
theorem k0_off627_inb : ∀ (v4073 : BitVec 32) (k0_hw381 : k0_chk381 v4073), ∀ a, (k0_off627 v4073) a + S1x1x128.size a ≤ S50000x1x128.size a := fun v4073 k0_hw381 => k0_hw381

def k0_off628 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c123_i32_2169 : BitVec 32 := 123#32
  let v4077 : BitVec 32 := Scalar.addi v2593 c123_i32_2169
  let v4078 : Index := Scalar.indexCast v4077
  let c0_2170 : Index := 0#32
  ![v4078.toNat, 0]
def k0_off629 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2171 : BitVec 32 := 128#32
  let v4082 : BitVec 32 := Scalar.muli arg33 c128_i32_2171
  let c124_i32 : BitVec 32 := 124#32
  let v4083 : BitVec 32 := Scalar.addi v4082 c124_i32
  let v4084 : Index := Scalar.indexCast v4083
  ![v4084.toNat]
def k0_off630 (v4085 : BitVec 32) : Fin 3 → Nat :=
  let v4086 : Index := Scalar.indexCast v4085
  let c0_2172 : Index := 0#32
  let c0_2173 : Index := 0#32
  ![v4086.toNat, 0, 0]

def k0_chk382 (v4085 : BitVec 32) : Prop :=
  (∀ a, (k0_off630 v4085) a + S1x1x128.size a ≤ S50000x1x128.size a)
theorem k0_off630_inb : ∀ (v4085 : BitVec 32) (k0_hw382 : k0_chk382 v4085), ∀ a, (k0_off630 v4085) a + S1x1x128.size a ≤ S50000x1x128.size a := fun v4085 k0_hw382 => k0_hw382

def k0_off631 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c124_i32_2174 : BitVec 32 := 124#32
  let v4089 : BitVec 32 := Scalar.addi v2593 c124_i32_2174
  let v4090 : Index := Scalar.indexCast v4089
  let c0_2175 : Index := 0#32
  ![v4090.toNat, 0]
def k0_off632 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2176 : BitVec 32 := 128#32
  let v4094 : BitVec 32 := Scalar.muli arg33 c128_i32_2176
  let c125_i32 : BitVec 32 := 125#32
  let v4095 : BitVec 32 := Scalar.addi v4094 c125_i32
  let v4096 : Index := Scalar.indexCast v4095
  ![v4096.toNat]
def k0_off633 (v4097 : BitVec 32) : Fin 3 → Nat :=
  let v4098 : Index := Scalar.indexCast v4097
  let c0_2177 : Index := 0#32
  let c0_2178 : Index := 0#32
  ![v4098.toNat, 0, 0]

def k0_chk383 (v4097 : BitVec 32) : Prop :=
  (∀ a, (k0_off633 v4097) a + S1x1x128.size a ≤ S50000x1x128.size a)
theorem k0_off633_inb : ∀ (v4097 : BitVec 32) (k0_hw383 : k0_chk383 v4097), ∀ a, (k0_off633 v4097) a + S1x1x128.size a ≤ S50000x1x128.size a := fun v4097 k0_hw383 => k0_hw383

def k0_off634 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c125_i32_2179 : BitVec 32 := 125#32
  let v4101 : BitVec 32 := Scalar.addi v2593 c125_i32_2179
  let v4102 : Index := Scalar.indexCast v4101
  let c0_2180 : Index := 0#32
  ![v4102.toNat, 0]
def k0_off635 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2181 : BitVec 32 := 128#32
  let v4106 : BitVec 32 := Scalar.muli arg33 c128_i32_2181
  let c126_i32 : BitVec 32 := 126#32
  let v4107 : BitVec 32 := Scalar.addi v4106 c126_i32
  let v4108 : Index := Scalar.indexCast v4107
  ![v4108.toNat]
def k0_off636 (v4109 : BitVec 32) : Fin 3 → Nat :=
  let v4110 : Index := Scalar.indexCast v4109
  let c0_2182 : Index := 0#32
  let c0_2183 : Index := 0#32
  ![v4110.toNat, 0, 0]

def k0_chk384 (v4109 : BitVec 32) : Prop :=
  (∀ a, (k0_off636 v4109) a + S1x1x128.size a ≤ S50000x1x128.size a)
theorem k0_off636_inb : ∀ (v4109 : BitVec 32) (k0_hw384 : k0_chk384 v4109), ∀ a, (k0_off636 v4109) a + S1x1x128.size a ≤ S50000x1x128.size a := fun v4109 k0_hw384 => k0_hw384

def k0_off637 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c126_i32_2184 : BitVec 32 := 126#32
  let v4113 : BitVec 32 := Scalar.addi v2593 c126_i32_2184
  let v4114 : Index := Scalar.indexCast v4113
  let c0_2185 : Index := 0#32
  ![v4114.toNat, 0]
def k0_off638 (v1803 : BitVec 32) (k0_t1 : Fin (k0_t1_loop v1803).trips) : Fin 1 → Nat :=
  let c0_i32_1038 : BitVec 32 := 0#32
  let c1_i32_1039 : BitVec 32 := 1#32
  let arg33 : BitVec 32 := Scf.iv c0_i32_1038 c1_i32_1039 k0_t1
  let c128_i32_2186 : BitVec 32 := 128#32
  let v4118 : BitVec 32 := Scalar.muli arg33 c128_i32_2186
  let c127_i32 : BitVec 32 := 127#32
  let v4119 : BitVec 32 := Scalar.addi v4118 c127_i32
  let v4120 : Index := Scalar.indexCast v4119
  ![v4120.toNat]
def k0_off639 (v4121 : BitVec 32) : Fin 3 → Nat :=
  let v4122 : Index := Scalar.indexCast v4121
  let c0_2187 : Index := 0#32
  let c0_2188 : Index := 0#32
  ![v4122.toNat, 0, 0]

def k0_chk385 (v4121 : BitVec 32) : Prop :=
  (∀ a, (k0_off639 v4121) a + S1x1x128.size a ≤ S50000x1x128.size a)
theorem k0_off639_inb : ∀ (v4121 : BitVec 32) (k0_hw385 : k0_chk385 v4121), ∀ a, (k0_off639 v4121) a + S1x1x128.size a ≤ S50000x1x128.size a := fun v4121 k0_hw385 => k0_hw385

def k0_off640 (v1803 : BitVec 32) (k0_t1 : Fin (k0_t1_loop v1803).trips) : Fin 2 → Nat :=
  let c0_i32_1038 : BitVec 32 := 0#32
  let c1_i32_1039 : BitVec 32 := 1#32
  let arg33 : BitVec 32 := Scf.iv c0_i32_1038 c1_i32_1039 k0_t1
  let c128_i32 : BitVec 32 := 128#32
  let v2592 : BitVec 32 := Scalar.muli arg33 c128_i32
  let v2593 : BitVec 32 := v2592
  let c127_i32_2189 : BitVec 32 := 127#32
  let v4125 : BitVec 32 := Scalar.addi v2593 c127_i32_2189
  let v4126 : Index := Scalar.indexCast v4125
  let c0_2190 : Index := 0#32
  ![v4126.toNat, 0]
@[reducible] def k0_t2_loop (v1803 : BitVec 32) : Scf.Loop 32 :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let v1805 : BitVec 32 := Scalar.addi c0_i32_1038 v1804
  let c1_i32_1040 : BitVec 32 := 1#32
  ⟨v1808, v1805, c1_i32_1040⟩
def k0_mult2 (v1803 : BitVec 32) (k0_t2 : Fin (k0_t2_loop v1803).trips) : BitVec 32 :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  v2592
def k0_off641 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1549 : BitVec 32 := 128#32
  let v2594 : BitVec 32 := Scalar.muli arg33 c128_i32_1549
  let c0_i32_1550 : BitVec 32 := 0#32
  let v2595 : BitVec 32 := Scalar.addi v2594 c0_i32_1550
  let v2596 : Index := Scalar.indexCast v2595
  ![v2596.toNat]
def k0_off642 (v2597 : BitVec 32) : Fin 3 → Nat :=
  let v2598 : Index := Scalar.indexCast v2597
  let c0_1551 : Index := 0#32
  let c0_1552 : Index := 0#32
  ![v2598.toNat, 0, 0]

def k0_chk386 (v2597 : BitVec 32) : Prop :=
  (∀ a, (k0_off642 v2597) a + S1x1x128.size a ≤ S50000x1x128.size a)
theorem k0_off642_inb : ∀ (v2597 : BitVec 32) (k0_hw386 : k0_chk386 v2597), ∀ a, (k0_off642 v2597) a + S1x1x128.size a ≤ S50000x1x128.size a := fun v2597 k0_hw386 => k0_hw386

def k0_off643 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c0_i32_1553 : BitVec 32 := 0#32
  let v2601 : BitVec 32 := Scalar.addi v2593 c0_i32_1553
  let v2602 : Index := Scalar.indexCast v2601
  let c0_1554 : Index := 0#32
  ![v2602.toNat, 0]
def k0_off644 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1555 : BitVec 32 := 128#32
  let v2606 : BitVec 32 := Scalar.muli arg33 c128_i32_1555
  let c1_i32_1556 : BitVec 32 := 1#32
  let v2607 : BitVec 32 := Scalar.addi v2606 c1_i32_1556
  let v2608 : Index := Scalar.indexCast v2607
  ![v2608.toNat]
def k0_off645 (v2609 : BitVec 32) : Fin 3 → Nat :=
  let v2610 : Index := Scalar.indexCast v2609
  let c0_1557 : Index := 0#32
  let c0_1558 : Index := 0#32
  ![v2610.toNat, 0, 0]

def k0_chk387 (v2609 : BitVec 32) : Prop :=
  (∀ a, (k0_off645 v2609) a + S1x1x128.size a ≤ S50000x1x128.size a)
theorem k0_off645_inb : ∀ (v2609 : BitVec 32) (k0_hw387 : k0_chk387 v2609), ∀ a, (k0_off645 v2609) a + S1x1x128.size a ≤ S50000x1x128.size a := fun v2609 k0_hw387 => k0_hw387

def k0_off646 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c1_i32_1559 : BitVec 32 := 1#32
  let v2613 : BitVec 32 := Scalar.addi v2593 c1_i32_1559
  let v2614 : Index := Scalar.indexCast v2613
  let c0_1560 : Index := 0#32
  ![v2614.toNat, 0]
def k0_off647 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1561 : BitVec 32 := 128#32
  let v2618 : BitVec 32 := Scalar.muli arg33 c128_i32_1561
  let c2_i32 : BitVec 32 := 2#32
  let v2619 : BitVec 32 := Scalar.addi v2618 c2_i32
  let v2620 : Index := Scalar.indexCast v2619
  ![v2620.toNat]
def k0_off648 (v2621 : BitVec 32) : Fin 3 → Nat :=
  let v2622 : Index := Scalar.indexCast v2621
  let c0_1562 : Index := 0#32
  let c0_1563 : Index := 0#32
  ![v2622.toNat, 0, 0]

def k0_chk388 (v2621 : BitVec 32) : Prop :=
  (∀ a, (k0_off648 v2621) a + S1x1x128.size a ≤ S50000x1x128.size a)
theorem k0_off648_inb : ∀ (v2621 : BitVec 32) (k0_hw388 : k0_chk388 v2621), ∀ a, (k0_off648 v2621) a + S1x1x128.size a ≤ S50000x1x128.size a := fun v2621 k0_hw388 => k0_hw388

def k0_off649 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c2_i32_1564 : BitVec 32 := 2#32
  let v2625 : BitVec 32 := Scalar.addi v2593 c2_i32_1564
  let v2626 : Index := Scalar.indexCast v2625
  let c0_1565 : Index := 0#32
  ![v2626.toNat, 0]
def k0_off650 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1566 : BitVec 32 := 128#32
  let v2630 : BitVec 32 := Scalar.muli arg33 c128_i32_1566
  let c3_i32 : BitVec 32 := 3#32
  let v2631 : BitVec 32 := Scalar.addi v2630 c3_i32
  let v2632 : Index := Scalar.indexCast v2631
  ![v2632.toNat]
def k0_off651 (v2633 : BitVec 32) : Fin 3 → Nat :=
  let v2634 : Index := Scalar.indexCast v2633
  let c0_1567 : Index := 0#32
  let c0_1568 : Index := 0#32
  ![v2634.toNat, 0, 0]

def k0_chk389 (v2633 : BitVec 32) : Prop :=
  (∀ a, (k0_off651 v2633) a + S1x1x128.size a ≤ S50000x1x128.size a)
theorem k0_off651_inb : ∀ (v2633 : BitVec 32) (k0_hw389 : k0_chk389 v2633), ∀ a, (k0_off651 v2633) a + S1x1x128.size a ≤ S50000x1x128.size a := fun v2633 k0_hw389 => k0_hw389

def k0_off652 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c3_i32_1569 : BitVec 32 := 3#32
  let v2637 : BitVec 32 := Scalar.addi v2593 c3_i32_1569
  let v2638 : Index := Scalar.indexCast v2637
  let c0_1570 : Index := 0#32
  ![v2638.toNat, 0]
def k0_off653 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1571 : BitVec 32 := 128#32
  let v2642 : BitVec 32 := Scalar.muli arg33 c128_i32_1571
  let c4_i32 : BitVec 32 := 4#32
  let v2643 : BitVec 32 := Scalar.addi v2642 c4_i32
  let v2644 : Index := Scalar.indexCast v2643
  ![v2644.toNat]
def k0_off654 (v2645 : BitVec 32) : Fin 3 → Nat :=
  let v2646 : Index := Scalar.indexCast v2645
  let c0_1572 : Index := 0#32
  let c0_1573 : Index := 0#32
  ![v2646.toNat, 0, 0]

def k0_chk390 (v2645 : BitVec 32) : Prop :=
  (∀ a, (k0_off654 v2645) a + S1x1x128.size a ≤ S50000x1x128.size a)
theorem k0_off654_inb : ∀ (v2645 : BitVec 32) (k0_hw390 : k0_chk390 v2645), ∀ a, (k0_off654 v2645) a + S1x1x128.size a ≤ S50000x1x128.size a := fun v2645 k0_hw390 => k0_hw390

def k0_off655 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c4_i32_1574 : BitVec 32 := 4#32
  let v2649 : BitVec 32 := Scalar.addi v2593 c4_i32_1574
  let v2650 : Index := Scalar.indexCast v2649
  let c0_1575 : Index := 0#32
  ![v2650.toNat, 0]
def k0_off656 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1576 : BitVec 32 := 128#32
  let v2654 : BitVec 32 := Scalar.muli arg33 c128_i32_1576
  let c5_i32 : BitVec 32 := 5#32
  let v2655 : BitVec 32 := Scalar.addi v2654 c5_i32
  let v2656 : Index := Scalar.indexCast v2655
  ![v2656.toNat]
def k0_off657 (v2657 : BitVec 32) : Fin 3 → Nat :=
  let v2658 : Index := Scalar.indexCast v2657
  let c0_1577 : Index := 0#32
  let c0_1578 : Index := 0#32
  ![v2658.toNat, 0, 0]

def k0_chk391 (v2657 : BitVec 32) : Prop :=
  (∀ a, (k0_off657 v2657) a + S1x1x128.size a ≤ S50000x1x128.size a)
theorem k0_off657_inb : ∀ (v2657 : BitVec 32) (k0_hw391 : k0_chk391 v2657), ∀ a, (k0_off657 v2657) a + S1x1x128.size a ≤ S50000x1x128.size a := fun v2657 k0_hw391 => k0_hw391

def k0_off658 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c5_i32_1579 : BitVec 32 := 5#32
  let v2661 : BitVec 32 := Scalar.addi v2593 c5_i32_1579
  let v2662 : Index := Scalar.indexCast v2661
  let c0_1580 : Index := 0#32
  ![v2662.toNat, 0]
def k0_off659 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1581 : BitVec 32 := 128#32
  let v2666 : BitVec 32 := Scalar.muli arg33 c128_i32_1581
  let c6_i32 : BitVec 32 := 6#32
  let v2667 : BitVec 32 := Scalar.addi v2666 c6_i32
  let v2668 : Index := Scalar.indexCast v2667
  ![v2668.toNat]
def k0_off660 (v2669 : BitVec 32) : Fin 3 → Nat :=
  let v2670 : Index := Scalar.indexCast v2669
  let c0_1582 : Index := 0#32
  let c0_1583 : Index := 0#32
  ![v2670.toNat, 0, 0]

def k0_chk392 (v2669 : BitVec 32) : Prop :=
  (∀ a, (k0_off660 v2669) a + S1x1x128.size a ≤ S50000x1x128.size a)
theorem k0_off660_inb : ∀ (v2669 : BitVec 32) (k0_hw392 : k0_chk392 v2669), ∀ a, (k0_off660 v2669) a + S1x1x128.size a ≤ S50000x1x128.size a := fun v2669 k0_hw392 => k0_hw392

def k0_off661 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c6_i32_1584 : BitVec 32 := 6#32
  let v2673 : BitVec 32 := Scalar.addi v2593 c6_i32_1584
  let v2674 : Index := Scalar.indexCast v2673
  let c0_1585 : Index := 0#32
  ![v2674.toNat, 0]
def k0_off662 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1586 : BitVec 32 := 128#32
  let v2678 : BitVec 32 := Scalar.muli arg33 c128_i32_1586
  let c7_i32 : BitVec 32 := 7#32
  let v2679 : BitVec 32 := Scalar.addi v2678 c7_i32
  let v2680 : Index := Scalar.indexCast v2679
  ![v2680.toNat]
def k0_off663 (v2681 : BitVec 32) : Fin 3 → Nat :=
  let v2682 : Index := Scalar.indexCast v2681
  let c0_1587 : Index := 0#32
  let c0_1588 : Index := 0#32
  ![v2682.toNat, 0, 0]

def k0_chk393 (v2681 : BitVec 32) : Prop :=
  (∀ a, (k0_off663 v2681) a + S1x1x128.size a ≤ S50000x1x128.size a)
theorem k0_off663_inb : ∀ (v2681 : BitVec 32) (k0_hw393 : k0_chk393 v2681), ∀ a, (k0_off663 v2681) a + S1x1x128.size a ≤ S50000x1x128.size a := fun v2681 k0_hw393 => k0_hw393

def k0_off664 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c7_i32_1589 : BitVec 32 := 7#32
  let v2685 : BitVec 32 := Scalar.addi v2593 c7_i32_1589
  let v2686 : Index := Scalar.indexCast v2685
  let c0_1590 : Index := 0#32
  ![v2686.toNat, 0]
def k0_off665 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1591 : BitVec 32 := 128#32
  let v2690 : BitVec 32 := Scalar.muli arg33 c128_i32_1591
  let c8_i32 : BitVec 32 := 8#32
  let v2691 : BitVec 32 := Scalar.addi v2690 c8_i32
  let v2692 : Index := Scalar.indexCast v2691
  ![v2692.toNat]
def k0_off666 (v2693 : BitVec 32) : Fin 3 → Nat :=
  let v2694 : Index := Scalar.indexCast v2693
  let c0_1592 : Index := 0#32
  let c0_1593 : Index := 0#32
  ![v2694.toNat, 0, 0]

def k0_chk394 (v2693 : BitVec 32) : Prop :=
  (∀ a, (k0_off666 v2693) a + S1x1x128.size a ≤ S50000x1x128.size a)
theorem k0_off666_inb : ∀ (v2693 : BitVec 32) (k0_hw394 : k0_chk394 v2693), ∀ a, (k0_off666 v2693) a + S1x1x128.size a ≤ S50000x1x128.size a := fun v2693 k0_hw394 => k0_hw394

def k0_off667 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c8_i32_1594 : BitVec 32 := 8#32
  let v2697 : BitVec 32 := Scalar.addi v2593 c8_i32_1594
  let v2698 : Index := Scalar.indexCast v2697
  let c0_1595 : Index := 0#32
  ![v2698.toNat, 0]
def k0_off668 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1596 : BitVec 32 := 128#32
  let v2702 : BitVec 32 := Scalar.muli arg33 c128_i32_1596
  let c9_i32 : BitVec 32 := 9#32
  let v2703 : BitVec 32 := Scalar.addi v2702 c9_i32
  let v2704 : Index := Scalar.indexCast v2703
  ![v2704.toNat]
def k0_off669 (v2705 : BitVec 32) : Fin 3 → Nat :=
  let v2706 : Index := Scalar.indexCast v2705
  let c0_1597 : Index := 0#32
  let c0_1598 : Index := 0#32
  ![v2706.toNat, 0, 0]

def k0_chk395 (v2705 : BitVec 32) : Prop :=
  (∀ a, (k0_off669 v2705) a + S1x1x128.size a ≤ S50000x1x128.size a)
theorem k0_off669_inb : ∀ (v2705 : BitVec 32) (k0_hw395 : k0_chk395 v2705), ∀ a, (k0_off669 v2705) a + S1x1x128.size a ≤ S50000x1x128.size a := fun v2705 k0_hw395 => k0_hw395

def k0_off670 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c9_i32_1599 : BitVec 32 := 9#32
  let v2709 : BitVec 32 := Scalar.addi v2593 c9_i32_1599
  let v2710 : Index := Scalar.indexCast v2709
  let c0_1600 : Index := 0#32
  ![v2710.toNat, 0]
def k0_off671 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1601 : BitVec 32 := 128#32
  let v2714 : BitVec 32 := Scalar.muli arg33 c128_i32_1601
  let c10_i32 : BitVec 32 := 10#32
  let v2715 : BitVec 32 := Scalar.addi v2714 c10_i32
  let v2716 : Index := Scalar.indexCast v2715
  ![v2716.toNat]
def k0_off672 (v2717 : BitVec 32) : Fin 3 → Nat :=
  let v2718 : Index := Scalar.indexCast v2717
  let c0_1602 : Index := 0#32
  let c0_1603 : Index := 0#32
  ![v2718.toNat, 0, 0]

def k0_chk396 (v2717 : BitVec 32) : Prop :=
  (∀ a, (k0_off672 v2717) a + S1x1x128.size a ≤ S50000x1x128.size a)
theorem k0_off672_inb : ∀ (v2717 : BitVec 32) (k0_hw396 : k0_chk396 v2717), ∀ a, (k0_off672 v2717) a + S1x1x128.size a ≤ S50000x1x128.size a := fun v2717 k0_hw396 => k0_hw396

def k0_off673 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c10_i32_1604 : BitVec 32 := 10#32
  let v2721 : BitVec 32 := Scalar.addi v2593 c10_i32_1604
  let v2722 : Index := Scalar.indexCast v2721
  let c0_1605 : Index := 0#32
  ![v2722.toNat, 0]
def k0_off674 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1606 : BitVec 32 := 128#32
  let v2726 : BitVec 32 := Scalar.muli arg33 c128_i32_1606
  let c11_i32 : BitVec 32 := 11#32
  let v2727 : BitVec 32 := Scalar.addi v2726 c11_i32
  let v2728 : Index := Scalar.indexCast v2727
  ![v2728.toNat]
def k0_off675 (v2729 : BitVec 32) : Fin 3 → Nat :=
  let v2730 : Index := Scalar.indexCast v2729
  let c0_1607 : Index := 0#32
  let c0_1608 : Index := 0#32
  ![v2730.toNat, 0, 0]

def k0_chk397 (v2729 : BitVec 32) : Prop :=
  (∀ a, (k0_off675 v2729) a + S1x1x128.size a ≤ S50000x1x128.size a)
theorem k0_off675_inb : ∀ (v2729 : BitVec 32) (k0_hw397 : k0_chk397 v2729), ∀ a, (k0_off675 v2729) a + S1x1x128.size a ≤ S50000x1x128.size a := fun v2729 k0_hw397 => k0_hw397

def k0_off676 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c11_i32_1609 : BitVec 32 := 11#32
  let v2733 : BitVec 32 := Scalar.addi v2593 c11_i32_1609
  let v2734 : Index := Scalar.indexCast v2733
  let c0_1610 : Index := 0#32
  ![v2734.toNat, 0]
def k0_off677 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1611 : BitVec 32 := 128#32
  let v2738 : BitVec 32 := Scalar.muli arg33 c128_i32_1611
  let c12_i32 : BitVec 32 := 12#32
  let v2739 : BitVec 32 := Scalar.addi v2738 c12_i32
  let v2740 : Index := Scalar.indexCast v2739
  ![v2740.toNat]
def k0_off678 (v2741 : BitVec 32) : Fin 3 → Nat :=
  let v2742 : Index := Scalar.indexCast v2741
  let c0_1612 : Index := 0#32
  let c0_1613 : Index := 0#32
  ![v2742.toNat, 0, 0]

def k0_chk398 (v2741 : BitVec 32) : Prop :=
  (∀ a, (k0_off678 v2741) a + S1x1x128.size a ≤ S50000x1x128.size a)
theorem k0_off678_inb : ∀ (v2741 : BitVec 32) (k0_hw398 : k0_chk398 v2741), ∀ a, (k0_off678 v2741) a + S1x1x128.size a ≤ S50000x1x128.size a := fun v2741 k0_hw398 => k0_hw398

def k0_off679 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c12_i32_1614 : BitVec 32 := 12#32
  let v2745 : BitVec 32 := Scalar.addi v2593 c12_i32_1614
  let v2746 : Index := Scalar.indexCast v2745
  let c0_1615 : Index := 0#32
  ![v2746.toNat, 0]
def k0_off680 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1616 : BitVec 32 := 128#32
  let v2750 : BitVec 32 := Scalar.muli arg33 c128_i32_1616
  let c13_i32 : BitVec 32 := 13#32
  let v2751 : BitVec 32 := Scalar.addi v2750 c13_i32
  let v2752 : Index := Scalar.indexCast v2751
  ![v2752.toNat]
def k0_off681 (v2753 : BitVec 32) : Fin 3 → Nat :=
  let v2754 : Index := Scalar.indexCast v2753
  let c0_1617 : Index := 0#32
  let c0_1618 : Index := 0#32
  ![v2754.toNat, 0, 0]

def k0_chk399 (v2753 : BitVec 32) : Prop :=
  (∀ a, (k0_off681 v2753) a + S1x1x128.size a ≤ S50000x1x128.size a)
theorem k0_off681_inb : ∀ (v2753 : BitVec 32) (k0_hw399 : k0_chk399 v2753), ∀ a, (k0_off681 v2753) a + S1x1x128.size a ≤ S50000x1x128.size a := fun v2753 k0_hw399 => k0_hw399

def k0_off682 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c13_i32_1619 : BitVec 32 := 13#32
  let v2757 : BitVec 32 := Scalar.addi v2593 c13_i32_1619
  let v2758 : Index := Scalar.indexCast v2757
  let c0_1620 : Index := 0#32
  ![v2758.toNat, 0]
def k0_off683 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1621 : BitVec 32 := 128#32
  let v2762 : BitVec 32 := Scalar.muli arg33 c128_i32_1621
  let c14_i32 : BitVec 32 := 14#32
  let v2763 : BitVec 32 := Scalar.addi v2762 c14_i32
  let v2764 : Index := Scalar.indexCast v2763
  ![v2764.toNat]
def k0_off684 (v2765 : BitVec 32) : Fin 3 → Nat :=
  let v2766 : Index := Scalar.indexCast v2765
  let c0_1622 : Index := 0#32
  let c0_1623 : Index := 0#32
  ![v2766.toNat, 0, 0]

def k0_chk400 (v2765 : BitVec 32) : Prop :=
  (∀ a, (k0_off684 v2765) a + S1x1x128.size a ≤ S50000x1x128.size a)
theorem k0_off684_inb : ∀ (v2765 : BitVec 32) (k0_hw400 : k0_chk400 v2765), ∀ a, (k0_off684 v2765) a + S1x1x128.size a ≤ S50000x1x128.size a := fun v2765 k0_hw400 => k0_hw400

def k0_off685 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c14_i32_1624 : BitVec 32 := 14#32
  let v2769 : BitVec 32 := Scalar.addi v2593 c14_i32_1624
  let v2770 : Index := Scalar.indexCast v2769
  let c0_1625 : Index := 0#32
  ![v2770.toNat, 0]
def k0_off686 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1626 : BitVec 32 := 128#32
  let v2774 : BitVec 32 := Scalar.muli arg33 c128_i32_1626
  let c15_i32 : BitVec 32 := 15#32
  let v2775 : BitVec 32 := Scalar.addi v2774 c15_i32
  let v2776 : Index := Scalar.indexCast v2775
  ![v2776.toNat]
def k0_off687 (v2777 : BitVec 32) : Fin 3 → Nat :=
  let v2778 : Index := Scalar.indexCast v2777
  let c0_1627 : Index := 0#32
  let c0_1628 : Index := 0#32
  ![v2778.toNat, 0, 0]

def k0_chk401 (v2777 : BitVec 32) : Prop :=
  (∀ a, (k0_off687 v2777) a + S1x1x128.size a ≤ S50000x1x128.size a)
theorem k0_off687_inb : ∀ (v2777 : BitVec 32) (k0_hw401 : k0_chk401 v2777), ∀ a, (k0_off687 v2777) a + S1x1x128.size a ≤ S50000x1x128.size a := fun v2777 k0_hw401 => k0_hw401

def k0_off688 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c15_i32_1629 : BitVec 32 := 15#32
  let v2781 : BitVec 32 := Scalar.addi v2593 c15_i32_1629
  let v2782 : Index := Scalar.indexCast v2781
  let c0_1630 : Index := 0#32
  ![v2782.toNat, 0]
def k0_off689 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1631 : BitVec 32 := 128#32
  let v2786 : BitVec 32 := Scalar.muli arg33 c128_i32_1631
  let c16_i32 : BitVec 32 := 16#32
  let v2787 : BitVec 32 := Scalar.addi v2786 c16_i32
  let v2788 : Index := Scalar.indexCast v2787
  ![v2788.toNat]
def k0_off690 (v2789 : BitVec 32) : Fin 3 → Nat :=
  let v2790 : Index := Scalar.indexCast v2789
  let c0_1632 : Index := 0#32
  let c0_1633 : Index := 0#32
  ![v2790.toNat, 0, 0]

def k0_chk402 (v2789 : BitVec 32) : Prop :=
  (∀ a, (k0_off690 v2789) a + S1x1x128.size a ≤ S50000x1x128.size a)
theorem k0_off690_inb : ∀ (v2789 : BitVec 32) (k0_hw402 : k0_chk402 v2789), ∀ a, (k0_off690 v2789) a + S1x1x128.size a ≤ S50000x1x128.size a := fun v2789 k0_hw402 => k0_hw402

def k0_off691 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c16_i32_1634 : BitVec 32 := 16#32
  let v2793 : BitVec 32 := Scalar.addi v2593 c16_i32_1634
  let v2794 : Index := Scalar.indexCast v2793
  let c0_1635 : Index := 0#32
  ![v2794.toNat, 0]
def k0_off692 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1636 : BitVec 32 := 128#32
  let v2798 : BitVec 32 := Scalar.muli arg33 c128_i32_1636
  let c17_i32 : BitVec 32 := 17#32
  let v2799 : BitVec 32 := Scalar.addi v2798 c17_i32
  let v2800 : Index := Scalar.indexCast v2799
  ![v2800.toNat]
def k0_off693 (v2801 : BitVec 32) : Fin 3 → Nat :=
  let v2802 : Index := Scalar.indexCast v2801
  let c0_1637 : Index := 0#32
  let c0_1638 : Index := 0#32
  ![v2802.toNat, 0, 0]

def k0_chk403 (v2801 : BitVec 32) : Prop :=
  (∀ a, (k0_off693 v2801) a + S1x1x128.size a ≤ S50000x1x128.size a)
theorem k0_off693_inb : ∀ (v2801 : BitVec 32) (k0_hw403 : k0_chk403 v2801), ∀ a, (k0_off693 v2801) a + S1x1x128.size a ≤ S50000x1x128.size a := fun v2801 k0_hw403 => k0_hw403

def k0_off694 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c17_i32_1639 : BitVec 32 := 17#32
  let v2805 : BitVec 32 := Scalar.addi v2593 c17_i32_1639
  let v2806 : Index := Scalar.indexCast v2805
  let c0_1640 : Index := 0#32
  ![v2806.toNat, 0]
def k0_off695 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1641 : BitVec 32 := 128#32
  let v2810 : BitVec 32 := Scalar.muli arg33 c128_i32_1641
  let c18_i32 : BitVec 32 := 18#32
  let v2811 : BitVec 32 := Scalar.addi v2810 c18_i32
  let v2812 : Index := Scalar.indexCast v2811
  ![v2812.toNat]
def k0_off696 (v2813 : BitVec 32) : Fin 3 → Nat :=
  let v2814 : Index := Scalar.indexCast v2813
  let c0_1642 : Index := 0#32
  let c0_1643 : Index := 0#32
  ![v2814.toNat, 0, 0]

def k0_chk404 (v2813 : BitVec 32) : Prop :=
  (∀ a, (k0_off696 v2813) a + S1x1x128.size a ≤ S50000x1x128.size a)
theorem k0_off696_inb : ∀ (v2813 : BitVec 32) (k0_hw404 : k0_chk404 v2813), ∀ a, (k0_off696 v2813) a + S1x1x128.size a ≤ S50000x1x128.size a := fun v2813 k0_hw404 => k0_hw404

def k0_off697 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c18_i32_1644 : BitVec 32 := 18#32
  let v2817 : BitVec 32 := Scalar.addi v2593 c18_i32_1644
  let v2818 : Index := Scalar.indexCast v2817
  let c0_1645 : Index := 0#32
  ![v2818.toNat, 0]
def k0_off698 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1646 : BitVec 32 := 128#32
  let v2822 : BitVec 32 := Scalar.muli arg33 c128_i32_1646
  let c19_i32 : BitVec 32 := 19#32
  let v2823 : BitVec 32 := Scalar.addi v2822 c19_i32
  let v2824 : Index := Scalar.indexCast v2823
  ![v2824.toNat]
def k0_off699 (v2825 : BitVec 32) : Fin 3 → Nat :=
  let v2826 : Index := Scalar.indexCast v2825
  let c0_1647 : Index := 0#32
  let c0_1648 : Index := 0#32
  ![v2826.toNat, 0, 0]

def k0_chk405 (v2825 : BitVec 32) : Prop :=
  (∀ a, (k0_off699 v2825) a + S1x1x128.size a ≤ S50000x1x128.size a)
theorem k0_off699_inb : ∀ (v2825 : BitVec 32) (k0_hw405 : k0_chk405 v2825), ∀ a, (k0_off699 v2825) a + S1x1x128.size a ≤ S50000x1x128.size a := fun v2825 k0_hw405 => k0_hw405

def k0_off700 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c19_i32_1649 : BitVec 32 := 19#32
  let v2829 : BitVec 32 := Scalar.addi v2593 c19_i32_1649
  let v2830 : Index := Scalar.indexCast v2829
  let c0_1650 : Index := 0#32
  ![v2830.toNat, 0]
def k0_off701 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1651 : BitVec 32 := 128#32
  let v2834 : BitVec 32 := Scalar.muli arg33 c128_i32_1651
  let c20_i32 : BitVec 32 := 20#32
  let v2835 : BitVec 32 := Scalar.addi v2834 c20_i32
  let v2836 : Index := Scalar.indexCast v2835
  ![v2836.toNat]
def k0_off702 (v2837 : BitVec 32) : Fin 3 → Nat :=
  let v2838 : Index := Scalar.indexCast v2837
  let c0_1652 : Index := 0#32
  let c0_1653 : Index := 0#32
  ![v2838.toNat, 0, 0]

def k0_chk406 (v2837 : BitVec 32) : Prop :=
  (∀ a, (k0_off702 v2837) a + S1x1x128.size a ≤ S50000x1x128.size a)
theorem k0_off702_inb : ∀ (v2837 : BitVec 32) (k0_hw406 : k0_chk406 v2837), ∀ a, (k0_off702 v2837) a + S1x1x128.size a ≤ S50000x1x128.size a := fun v2837 k0_hw406 => k0_hw406

def k0_off703 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c20_i32_1654 : BitVec 32 := 20#32
  let v2841 : BitVec 32 := Scalar.addi v2593 c20_i32_1654
  let v2842 : Index := Scalar.indexCast v2841
  let c0_1655 : Index := 0#32
  ![v2842.toNat, 0]
def k0_off704 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1656 : BitVec 32 := 128#32
  let v2846 : BitVec 32 := Scalar.muli arg33 c128_i32_1656
  let c21_i32 : BitVec 32 := 21#32
  let v2847 : BitVec 32 := Scalar.addi v2846 c21_i32
  let v2848 : Index := Scalar.indexCast v2847
  ![v2848.toNat]
def k0_off705 (v2849 : BitVec 32) : Fin 3 → Nat :=
  let v2850 : Index := Scalar.indexCast v2849
  let c0_1657 : Index := 0#32
  let c0_1658 : Index := 0#32
  ![v2850.toNat, 0, 0]

def k0_chk407 (v2849 : BitVec 32) : Prop :=
  (∀ a, (k0_off705 v2849) a + S1x1x128.size a ≤ S50000x1x128.size a)
theorem k0_off705_inb : ∀ (v2849 : BitVec 32) (k0_hw407 : k0_chk407 v2849), ∀ a, (k0_off705 v2849) a + S1x1x128.size a ≤ S50000x1x128.size a := fun v2849 k0_hw407 => k0_hw407

def k0_off706 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c21_i32_1659 : BitVec 32 := 21#32
  let v2853 : BitVec 32 := Scalar.addi v2593 c21_i32_1659
  let v2854 : Index := Scalar.indexCast v2853
  let c0_1660 : Index := 0#32
  ![v2854.toNat, 0]
def k0_off707 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1661 : BitVec 32 := 128#32
  let v2858 : BitVec 32 := Scalar.muli arg33 c128_i32_1661
  let c22_i32 : BitVec 32 := 22#32
  let v2859 : BitVec 32 := Scalar.addi v2858 c22_i32
  let v2860 : Index := Scalar.indexCast v2859
  ![v2860.toNat]
def k0_off708 (v2861 : BitVec 32) : Fin 3 → Nat :=
  let v2862 : Index := Scalar.indexCast v2861
  let c0_1662 : Index := 0#32
  let c0_1663 : Index := 0#32
  ![v2862.toNat, 0, 0]

def k0_chk408 (v2861 : BitVec 32) : Prop :=
  (∀ a, (k0_off708 v2861) a + S1x1x128.size a ≤ S50000x1x128.size a)
theorem k0_off708_inb : ∀ (v2861 : BitVec 32) (k0_hw408 : k0_chk408 v2861), ∀ a, (k0_off708 v2861) a + S1x1x128.size a ≤ S50000x1x128.size a := fun v2861 k0_hw408 => k0_hw408

def k0_off709 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c22_i32_1664 : BitVec 32 := 22#32
  let v2865 : BitVec 32 := Scalar.addi v2593 c22_i32_1664
  let v2866 : Index := Scalar.indexCast v2865
  let c0_1665 : Index := 0#32
  ![v2866.toNat, 0]
def k0_off710 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1666 : BitVec 32 := 128#32
  let v2870 : BitVec 32 := Scalar.muli arg33 c128_i32_1666
  let c23_i32 : BitVec 32 := 23#32
  let v2871 : BitVec 32 := Scalar.addi v2870 c23_i32
  let v2872 : Index := Scalar.indexCast v2871
  ![v2872.toNat]
def k0_off711 (v2873 : BitVec 32) : Fin 3 → Nat :=
  let v2874 : Index := Scalar.indexCast v2873
  let c0_1667 : Index := 0#32
  let c0_1668 : Index := 0#32
  ![v2874.toNat, 0, 0]

def k0_chk409 (v2873 : BitVec 32) : Prop :=
  (∀ a, (k0_off711 v2873) a + S1x1x128.size a ≤ S50000x1x128.size a)
theorem k0_off711_inb : ∀ (v2873 : BitVec 32) (k0_hw409 : k0_chk409 v2873), ∀ a, (k0_off711 v2873) a + S1x1x128.size a ≤ S50000x1x128.size a := fun v2873 k0_hw409 => k0_hw409

def k0_off712 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c23_i32_1669 : BitVec 32 := 23#32
  let v2877 : BitVec 32 := Scalar.addi v2593 c23_i32_1669
  let v2878 : Index := Scalar.indexCast v2877
  let c0_1670 : Index := 0#32
  ![v2878.toNat, 0]
def k0_off713 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1671 : BitVec 32 := 128#32
  let v2882 : BitVec 32 := Scalar.muli arg33 c128_i32_1671
  let c24_i32 : BitVec 32 := 24#32
  let v2883 : BitVec 32 := Scalar.addi v2882 c24_i32
  let v2884 : Index := Scalar.indexCast v2883
  ![v2884.toNat]
def k0_off714 (v2885 : BitVec 32) : Fin 3 → Nat :=
  let v2886 : Index := Scalar.indexCast v2885
  let c0_1672 : Index := 0#32
  let c0_1673 : Index := 0#32
  ![v2886.toNat, 0, 0]

def k0_chk410 (v2885 : BitVec 32) : Prop :=
  (∀ a, (k0_off714 v2885) a + S1x1x128.size a ≤ S50000x1x128.size a)
theorem k0_off714_inb : ∀ (v2885 : BitVec 32) (k0_hw410 : k0_chk410 v2885), ∀ a, (k0_off714 v2885) a + S1x1x128.size a ≤ S50000x1x128.size a := fun v2885 k0_hw410 => k0_hw410

def k0_off715 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c24_i32_1674 : BitVec 32 := 24#32
  let v2889 : BitVec 32 := Scalar.addi v2593 c24_i32_1674
  let v2890 : Index := Scalar.indexCast v2889
  let c0_1675 : Index := 0#32
  ![v2890.toNat, 0]
def k0_off716 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1676 : BitVec 32 := 128#32
  let v2894 : BitVec 32 := Scalar.muli arg33 c128_i32_1676
  let c25_i32 : BitVec 32 := 25#32
  let v2895 : BitVec 32 := Scalar.addi v2894 c25_i32
  let v2896 : Index := Scalar.indexCast v2895
  ![v2896.toNat]
def k0_off717 (v2897 : BitVec 32) : Fin 3 → Nat :=
  let v2898 : Index := Scalar.indexCast v2897
  let c0_1677 : Index := 0#32
  let c0_1678 : Index := 0#32
  ![v2898.toNat, 0, 0]

def k0_chk411 (v2897 : BitVec 32) : Prop :=
  (∀ a, (k0_off717 v2897) a + S1x1x128.size a ≤ S50000x1x128.size a)
theorem k0_off717_inb : ∀ (v2897 : BitVec 32) (k0_hw411 : k0_chk411 v2897), ∀ a, (k0_off717 v2897) a + S1x1x128.size a ≤ S50000x1x128.size a := fun v2897 k0_hw411 => k0_hw411

def k0_off718 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c25_i32_1679 : BitVec 32 := 25#32
  let v2901 : BitVec 32 := Scalar.addi v2593 c25_i32_1679
  let v2902 : Index := Scalar.indexCast v2901
  let c0_1680 : Index := 0#32
  ![v2902.toNat, 0]
def k0_off719 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1681 : BitVec 32 := 128#32
  let v2906 : BitVec 32 := Scalar.muli arg33 c128_i32_1681
  let c26_i32 : BitVec 32 := 26#32
  let v2907 : BitVec 32 := Scalar.addi v2906 c26_i32
  let v2908 : Index := Scalar.indexCast v2907
  ![v2908.toNat]
def k0_off720 (v2909 : BitVec 32) : Fin 3 → Nat :=
  let v2910 : Index := Scalar.indexCast v2909
  let c0_1682 : Index := 0#32
  let c0_1683 : Index := 0#32
  ![v2910.toNat, 0, 0]

def k0_chk412 (v2909 : BitVec 32) : Prop :=
  (∀ a, (k0_off720 v2909) a + S1x1x128.size a ≤ S50000x1x128.size a)
theorem k0_off720_inb : ∀ (v2909 : BitVec 32) (k0_hw412 : k0_chk412 v2909), ∀ a, (k0_off720 v2909) a + S1x1x128.size a ≤ S50000x1x128.size a := fun v2909 k0_hw412 => k0_hw412

def k0_off721 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c26_i32_1684 : BitVec 32 := 26#32
  let v2913 : BitVec 32 := Scalar.addi v2593 c26_i32_1684
  let v2914 : Index := Scalar.indexCast v2913
  let c0_1685 : Index := 0#32
  ![v2914.toNat, 0]
def k0_off722 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1686 : BitVec 32 := 128#32
  let v2918 : BitVec 32 := Scalar.muli arg33 c128_i32_1686
  let c27_i32 : BitVec 32 := 27#32
  let v2919 : BitVec 32 := Scalar.addi v2918 c27_i32
  let v2920 : Index := Scalar.indexCast v2919
  ![v2920.toNat]
def k0_off723 (v2921 : BitVec 32) : Fin 3 → Nat :=
  let v2922 : Index := Scalar.indexCast v2921
  let c0_1687 : Index := 0#32
  let c0_1688 : Index := 0#32
  ![v2922.toNat, 0, 0]

def k0_chk413 (v2921 : BitVec 32) : Prop :=
  (∀ a, (k0_off723 v2921) a + S1x1x128.size a ≤ S50000x1x128.size a)
theorem k0_off723_inb : ∀ (v2921 : BitVec 32) (k0_hw413 : k0_chk413 v2921), ∀ a, (k0_off723 v2921) a + S1x1x128.size a ≤ S50000x1x128.size a := fun v2921 k0_hw413 => k0_hw413

def k0_off724 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c27_i32_1689 : BitVec 32 := 27#32
  let v2925 : BitVec 32 := Scalar.addi v2593 c27_i32_1689
  let v2926 : Index := Scalar.indexCast v2925
  let c0_1690 : Index := 0#32
  ![v2926.toNat, 0]
def k0_off725 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1691 : BitVec 32 := 128#32
  let v2930 : BitVec 32 := Scalar.muli arg33 c128_i32_1691
  let c28_i32 : BitVec 32 := 28#32
  let v2931 : BitVec 32 := Scalar.addi v2930 c28_i32
  let v2932 : Index := Scalar.indexCast v2931
  ![v2932.toNat]
def k0_off726 (v2933 : BitVec 32) : Fin 3 → Nat :=
  let v2934 : Index := Scalar.indexCast v2933
  let c0_1692 : Index := 0#32
  let c0_1693 : Index := 0#32
  ![v2934.toNat, 0, 0]

def k0_chk414 (v2933 : BitVec 32) : Prop :=
  (∀ a, (k0_off726 v2933) a + S1x1x128.size a ≤ S50000x1x128.size a)
theorem k0_off726_inb : ∀ (v2933 : BitVec 32) (k0_hw414 : k0_chk414 v2933), ∀ a, (k0_off726 v2933) a + S1x1x128.size a ≤ S50000x1x128.size a := fun v2933 k0_hw414 => k0_hw414

def k0_off727 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c28_i32_1694 : BitVec 32 := 28#32
  let v2937 : BitVec 32 := Scalar.addi v2593 c28_i32_1694
  let v2938 : Index := Scalar.indexCast v2937
  let c0_1695 : Index := 0#32
  ![v2938.toNat, 0]
def k0_off728 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1696 : BitVec 32 := 128#32
  let v2942 : BitVec 32 := Scalar.muli arg33 c128_i32_1696
  let c29_i32 : BitVec 32 := 29#32
  let v2943 : BitVec 32 := Scalar.addi v2942 c29_i32
  let v2944 : Index := Scalar.indexCast v2943
  ![v2944.toNat]
def k0_off729 (v2945 : BitVec 32) : Fin 3 → Nat :=
  let v2946 : Index := Scalar.indexCast v2945
  let c0_1697 : Index := 0#32
  let c0_1698 : Index := 0#32
  ![v2946.toNat, 0, 0]

def k0_chk415 (v2945 : BitVec 32) : Prop :=
  (∀ a, (k0_off729 v2945) a + S1x1x128.size a ≤ S50000x1x128.size a)
theorem k0_off729_inb : ∀ (v2945 : BitVec 32) (k0_hw415 : k0_chk415 v2945), ∀ a, (k0_off729 v2945) a + S1x1x128.size a ≤ S50000x1x128.size a := fun v2945 k0_hw415 => k0_hw415

def k0_off730 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c29_i32_1699 : BitVec 32 := 29#32
  let v2949 : BitVec 32 := Scalar.addi v2593 c29_i32_1699
  let v2950 : Index := Scalar.indexCast v2949
  let c0_1700 : Index := 0#32
  ![v2950.toNat, 0]
def k0_off731 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1701 : BitVec 32 := 128#32
  let v2954 : BitVec 32 := Scalar.muli arg33 c128_i32_1701
  let c30_i32 : BitVec 32 := 30#32
  let v2955 : BitVec 32 := Scalar.addi v2954 c30_i32
  let v2956 : Index := Scalar.indexCast v2955
  ![v2956.toNat]
def k0_off732 (v2957 : BitVec 32) : Fin 3 → Nat :=
  let v2958 : Index := Scalar.indexCast v2957
  let c0_1702 : Index := 0#32
  let c0_1703 : Index := 0#32
  ![v2958.toNat, 0, 0]

def k0_chk416 (v2957 : BitVec 32) : Prop :=
  (∀ a, (k0_off732 v2957) a + S1x1x128.size a ≤ S50000x1x128.size a)
theorem k0_off732_inb : ∀ (v2957 : BitVec 32) (k0_hw416 : k0_chk416 v2957), ∀ a, (k0_off732 v2957) a + S1x1x128.size a ≤ S50000x1x128.size a := fun v2957 k0_hw416 => k0_hw416

def k0_off733 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c30_i32_1704 : BitVec 32 := 30#32
  let v2961 : BitVec 32 := Scalar.addi v2593 c30_i32_1704
  let v2962 : Index := Scalar.indexCast v2961
  let c0_1705 : Index := 0#32
  ![v2962.toNat, 0]
def k0_off734 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1706 : BitVec 32 := 128#32
  let v2966 : BitVec 32 := Scalar.muli arg33 c128_i32_1706
  let c31_i32 : BitVec 32 := 31#32
  let v2967 : BitVec 32 := Scalar.addi v2966 c31_i32
  let v2968 : Index := Scalar.indexCast v2967
  ![v2968.toNat]
def k0_off735 (v2969 : BitVec 32) : Fin 3 → Nat :=
  let v2970 : Index := Scalar.indexCast v2969
  let c0_1707 : Index := 0#32
  let c0_1708 : Index := 0#32
  ![v2970.toNat, 0, 0]

def k0_chk417 (v2969 : BitVec 32) : Prop :=
  (∀ a, (k0_off735 v2969) a + S1x1x128.size a ≤ S50000x1x128.size a)
theorem k0_off735_inb : ∀ (v2969 : BitVec 32) (k0_hw417 : k0_chk417 v2969), ∀ a, (k0_off735 v2969) a + S1x1x128.size a ≤ S50000x1x128.size a := fun v2969 k0_hw417 => k0_hw417

def k0_off736 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c31_i32_1709 : BitVec 32 := 31#32
  let v2973 : BitVec 32 := Scalar.addi v2593 c31_i32_1709
  let v2974 : Index := Scalar.indexCast v2973
  let c0_1710 : Index := 0#32
  ![v2974.toNat, 0]
def k0_off737 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1711 : BitVec 32 := 128#32
  let v2978 : BitVec 32 := Scalar.muli arg33 c128_i32_1711
  let c32_i32 : BitVec 32 := 32#32
  let v2979 : BitVec 32 := Scalar.addi v2978 c32_i32
  let v2980 : Index := Scalar.indexCast v2979
  ![v2980.toNat]
def k0_off738 (v2981 : BitVec 32) : Fin 3 → Nat :=
  let v2982 : Index := Scalar.indexCast v2981
  let c0_1712 : Index := 0#32
  let c0_1713 : Index := 0#32
  ![v2982.toNat, 0, 0]

def k0_chk418 (v2981 : BitVec 32) : Prop :=
  (∀ a, (k0_off738 v2981) a + S1x1x128.size a ≤ S50000x1x128.size a)
theorem k0_off738_inb : ∀ (v2981 : BitVec 32) (k0_hw418 : k0_chk418 v2981), ∀ a, (k0_off738 v2981) a + S1x1x128.size a ≤ S50000x1x128.size a := fun v2981 k0_hw418 => k0_hw418

def k0_off739 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c32_i32_1714 : BitVec 32 := 32#32
  let v2985 : BitVec 32 := Scalar.addi v2593 c32_i32_1714
  let v2986 : Index := Scalar.indexCast v2985
  let c0_1715 : Index := 0#32
  ![v2986.toNat, 0]
def k0_off740 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1716 : BitVec 32 := 128#32
  let v2990 : BitVec 32 := Scalar.muli arg33 c128_i32_1716
  let c33_i32 : BitVec 32 := 33#32
  let v2991 : BitVec 32 := Scalar.addi v2990 c33_i32
  let v2992 : Index := Scalar.indexCast v2991
  ![v2992.toNat]
def k0_off741 (v2993 : BitVec 32) : Fin 3 → Nat :=
  let v2994 : Index := Scalar.indexCast v2993
  let c0_1717 : Index := 0#32
  let c0_1718 : Index := 0#32
  ![v2994.toNat, 0, 0]

def k0_chk419 (v2993 : BitVec 32) : Prop :=
  (∀ a, (k0_off741 v2993) a + S1x1x128.size a ≤ S50000x1x128.size a)
theorem k0_off741_inb : ∀ (v2993 : BitVec 32) (k0_hw419 : k0_chk419 v2993), ∀ a, (k0_off741 v2993) a + S1x1x128.size a ≤ S50000x1x128.size a := fun v2993 k0_hw419 => k0_hw419

def k0_off742 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c33_i32_1719 : BitVec 32 := 33#32
  let v2997 : BitVec 32 := Scalar.addi v2593 c33_i32_1719
  let v2998 : Index := Scalar.indexCast v2997
  let c0_1720 : Index := 0#32
  ![v2998.toNat, 0]
def k0_off743 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1721 : BitVec 32 := 128#32
  let v3002 : BitVec 32 := Scalar.muli arg33 c128_i32_1721
  let c34_i32 : BitVec 32 := 34#32
  let v3003 : BitVec 32 := Scalar.addi v3002 c34_i32
  let v3004 : Index := Scalar.indexCast v3003
  ![v3004.toNat]
def k0_off744 (v3005 : BitVec 32) : Fin 3 → Nat :=
  let v3006 : Index := Scalar.indexCast v3005
  let c0_1722 : Index := 0#32
  let c0_1723 : Index := 0#32
  ![v3006.toNat, 0, 0]

def k0_chk420 (v3005 : BitVec 32) : Prop :=
  (∀ a, (k0_off744 v3005) a + S1x1x128.size a ≤ S50000x1x128.size a)
theorem k0_off744_inb : ∀ (v3005 : BitVec 32) (k0_hw420 : k0_chk420 v3005), ∀ a, (k0_off744 v3005) a + S1x1x128.size a ≤ S50000x1x128.size a := fun v3005 k0_hw420 => k0_hw420

def k0_off745 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c34_i32_1724 : BitVec 32 := 34#32
  let v3009 : BitVec 32 := Scalar.addi v2593 c34_i32_1724
  let v3010 : Index := Scalar.indexCast v3009
  let c0_1725 : Index := 0#32
  ![v3010.toNat, 0]
def k0_off746 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1726 : BitVec 32 := 128#32
  let v3014 : BitVec 32 := Scalar.muli arg33 c128_i32_1726
  let c35_i32 : BitVec 32 := 35#32
  let v3015 : BitVec 32 := Scalar.addi v3014 c35_i32
  let v3016 : Index := Scalar.indexCast v3015
  ![v3016.toNat]
def k0_off747 (v3017 : BitVec 32) : Fin 3 → Nat :=
  let v3018 : Index := Scalar.indexCast v3017
  let c0_1727 : Index := 0#32
  let c0_1728 : Index := 0#32
  ![v3018.toNat, 0, 0]

def k0_chk421 (v3017 : BitVec 32) : Prop :=
  (∀ a, (k0_off747 v3017) a + S1x1x128.size a ≤ S50000x1x128.size a)
theorem k0_off747_inb : ∀ (v3017 : BitVec 32) (k0_hw421 : k0_chk421 v3017), ∀ a, (k0_off747 v3017) a + S1x1x128.size a ≤ S50000x1x128.size a := fun v3017 k0_hw421 => k0_hw421

def k0_off748 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c35_i32_1729 : BitVec 32 := 35#32
  let v3021 : BitVec 32 := Scalar.addi v2593 c35_i32_1729
  let v3022 : Index := Scalar.indexCast v3021
  let c0_1730 : Index := 0#32
  ![v3022.toNat, 0]
def k0_off749 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1731 : BitVec 32 := 128#32
  let v3026 : BitVec 32 := Scalar.muli arg33 c128_i32_1731
  let c36_i32 : BitVec 32 := 36#32
  let v3027 : BitVec 32 := Scalar.addi v3026 c36_i32
  let v3028 : Index := Scalar.indexCast v3027
  ![v3028.toNat]
def k0_off750 (v3029 : BitVec 32) : Fin 3 → Nat :=
  let v3030 : Index := Scalar.indexCast v3029
  let c0_1732 : Index := 0#32
  let c0_1733 : Index := 0#32
  ![v3030.toNat, 0, 0]

def k0_chk422 (v3029 : BitVec 32) : Prop :=
  (∀ a, (k0_off750 v3029) a + S1x1x128.size a ≤ S50000x1x128.size a)
theorem k0_off750_inb : ∀ (v3029 : BitVec 32) (k0_hw422 : k0_chk422 v3029), ∀ a, (k0_off750 v3029) a + S1x1x128.size a ≤ S50000x1x128.size a := fun v3029 k0_hw422 => k0_hw422

def k0_off751 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c36_i32_1734 : BitVec 32 := 36#32
  let v3033 : BitVec 32 := Scalar.addi v2593 c36_i32_1734
  let v3034 : Index := Scalar.indexCast v3033
  let c0_1735 : Index := 0#32
  ![v3034.toNat, 0]
def k0_off752 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1736 : BitVec 32 := 128#32
  let v3038 : BitVec 32 := Scalar.muli arg33 c128_i32_1736
  let c37_i32 : BitVec 32 := 37#32
  let v3039 : BitVec 32 := Scalar.addi v3038 c37_i32
  let v3040 : Index := Scalar.indexCast v3039
  ![v3040.toNat]
def k0_off753 (v3041 : BitVec 32) : Fin 3 → Nat :=
  let v3042 : Index := Scalar.indexCast v3041
  let c0_1737 : Index := 0#32
  let c0_1738 : Index := 0#32
  ![v3042.toNat, 0, 0]

def k0_chk423 (v3041 : BitVec 32) : Prop :=
  (∀ a, (k0_off753 v3041) a + S1x1x128.size a ≤ S50000x1x128.size a)
theorem k0_off753_inb : ∀ (v3041 : BitVec 32) (k0_hw423 : k0_chk423 v3041), ∀ a, (k0_off753 v3041) a + S1x1x128.size a ≤ S50000x1x128.size a := fun v3041 k0_hw423 => k0_hw423

def k0_off754 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c37_i32_1739 : BitVec 32 := 37#32
  let v3045 : BitVec 32 := Scalar.addi v2593 c37_i32_1739
  let v3046 : Index := Scalar.indexCast v3045
  let c0_1740 : Index := 0#32
  ![v3046.toNat, 0]
def k0_off755 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1741 : BitVec 32 := 128#32
  let v3050 : BitVec 32 := Scalar.muli arg33 c128_i32_1741
  let c38_i32 : BitVec 32 := 38#32
  let v3051 : BitVec 32 := Scalar.addi v3050 c38_i32
  let v3052 : Index := Scalar.indexCast v3051
  ![v3052.toNat]
def k0_off756 (v3053 : BitVec 32) : Fin 3 → Nat :=
  let v3054 : Index := Scalar.indexCast v3053
  let c0_1742 : Index := 0#32
  let c0_1743 : Index := 0#32
  ![v3054.toNat, 0, 0]

def k0_chk424 (v3053 : BitVec 32) : Prop :=
  (∀ a, (k0_off756 v3053) a + S1x1x128.size a ≤ S50000x1x128.size a)
theorem k0_off756_inb : ∀ (v3053 : BitVec 32) (k0_hw424 : k0_chk424 v3053), ∀ a, (k0_off756 v3053) a + S1x1x128.size a ≤ S50000x1x128.size a := fun v3053 k0_hw424 => k0_hw424

def k0_off757 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c38_i32_1744 : BitVec 32 := 38#32
  let v3057 : BitVec 32 := Scalar.addi v2593 c38_i32_1744
  let v3058 : Index := Scalar.indexCast v3057
  let c0_1745 : Index := 0#32
  ![v3058.toNat, 0]
def k0_off758 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1746 : BitVec 32 := 128#32
  let v3062 : BitVec 32 := Scalar.muli arg33 c128_i32_1746
  let c39_i32 : BitVec 32 := 39#32
  let v3063 : BitVec 32 := Scalar.addi v3062 c39_i32
  let v3064 : Index := Scalar.indexCast v3063
  ![v3064.toNat]
def k0_off759 (v3065 : BitVec 32) : Fin 3 → Nat :=
  let v3066 : Index := Scalar.indexCast v3065
  let c0_1747 : Index := 0#32
  let c0_1748 : Index := 0#32
  ![v3066.toNat, 0, 0]

def k0_chk425 (v3065 : BitVec 32) : Prop :=
  (∀ a, (k0_off759 v3065) a + S1x1x128.size a ≤ S50000x1x128.size a)
theorem k0_off759_inb : ∀ (v3065 : BitVec 32) (k0_hw425 : k0_chk425 v3065), ∀ a, (k0_off759 v3065) a + S1x1x128.size a ≤ S50000x1x128.size a := fun v3065 k0_hw425 => k0_hw425

def k0_off760 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c39_i32_1749 : BitVec 32 := 39#32
  let v3069 : BitVec 32 := Scalar.addi v2593 c39_i32_1749
  let v3070 : Index := Scalar.indexCast v3069
  let c0_1750 : Index := 0#32
  ![v3070.toNat, 0]
def k0_off761 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1751 : BitVec 32 := 128#32
  let v3074 : BitVec 32 := Scalar.muli arg33 c128_i32_1751
  let c40_i32 : BitVec 32 := 40#32
  let v3075 : BitVec 32 := Scalar.addi v3074 c40_i32
  let v3076 : Index := Scalar.indexCast v3075
  ![v3076.toNat]
def k0_off762 (v3077 : BitVec 32) : Fin 3 → Nat :=
  let v3078 : Index := Scalar.indexCast v3077
  let c0_1752 : Index := 0#32
  let c0_1753 : Index := 0#32
  ![v3078.toNat, 0, 0]

def k0_chk426 (v3077 : BitVec 32) : Prop :=
  (∀ a, (k0_off762 v3077) a + S1x1x128.size a ≤ S50000x1x128.size a)
theorem k0_off762_inb : ∀ (v3077 : BitVec 32) (k0_hw426 : k0_chk426 v3077), ∀ a, (k0_off762 v3077) a + S1x1x128.size a ≤ S50000x1x128.size a := fun v3077 k0_hw426 => k0_hw426

def k0_off763 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c40_i32_1754 : BitVec 32 := 40#32
  let v3081 : BitVec 32 := Scalar.addi v2593 c40_i32_1754
  let v3082 : Index := Scalar.indexCast v3081
  let c0_1755 : Index := 0#32
  ![v3082.toNat, 0]
def k0_off764 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1756 : BitVec 32 := 128#32
  let v3086 : BitVec 32 := Scalar.muli arg33 c128_i32_1756
  let c41_i32 : BitVec 32 := 41#32
  let v3087 : BitVec 32 := Scalar.addi v3086 c41_i32
  let v3088 : Index := Scalar.indexCast v3087
  ![v3088.toNat]
def k0_off765 (v3089 : BitVec 32) : Fin 3 → Nat :=
  let v3090 : Index := Scalar.indexCast v3089
  let c0_1757 : Index := 0#32
  let c0_1758 : Index := 0#32
  ![v3090.toNat, 0, 0]

def k0_chk427 (v3089 : BitVec 32) : Prop :=
  (∀ a, (k0_off765 v3089) a + S1x1x128.size a ≤ S50000x1x128.size a)
theorem k0_off765_inb : ∀ (v3089 : BitVec 32) (k0_hw427 : k0_chk427 v3089), ∀ a, (k0_off765 v3089) a + S1x1x128.size a ≤ S50000x1x128.size a := fun v3089 k0_hw427 => k0_hw427

def k0_off766 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c41_i32_1759 : BitVec 32 := 41#32
  let v3093 : BitVec 32 := Scalar.addi v2593 c41_i32_1759
  let v3094 : Index := Scalar.indexCast v3093
  let c0_1760 : Index := 0#32
  ![v3094.toNat, 0]
def k0_off767 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1761 : BitVec 32 := 128#32
  let v3098 : BitVec 32 := Scalar.muli arg33 c128_i32_1761
  let c42_i32 : BitVec 32 := 42#32
  let v3099 : BitVec 32 := Scalar.addi v3098 c42_i32
  let v3100 : Index := Scalar.indexCast v3099
  ![v3100.toNat]
def k0_off768 (v3101 : BitVec 32) : Fin 3 → Nat :=
  let v3102 : Index := Scalar.indexCast v3101
  let c0_1762 : Index := 0#32
  let c0_1763 : Index := 0#32
  ![v3102.toNat, 0, 0]

def k0_chk428 (v3101 : BitVec 32) : Prop :=
  (∀ a, (k0_off768 v3101) a + S1x1x128.size a ≤ S50000x1x128.size a)
theorem k0_off768_inb : ∀ (v3101 : BitVec 32) (k0_hw428 : k0_chk428 v3101), ∀ a, (k0_off768 v3101) a + S1x1x128.size a ≤ S50000x1x128.size a := fun v3101 k0_hw428 => k0_hw428

def k0_off769 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c42_i32_1764 : BitVec 32 := 42#32
  let v3105 : BitVec 32 := Scalar.addi v2593 c42_i32_1764
  let v3106 : Index := Scalar.indexCast v3105
  let c0_1765 : Index := 0#32
  ![v3106.toNat, 0]
def k0_off770 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1766 : BitVec 32 := 128#32
  let v3110 : BitVec 32 := Scalar.muli arg33 c128_i32_1766
  let c43_i32 : BitVec 32 := 43#32
  let v3111 : BitVec 32 := Scalar.addi v3110 c43_i32
  let v3112 : Index := Scalar.indexCast v3111
  ![v3112.toNat]
def k0_off771 (v3113 : BitVec 32) : Fin 3 → Nat :=
  let v3114 : Index := Scalar.indexCast v3113
  let c0_1767 : Index := 0#32
  let c0_1768 : Index := 0#32
  ![v3114.toNat, 0, 0]

def k0_chk429 (v3113 : BitVec 32) : Prop :=
  (∀ a, (k0_off771 v3113) a + S1x1x128.size a ≤ S50000x1x128.size a)
theorem k0_off771_inb : ∀ (v3113 : BitVec 32) (k0_hw429 : k0_chk429 v3113), ∀ a, (k0_off771 v3113) a + S1x1x128.size a ≤ S50000x1x128.size a := fun v3113 k0_hw429 => k0_hw429

def k0_off772 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c43_i32_1769 : BitVec 32 := 43#32
  let v3117 : BitVec 32 := Scalar.addi v2593 c43_i32_1769
  let v3118 : Index := Scalar.indexCast v3117
  let c0_1770 : Index := 0#32
  ![v3118.toNat, 0]
def k0_off773 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1771 : BitVec 32 := 128#32
  let v3122 : BitVec 32 := Scalar.muli arg33 c128_i32_1771
  let c44_i32 : BitVec 32 := 44#32
  let v3123 : BitVec 32 := Scalar.addi v3122 c44_i32
  let v3124 : Index := Scalar.indexCast v3123
  ![v3124.toNat]
def k0_off774 (v3125 : BitVec 32) : Fin 3 → Nat :=
  let v3126 : Index := Scalar.indexCast v3125
  let c0_1772 : Index := 0#32
  let c0_1773 : Index := 0#32
  ![v3126.toNat, 0, 0]

def k0_chk430 (v3125 : BitVec 32) : Prop :=
  (∀ a, (k0_off774 v3125) a + S1x1x128.size a ≤ S50000x1x128.size a)
theorem k0_off774_inb : ∀ (v3125 : BitVec 32) (k0_hw430 : k0_chk430 v3125), ∀ a, (k0_off774 v3125) a + S1x1x128.size a ≤ S50000x1x128.size a := fun v3125 k0_hw430 => k0_hw430

def k0_off775 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c44_i32_1774 : BitVec 32 := 44#32
  let v3129 : BitVec 32 := Scalar.addi v2593 c44_i32_1774
  let v3130 : Index := Scalar.indexCast v3129
  let c0_1775 : Index := 0#32
  ![v3130.toNat, 0]
def k0_off776 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1776 : BitVec 32 := 128#32
  let v3134 : BitVec 32 := Scalar.muli arg33 c128_i32_1776
  let c45_i32 : BitVec 32 := 45#32
  let v3135 : BitVec 32 := Scalar.addi v3134 c45_i32
  let v3136 : Index := Scalar.indexCast v3135
  ![v3136.toNat]
def k0_off777 (v3137 : BitVec 32) : Fin 3 → Nat :=
  let v3138 : Index := Scalar.indexCast v3137
  let c0_1777 : Index := 0#32
  let c0_1778 : Index := 0#32
  ![v3138.toNat, 0, 0]

def k0_chk431 (v3137 : BitVec 32) : Prop :=
  (∀ a, (k0_off777 v3137) a + S1x1x128.size a ≤ S50000x1x128.size a)
theorem k0_off777_inb : ∀ (v3137 : BitVec 32) (k0_hw431 : k0_chk431 v3137), ∀ a, (k0_off777 v3137) a + S1x1x128.size a ≤ S50000x1x128.size a := fun v3137 k0_hw431 => k0_hw431

def k0_off778 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c45_i32_1779 : BitVec 32 := 45#32
  let v3141 : BitVec 32 := Scalar.addi v2593 c45_i32_1779
  let v3142 : Index := Scalar.indexCast v3141
  let c0_1780 : Index := 0#32
  ![v3142.toNat, 0]
def k0_off779 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1781 : BitVec 32 := 128#32
  let v3146 : BitVec 32 := Scalar.muli arg33 c128_i32_1781
  let c46_i32 : BitVec 32 := 46#32
  let v3147 : BitVec 32 := Scalar.addi v3146 c46_i32
  let v3148 : Index := Scalar.indexCast v3147
  ![v3148.toNat]
def k0_off780 (v3149 : BitVec 32) : Fin 3 → Nat :=
  let v3150 : Index := Scalar.indexCast v3149
  let c0_1782 : Index := 0#32
  let c0_1783 : Index := 0#32
  ![v3150.toNat, 0, 0]

def k0_chk432 (v3149 : BitVec 32) : Prop :=
  (∀ a, (k0_off780 v3149) a + S1x1x128.size a ≤ S50000x1x128.size a)
theorem k0_off780_inb : ∀ (v3149 : BitVec 32) (k0_hw432 : k0_chk432 v3149), ∀ a, (k0_off780 v3149) a + S1x1x128.size a ≤ S50000x1x128.size a := fun v3149 k0_hw432 => k0_hw432

def k0_off781 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c46_i32_1784 : BitVec 32 := 46#32
  let v3153 : BitVec 32 := Scalar.addi v2593 c46_i32_1784
  let v3154 : Index := Scalar.indexCast v3153
  let c0_1785 : Index := 0#32
  ![v3154.toNat, 0]
def k0_off782 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1786 : BitVec 32 := 128#32
  let v3158 : BitVec 32 := Scalar.muli arg33 c128_i32_1786
  let c47_i32 : BitVec 32 := 47#32
  let v3159 : BitVec 32 := Scalar.addi v3158 c47_i32
  let v3160 : Index := Scalar.indexCast v3159
  ![v3160.toNat]
def k0_off783 (v3161 : BitVec 32) : Fin 3 → Nat :=
  let v3162 : Index := Scalar.indexCast v3161
  let c0_1787 : Index := 0#32
  let c0_1788 : Index := 0#32
  ![v3162.toNat, 0, 0]

def k0_chk433 (v3161 : BitVec 32) : Prop :=
  (∀ a, (k0_off783 v3161) a + S1x1x128.size a ≤ S50000x1x128.size a)
theorem k0_off783_inb : ∀ (v3161 : BitVec 32) (k0_hw433 : k0_chk433 v3161), ∀ a, (k0_off783 v3161) a + S1x1x128.size a ≤ S50000x1x128.size a := fun v3161 k0_hw433 => k0_hw433

def k0_off784 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c47_i32_1789 : BitVec 32 := 47#32
  let v3165 : BitVec 32 := Scalar.addi v2593 c47_i32_1789
  let v3166 : Index := Scalar.indexCast v3165
  let c0_1790 : Index := 0#32
  ![v3166.toNat, 0]
def k0_off785 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1791 : BitVec 32 := 128#32
  let v3170 : BitVec 32 := Scalar.muli arg33 c128_i32_1791
  let c48_i32 : BitVec 32 := 48#32
  let v3171 : BitVec 32 := Scalar.addi v3170 c48_i32
  let v3172 : Index := Scalar.indexCast v3171
  ![v3172.toNat]
def k0_off786 (v3173 : BitVec 32) : Fin 3 → Nat :=
  let v3174 : Index := Scalar.indexCast v3173
  let c0_1792 : Index := 0#32
  let c0_1793 : Index := 0#32
  ![v3174.toNat, 0, 0]

def k0_chk434 (v3173 : BitVec 32) : Prop :=
  (∀ a, (k0_off786 v3173) a + S1x1x128.size a ≤ S50000x1x128.size a)
theorem k0_off786_inb : ∀ (v3173 : BitVec 32) (k0_hw434 : k0_chk434 v3173), ∀ a, (k0_off786 v3173) a + S1x1x128.size a ≤ S50000x1x128.size a := fun v3173 k0_hw434 => k0_hw434

def k0_off787 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c48_i32_1794 : BitVec 32 := 48#32
  let v3177 : BitVec 32 := Scalar.addi v2593 c48_i32_1794
  let v3178 : Index := Scalar.indexCast v3177
  let c0_1795 : Index := 0#32
  ![v3178.toNat, 0]
def k0_off788 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1796 : BitVec 32 := 128#32
  let v3182 : BitVec 32 := Scalar.muli arg33 c128_i32_1796
  let c49_i32 : BitVec 32 := 49#32
  let v3183 : BitVec 32 := Scalar.addi v3182 c49_i32
  let v3184 : Index := Scalar.indexCast v3183
  ![v3184.toNat]
def k0_off789 (v3185 : BitVec 32) : Fin 3 → Nat :=
  let v3186 : Index := Scalar.indexCast v3185
  let c0_1797 : Index := 0#32
  let c0_1798 : Index := 0#32
  ![v3186.toNat, 0, 0]

def k0_chk435 (v3185 : BitVec 32) : Prop :=
  (∀ a, (k0_off789 v3185) a + S1x1x128.size a ≤ S50000x1x128.size a)
theorem k0_off789_inb : ∀ (v3185 : BitVec 32) (k0_hw435 : k0_chk435 v3185), ∀ a, (k0_off789 v3185) a + S1x1x128.size a ≤ S50000x1x128.size a := fun v3185 k0_hw435 => k0_hw435

def k0_off790 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c49_i32_1799 : BitVec 32 := 49#32
  let v3189 : BitVec 32 := Scalar.addi v2593 c49_i32_1799
  let v3190 : Index := Scalar.indexCast v3189
  let c0_1800 : Index := 0#32
  ![v3190.toNat, 0]
def k0_off791 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1801 : BitVec 32 := 128#32
  let v3194 : BitVec 32 := Scalar.muli arg33 c128_i32_1801
  let c50_i32 : BitVec 32 := 50#32
  let v3195 : BitVec 32 := Scalar.addi v3194 c50_i32
  let v3196 : Index := Scalar.indexCast v3195
  ![v3196.toNat]
def k0_off792 (v3197 : BitVec 32) : Fin 3 → Nat :=
  let v3198 : Index := Scalar.indexCast v3197
  let c0_1802 : Index := 0#32
  let c0_1803 : Index := 0#32
  ![v3198.toNat, 0, 0]

def k0_chk436 (v3197 : BitVec 32) : Prop :=
  (∀ a, (k0_off792 v3197) a + S1x1x128.size a ≤ S50000x1x128.size a)
theorem k0_off792_inb : ∀ (v3197 : BitVec 32) (k0_hw436 : k0_chk436 v3197), ∀ a, (k0_off792 v3197) a + S1x1x128.size a ≤ S50000x1x128.size a := fun v3197 k0_hw436 => k0_hw436

def k0_off793 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c50_i32_1804 : BitVec 32 := 50#32
  let v3201 : BitVec 32 := Scalar.addi v2593 c50_i32_1804
  let v3202 : Index := Scalar.indexCast v3201
  let c0_1805 : Index := 0#32
  ![v3202.toNat, 0]
def k0_off794 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1806 : BitVec 32 := 128#32
  let v3206 : BitVec 32 := Scalar.muli arg33 c128_i32_1806
  let c51_i32 : BitVec 32 := 51#32
  let v3207 : BitVec 32 := Scalar.addi v3206 c51_i32
  let v3208 : Index := Scalar.indexCast v3207
  ![v3208.toNat]
def k0_off795 (v3209 : BitVec 32) : Fin 3 → Nat :=
  let v3210 : Index := Scalar.indexCast v3209
  let c0_1807 : Index := 0#32
  let c0_1808 : Index := 0#32
  ![v3210.toNat, 0, 0]

def k0_chk437 (v3209 : BitVec 32) : Prop :=
  (∀ a, (k0_off795 v3209) a + S1x1x128.size a ≤ S50000x1x128.size a)
theorem k0_off795_inb : ∀ (v3209 : BitVec 32) (k0_hw437 : k0_chk437 v3209), ∀ a, (k0_off795 v3209) a + S1x1x128.size a ≤ S50000x1x128.size a := fun v3209 k0_hw437 => k0_hw437

def k0_off796 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c51_i32_1809 : BitVec 32 := 51#32
  let v3213 : BitVec 32 := Scalar.addi v2593 c51_i32_1809
  let v3214 : Index := Scalar.indexCast v3213
  let c0_1810 : Index := 0#32
  ![v3214.toNat, 0]
def k0_off797 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1811 : BitVec 32 := 128#32
  let v3218 : BitVec 32 := Scalar.muli arg33 c128_i32_1811
  let c52_i32 : BitVec 32 := 52#32
  let v3219 : BitVec 32 := Scalar.addi v3218 c52_i32
  let v3220 : Index := Scalar.indexCast v3219
  ![v3220.toNat]
def k0_off798 (v3221 : BitVec 32) : Fin 3 → Nat :=
  let v3222 : Index := Scalar.indexCast v3221
  let c0_1812 : Index := 0#32
  let c0_1813 : Index := 0#32
  ![v3222.toNat, 0, 0]

def k0_chk438 (v3221 : BitVec 32) : Prop :=
  (∀ a, (k0_off798 v3221) a + S1x1x128.size a ≤ S50000x1x128.size a)
theorem k0_off798_inb : ∀ (v3221 : BitVec 32) (k0_hw438 : k0_chk438 v3221), ∀ a, (k0_off798 v3221) a + S1x1x128.size a ≤ S50000x1x128.size a := fun v3221 k0_hw438 => k0_hw438

def k0_off799 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c52_i32_1814 : BitVec 32 := 52#32
  let v3225 : BitVec 32 := Scalar.addi v2593 c52_i32_1814
  let v3226 : Index := Scalar.indexCast v3225
  let c0_1815 : Index := 0#32
  ![v3226.toNat, 0]
def k0_off800 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1816 : BitVec 32 := 128#32
  let v3230 : BitVec 32 := Scalar.muli arg33 c128_i32_1816
  let c53_i32 : BitVec 32 := 53#32
  let v3231 : BitVec 32 := Scalar.addi v3230 c53_i32
  let v3232 : Index := Scalar.indexCast v3231
  ![v3232.toNat]
def k0_off801 (v3233 : BitVec 32) : Fin 3 → Nat :=
  let v3234 : Index := Scalar.indexCast v3233
  let c0_1817 : Index := 0#32
  let c0_1818 : Index := 0#32
  ![v3234.toNat, 0, 0]

def k0_chk439 (v3233 : BitVec 32) : Prop :=
  (∀ a, (k0_off801 v3233) a + S1x1x128.size a ≤ S50000x1x128.size a)
theorem k0_off801_inb : ∀ (v3233 : BitVec 32) (k0_hw439 : k0_chk439 v3233), ∀ a, (k0_off801 v3233) a + S1x1x128.size a ≤ S50000x1x128.size a := fun v3233 k0_hw439 => k0_hw439

def k0_off802 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c53_i32_1819 : BitVec 32 := 53#32
  let v3237 : BitVec 32 := Scalar.addi v2593 c53_i32_1819
  let v3238 : Index := Scalar.indexCast v3237
  let c0_1820 : Index := 0#32
  ![v3238.toNat, 0]
def k0_off803 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1821 : BitVec 32 := 128#32
  let v3242 : BitVec 32 := Scalar.muli arg33 c128_i32_1821
  let c54_i32 : BitVec 32 := 54#32
  let v3243 : BitVec 32 := Scalar.addi v3242 c54_i32
  let v3244 : Index := Scalar.indexCast v3243
  ![v3244.toNat]
def k0_off804 (v3245 : BitVec 32) : Fin 3 → Nat :=
  let v3246 : Index := Scalar.indexCast v3245
  let c0_1822 : Index := 0#32
  let c0_1823 : Index := 0#32
  ![v3246.toNat, 0, 0]

def k0_chk440 (v3245 : BitVec 32) : Prop :=
  (∀ a, (k0_off804 v3245) a + S1x1x128.size a ≤ S50000x1x128.size a)
theorem k0_off804_inb : ∀ (v3245 : BitVec 32) (k0_hw440 : k0_chk440 v3245), ∀ a, (k0_off804 v3245) a + S1x1x128.size a ≤ S50000x1x128.size a := fun v3245 k0_hw440 => k0_hw440

def k0_off805 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c54_i32_1824 : BitVec 32 := 54#32
  let v3249 : BitVec 32 := Scalar.addi v2593 c54_i32_1824
  let v3250 : Index := Scalar.indexCast v3249
  let c0_1825 : Index := 0#32
  ![v3250.toNat, 0]
def k0_off806 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1826 : BitVec 32 := 128#32
  let v3254 : BitVec 32 := Scalar.muli arg33 c128_i32_1826
  let c55_i32 : BitVec 32 := 55#32
  let v3255 : BitVec 32 := Scalar.addi v3254 c55_i32
  let v3256 : Index := Scalar.indexCast v3255
  ![v3256.toNat]
def k0_off807 (v3257 : BitVec 32) : Fin 3 → Nat :=
  let v3258 : Index := Scalar.indexCast v3257
  let c0_1827 : Index := 0#32
  let c0_1828 : Index := 0#32
  ![v3258.toNat, 0, 0]

def k0_chk441 (v3257 : BitVec 32) : Prop :=
  (∀ a, (k0_off807 v3257) a + S1x1x128.size a ≤ S50000x1x128.size a)
theorem k0_off807_inb : ∀ (v3257 : BitVec 32) (k0_hw441 : k0_chk441 v3257), ∀ a, (k0_off807 v3257) a + S1x1x128.size a ≤ S50000x1x128.size a := fun v3257 k0_hw441 => k0_hw441

def k0_off808 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c55_i32_1829 : BitVec 32 := 55#32
  let v3261 : BitVec 32 := Scalar.addi v2593 c55_i32_1829
  let v3262 : Index := Scalar.indexCast v3261
  let c0_1830 : Index := 0#32
  ![v3262.toNat, 0]
def k0_off809 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1831 : BitVec 32 := 128#32
  let v3266 : BitVec 32 := Scalar.muli arg33 c128_i32_1831
  let c56_i32 : BitVec 32 := 56#32
  let v3267 : BitVec 32 := Scalar.addi v3266 c56_i32
  let v3268 : Index := Scalar.indexCast v3267
  ![v3268.toNat]
def k0_off810 (v3269 : BitVec 32) : Fin 3 → Nat :=
  let v3270 : Index := Scalar.indexCast v3269
  let c0_1832 : Index := 0#32
  let c0_1833 : Index := 0#32
  ![v3270.toNat, 0, 0]

def k0_chk442 (v3269 : BitVec 32) : Prop :=
  (∀ a, (k0_off810 v3269) a + S1x1x128.size a ≤ S50000x1x128.size a)
theorem k0_off810_inb : ∀ (v3269 : BitVec 32) (k0_hw442 : k0_chk442 v3269), ∀ a, (k0_off810 v3269) a + S1x1x128.size a ≤ S50000x1x128.size a := fun v3269 k0_hw442 => k0_hw442

def k0_off811 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c56_i32_1834 : BitVec 32 := 56#32
  let v3273 : BitVec 32 := Scalar.addi v2593 c56_i32_1834
  let v3274 : Index := Scalar.indexCast v3273
  let c0_1835 : Index := 0#32
  ![v3274.toNat, 0]
def k0_off812 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1836 : BitVec 32 := 128#32
  let v3278 : BitVec 32 := Scalar.muli arg33 c128_i32_1836
  let c57_i32 : BitVec 32 := 57#32
  let v3279 : BitVec 32 := Scalar.addi v3278 c57_i32
  let v3280 : Index := Scalar.indexCast v3279
  ![v3280.toNat]
def k0_off813 (v3281 : BitVec 32) : Fin 3 → Nat :=
  let v3282 : Index := Scalar.indexCast v3281
  let c0_1837 : Index := 0#32
  let c0_1838 : Index := 0#32
  ![v3282.toNat, 0, 0]

def k0_chk443 (v3281 : BitVec 32) : Prop :=
  (∀ a, (k0_off813 v3281) a + S1x1x128.size a ≤ S50000x1x128.size a)
theorem k0_off813_inb : ∀ (v3281 : BitVec 32) (k0_hw443 : k0_chk443 v3281), ∀ a, (k0_off813 v3281) a + S1x1x128.size a ≤ S50000x1x128.size a := fun v3281 k0_hw443 => k0_hw443

def k0_off814 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c57_i32_1839 : BitVec 32 := 57#32
  let v3285 : BitVec 32 := Scalar.addi v2593 c57_i32_1839
  let v3286 : Index := Scalar.indexCast v3285
  let c0_1840 : Index := 0#32
  ![v3286.toNat, 0]
def k0_off815 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1841 : BitVec 32 := 128#32
  let v3290 : BitVec 32 := Scalar.muli arg33 c128_i32_1841
  let c58_i32 : BitVec 32 := 58#32
  let v3291 : BitVec 32 := Scalar.addi v3290 c58_i32
  let v3292 : Index := Scalar.indexCast v3291
  ![v3292.toNat]
def k0_off816 (v3293 : BitVec 32) : Fin 3 → Nat :=
  let v3294 : Index := Scalar.indexCast v3293
  let c0_1842 : Index := 0#32
  let c0_1843 : Index := 0#32
  ![v3294.toNat, 0, 0]

def k0_chk444 (v3293 : BitVec 32) : Prop :=
  (∀ a, (k0_off816 v3293) a + S1x1x128.size a ≤ S50000x1x128.size a)
theorem k0_off816_inb : ∀ (v3293 : BitVec 32) (k0_hw444 : k0_chk444 v3293), ∀ a, (k0_off816 v3293) a + S1x1x128.size a ≤ S50000x1x128.size a := fun v3293 k0_hw444 => k0_hw444

def k0_off817 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c58_i32_1844 : BitVec 32 := 58#32
  let v3297 : BitVec 32 := Scalar.addi v2593 c58_i32_1844
  let v3298 : Index := Scalar.indexCast v3297
  let c0_1845 : Index := 0#32
  ![v3298.toNat, 0]
def k0_off818 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1846 : BitVec 32 := 128#32
  let v3302 : BitVec 32 := Scalar.muli arg33 c128_i32_1846
  let c59_i32 : BitVec 32 := 59#32
  let v3303 : BitVec 32 := Scalar.addi v3302 c59_i32
  let v3304 : Index := Scalar.indexCast v3303
  ![v3304.toNat]
def k0_off819 (v3305 : BitVec 32) : Fin 3 → Nat :=
  let v3306 : Index := Scalar.indexCast v3305
  let c0_1847 : Index := 0#32
  let c0_1848 : Index := 0#32
  ![v3306.toNat, 0, 0]

def k0_chk445 (v3305 : BitVec 32) : Prop :=
  (∀ a, (k0_off819 v3305) a + S1x1x128.size a ≤ S50000x1x128.size a)
theorem k0_off819_inb : ∀ (v3305 : BitVec 32) (k0_hw445 : k0_chk445 v3305), ∀ a, (k0_off819 v3305) a + S1x1x128.size a ≤ S50000x1x128.size a := fun v3305 k0_hw445 => k0_hw445

def k0_off820 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c59_i32_1849 : BitVec 32 := 59#32
  let v3309 : BitVec 32 := Scalar.addi v2593 c59_i32_1849
  let v3310 : Index := Scalar.indexCast v3309
  let c0_1850 : Index := 0#32
  ![v3310.toNat, 0]
def k0_off821 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1851 : BitVec 32 := 128#32
  let v3314 : BitVec 32 := Scalar.muli arg33 c128_i32_1851
  let c60_i32 : BitVec 32 := 60#32
  let v3315 : BitVec 32 := Scalar.addi v3314 c60_i32
  let v3316 : Index := Scalar.indexCast v3315
  ![v3316.toNat]
def k0_off822 (v3317 : BitVec 32) : Fin 3 → Nat :=
  let v3318 : Index := Scalar.indexCast v3317
  let c0_1852 : Index := 0#32
  let c0_1853 : Index := 0#32
  ![v3318.toNat, 0, 0]

def k0_chk446 (v3317 : BitVec 32) : Prop :=
  (∀ a, (k0_off822 v3317) a + S1x1x128.size a ≤ S50000x1x128.size a)
theorem k0_off822_inb : ∀ (v3317 : BitVec 32) (k0_hw446 : k0_chk446 v3317), ∀ a, (k0_off822 v3317) a + S1x1x128.size a ≤ S50000x1x128.size a := fun v3317 k0_hw446 => k0_hw446

def k0_off823 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c60_i32_1854 : BitVec 32 := 60#32
  let v3321 : BitVec 32 := Scalar.addi v2593 c60_i32_1854
  let v3322 : Index := Scalar.indexCast v3321
  let c0_1855 : Index := 0#32
  ![v3322.toNat, 0]
def k0_off824 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1856 : BitVec 32 := 128#32
  let v3326 : BitVec 32 := Scalar.muli arg33 c128_i32_1856
  let c61_i32 : BitVec 32 := 61#32
  let v3327 : BitVec 32 := Scalar.addi v3326 c61_i32
  let v3328 : Index := Scalar.indexCast v3327
  ![v3328.toNat]
def k0_off825 (v3329 : BitVec 32) : Fin 3 → Nat :=
  let v3330 : Index := Scalar.indexCast v3329
  let c0_1857 : Index := 0#32
  let c0_1858 : Index := 0#32
  ![v3330.toNat, 0, 0]

def k0_chk447 (v3329 : BitVec 32) : Prop :=
  (∀ a, (k0_off825 v3329) a + S1x1x128.size a ≤ S50000x1x128.size a)
theorem k0_off825_inb : ∀ (v3329 : BitVec 32) (k0_hw447 : k0_chk447 v3329), ∀ a, (k0_off825 v3329) a + S1x1x128.size a ≤ S50000x1x128.size a := fun v3329 k0_hw447 => k0_hw447

def k0_off826 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c61_i32_1859 : BitVec 32 := 61#32
  let v3333 : BitVec 32 := Scalar.addi v2593 c61_i32_1859
  let v3334 : Index := Scalar.indexCast v3333
  let c0_1860 : Index := 0#32
  ![v3334.toNat, 0]
def k0_off827 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1861 : BitVec 32 := 128#32
  let v3338 : BitVec 32 := Scalar.muli arg33 c128_i32_1861
  let c62_i32 : BitVec 32 := 62#32
  let v3339 : BitVec 32 := Scalar.addi v3338 c62_i32
  let v3340 : Index := Scalar.indexCast v3339
  ![v3340.toNat]
def k0_off828 (v3341 : BitVec 32) : Fin 3 → Nat :=
  let v3342 : Index := Scalar.indexCast v3341
  let c0_1862 : Index := 0#32
  let c0_1863 : Index := 0#32
  ![v3342.toNat, 0, 0]

def k0_chk448 (v3341 : BitVec 32) : Prop :=
  (∀ a, (k0_off828 v3341) a + S1x1x128.size a ≤ S50000x1x128.size a)
theorem k0_off828_inb : ∀ (v3341 : BitVec 32) (k0_hw448 : k0_chk448 v3341), ∀ a, (k0_off828 v3341) a + S1x1x128.size a ≤ S50000x1x128.size a := fun v3341 k0_hw448 => k0_hw448

def k0_off829 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c62_i32_1864 : BitVec 32 := 62#32
  let v3345 : BitVec 32 := Scalar.addi v2593 c62_i32_1864
  let v3346 : Index := Scalar.indexCast v3345
  let c0_1865 : Index := 0#32
  ![v3346.toNat, 0]
def k0_off830 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1866 : BitVec 32 := 128#32
  let v3350 : BitVec 32 := Scalar.muli arg33 c128_i32_1866
  let c63_i32 : BitVec 32 := 63#32
  let v3351 : BitVec 32 := Scalar.addi v3350 c63_i32
  let v3352 : Index := Scalar.indexCast v3351
  ![v3352.toNat]
def k0_off831 (v3353 : BitVec 32) : Fin 3 → Nat :=
  let v3354 : Index := Scalar.indexCast v3353
  let c0_1867 : Index := 0#32
  let c0_1868 : Index := 0#32
  ![v3354.toNat, 0, 0]

def k0_chk449 (v3353 : BitVec 32) : Prop :=
  (∀ a, (k0_off831 v3353) a + S1x1x128.size a ≤ S50000x1x128.size a)
theorem k0_off831_inb : ∀ (v3353 : BitVec 32) (k0_hw449 : k0_chk449 v3353), ∀ a, (k0_off831 v3353) a + S1x1x128.size a ≤ S50000x1x128.size a := fun v3353 k0_hw449 => k0_hw449

def k0_off832 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c63_i32_1869 : BitVec 32 := 63#32
  let v3357 : BitVec 32 := Scalar.addi v2593 c63_i32_1869
  let v3358 : Index := Scalar.indexCast v3357
  let c0_1870 : Index := 0#32
  ![v3358.toNat, 0]
def k0_off833 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1871 : BitVec 32 := 128#32
  let v3362 : BitVec 32 := Scalar.muli arg33 c128_i32_1871
  let c64_i32 : BitVec 32 := 64#32
  let v3363 : BitVec 32 := Scalar.addi v3362 c64_i32
  let v3364 : Index := Scalar.indexCast v3363
  ![v3364.toNat]
def k0_off834 (v3365 : BitVec 32) : Fin 3 → Nat :=
  let v3366 : Index := Scalar.indexCast v3365
  let c0_1872 : Index := 0#32
  let c0_1873 : Index := 0#32
  ![v3366.toNat, 0, 0]

def k0_chk450 (v3365 : BitVec 32) : Prop :=
  (∀ a, (k0_off834 v3365) a + S1x1x128.size a ≤ S50000x1x128.size a)
theorem k0_off834_inb : ∀ (v3365 : BitVec 32) (k0_hw450 : k0_chk450 v3365), ∀ a, (k0_off834 v3365) a + S1x1x128.size a ≤ S50000x1x128.size a := fun v3365 k0_hw450 => k0_hw450

def k0_off835 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c64_i32_1874 : BitVec 32 := 64#32
  let v3369 : BitVec 32 := Scalar.addi v2593 c64_i32_1874
  let v3370 : Index := Scalar.indexCast v3369
  let c0_1875 : Index := 0#32
  ![v3370.toNat, 0]
def k0_off836 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1876 : BitVec 32 := 128#32
  let v3374 : BitVec 32 := Scalar.muli arg33 c128_i32_1876
  let c65_i32 : BitVec 32 := 65#32
  let v3375 : BitVec 32 := Scalar.addi v3374 c65_i32
  let v3376 : Index := Scalar.indexCast v3375
  ![v3376.toNat]
def k0_off837 (v3377 : BitVec 32) : Fin 3 → Nat :=
  let v3378 : Index := Scalar.indexCast v3377
  let c0_1877 : Index := 0#32
  let c0_1878 : Index := 0#32
  ![v3378.toNat, 0, 0]

def k0_chk451 (v3377 : BitVec 32) : Prop :=
  (∀ a, (k0_off837 v3377) a + S1x1x128.size a ≤ S50000x1x128.size a)
theorem k0_off837_inb : ∀ (v3377 : BitVec 32) (k0_hw451 : k0_chk451 v3377), ∀ a, (k0_off837 v3377) a + S1x1x128.size a ≤ S50000x1x128.size a := fun v3377 k0_hw451 => k0_hw451

def k0_off838 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c65_i32_1879 : BitVec 32 := 65#32
  let v3381 : BitVec 32 := Scalar.addi v2593 c65_i32_1879
  let v3382 : Index := Scalar.indexCast v3381
  let c0_1880 : Index := 0#32
  ![v3382.toNat, 0]
def k0_off839 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1881 : BitVec 32 := 128#32
  let v3386 : BitVec 32 := Scalar.muli arg33 c128_i32_1881
  let c66_i32 : BitVec 32 := 66#32
  let v3387 : BitVec 32 := Scalar.addi v3386 c66_i32
  let v3388 : Index := Scalar.indexCast v3387
  ![v3388.toNat]
def k0_off840 (v3389 : BitVec 32) : Fin 3 → Nat :=
  let v3390 : Index := Scalar.indexCast v3389
  let c0_1882 : Index := 0#32
  let c0_1883 : Index := 0#32
  ![v3390.toNat, 0, 0]

def k0_chk452 (v3389 : BitVec 32) : Prop :=
  (∀ a, (k0_off840 v3389) a + S1x1x128.size a ≤ S50000x1x128.size a)
theorem k0_off840_inb : ∀ (v3389 : BitVec 32) (k0_hw452 : k0_chk452 v3389), ∀ a, (k0_off840 v3389) a + S1x1x128.size a ≤ S50000x1x128.size a := fun v3389 k0_hw452 => k0_hw452

def k0_off841 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c66_i32_1884 : BitVec 32 := 66#32
  let v3393 : BitVec 32 := Scalar.addi v2593 c66_i32_1884
  let v3394 : Index := Scalar.indexCast v3393
  let c0_1885 : Index := 0#32
  ![v3394.toNat, 0]
def k0_off842 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1886 : BitVec 32 := 128#32
  let v3398 : BitVec 32 := Scalar.muli arg33 c128_i32_1886
  let c67_i32 : BitVec 32 := 67#32
  let v3399 : BitVec 32 := Scalar.addi v3398 c67_i32
  let v3400 : Index := Scalar.indexCast v3399
  ![v3400.toNat]
def k0_off843 (v3401 : BitVec 32) : Fin 3 → Nat :=
  let v3402 : Index := Scalar.indexCast v3401
  let c0_1887 : Index := 0#32
  let c0_1888 : Index := 0#32
  ![v3402.toNat, 0, 0]

def k0_chk453 (v3401 : BitVec 32) : Prop :=
  (∀ a, (k0_off843 v3401) a + S1x1x128.size a ≤ S50000x1x128.size a)
theorem k0_off843_inb : ∀ (v3401 : BitVec 32) (k0_hw453 : k0_chk453 v3401), ∀ a, (k0_off843 v3401) a + S1x1x128.size a ≤ S50000x1x128.size a := fun v3401 k0_hw453 => k0_hw453

def k0_off844 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c67_i32_1889 : BitVec 32 := 67#32
  let v3405 : BitVec 32 := Scalar.addi v2593 c67_i32_1889
  let v3406 : Index := Scalar.indexCast v3405
  let c0_1890 : Index := 0#32
  ![v3406.toNat, 0]
def k0_off845 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1891 : BitVec 32 := 128#32
  let v3410 : BitVec 32 := Scalar.muli arg33 c128_i32_1891
  let c68_i32 : BitVec 32 := 68#32
  let v3411 : BitVec 32 := Scalar.addi v3410 c68_i32
  let v3412 : Index := Scalar.indexCast v3411
  ![v3412.toNat]
def k0_off846 (v3413 : BitVec 32) : Fin 3 → Nat :=
  let v3414 : Index := Scalar.indexCast v3413
  let c0_1892 : Index := 0#32
  let c0_1893 : Index := 0#32
  ![v3414.toNat, 0, 0]

def k0_chk454 (v3413 : BitVec 32) : Prop :=
  (∀ a, (k0_off846 v3413) a + S1x1x128.size a ≤ S50000x1x128.size a)
theorem k0_off846_inb : ∀ (v3413 : BitVec 32) (k0_hw454 : k0_chk454 v3413), ∀ a, (k0_off846 v3413) a + S1x1x128.size a ≤ S50000x1x128.size a := fun v3413 k0_hw454 => k0_hw454

def k0_off847 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c68_i32_1894 : BitVec 32 := 68#32
  let v3417 : BitVec 32 := Scalar.addi v2593 c68_i32_1894
  let v3418 : Index := Scalar.indexCast v3417
  let c0_1895 : Index := 0#32
  ![v3418.toNat, 0]
def k0_off848 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1896 : BitVec 32 := 128#32
  let v3422 : BitVec 32 := Scalar.muli arg33 c128_i32_1896
  let c69_i32 : BitVec 32 := 69#32
  let v3423 : BitVec 32 := Scalar.addi v3422 c69_i32
  let v3424 : Index := Scalar.indexCast v3423
  ![v3424.toNat]
def k0_off849 (v3425 : BitVec 32) : Fin 3 → Nat :=
  let v3426 : Index := Scalar.indexCast v3425
  let c0_1897 : Index := 0#32
  let c0_1898 : Index := 0#32
  ![v3426.toNat, 0, 0]

def k0_chk455 (v3425 : BitVec 32) : Prop :=
  (∀ a, (k0_off849 v3425) a + S1x1x128.size a ≤ S50000x1x128.size a)
theorem k0_off849_inb : ∀ (v3425 : BitVec 32) (k0_hw455 : k0_chk455 v3425), ∀ a, (k0_off849 v3425) a + S1x1x128.size a ≤ S50000x1x128.size a := fun v3425 k0_hw455 => k0_hw455

def k0_off850 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c69_i32_1899 : BitVec 32 := 69#32
  let v3429 : BitVec 32 := Scalar.addi v2593 c69_i32_1899
  let v3430 : Index := Scalar.indexCast v3429
  let c0_1900 : Index := 0#32
  ![v3430.toNat, 0]
def k0_off851 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1901 : BitVec 32 := 128#32
  let v3434 : BitVec 32 := Scalar.muli arg33 c128_i32_1901
  let c70_i32 : BitVec 32 := 70#32
  let v3435 : BitVec 32 := Scalar.addi v3434 c70_i32
  let v3436 : Index := Scalar.indexCast v3435
  ![v3436.toNat]
def k0_off852 (v3437 : BitVec 32) : Fin 3 → Nat :=
  let v3438 : Index := Scalar.indexCast v3437
  let c0_1902 : Index := 0#32
  let c0_1903 : Index := 0#32
  ![v3438.toNat, 0, 0]

def k0_chk456 (v3437 : BitVec 32) : Prop :=
  (∀ a, (k0_off852 v3437) a + S1x1x128.size a ≤ S50000x1x128.size a)
theorem k0_off852_inb : ∀ (v3437 : BitVec 32) (k0_hw456 : k0_chk456 v3437), ∀ a, (k0_off852 v3437) a + S1x1x128.size a ≤ S50000x1x128.size a := fun v3437 k0_hw456 => k0_hw456

def k0_off853 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c70_i32_1904 : BitVec 32 := 70#32
  let v3441 : BitVec 32 := Scalar.addi v2593 c70_i32_1904
  let v3442 : Index := Scalar.indexCast v3441
  let c0_1905 : Index := 0#32
  ![v3442.toNat, 0]
def k0_off854 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1906 : BitVec 32 := 128#32
  let v3446 : BitVec 32 := Scalar.muli arg33 c128_i32_1906
  let c71_i32 : BitVec 32 := 71#32
  let v3447 : BitVec 32 := Scalar.addi v3446 c71_i32
  let v3448 : Index := Scalar.indexCast v3447
  ![v3448.toNat]
def k0_off855 (v3449 : BitVec 32) : Fin 3 → Nat :=
  let v3450 : Index := Scalar.indexCast v3449
  let c0_1907 : Index := 0#32
  let c0_1908 : Index := 0#32
  ![v3450.toNat, 0, 0]

def k0_chk457 (v3449 : BitVec 32) : Prop :=
  (∀ a, (k0_off855 v3449) a + S1x1x128.size a ≤ S50000x1x128.size a)
theorem k0_off855_inb : ∀ (v3449 : BitVec 32) (k0_hw457 : k0_chk457 v3449), ∀ a, (k0_off855 v3449) a + S1x1x128.size a ≤ S50000x1x128.size a := fun v3449 k0_hw457 => k0_hw457

def k0_off856 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c71_i32_1909 : BitVec 32 := 71#32
  let v3453 : BitVec 32 := Scalar.addi v2593 c71_i32_1909
  let v3454 : Index := Scalar.indexCast v3453
  let c0_1910 : Index := 0#32
  ![v3454.toNat, 0]
def k0_off857 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1911 : BitVec 32 := 128#32
  let v3458 : BitVec 32 := Scalar.muli arg33 c128_i32_1911
  let c72_i32 : BitVec 32 := 72#32
  let v3459 : BitVec 32 := Scalar.addi v3458 c72_i32
  let v3460 : Index := Scalar.indexCast v3459
  ![v3460.toNat]
def k0_off858 (v3461 : BitVec 32) : Fin 3 → Nat :=
  let v3462 : Index := Scalar.indexCast v3461
  let c0_1912 : Index := 0#32
  let c0_1913 : Index := 0#32
  ![v3462.toNat, 0, 0]

def k0_chk458 (v3461 : BitVec 32) : Prop :=
  (∀ a, (k0_off858 v3461) a + S1x1x128.size a ≤ S50000x1x128.size a)
theorem k0_off858_inb : ∀ (v3461 : BitVec 32) (k0_hw458 : k0_chk458 v3461), ∀ a, (k0_off858 v3461) a + S1x1x128.size a ≤ S50000x1x128.size a := fun v3461 k0_hw458 => k0_hw458

def k0_off859 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c72_i32_1914 : BitVec 32 := 72#32
  let v3465 : BitVec 32 := Scalar.addi v2593 c72_i32_1914
  let v3466 : Index := Scalar.indexCast v3465
  let c0_1915 : Index := 0#32
  ![v3466.toNat, 0]
def k0_off860 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1916 : BitVec 32 := 128#32
  let v3470 : BitVec 32 := Scalar.muli arg33 c128_i32_1916
  let c73_i32 : BitVec 32 := 73#32
  let v3471 : BitVec 32 := Scalar.addi v3470 c73_i32
  let v3472 : Index := Scalar.indexCast v3471
  ![v3472.toNat]
def k0_off861 (v3473 : BitVec 32) : Fin 3 → Nat :=
  let v3474 : Index := Scalar.indexCast v3473
  let c0_1917 : Index := 0#32
  let c0_1918 : Index := 0#32
  ![v3474.toNat, 0, 0]

def k0_chk459 (v3473 : BitVec 32) : Prop :=
  (∀ a, (k0_off861 v3473) a + S1x1x128.size a ≤ S50000x1x128.size a)
theorem k0_off861_inb : ∀ (v3473 : BitVec 32) (k0_hw459 : k0_chk459 v3473), ∀ a, (k0_off861 v3473) a + S1x1x128.size a ≤ S50000x1x128.size a := fun v3473 k0_hw459 => k0_hw459

def k0_off862 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c73_i32_1919 : BitVec 32 := 73#32
  let v3477 : BitVec 32 := Scalar.addi v2593 c73_i32_1919
  let v3478 : Index := Scalar.indexCast v3477
  let c0_1920 : Index := 0#32
  ![v3478.toNat, 0]
def k0_off863 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1921 : BitVec 32 := 128#32
  let v3482 : BitVec 32 := Scalar.muli arg33 c128_i32_1921
  let c74_i32 : BitVec 32 := 74#32
  let v3483 : BitVec 32 := Scalar.addi v3482 c74_i32
  let v3484 : Index := Scalar.indexCast v3483
  ![v3484.toNat]
def k0_off864 (v3485 : BitVec 32) : Fin 3 → Nat :=
  let v3486 : Index := Scalar.indexCast v3485
  let c0_1922 : Index := 0#32
  let c0_1923 : Index := 0#32
  ![v3486.toNat, 0, 0]

def k0_chk460 (v3485 : BitVec 32) : Prop :=
  (∀ a, (k0_off864 v3485) a + S1x1x128.size a ≤ S50000x1x128.size a)
theorem k0_off864_inb : ∀ (v3485 : BitVec 32) (k0_hw460 : k0_chk460 v3485), ∀ a, (k0_off864 v3485) a + S1x1x128.size a ≤ S50000x1x128.size a := fun v3485 k0_hw460 => k0_hw460

def k0_off865 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c74_i32_1924 : BitVec 32 := 74#32
  let v3489 : BitVec 32 := Scalar.addi v2593 c74_i32_1924
  let v3490 : Index := Scalar.indexCast v3489
  let c0_1925 : Index := 0#32
  ![v3490.toNat, 0]
def k0_off866 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1926 : BitVec 32 := 128#32
  let v3494 : BitVec 32 := Scalar.muli arg33 c128_i32_1926
  let c75_i32 : BitVec 32 := 75#32
  let v3495 : BitVec 32 := Scalar.addi v3494 c75_i32
  let v3496 : Index := Scalar.indexCast v3495
  ![v3496.toNat]
def k0_off867 (v3497 : BitVec 32) : Fin 3 → Nat :=
  let v3498 : Index := Scalar.indexCast v3497
  let c0_1927 : Index := 0#32
  let c0_1928 : Index := 0#32
  ![v3498.toNat, 0, 0]

def k0_chk461 (v3497 : BitVec 32) : Prop :=
  (∀ a, (k0_off867 v3497) a + S1x1x128.size a ≤ S50000x1x128.size a)
theorem k0_off867_inb : ∀ (v3497 : BitVec 32) (k0_hw461 : k0_chk461 v3497), ∀ a, (k0_off867 v3497) a + S1x1x128.size a ≤ S50000x1x128.size a := fun v3497 k0_hw461 => k0_hw461

def k0_off868 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c75_i32_1929 : BitVec 32 := 75#32
  let v3501 : BitVec 32 := Scalar.addi v2593 c75_i32_1929
  let v3502 : Index := Scalar.indexCast v3501
  let c0_1930 : Index := 0#32
  ![v3502.toNat, 0]
def k0_off869 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1931 : BitVec 32 := 128#32
  let v3506 : BitVec 32 := Scalar.muli arg33 c128_i32_1931
  let c76_i32 : BitVec 32 := 76#32
  let v3507 : BitVec 32 := Scalar.addi v3506 c76_i32
  let v3508 : Index := Scalar.indexCast v3507
  ![v3508.toNat]
def k0_off870 (v3509 : BitVec 32) : Fin 3 → Nat :=
  let v3510 : Index := Scalar.indexCast v3509
  let c0_1932 : Index := 0#32
  let c0_1933 : Index := 0#32
  ![v3510.toNat, 0, 0]

def k0_chk462 (v3509 : BitVec 32) : Prop :=
  (∀ a, (k0_off870 v3509) a + S1x1x128.size a ≤ S50000x1x128.size a)
theorem k0_off870_inb : ∀ (v3509 : BitVec 32) (k0_hw462 : k0_chk462 v3509), ∀ a, (k0_off870 v3509) a + S1x1x128.size a ≤ S50000x1x128.size a := fun v3509 k0_hw462 => k0_hw462

def k0_off871 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c76_i32_1934 : BitVec 32 := 76#32
  let v3513 : BitVec 32 := Scalar.addi v2593 c76_i32_1934
  let v3514 : Index := Scalar.indexCast v3513
  let c0_1935 : Index := 0#32
  ![v3514.toNat, 0]
def k0_off872 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1936 : BitVec 32 := 128#32
  let v3518 : BitVec 32 := Scalar.muli arg33 c128_i32_1936
  let c77_i32 : BitVec 32 := 77#32
  let v3519 : BitVec 32 := Scalar.addi v3518 c77_i32
  let v3520 : Index := Scalar.indexCast v3519
  ![v3520.toNat]
def k0_off873 (v3521 : BitVec 32) : Fin 3 → Nat :=
  let v3522 : Index := Scalar.indexCast v3521
  let c0_1937 : Index := 0#32
  let c0_1938 : Index := 0#32
  ![v3522.toNat, 0, 0]

def k0_chk463 (v3521 : BitVec 32) : Prop :=
  (∀ a, (k0_off873 v3521) a + S1x1x128.size a ≤ S50000x1x128.size a)
theorem k0_off873_inb : ∀ (v3521 : BitVec 32) (k0_hw463 : k0_chk463 v3521), ∀ a, (k0_off873 v3521) a + S1x1x128.size a ≤ S50000x1x128.size a := fun v3521 k0_hw463 => k0_hw463

def k0_off874 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c77_i32_1939 : BitVec 32 := 77#32
  let v3525 : BitVec 32 := Scalar.addi v2593 c77_i32_1939
  let v3526 : Index := Scalar.indexCast v3525
  let c0_1940 : Index := 0#32
  ![v3526.toNat, 0]
def k0_off875 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1941 : BitVec 32 := 128#32
  let v3530 : BitVec 32 := Scalar.muli arg33 c128_i32_1941
  let c78_i32 : BitVec 32 := 78#32
  let v3531 : BitVec 32 := Scalar.addi v3530 c78_i32
  let v3532 : Index := Scalar.indexCast v3531
  ![v3532.toNat]
def k0_off876 (v3533 : BitVec 32) : Fin 3 → Nat :=
  let v3534 : Index := Scalar.indexCast v3533
  let c0_1942 : Index := 0#32
  let c0_1943 : Index := 0#32
  ![v3534.toNat, 0, 0]

def k0_chk464 (v3533 : BitVec 32) : Prop :=
  (∀ a, (k0_off876 v3533) a + S1x1x128.size a ≤ S50000x1x128.size a)
theorem k0_off876_inb : ∀ (v3533 : BitVec 32) (k0_hw464 : k0_chk464 v3533), ∀ a, (k0_off876 v3533) a + S1x1x128.size a ≤ S50000x1x128.size a := fun v3533 k0_hw464 => k0_hw464

def k0_off877 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c78_i32_1944 : BitVec 32 := 78#32
  let v3537 : BitVec 32 := Scalar.addi v2593 c78_i32_1944
  let v3538 : Index := Scalar.indexCast v3537
  let c0_1945 : Index := 0#32
  ![v3538.toNat, 0]
def k0_off878 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1946 : BitVec 32 := 128#32
  let v3542 : BitVec 32 := Scalar.muli arg33 c128_i32_1946
  let c79_i32 : BitVec 32 := 79#32
  let v3543 : BitVec 32 := Scalar.addi v3542 c79_i32
  let v3544 : Index := Scalar.indexCast v3543
  ![v3544.toNat]
def k0_off879 (v3545 : BitVec 32) : Fin 3 → Nat :=
  let v3546 : Index := Scalar.indexCast v3545
  let c0_1947 : Index := 0#32
  let c0_1948 : Index := 0#32
  ![v3546.toNat, 0, 0]

def k0_chk465 (v3545 : BitVec 32) : Prop :=
  (∀ a, (k0_off879 v3545) a + S1x1x128.size a ≤ S50000x1x128.size a)
theorem k0_off879_inb : ∀ (v3545 : BitVec 32) (k0_hw465 : k0_chk465 v3545), ∀ a, (k0_off879 v3545) a + S1x1x128.size a ≤ S50000x1x128.size a := fun v3545 k0_hw465 => k0_hw465

def k0_off880 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c79_i32_1949 : BitVec 32 := 79#32
  let v3549 : BitVec 32 := Scalar.addi v2593 c79_i32_1949
  let v3550 : Index := Scalar.indexCast v3549
  let c0_1950 : Index := 0#32
  ![v3550.toNat, 0]
def k0_off881 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1951 : BitVec 32 := 128#32
  let v3554 : BitVec 32 := Scalar.muli arg33 c128_i32_1951
  let c80_i32 : BitVec 32 := 80#32
  let v3555 : BitVec 32 := Scalar.addi v3554 c80_i32
  let v3556 : Index := Scalar.indexCast v3555
  ![v3556.toNat]
def k0_off882 (v3557 : BitVec 32) : Fin 3 → Nat :=
  let v3558 : Index := Scalar.indexCast v3557
  let c0_1952 : Index := 0#32
  let c0_1953 : Index := 0#32
  ![v3558.toNat, 0, 0]

def k0_chk466 (v3557 : BitVec 32) : Prop :=
  (∀ a, (k0_off882 v3557) a + S1x1x128.size a ≤ S50000x1x128.size a)
theorem k0_off882_inb : ∀ (v3557 : BitVec 32) (k0_hw466 : k0_chk466 v3557), ∀ a, (k0_off882 v3557) a + S1x1x128.size a ≤ S50000x1x128.size a := fun v3557 k0_hw466 => k0_hw466

def k0_off883 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c80_i32_1954 : BitVec 32 := 80#32
  let v3561 : BitVec 32 := Scalar.addi v2593 c80_i32_1954
  let v3562 : Index := Scalar.indexCast v3561
  let c0_1955 : Index := 0#32
  ![v3562.toNat, 0]
def k0_off884 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1956 : BitVec 32 := 128#32
  let v3566 : BitVec 32 := Scalar.muli arg33 c128_i32_1956
  let c81_i32 : BitVec 32 := 81#32
  let v3567 : BitVec 32 := Scalar.addi v3566 c81_i32
  let v3568 : Index := Scalar.indexCast v3567
  ![v3568.toNat]
def k0_off885 (v3569 : BitVec 32) : Fin 3 → Nat :=
  let v3570 : Index := Scalar.indexCast v3569
  let c0_1957 : Index := 0#32
  let c0_1958 : Index := 0#32
  ![v3570.toNat, 0, 0]

def k0_chk467 (v3569 : BitVec 32) : Prop :=
  (∀ a, (k0_off885 v3569) a + S1x1x128.size a ≤ S50000x1x128.size a)
theorem k0_off885_inb : ∀ (v3569 : BitVec 32) (k0_hw467 : k0_chk467 v3569), ∀ a, (k0_off885 v3569) a + S1x1x128.size a ≤ S50000x1x128.size a := fun v3569 k0_hw467 => k0_hw467

def k0_off886 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c81_i32_1959 : BitVec 32 := 81#32
  let v3573 : BitVec 32 := Scalar.addi v2593 c81_i32_1959
  let v3574 : Index := Scalar.indexCast v3573
  let c0_1960 : Index := 0#32
  ![v3574.toNat, 0]
def k0_off887 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1961 : BitVec 32 := 128#32
  let v3578 : BitVec 32 := Scalar.muli arg33 c128_i32_1961
  let c82_i32 : BitVec 32 := 82#32
  let v3579 : BitVec 32 := Scalar.addi v3578 c82_i32
  let v3580 : Index := Scalar.indexCast v3579
  ![v3580.toNat]
def k0_off888 (v3581 : BitVec 32) : Fin 3 → Nat :=
  let v3582 : Index := Scalar.indexCast v3581
  let c0_1962 : Index := 0#32
  let c0_1963 : Index := 0#32
  ![v3582.toNat, 0, 0]

def k0_chk468 (v3581 : BitVec 32) : Prop :=
  (∀ a, (k0_off888 v3581) a + S1x1x128.size a ≤ S50000x1x128.size a)
theorem k0_off888_inb : ∀ (v3581 : BitVec 32) (k0_hw468 : k0_chk468 v3581), ∀ a, (k0_off888 v3581) a + S1x1x128.size a ≤ S50000x1x128.size a := fun v3581 k0_hw468 => k0_hw468

def k0_off889 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c82_i32_1964 : BitVec 32 := 82#32
  let v3585 : BitVec 32 := Scalar.addi v2593 c82_i32_1964
  let v3586 : Index := Scalar.indexCast v3585
  let c0_1965 : Index := 0#32
  ![v3586.toNat, 0]
def k0_off890 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1966 : BitVec 32 := 128#32
  let v3590 : BitVec 32 := Scalar.muli arg33 c128_i32_1966
  let c83_i32 : BitVec 32 := 83#32
  let v3591 : BitVec 32 := Scalar.addi v3590 c83_i32
  let v3592 : Index := Scalar.indexCast v3591
  ![v3592.toNat]
def k0_off891 (v3593 : BitVec 32) : Fin 3 → Nat :=
  let v3594 : Index := Scalar.indexCast v3593
  let c0_1967 : Index := 0#32
  let c0_1968 : Index := 0#32
  ![v3594.toNat, 0, 0]

def k0_chk469 (v3593 : BitVec 32) : Prop :=
  (∀ a, (k0_off891 v3593) a + S1x1x128.size a ≤ S50000x1x128.size a)
theorem k0_off891_inb : ∀ (v3593 : BitVec 32) (k0_hw469 : k0_chk469 v3593), ∀ a, (k0_off891 v3593) a + S1x1x128.size a ≤ S50000x1x128.size a := fun v3593 k0_hw469 => k0_hw469

def k0_off892 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c83_i32_1969 : BitVec 32 := 83#32
  let v3597 : BitVec 32 := Scalar.addi v2593 c83_i32_1969
  let v3598 : Index := Scalar.indexCast v3597
  let c0_1970 : Index := 0#32
  ![v3598.toNat, 0]
def k0_off893 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1971 : BitVec 32 := 128#32
  let v3602 : BitVec 32 := Scalar.muli arg33 c128_i32_1971
  let c84_i32 : BitVec 32 := 84#32
  let v3603 : BitVec 32 := Scalar.addi v3602 c84_i32
  let v3604 : Index := Scalar.indexCast v3603
  ![v3604.toNat]
def k0_off894 (v3605 : BitVec 32) : Fin 3 → Nat :=
  let v3606 : Index := Scalar.indexCast v3605
  let c0_1972 : Index := 0#32
  let c0_1973 : Index := 0#32
  ![v3606.toNat, 0, 0]

def k0_chk470 (v3605 : BitVec 32) : Prop :=
  (∀ a, (k0_off894 v3605) a + S1x1x128.size a ≤ S50000x1x128.size a)
theorem k0_off894_inb : ∀ (v3605 : BitVec 32) (k0_hw470 : k0_chk470 v3605), ∀ a, (k0_off894 v3605) a + S1x1x128.size a ≤ S50000x1x128.size a := fun v3605 k0_hw470 => k0_hw470

def k0_off895 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c84_i32_1974 : BitVec 32 := 84#32
  let v3609 : BitVec 32 := Scalar.addi v2593 c84_i32_1974
  let v3610 : Index := Scalar.indexCast v3609
  let c0_1975 : Index := 0#32
  ![v3610.toNat, 0]
def k0_off896 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1976 : BitVec 32 := 128#32
  let v3614 : BitVec 32 := Scalar.muli arg33 c128_i32_1976
  let c85_i32 : BitVec 32 := 85#32
  let v3615 : BitVec 32 := Scalar.addi v3614 c85_i32
  let v3616 : Index := Scalar.indexCast v3615
  ![v3616.toNat]
def k0_off897 (v3617 : BitVec 32) : Fin 3 → Nat :=
  let v3618 : Index := Scalar.indexCast v3617
  let c0_1977 : Index := 0#32
  let c0_1978 : Index := 0#32
  ![v3618.toNat, 0, 0]

def k0_chk471 (v3617 : BitVec 32) : Prop :=
  (∀ a, (k0_off897 v3617) a + S1x1x128.size a ≤ S50000x1x128.size a)
theorem k0_off897_inb : ∀ (v3617 : BitVec 32) (k0_hw471 : k0_chk471 v3617), ∀ a, (k0_off897 v3617) a + S1x1x128.size a ≤ S50000x1x128.size a := fun v3617 k0_hw471 => k0_hw471

def k0_off898 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c85_i32_1979 : BitVec 32 := 85#32
  let v3621 : BitVec 32 := Scalar.addi v2593 c85_i32_1979
  let v3622 : Index := Scalar.indexCast v3621
  let c0_1980 : Index := 0#32
  ![v3622.toNat, 0]
def k0_off899 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1981 : BitVec 32 := 128#32
  let v3626 : BitVec 32 := Scalar.muli arg33 c128_i32_1981
  let c86_i32 : BitVec 32 := 86#32
  let v3627 : BitVec 32 := Scalar.addi v3626 c86_i32
  let v3628 : Index := Scalar.indexCast v3627
  ![v3628.toNat]
def k0_off900 (v3629 : BitVec 32) : Fin 3 → Nat :=
  let v3630 : Index := Scalar.indexCast v3629
  let c0_1982 : Index := 0#32
  let c0_1983 : Index := 0#32
  ![v3630.toNat, 0, 0]

def k0_chk472 (v3629 : BitVec 32) : Prop :=
  (∀ a, (k0_off900 v3629) a + S1x1x128.size a ≤ S50000x1x128.size a)
theorem k0_off900_inb : ∀ (v3629 : BitVec 32) (k0_hw472 : k0_chk472 v3629), ∀ a, (k0_off900 v3629) a + S1x1x128.size a ≤ S50000x1x128.size a := fun v3629 k0_hw472 => k0_hw472

def k0_off901 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c86_i32_1984 : BitVec 32 := 86#32
  let v3633 : BitVec 32 := Scalar.addi v2593 c86_i32_1984
  let v3634 : Index := Scalar.indexCast v3633
  let c0_1985 : Index := 0#32
  ![v3634.toNat, 0]
def k0_off902 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1986 : BitVec 32 := 128#32
  let v3638 : BitVec 32 := Scalar.muli arg33 c128_i32_1986
  let c87_i32 : BitVec 32 := 87#32
  let v3639 : BitVec 32 := Scalar.addi v3638 c87_i32
  let v3640 : Index := Scalar.indexCast v3639
  ![v3640.toNat]
def k0_off903 (v3641 : BitVec 32) : Fin 3 → Nat :=
  let v3642 : Index := Scalar.indexCast v3641
  let c0_1987 : Index := 0#32
  let c0_1988 : Index := 0#32
  ![v3642.toNat, 0, 0]

def k0_chk473 (v3641 : BitVec 32) : Prop :=
  (∀ a, (k0_off903 v3641) a + S1x1x128.size a ≤ S50000x1x128.size a)
theorem k0_off903_inb : ∀ (v3641 : BitVec 32) (k0_hw473 : k0_chk473 v3641), ∀ a, (k0_off903 v3641) a + S1x1x128.size a ≤ S50000x1x128.size a := fun v3641 k0_hw473 => k0_hw473

def k0_off904 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c87_i32_1989 : BitVec 32 := 87#32
  let v3645 : BitVec 32 := Scalar.addi v2593 c87_i32_1989
  let v3646 : Index := Scalar.indexCast v3645
  let c0_1990 : Index := 0#32
  ![v3646.toNat, 0]
def k0_off905 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1991 : BitVec 32 := 128#32
  let v3650 : BitVec 32 := Scalar.muli arg33 c128_i32_1991
  let c88_i32 : BitVec 32 := 88#32
  let v3651 : BitVec 32 := Scalar.addi v3650 c88_i32
  let v3652 : Index := Scalar.indexCast v3651
  ![v3652.toNat]
def k0_off906 (v3653 : BitVec 32) : Fin 3 → Nat :=
  let v3654 : Index := Scalar.indexCast v3653
  let c0_1992 : Index := 0#32
  let c0_1993 : Index := 0#32
  ![v3654.toNat, 0, 0]

def k0_chk474 (v3653 : BitVec 32) : Prop :=
  (∀ a, (k0_off906 v3653) a + S1x1x128.size a ≤ S50000x1x128.size a)
theorem k0_off906_inb : ∀ (v3653 : BitVec 32) (k0_hw474 : k0_chk474 v3653), ∀ a, (k0_off906 v3653) a + S1x1x128.size a ≤ S50000x1x128.size a := fun v3653 k0_hw474 => k0_hw474

def k0_off907 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c88_i32_1994 : BitVec 32 := 88#32
  let v3657 : BitVec 32 := Scalar.addi v2593 c88_i32_1994
  let v3658 : Index := Scalar.indexCast v3657
  let c0_1995 : Index := 0#32
  ![v3658.toNat, 0]
def k0_off908 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_1996 : BitVec 32 := 128#32
  let v3662 : BitVec 32 := Scalar.muli arg33 c128_i32_1996
  let c89_i32 : BitVec 32 := 89#32
  let v3663 : BitVec 32 := Scalar.addi v3662 c89_i32
  let v3664 : Index := Scalar.indexCast v3663
  ![v3664.toNat]
def k0_off909 (v3665 : BitVec 32) : Fin 3 → Nat :=
  let v3666 : Index := Scalar.indexCast v3665
  let c0_1997 : Index := 0#32
  let c0_1998 : Index := 0#32
  ![v3666.toNat, 0, 0]

def k0_chk475 (v3665 : BitVec 32) : Prop :=
  (∀ a, (k0_off909 v3665) a + S1x1x128.size a ≤ S50000x1x128.size a)
theorem k0_off909_inb : ∀ (v3665 : BitVec 32) (k0_hw475 : k0_chk475 v3665), ∀ a, (k0_off909 v3665) a + S1x1x128.size a ≤ S50000x1x128.size a := fun v3665 k0_hw475 => k0_hw475

def k0_off910 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c89_i32_1999 : BitVec 32 := 89#32
  let v3669 : BitVec 32 := Scalar.addi v2593 c89_i32_1999
  let v3670 : Index := Scalar.indexCast v3669
  let c0_2000 : Index := 0#32
  ![v3670.toNat, 0]
def k0_off911 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2001 : BitVec 32 := 128#32
  let v3674 : BitVec 32 := Scalar.muli arg33 c128_i32_2001
  let c90_i32 : BitVec 32 := 90#32
  let v3675 : BitVec 32 := Scalar.addi v3674 c90_i32
  let v3676 : Index := Scalar.indexCast v3675
  ![v3676.toNat]
def k0_off912 (v3677 : BitVec 32) : Fin 3 → Nat :=
  let v3678 : Index := Scalar.indexCast v3677
  let c0_2002 : Index := 0#32
  let c0_2003 : Index := 0#32
  ![v3678.toNat, 0, 0]

def k0_chk476 (v3677 : BitVec 32) : Prop :=
  (∀ a, (k0_off912 v3677) a + S1x1x128.size a ≤ S50000x1x128.size a)
theorem k0_off912_inb : ∀ (v3677 : BitVec 32) (k0_hw476 : k0_chk476 v3677), ∀ a, (k0_off912 v3677) a + S1x1x128.size a ≤ S50000x1x128.size a := fun v3677 k0_hw476 => k0_hw476

def k0_off913 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c90_i32_2004 : BitVec 32 := 90#32
  let v3681 : BitVec 32 := Scalar.addi v2593 c90_i32_2004
  let v3682 : Index := Scalar.indexCast v3681
  let c0_2005 : Index := 0#32
  ![v3682.toNat, 0]
def k0_off914 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2006 : BitVec 32 := 128#32
  let v3686 : BitVec 32 := Scalar.muli arg33 c128_i32_2006
  let c91_i32 : BitVec 32 := 91#32
  let v3687 : BitVec 32 := Scalar.addi v3686 c91_i32
  let v3688 : Index := Scalar.indexCast v3687
  ![v3688.toNat]
def k0_off915 (v3689 : BitVec 32) : Fin 3 → Nat :=
  let v3690 : Index := Scalar.indexCast v3689
  let c0_2007 : Index := 0#32
  let c0_2008 : Index := 0#32
  ![v3690.toNat, 0, 0]

def k0_chk477 (v3689 : BitVec 32) : Prop :=
  (∀ a, (k0_off915 v3689) a + S1x1x128.size a ≤ S50000x1x128.size a)
theorem k0_off915_inb : ∀ (v3689 : BitVec 32) (k0_hw477 : k0_chk477 v3689), ∀ a, (k0_off915 v3689) a + S1x1x128.size a ≤ S50000x1x128.size a := fun v3689 k0_hw477 => k0_hw477

def k0_off916 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c91_i32_2009 : BitVec 32 := 91#32
  let v3693 : BitVec 32 := Scalar.addi v2593 c91_i32_2009
  let v3694 : Index := Scalar.indexCast v3693
  let c0_2010 : Index := 0#32
  ![v3694.toNat, 0]
def k0_off917 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2011 : BitVec 32 := 128#32
  let v3698 : BitVec 32 := Scalar.muli arg33 c128_i32_2011
  let c92_i32 : BitVec 32 := 92#32
  let v3699 : BitVec 32 := Scalar.addi v3698 c92_i32
  let v3700 : Index := Scalar.indexCast v3699
  ![v3700.toNat]
def k0_off918 (v3701 : BitVec 32) : Fin 3 → Nat :=
  let v3702 : Index := Scalar.indexCast v3701
  let c0_2012 : Index := 0#32
  let c0_2013 : Index := 0#32
  ![v3702.toNat, 0, 0]

def k0_chk478 (v3701 : BitVec 32) : Prop :=
  (∀ a, (k0_off918 v3701) a + S1x1x128.size a ≤ S50000x1x128.size a)
theorem k0_off918_inb : ∀ (v3701 : BitVec 32) (k0_hw478 : k0_chk478 v3701), ∀ a, (k0_off918 v3701) a + S1x1x128.size a ≤ S50000x1x128.size a := fun v3701 k0_hw478 => k0_hw478

def k0_off919 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c92_i32_2014 : BitVec 32 := 92#32
  let v3705 : BitVec 32 := Scalar.addi v2593 c92_i32_2014
  let v3706 : Index := Scalar.indexCast v3705
  let c0_2015 : Index := 0#32
  ![v3706.toNat, 0]
def k0_off920 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2016 : BitVec 32 := 128#32
  let v3710 : BitVec 32 := Scalar.muli arg33 c128_i32_2016
  let c93_i32 : BitVec 32 := 93#32
  let v3711 : BitVec 32 := Scalar.addi v3710 c93_i32
  let v3712 : Index := Scalar.indexCast v3711
  ![v3712.toNat]
def k0_off921 (v3713 : BitVec 32) : Fin 3 → Nat :=
  let v3714 : Index := Scalar.indexCast v3713
  let c0_2017 : Index := 0#32
  let c0_2018 : Index := 0#32
  ![v3714.toNat, 0, 0]

def k0_chk479 (v3713 : BitVec 32) : Prop :=
  (∀ a, (k0_off921 v3713) a + S1x1x128.size a ≤ S50000x1x128.size a)
theorem k0_off921_inb : ∀ (v3713 : BitVec 32) (k0_hw479 : k0_chk479 v3713), ∀ a, (k0_off921 v3713) a + S1x1x128.size a ≤ S50000x1x128.size a := fun v3713 k0_hw479 => k0_hw479

def k0_off922 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c93_i32_2019 : BitVec 32 := 93#32
  let v3717 : BitVec 32 := Scalar.addi v2593 c93_i32_2019
  let v3718 : Index := Scalar.indexCast v3717
  let c0_2020 : Index := 0#32
  ![v3718.toNat, 0]
def k0_off923 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2021 : BitVec 32 := 128#32
  let v3722 : BitVec 32 := Scalar.muli arg33 c128_i32_2021
  let c94_i32 : BitVec 32 := 94#32
  let v3723 : BitVec 32 := Scalar.addi v3722 c94_i32
  let v3724 : Index := Scalar.indexCast v3723
  ![v3724.toNat]
def k0_off924 (v3725 : BitVec 32) : Fin 3 → Nat :=
  let v3726 : Index := Scalar.indexCast v3725
  let c0_2022 : Index := 0#32
  let c0_2023 : Index := 0#32
  ![v3726.toNat, 0, 0]

def k0_chk480 (v3725 : BitVec 32) : Prop :=
  (∀ a, (k0_off924 v3725) a + S1x1x128.size a ≤ S50000x1x128.size a)
theorem k0_off924_inb : ∀ (v3725 : BitVec 32) (k0_hw480 : k0_chk480 v3725), ∀ a, (k0_off924 v3725) a + S1x1x128.size a ≤ S50000x1x128.size a := fun v3725 k0_hw480 => k0_hw480

def k0_off925 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c94_i32_2024 : BitVec 32 := 94#32
  let v3729 : BitVec 32 := Scalar.addi v2593 c94_i32_2024
  let v3730 : Index := Scalar.indexCast v3729
  let c0_2025 : Index := 0#32
  ![v3730.toNat, 0]
def k0_off926 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2026 : BitVec 32 := 128#32
  let v3734 : BitVec 32 := Scalar.muli arg33 c128_i32_2026
  let c95_i32 : BitVec 32 := 95#32
  let v3735 : BitVec 32 := Scalar.addi v3734 c95_i32
  let v3736 : Index := Scalar.indexCast v3735
  ![v3736.toNat]
def k0_off927 (v3737 : BitVec 32) : Fin 3 → Nat :=
  let v3738 : Index := Scalar.indexCast v3737
  let c0_2027 : Index := 0#32
  let c0_2028 : Index := 0#32
  ![v3738.toNat, 0, 0]

def k0_chk481 (v3737 : BitVec 32) : Prop :=
  (∀ a, (k0_off927 v3737) a + S1x1x128.size a ≤ S50000x1x128.size a)
theorem k0_off927_inb : ∀ (v3737 : BitVec 32) (k0_hw481 : k0_chk481 v3737), ∀ a, (k0_off927 v3737) a + S1x1x128.size a ≤ S50000x1x128.size a := fun v3737 k0_hw481 => k0_hw481

def k0_off928 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c95_i32_2029 : BitVec 32 := 95#32
  let v3741 : BitVec 32 := Scalar.addi v2593 c95_i32_2029
  let v3742 : Index := Scalar.indexCast v3741
  let c0_2030 : Index := 0#32
  ![v3742.toNat, 0]
def k0_off929 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2031 : BitVec 32 := 128#32
  let v3746 : BitVec 32 := Scalar.muli arg33 c128_i32_2031
  let c96_i32 : BitVec 32 := 96#32
  let v3747 : BitVec 32 := Scalar.addi v3746 c96_i32
  let v3748 : Index := Scalar.indexCast v3747
  ![v3748.toNat]
def k0_off930 (v3749 : BitVec 32) : Fin 3 → Nat :=
  let v3750 : Index := Scalar.indexCast v3749
  let c0_2032 : Index := 0#32
  let c0_2033 : Index := 0#32
  ![v3750.toNat, 0, 0]

def k0_chk482 (v3749 : BitVec 32) : Prop :=
  (∀ a, (k0_off930 v3749) a + S1x1x128.size a ≤ S50000x1x128.size a)
theorem k0_off930_inb : ∀ (v3749 : BitVec 32) (k0_hw482 : k0_chk482 v3749), ∀ a, (k0_off930 v3749) a + S1x1x128.size a ≤ S50000x1x128.size a := fun v3749 k0_hw482 => k0_hw482

def k0_off931 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c96_i32_2034 : BitVec 32 := 96#32
  let v3753 : BitVec 32 := Scalar.addi v2593 c96_i32_2034
  let v3754 : Index := Scalar.indexCast v3753
  let c0_2035 : Index := 0#32
  ![v3754.toNat, 0]
def k0_off932 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2036 : BitVec 32 := 128#32
  let v3758 : BitVec 32 := Scalar.muli arg33 c128_i32_2036
  let c97_i32 : BitVec 32 := 97#32
  let v3759 : BitVec 32 := Scalar.addi v3758 c97_i32
  let v3760 : Index := Scalar.indexCast v3759
  ![v3760.toNat]
def k0_off933 (v3761 : BitVec 32) : Fin 3 → Nat :=
  let v3762 : Index := Scalar.indexCast v3761
  let c0_2037 : Index := 0#32
  let c0_2038 : Index := 0#32
  ![v3762.toNat, 0, 0]

def k0_chk483 (v3761 : BitVec 32) : Prop :=
  (∀ a, (k0_off933 v3761) a + S1x1x128.size a ≤ S50000x1x128.size a)
theorem k0_off933_inb : ∀ (v3761 : BitVec 32) (k0_hw483 : k0_chk483 v3761), ∀ a, (k0_off933 v3761) a + S1x1x128.size a ≤ S50000x1x128.size a := fun v3761 k0_hw483 => k0_hw483

def k0_off934 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c97_i32_2039 : BitVec 32 := 97#32
  let v3765 : BitVec 32 := Scalar.addi v2593 c97_i32_2039
  let v3766 : Index := Scalar.indexCast v3765
  let c0_2040 : Index := 0#32
  ![v3766.toNat, 0]
def k0_off935 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2041 : BitVec 32 := 128#32
  let v3770 : BitVec 32 := Scalar.muli arg33 c128_i32_2041
  let c98_i32 : BitVec 32 := 98#32
  let v3771 : BitVec 32 := Scalar.addi v3770 c98_i32
  let v3772 : Index := Scalar.indexCast v3771
  ![v3772.toNat]
def k0_off936 (v3773 : BitVec 32) : Fin 3 → Nat :=
  let v3774 : Index := Scalar.indexCast v3773
  let c0_2042 : Index := 0#32
  let c0_2043 : Index := 0#32
  ![v3774.toNat, 0, 0]

def k0_chk484 (v3773 : BitVec 32) : Prop :=
  (∀ a, (k0_off936 v3773) a + S1x1x128.size a ≤ S50000x1x128.size a)
theorem k0_off936_inb : ∀ (v3773 : BitVec 32) (k0_hw484 : k0_chk484 v3773), ∀ a, (k0_off936 v3773) a + S1x1x128.size a ≤ S50000x1x128.size a := fun v3773 k0_hw484 => k0_hw484

def k0_off937 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c98_i32_2044 : BitVec 32 := 98#32
  let v3777 : BitVec 32 := Scalar.addi v2593 c98_i32_2044
  let v3778 : Index := Scalar.indexCast v3777
  let c0_2045 : Index := 0#32
  ![v3778.toNat, 0]
def k0_off938 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2046 : BitVec 32 := 128#32
  let v3782 : BitVec 32 := Scalar.muli arg33 c128_i32_2046
  let c99_i32 : BitVec 32 := 99#32
  let v3783 : BitVec 32 := Scalar.addi v3782 c99_i32
  let v3784 : Index := Scalar.indexCast v3783
  ![v3784.toNat]
def k0_off939 (v3785 : BitVec 32) : Fin 3 → Nat :=
  let v3786 : Index := Scalar.indexCast v3785
  let c0_2047 : Index := 0#32
  let c0_2048 : Index := 0#32
  ![v3786.toNat, 0, 0]

def k0_chk485 (v3785 : BitVec 32) : Prop :=
  (∀ a, (k0_off939 v3785) a + S1x1x128.size a ≤ S50000x1x128.size a)
theorem k0_off939_inb : ∀ (v3785 : BitVec 32) (k0_hw485 : k0_chk485 v3785), ∀ a, (k0_off939 v3785) a + S1x1x128.size a ≤ S50000x1x128.size a := fun v3785 k0_hw485 => k0_hw485

def k0_off940 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c99_i32_2049 : BitVec 32 := 99#32
  let v3789 : BitVec 32 := Scalar.addi v2593 c99_i32_2049
  let v3790 : Index := Scalar.indexCast v3789
  let c0_2050 : Index := 0#32
  ![v3790.toNat, 0]
def k0_off941 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2051 : BitVec 32 := 128#32
  let v3794 : BitVec 32 := Scalar.muli arg33 c128_i32_2051
  let c100_i32 : BitVec 32 := 100#32
  let v3795 : BitVec 32 := Scalar.addi v3794 c100_i32
  let v3796 : Index := Scalar.indexCast v3795
  ![v3796.toNat]
def k0_off942 (v3797 : BitVec 32) : Fin 3 → Nat :=
  let v3798 : Index := Scalar.indexCast v3797
  let c0_2052 : Index := 0#32
  let c0_2053 : Index := 0#32
  ![v3798.toNat, 0, 0]

def k0_chk486 (v3797 : BitVec 32) : Prop :=
  (∀ a, (k0_off942 v3797) a + S1x1x128.size a ≤ S50000x1x128.size a)
theorem k0_off942_inb : ∀ (v3797 : BitVec 32) (k0_hw486 : k0_chk486 v3797), ∀ a, (k0_off942 v3797) a + S1x1x128.size a ≤ S50000x1x128.size a := fun v3797 k0_hw486 => k0_hw486

def k0_off943 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c100_i32_2054 : BitVec 32 := 100#32
  let v3801 : BitVec 32 := Scalar.addi v2593 c100_i32_2054
  let v3802 : Index := Scalar.indexCast v3801
  let c0_2055 : Index := 0#32
  ![v3802.toNat, 0]
def k0_off944 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2056 : BitVec 32 := 128#32
  let v3806 : BitVec 32 := Scalar.muli arg33 c128_i32_2056
  let c101_i32 : BitVec 32 := 101#32
  let v3807 : BitVec 32 := Scalar.addi v3806 c101_i32
  let v3808 : Index := Scalar.indexCast v3807
  ![v3808.toNat]
def k0_off945 (v3809 : BitVec 32) : Fin 3 → Nat :=
  let v3810 : Index := Scalar.indexCast v3809
  let c0_2057 : Index := 0#32
  let c0_2058 : Index := 0#32
  ![v3810.toNat, 0, 0]

def k0_chk487 (v3809 : BitVec 32) : Prop :=
  (∀ a, (k0_off945 v3809) a + S1x1x128.size a ≤ S50000x1x128.size a)
theorem k0_off945_inb : ∀ (v3809 : BitVec 32) (k0_hw487 : k0_chk487 v3809), ∀ a, (k0_off945 v3809) a + S1x1x128.size a ≤ S50000x1x128.size a := fun v3809 k0_hw487 => k0_hw487

def k0_off946 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c101_i32_2059 : BitVec 32 := 101#32
  let v3813 : BitVec 32 := Scalar.addi v2593 c101_i32_2059
  let v3814 : Index := Scalar.indexCast v3813
  let c0_2060 : Index := 0#32
  ![v3814.toNat, 0]
def k0_off947 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2061 : BitVec 32 := 128#32
  let v3818 : BitVec 32 := Scalar.muli arg33 c128_i32_2061
  let c102_i32 : BitVec 32 := 102#32
  let v3819 : BitVec 32 := Scalar.addi v3818 c102_i32
  let v3820 : Index := Scalar.indexCast v3819
  ![v3820.toNat]
def k0_off948 (v3821 : BitVec 32) : Fin 3 → Nat :=
  let v3822 : Index := Scalar.indexCast v3821
  let c0_2062 : Index := 0#32
  let c0_2063 : Index := 0#32
  ![v3822.toNat, 0, 0]

def k0_chk488 (v3821 : BitVec 32) : Prop :=
  (∀ a, (k0_off948 v3821) a + S1x1x128.size a ≤ S50000x1x128.size a)
theorem k0_off948_inb : ∀ (v3821 : BitVec 32) (k0_hw488 : k0_chk488 v3821), ∀ a, (k0_off948 v3821) a + S1x1x128.size a ≤ S50000x1x128.size a := fun v3821 k0_hw488 => k0_hw488

def k0_off949 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c102_i32_2064 : BitVec 32 := 102#32
  let v3825 : BitVec 32 := Scalar.addi v2593 c102_i32_2064
  let v3826 : Index := Scalar.indexCast v3825
  let c0_2065 : Index := 0#32
  ![v3826.toNat, 0]
def k0_off950 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2066 : BitVec 32 := 128#32
  let v3830 : BitVec 32 := Scalar.muli arg33 c128_i32_2066
  let c103_i32 : BitVec 32 := 103#32
  let v3831 : BitVec 32 := Scalar.addi v3830 c103_i32
  let v3832 : Index := Scalar.indexCast v3831
  ![v3832.toNat]
def k0_off951 (v3833 : BitVec 32) : Fin 3 → Nat :=
  let v3834 : Index := Scalar.indexCast v3833
  let c0_2067 : Index := 0#32
  let c0_2068 : Index := 0#32
  ![v3834.toNat, 0, 0]

def k0_chk489 (v3833 : BitVec 32) : Prop :=
  (∀ a, (k0_off951 v3833) a + S1x1x128.size a ≤ S50000x1x128.size a)
theorem k0_off951_inb : ∀ (v3833 : BitVec 32) (k0_hw489 : k0_chk489 v3833), ∀ a, (k0_off951 v3833) a + S1x1x128.size a ≤ S50000x1x128.size a := fun v3833 k0_hw489 => k0_hw489

def k0_off952 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c103_i32_2069 : BitVec 32 := 103#32
  let v3837 : BitVec 32 := Scalar.addi v2593 c103_i32_2069
  let v3838 : Index := Scalar.indexCast v3837
  let c0_2070 : Index := 0#32
  ![v3838.toNat, 0]
def k0_off953 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2071 : BitVec 32 := 128#32
  let v3842 : BitVec 32 := Scalar.muli arg33 c128_i32_2071
  let c104_i32 : BitVec 32 := 104#32
  let v3843 : BitVec 32 := Scalar.addi v3842 c104_i32
  let v3844 : Index := Scalar.indexCast v3843
  ![v3844.toNat]
def k0_off954 (v3845 : BitVec 32) : Fin 3 → Nat :=
  let v3846 : Index := Scalar.indexCast v3845
  let c0_2072 : Index := 0#32
  let c0_2073 : Index := 0#32
  ![v3846.toNat, 0, 0]

def k0_chk490 (v3845 : BitVec 32) : Prop :=
  (∀ a, (k0_off954 v3845) a + S1x1x128.size a ≤ S50000x1x128.size a)
theorem k0_off954_inb : ∀ (v3845 : BitVec 32) (k0_hw490 : k0_chk490 v3845), ∀ a, (k0_off954 v3845) a + S1x1x128.size a ≤ S50000x1x128.size a := fun v3845 k0_hw490 => k0_hw490

def k0_off955 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c104_i32_2074 : BitVec 32 := 104#32
  let v3849 : BitVec 32 := Scalar.addi v2593 c104_i32_2074
  let v3850 : Index := Scalar.indexCast v3849
  let c0_2075 : Index := 0#32
  ![v3850.toNat, 0]
def k0_off956 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2076 : BitVec 32 := 128#32
  let v3854 : BitVec 32 := Scalar.muli arg33 c128_i32_2076
  let c105_i32 : BitVec 32 := 105#32
  let v3855 : BitVec 32 := Scalar.addi v3854 c105_i32
  let v3856 : Index := Scalar.indexCast v3855
  ![v3856.toNat]
def k0_off957 (v3857 : BitVec 32) : Fin 3 → Nat :=
  let v3858 : Index := Scalar.indexCast v3857
  let c0_2077 : Index := 0#32
  let c0_2078 : Index := 0#32
  ![v3858.toNat, 0, 0]

def k0_chk491 (v3857 : BitVec 32) : Prop :=
  (∀ a, (k0_off957 v3857) a + S1x1x128.size a ≤ S50000x1x128.size a)
theorem k0_off957_inb : ∀ (v3857 : BitVec 32) (k0_hw491 : k0_chk491 v3857), ∀ a, (k0_off957 v3857) a + S1x1x128.size a ≤ S50000x1x128.size a := fun v3857 k0_hw491 => k0_hw491

def k0_off958 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c105_i32_2079 : BitVec 32 := 105#32
  let v3861 : BitVec 32 := Scalar.addi v2593 c105_i32_2079
  let v3862 : Index := Scalar.indexCast v3861
  let c0_2080 : Index := 0#32
  ![v3862.toNat, 0]
def k0_off959 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2081 : BitVec 32 := 128#32
  let v3866 : BitVec 32 := Scalar.muli arg33 c128_i32_2081
  let c106_i32 : BitVec 32 := 106#32
  let v3867 : BitVec 32 := Scalar.addi v3866 c106_i32
  let v3868 : Index := Scalar.indexCast v3867
  ![v3868.toNat]
def k0_off960 (v3869 : BitVec 32) : Fin 3 → Nat :=
  let v3870 : Index := Scalar.indexCast v3869
  let c0_2082 : Index := 0#32
  let c0_2083 : Index := 0#32
  ![v3870.toNat, 0, 0]

def k0_chk492 (v3869 : BitVec 32) : Prop :=
  (∀ a, (k0_off960 v3869) a + S1x1x128.size a ≤ S50000x1x128.size a)
theorem k0_off960_inb : ∀ (v3869 : BitVec 32) (k0_hw492 : k0_chk492 v3869), ∀ a, (k0_off960 v3869) a + S1x1x128.size a ≤ S50000x1x128.size a := fun v3869 k0_hw492 => k0_hw492

def k0_off961 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c106_i32_2084 : BitVec 32 := 106#32
  let v3873 : BitVec 32 := Scalar.addi v2593 c106_i32_2084
  let v3874 : Index := Scalar.indexCast v3873
  let c0_2085 : Index := 0#32
  ![v3874.toNat, 0]
def k0_off962 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2086 : BitVec 32 := 128#32
  let v3878 : BitVec 32 := Scalar.muli arg33 c128_i32_2086
  let c107_i32 : BitVec 32 := 107#32
  let v3879 : BitVec 32 := Scalar.addi v3878 c107_i32
  let v3880 : Index := Scalar.indexCast v3879
  ![v3880.toNat]
def k0_off963 (v3881 : BitVec 32) : Fin 3 → Nat :=
  let v3882 : Index := Scalar.indexCast v3881
  let c0_2087 : Index := 0#32
  let c0_2088 : Index := 0#32
  ![v3882.toNat, 0, 0]

def k0_chk493 (v3881 : BitVec 32) : Prop :=
  (∀ a, (k0_off963 v3881) a + S1x1x128.size a ≤ S50000x1x128.size a)
theorem k0_off963_inb : ∀ (v3881 : BitVec 32) (k0_hw493 : k0_chk493 v3881), ∀ a, (k0_off963 v3881) a + S1x1x128.size a ≤ S50000x1x128.size a := fun v3881 k0_hw493 => k0_hw493

def k0_off964 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c107_i32_2089 : BitVec 32 := 107#32
  let v3885 : BitVec 32 := Scalar.addi v2593 c107_i32_2089
  let v3886 : Index := Scalar.indexCast v3885
  let c0_2090 : Index := 0#32
  ![v3886.toNat, 0]
def k0_off965 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2091 : BitVec 32 := 128#32
  let v3890 : BitVec 32 := Scalar.muli arg33 c128_i32_2091
  let c108_i32 : BitVec 32 := 108#32
  let v3891 : BitVec 32 := Scalar.addi v3890 c108_i32
  let v3892 : Index := Scalar.indexCast v3891
  ![v3892.toNat]
def k0_off966 (v3893 : BitVec 32) : Fin 3 → Nat :=
  let v3894 : Index := Scalar.indexCast v3893
  let c0_2092 : Index := 0#32
  let c0_2093 : Index := 0#32
  ![v3894.toNat, 0, 0]

def k0_chk494 (v3893 : BitVec 32) : Prop :=
  (∀ a, (k0_off966 v3893) a + S1x1x128.size a ≤ S50000x1x128.size a)
theorem k0_off966_inb : ∀ (v3893 : BitVec 32) (k0_hw494 : k0_chk494 v3893), ∀ a, (k0_off966 v3893) a + S1x1x128.size a ≤ S50000x1x128.size a := fun v3893 k0_hw494 => k0_hw494

def k0_off967 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c108_i32_2094 : BitVec 32 := 108#32
  let v3897 : BitVec 32 := Scalar.addi v2593 c108_i32_2094
  let v3898 : Index := Scalar.indexCast v3897
  let c0_2095 : Index := 0#32
  ![v3898.toNat, 0]
def k0_off968 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2096 : BitVec 32 := 128#32
  let v3902 : BitVec 32 := Scalar.muli arg33 c128_i32_2096
  let c109_i32 : BitVec 32 := 109#32
  let v3903 : BitVec 32 := Scalar.addi v3902 c109_i32
  let v3904 : Index := Scalar.indexCast v3903
  ![v3904.toNat]
def k0_off969 (v3905 : BitVec 32) : Fin 3 → Nat :=
  let v3906 : Index := Scalar.indexCast v3905
  let c0_2097 : Index := 0#32
  let c0_2098 : Index := 0#32
  ![v3906.toNat, 0, 0]

def k0_chk495 (v3905 : BitVec 32) : Prop :=
  (∀ a, (k0_off969 v3905) a + S1x1x128.size a ≤ S50000x1x128.size a)
theorem k0_off969_inb : ∀ (v3905 : BitVec 32) (k0_hw495 : k0_chk495 v3905), ∀ a, (k0_off969 v3905) a + S1x1x128.size a ≤ S50000x1x128.size a := fun v3905 k0_hw495 => k0_hw495

def k0_off970 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c109_i32_2099 : BitVec 32 := 109#32
  let v3909 : BitVec 32 := Scalar.addi v2593 c109_i32_2099
  let v3910 : Index := Scalar.indexCast v3909
  let c0_2100 : Index := 0#32
  ![v3910.toNat, 0]
def k0_off971 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2101 : BitVec 32 := 128#32
  let v3914 : BitVec 32 := Scalar.muli arg33 c128_i32_2101
  let c110_i32 : BitVec 32 := 110#32
  let v3915 : BitVec 32 := Scalar.addi v3914 c110_i32
  let v3916 : Index := Scalar.indexCast v3915
  ![v3916.toNat]
def k0_off972 (v3917 : BitVec 32) : Fin 3 → Nat :=
  let v3918 : Index := Scalar.indexCast v3917
  let c0_2102 : Index := 0#32
  let c0_2103 : Index := 0#32
  ![v3918.toNat, 0, 0]

def k0_chk496 (v3917 : BitVec 32) : Prop :=
  (∀ a, (k0_off972 v3917) a + S1x1x128.size a ≤ S50000x1x128.size a)
theorem k0_off972_inb : ∀ (v3917 : BitVec 32) (k0_hw496 : k0_chk496 v3917), ∀ a, (k0_off972 v3917) a + S1x1x128.size a ≤ S50000x1x128.size a := fun v3917 k0_hw496 => k0_hw496

def k0_off973 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c110_i32_2104 : BitVec 32 := 110#32
  let v3921 : BitVec 32 := Scalar.addi v2593 c110_i32_2104
  let v3922 : Index := Scalar.indexCast v3921
  let c0_2105 : Index := 0#32
  ![v3922.toNat, 0]
def k0_off974 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2106 : BitVec 32 := 128#32
  let v3926 : BitVec 32 := Scalar.muli arg33 c128_i32_2106
  let c111_i32 : BitVec 32 := 111#32
  let v3927 : BitVec 32 := Scalar.addi v3926 c111_i32
  let v3928 : Index := Scalar.indexCast v3927
  ![v3928.toNat]
def k0_off975 (v3929 : BitVec 32) : Fin 3 → Nat :=
  let v3930 : Index := Scalar.indexCast v3929
  let c0_2107 : Index := 0#32
  let c0_2108 : Index := 0#32
  ![v3930.toNat, 0, 0]

def k0_chk497 (v3929 : BitVec 32) : Prop :=
  (∀ a, (k0_off975 v3929) a + S1x1x128.size a ≤ S50000x1x128.size a)
theorem k0_off975_inb : ∀ (v3929 : BitVec 32) (k0_hw497 : k0_chk497 v3929), ∀ a, (k0_off975 v3929) a + S1x1x128.size a ≤ S50000x1x128.size a := fun v3929 k0_hw497 => k0_hw497

def k0_off976 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c111_i32_2109 : BitVec 32 := 111#32
  let v3933 : BitVec 32 := Scalar.addi v2593 c111_i32_2109
  let v3934 : Index := Scalar.indexCast v3933
  let c0_2110 : Index := 0#32
  ![v3934.toNat, 0]
def k0_off977 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2111 : BitVec 32 := 128#32
  let v3938 : BitVec 32 := Scalar.muli arg33 c128_i32_2111
  let c112_i32 : BitVec 32 := 112#32
  let v3939 : BitVec 32 := Scalar.addi v3938 c112_i32
  let v3940 : Index := Scalar.indexCast v3939
  ![v3940.toNat]
def k0_off978 (v3941 : BitVec 32) : Fin 3 → Nat :=
  let v3942 : Index := Scalar.indexCast v3941
  let c0_2112 : Index := 0#32
  let c0_2113 : Index := 0#32
  ![v3942.toNat, 0, 0]

def k0_chk498 (v3941 : BitVec 32) : Prop :=
  (∀ a, (k0_off978 v3941) a + S1x1x128.size a ≤ S50000x1x128.size a)
theorem k0_off978_inb : ∀ (v3941 : BitVec 32) (k0_hw498 : k0_chk498 v3941), ∀ a, (k0_off978 v3941) a + S1x1x128.size a ≤ S50000x1x128.size a := fun v3941 k0_hw498 => k0_hw498

def k0_off979 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c112_i32_2114 : BitVec 32 := 112#32
  let v3945 : BitVec 32 := Scalar.addi v2593 c112_i32_2114
  let v3946 : Index := Scalar.indexCast v3945
  let c0_2115 : Index := 0#32
  ![v3946.toNat, 0]
def k0_off980 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2116 : BitVec 32 := 128#32
  let v3950 : BitVec 32 := Scalar.muli arg33 c128_i32_2116
  let c113_i32 : BitVec 32 := 113#32
  let v3951 : BitVec 32 := Scalar.addi v3950 c113_i32
  let v3952 : Index := Scalar.indexCast v3951
  ![v3952.toNat]
def k0_off981 (v3953 : BitVec 32) : Fin 3 → Nat :=
  let v3954 : Index := Scalar.indexCast v3953
  let c0_2117 : Index := 0#32
  let c0_2118 : Index := 0#32
  ![v3954.toNat, 0, 0]

def k0_chk499 (v3953 : BitVec 32) : Prop :=
  (∀ a, (k0_off981 v3953) a + S1x1x128.size a ≤ S50000x1x128.size a)
theorem k0_off981_inb : ∀ (v3953 : BitVec 32) (k0_hw499 : k0_chk499 v3953), ∀ a, (k0_off981 v3953) a + S1x1x128.size a ≤ S50000x1x128.size a := fun v3953 k0_hw499 => k0_hw499

def k0_off982 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c113_i32_2119 : BitVec 32 := 113#32
  let v3957 : BitVec 32 := Scalar.addi v2593 c113_i32_2119
  let v3958 : Index := Scalar.indexCast v3957
  let c0_2120 : Index := 0#32
  ![v3958.toNat, 0]
def k0_off983 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2121 : BitVec 32 := 128#32
  let v3962 : BitVec 32 := Scalar.muli arg33 c128_i32_2121
  let c114_i32 : BitVec 32 := 114#32
  let v3963 : BitVec 32 := Scalar.addi v3962 c114_i32
  let v3964 : Index := Scalar.indexCast v3963
  ![v3964.toNat]
def k0_off984 (v3965 : BitVec 32) : Fin 3 → Nat :=
  let v3966 : Index := Scalar.indexCast v3965
  let c0_2122 : Index := 0#32
  let c0_2123 : Index := 0#32
  ![v3966.toNat, 0, 0]

def k0_chk500 (v3965 : BitVec 32) : Prop :=
  (∀ a, (k0_off984 v3965) a + S1x1x128.size a ≤ S50000x1x128.size a)
theorem k0_off984_inb : ∀ (v3965 : BitVec 32) (k0_hw500 : k0_chk500 v3965), ∀ a, (k0_off984 v3965) a + S1x1x128.size a ≤ S50000x1x128.size a := fun v3965 k0_hw500 => k0_hw500

def k0_off985 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c114_i32_2124 : BitVec 32 := 114#32
  let v3969 : BitVec 32 := Scalar.addi v2593 c114_i32_2124
  let v3970 : Index := Scalar.indexCast v3969
  let c0_2125 : Index := 0#32
  ![v3970.toNat, 0]
def k0_off986 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2126 : BitVec 32 := 128#32
  let v3974 : BitVec 32 := Scalar.muli arg33 c128_i32_2126
  let c115_i32 : BitVec 32 := 115#32
  let v3975 : BitVec 32 := Scalar.addi v3974 c115_i32
  let v3976 : Index := Scalar.indexCast v3975
  ![v3976.toNat]
def k0_off987 (v3977 : BitVec 32) : Fin 3 → Nat :=
  let v3978 : Index := Scalar.indexCast v3977
  let c0_2127 : Index := 0#32
  let c0_2128 : Index := 0#32
  ![v3978.toNat, 0, 0]

def k0_chk501 (v3977 : BitVec 32) : Prop :=
  (∀ a, (k0_off987 v3977) a + S1x1x128.size a ≤ S50000x1x128.size a)
theorem k0_off987_inb : ∀ (v3977 : BitVec 32) (k0_hw501 : k0_chk501 v3977), ∀ a, (k0_off987 v3977) a + S1x1x128.size a ≤ S50000x1x128.size a := fun v3977 k0_hw501 => k0_hw501

def k0_off988 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c115_i32_2129 : BitVec 32 := 115#32
  let v3981 : BitVec 32 := Scalar.addi v2593 c115_i32_2129
  let v3982 : Index := Scalar.indexCast v3981
  let c0_2130 : Index := 0#32
  ![v3982.toNat, 0]
def k0_off989 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2131 : BitVec 32 := 128#32
  let v3986 : BitVec 32 := Scalar.muli arg33 c128_i32_2131
  let c116_i32 : BitVec 32 := 116#32
  let v3987 : BitVec 32 := Scalar.addi v3986 c116_i32
  let v3988 : Index := Scalar.indexCast v3987
  ![v3988.toNat]
def k0_off990 (v3989 : BitVec 32) : Fin 3 → Nat :=
  let v3990 : Index := Scalar.indexCast v3989
  let c0_2132 : Index := 0#32
  let c0_2133 : Index := 0#32
  ![v3990.toNat, 0, 0]

def k0_chk502 (v3989 : BitVec 32) : Prop :=
  (∀ a, (k0_off990 v3989) a + S1x1x128.size a ≤ S50000x1x128.size a)
theorem k0_off990_inb : ∀ (v3989 : BitVec 32) (k0_hw502 : k0_chk502 v3989), ∀ a, (k0_off990 v3989) a + S1x1x128.size a ≤ S50000x1x128.size a := fun v3989 k0_hw502 => k0_hw502

def k0_off991 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c116_i32_2134 : BitVec 32 := 116#32
  let v3993 : BitVec 32 := Scalar.addi v2593 c116_i32_2134
  let v3994 : Index := Scalar.indexCast v3993
  let c0_2135 : Index := 0#32
  ![v3994.toNat, 0]
def k0_off992 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2136 : BitVec 32 := 128#32
  let v3998 : BitVec 32 := Scalar.muli arg33 c128_i32_2136
  let c117_i32 : BitVec 32 := 117#32
  let v3999 : BitVec 32 := Scalar.addi v3998 c117_i32
  let v4000 : Index := Scalar.indexCast v3999
  ![v4000.toNat]
def k0_off993 (v4001 : BitVec 32) : Fin 3 → Nat :=
  let v4002 : Index := Scalar.indexCast v4001
  let c0_2137 : Index := 0#32
  let c0_2138 : Index := 0#32
  ![v4002.toNat, 0, 0]

def k0_chk503 (v4001 : BitVec 32) : Prop :=
  (∀ a, (k0_off993 v4001) a + S1x1x128.size a ≤ S50000x1x128.size a)
theorem k0_off993_inb : ∀ (v4001 : BitVec 32) (k0_hw503 : k0_chk503 v4001), ∀ a, (k0_off993 v4001) a + S1x1x128.size a ≤ S50000x1x128.size a := fun v4001 k0_hw503 => k0_hw503

def k0_off994 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c117_i32_2139 : BitVec 32 := 117#32
  let v4005 : BitVec 32 := Scalar.addi v2593 c117_i32_2139
  let v4006 : Index := Scalar.indexCast v4005
  let c0_2140 : Index := 0#32
  ![v4006.toNat, 0]
def k0_off995 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2141 : BitVec 32 := 128#32
  let v4010 : BitVec 32 := Scalar.muli arg33 c128_i32_2141
  let c118_i32 : BitVec 32 := 118#32
  let v4011 : BitVec 32 := Scalar.addi v4010 c118_i32
  let v4012 : Index := Scalar.indexCast v4011
  ![v4012.toNat]
def k0_off996 (v4013 : BitVec 32) : Fin 3 → Nat :=
  let v4014 : Index := Scalar.indexCast v4013
  let c0_2142 : Index := 0#32
  let c0_2143 : Index := 0#32
  ![v4014.toNat, 0, 0]

def k0_chk504 (v4013 : BitVec 32) : Prop :=
  (∀ a, (k0_off996 v4013) a + S1x1x128.size a ≤ S50000x1x128.size a)
theorem k0_off996_inb : ∀ (v4013 : BitVec 32) (k0_hw504 : k0_chk504 v4013), ∀ a, (k0_off996 v4013) a + S1x1x128.size a ≤ S50000x1x128.size a := fun v4013 k0_hw504 => k0_hw504

def k0_off997 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c118_i32_2144 : BitVec 32 := 118#32
  let v4017 : BitVec 32 := Scalar.addi v2593 c118_i32_2144
  let v4018 : Index := Scalar.indexCast v4017
  let c0_2145 : Index := 0#32
  ![v4018.toNat, 0]
def k0_off998 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2146 : BitVec 32 := 128#32
  let v4022 : BitVec 32 := Scalar.muli arg33 c128_i32_2146
  let c119_i32 : BitVec 32 := 119#32
  let v4023 : BitVec 32 := Scalar.addi v4022 c119_i32
  let v4024 : Index := Scalar.indexCast v4023
  ![v4024.toNat]
def k0_off999 (v4025 : BitVec 32) : Fin 3 → Nat :=
  let v4026 : Index := Scalar.indexCast v4025
  let c0_2147 : Index := 0#32
  let c0_2148 : Index := 0#32
  ![v4026.toNat, 0, 0]

def k0_chk505 (v4025 : BitVec 32) : Prop :=
  (∀ a, (k0_off999 v4025) a + S1x1x128.size a ≤ S50000x1x128.size a)
theorem k0_off999_inb : ∀ (v4025 : BitVec 32) (k0_hw505 : k0_chk505 v4025), ∀ a, (k0_off999 v4025) a + S1x1x128.size a ≤ S50000x1x128.size a := fun v4025 k0_hw505 => k0_hw505

def k0_off1000 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c119_i32_2149 : BitVec 32 := 119#32
  let v4029 : BitVec 32 := Scalar.addi v2593 c119_i32_2149
  let v4030 : Index := Scalar.indexCast v4029
  let c0_2150 : Index := 0#32
  ![v4030.toNat, 0]
def k0_off1001 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2151 : BitVec 32 := 128#32
  let v4034 : BitVec 32 := Scalar.muli arg33 c128_i32_2151
  let c120_i32 : BitVec 32 := 120#32
  let v4035 : BitVec 32 := Scalar.addi v4034 c120_i32
  let v4036 : Index := Scalar.indexCast v4035
  ![v4036.toNat]
def k0_off1002 (v4037 : BitVec 32) : Fin 3 → Nat :=
  let v4038 : Index := Scalar.indexCast v4037
  let c0_2152 : Index := 0#32
  let c0_2153 : Index := 0#32
  ![v4038.toNat, 0, 0]

def k0_chk506 (v4037 : BitVec 32) : Prop :=
  (∀ a, (k0_off1002 v4037) a + S1x1x128.size a ≤ S50000x1x128.size a)
theorem k0_off1002_inb : ∀ (v4037 : BitVec 32) (k0_hw506 : k0_chk506 v4037), ∀ a, (k0_off1002 v4037) a + S1x1x128.size a ≤ S50000x1x128.size a := fun v4037 k0_hw506 => k0_hw506

def k0_off1003 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c120_i32_2154 : BitVec 32 := 120#32
  let v4041 : BitVec 32 := Scalar.addi v2593 c120_i32_2154
  let v4042 : Index := Scalar.indexCast v4041
  let c0_2155 : Index := 0#32
  ![v4042.toNat, 0]
def k0_off1004 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2156 : BitVec 32 := 128#32
  let v4046 : BitVec 32 := Scalar.muli arg33 c128_i32_2156
  let c121_i32 : BitVec 32 := 121#32
  let v4047 : BitVec 32 := Scalar.addi v4046 c121_i32
  let v4048 : Index := Scalar.indexCast v4047
  ![v4048.toNat]
def k0_off1005 (v4049 : BitVec 32) : Fin 3 → Nat :=
  let v4050 : Index := Scalar.indexCast v4049
  let c0_2157 : Index := 0#32
  let c0_2158 : Index := 0#32
  ![v4050.toNat, 0, 0]

def k0_chk507 (v4049 : BitVec 32) : Prop :=
  (∀ a, (k0_off1005 v4049) a + S1x1x128.size a ≤ S50000x1x128.size a)
theorem k0_off1005_inb : ∀ (v4049 : BitVec 32) (k0_hw507 : k0_chk507 v4049), ∀ a, (k0_off1005 v4049) a + S1x1x128.size a ≤ S50000x1x128.size a := fun v4049 k0_hw507 => k0_hw507

def k0_off1006 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c121_i32_2159 : BitVec 32 := 121#32
  let v4053 : BitVec 32 := Scalar.addi v2593 c121_i32_2159
  let v4054 : Index := Scalar.indexCast v4053
  let c0_2160 : Index := 0#32
  ![v4054.toNat, 0]
def k0_off1007 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2161 : BitVec 32 := 128#32
  let v4058 : BitVec 32 := Scalar.muli arg33 c128_i32_2161
  let c122_i32 : BitVec 32 := 122#32
  let v4059 : BitVec 32 := Scalar.addi v4058 c122_i32
  let v4060 : Index := Scalar.indexCast v4059
  ![v4060.toNat]
def k0_off1008 (v4061 : BitVec 32) : Fin 3 → Nat :=
  let v4062 : Index := Scalar.indexCast v4061
  let c0_2162 : Index := 0#32
  let c0_2163 : Index := 0#32
  ![v4062.toNat, 0, 0]

def k0_chk508 (v4061 : BitVec 32) : Prop :=
  (∀ a, (k0_off1008 v4061) a + S1x1x128.size a ≤ S50000x1x128.size a)
theorem k0_off1008_inb : ∀ (v4061 : BitVec 32) (k0_hw508 : k0_chk508 v4061), ∀ a, (k0_off1008 v4061) a + S1x1x128.size a ≤ S50000x1x128.size a := fun v4061 k0_hw508 => k0_hw508

def k0_off1009 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c122_i32_2164 : BitVec 32 := 122#32
  let v4065 : BitVec 32 := Scalar.addi v2593 c122_i32_2164
  let v4066 : Index := Scalar.indexCast v4065
  let c0_2165 : Index := 0#32
  ![v4066.toNat, 0]
def k0_off1010 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2166 : BitVec 32 := 128#32
  let v4070 : BitVec 32 := Scalar.muli arg33 c128_i32_2166
  let c123_i32 : BitVec 32 := 123#32
  let v4071 : BitVec 32 := Scalar.addi v4070 c123_i32
  let v4072 : Index := Scalar.indexCast v4071
  ![v4072.toNat]
def k0_off1011 (v4073 : BitVec 32) : Fin 3 → Nat :=
  let v4074 : Index := Scalar.indexCast v4073
  let c0_2167 : Index := 0#32
  let c0_2168 : Index := 0#32
  ![v4074.toNat, 0, 0]

def k0_chk509 (v4073 : BitVec 32) : Prop :=
  (∀ a, (k0_off1011 v4073) a + S1x1x128.size a ≤ S50000x1x128.size a)
theorem k0_off1011_inb : ∀ (v4073 : BitVec 32) (k0_hw509 : k0_chk509 v4073), ∀ a, (k0_off1011 v4073) a + S1x1x128.size a ≤ S50000x1x128.size a := fun v4073 k0_hw509 => k0_hw509

def k0_off1012 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c123_i32_2169 : BitVec 32 := 123#32
  let v4077 : BitVec 32 := Scalar.addi v2593 c123_i32_2169
  let v4078 : Index := Scalar.indexCast v4077
  let c0_2170 : Index := 0#32
  ![v4078.toNat, 0]
def k0_off1013 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2171 : BitVec 32 := 128#32
  let v4082 : BitVec 32 := Scalar.muli arg33 c128_i32_2171
  let c124_i32 : BitVec 32 := 124#32
  let v4083 : BitVec 32 := Scalar.addi v4082 c124_i32
  let v4084 : Index := Scalar.indexCast v4083
  ![v4084.toNat]
def k0_off1014 (v4085 : BitVec 32) : Fin 3 → Nat :=
  let v4086 : Index := Scalar.indexCast v4085
  let c0_2172 : Index := 0#32
  let c0_2173 : Index := 0#32
  ![v4086.toNat, 0, 0]

def k0_chk510 (v4085 : BitVec 32) : Prop :=
  (∀ a, (k0_off1014 v4085) a + S1x1x128.size a ≤ S50000x1x128.size a)
theorem k0_off1014_inb : ∀ (v4085 : BitVec 32) (k0_hw510 : k0_chk510 v4085), ∀ a, (k0_off1014 v4085) a + S1x1x128.size a ≤ S50000x1x128.size a := fun v4085 k0_hw510 => k0_hw510

def k0_off1015 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c124_i32_2174 : BitVec 32 := 124#32
  let v4089 : BitVec 32 := Scalar.addi v2593 c124_i32_2174
  let v4090 : Index := Scalar.indexCast v4089
  let c0_2175 : Index := 0#32
  ![v4090.toNat, 0]
def k0_off1016 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2176 : BitVec 32 := 128#32
  let v4094 : BitVec 32 := Scalar.muli arg33 c128_i32_2176
  let c125_i32 : BitVec 32 := 125#32
  let v4095 : BitVec 32 := Scalar.addi v4094 c125_i32
  let v4096 : Index := Scalar.indexCast v4095
  ![v4096.toNat]
def k0_off1017 (v4097 : BitVec 32) : Fin 3 → Nat :=
  let v4098 : Index := Scalar.indexCast v4097
  let c0_2177 : Index := 0#32
  let c0_2178 : Index := 0#32
  ![v4098.toNat, 0, 0]

def k0_chk511 (v4097 : BitVec 32) : Prop :=
  (∀ a, (k0_off1017 v4097) a + S1x1x128.size a ≤ S50000x1x128.size a)
theorem k0_off1017_inb : ∀ (v4097 : BitVec 32) (k0_hw511 : k0_chk511 v4097), ∀ a, (k0_off1017 v4097) a + S1x1x128.size a ≤ S50000x1x128.size a := fun v4097 k0_hw511 => k0_hw511

def k0_off1018 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c125_i32_2179 : BitVec 32 := 125#32
  let v4101 : BitVec 32 := Scalar.addi v2593 c125_i32_2179
  let v4102 : Index := Scalar.indexCast v4101
  let c0_2180 : Index := 0#32
  ![v4102.toNat, 0]
def k0_off1019 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2181 : BitVec 32 := 128#32
  let v4106 : BitVec 32 := Scalar.muli arg33 c128_i32_2181
  let c126_i32 : BitVec 32 := 126#32
  let v4107 : BitVec 32 := Scalar.addi v4106 c126_i32
  let v4108 : Index := Scalar.indexCast v4107
  ![v4108.toNat]
def k0_off1020 (v4109 : BitVec 32) : Fin 3 → Nat :=
  let v4110 : Index := Scalar.indexCast v4109
  let c0_2182 : Index := 0#32
  let c0_2183 : Index := 0#32
  ![v4110.toNat, 0, 0]

def k0_chk512 (v4109 : BitVec 32) : Prop :=
  (∀ a, (k0_off1020 v4109) a + S1x1x128.size a ≤ S50000x1x128.size a)
theorem k0_off1020_inb : ∀ (v4109 : BitVec 32) (k0_hw512 : k0_chk512 v4109), ∀ a, (k0_off1020 v4109) a + S1x1x128.size a ≤ S50000x1x128.size a := fun v4109 k0_hw512 => k0_hw512

def k0_off1021 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c126_i32_2184 : BitVec 32 := 126#32
  let v4113 : BitVec 32 := Scalar.addi v2593 c126_i32_2184
  let v4114 : Index := Scalar.indexCast v4113
  let c0_2185 : Index := 0#32
  ![v4114.toNat, 0]
def k0_off1022 (v1803 : BitVec 32) (k0_t2 : Fin (k0_t2_loop v1803).trips) : Fin 1 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32_2186 : BitVec 32 := 128#32
  let v4118 : BitVec 32 := Scalar.muli arg33 c128_i32_2186
  let c127_i32 : BitVec 32 := 127#32
  let v4119 : BitVec 32 := Scalar.addi v4118 c127_i32
  let v4120 : Index := Scalar.indexCast v4119
  ![v4120.toNat]
def k0_off1023 (v4121 : BitVec 32) : Fin 3 → Nat :=
  let v4122 : Index := Scalar.indexCast v4121
  let c0_2187 : Index := 0#32
  let c0_2188 : Index := 0#32
  ![v4122.toNat, 0, 0]

def k0_chk513 (v4121 : BitVec 32) : Prop :=
  (∀ a, (k0_off1023 v4121) a + S1x1x128.size a ≤ S50000x1x128.size a)
theorem k0_off1023_inb : ∀ (v4121 : BitVec 32) (k0_hw513 : k0_chk513 v4121), ∀ a, (k0_off1023 v4121) a + S1x1x128.size a ≤ S50000x1x128.size a := fun v4121 k0_hw513 => k0_hw513

def k0_off1024 (v1803 : BitVec 32) (k0_t2 : Fin (k0_t2_loop v1803).trips) : Fin 2 → Nat :=
  let c0_i32_1038 : BitVec 32 := 0#32
  let v1804 : BitVec 32 := Scalar.subi v1803 c0_i32_1038
  let c1_i32 : BitVec 32 := 1#32
  let v1806 : BitVec 32 := Scalar.divsi v1804 c1_i32
  let v1807 : BitVec 32 := Scalar.muli v1806 c1_i32
  let v1808 : BitVec 32 := Scalar.addi c0_i32_1038 v1807
  let c1_i32_1040 : BitVec 32 := 1#32
  let arg33 : BitVec 32 := Scf.iv v1808 c1_i32_1040 k0_t2
  let c128_i32 : BitVec 32 := 128#32
  let v2592 : BitVec 32 := Scalar.muli arg33 c128_i32
  let v2593 : BitVec 32 := v2592
  let c127_i32_2189 : BitVec 32 := 127#32
  let v4125 : BitVec 32 := Scalar.addi v2593 c127_i32_2189
  let v4126 : Index := Scalar.indexCast v4125
  let c0_2190 : Index := 0#32
  ![v4126.toNat, 0]

def k0_chk257_0 (v1803 : BitVec 32) : Prop :=
  ((k0_t1_loop v1803).OK) ∧
  (∀ k0_t1 : Fin (k0_t1_loop v1803).trips, 128 ∣ (k0_mult1 v1803 k0_t1).toNat) ∧
  (∀ k0_t1 : Fin (k0_t1_loop v1803).trips, ∀ a, (k0_off257 v1803 k0_t1) a + S1.size a ≤ S6400.size a) ∧
  (∀ k0_t1 : Fin (k0_t1_loop v1803).trips, ∀ a, (k0_off259 v1803 k0_t1) a + S1x128.size a ≤ S6400x128.size a) ∧
  (∀ k0_t1 : Fin (k0_t1_loop v1803).trips, ∀ a, (k0_off260 v1803 k0_t1) a + S1.size a ≤ S6400.size a) ∧
  (∀ k0_t1 : Fin (k0_t1_loop v1803).trips, ∀ a, (k0_off262 v1803 k0_t1) a + S1x128.size a ≤ S6400x128.size a) ∧
  (∀ k0_t1 : Fin (k0_t1_loop v1803).trips, ∀ a, (k0_off263 v1803 k0_t1) a + S1.size a ≤ S6400.size a) ∧
  (∀ k0_t1 : Fin (k0_t1_loop v1803).trips, ∀ a, (k0_off265 v1803 k0_t1) a + S1x128.size a ≤ S6400x128.size a) ∧
  (∀ k0_t1 : Fin (k0_t1_loop v1803).trips, ∀ a, (k0_off266 v1803 k0_t1) a + S1.size a ≤ S6400.size a) ∧
  (∀ k0_t1 : Fin (k0_t1_loop v1803).trips, ∀ a, (k0_off268 v1803 k0_t1) a + S1x128.size a ≤ S6400x128.size a) ∧
  (∀ k0_t1 : Fin (k0_t1_loop v1803).trips, ∀ a, (k0_off269 v1803 k0_t1) a + S1.size a ≤ S6400.size a) ∧
  (∀ k0_t1 : Fin (k0_t1_loop v1803).trips, ∀ a, (k0_off271 v1803 k0_t1) a + S1x128.size a ≤ S6400x128.size a) ∧
  (∀ k0_t1 : Fin (k0_t1_loop v1803).trips, ∀ a, (k0_off272 v1803 k0_t1) a + S1.size a ≤ S6400.size a) ∧
  (∀ k0_t1 : Fin (k0_t1_loop v1803).trips, ∀ a, (k0_off274 v1803 k0_t1) a + S1x128.size a ≤ S6400x128.size a) ∧
  (∀ k0_t1 : Fin (k0_t1_loop v1803).trips, ∀ a, (k0_off275 v1803 k0_t1) a + S1.size a ≤ S6400.size a) ∧
  (∀ k0_t1 : Fin (k0_t1_loop v1803).trips, ∀ a, (k0_off277 v1803 k0_t1) a + S1x128.size a ≤ S6400x128.size a) ∧
  (∀ k0_t1 : Fin (k0_t1_loop v1803).trips, ∀ a, (k0_off278 v1803 k0_t1) a + S1.size a ≤ S6400.size a) ∧
  (∀ k0_t1 : Fin (k0_t1_loop v1803).trips, ∀ a, (k0_off280 v1803 k0_t1) a + S1x128.size a ≤ S6400x128.size a) ∧
  (∀ k0_t1 : Fin (k0_t1_loop v1803).trips, ∀ a, (k0_off281 v1803 k0_t1) a + S1.size a ≤ S6400.size a) ∧
  (∀ k0_t1 : Fin (k0_t1_loop v1803).trips, ∀ a, (k0_off283 v1803 k0_t1) a + S1x128.size a ≤ S6400x128.size a) ∧
  (∀ k0_t1 : Fin (k0_t1_loop v1803).trips, ∀ a, (k0_off284 v1803 k0_t1) a + S1.size a ≤ S6400.size a) ∧
  (∀ k0_t1 : Fin (k0_t1_loop v1803).trips, ∀ a, (k0_off286 v1803 k0_t1) a + S1x128.size a ≤ S6400x128.size a) ∧
  (∀ k0_t1 : Fin (k0_t1_loop v1803).trips, ∀ a, (k0_off287 v1803 k0_t1) a + S1.size a ≤ S6400.size a) ∧
  (∀ k0_t1 : Fin (k0_t1_loop v1803).trips, ∀ a, (k0_off289 v1803 k0_t1) a + S1x128.size a ≤ S6400x128.size a) ∧
  (∀ k0_t1 : Fin (k0_t1_loop v1803).trips, ∀ a, (k0_off290 v1803 k0_t1) a + S1.size a ≤ S6400.size a) ∧
  (∀ k0_t1 : Fin (k0_t1_loop v1803).trips, ∀ a, (k0_off292 v1803 k0_t1) a + S1x128.size a ≤ S6400x128.size a) ∧
  (∀ k0_t1 : Fin (k0_t1_loop v1803).trips, ∀ a, (k0_off293 v1803 k0_t1) a + S1.size a ≤ S6400.size a) ∧
  (∀ k0_t1 : Fin (k0_t1_loop v1803).trips, ∀ a, (k0_off295 v1803 k0_t1) a + S1x128.size a ≤ S6400x128.size a) ∧
  (∀ k0_t1 : Fin (k0_t1_loop v1803).trips, ∀ a, (k0_off296 v1803 k0_t1) a + S1.size a ≤ S6400.size a) ∧
  (∀ k0_t1 : Fin (k0_t1_loop v1803).trips, ∀ a, (k0_off298 v1803 k0_t1) a + S1x128.size a ≤ S6400x128.size a) ∧
  (∀ k0_t1 : Fin (k0_t1_loop v1803).trips, ∀ a, (k0_off299 v1803 k0_t1) a + S1.size a ≤ S6400.size a) ∧
  (∀ k0_t1 : Fin (k0_t1_loop v1803).trips, ∀ a, (k0_off301 v1803 k0_t1) a + S1x128.size a ≤ S6400x128.size a)
def k0_chk257_1 (v1803 : BitVec 32) : Prop :=
  (∀ k0_t1 : Fin (k0_t1_loop v1803).trips, ∀ a, (k0_off302 v1803 k0_t1) a + S1.size a ≤ S6400.size a) ∧
  (∀ k0_t1 : Fin (k0_t1_loop v1803).trips, ∀ a, (k0_off304 v1803 k0_t1) a + S1x128.size a ≤ S6400x128.size a) ∧
  (∀ k0_t1 : Fin (k0_t1_loop v1803).trips, ∀ a, (k0_off305 v1803 k0_t1) a + S1.size a ≤ S6400.size a) ∧
  (∀ k0_t1 : Fin (k0_t1_loop v1803).trips, ∀ a, (k0_off307 v1803 k0_t1) a + S1x128.size a ≤ S6400x128.size a) ∧
  (∀ k0_t1 : Fin (k0_t1_loop v1803).trips, ∀ a, (k0_off308 v1803 k0_t1) a + S1.size a ≤ S6400.size a) ∧
  (∀ k0_t1 : Fin (k0_t1_loop v1803).trips, ∀ a, (k0_off310 v1803 k0_t1) a + S1x128.size a ≤ S6400x128.size a) ∧
  (∀ k0_t1 : Fin (k0_t1_loop v1803).trips, ∀ a, (k0_off311 v1803 k0_t1) a + S1.size a ≤ S6400.size a) ∧
  (∀ k0_t1 : Fin (k0_t1_loop v1803).trips, ∀ a, (k0_off313 v1803 k0_t1) a + S1x128.size a ≤ S6400x128.size a) ∧
  (∀ k0_t1 : Fin (k0_t1_loop v1803).trips, ∀ a, (k0_off314 v1803 k0_t1) a + S1.size a ≤ S6400.size a) ∧
  (∀ k0_t1 : Fin (k0_t1_loop v1803).trips, ∀ a, (k0_off316 v1803 k0_t1) a + S1x128.size a ≤ S6400x128.size a) ∧
  (∀ k0_t1 : Fin (k0_t1_loop v1803).trips, ∀ a, (k0_off317 v1803 k0_t1) a + S1.size a ≤ S6400.size a) ∧
  (∀ k0_t1 : Fin (k0_t1_loop v1803).trips, ∀ a, (k0_off319 v1803 k0_t1) a + S1x128.size a ≤ S6400x128.size a) ∧
  (∀ k0_t1 : Fin (k0_t1_loop v1803).trips, ∀ a, (k0_off320 v1803 k0_t1) a + S1.size a ≤ S6400.size a) ∧
  (∀ k0_t1 : Fin (k0_t1_loop v1803).trips, ∀ a, (k0_off322 v1803 k0_t1) a + S1x128.size a ≤ S6400x128.size a) ∧
  (∀ k0_t1 : Fin (k0_t1_loop v1803).trips, ∀ a, (k0_off323 v1803 k0_t1) a + S1.size a ≤ S6400.size a) ∧
  (∀ k0_t1 : Fin (k0_t1_loop v1803).trips, ∀ a, (k0_off325 v1803 k0_t1) a + S1x128.size a ≤ S6400x128.size a) ∧
  (∀ k0_t1 : Fin (k0_t1_loop v1803).trips, ∀ a, (k0_off326 v1803 k0_t1) a + S1.size a ≤ S6400.size a) ∧
  (∀ k0_t1 : Fin (k0_t1_loop v1803).trips, ∀ a, (k0_off328 v1803 k0_t1) a + S1x128.size a ≤ S6400x128.size a) ∧
  (∀ k0_t1 : Fin (k0_t1_loop v1803).trips, ∀ a, (k0_off329 v1803 k0_t1) a + S1.size a ≤ S6400.size a) ∧
  (∀ k0_t1 : Fin (k0_t1_loop v1803).trips, ∀ a, (k0_off331 v1803 k0_t1) a + S1x128.size a ≤ S6400x128.size a) ∧
  (∀ k0_t1 : Fin (k0_t1_loop v1803).trips, ∀ a, (k0_off332 v1803 k0_t1) a + S1.size a ≤ S6400.size a) ∧
  (∀ k0_t1 : Fin (k0_t1_loop v1803).trips, ∀ a, (k0_off334 v1803 k0_t1) a + S1x128.size a ≤ S6400x128.size a) ∧
  (∀ k0_t1 : Fin (k0_t1_loop v1803).trips, ∀ a, (k0_off335 v1803 k0_t1) a + S1.size a ≤ S6400.size a) ∧
  (∀ k0_t1 : Fin (k0_t1_loop v1803).trips, ∀ a, (k0_off337 v1803 k0_t1) a + S1x128.size a ≤ S6400x128.size a) ∧
  (∀ k0_t1 : Fin (k0_t1_loop v1803).trips, ∀ a, (k0_off338 v1803 k0_t1) a + S1.size a ≤ S6400.size a) ∧
  (∀ k0_t1 : Fin (k0_t1_loop v1803).trips, ∀ a, (k0_off340 v1803 k0_t1) a + S1x128.size a ≤ S6400x128.size a) ∧
  (∀ k0_t1 : Fin (k0_t1_loop v1803).trips, ∀ a, (k0_off341 v1803 k0_t1) a + S1.size a ≤ S6400.size a) ∧
  (∀ k0_t1 : Fin (k0_t1_loop v1803).trips, ∀ a, (k0_off343 v1803 k0_t1) a + S1x128.size a ≤ S6400x128.size a) ∧
  (∀ k0_t1 : Fin (k0_t1_loop v1803).trips, ∀ a, (k0_off344 v1803 k0_t1) a + S1.size a ≤ S6400.size a) ∧
  (∀ k0_t1 : Fin (k0_t1_loop v1803).trips, ∀ a, (k0_off346 v1803 k0_t1) a + S1x128.size a ≤ S6400x128.size a) ∧
  (∀ k0_t1 : Fin (k0_t1_loop v1803).trips, ∀ a, (k0_off347 v1803 k0_t1) a + S1.size a ≤ S6400.size a) ∧
  (∀ k0_t1 : Fin (k0_t1_loop v1803).trips, ∀ a, (k0_off349 v1803 k0_t1) a + S1x128.size a ≤ S6400x128.size a)
def k0_chk257_2 (v1803 : BitVec 32) : Prop :=
  (∀ k0_t1 : Fin (k0_t1_loop v1803).trips, ∀ a, (k0_off350 v1803 k0_t1) a + S1.size a ≤ S6400.size a) ∧
  (∀ k0_t1 : Fin (k0_t1_loop v1803).trips, ∀ a, (k0_off352 v1803 k0_t1) a + S1x128.size a ≤ S6400x128.size a) ∧
  (∀ k0_t1 : Fin (k0_t1_loop v1803).trips, ∀ a, (k0_off353 v1803 k0_t1) a + S1.size a ≤ S6400.size a) ∧
  (∀ k0_t1 : Fin (k0_t1_loop v1803).trips, ∀ a, (k0_off355 v1803 k0_t1) a + S1x128.size a ≤ S6400x128.size a) ∧
  (∀ k0_t1 : Fin (k0_t1_loop v1803).trips, ∀ a, (k0_off356 v1803 k0_t1) a + S1.size a ≤ S6400.size a) ∧
  (∀ k0_t1 : Fin (k0_t1_loop v1803).trips, ∀ a, (k0_off358 v1803 k0_t1) a + S1x128.size a ≤ S6400x128.size a) ∧
  (∀ k0_t1 : Fin (k0_t1_loop v1803).trips, ∀ a, (k0_off359 v1803 k0_t1) a + S1.size a ≤ S6400.size a) ∧
  (∀ k0_t1 : Fin (k0_t1_loop v1803).trips, ∀ a, (k0_off361 v1803 k0_t1) a + S1x128.size a ≤ S6400x128.size a) ∧
  (∀ k0_t1 : Fin (k0_t1_loop v1803).trips, ∀ a, (k0_off362 v1803 k0_t1) a + S1.size a ≤ S6400.size a) ∧
  (∀ k0_t1 : Fin (k0_t1_loop v1803).trips, ∀ a, (k0_off364 v1803 k0_t1) a + S1x128.size a ≤ S6400x128.size a) ∧
  (∀ k0_t1 : Fin (k0_t1_loop v1803).trips, ∀ a, (k0_off365 v1803 k0_t1) a + S1.size a ≤ S6400.size a) ∧
  (∀ k0_t1 : Fin (k0_t1_loop v1803).trips, ∀ a, (k0_off367 v1803 k0_t1) a + S1x128.size a ≤ S6400x128.size a) ∧
  (∀ k0_t1 : Fin (k0_t1_loop v1803).trips, ∀ a, (k0_off368 v1803 k0_t1) a + S1.size a ≤ S6400.size a) ∧
  (∀ k0_t1 : Fin (k0_t1_loop v1803).trips, ∀ a, (k0_off370 v1803 k0_t1) a + S1x128.size a ≤ S6400x128.size a) ∧
  (∀ k0_t1 : Fin (k0_t1_loop v1803).trips, ∀ a, (k0_off371 v1803 k0_t1) a + S1.size a ≤ S6400.size a) ∧
  (∀ k0_t1 : Fin (k0_t1_loop v1803).trips, ∀ a, (k0_off373 v1803 k0_t1) a + S1x128.size a ≤ S6400x128.size a) ∧
  (∀ k0_t1 : Fin (k0_t1_loop v1803).trips, ∀ a, (k0_off374 v1803 k0_t1) a + S1.size a ≤ S6400.size a) ∧
  (∀ k0_t1 : Fin (k0_t1_loop v1803).trips, ∀ a, (k0_off376 v1803 k0_t1) a + S1x128.size a ≤ S6400x128.size a) ∧
  (∀ k0_t1 : Fin (k0_t1_loop v1803).trips, ∀ a, (k0_off377 v1803 k0_t1) a + S1.size a ≤ S6400.size a) ∧
  (∀ k0_t1 : Fin (k0_t1_loop v1803).trips, ∀ a, (k0_off379 v1803 k0_t1) a + S1x128.size a ≤ S6400x128.size a) ∧
  (∀ k0_t1 : Fin (k0_t1_loop v1803).trips, ∀ a, (k0_off380 v1803 k0_t1) a + S1.size a ≤ S6400.size a) ∧
  (∀ k0_t1 : Fin (k0_t1_loop v1803).trips, ∀ a, (k0_off382 v1803 k0_t1) a + S1x128.size a ≤ S6400x128.size a) ∧
  (∀ k0_t1 : Fin (k0_t1_loop v1803).trips, ∀ a, (k0_off383 v1803 k0_t1) a + S1.size a ≤ S6400.size a) ∧
  (∀ k0_t1 : Fin (k0_t1_loop v1803).trips, ∀ a, (k0_off385 v1803 k0_t1) a + S1x128.size a ≤ S6400x128.size a) ∧
  (∀ k0_t1 : Fin (k0_t1_loop v1803).trips, ∀ a, (k0_off386 v1803 k0_t1) a + S1.size a ≤ S6400.size a) ∧
  (∀ k0_t1 : Fin (k0_t1_loop v1803).trips, ∀ a, (k0_off388 v1803 k0_t1) a + S1x128.size a ≤ S6400x128.size a) ∧
  (∀ k0_t1 : Fin (k0_t1_loop v1803).trips, ∀ a, (k0_off389 v1803 k0_t1) a + S1.size a ≤ S6400.size a) ∧
  (∀ k0_t1 : Fin (k0_t1_loop v1803).trips, ∀ a, (k0_off391 v1803 k0_t1) a + S1x128.size a ≤ S6400x128.size a) ∧
  (∀ k0_t1 : Fin (k0_t1_loop v1803).trips, ∀ a, (k0_off392 v1803 k0_t1) a + S1.size a ≤ S6400.size a) ∧
  (∀ k0_t1 : Fin (k0_t1_loop v1803).trips, ∀ a, (k0_off394 v1803 k0_t1) a + S1x128.size a ≤ S6400x128.size a) ∧
  (∀ k0_t1 : Fin (k0_t1_loop v1803).trips, ∀ a, (k0_off395 v1803 k0_t1) a + S1.size a ≤ S6400.size a) ∧
  (∀ k0_t1 : Fin (k0_t1_loop v1803).trips, ∀ a, (k0_off397 v1803 k0_t1) a + S1x128.size a ≤ S6400x128.size a)
def k0_chk257_3 (v1803 : BitVec 32) : Prop :=
  (∀ k0_t1 : Fin (k0_t1_loop v1803).trips, ∀ a, (k0_off398 v1803 k0_t1) a + S1.size a ≤ S6400.size a) ∧
  (∀ k0_t1 : Fin (k0_t1_loop v1803).trips, ∀ a, (k0_off400 v1803 k0_t1) a + S1x128.size a ≤ S6400x128.size a) ∧
  (∀ k0_t1 : Fin (k0_t1_loop v1803).trips, ∀ a, (k0_off401 v1803 k0_t1) a + S1.size a ≤ S6400.size a) ∧
  (∀ k0_t1 : Fin (k0_t1_loop v1803).trips, ∀ a, (k0_off403 v1803 k0_t1) a + S1x128.size a ≤ S6400x128.size a) ∧
  (∀ k0_t1 : Fin (k0_t1_loop v1803).trips, ∀ a, (k0_off404 v1803 k0_t1) a + S1.size a ≤ S6400.size a) ∧
  (∀ k0_t1 : Fin (k0_t1_loop v1803).trips, ∀ a, (k0_off406 v1803 k0_t1) a + S1x128.size a ≤ S6400x128.size a) ∧
  (∀ k0_t1 : Fin (k0_t1_loop v1803).trips, ∀ a, (k0_off407 v1803 k0_t1) a + S1.size a ≤ S6400.size a) ∧
  (∀ k0_t1 : Fin (k0_t1_loop v1803).trips, ∀ a, (k0_off409 v1803 k0_t1) a + S1x128.size a ≤ S6400x128.size a) ∧
  (∀ k0_t1 : Fin (k0_t1_loop v1803).trips, ∀ a, (k0_off410 v1803 k0_t1) a + S1.size a ≤ S6400.size a) ∧
  (∀ k0_t1 : Fin (k0_t1_loop v1803).trips, ∀ a, (k0_off412 v1803 k0_t1) a + S1x128.size a ≤ S6400x128.size a) ∧
  (∀ k0_t1 : Fin (k0_t1_loop v1803).trips, ∀ a, (k0_off413 v1803 k0_t1) a + S1.size a ≤ S6400.size a) ∧
  (∀ k0_t1 : Fin (k0_t1_loop v1803).trips, ∀ a, (k0_off415 v1803 k0_t1) a + S1x128.size a ≤ S6400x128.size a) ∧
  (∀ k0_t1 : Fin (k0_t1_loop v1803).trips, ∀ a, (k0_off416 v1803 k0_t1) a + S1.size a ≤ S6400.size a) ∧
  (∀ k0_t1 : Fin (k0_t1_loop v1803).trips, ∀ a, (k0_off418 v1803 k0_t1) a + S1x128.size a ≤ S6400x128.size a) ∧
  (∀ k0_t1 : Fin (k0_t1_loop v1803).trips, ∀ a, (k0_off419 v1803 k0_t1) a + S1.size a ≤ S6400.size a) ∧
  (∀ k0_t1 : Fin (k0_t1_loop v1803).trips, ∀ a, (k0_off421 v1803 k0_t1) a + S1x128.size a ≤ S6400x128.size a) ∧
  (∀ k0_t1 : Fin (k0_t1_loop v1803).trips, ∀ a, (k0_off422 v1803 k0_t1) a + S1.size a ≤ S6400.size a) ∧
  (∀ k0_t1 : Fin (k0_t1_loop v1803).trips, ∀ a, (k0_off424 v1803 k0_t1) a + S1x128.size a ≤ S6400x128.size a) ∧
  (∀ k0_t1 : Fin (k0_t1_loop v1803).trips, ∀ a, (k0_off425 v1803 k0_t1) a + S1.size a ≤ S6400.size a) ∧
  (∀ k0_t1 : Fin (k0_t1_loop v1803).trips, ∀ a, (k0_off427 v1803 k0_t1) a + S1x128.size a ≤ S6400x128.size a) ∧
  (∀ k0_t1 : Fin (k0_t1_loop v1803).trips, ∀ a, (k0_off428 v1803 k0_t1) a + S1.size a ≤ S6400.size a) ∧
  (∀ k0_t1 : Fin (k0_t1_loop v1803).trips, ∀ a, (k0_off430 v1803 k0_t1) a + S1x128.size a ≤ S6400x128.size a) ∧
  (∀ k0_t1 : Fin (k0_t1_loop v1803).trips, ∀ a, (k0_off431 v1803 k0_t1) a + S1.size a ≤ S6400.size a) ∧
  (∀ k0_t1 : Fin (k0_t1_loop v1803).trips, ∀ a, (k0_off433 v1803 k0_t1) a + S1x128.size a ≤ S6400x128.size a) ∧
  (∀ k0_t1 : Fin (k0_t1_loop v1803).trips, ∀ a, (k0_off434 v1803 k0_t1) a + S1.size a ≤ S6400.size a) ∧
  (∀ k0_t1 : Fin (k0_t1_loop v1803).trips, ∀ a, (k0_off436 v1803 k0_t1) a + S1x128.size a ≤ S6400x128.size a) ∧
  (∀ k0_t1 : Fin (k0_t1_loop v1803).trips, ∀ a, (k0_off437 v1803 k0_t1) a + S1.size a ≤ S6400.size a) ∧
  (∀ k0_t1 : Fin (k0_t1_loop v1803).trips, ∀ a, (k0_off439 v1803 k0_t1) a + S1x128.size a ≤ S6400x128.size a) ∧
  (∀ k0_t1 : Fin (k0_t1_loop v1803).trips, ∀ a, (k0_off440 v1803 k0_t1) a + S1.size a ≤ S6400.size a) ∧
  (∀ k0_t1 : Fin (k0_t1_loop v1803).trips, ∀ a, (k0_off442 v1803 k0_t1) a + S1x128.size a ≤ S6400x128.size a) ∧
  (∀ k0_t1 : Fin (k0_t1_loop v1803).trips, ∀ a, (k0_off443 v1803 k0_t1) a + S1.size a ≤ S6400.size a) ∧
  (∀ k0_t1 : Fin (k0_t1_loop v1803).trips, ∀ a, (k0_off445 v1803 k0_t1) a + S1x128.size a ≤ S6400x128.size a)
def k0_chk257_4 (v1803 : BitVec 32) : Prop :=
  (∀ k0_t1 : Fin (k0_t1_loop v1803).trips, ∀ a, (k0_off446 v1803 k0_t1) a + S1.size a ≤ S6400.size a) ∧
  (∀ k0_t1 : Fin (k0_t1_loop v1803).trips, ∀ a, (k0_off448 v1803 k0_t1) a + S1x128.size a ≤ S6400x128.size a) ∧
  (∀ k0_t1 : Fin (k0_t1_loop v1803).trips, ∀ a, (k0_off449 v1803 k0_t1) a + S1.size a ≤ S6400.size a) ∧
  (∀ k0_t1 : Fin (k0_t1_loop v1803).trips, ∀ a, (k0_off451 v1803 k0_t1) a + S1x128.size a ≤ S6400x128.size a) ∧
  (∀ k0_t1 : Fin (k0_t1_loop v1803).trips, ∀ a, (k0_off452 v1803 k0_t1) a + S1.size a ≤ S6400.size a) ∧
  (∀ k0_t1 : Fin (k0_t1_loop v1803).trips, ∀ a, (k0_off454 v1803 k0_t1) a + S1x128.size a ≤ S6400x128.size a) ∧
  (∀ k0_t1 : Fin (k0_t1_loop v1803).trips, ∀ a, (k0_off455 v1803 k0_t1) a + S1.size a ≤ S6400.size a) ∧
  (∀ k0_t1 : Fin (k0_t1_loop v1803).trips, ∀ a, (k0_off457 v1803 k0_t1) a + S1x128.size a ≤ S6400x128.size a) ∧
  (∀ k0_t1 : Fin (k0_t1_loop v1803).trips, ∀ a, (k0_off458 v1803 k0_t1) a + S1.size a ≤ S6400.size a) ∧
  (∀ k0_t1 : Fin (k0_t1_loop v1803).trips, ∀ a, (k0_off460 v1803 k0_t1) a + S1x128.size a ≤ S6400x128.size a) ∧
  (∀ k0_t1 : Fin (k0_t1_loop v1803).trips, ∀ a, (k0_off461 v1803 k0_t1) a + S1.size a ≤ S6400.size a) ∧
  (∀ k0_t1 : Fin (k0_t1_loop v1803).trips, ∀ a, (k0_off463 v1803 k0_t1) a + S1x128.size a ≤ S6400x128.size a) ∧
  (∀ k0_t1 : Fin (k0_t1_loop v1803).trips, ∀ a, (k0_off464 v1803 k0_t1) a + S1.size a ≤ S6400.size a) ∧
  (∀ k0_t1 : Fin (k0_t1_loop v1803).trips, ∀ a, (k0_off466 v1803 k0_t1) a + S1x128.size a ≤ S6400x128.size a) ∧
  (∀ k0_t1 : Fin (k0_t1_loop v1803).trips, ∀ a, (k0_off467 v1803 k0_t1) a + S1.size a ≤ S6400.size a) ∧
  (∀ k0_t1 : Fin (k0_t1_loop v1803).trips, ∀ a, (k0_off469 v1803 k0_t1) a + S1x128.size a ≤ S6400x128.size a) ∧
  (∀ k0_t1 : Fin (k0_t1_loop v1803).trips, ∀ a, (k0_off470 v1803 k0_t1) a + S1.size a ≤ S6400.size a) ∧
  (∀ k0_t1 : Fin (k0_t1_loop v1803).trips, ∀ a, (k0_off472 v1803 k0_t1) a + S1x128.size a ≤ S6400x128.size a) ∧
  (∀ k0_t1 : Fin (k0_t1_loop v1803).trips, ∀ a, (k0_off473 v1803 k0_t1) a + S1.size a ≤ S6400.size a) ∧
  (∀ k0_t1 : Fin (k0_t1_loop v1803).trips, ∀ a, (k0_off475 v1803 k0_t1) a + S1x128.size a ≤ S6400x128.size a) ∧
  (∀ k0_t1 : Fin (k0_t1_loop v1803).trips, ∀ a, (k0_off476 v1803 k0_t1) a + S1.size a ≤ S6400.size a) ∧
  (∀ k0_t1 : Fin (k0_t1_loop v1803).trips, ∀ a, (k0_off478 v1803 k0_t1) a + S1x128.size a ≤ S6400x128.size a) ∧
  (∀ k0_t1 : Fin (k0_t1_loop v1803).trips, ∀ a, (k0_off479 v1803 k0_t1) a + S1.size a ≤ S6400.size a) ∧
  (∀ k0_t1 : Fin (k0_t1_loop v1803).trips, ∀ a, (k0_off481 v1803 k0_t1) a + S1x128.size a ≤ S6400x128.size a) ∧
  (∀ k0_t1 : Fin (k0_t1_loop v1803).trips, ∀ a, (k0_off482 v1803 k0_t1) a + S1.size a ≤ S6400.size a) ∧
  (∀ k0_t1 : Fin (k0_t1_loop v1803).trips, ∀ a, (k0_off484 v1803 k0_t1) a + S1x128.size a ≤ S6400x128.size a) ∧
  (∀ k0_t1 : Fin (k0_t1_loop v1803).trips, ∀ a, (k0_off485 v1803 k0_t1) a + S1.size a ≤ S6400.size a) ∧
  (∀ k0_t1 : Fin (k0_t1_loop v1803).trips, ∀ a, (k0_off487 v1803 k0_t1) a + S1x128.size a ≤ S6400x128.size a) ∧
  (∀ k0_t1 : Fin (k0_t1_loop v1803).trips, ∀ a, (k0_off488 v1803 k0_t1) a + S1.size a ≤ S6400.size a) ∧
  (∀ k0_t1 : Fin (k0_t1_loop v1803).trips, ∀ a, (k0_off490 v1803 k0_t1) a + S1x128.size a ≤ S6400x128.size a) ∧
  (∀ k0_t1 : Fin (k0_t1_loop v1803).trips, ∀ a, (k0_off491 v1803 k0_t1) a + S1.size a ≤ S6400.size a) ∧
  (∀ k0_t1 : Fin (k0_t1_loop v1803).trips, ∀ a, (k0_off493 v1803 k0_t1) a + S1x128.size a ≤ S6400x128.size a)
def k0_chk257_5 (v1803 : BitVec 32) : Prop :=
  (∀ k0_t1 : Fin (k0_t1_loop v1803).trips, ∀ a, (k0_off494 v1803 k0_t1) a + S1.size a ≤ S6400.size a) ∧
  (∀ k0_t1 : Fin (k0_t1_loop v1803).trips, ∀ a, (k0_off496 v1803 k0_t1) a + S1x128.size a ≤ S6400x128.size a) ∧
  (∀ k0_t1 : Fin (k0_t1_loop v1803).trips, ∀ a, (k0_off497 v1803 k0_t1) a + S1.size a ≤ S6400.size a) ∧
  (∀ k0_t1 : Fin (k0_t1_loop v1803).trips, ∀ a, (k0_off499 v1803 k0_t1) a + S1x128.size a ≤ S6400x128.size a) ∧
  (∀ k0_t1 : Fin (k0_t1_loop v1803).trips, ∀ a, (k0_off500 v1803 k0_t1) a + S1.size a ≤ S6400.size a) ∧
  (∀ k0_t1 : Fin (k0_t1_loop v1803).trips, ∀ a, (k0_off502 v1803 k0_t1) a + S1x128.size a ≤ S6400x128.size a) ∧
  (∀ k0_t1 : Fin (k0_t1_loop v1803).trips, ∀ a, (k0_off503 v1803 k0_t1) a + S1.size a ≤ S6400.size a) ∧
  (∀ k0_t1 : Fin (k0_t1_loop v1803).trips, ∀ a, (k0_off505 v1803 k0_t1) a + S1x128.size a ≤ S6400x128.size a) ∧
  (∀ k0_t1 : Fin (k0_t1_loop v1803).trips, ∀ a, (k0_off506 v1803 k0_t1) a + S1.size a ≤ S6400.size a) ∧
  (∀ k0_t1 : Fin (k0_t1_loop v1803).trips, ∀ a, (k0_off508 v1803 k0_t1) a + S1x128.size a ≤ S6400x128.size a) ∧
  (∀ k0_t1 : Fin (k0_t1_loop v1803).trips, ∀ a, (k0_off509 v1803 k0_t1) a + S1.size a ≤ S6400.size a) ∧
  (∀ k0_t1 : Fin (k0_t1_loop v1803).trips, ∀ a, (k0_off511 v1803 k0_t1) a + S1x128.size a ≤ S6400x128.size a) ∧
  (∀ k0_t1 : Fin (k0_t1_loop v1803).trips, ∀ a, (k0_off512 v1803 k0_t1) a + S1.size a ≤ S6400.size a) ∧
  (∀ k0_t1 : Fin (k0_t1_loop v1803).trips, ∀ a, (k0_off514 v1803 k0_t1) a + S1x128.size a ≤ S6400x128.size a) ∧
  (∀ k0_t1 : Fin (k0_t1_loop v1803).trips, ∀ a, (k0_off515 v1803 k0_t1) a + S1.size a ≤ S6400.size a) ∧
  (∀ k0_t1 : Fin (k0_t1_loop v1803).trips, ∀ a, (k0_off517 v1803 k0_t1) a + S1x128.size a ≤ S6400x128.size a) ∧
  (∀ k0_t1 : Fin (k0_t1_loop v1803).trips, ∀ a, (k0_off518 v1803 k0_t1) a + S1.size a ≤ S6400.size a) ∧
  (∀ k0_t1 : Fin (k0_t1_loop v1803).trips, ∀ a, (k0_off520 v1803 k0_t1) a + S1x128.size a ≤ S6400x128.size a) ∧
  (∀ k0_t1 : Fin (k0_t1_loop v1803).trips, ∀ a, (k0_off521 v1803 k0_t1) a + S1.size a ≤ S6400.size a) ∧
  (∀ k0_t1 : Fin (k0_t1_loop v1803).trips, ∀ a, (k0_off523 v1803 k0_t1) a + S1x128.size a ≤ S6400x128.size a) ∧
  (∀ k0_t1 : Fin (k0_t1_loop v1803).trips, ∀ a, (k0_off524 v1803 k0_t1) a + S1.size a ≤ S6400.size a) ∧
  (∀ k0_t1 : Fin (k0_t1_loop v1803).trips, ∀ a, (k0_off526 v1803 k0_t1) a + S1x128.size a ≤ S6400x128.size a) ∧
  (∀ k0_t1 : Fin (k0_t1_loop v1803).trips, ∀ a, (k0_off527 v1803 k0_t1) a + S1.size a ≤ S6400.size a) ∧
  (∀ k0_t1 : Fin (k0_t1_loop v1803).trips, ∀ a, (k0_off529 v1803 k0_t1) a + S1x128.size a ≤ S6400x128.size a) ∧
  (∀ k0_t1 : Fin (k0_t1_loop v1803).trips, ∀ a, (k0_off530 v1803 k0_t1) a + S1.size a ≤ S6400.size a) ∧
  (∀ k0_t1 : Fin (k0_t1_loop v1803).trips, ∀ a, (k0_off532 v1803 k0_t1) a + S1x128.size a ≤ S6400x128.size a) ∧
  (∀ k0_t1 : Fin (k0_t1_loop v1803).trips, ∀ a, (k0_off533 v1803 k0_t1) a + S1.size a ≤ S6400.size a) ∧
  (∀ k0_t1 : Fin (k0_t1_loop v1803).trips, ∀ a, (k0_off535 v1803 k0_t1) a + S1x128.size a ≤ S6400x128.size a) ∧
  (∀ k0_t1 : Fin (k0_t1_loop v1803).trips, ∀ a, (k0_off536 v1803 k0_t1) a + S1.size a ≤ S6400.size a) ∧
  (∀ k0_t1 : Fin (k0_t1_loop v1803).trips, ∀ a, (k0_off538 v1803 k0_t1) a + S1x128.size a ≤ S6400x128.size a) ∧
  (∀ k0_t1 : Fin (k0_t1_loop v1803).trips, ∀ a, (k0_off539 v1803 k0_t1) a + S1.size a ≤ S6400.size a) ∧
  (∀ k0_t1 : Fin (k0_t1_loop v1803).trips, ∀ a, (k0_off541 v1803 k0_t1) a + S1x128.size a ≤ S6400x128.size a)
def k0_chk257_6 (v1803 : BitVec 32) : Prop :=
  (∀ k0_t1 : Fin (k0_t1_loop v1803).trips, ∀ a, (k0_off542 v1803 k0_t1) a + S1.size a ≤ S6400.size a) ∧
  (∀ k0_t1 : Fin (k0_t1_loop v1803).trips, ∀ a, (k0_off544 v1803 k0_t1) a + S1x128.size a ≤ S6400x128.size a) ∧
  (∀ k0_t1 : Fin (k0_t1_loop v1803).trips, ∀ a, (k0_off545 v1803 k0_t1) a + S1.size a ≤ S6400.size a) ∧
  (∀ k0_t1 : Fin (k0_t1_loop v1803).trips, ∀ a, (k0_off547 v1803 k0_t1) a + S1x128.size a ≤ S6400x128.size a) ∧
  (∀ k0_t1 : Fin (k0_t1_loop v1803).trips, ∀ a, (k0_off548 v1803 k0_t1) a + S1.size a ≤ S6400.size a) ∧
  (∀ k0_t1 : Fin (k0_t1_loop v1803).trips, ∀ a, (k0_off550 v1803 k0_t1) a + S1x128.size a ≤ S6400x128.size a) ∧
  (∀ k0_t1 : Fin (k0_t1_loop v1803).trips, ∀ a, (k0_off551 v1803 k0_t1) a + S1.size a ≤ S6400.size a) ∧
  (∀ k0_t1 : Fin (k0_t1_loop v1803).trips, ∀ a, (k0_off553 v1803 k0_t1) a + S1x128.size a ≤ S6400x128.size a) ∧
  (∀ k0_t1 : Fin (k0_t1_loop v1803).trips, ∀ a, (k0_off554 v1803 k0_t1) a + S1.size a ≤ S6400.size a) ∧
  (∀ k0_t1 : Fin (k0_t1_loop v1803).trips, ∀ a, (k0_off556 v1803 k0_t1) a + S1x128.size a ≤ S6400x128.size a) ∧
  (∀ k0_t1 : Fin (k0_t1_loop v1803).trips, ∀ a, (k0_off557 v1803 k0_t1) a + S1.size a ≤ S6400.size a) ∧
  (∀ k0_t1 : Fin (k0_t1_loop v1803).trips, ∀ a, (k0_off559 v1803 k0_t1) a + S1x128.size a ≤ S6400x128.size a) ∧
  (∀ k0_t1 : Fin (k0_t1_loop v1803).trips, ∀ a, (k0_off560 v1803 k0_t1) a + S1.size a ≤ S6400.size a) ∧
  (∀ k0_t1 : Fin (k0_t1_loop v1803).trips, ∀ a, (k0_off562 v1803 k0_t1) a + S1x128.size a ≤ S6400x128.size a) ∧
  (∀ k0_t1 : Fin (k0_t1_loop v1803).trips, ∀ a, (k0_off563 v1803 k0_t1) a + S1.size a ≤ S6400.size a) ∧
  (∀ k0_t1 : Fin (k0_t1_loop v1803).trips, ∀ a, (k0_off565 v1803 k0_t1) a + S1x128.size a ≤ S6400x128.size a) ∧
  (∀ k0_t1 : Fin (k0_t1_loop v1803).trips, ∀ a, (k0_off566 v1803 k0_t1) a + S1.size a ≤ S6400.size a) ∧
  (∀ k0_t1 : Fin (k0_t1_loop v1803).trips, ∀ a, (k0_off568 v1803 k0_t1) a + S1x128.size a ≤ S6400x128.size a) ∧
  (∀ k0_t1 : Fin (k0_t1_loop v1803).trips, ∀ a, (k0_off569 v1803 k0_t1) a + S1.size a ≤ S6400.size a) ∧
  (∀ k0_t1 : Fin (k0_t1_loop v1803).trips, ∀ a, (k0_off571 v1803 k0_t1) a + S1x128.size a ≤ S6400x128.size a) ∧
  (∀ k0_t1 : Fin (k0_t1_loop v1803).trips, ∀ a, (k0_off572 v1803 k0_t1) a + S1.size a ≤ S6400.size a) ∧
  (∀ k0_t1 : Fin (k0_t1_loop v1803).trips, ∀ a, (k0_off574 v1803 k0_t1) a + S1x128.size a ≤ S6400x128.size a) ∧
  (∀ k0_t1 : Fin (k0_t1_loop v1803).trips, ∀ a, (k0_off575 v1803 k0_t1) a + S1.size a ≤ S6400.size a) ∧
  (∀ k0_t1 : Fin (k0_t1_loop v1803).trips, ∀ a, (k0_off577 v1803 k0_t1) a + S1x128.size a ≤ S6400x128.size a) ∧
  (∀ k0_t1 : Fin (k0_t1_loop v1803).trips, ∀ a, (k0_off578 v1803 k0_t1) a + S1.size a ≤ S6400.size a) ∧
  (∀ k0_t1 : Fin (k0_t1_loop v1803).trips, ∀ a, (k0_off580 v1803 k0_t1) a + S1x128.size a ≤ S6400x128.size a) ∧
  (∀ k0_t1 : Fin (k0_t1_loop v1803).trips, ∀ a, (k0_off581 v1803 k0_t1) a + S1.size a ≤ S6400.size a) ∧
  (∀ k0_t1 : Fin (k0_t1_loop v1803).trips, ∀ a, (k0_off583 v1803 k0_t1) a + S1x128.size a ≤ S6400x128.size a) ∧
  (∀ k0_t1 : Fin (k0_t1_loop v1803).trips, ∀ a, (k0_off584 v1803 k0_t1) a + S1.size a ≤ S6400.size a) ∧
  (∀ k0_t1 : Fin (k0_t1_loop v1803).trips, ∀ a, (k0_off586 v1803 k0_t1) a + S1x128.size a ≤ S6400x128.size a) ∧
  (∀ k0_t1 : Fin (k0_t1_loop v1803).trips, ∀ a, (k0_off587 v1803 k0_t1) a + S1.size a ≤ S6400.size a) ∧
  (∀ k0_t1 : Fin (k0_t1_loop v1803).trips, ∀ a, (k0_off589 v1803 k0_t1) a + S1x128.size a ≤ S6400x128.size a)
def k0_chk257_7 (v1803 : BitVec 32) : Prop :=
  (∀ k0_t1 : Fin (k0_t1_loop v1803).trips, ∀ a, (k0_off590 v1803 k0_t1) a + S1.size a ≤ S6400.size a) ∧
  (∀ k0_t1 : Fin (k0_t1_loop v1803).trips, ∀ a, (k0_off592 v1803 k0_t1) a + S1x128.size a ≤ S6400x128.size a) ∧
  (∀ k0_t1 : Fin (k0_t1_loop v1803).trips, ∀ a, (k0_off593 v1803 k0_t1) a + S1.size a ≤ S6400.size a) ∧
  (∀ k0_t1 : Fin (k0_t1_loop v1803).trips, ∀ a, (k0_off595 v1803 k0_t1) a + S1x128.size a ≤ S6400x128.size a) ∧
  (∀ k0_t1 : Fin (k0_t1_loop v1803).trips, ∀ a, (k0_off596 v1803 k0_t1) a + S1.size a ≤ S6400.size a) ∧
  (∀ k0_t1 : Fin (k0_t1_loop v1803).trips, ∀ a, (k0_off598 v1803 k0_t1) a + S1x128.size a ≤ S6400x128.size a) ∧
  (∀ k0_t1 : Fin (k0_t1_loop v1803).trips, ∀ a, (k0_off599 v1803 k0_t1) a + S1.size a ≤ S6400.size a) ∧
  (∀ k0_t1 : Fin (k0_t1_loop v1803).trips, ∀ a, (k0_off601 v1803 k0_t1) a + S1x128.size a ≤ S6400x128.size a) ∧
  (∀ k0_t1 : Fin (k0_t1_loop v1803).trips, ∀ a, (k0_off602 v1803 k0_t1) a + S1.size a ≤ S6400.size a) ∧
  (∀ k0_t1 : Fin (k0_t1_loop v1803).trips, ∀ a, (k0_off604 v1803 k0_t1) a + S1x128.size a ≤ S6400x128.size a) ∧
  (∀ k0_t1 : Fin (k0_t1_loop v1803).trips, ∀ a, (k0_off605 v1803 k0_t1) a + S1.size a ≤ S6400.size a) ∧
  (∀ k0_t1 : Fin (k0_t1_loop v1803).trips, ∀ a, (k0_off607 v1803 k0_t1) a + S1x128.size a ≤ S6400x128.size a) ∧
  (∀ k0_t1 : Fin (k0_t1_loop v1803).trips, ∀ a, (k0_off608 v1803 k0_t1) a + S1.size a ≤ S6400.size a) ∧
  (∀ k0_t1 : Fin (k0_t1_loop v1803).trips, ∀ a, (k0_off610 v1803 k0_t1) a + S1x128.size a ≤ S6400x128.size a) ∧
  (∀ k0_t1 : Fin (k0_t1_loop v1803).trips, ∀ a, (k0_off611 v1803 k0_t1) a + S1.size a ≤ S6400.size a) ∧
  (∀ k0_t1 : Fin (k0_t1_loop v1803).trips, ∀ a, (k0_off613 v1803 k0_t1) a + S1x128.size a ≤ S6400x128.size a) ∧
  (∀ k0_t1 : Fin (k0_t1_loop v1803).trips, ∀ a, (k0_off614 v1803 k0_t1) a + S1.size a ≤ S6400.size a) ∧
  (∀ k0_t1 : Fin (k0_t1_loop v1803).trips, ∀ a, (k0_off616 v1803 k0_t1) a + S1x128.size a ≤ S6400x128.size a) ∧
  (∀ k0_t1 : Fin (k0_t1_loop v1803).trips, ∀ a, (k0_off617 v1803 k0_t1) a + S1.size a ≤ S6400.size a) ∧
  (∀ k0_t1 : Fin (k0_t1_loop v1803).trips, ∀ a, (k0_off619 v1803 k0_t1) a + S1x128.size a ≤ S6400x128.size a) ∧
  (∀ k0_t1 : Fin (k0_t1_loop v1803).trips, ∀ a, (k0_off620 v1803 k0_t1) a + S1.size a ≤ S6400.size a) ∧
  (∀ k0_t1 : Fin (k0_t1_loop v1803).trips, ∀ a, (k0_off622 v1803 k0_t1) a + S1x128.size a ≤ S6400x128.size a) ∧
  (∀ k0_t1 : Fin (k0_t1_loop v1803).trips, ∀ a, (k0_off623 v1803 k0_t1) a + S1.size a ≤ S6400.size a) ∧
  (∀ k0_t1 : Fin (k0_t1_loop v1803).trips, ∀ a, (k0_off625 v1803 k0_t1) a + S1x128.size a ≤ S6400x128.size a) ∧
  (∀ k0_t1 : Fin (k0_t1_loop v1803).trips, ∀ a, (k0_off626 v1803 k0_t1) a + S1.size a ≤ S6400.size a) ∧
  (∀ k0_t1 : Fin (k0_t1_loop v1803).trips, ∀ a, (k0_off628 v1803 k0_t1) a + S1x128.size a ≤ S6400x128.size a) ∧
  (∀ k0_t1 : Fin (k0_t1_loop v1803).trips, ∀ a, (k0_off629 v1803 k0_t1) a + S1.size a ≤ S6400.size a) ∧
  (∀ k0_t1 : Fin (k0_t1_loop v1803).trips, ∀ a, (k0_off631 v1803 k0_t1) a + S1x128.size a ≤ S6400x128.size a) ∧
  (∀ k0_t1 : Fin (k0_t1_loop v1803).trips, ∀ a, (k0_off632 v1803 k0_t1) a + S1.size a ≤ S6400.size a) ∧
  (∀ k0_t1 : Fin (k0_t1_loop v1803).trips, ∀ a, (k0_off634 v1803 k0_t1) a + S1x128.size a ≤ S6400x128.size a) ∧
  (∀ k0_t1 : Fin (k0_t1_loop v1803).trips, ∀ a, (k0_off635 v1803 k0_t1) a + S1.size a ≤ S6400.size a) ∧
  (∀ k0_t1 : Fin (k0_t1_loop v1803).trips, ∀ a, (k0_off637 v1803 k0_t1) a + S1x128.size a ≤ S6400x128.size a)
def k0_chk257_8 (v1803 : BitVec 32) : Prop :=
  (∀ k0_t1 : Fin (k0_t1_loop v1803).trips, ∀ a, (k0_off638 v1803 k0_t1) a + S1.size a ≤ S6400.size a) ∧
  (∀ k0_t1 : Fin (k0_t1_loop v1803).trips, ∀ a, (k0_off640 v1803 k0_t1) a + S1x128.size a ≤ S6400x128.size a) ∧
  ((k0_t2_loop v1803).OK) ∧
  (∀ k0_t2 : Fin (k0_t2_loop v1803).trips, 128 ∣ (k0_mult2 v1803 k0_t2).toNat) ∧
  (∀ k0_t2 : Fin (k0_t2_loop v1803).trips, ∀ a, (k0_off641 v1803 k0_t2) a + S1.size a ≤ S6400.size a) ∧
  (∀ k0_t2 : Fin (k0_t2_loop v1803).trips, ∀ a, (k0_off643 v1803 k0_t2) a + S1x128.size a ≤ S6400x128.size a) ∧
  (∀ k0_t2 : Fin (k0_t2_loop v1803).trips, ∀ a, (k0_off644 v1803 k0_t2) a + S1.size a ≤ S6400.size a) ∧
  (∀ k0_t2 : Fin (k0_t2_loop v1803).trips, ∀ a, (k0_off646 v1803 k0_t2) a + S1x128.size a ≤ S6400x128.size a) ∧
  (∀ k0_t2 : Fin (k0_t2_loop v1803).trips, ∀ a, (k0_off647 v1803 k0_t2) a + S1.size a ≤ S6400.size a) ∧
  (∀ k0_t2 : Fin (k0_t2_loop v1803).trips, ∀ a, (k0_off649 v1803 k0_t2) a + S1x128.size a ≤ S6400x128.size a) ∧
  (∀ k0_t2 : Fin (k0_t2_loop v1803).trips, ∀ a, (k0_off650 v1803 k0_t2) a + S1.size a ≤ S6400.size a) ∧
  (∀ k0_t2 : Fin (k0_t2_loop v1803).trips, ∀ a, (k0_off652 v1803 k0_t2) a + S1x128.size a ≤ S6400x128.size a) ∧
  (∀ k0_t2 : Fin (k0_t2_loop v1803).trips, ∀ a, (k0_off653 v1803 k0_t2) a + S1.size a ≤ S6400.size a) ∧
  (∀ k0_t2 : Fin (k0_t2_loop v1803).trips, ∀ a, (k0_off655 v1803 k0_t2) a + S1x128.size a ≤ S6400x128.size a) ∧
  (∀ k0_t2 : Fin (k0_t2_loop v1803).trips, ∀ a, (k0_off656 v1803 k0_t2) a + S1.size a ≤ S6400.size a) ∧
  (∀ k0_t2 : Fin (k0_t2_loop v1803).trips, ∀ a, (k0_off658 v1803 k0_t2) a + S1x128.size a ≤ S6400x128.size a) ∧
  (∀ k0_t2 : Fin (k0_t2_loop v1803).trips, ∀ a, (k0_off659 v1803 k0_t2) a + S1.size a ≤ S6400.size a) ∧
  (∀ k0_t2 : Fin (k0_t2_loop v1803).trips, ∀ a, (k0_off661 v1803 k0_t2) a + S1x128.size a ≤ S6400x128.size a) ∧
  (∀ k0_t2 : Fin (k0_t2_loop v1803).trips, ∀ a, (k0_off662 v1803 k0_t2) a + S1.size a ≤ S6400.size a) ∧
  (∀ k0_t2 : Fin (k0_t2_loop v1803).trips, ∀ a, (k0_off664 v1803 k0_t2) a + S1x128.size a ≤ S6400x128.size a) ∧
  (∀ k0_t2 : Fin (k0_t2_loop v1803).trips, ∀ a, (k0_off665 v1803 k0_t2) a + S1.size a ≤ S6400.size a) ∧
  (∀ k0_t2 : Fin (k0_t2_loop v1803).trips, ∀ a, (k0_off667 v1803 k0_t2) a + S1x128.size a ≤ S6400x128.size a) ∧
  (∀ k0_t2 : Fin (k0_t2_loop v1803).trips, ∀ a, (k0_off668 v1803 k0_t2) a + S1.size a ≤ S6400.size a) ∧
  (∀ k0_t2 : Fin (k0_t2_loop v1803).trips, ∀ a, (k0_off670 v1803 k0_t2) a + S1x128.size a ≤ S6400x128.size a) ∧
  (∀ k0_t2 : Fin (k0_t2_loop v1803).trips, ∀ a, (k0_off671 v1803 k0_t2) a + S1.size a ≤ S6400.size a) ∧
  (∀ k0_t2 : Fin (k0_t2_loop v1803).trips, ∀ a, (k0_off673 v1803 k0_t2) a + S1x128.size a ≤ S6400x128.size a) ∧
  (∀ k0_t2 : Fin (k0_t2_loop v1803).trips, ∀ a, (k0_off674 v1803 k0_t2) a + S1.size a ≤ S6400.size a) ∧
  (∀ k0_t2 : Fin (k0_t2_loop v1803).trips, ∀ a, (k0_off676 v1803 k0_t2) a + S1x128.size a ≤ S6400x128.size a) ∧
  (∀ k0_t2 : Fin (k0_t2_loop v1803).trips, ∀ a, (k0_off677 v1803 k0_t2) a + S1.size a ≤ S6400.size a) ∧
  (∀ k0_t2 : Fin (k0_t2_loop v1803).trips, ∀ a, (k0_off679 v1803 k0_t2) a + S1x128.size a ≤ S6400x128.size a) ∧
  (∀ k0_t2 : Fin (k0_t2_loop v1803).trips, ∀ a, (k0_off680 v1803 k0_t2) a + S1.size a ≤ S6400.size a) ∧
  (∀ k0_t2 : Fin (k0_t2_loop v1803).trips, ∀ a, (k0_off682 v1803 k0_t2) a + S1x128.size a ≤ S6400x128.size a)
def k0_chk257_9 (v1803 : BitVec 32) : Prop :=
  (∀ k0_t2 : Fin (k0_t2_loop v1803).trips, ∀ a, (k0_off683 v1803 k0_t2) a + S1.size a ≤ S6400.size a) ∧
  (∀ k0_t2 : Fin (k0_t2_loop v1803).trips, ∀ a, (k0_off685 v1803 k0_t2) a + S1x128.size a ≤ S6400x128.size a) ∧
  (∀ k0_t2 : Fin (k0_t2_loop v1803).trips, ∀ a, (k0_off686 v1803 k0_t2) a + S1.size a ≤ S6400.size a) ∧
  (∀ k0_t2 : Fin (k0_t2_loop v1803).trips, ∀ a, (k0_off688 v1803 k0_t2) a + S1x128.size a ≤ S6400x128.size a) ∧
  (∀ k0_t2 : Fin (k0_t2_loop v1803).trips, ∀ a, (k0_off689 v1803 k0_t2) a + S1.size a ≤ S6400.size a) ∧
  (∀ k0_t2 : Fin (k0_t2_loop v1803).trips, ∀ a, (k0_off691 v1803 k0_t2) a + S1x128.size a ≤ S6400x128.size a) ∧
  (∀ k0_t2 : Fin (k0_t2_loop v1803).trips, ∀ a, (k0_off692 v1803 k0_t2) a + S1.size a ≤ S6400.size a) ∧
  (∀ k0_t2 : Fin (k0_t2_loop v1803).trips, ∀ a, (k0_off694 v1803 k0_t2) a + S1x128.size a ≤ S6400x128.size a) ∧
  (∀ k0_t2 : Fin (k0_t2_loop v1803).trips, ∀ a, (k0_off695 v1803 k0_t2) a + S1.size a ≤ S6400.size a) ∧
  (∀ k0_t2 : Fin (k0_t2_loop v1803).trips, ∀ a, (k0_off697 v1803 k0_t2) a + S1x128.size a ≤ S6400x128.size a) ∧
  (∀ k0_t2 : Fin (k0_t2_loop v1803).trips, ∀ a, (k0_off698 v1803 k0_t2) a + S1.size a ≤ S6400.size a) ∧
  (∀ k0_t2 : Fin (k0_t2_loop v1803).trips, ∀ a, (k0_off700 v1803 k0_t2) a + S1x128.size a ≤ S6400x128.size a) ∧
  (∀ k0_t2 : Fin (k0_t2_loop v1803).trips, ∀ a, (k0_off701 v1803 k0_t2) a + S1.size a ≤ S6400.size a) ∧
  (∀ k0_t2 : Fin (k0_t2_loop v1803).trips, ∀ a, (k0_off703 v1803 k0_t2) a + S1x128.size a ≤ S6400x128.size a) ∧
  (∀ k0_t2 : Fin (k0_t2_loop v1803).trips, ∀ a, (k0_off704 v1803 k0_t2) a + S1.size a ≤ S6400.size a) ∧
  (∀ k0_t2 : Fin (k0_t2_loop v1803).trips, ∀ a, (k0_off706 v1803 k0_t2) a + S1x128.size a ≤ S6400x128.size a) ∧
  (∀ k0_t2 : Fin (k0_t2_loop v1803).trips, ∀ a, (k0_off707 v1803 k0_t2) a + S1.size a ≤ S6400.size a) ∧
  (∀ k0_t2 : Fin (k0_t2_loop v1803).trips, ∀ a, (k0_off709 v1803 k0_t2) a + S1x128.size a ≤ S6400x128.size a) ∧
  (∀ k0_t2 : Fin (k0_t2_loop v1803).trips, ∀ a, (k0_off710 v1803 k0_t2) a + S1.size a ≤ S6400.size a) ∧
  (∀ k0_t2 : Fin (k0_t2_loop v1803).trips, ∀ a, (k0_off712 v1803 k0_t2) a + S1x128.size a ≤ S6400x128.size a) ∧
  (∀ k0_t2 : Fin (k0_t2_loop v1803).trips, ∀ a, (k0_off713 v1803 k0_t2) a + S1.size a ≤ S6400.size a) ∧
  (∀ k0_t2 : Fin (k0_t2_loop v1803).trips, ∀ a, (k0_off715 v1803 k0_t2) a + S1x128.size a ≤ S6400x128.size a) ∧
  (∀ k0_t2 : Fin (k0_t2_loop v1803).trips, ∀ a, (k0_off716 v1803 k0_t2) a + S1.size a ≤ S6400.size a) ∧
  (∀ k0_t2 : Fin (k0_t2_loop v1803).trips, ∀ a, (k0_off718 v1803 k0_t2) a + S1x128.size a ≤ S6400x128.size a) ∧
  (∀ k0_t2 : Fin (k0_t2_loop v1803).trips, ∀ a, (k0_off719 v1803 k0_t2) a + S1.size a ≤ S6400.size a) ∧
  (∀ k0_t2 : Fin (k0_t2_loop v1803).trips, ∀ a, (k0_off721 v1803 k0_t2) a + S1x128.size a ≤ S6400x128.size a) ∧
  (∀ k0_t2 : Fin (k0_t2_loop v1803).trips, ∀ a, (k0_off722 v1803 k0_t2) a + S1.size a ≤ S6400.size a) ∧
  (∀ k0_t2 : Fin (k0_t2_loop v1803).trips, ∀ a, (k0_off724 v1803 k0_t2) a + S1x128.size a ≤ S6400x128.size a) ∧
  (∀ k0_t2 : Fin (k0_t2_loop v1803).trips, ∀ a, (k0_off725 v1803 k0_t2) a + S1.size a ≤ S6400.size a) ∧
  (∀ k0_t2 : Fin (k0_t2_loop v1803).trips, ∀ a, (k0_off727 v1803 k0_t2) a + S1x128.size a ≤ S6400x128.size a) ∧
  (∀ k0_t2 : Fin (k0_t2_loop v1803).trips, ∀ a, (k0_off728 v1803 k0_t2) a + S1.size a ≤ S6400.size a) ∧
  (∀ k0_t2 : Fin (k0_t2_loop v1803).trips, ∀ a, (k0_off730 v1803 k0_t2) a + S1x128.size a ≤ S6400x128.size a)
def k0_chk257_10 (v1803 : BitVec 32) : Prop :=
  (∀ k0_t2 : Fin (k0_t2_loop v1803).trips, ∀ a, (k0_off731 v1803 k0_t2) a + S1.size a ≤ S6400.size a) ∧
  (∀ k0_t2 : Fin (k0_t2_loop v1803).trips, ∀ a, (k0_off733 v1803 k0_t2) a + S1x128.size a ≤ S6400x128.size a) ∧
  (∀ k0_t2 : Fin (k0_t2_loop v1803).trips, ∀ a, (k0_off734 v1803 k0_t2) a + S1.size a ≤ S6400.size a) ∧
  (∀ k0_t2 : Fin (k0_t2_loop v1803).trips, ∀ a, (k0_off736 v1803 k0_t2) a + S1x128.size a ≤ S6400x128.size a) ∧
  (∀ k0_t2 : Fin (k0_t2_loop v1803).trips, ∀ a, (k0_off737 v1803 k0_t2) a + S1.size a ≤ S6400.size a) ∧
  (∀ k0_t2 : Fin (k0_t2_loop v1803).trips, ∀ a, (k0_off739 v1803 k0_t2) a + S1x128.size a ≤ S6400x128.size a) ∧
  (∀ k0_t2 : Fin (k0_t2_loop v1803).trips, ∀ a, (k0_off740 v1803 k0_t2) a + S1.size a ≤ S6400.size a) ∧
  (∀ k0_t2 : Fin (k0_t2_loop v1803).trips, ∀ a, (k0_off742 v1803 k0_t2) a + S1x128.size a ≤ S6400x128.size a) ∧
  (∀ k0_t2 : Fin (k0_t2_loop v1803).trips, ∀ a, (k0_off743 v1803 k0_t2) a + S1.size a ≤ S6400.size a) ∧
  (∀ k0_t2 : Fin (k0_t2_loop v1803).trips, ∀ a, (k0_off745 v1803 k0_t2) a + S1x128.size a ≤ S6400x128.size a) ∧
  (∀ k0_t2 : Fin (k0_t2_loop v1803).trips, ∀ a, (k0_off746 v1803 k0_t2) a + S1.size a ≤ S6400.size a) ∧
  (∀ k0_t2 : Fin (k0_t2_loop v1803).trips, ∀ a, (k0_off748 v1803 k0_t2) a + S1x128.size a ≤ S6400x128.size a) ∧
  (∀ k0_t2 : Fin (k0_t2_loop v1803).trips, ∀ a, (k0_off749 v1803 k0_t2) a + S1.size a ≤ S6400.size a) ∧
  (∀ k0_t2 : Fin (k0_t2_loop v1803).trips, ∀ a, (k0_off751 v1803 k0_t2) a + S1x128.size a ≤ S6400x128.size a) ∧
  (∀ k0_t2 : Fin (k0_t2_loop v1803).trips, ∀ a, (k0_off752 v1803 k0_t2) a + S1.size a ≤ S6400.size a) ∧
  (∀ k0_t2 : Fin (k0_t2_loop v1803).trips, ∀ a, (k0_off754 v1803 k0_t2) a + S1x128.size a ≤ S6400x128.size a) ∧
  (∀ k0_t2 : Fin (k0_t2_loop v1803).trips, ∀ a, (k0_off755 v1803 k0_t2) a + S1.size a ≤ S6400.size a) ∧
  (∀ k0_t2 : Fin (k0_t2_loop v1803).trips, ∀ a, (k0_off757 v1803 k0_t2) a + S1x128.size a ≤ S6400x128.size a) ∧
  (∀ k0_t2 : Fin (k0_t2_loop v1803).trips, ∀ a, (k0_off758 v1803 k0_t2) a + S1.size a ≤ S6400.size a) ∧
  (∀ k0_t2 : Fin (k0_t2_loop v1803).trips, ∀ a, (k0_off760 v1803 k0_t2) a + S1x128.size a ≤ S6400x128.size a) ∧
  (∀ k0_t2 : Fin (k0_t2_loop v1803).trips, ∀ a, (k0_off761 v1803 k0_t2) a + S1.size a ≤ S6400.size a) ∧
  (∀ k0_t2 : Fin (k0_t2_loop v1803).trips, ∀ a, (k0_off763 v1803 k0_t2) a + S1x128.size a ≤ S6400x128.size a) ∧
  (∀ k0_t2 : Fin (k0_t2_loop v1803).trips, ∀ a, (k0_off764 v1803 k0_t2) a + S1.size a ≤ S6400.size a) ∧
  (∀ k0_t2 : Fin (k0_t2_loop v1803).trips, ∀ a, (k0_off766 v1803 k0_t2) a + S1x128.size a ≤ S6400x128.size a) ∧
  (∀ k0_t2 : Fin (k0_t2_loop v1803).trips, ∀ a, (k0_off767 v1803 k0_t2) a + S1.size a ≤ S6400.size a) ∧
  (∀ k0_t2 : Fin (k0_t2_loop v1803).trips, ∀ a, (k0_off769 v1803 k0_t2) a + S1x128.size a ≤ S6400x128.size a) ∧
  (∀ k0_t2 : Fin (k0_t2_loop v1803).trips, ∀ a, (k0_off770 v1803 k0_t2) a + S1.size a ≤ S6400.size a) ∧
  (∀ k0_t2 : Fin (k0_t2_loop v1803).trips, ∀ a, (k0_off772 v1803 k0_t2) a + S1x128.size a ≤ S6400x128.size a) ∧
  (∀ k0_t2 : Fin (k0_t2_loop v1803).trips, ∀ a, (k0_off773 v1803 k0_t2) a + S1.size a ≤ S6400.size a) ∧
  (∀ k0_t2 : Fin (k0_t2_loop v1803).trips, ∀ a, (k0_off775 v1803 k0_t2) a + S1x128.size a ≤ S6400x128.size a) ∧
  (∀ k0_t2 : Fin (k0_t2_loop v1803).trips, ∀ a, (k0_off776 v1803 k0_t2) a + S1.size a ≤ S6400.size a) ∧
  (∀ k0_t2 : Fin (k0_t2_loop v1803).trips, ∀ a, (k0_off778 v1803 k0_t2) a + S1x128.size a ≤ S6400x128.size a)
def k0_chk257_11 (v1803 : BitVec 32) : Prop :=
  (∀ k0_t2 : Fin (k0_t2_loop v1803).trips, ∀ a, (k0_off779 v1803 k0_t2) a + S1.size a ≤ S6400.size a) ∧
  (∀ k0_t2 : Fin (k0_t2_loop v1803).trips, ∀ a, (k0_off781 v1803 k0_t2) a + S1x128.size a ≤ S6400x128.size a) ∧
  (∀ k0_t2 : Fin (k0_t2_loop v1803).trips, ∀ a, (k0_off782 v1803 k0_t2) a + S1.size a ≤ S6400.size a) ∧
  (∀ k0_t2 : Fin (k0_t2_loop v1803).trips, ∀ a, (k0_off784 v1803 k0_t2) a + S1x128.size a ≤ S6400x128.size a) ∧
  (∀ k0_t2 : Fin (k0_t2_loop v1803).trips, ∀ a, (k0_off785 v1803 k0_t2) a + S1.size a ≤ S6400.size a) ∧
  (∀ k0_t2 : Fin (k0_t2_loop v1803).trips, ∀ a, (k0_off787 v1803 k0_t2) a + S1x128.size a ≤ S6400x128.size a) ∧
  (∀ k0_t2 : Fin (k0_t2_loop v1803).trips, ∀ a, (k0_off788 v1803 k0_t2) a + S1.size a ≤ S6400.size a) ∧
  (∀ k0_t2 : Fin (k0_t2_loop v1803).trips, ∀ a, (k0_off790 v1803 k0_t2) a + S1x128.size a ≤ S6400x128.size a) ∧
  (∀ k0_t2 : Fin (k0_t2_loop v1803).trips, ∀ a, (k0_off791 v1803 k0_t2) a + S1.size a ≤ S6400.size a) ∧
  (∀ k0_t2 : Fin (k0_t2_loop v1803).trips, ∀ a, (k0_off793 v1803 k0_t2) a + S1x128.size a ≤ S6400x128.size a) ∧
  (∀ k0_t2 : Fin (k0_t2_loop v1803).trips, ∀ a, (k0_off794 v1803 k0_t2) a + S1.size a ≤ S6400.size a) ∧
  (∀ k0_t2 : Fin (k0_t2_loop v1803).trips, ∀ a, (k0_off796 v1803 k0_t2) a + S1x128.size a ≤ S6400x128.size a) ∧
  (∀ k0_t2 : Fin (k0_t2_loop v1803).trips, ∀ a, (k0_off797 v1803 k0_t2) a + S1.size a ≤ S6400.size a) ∧
  (∀ k0_t2 : Fin (k0_t2_loop v1803).trips, ∀ a, (k0_off799 v1803 k0_t2) a + S1x128.size a ≤ S6400x128.size a) ∧
  (∀ k0_t2 : Fin (k0_t2_loop v1803).trips, ∀ a, (k0_off800 v1803 k0_t2) a + S1.size a ≤ S6400.size a) ∧
  (∀ k0_t2 : Fin (k0_t2_loop v1803).trips, ∀ a, (k0_off802 v1803 k0_t2) a + S1x128.size a ≤ S6400x128.size a) ∧
  (∀ k0_t2 : Fin (k0_t2_loop v1803).trips, ∀ a, (k0_off803 v1803 k0_t2) a + S1.size a ≤ S6400.size a) ∧
  (∀ k0_t2 : Fin (k0_t2_loop v1803).trips, ∀ a, (k0_off805 v1803 k0_t2) a + S1x128.size a ≤ S6400x128.size a) ∧
  (∀ k0_t2 : Fin (k0_t2_loop v1803).trips, ∀ a, (k0_off806 v1803 k0_t2) a + S1.size a ≤ S6400.size a) ∧
  (∀ k0_t2 : Fin (k0_t2_loop v1803).trips, ∀ a, (k0_off808 v1803 k0_t2) a + S1x128.size a ≤ S6400x128.size a) ∧
  (∀ k0_t2 : Fin (k0_t2_loop v1803).trips, ∀ a, (k0_off809 v1803 k0_t2) a + S1.size a ≤ S6400.size a) ∧
  (∀ k0_t2 : Fin (k0_t2_loop v1803).trips, ∀ a, (k0_off811 v1803 k0_t2) a + S1x128.size a ≤ S6400x128.size a) ∧
  (∀ k0_t2 : Fin (k0_t2_loop v1803).trips, ∀ a, (k0_off812 v1803 k0_t2) a + S1.size a ≤ S6400.size a) ∧
  (∀ k0_t2 : Fin (k0_t2_loop v1803).trips, ∀ a, (k0_off814 v1803 k0_t2) a + S1x128.size a ≤ S6400x128.size a) ∧
  (∀ k0_t2 : Fin (k0_t2_loop v1803).trips, ∀ a, (k0_off815 v1803 k0_t2) a + S1.size a ≤ S6400.size a) ∧
  (∀ k0_t2 : Fin (k0_t2_loop v1803).trips, ∀ a, (k0_off817 v1803 k0_t2) a + S1x128.size a ≤ S6400x128.size a) ∧
  (∀ k0_t2 : Fin (k0_t2_loop v1803).trips, ∀ a, (k0_off818 v1803 k0_t2) a + S1.size a ≤ S6400.size a) ∧
  (∀ k0_t2 : Fin (k0_t2_loop v1803).trips, ∀ a, (k0_off820 v1803 k0_t2) a + S1x128.size a ≤ S6400x128.size a) ∧
  (∀ k0_t2 : Fin (k0_t2_loop v1803).trips, ∀ a, (k0_off821 v1803 k0_t2) a + S1.size a ≤ S6400.size a) ∧
  (∀ k0_t2 : Fin (k0_t2_loop v1803).trips, ∀ a, (k0_off823 v1803 k0_t2) a + S1x128.size a ≤ S6400x128.size a) ∧
  (∀ k0_t2 : Fin (k0_t2_loop v1803).trips, ∀ a, (k0_off824 v1803 k0_t2) a + S1.size a ≤ S6400.size a) ∧
  (∀ k0_t2 : Fin (k0_t2_loop v1803).trips, ∀ a, (k0_off826 v1803 k0_t2) a + S1x128.size a ≤ S6400x128.size a)
def k0_chk257_12 (v1803 : BitVec 32) : Prop :=
  (∀ k0_t2 : Fin (k0_t2_loop v1803).trips, ∀ a, (k0_off827 v1803 k0_t2) a + S1.size a ≤ S6400.size a) ∧
  (∀ k0_t2 : Fin (k0_t2_loop v1803).trips, ∀ a, (k0_off829 v1803 k0_t2) a + S1x128.size a ≤ S6400x128.size a) ∧
  (∀ k0_t2 : Fin (k0_t2_loop v1803).trips, ∀ a, (k0_off830 v1803 k0_t2) a + S1.size a ≤ S6400.size a) ∧
  (∀ k0_t2 : Fin (k0_t2_loop v1803).trips, ∀ a, (k0_off832 v1803 k0_t2) a + S1x128.size a ≤ S6400x128.size a) ∧
  (∀ k0_t2 : Fin (k0_t2_loop v1803).trips, ∀ a, (k0_off833 v1803 k0_t2) a + S1.size a ≤ S6400.size a) ∧
  (∀ k0_t2 : Fin (k0_t2_loop v1803).trips, ∀ a, (k0_off835 v1803 k0_t2) a + S1x128.size a ≤ S6400x128.size a) ∧
  (∀ k0_t2 : Fin (k0_t2_loop v1803).trips, ∀ a, (k0_off836 v1803 k0_t2) a + S1.size a ≤ S6400.size a) ∧
  (∀ k0_t2 : Fin (k0_t2_loop v1803).trips, ∀ a, (k0_off838 v1803 k0_t2) a + S1x128.size a ≤ S6400x128.size a) ∧
  (∀ k0_t2 : Fin (k0_t2_loop v1803).trips, ∀ a, (k0_off839 v1803 k0_t2) a + S1.size a ≤ S6400.size a) ∧
  (∀ k0_t2 : Fin (k0_t2_loop v1803).trips, ∀ a, (k0_off841 v1803 k0_t2) a + S1x128.size a ≤ S6400x128.size a) ∧
  (∀ k0_t2 : Fin (k0_t2_loop v1803).trips, ∀ a, (k0_off842 v1803 k0_t2) a + S1.size a ≤ S6400.size a) ∧
  (∀ k0_t2 : Fin (k0_t2_loop v1803).trips, ∀ a, (k0_off844 v1803 k0_t2) a + S1x128.size a ≤ S6400x128.size a) ∧
  (∀ k0_t2 : Fin (k0_t2_loop v1803).trips, ∀ a, (k0_off845 v1803 k0_t2) a + S1.size a ≤ S6400.size a) ∧
  (∀ k0_t2 : Fin (k0_t2_loop v1803).trips, ∀ a, (k0_off847 v1803 k0_t2) a + S1x128.size a ≤ S6400x128.size a) ∧
  (∀ k0_t2 : Fin (k0_t2_loop v1803).trips, ∀ a, (k0_off848 v1803 k0_t2) a + S1.size a ≤ S6400.size a) ∧
  (∀ k0_t2 : Fin (k0_t2_loop v1803).trips, ∀ a, (k0_off850 v1803 k0_t2) a + S1x128.size a ≤ S6400x128.size a) ∧
  (∀ k0_t2 : Fin (k0_t2_loop v1803).trips, ∀ a, (k0_off851 v1803 k0_t2) a + S1.size a ≤ S6400.size a) ∧
  (∀ k0_t2 : Fin (k0_t2_loop v1803).trips, ∀ a, (k0_off853 v1803 k0_t2) a + S1x128.size a ≤ S6400x128.size a) ∧
  (∀ k0_t2 : Fin (k0_t2_loop v1803).trips, ∀ a, (k0_off854 v1803 k0_t2) a + S1.size a ≤ S6400.size a) ∧
  (∀ k0_t2 : Fin (k0_t2_loop v1803).trips, ∀ a, (k0_off856 v1803 k0_t2) a + S1x128.size a ≤ S6400x128.size a) ∧
  (∀ k0_t2 : Fin (k0_t2_loop v1803).trips, ∀ a, (k0_off857 v1803 k0_t2) a + S1.size a ≤ S6400.size a) ∧
  (∀ k0_t2 : Fin (k0_t2_loop v1803).trips, ∀ a, (k0_off859 v1803 k0_t2) a + S1x128.size a ≤ S6400x128.size a) ∧
  (∀ k0_t2 : Fin (k0_t2_loop v1803).trips, ∀ a, (k0_off860 v1803 k0_t2) a + S1.size a ≤ S6400.size a) ∧
  (∀ k0_t2 : Fin (k0_t2_loop v1803).trips, ∀ a, (k0_off862 v1803 k0_t2) a + S1x128.size a ≤ S6400x128.size a) ∧
  (∀ k0_t2 : Fin (k0_t2_loop v1803).trips, ∀ a, (k0_off863 v1803 k0_t2) a + S1.size a ≤ S6400.size a) ∧
  (∀ k0_t2 : Fin (k0_t2_loop v1803).trips, ∀ a, (k0_off865 v1803 k0_t2) a + S1x128.size a ≤ S6400x128.size a) ∧
  (∀ k0_t2 : Fin (k0_t2_loop v1803).trips, ∀ a, (k0_off866 v1803 k0_t2) a + S1.size a ≤ S6400.size a) ∧
  (∀ k0_t2 : Fin (k0_t2_loop v1803).trips, ∀ a, (k0_off868 v1803 k0_t2) a + S1x128.size a ≤ S6400x128.size a) ∧
  (∀ k0_t2 : Fin (k0_t2_loop v1803).trips, ∀ a, (k0_off869 v1803 k0_t2) a + S1.size a ≤ S6400.size a) ∧
  (∀ k0_t2 : Fin (k0_t2_loop v1803).trips, ∀ a, (k0_off871 v1803 k0_t2) a + S1x128.size a ≤ S6400x128.size a) ∧
  (∀ k0_t2 : Fin (k0_t2_loop v1803).trips, ∀ a, (k0_off872 v1803 k0_t2) a + S1.size a ≤ S6400.size a) ∧
  (∀ k0_t2 : Fin (k0_t2_loop v1803).trips, ∀ a, (k0_off874 v1803 k0_t2) a + S1x128.size a ≤ S6400x128.size a)
def k0_chk257_13 (v1803 : BitVec 32) : Prop :=
  (∀ k0_t2 : Fin (k0_t2_loop v1803).trips, ∀ a, (k0_off875 v1803 k0_t2) a + S1.size a ≤ S6400.size a) ∧
  (∀ k0_t2 : Fin (k0_t2_loop v1803).trips, ∀ a, (k0_off877 v1803 k0_t2) a + S1x128.size a ≤ S6400x128.size a) ∧
  (∀ k0_t2 : Fin (k0_t2_loop v1803).trips, ∀ a, (k0_off878 v1803 k0_t2) a + S1.size a ≤ S6400.size a) ∧
  (∀ k0_t2 : Fin (k0_t2_loop v1803).trips, ∀ a, (k0_off880 v1803 k0_t2) a + S1x128.size a ≤ S6400x128.size a) ∧
  (∀ k0_t2 : Fin (k0_t2_loop v1803).trips, ∀ a, (k0_off881 v1803 k0_t2) a + S1.size a ≤ S6400.size a) ∧
  (∀ k0_t2 : Fin (k0_t2_loop v1803).trips, ∀ a, (k0_off883 v1803 k0_t2) a + S1x128.size a ≤ S6400x128.size a) ∧
  (∀ k0_t2 : Fin (k0_t2_loop v1803).trips, ∀ a, (k0_off884 v1803 k0_t2) a + S1.size a ≤ S6400.size a) ∧
  (∀ k0_t2 : Fin (k0_t2_loop v1803).trips, ∀ a, (k0_off886 v1803 k0_t2) a + S1x128.size a ≤ S6400x128.size a) ∧
  (∀ k0_t2 : Fin (k0_t2_loop v1803).trips, ∀ a, (k0_off887 v1803 k0_t2) a + S1.size a ≤ S6400.size a) ∧
  (∀ k0_t2 : Fin (k0_t2_loop v1803).trips, ∀ a, (k0_off889 v1803 k0_t2) a + S1x128.size a ≤ S6400x128.size a) ∧
  (∀ k0_t2 : Fin (k0_t2_loop v1803).trips, ∀ a, (k0_off890 v1803 k0_t2) a + S1.size a ≤ S6400.size a) ∧
  (∀ k0_t2 : Fin (k0_t2_loop v1803).trips, ∀ a, (k0_off892 v1803 k0_t2) a + S1x128.size a ≤ S6400x128.size a) ∧
  (∀ k0_t2 : Fin (k0_t2_loop v1803).trips, ∀ a, (k0_off893 v1803 k0_t2) a + S1.size a ≤ S6400.size a) ∧
  (∀ k0_t2 : Fin (k0_t2_loop v1803).trips, ∀ a, (k0_off895 v1803 k0_t2) a + S1x128.size a ≤ S6400x128.size a) ∧
  (∀ k0_t2 : Fin (k0_t2_loop v1803).trips, ∀ a, (k0_off896 v1803 k0_t2) a + S1.size a ≤ S6400.size a) ∧
  (∀ k0_t2 : Fin (k0_t2_loop v1803).trips, ∀ a, (k0_off898 v1803 k0_t2) a + S1x128.size a ≤ S6400x128.size a) ∧
  (∀ k0_t2 : Fin (k0_t2_loop v1803).trips, ∀ a, (k0_off899 v1803 k0_t2) a + S1.size a ≤ S6400.size a) ∧
  (∀ k0_t2 : Fin (k0_t2_loop v1803).trips, ∀ a, (k0_off901 v1803 k0_t2) a + S1x128.size a ≤ S6400x128.size a) ∧
  (∀ k0_t2 : Fin (k0_t2_loop v1803).trips, ∀ a, (k0_off902 v1803 k0_t2) a + S1.size a ≤ S6400.size a) ∧
  (∀ k0_t2 : Fin (k0_t2_loop v1803).trips, ∀ a, (k0_off904 v1803 k0_t2) a + S1x128.size a ≤ S6400x128.size a) ∧
  (∀ k0_t2 : Fin (k0_t2_loop v1803).trips, ∀ a, (k0_off905 v1803 k0_t2) a + S1.size a ≤ S6400.size a) ∧
  (∀ k0_t2 : Fin (k0_t2_loop v1803).trips, ∀ a, (k0_off907 v1803 k0_t2) a + S1x128.size a ≤ S6400x128.size a) ∧
  (∀ k0_t2 : Fin (k0_t2_loop v1803).trips, ∀ a, (k0_off908 v1803 k0_t2) a + S1.size a ≤ S6400.size a) ∧
  (∀ k0_t2 : Fin (k0_t2_loop v1803).trips, ∀ a, (k0_off910 v1803 k0_t2) a + S1x128.size a ≤ S6400x128.size a) ∧
  (∀ k0_t2 : Fin (k0_t2_loop v1803).trips, ∀ a, (k0_off911 v1803 k0_t2) a + S1.size a ≤ S6400.size a) ∧
  (∀ k0_t2 : Fin (k0_t2_loop v1803).trips, ∀ a, (k0_off913 v1803 k0_t2) a + S1x128.size a ≤ S6400x128.size a) ∧
  (∀ k0_t2 : Fin (k0_t2_loop v1803).trips, ∀ a, (k0_off914 v1803 k0_t2) a + S1.size a ≤ S6400.size a) ∧
  (∀ k0_t2 : Fin (k0_t2_loop v1803).trips, ∀ a, (k0_off916 v1803 k0_t2) a + S1x128.size a ≤ S6400x128.size a) ∧
  (∀ k0_t2 : Fin (k0_t2_loop v1803).trips, ∀ a, (k0_off917 v1803 k0_t2) a + S1.size a ≤ S6400.size a) ∧
  (∀ k0_t2 : Fin (k0_t2_loop v1803).trips, ∀ a, (k0_off919 v1803 k0_t2) a + S1x128.size a ≤ S6400x128.size a) ∧
  (∀ k0_t2 : Fin (k0_t2_loop v1803).trips, ∀ a, (k0_off920 v1803 k0_t2) a + S1.size a ≤ S6400.size a) ∧
  (∀ k0_t2 : Fin (k0_t2_loop v1803).trips, ∀ a, (k0_off922 v1803 k0_t2) a + S1x128.size a ≤ S6400x128.size a)
def k0_chk257_14 (v1803 : BitVec 32) : Prop :=
  (∀ k0_t2 : Fin (k0_t2_loop v1803).trips, ∀ a, (k0_off923 v1803 k0_t2) a + S1.size a ≤ S6400.size a) ∧
  (∀ k0_t2 : Fin (k0_t2_loop v1803).trips, ∀ a, (k0_off925 v1803 k0_t2) a + S1x128.size a ≤ S6400x128.size a) ∧
  (∀ k0_t2 : Fin (k0_t2_loop v1803).trips, ∀ a, (k0_off926 v1803 k0_t2) a + S1.size a ≤ S6400.size a) ∧
  (∀ k0_t2 : Fin (k0_t2_loop v1803).trips, ∀ a, (k0_off928 v1803 k0_t2) a + S1x128.size a ≤ S6400x128.size a) ∧
  (∀ k0_t2 : Fin (k0_t2_loop v1803).trips, ∀ a, (k0_off929 v1803 k0_t2) a + S1.size a ≤ S6400.size a) ∧
  (∀ k0_t2 : Fin (k0_t2_loop v1803).trips, ∀ a, (k0_off931 v1803 k0_t2) a + S1x128.size a ≤ S6400x128.size a) ∧
  (∀ k0_t2 : Fin (k0_t2_loop v1803).trips, ∀ a, (k0_off932 v1803 k0_t2) a + S1.size a ≤ S6400.size a) ∧
  (∀ k0_t2 : Fin (k0_t2_loop v1803).trips, ∀ a, (k0_off934 v1803 k0_t2) a + S1x128.size a ≤ S6400x128.size a) ∧
  (∀ k0_t2 : Fin (k0_t2_loop v1803).trips, ∀ a, (k0_off935 v1803 k0_t2) a + S1.size a ≤ S6400.size a) ∧
  (∀ k0_t2 : Fin (k0_t2_loop v1803).trips, ∀ a, (k0_off937 v1803 k0_t2) a + S1x128.size a ≤ S6400x128.size a) ∧
  (∀ k0_t2 : Fin (k0_t2_loop v1803).trips, ∀ a, (k0_off938 v1803 k0_t2) a + S1.size a ≤ S6400.size a) ∧
  (∀ k0_t2 : Fin (k0_t2_loop v1803).trips, ∀ a, (k0_off940 v1803 k0_t2) a + S1x128.size a ≤ S6400x128.size a) ∧
  (∀ k0_t2 : Fin (k0_t2_loop v1803).trips, ∀ a, (k0_off941 v1803 k0_t2) a + S1.size a ≤ S6400.size a) ∧
  (∀ k0_t2 : Fin (k0_t2_loop v1803).trips, ∀ a, (k0_off943 v1803 k0_t2) a + S1x128.size a ≤ S6400x128.size a) ∧
  (∀ k0_t2 : Fin (k0_t2_loop v1803).trips, ∀ a, (k0_off944 v1803 k0_t2) a + S1.size a ≤ S6400.size a) ∧
  (∀ k0_t2 : Fin (k0_t2_loop v1803).trips, ∀ a, (k0_off946 v1803 k0_t2) a + S1x128.size a ≤ S6400x128.size a) ∧
  (∀ k0_t2 : Fin (k0_t2_loop v1803).trips, ∀ a, (k0_off947 v1803 k0_t2) a + S1.size a ≤ S6400.size a) ∧
  (∀ k0_t2 : Fin (k0_t2_loop v1803).trips, ∀ a, (k0_off949 v1803 k0_t2) a + S1x128.size a ≤ S6400x128.size a) ∧
  (∀ k0_t2 : Fin (k0_t2_loop v1803).trips, ∀ a, (k0_off950 v1803 k0_t2) a + S1.size a ≤ S6400.size a) ∧
  (∀ k0_t2 : Fin (k0_t2_loop v1803).trips, ∀ a, (k0_off952 v1803 k0_t2) a + S1x128.size a ≤ S6400x128.size a) ∧
  (∀ k0_t2 : Fin (k0_t2_loop v1803).trips, ∀ a, (k0_off953 v1803 k0_t2) a + S1.size a ≤ S6400.size a) ∧
  (∀ k0_t2 : Fin (k0_t2_loop v1803).trips, ∀ a, (k0_off955 v1803 k0_t2) a + S1x128.size a ≤ S6400x128.size a) ∧
  (∀ k0_t2 : Fin (k0_t2_loop v1803).trips, ∀ a, (k0_off956 v1803 k0_t2) a + S1.size a ≤ S6400.size a) ∧
  (∀ k0_t2 : Fin (k0_t2_loop v1803).trips, ∀ a, (k0_off958 v1803 k0_t2) a + S1x128.size a ≤ S6400x128.size a) ∧
  (∀ k0_t2 : Fin (k0_t2_loop v1803).trips, ∀ a, (k0_off959 v1803 k0_t2) a + S1.size a ≤ S6400.size a) ∧
  (∀ k0_t2 : Fin (k0_t2_loop v1803).trips, ∀ a, (k0_off961 v1803 k0_t2) a + S1x128.size a ≤ S6400x128.size a) ∧
  (∀ k0_t2 : Fin (k0_t2_loop v1803).trips, ∀ a, (k0_off962 v1803 k0_t2) a + S1.size a ≤ S6400.size a) ∧
  (∀ k0_t2 : Fin (k0_t2_loop v1803).trips, ∀ a, (k0_off964 v1803 k0_t2) a + S1x128.size a ≤ S6400x128.size a) ∧
  (∀ k0_t2 : Fin (k0_t2_loop v1803).trips, ∀ a, (k0_off965 v1803 k0_t2) a + S1.size a ≤ S6400.size a) ∧
  (∀ k0_t2 : Fin (k0_t2_loop v1803).trips, ∀ a, (k0_off967 v1803 k0_t2) a + S1x128.size a ≤ S6400x128.size a) ∧
  (∀ k0_t2 : Fin (k0_t2_loop v1803).trips, ∀ a, (k0_off968 v1803 k0_t2) a + S1.size a ≤ S6400.size a) ∧
  (∀ k0_t2 : Fin (k0_t2_loop v1803).trips, ∀ a, (k0_off970 v1803 k0_t2) a + S1x128.size a ≤ S6400x128.size a)
def k0_chk257_15 (v1803 : BitVec 32) : Prop :=
  (∀ k0_t2 : Fin (k0_t2_loop v1803).trips, ∀ a, (k0_off971 v1803 k0_t2) a + S1.size a ≤ S6400.size a) ∧
  (∀ k0_t2 : Fin (k0_t2_loop v1803).trips, ∀ a, (k0_off973 v1803 k0_t2) a + S1x128.size a ≤ S6400x128.size a) ∧
  (∀ k0_t2 : Fin (k0_t2_loop v1803).trips, ∀ a, (k0_off974 v1803 k0_t2) a + S1.size a ≤ S6400.size a) ∧
  (∀ k0_t2 : Fin (k0_t2_loop v1803).trips, ∀ a, (k0_off976 v1803 k0_t2) a + S1x128.size a ≤ S6400x128.size a) ∧
  (∀ k0_t2 : Fin (k0_t2_loop v1803).trips, ∀ a, (k0_off977 v1803 k0_t2) a + S1.size a ≤ S6400.size a) ∧
  (∀ k0_t2 : Fin (k0_t2_loop v1803).trips, ∀ a, (k0_off979 v1803 k0_t2) a + S1x128.size a ≤ S6400x128.size a) ∧
  (∀ k0_t2 : Fin (k0_t2_loop v1803).trips, ∀ a, (k0_off980 v1803 k0_t2) a + S1.size a ≤ S6400.size a) ∧
  (∀ k0_t2 : Fin (k0_t2_loop v1803).trips, ∀ a, (k0_off982 v1803 k0_t2) a + S1x128.size a ≤ S6400x128.size a) ∧
  (∀ k0_t2 : Fin (k0_t2_loop v1803).trips, ∀ a, (k0_off983 v1803 k0_t2) a + S1.size a ≤ S6400.size a) ∧
  (∀ k0_t2 : Fin (k0_t2_loop v1803).trips, ∀ a, (k0_off985 v1803 k0_t2) a + S1x128.size a ≤ S6400x128.size a) ∧
  (∀ k0_t2 : Fin (k0_t2_loop v1803).trips, ∀ a, (k0_off986 v1803 k0_t2) a + S1.size a ≤ S6400.size a) ∧
  (∀ k0_t2 : Fin (k0_t2_loop v1803).trips, ∀ a, (k0_off988 v1803 k0_t2) a + S1x128.size a ≤ S6400x128.size a) ∧
  (∀ k0_t2 : Fin (k0_t2_loop v1803).trips, ∀ a, (k0_off989 v1803 k0_t2) a + S1.size a ≤ S6400.size a) ∧
  (∀ k0_t2 : Fin (k0_t2_loop v1803).trips, ∀ a, (k0_off991 v1803 k0_t2) a + S1x128.size a ≤ S6400x128.size a) ∧
  (∀ k0_t2 : Fin (k0_t2_loop v1803).trips, ∀ a, (k0_off992 v1803 k0_t2) a + S1.size a ≤ S6400.size a) ∧
  (∀ k0_t2 : Fin (k0_t2_loop v1803).trips, ∀ a, (k0_off994 v1803 k0_t2) a + S1x128.size a ≤ S6400x128.size a) ∧
  (∀ k0_t2 : Fin (k0_t2_loop v1803).trips, ∀ a, (k0_off995 v1803 k0_t2) a + S1.size a ≤ S6400.size a) ∧
  (∀ k0_t2 : Fin (k0_t2_loop v1803).trips, ∀ a, (k0_off997 v1803 k0_t2) a + S1x128.size a ≤ S6400x128.size a) ∧
  (∀ k0_t2 : Fin (k0_t2_loop v1803).trips, ∀ a, (k0_off998 v1803 k0_t2) a + S1.size a ≤ S6400.size a) ∧
  (∀ k0_t2 : Fin (k0_t2_loop v1803).trips, ∀ a, (k0_off1000 v1803 k0_t2) a + S1x128.size a ≤ S6400x128.size a) ∧
  (∀ k0_t2 : Fin (k0_t2_loop v1803).trips, ∀ a, (k0_off1001 v1803 k0_t2) a + S1.size a ≤ S6400.size a) ∧
  (∀ k0_t2 : Fin (k0_t2_loop v1803).trips, ∀ a, (k0_off1003 v1803 k0_t2) a + S1x128.size a ≤ S6400x128.size a) ∧
  (∀ k0_t2 : Fin (k0_t2_loop v1803).trips, ∀ a, (k0_off1004 v1803 k0_t2) a + S1.size a ≤ S6400.size a) ∧
  (∀ k0_t2 : Fin (k0_t2_loop v1803).trips, ∀ a, (k0_off1006 v1803 k0_t2) a + S1x128.size a ≤ S6400x128.size a) ∧
  (∀ k0_t2 : Fin (k0_t2_loop v1803).trips, ∀ a, (k0_off1007 v1803 k0_t2) a + S1.size a ≤ S6400.size a) ∧
  (∀ k0_t2 : Fin (k0_t2_loop v1803).trips, ∀ a, (k0_off1009 v1803 k0_t2) a + S1x128.size a ≤ S6400x128.size a) ∧
  (∀ k0_t2 : Fin (k0_t2_loop v1803).trips, ∀ a, (k0_off1010 v1803 k0_t2) a + S1.size a ≤ S6400.size a) ∧
  (∀ k0_t2 : Fin (k0_t2_loop v1803).trips, ∀ a, (k0_off1012 v1803 k0_t2) a + S1x128.size a ≤ S6400x128.size a) ∧
  (∀ k0_t2 : Fin (k0_t2_loop v1803).trips, ∀ a, (k0_off1013 v1803 k0_t2) a + S1.size a ≤ S6400.size a) ∧
  (∀ k0_t2 : Fin (k0_t2_loop v1803).trips, ∀ a, (k0_off1015 v1803 k0_t2) a + S1x128.size a ≤ S6400x128.size a) ∧
  (∀ k0_t2 : Fin (k0_t2_loop v1803).trips, ∀ a, (k0_off1016 v1803 k0_t2) a + S1.size a ≤ S6400.size a) ∧
  (∀ k0_t2 : Fin (k0_t2_loop v1803).trips, ∀ a, (k0_off1018 v1803 k0_t2) a + S1x128.size a ≤ S6400x128.size a)
def k0_chk257_16 (v1803 : BitVec 32) : Prop :=
  (∀ k0_t2 : Fin (k0_t2_loop v1803).trips, ∀ a, (k0_off1019 v1803 k0_t2) a + S1.size a ≤ S6400.size a) ∧
  (∀ k0_t2 : Fin (k0_t2_loop v1803).trips, ∀ a, (k0_off1021 v1803 k0_t2) a + S1x128.size a ≤ S6400x128.size a) ∧
  (∀ k0_t2 : Fin (k0_t2_loop v1803).trips, ∀ a, (k0_off1022 v1803 k0_t2) a + S1.size a ≤ S6400.size a) ∧
  (∀ k0_t2 : Fin (k0_t2_loop v1803).trips, ∀ a, (k0_off1024 v1803 k0_t2) a + S1x128.size a ≤ S6400x128.size a)
def k0_chk257 (v1803 : BitVec 32) : Prop :=
  k0_chk257_0 v1803 ∧
  k0_chk257_1 v1803 ∧
  k0_chk257_2 v1803 ∧
  k0_chk257_3 v1803 ∧
  k0_chk257_4 v1803 ∧
  k0_chk257_5 v1803 ∧
  k0_chk257_6 v1803 ∧
  k0_chk257_7 v1803 ∧
  k0_chk257_8 v1803 ∧
  k0_chk257_9 v1803 ∧
  k0_chk257_10 v1803 ∧
  k0_chk257_11 v1803 ∧
  k0_chk257_12 v1803 ∧
  k0_chk257_13 v1803 ∧
  k0_chk257_14 v1803 ∧
  k0_chk257_15 v1803 ∧
  k0_chk257_16 v1803
theorem k0_t1_ok : ∀ (v1803 : BitVec 32) (k0_hw257 : k0_chk257 v1803), (k0_t1_loop v1803).OK := fun v1803 k0_hw257 => k0_hw257.1.1
theorem k0_mult1_dvd : ∀ (v1803 : BitVec 32) (k0_hw257 : k0_chk257 v1803) (k0_t1 : Fin (k0_t1_loop v1803).trips), 128 ∣ (k0_mult1 v1803 k0_t1).toNat := fun v1803 k0_hw257 k0_t1 => k0_hw257.1.2.1 k0_t1
theorem k0_off257_inb : ∀ (v1803 : BitVec 32) (k0_hw257 : k0_chk257 v1803) (k0_t1 : Fin (k0_t1_loop v1803).trips), ∀ a, (k0_off257 v1803 k0_t1) a + S1.size a ≤ S6400.size a := fun v1803 k0_hw257 k0_t1 => k0_hw257.1.2.2.1 k0_t1
theorem k0_off259_inb : ∀ (v1803 : BitVec 32) (k0_hw257 : k0_chk257 v1803) (k0_t1 : Fin (k0_t1_loop v1803).trips), ∀ a, (k0_off259 v1803 k0_t1) a + S1x128.size a ≤ S6400x128.size a := fun v1803 k0_hw257 k0_t1 => k0_hw257.1.2.2.2.1 k0_t1
theorem k0_off260_inb : ∀ (v1803 : BitVec 32) (k0_hw257 : k0_chk257 v1803) (k0_t1 : Fin (k0_t1_loop v1803).trips), ∀ a, (k0_off260 v1803 k0_t1) a + S1.size a ≤ S6400.size a := fun v1803 k0_hw257 k0_t1 => k0_hw257.1.2.2.2.2.1 k0_t1
theorem k0_off262_inb : ∀ (v1803 : BitVec 32) (k0_hw257 : k0_chk257 v1803) (k0_t1 : Fin (k0_t1_loop v1803).trips), ∀ a, (k0_off262 v1803 k0_t1) a + S1x128.size a ≤ S6400x128.size a := fun v1803 k0_hw257 k0_t1 => k0_hw257.1.2.2.2.2.2.1 k0_t1
theorem k0_off263_inb : ∀ (v1803 : BitVec 32) (k0_hw257 : k0_chk257 v1803) (k0_t1 : Fin (k0_t1_loop v1803).trips), ∀ a, (k0_off263 v1803 k0_t1) a + S1.size a ≤ S6400.size a := fun v1803 k0_hw257 k0_t1 => k0_hw257.1.2.2.2.2.2.2.1 k0_t1
theorem k0_off265_inb : ∀ (v1803 : BitVec 32) (k0_hw257 : k0_chk257 v1803) (k0_t1 : Fin (k0_t1_loop v1803).trips), ∀ a, (k0_off265 v1803 k0_t1) a + S1x128.size a ≤ S6400x128.size a := fun v1803 k0_hw257 k0_t1 => k0_hw257.1.2.2.2.2.2.2.2.1 k0_t1
theorem k0_off266_inb : ∀ (v1803 : BitVec 32) (k0_hw257 : k0_chk257 v1803) (k0_t1 : Fin (k0_t1_loop v1803).trips), ∀ a, (k0_off266 v1803 k0_t1) a + S1.size a ≤ S6400.size a := fun v1803 k0_hw257 k0_t1 => k0_hw257.1.2.2.2.2.2.2.2.2.1 k0_t1
theorem k0_off268_inb : ∀ (v1803 : BitVec 32) (k0_hw257 : k0_chk257 v1803) (k0_t1 : Fin (k0_t1_loop v1803).trips), ∀ a, (k0_off268 v1803 k0_t1) a + S1x128.size a ≤ S6400x128.size a := fun v1803 k0_hw257 k0_t1 => k0_hw257.1.2.2.2.2.2.2.2.2.2.1 k0_t1
theorem k0_off269_inb : ∀ (v1803 : BitVec 32) (k0_hw257 : k0_chk257 v1803) (k0_t1 : Fin (k0_t1_loop v1803).trips), ∀ a, (k0_off269 v1803 k0_t1) a + S1.size a ≤ S6400.size a := fun v1803 k0_hw257 k0_t1 => k0_hw257.1.2.2.2.2.2.2.2.2.2.2.1 k0_t1
theorem k0_off271_inb : ∀ (v1803 : BitVec 32) (k0_hw257 : k0_chk257 v1803) (k0_t1 : Fin (k0_t1_loop v1803).trips), ∀ a, (k0_off271 v1803 k0_t1) a + S1x128.size a ≤ S6400x128.size a := fun v1803 k0_hw257 k0_t1 => k0_hw257.1.2.2.2.2.2.2.2.2.2.2.2.1 k0_t1
theorem k0_off272_inb : ∀ (v1803 : BitVec 32) (k0_hw257 : k0_chk257 v1803) (k0_t1 : Fin (k0_t1_loop v1803).trips), ∀ a, (k0_off272 v1803 k0_t1) a + S1.size a ≤ S6400.size a := fun v1803 k0_hw257 k0_t1 => k0_hw257.1.2.2.2.2.2.2.2.2.2.2.2.2.1 k0_t1
theorem k0_off274_inb : ∀ (v1803 : BitVec 32) (k0_hw257 : k0_chk257 v1803) (k0_t1 : Fin (k0_t1_loop v1803).trips), ∀ a, (k0_off274 v1803 k0_t1) a + S1x128.size a ≤ S6400x128.size a := fun v1803 k0_hw257 k0_t1 => k0_hw257.1.2.2.2.2.2.2.2.2.2.2.2.2.2.1 k0_t1
theorem k0_off275_inb : ∀ (v1803 : BitVec 32) (k0_hw257 : k0_chk257 v1803) (k0_t1 : Fin (k0_t1_loop v1803).trips), ∀ a, (k0_off275 v1803 k0_t1) a + S1.size a ≤ S6400.size a := fun v1803 k0_hw257 k0_t1 => k0_hw257.1.2.2.2.2.2.2.2.2.2.2.2.2.2.2.1 k0_t1
theorem k0_off277_inb : ∀ (v1803 : BitVec 32) (k0_hw257 : k0_chk257 v1803) (k0_t1 : Fin (k0_t1_loop v1803).trips), ∀ a, (k0_off277 v1803 k0_t1) a + S1x128.size a ≤ S6400x128.size a := fun v1803 k0_hw257 k0_t1 => k0_hw257.1.2.2.2.2.2.2.2.2.2.2.2.2.2.2.2.1 k0_t1
theorem k0_off278_inb : ∀ (v1803 : BitVec 32) (k0_hw257 : k0_chk257 v1803) (k0_t1 : Fin (k0_t1_loop v1803).trips), ∀ a, (k0_off278 v1803 k0_t1) a + S1.size a ≤ S6400.size a := fun v1803 k0_hw257 k0_t1 => k0_hw257.1.2.2.2.2.2.2.2.2.2.2.2.2.2.2.2.2.1 k0_t1
theorem k0_off280_inb : ∀ (v1803 : BitVec 32) (k0_hw257 : k0_chk257 v1803) (k0_t1 : Fin (k0_t1_loop v1803).trips), ∀ a, (k0_off280 v1803 k0_t1) a + S1x128.size a ≤ S6400x128.size a := fun v1803 k0_hw257 k0_t1 => k0_hw257.1.2.2.2.2.2.2.2.2.2.2.2.2.2.2.2.2.2.1 k0_t1
theorem k0_off281_inb : ∀ (v1803 : BitVec 32) (k0_hw257 : k0_chk257 v1803) (k0_t1 : Fin (k0_t1_loop v1803).trips), ∀ a, (k0_off281 v1803 k0_t1) a + S1.size a ≤ S6400.size a := fun v1803 k0_hw257 k0_t1 => k0_hw257.1.2.2.2.2.2.2.2.2.2.2.2.2.2.2.2.2.2.2.1 k0_t1
theorem k0_off283_inb : ∀ (v1803 : BitVec 32) (k0_hw257 : k0_chk257 v1803) (k0_t1 : Fin (k0_t1_loop v1803).trips), ∀ a, (k0_off283 v1803 k0_t1) a + S1x128.size a ≤ S6400x128.size a := fun v1803 k0_hw257 k0_t1 => k0_hw257.1.2.2.2.2.2.2.2.2.2.2.2.2.2.2.2.2.2.2.2.1 k0_t1
theorem k0_off284_inb : ∀ (v1803 : BitVec 32) (k0_hw257 : k0_chk257 v1803) (k0_t1 : Fin (k0_t1_loop v1803).trips), ∀ a, (k0_off284 v1803 k0_t1) a + S1.size a ≤ S6400.size a := fun v1803 k0_hw257 k0_t1 => k0_hw257.1.2.2.2.2.2.2.2.2.2.2.2.2.2.2.2.2.2.2.2.2.1 k0_t1
theorem k0_off286_inb : ∀ (v1803 : BitVec 32) (k0_hw257 : k0_chk257 v1803) (k0_t1 : Fin (k0_t1_loop v1803).trips), ∀ a, (k0_off286 v1803 k0_t1) a + S1x128.size a ≤ S6400x128.size a := fun v1803 k0_hw257 k0_t1 => k0_hw257.1.2.2.2.2.2.2.2.2.2.2.2.2.2.2.2.2.2.2.2.2.2.1 k0_t1
theorem k0_off287_inb : ∀ (v1803 : BitVec 32) (k0_hw257 : k0_chk257 v1803) (k0_t1 : Fin (k0_t1_loop v1803).trips), ∀ a, (k0_off287 v1803 k0_t1) a + S1.size a ≤ S6400.size a := fun v1803 k0_hw257 k0_t1 => k0_hw257.1.2.2.2.2.2.2.2.2.2.2.2.2.2.2.2.2.2.2.2.2.2.2.1 k0_t1
theorem k0_off289_inb : ∀ (v1803 : BitVec 32) (k0_hw257 : k0_chk257 v1803) (k0_t1 : Fin (k0_t1_loop v1803).trips), ∀ a, (k0_off289 v1803 k0_t1) a + S1x128.size a ≤ S6400x128.size a := fun v1803 k0_hw257 k0_t1 => k0_hw257.1.2.2.2.2.2.2.2.2.2.2.2.2.2.2.2.2.2.2.2.2.2.2.2.1 k0_t1
theorem k0_off290_inb : ∀ (v1803 : BitVec 32) (k0_hw257 : k0_chk257 v1803) (k0_t1 : Fin (k0_t1_loop v1803).trips), ∀ a, (k0_off290 v1803 k0_t1) a + S1.size a ≤ S6400.size a := fun v1803 k0_hw257 k0_t1 => k0_hw257.1.2.2.2.2.2.2.2.2.2.2.2.2.2.2.2.2.2.2.2.2.2.2.2.2.1 k0_t1
theorem k0_off292_inb : ∀ (v1803 : BitVec 32) (k0_hw257 : k0_chk257 v1803) (k0_t1 : Fin (k0_t1_loop v1803).trips), ∀ a, (k0_off292 v1803 k0_t1) a + S1x128.size a ≤ S6400x128.size a := fun v1803 k0_hw257 k0_t1 => k0_hw257.1.2.2.2.2.2.2.2.2.2.2.2.2.2.2.2.2.2.2.2.2.2.2.2.2.2.1 k0_t1
theorem k0_off293_inb : ∀ (v1803 : BitVec 32) (k0_hw257 : k0_chk257 v1803) (k0_t1 : Fin (k0_t1_loop v1803).trips), ∀ a, (k0_off293 v1803 k0_t1) a + S1.size a ≤ S6400.size a := fun v1803 k0_hw257 k0_t1 => k0_hw257.1.2.2.2.2.2.2.2.2.2.2.2.2.2.2.2.2.2.2.2.2.2.2.2.2.2.2.1 k0_t1
theorem k0_off295_inb : ∀ (v1803 : BitVec 32) (k0_hw257 : k0_chk257 v1803) (k0_t1 : Fin (k0_t1_loop v1803).trips), ∀ a, (k0_off295 v1803 k0_t1) a + S1x128.size a ≤ S6400x128.size a := fun v1803 k0_hw257 k0_t1 => k0_hw257.1.2.2.2.2.2.2.2.2.2.2.2.2.2.2.2.2.2.2.2.2.2.2.2.2.2.2.2.1 k0_t1
theorem k0_off296_inb : ∀ (v1803 : BitVec 32) (k0_hw257 : k0_chk257 v1803) (k0_t1 : Fin (k0_t1_loop v1803).trips), ∀ a, (k0_off296 v1803 k0_t1) a + S1.size a ≤ S6400.size a := fun v1803 k0_hw257 k0_t1 => k0_hw257.1.2.2.2.2.2.2.2.2.2.2.2.2.2.2.2.2.2.2.2.2.2.2.2.2.2.2.2.2.1 k0_t1
theorem k0_off298_inb : ∀ (v1803 : BitVec 32) (k0_hw257 : k0_chk257 v1803) (k0_t1 : Fin (k0_t1_loop v1803).trips), ∀ a, (k0_off298 v1803 k0_t1) a + S1x128.size a ≤ S6400x128.size a := fun v1803 k0_hw257 k0_t1 => k0_hw257.1.2.2.2.2.2.2.2.2.2.2.2.2.2.2.2.2.2.2.2.2.2.2.2.2.2.2.2.2.2.1 k0_t1
theorem k0_off299_inb : ∀ (v1803 : BitVec 32) (k0_hw257 : k0_chk257 v1803) (k0_t1 : Fin (k0_t1_loop v1803).trips), ∀ a, (k0_off299 v1803 k0_t1) a + S1.size a ≤ S6400.size a := fun v1803 k0_hw257 k0_t1 => k0_hw257.1.2.2.2.2.2.2.2.2.2.2.2.2.2.2.2.2.2.2.2.2.2.2.2.2.2.2.2.2.2.2.1 k0_t1
theorem k0_off301_inb : ∀ (v1803 : BitVec 32) (k0_hw257 : k0_chk257 v1803) (k0_t1 : Fin (k0_t1_loop v1803).trips), ∀ a, (k0_off301 v1803 k0_t1) a + S1x128.size a ≤ S6400x128.size a := fun v1803 k0_hw257 k0_t1 => k0_hw257.1.2.2.2.2.2.2.2.2.2.2.2.2.2.2.2.2.2.2.2.2.2.2.2.2.2.2.2.2.2.2.2 k0_t1
theorem k0_off302_inb : ∀ (v1803 : BitVec 32) (k0_hw257 : k0_chk257 v1803) (k0_t1 : Fin (k0_t1_loop v1803).trips), ∀ a, (k0_off302 v1803 k0_t1) a + S1.size a ≤ S6400.size a := fun v1803 k0_hw257 k0_t1 => k0_hw257.2.1.1 k0_t1
theorem k0_off304_inb : ∀ (v1803 : BitVec 32) (k0_hw257 : k0_chk257 v1803) (k0_t1 : Fin (k0_t1_loop v1803).trips), ∀ a, (k0_off304 v1803 k0_t1) a + S1x128.size a ≤ S6400x128.size a := fun v1803 k0_hw257 k0_t1 => k0_hw257.2.1.2.1 k0_t1
theorem k0_off305_inb : ∀ (v1803 : BitVec 32) (k0_hw257 : k0_chk257 v1803) (k0_t1 : Fin (k0_t1_loop v1803).trips), ∀ a, (k0_off305 v1803 k0_t1) a + S1.size a ≤ S6400.size a := fun v1803 k0_hw257 k0_t1 => k0_hw257.2.1.2.2.1 k0_t1
theorem k0_off307_inb : ∀ (v1803 : BitVec 32) (k0_hw257 : k0_chk257 v1803) (k0_t1 : Fin (k0_t1_loop v1803).trips), ∀ a, (k0_off307 v1803 k0_t1) a + S1x128.size a ≤ S6400x128.size a := fun v1803 k0_hw257 k0_t1 => k0_hw257.2.1.2.2.2.1 k0_t1
theorem k0_off308_inb : ∀ (v1803 : BitVec 32) (k0_hw257 : k0_chk257 v1803) (k0_t1 : Fin (k0_t1_loop v1803).trips), ∀ a, (k0_off308 v1803 k0_t1) a + S1.size a ≤ S6400.size a := fun v1803 k0_hw257 k0_t1 => k0_hw257.2.1.2.2.2.2.1 k0_t1
theorem k0_off310_inb : ∀ (v1803 : BitVec 32) (k0_hw257 : k0_chk257 v1803) (k0_t1 : Fin (k0_t1_loop v1803).trips), ∀ a, (k0_off310 v1803 k0_t1) a + S1x128.size a ≤ S6400x128.size a := fun v1803 k0_hw257 k0_t1 => k0_hw257.2.1.2.2.2.2.2.1 k0_t1
theorem k0_off311_inb : ∀ (v1803 : BitVec 32) (k0_hw257 : k0_chk257 v1803) (k0_t1 : Fin (k0_t1_loop v1803).trips), ∀ a, (k0_off311 v1803 k0_t1) a + S1.size a ≤ S6400.size a := fun v1803 k0_hw257 k0_t1 => k0_hw257.2.1.2.2.2.2.2.2.1 k0_t1
theorem k0_off313_inb : ∀ (v1803 : BitVec 32) (k0_hw257 : k0_chk257 v1803) (k0_t1 : Fin (k0_t1_loop v1803).trips), ∀ a, (k0_off313 v1803 k0_t1) a + S1x128.size a ≤ S6400x128.size a := fun v1803 k0_hw257 k0_t1 => k0_hw257.2.1.2.2.2.2.2.2.2.1 k0_t1
theorem k0_off314_inb : ∀ (v1803 : BitVec 32) (k0_hw257 : k0_chk257 v1803) (k0_t1 : Fin (k0_t1_loop v1803).trips), ∀ a, (k0_off314 v1803 k0_t1) a + S1.size a ≤ S6400.size a := fun v1803 k0_hw257 k0_t1 => k0_hw257.2.1.2.2.2.2.2.2.2.2.1 k0_t1
theorem k0_off316_inb : ∀ (v1803 : BitVec 32) (k0_hw257 : k0_chk257 v1803) (k0_t1 : Fin (k0_t1_loop v1803).trips), ∀ a, (k0_off316 v1803 k0_t1) a + S1x128.size a ≤ S6400x128.size a := fun v1803 k0_hw257 k0_t1 => k0_hw257.2.1.2.2.2.2.2.2.2.2.2.1 k0_t1
theorem k0_off317_inb : ∀ (v1803 : BitVec 32) (k0_hw257 : k0_chk257 v1803) (k0_t1 : Fin (k0_t1_loop v1803).trips), ∀ a, (k0_off317 v1803 k0_t1) a + S1.size a ≤ S6400.size a := fun v1803 k0_hw257 k0_t1 => k0_hw257.2.1.2.2.2.2.2.2.2.2.2.2.1 k0_t1
theorem k0_off319_inb : ∀ (v1803 : BitVec 32) (k0_hw257 : k0_chk257 v1803) (k0_t1 : Fin (k0_t1_loop v1803).trips), ∀ a, (k0_off319 v1803 k0_t1) a + S1x128.size a ≤ S6400x128.size a := fun v1803 k0_hw257 k0_t1 => k0_hw257.2.1.2.2.2.2.2.2.2.2.2.2.2.1 k0_t1
theorem k0_off320_inb : ∀ (v1803 : BitVec 32) (k0_hw257 : k0_chk257 v1803) (k0_t1 : Fin (k0_t1_loop v1803).trips), ∀ a, (k0_off320 v1803 k0_t1) a + S1.size a ≤ S6400.size a := fun v1803 k0_hw257 k0_t1 => k0_hw257.2.1.2.2.2.2.2.2.2.2.2.2.2.2.1 k0_t1
theorem k0_off322_inb : ∀ (v1803 : BitVec 32) (k0_hw257 : k0_chk257 v1803) (k0_t1 : Fin (k0_t1_loop v1803).trips), ∀ a, (k0_off322 v1803 k0_t1) a + S1x128.size a ≤ S6400x128.size a := fun v1803 k0_hw257 k0_t1 => k0_hw257.2.1.2.2.2.2.2.2.2.2.2.2.2.2.2.1 k0_t1
theorem k0_off323_inb : ∀ (v1803 : BitVec 32) (k0_hw257 : k0_chk257 v1803) (k0_t1 : Fin (k0_t1_loop v1803).trips), ∀ a, (k0_off323 v1803 k0_t1) a + S1.size a ≤ S6400.size a := fun v1803 k0_hw257 k0_t1 => k0_hw257.2.1.2.2.2.2.2.2.2.2.2.2.2.2.2.2.1 k0_t1
theorem k0_off325_inb : ∀ (v1803 : BitVec 32) (k0_hw257 : k0_chk257 v1803) (k0_t1 : Fin (k0_t1_loop v1803).trips), ∀ a, (k0_off325 v1803 k0_t1) a + S1x128.size a ≤ S6400x128.size a := fun v1803 k0_hw257 k0_t1 => k0_hw257.2.1.2.2.2.2.2.2.2.2.2.2.2.2.2.2.2.1 k0_t1
theorem k0_off326_inb : ∀ (v1803 : BitVec 32) (k0_hw257 : k0_chk257 v1803) (k0_t1 : Fin (k0_t1_loop v1803).trips), ∀ a, (k0_off326 v1803 k0_t1) a + S1.size a ≤ S6400.size a := fun v1803 k0_hw257 k0_t1 => k0_hw257.2.1.2.2.2.2.2.2.2.2.2.2.2.2.2.2.2.2.1 k0_t1
theorem k0_off328_inb : ∀ (v1803 : BitVec 32) (k0_hw257 : k0_chk257 v1803) (k0_t1 : Fin (k0_t1_loop v1803).trips), ∀ a, (k0_off328 v1803 k0_t1) a + S1x128.size a ≤ S6400x128.size a := fun v1803 k0_hw257 k0_t1 => k0_hw257.2.1.2.2.2.2.2.2.2.2.2.2.2.2.2.2.2.2.2.1 k0_t1
theorem k0_off329_inb : ∀ (v1803 : BitVec 32) (k0_hw257 : k0_chk257 v1803) (k0_t1 : Fin (k0_t1_loop v1803).trips), ∀ a, (k0_off329 v1803 k0_t1) a + S1.size a ≤ S6400.size a := fun v1803 k0_hw257 k0_t1 => k0_hw257.2.1.2.2.2.2.2.2.2.2.2.2.2.2.2.2.2.2.2.2.1 k0_t1
theorem k0_off331_inb : ∀ (v1803 : BitVec 32) (k0_hw257 : k0_chk257 v1803) (k0_t1 : Fin (k0_t1_loop v1803).trips), ∀ a, (k0_off331 v1803 k0_t1) a + S1x128.size a ≤ S6400x128.size a := fun v1803 k0_hw257 k0_t1 => k0_hw257.2.1.2.2.2.2.2.2.2.2.2.2.2.2.2.2.2.2.2.2.2.1 k0_t1
theorem k0_off332_inb : ∀ (v1803 : BitVec 32) (k0_hw257 : k0_chk257 v1803) (k0_t1 : Fin (k0_t1_loop v1803).trips), ∀ a, (k0_off332 v1803 k0_t1) a + S1.size a ≤ S6400.size a := fun v1803 k0_hw257 k0_t1 => k0_hw257.2.1.2.2.2.2.2.2.2.2.2.2.2.2.2.2.2.2.2.2.2.2.1 k0_t1
theorem k0_off334_inb : ∀ (v1803 : BitVec 32) (k0_hw257 : k0_chk257 v1803) (k0_t1 : Fin (k0_t1_loop v1803).trips), ∀ a, (k0_off334 v1803 k0_t1) a + S1x128.size a ≤ S6400x128.size a := fun v1803 k0_hw257 k0_t1 => k0_hw257.2.1.2.2.2.2.2.2.2.2.2.2.2.2.2.2.2.2.2.2.2.2.2.1 k0_t1
theorem k0_off335_inb : ∀ (v1803 : BitVec 32) (k0_hw257 : k0_chk257 v1803) (k0_t1 : Fin (k0_t1_loop v1803).trips), ∀ a, (k0_off335 v1803 k0_t1) a + S1.size a ≤ S6400.size a := fun v1803 k0_hw257 k0_t1 => k0_hw257.2.1.2.2.2.2.2.2.2.2.2.2.2.2.2.2.2.2.2.2.2.2.2.2.1 k0_t1
theorem k0_off337_inb : ∀ (v1803 : BitVec 32) (k0_hw257 : k0_chk257 v1803) (k0_t1 : Fin (k0_t1_loop v1803).trips), ∀ a, (k0_off337 v1803 k0_t1) a + S1x128.size a ≤ S6400x128.size a := fun v1803 k0_hw257 k0_t1 => k0_hw257.2.1.2.2.2.2.2.2.2.2.2.2.2.2.2.2.2.2.2.2.2.2.2.2.2.1 k0_t1
theorem k0_off338_inb : ∀ (v1803 : BitVec 32) (k0_hw257 : k0_chk257 v1803) (k0_t1 : Fin (k0_t1_loop v1803).trips), ∀ a, (k0_off338 v1803 k0_t1) a + S1.size a ≤ S6400.size a := fun v1803 k0_hw257 k0_t1 => k0_hw257.2.1.2.2.2.2.2.2.2.2.2.2.2.2.2.2.2.2.2.2.2.2.2.2.2.2.1 k0_t1
theorem k0_off340_inb : ∀ (v1803 : BitVec 32) (k0_hw257 : k0_chk257 v1803) (k0_t1 : Fin (k0_t1_loop v1803).trips), ∀ a, (k0_off340 v1803 k0_t1) a + S1x128.size a ≤ S6400x128.size a := fun v1803 k0_hw257 k0_t1 => k0_hw257.2.1.2.2.2.2.2.2.2.2.2.2.2.2.2.2.2.2.2.2.2.2.2.2.2.2.2.1 k0_t1
theorem k0_off341_inb : ∀ (v1803 : BitVec 32) (k0_hw257 : k0_chk257 v1803) (k0_t1 : Fin (k0_t1_loop v1803).trips), ∀ a, (k0_off341 v1803 k0_t1) a + S1.size a ≤ S6400.size a := fun v1803 k0_hw257 k0_t1 => k0_hw257.2.1.2.2.2.2.2.2.2.2.2.2.2.2.2.2.2.2.2.2.2.2.2.2.2.2.2.2.1 k0_t1
theorem k0_off343_inb : ∀ (v1803 : BitVec 32) (k0_hw257 : k0_chk257 v1803) (k0_t1 : Fin (k0_t1_loop v1803).trips), ∀ a, (k0_off343 v1803 k0_t1) a + S1x128.size a ≤ S6400x128.size a := fun v1803 k0_hw257 k0_t1 => k0_hw257.2.1.2.2.2.2.2.2.2.2.2.2.2.2.2.2.2.2.2.2.2.2.2.2.2.2.2.2.2.1 k0_t1
theorem k0_off344_inb : ∀ (v1803 : BitVec 32) (k0_hw257 : k0_chk257 v1803) (k0_t1 : Fin (k0_t1_loop v1803).trips), ∀ a, (k0_off344 v1803 k0_t1) a + S1.size a ≤ S6400.size a := fun v1803 k0_hw257 k0_t1 => k0_hw257.2.1.2.2.2.2.2.2.2.2.2.2.2.2.2.2.2.2.2.2.2.2.2.2.2.2.2.2.2.2.1 k0_t1
theorem k0_off346_inb : ∀ (v1803 : BitVec 32) (k0_hw257 : k0_chk257 v1803) (k0_t1 : Fin (k0_t1_loop v1803).trips), ∀ a, (k0_off346 v1803 k0_t1) a + S1x128.size a ≤ S6400x128.size a := fun v1803 k0_hw257 k0_t1 => k0_hw257.2.1.2.2.2.2.2.2.2.2.2.2.2.2.2.2.2.2.2.2.2.2.2.2.2.2.2.2.2.2.2.1 k0_t1
theorem k0_off347_inb : ∀ (v1803 : BitVec 32) (k0_hw257 : k0_chk257 v1803) (k0_t1 : Fin (k0_t1_loop v1803).trips), ∀ a, (k0_off347 v1803 k0_t1) a + S1.size a ≤ S6400.size a := fun v1803 k0_hw257 k0_t1 => k0_hw257.2.1.2.2.2.2.2.2.2.2.2.2.2.2.2.2.2.2.2.2.2.2.2.2.2.2.2.2.2.2.2.2.1 k0_t1
theorem k0_off349_inb : ∀ (v1803 : BitVec 32) (k0_hw257 : k0_chk257 v1803) (k0_t1 : Fin (k0_t1_loop v1803).trips), ∀ a, (k0_off349 v1803 k0_t1) a + S1x128.size a ≤ S6400x128.size a := fun v1803 k0_hw257 k0_t1 => k0_hw257.2.1.2.2.2.2.2.2.2.2.2.2.2.2.2.2.2.2.2.2.2.2.2.2.2.2.2.2.2.2.2.2.2 k0_t1
theorem k0_off350_inb : ∀ (v1803 : BitVec 32) (k0_hw257 : k0_chk257 v1803) (k0_t1 : Fin (k0_t1_loop v1803).trips), ∀ a, (k0_off350 v1803 k0_t1) a + S1.size a ≤ S6400.size a := fun v1803 k0_hw257 k0_t1 => k0_hw257.2.2.1.1 k0_t1
theorem k0_off352_inb : ∀ (v1803 : BitVec 32) (k0_hw257 : k0_chk257 v1803) (k0_t1 : Fin (k0_t1_loop v1803).trips), ∀ a, (k0_off352 v1803 k0_t1) a + S1x128.size a ≤ S6400x128.size a := fun v1803 k0_hw257 k0_t1 => k0_hw257.2.2.1.2.1 k0_t1
theorem k0_off353_inb : ∀ (v1803 : BitVec 32) (k0_hw257 : k0_chk257 v1803) (k0_t1 : Fin (k0_t1_loop v1803).trips), ∀ a, (k0_off353 v1803 k0_t1) a + S1.size a ≤ S6400.size a := fun v1803 k0_hw257 k0_t1 => k0_hw257.2.2.1.2.2.1 k0_t1
theorem k0_off355_inb : ∀ (v1803 : BitVec 32) (k0_hw257 : k0_chk257 v1803) (k0_t1 : Fin (k0_t1_loop v1803).trips), ∀ a, (k0_off355 v1803 k0_t1) a + S1x128.size a ≤ S6400x128.size a := fun v1803 k0_hw257 k0_t1 => k0_hw257.2.2.1.2.2.2.1 k0_t1
theorem k0_off356_inb : ∀ (v1803 : BitVec 32) (k0_hw257 : k0_chk257 v1803) (k0_t1 : Fin (k0_t1_loop v1803).trips), ∀ a, (k0_off356 v1803 k0_t1) a + S1.size a ≤ S6400.size a := fun v1803 k0_hw257 k0_t1 => k0_hw257.2.2.1.2.2.2.2.1 k0_t1
theorem k0_off358_inb : ∀ (v1803 : BitVec 32) (k0_hw257 : k0_chk257 v1803) (k0_t1 : Fin (k0_t1_loop v1803).trips), ∀ a, (k0_off358 v1803 k0_t1) a + S1x128.size a ≤ S6400x128.size a := fun v1803 k0_hw257 k0_t1 => k0_hw257.2.2.1.2.2.2.2.2.1 k0_t1
theorem k0_off359_inb : ∀ (v1803 : BitVec 32) (k0_hw257 : k0_chk257 v1803) (k0_t1 : Fin (k0_t1_loop v1803).trips), ∀ a, (k0_off359 v1803 k0_t1) a + S1.size a ≤ S6400.size a := fun v1803 k0_hw257 k0_t1 => k0_hw257.2.2.1.2.2.2.2.2.2.1 k0_t1
theorem k0_off361_inb : ∀ (v1803 : BitVec 32) (k0_hw257 : k0_chk257 v1803) (k0_t1 : Fin (k0_t1_loop v1803).trips), ∀ a, (k0_off361 v1803 k0_t1) a + S1x128.size a ≤ S6400x128.size a := fun v1803 k0_hw257 k0_t1 => k0_hw257.2.2.1.2.2.2.2.2.2.2.1 k0_t1
theorem k0_off362_inb : ∀ (v1803 : BitVec 32) (k0_hw257 : k0_chk257 v1803) (k0_t1 : Fin (k0_t1_loop v1803).trips), ∀ a, (k0_off362 v1803 k0_t1) a + S1.size a ≤ S6400.size a := fun v1803 k0_hw257 k0_t1 => k0_hw257.2.2.1.2.2.2.2.2.2.2.2.1 k0_t1
theorem k0_off364_inb : ∀ (v1803 : BitVec 32) (k0_hw257 : k0_chk257 v1803) (k0_t1 : Fin (k0_t1_loop v1803).trips), ∀ a, (k0_off364 v1803 k0_t1) a + S1x128.size a ≤ S6400x128.size a := fun v1803 k0_hw257 k0_t1 => k0_hw257.2.2.1.2.2.2.2.2.2.2.2.2.1 k0_t1
theorem k0_off365_inb : ∀ (v1803 : BitVec 32) (k0_hw257 : k0_chk257 v1803) (k0_t1 : Fin (k0_t1_loop v1803).trips), ∀ a, (k0_off365 v1803 k0_t1) a + S1.size a ≤ S6400.size a := fun v1803 k0_hw257 k0_t1 => k0_hw257.2.2.1.2.2.2.2.2.2.2.2.2.2.1 k0_t1
theorem k0_off367_inb : ∀ (v1803 : BitVec 32) (k0_hw257 : k0_chk257 v1803) (k0_t1 : Fin (k0_t1_loop v1803).trips), ∀ a, (k0_off367 v1803 k0_t1) a + S1x128.size a ≤ S6400x128.size a := fun v1803 k0_hw257 k0_t1 => k0_hw257.2.2.1.2.2.2.2.2.2.2.2.2.2.2.1 k0_t1
theorem k0_off368_inb : ∀ (v1803 : BitVec 32) (k0_hw257 : k0_chk257 v1803) (k0_t1 : Fin (k0_t1_loop v1803).trips), ∀ a, (k0_off368 v1803 k0_t1) a + S1.size a ≤ S6400.size a := fun v1803 k0_hw257 k0_t1 => k0_hw257.2.2.1.2.2.2.2.2.2.2.2.2.2.2.2.1 k0_t1
theorem k0_off370_inb : ∀ (v1803 : BitVec 32) (k0_hw257 : k0_chk257 v1803) (k0_t1 : Fin (k0_t1_loop v1803).trips), ∀ a, (k0_off370 v1803 k0_t1) a + S1x128.size a ≤ S6400x128.size a := fun v1803 k0_hw257 k0_t1 => k0_hw257.2.2.1.2.2.2.2.2.2.2.2.2.2.2.2.2.1 k0_t1
theorem k0_off371_inb : ∀ (v1803 : BitVec 32) (k0_hw257 : k0_chk257 v1803) (k0_t1 : Fin (k0_t1_loop v1803).trips), ∀ a, (k0_off371 v1803 k0_t1) a + S1.size a ≤ S6400.size a := fun v1803 k0_hw257 k0_t1 => k0_hw257.2.2.1.2.2.2.2.2.2.2.2.2.2.2.2.2.2.1 k0_t1
theorem k0_off373_inb : ∀ (v1803 : BitVec 32) (k0_hw257 : k0_chk257 v1803) (k0_t1 : Fin (k0_t1_loop v1803).trips), ∀ a, (k0_off373 v1803 k0_t1) a + S1x128.size a ≤ S6400x128.size a := fun v1803 k0_hw257 k0_t1 => k0_hw257.2.2.1.2.2.2.2.2.2.2.2.2.2.2.2.2.2.2.1 k0_t1
theorem k0_off374_inb : ∀ (v1803 : BitVec 32) (k0_hw257 : k0_chk257 v1803) (k0_t1 : Fin (k0_t1_loop v1803).trips), ∀ a, (k0_off374 v1803 k0_t1) a + S1.size a ≤ S6400.size a := fun v1803 k0_hw257 k0_t1 => k0_hw257.2.2.1.2.2.2.2.2.2.2.2.2.2.2.2.2.2.2.2.1 k0_t1
theorem k0_off376_inb : ∀ (v1803 : BitVec 32) (k0_hw257 : k0_chk257 v1803) (k0_t1 : Fin (k0_t1_loop v1803).trips), ∀ a, (k0_off376 v1803 k0_t1) a + S1x128.size a ≤ S6400x128.size a := fun v1803 k0_hw257 k0_t1 => k0_hw257.2.2.1.2.2.2.2.2.2.2.2.2.2.2.2.2.2.2.2.2.1 k0_t1
theorem k0_off377_inb : ∀ (v1803 : BitVec 32) (k0_hw257 : k0_chk257 v1803) (k0_t1 : Fin (k0_t1_loop v1803).trips), ∀ a, (k0_off377 v1803 k0_t1) a + S1.size a ≤ S6400.size a := fun v1803 k0_hw257 k0_t1 => k0_hw257.2.2.1.2.2.2.2.2.2.2.2.2.2.2.2.2.2.2.2.2.2.1 k0_t1
theorem k0_off379_inb : ∀ (v1803 : BitVec 32) (k0_hw257 : k0_chk257 v1803) (k0_t1 : Fin (k0_t1_loop v1803).trips), ∀ a, (k0_off379 v1803 k0_t1) a + S1x128.size a ≤ S6400x128.size a := fun v1803 k0_hw257 k0_t1 => k0_hw257.2.2.1.2.2.2.2.2.2.2.2.2.2.2.2.2.2.2.2.2.2.2.1 k0_t1
theorem k0_off380_inb : ∀ (v1803 : BitVec 32) (k0_hw257 : k0_chk257 v1803) (k0_t1 : Fin (k0_t1_loop v1803).trips), ∀ a, (k0_off380 v1803 k0_t1) a + S1.size a ≤ S6400.size a := fun v1803 k0_hw257 k0_t1 => k0_hw257.2.2.1.2.2.2.2.2.2.2.2.2.2.2.2.2.2.2.2.2.2.2.2.1 k0_t1
theorem k0_off382_inb : ∀ (v1803 : BitVec 32) (k0_hw257 : k0_chk257 v1803) (k0_t1 : Fin (k0_t1_loop v1803).trips), ∀ a, (k0_off382 v1803 k0_t1) a + S1x128.size a ≤ S6400x128.size a := fun v1803 k0_hw257 k0_t1 => k0_hw257.2.2.1.2.2.2.2.2.2.2.2.2.2.2.2.2.2.2.2.2.2.2.2.2.1 k0_t1
theorem k0_off383_inb : ∀ (v1803 : BitVec 32) (k0_hw257 : k0_chk257 v1803) (k0_t1 : Fin (k0_t1_loop v1803).trips), ∀ a, (k0_off383 v1803 k0_t1) a + S1.size a ≤ S6400.size a := fun v1803 k0_hw257 k0_t1 => k0_hw257.2.2.1.2.2.2.2.2.2.2.2.2.2.2.2.2.2.2.2.2.2.2.2.2.2.1 k0_t1
theorem k0_off385_inb : ∀ (v1803 : BitVec 32) (k0_hw257 : k0_chk257 v1803) (k0_t1 : Fin (k0_t1_loop v1803).trips), ∀ a, (k0_off385 v1803 k0_t1) a + S1x128.size a ≤ S6400x128.size a := fun v1803 k0_hw257 k0_t1 => k0_hw257.2.2.1.2.2.2.2.2.2.2.2.2.2.2.2.2.2.2.2.2.2.2.2.2.2.2.1 k0_t1
theorem k0_off386_inb : ∀ (v1803 : BitVec 32) (k0_hw257 : k0_chk257 v1803) (k0_t1 : Fin (k0_t1_loop v1803).trips), ∀ a, (k0_off386 v1803 k0_t1) a + S1.size a ≤ S6400.size a := fun v1803 k0_hw257 k0_t1 => k0_hw257.2.2.1.2.2.2.2.2.2.2.2.2.2.2.2.2.2.2.2.2.2.2.2.2.2.2.2.1 k0_t1
theorem k0_off388_inb : ∀ (v1803 : BitVec 32) (k0_hw257 : k0_chk257 v1803) (k0_t1 : Fin (k0_t1_loop v1803).trips), ∀ a, (k0_off388 v1803 k0_t1) a + S1x128.size a ≤ S6400x128.size a := fun v1803 k0_hw257 k0_t1 => k0_hw257.2.2.1.2.2.2.2.2.2.2.2.2.2.2.2.2.2.2.2.2.2.2.2.2.2.2.2.2.1 k0_t1
theorem k0_off389_inb : ∀ (v1803 : BitVec 32) (k0_hw257 : k0_chk257 v1803) (k0_t1 : Fin (k0_t1_loop v1803).trips), ∀ a, (k0_off389 v1803 k0_t1) a + S1.size a ≤ S6400.size a := fun v1803 k0_hw257 k0_t1 => k0_hw257.2.2.1.2.2.2.2.2.2.2.2.2.2.2.2.2.2.2.2.2.2.2.2.2.2.2.2.2.2.1 k0_t1
theorem k0_off391_inb : ∀ (v1803 : BitVec 32) (k0_hw257 : k0_chk257 v1803) (k0_t1 : Fin (k0_t1_loop v1803).trips), ∀ a, (k0_off391 v1803 k0_t1) a + S1x128.size a ≤ S6400x128.size a := fun v1803 k0_hw257 k0_t1 => k0_hw257.2.2.1.2.2.2.2.2.2.2.2.2.2.2.2.2.2.2.2.2.2.2.2.2.2.2.2.2.2.2.1 k0_t1
theorem k0_off392_inb : ∀ (v1803 : BitVec 32) (k0_hw257 : k0_chk257 v1803) (k0_t1 : Fin (k0_t1_loop v1803).trips), ∀ a, (k0_off392 v1803 k0_t1) a + S1.size a ≤ S6400.size a := fun v1803 k0_hw257 k0_t1 => k0_hw257.2.2.1.2.2.2.2.2.2.2.2.2.2.2.2.2.2.2.2.2.2.2.2.2.2.2.2.2.2.2.2.1 k0_t1
theorem k0_off394_inb : ∀ (v1803 : BitVec 32) (k0_hw257 : k0_chk257 v1803) (k0_t1 : Fin (k0_t1_loop v1803).trips), ∀ a, (k0_off394 v1803 k0_t1) a + S1x128.size a ≤ S6400x128.size a := fun v1803 k0_hw257 k0_t1 => k0_hw257.2.2.1.2.2.2.2.2.2.2.2.2.2.2.2.2.2.2.2.2.2.2.2.2.2.2.2.2.2.2.2.2.1 k0_t1
theorem k0_off395_inb : ∀ (v1803 : BitVec 32) (k0_hw257 : k0_chk257 v1803) (k0_t1 : Fin (k0_t1_loop v1803).trips), ∀ a, (k0_off395 v1803 k0_t1) a + S1.size a ≤ S6400.size a := fun v1803 k0_hw257 k0_t1 => k0_hw257.2.2.1.2.2.2.2.2.2.2.2.2.2.2.2.2.2.2.2.2.2.2.2.2.2.2.2.2.2.2.2.2.2.1 k0_t1
theorem k0_off397_inb : ∀ (v1803 : BitVec 32) (k0_hw257 : k0_chk257 v1803) (k0_t1 : Fin (k0_t1_loop v1803).trips), ∀ a, (k0_off397 v1803 k0_t1) a + S1x128.size a ≤ S6400x128.size a := fun v1803 k0_hw257 k0_t1 => k0_hw257.2.2.1.2.2.2.2.2.2.2.2.2.2.2.2.2.2.2.2.2.2.2.2.2.2.2.2.2.2.2.2.2.2.2 k0_t1
theorem k0_off398_inb : ∀ (v1803 : BitVec 32) (k0_hw257 : k0_chk257 v1803) (k0_t1 : Fin (k0_t1_loop v1803).trips), ∀ a, (k0_off398 v1803 k0_t1) a + S1.size a ≤ S6400.size a := fun v1803 k0_hw257 k0_t1 => k0_hw257.2.2.2.1.1 k0_t1
theorem k0_off400_inb : ∀ (v1803 : BitVec 32) (k0_hw257 : k0_chk257 v1803) (k0_t1 : Fin (k0_t1_loop v1803).trips), ∀ a, (k0_off400 v1803 k0_t1) a + S1x128.size a ≤ S6400x128.size a := fun v1803 k0_hw257 k0_t1 => k0_hw257.2.2.2.1.2.1 k0_t1
theorem k0_off401_inb : ∀ (v1803 : BitVec 32) (k0_hw257 : k0_chk257 v1803) (k0_t1 : Fin (k0_t1_loop v1803).trips), ∀ a, (k0_off401 v1803 k0_t1) a + S1.size a ≤ S6400.size a := fun v1803 k0_hw257 k0_t1 => k0_hw257.2.2.2.1.2.2.1 k0_t1
theorem k0_off403_inb : ∀ (v1803 : BitVec 32) (k0_hw257 : k0_chk257 v1803) (k0_t1 : Fin (k0_t1_loop v1803).trips), ∀ a, (k0_off403 v1803 k0_t1) a + S1x128.size a ≤ S6400x128.size a := fun v1803 k0_hw257 k0_t1 => k0_hw257.2.2.2.1.2.2.2.1 k0_t1
theorem k0_off404_inb : ∀ (v1803 : BitVec 32) (k0_hw257 : k0_chk257 v1803) (k0_t1 : Fin (k0_t1_loop v1803).trips), ∀ a, (k0_off404 v1803 k0_t1) a + S1.size a ≤ S6400.size a := fun v1803 k0_hw257 k0_t1 => k0_hw257.2.2.2.1.2.2.2.2.1 k0_t1
theorem k0_off406_inb : ∀ (v1803 : BitVec 32) (k0_hw257 : k0_chk257 v1803) (k0_t1 : Fin (k0_t1_loop v1803).trips), ∀ a, (k0_off406 v1803 k0_t1) a + S1x128.size a ≤ S6400x128.size a := fun v1803 k0_hw257 k0_t1 => k0_hw257.2.2.2.1.2.2.2.2.2.1 k0_t1
theorem k0_off407_inb : ∀ (v1803 : BitVec 32) (k0_hw257 : k0_chk257 v1803) (k0_t1 : Fin (k0_t1_loop v1803).trips), ∀ a, (k0_off407 v1803 k0_t1) a + S1.size a ≤ S6400.size a := fun v1803 k0_hw257 k0_t1 => k0_hw257.2.2.2.1.2.2.2.2.2.2.1 k0_t1
theorem k0_off409_inb : ∀ (v1803 : BitVec 32) (k0_hw257 : k0_chk257 v1803) (k0_t1 : Fin (k0_t1_loop v1803).trips), ∀ a, (k0_off409 v1803 k0_t1) a + S1x128.size a ≤ S6400x128.size a := fun v1803 k0_hw257 k0_t1 => k0_hw257.2.2.2.1.2.2.2.2.2.2.2.1 k0_t1
theorem k0_off410_inb : ∀ (v1803 : BitVec 32) (k0_hw257 : k0_chk257 v1803) (k0_t1 : Fin (k0_t1_loop v1803).trips), ∀ a, (k0_off410 v1803 k0_t1) a + S1.size a ≤ S6400.size a := fun v1803 k0_hw257 k0_t1 => k0_hw257.2.2.2.1.2.2.2.2.2.2.2.2.1 k0_t1
theorem k0_off412_inb : ∀ (v1803 : BitVec 32) (k0_hw257 : k0_chk257 v1803) (k0_t1 : Fin (k0_t1_loop v1803).trips), ∀ a, (k0_off412 v1803 k0_t1) a + S1x128.size a ≤ S6400x128.size a := fun v1803 k0_hw257 k0_t1 => k0_hw257.2.2.2.1.2.2.2.2.2.2.2.2.2.1 k0_t1
theorem k0_off413_inb : ∀ (v1803 : BitVec 32) (k0_hw257 : k0_chk257 v1803) (k0_t1 : Fin (k0_t1_loop v1803).trips), ∀ a, (k0_off413 v1803 k0_t1) a + S1.size a ≤ S6400.size a := fun v1803 k0_hw257 k0_t1 => k0_hw257.2.2.2.1.2.2.2.2.2.2.2.2.2.2.1 k0_t1
theorem k0_off415_inb : ∀ (v1803 : BitVec 32) (k0_hw257 : k0_chk257 v1803) (k0_t1 : Fin (k0_t1_loop v1803).trips), ∀ a, (k0_off415 v1803 k0_t1) a + S1x128.size a ≤ S6400x128.size a := fun v1803 k0_hw257 k0_t1 => k0_hw257.2.2.2.1.2.2.2.2.2.2.2.2.2.2.2.1 k0_t1
theorem k0_off416_inb : ∀ (v1803 : BitVec 32) (k0_hw257 : k0_chk257 v1803) (k0_t1 : Fin (k0_t1_loop v1803).trips), ∀ a, (k0_off416 v1803 k0_t1) a + S1.size a ≤ S6400.size a := fun v1803 k0_hw257 k0_t1 => k0_hw257.2.2.2.1.2.2.2.2.2.2.2.2.2.2.2.2.1 k0_t1
theorem k0_off418_inb : ∀ (v1803 : BitVec 32) (k0_hw257 : k0_chk257 v1803) (k0_t1 : Fin (k0_t1_loop v1803).trips), ∀ a, (k0_off418 v1803 k0_t1) a + S1x128.size a ≤ S6400x128.size a := fun v1803 k0_hw257 k0_t1 => k0_hw257.2.2.2.1.2.2.2.2.2.2.2.2.2.2.2.2.2.1 k0_t1
theorem k0_off419_inb : ∀ (v1803 : BitVec 32) (k0_hw257 : k0_chk257 v1803) (k0_t1 : Fin (k0_t1_loop v1803).trips), ∀ a, (k0_off419 v1803 k0_t1) a + S1.size a ≤ S6400.size a := fun v1803 k0_hw257 k0_t1 => k0_hw257.2.2.2.1.2.2.2.2.2.2.2.2.2.2.2.2.2.2.1 k0_t1
theorem k0_off421_inb : ∀ (v1803 : BitVec 32) (k0_hw257 : k0_chk257 v1803) (k0_t1 : Fin (k0_t1_loop v1803).trips), ∀ a, (k0_off421 v1803 k0_t1) a + S1x128.size a ≤ S6400x128.size a := fun v1803 k0_hw257 k0_t1 => k0_hw257.2.2.2.1.2.2.2.2.2.2.2.2.2.2.2.2.2.2.2.1 k0_t1
theorem k0_off422_inb : ∀ (v1803 : BitVec 32) (k0_hw257 : k0_chk257 v1803) (k0_t1 : Fin (k0_t1_loop v1803).trips), ∀ a, (k0_off422 v1803 k0_t1) a + S1.size a ≤ S6400.size a := fun v1803 k0_hw257 k0_t1 => k0_hw257.2.2.2.1.2.2.2.2.2.2.2.2.2.2.2.2.2.2.2.2.1 k0_t1
theorem k0_off424_inb : ∀ (v1803 : BitVec 32) (k0_hw257 : k0_chk257 v1803) (k0_t1 : Fin (k0_t1_loop v1803).trips), ∀ a, (k0_off424 v1803 k0_t1) a + S1x128.size a ≤ S6400x128.size a := fun v1803 k0_hw257 k0_t1 => k0_hw257.2.2.2.1.2.2.2.2.2.2.2.2.2.2.2.2.2.2.2.2.2.1 k0_t1
theorem k0_off425_inb : ∀ (v1803 : BitVec 32) (k0_hw257 : k0_chk257 v1803) (k0_t1 : Fin (k0_t1_loop v1803).trips), ∀ a, (k0_off425 v1803 k0_t1) a + S1.size a ≤ S6400.size a := fun v1803 k0_hw257 k0_t1 => k0_hw257.2.2.2.1.2.2.2.2.2.2.2.2.2.2.2.2.2.2.2.2.2.2.1 k0_t1
theorem k0_off427_inb : ∀ (v1803 : BitVec 32) (k0_hw257 : k0_chk257 v1803) (k0_t1 : Fin (k0_t1_loop v1803).trips), ∀ a, (k0_off427 v1803 k0_t1) a + S1x128.size a ≤ S6400x128.size a := fun v1803 k0_hw257 k0_t1 => k0_hw257.2.2.2.1.2.2.2.2.2.2.2.2.2.2.2.2.2.2.2.2.2.2.2.1 k0_t1
theorem k0_off428_inb : ∀ (v1803 : BitVec 32) (k0_hw257 : k0_chk257 v1803) (k0_t1 : Fin (k0_t1_loop v1803).trips), ∀ a, (k0_off428 v1803 k0_t1) a + S1.size a ≤ S6400.size a := fun v1803 k0_hw257 k0_t1 => k0_hw257.2.2.2.1.2.2.2.2.2.2.2.2.2.2.2.2.2.2.2.2.2.2.2.2.1 k0_t1
theorem k0_off430_inb : ∀ (v1803 : BitVec 32) (k0_hw257 : k0_chk257 v1803) (k0_t1 : Fin (k0_t1_loop v1803).trips), ∀ a, (k0_off430 v1803 k0_t1) a + S1x128.size a ≤ S6400x128.size a := fun v1803 k0_hw257 k0_t1 => k0_hw257.2.2.2.1.2.2.2.2.2.2.2.2.2.2.2.2.2.2.2.2.2.2.2.2.2.1 k0_t1
theorem k0_off431_inb : ∀ (v1803 : BitVec 32) (k0_hw257 : k0_chk257 v1803) (k0_t1 : Fin (k0_t1_loop v1803).trips), ∀ a, (k0_off431 v1803 k0_t1) a + S1.size a ≤ S6400.size a := fun v1803 k0_hw257 k0_t1 => k0_hw257.2.2.2.1.2.2.2.2.2.2.2.2.2.2.2.2.2.2.2.2.2.2.2.2.2.2.1 k0_t1
theorem k0_off433_inb : ∀ (v1803 : BitVec 32) (k0_hw257 : k0_chk257 v1803) (k0_t1 : Fin (k0_t1_loop v1803).trips), ∀ a, (k0_off433 v1803 k0_t1) a + S1x128.size a ≤ S6400x128.size a := fun v1803 k0_hw257 k0_t1 => k0_hw257.2.2.2.1.2.2.2.2.2.2.2.2.2.2.2.2.2.2.2.2.2.2.2.2.2.2.2.1 k0_t1
theorem k0_off434_inb : ∀ (v1803 : BitVec 32) (k0_hw257 : k0_chk257 v1803) (k0_t1 : Fin (k0_t1_loop v1803).trips), ∀ a, (k0_off434 v1803 k0_t1) a + S1.size a ≤ S6400.size a := fun v1803 k0_hw257 k0_t1 => k0_hw257.2.2.2.1.2.2.2.2.2.2.2.2.2.2.2.2.2.2.2.2.2.2.2.2.2.2.2.2.1 k0_t1
theorem k0_off436_inb : ∀ (v1803 : BitVec 32) (k0_hw257 : k0_chk257 v1803) (k0_t1 : Fin (k0_t1_loop v1803).trips), ∀ a, (k0_off436 v1803 k0_t1) a + S1x128.size a ≤ S6400x128.size a := fun v1803 k0_hw257 k0_t1 => k0_hw257.2.2.2.1.2.2.2.2.2.2.2.2.2.2.2.2.2.2.2.2.2.2.2.2.2.2.2.2.2.1 k0_t1
theorem k0_off437_inb : ∀ (v1803 : BitVec 32) (k0_hw257 : k0_chk257 v1803) (k0_t1 : Fin (k0_t1_loop v1803).trips), ∀ a, (k0_off437 v1803 k0_t1) a + S1.size a ≤ S6400.size a := fun v1803 k0_hw257 k0_t1 => k0_hw257.2.2.2.1.2.2.2.2.2.2.2.2.2.2.2.2.2.2.2.2.2.2.2.2.2.2.2.2.2.2.1 k0_t1
theorem k0_off439_inb : ∀ (v1803 : BitVec 32) (k0_hw257 : k0_chk257 v1803) (k0_t1 : Fin (k0_t1_loop v1803).trips), ∀ a, (k0_off439 v1803 k0_t1) a + S1x128.size a ≤ S6400x128.size a := fun v1803 k0_hw257 k0_t1 => k0_hw257.2.2.2.1.2.2.2.2.2.2.2.2.2.2.2.2.2.2.2.2.2.2.2.2.2.2.2.2.2.2.2.1 k0_t1
theorem k0_off440_inb : ∀ (v1803 : BitVec 32) (k0_hw257 : k0_chk257 v1803) (k0_t1 : Fin (k0_t1_loop v1803).trips), ∀ a, (k0_off440 v1803 k0_t1) a + S1.size a ≤ S6400.size a := fun v1803 k0_hw257 k0_t1 => k0_hw257.2.2.2.1.2.2.2.2.2.2.2.2.2.2.2.2.2.2.2.2.2.2.2.2.2.2.2.2.2.2.2.2.1 k0_t1
theorem k0_off442_inb : ∀ (v1803 : BitVec 32) (k0_hw257 : k0_chk257 v1803) (k0_t1 : Fin (k0_t1_loop v1803).trips), ∀ a, (k0_off442 v1803 k0_t1) a + S1x128.size a ≤ S6400x128.size a := fun v1803 k0_hw257 k0_t1 => k0_hw257.2.2.2.1.2.2.2.2.2.2.2.2.2.2.2.2.2.2.2.2.2.2.2.2.2.2.2.2.2.2.2.2.2.1 k0_t1
theorem k0_off443_inb : ∀ (v1803 : BitVec 32) (k0_hw257 : k0_chk257 v1803) (k0_t1 : Fin (k0_t1_loop v1803).trips), ∀ a, (k0_off443 v1803 k0_t1) a + S1.size a ≤ S6400.size a := fun v1803 k0_hw257 k0_t1 => k0_hw257.2.2.2.1.2.2.2.2.2.2.2.2.2.2.2.2.2.2.2.2.2.2.2.2.2.2.2.2.2.2.2.2.2.2.1 k0_t1
theorem k0_off445_inb : ∀ (v1803 : BitVec 32) (k0_hw257 : k0_chk257 v1803) (k0_t1 : Fin (k0_t1_loop v1803).trips), ∀ a, (k0_off445 v1803 k0_t1) a + S1x128.size a ≤ S6400x128.size a := fun v1803 k0_hw257 k0_t1 => k0_hw257.2.2.2.1.2.2.2.2.2.2.2.2.2.2.2.2.2.2.2.2.2.2.2.2.2.2.2.2.2.2.2.2.2.2.2 k0_t1
theorem k0_off446_inb : ∀ (v1803 : BitVec 32) (k0_hw257 : k0_chk257 v1803) (k0_t1 : Fin (k0_t1_loop v1803).trips), ∀ a, (k0_off446 v1803 k0_t1) a + S1.size a ≤ S6400.size a := fun v1803 k0_hw257 k0_t1 => k0_hw257.2.2.2.2.1.1 k0_t1
theorem k0_off448_inb : ∀ (v1803 : BitVec 32) (k0_hw257 : k0_chk257 v1803) (k0_t1 : Fin (k0_t1_loop v1803).trips), ∀ a, (k0_off448 v1803 k0_t1) a + S1x128.size a ≤ S6400x128.size a := fun v1803 k0_hw257 k0_t1 => k0_hw257.2.2.2.2.1.2.1 k0_t1
theorem k0_off449_inb : ∀ (v1803 : BitVec 32) (k0_hw257 : k0_chk257 v1803) (k0_t1 : Fin (k0_t1_loop v1803).trips), ∀ a, (k0_off449 v1803 k0_t1) a + S1.size a ≤ S6400.size a := fun v1803 k0_hw257 k0_t1 => k0_hw257.2.2.2.2.1.2.2.1 k0_t1
theorem k0_off451_inb : ∀ (v1803 : BitVec 32) (k0_hw257 : k0_chk257 v1803) (k0_t1 : Fin (k0_t1_loop v1803).trips), ∀ a, (k0_off451 v1803 k0_t1) a + S1x128.size a ≤ S6400x128.size a := fun v1803 k0_hw257 k0_t1 => k0_hw257.2.2.2.2.1.2.2.2.1 k0_t1
theorem k0_off452_inb : ∀ (v1803 : BitVec 32) (k0_hw257 : k0_chk257 v1803) (k0_t1 : Fin (k0_t1_loop v1803).trips), ∀ a, (k0_off452 v1803 k0_t1) a + S1.size a ≤ S6400.size a := fun v1803 k0_hw257 k0_t1 => k0_hw257.2.2.2.2.1.2.2.2.2.1 k0_t1
theorem k0_off454_inb : ∀ (v1803 : BitVec 32) (k0_hw257 : k0_chk257 v1803) (k0_t1 : Fin (k0_t1_loop v1803).trips), ∀ a, (k0_off454 v1803 k0_t1) a + S1x128.size a ≤ S6400x128.size a := fun v1803 k0_hw257 k0_t1 => k0_hw257.2.2.2.2.1.2.2.2.2.2.1 k0_t1
theorem k0_off455_inb : ∀ (v1803 : BitVec 32) (k0_hw257 : k0_chk257 v1803) (k0_t1 : Fin (k0_t1_loop v1803).trips), ∀ a, (k0_off455 v1803 k0_t1) a + S1.size a ≤ S6400.size a := fun v1803 k0_hw257 k0_t1 => k0_hw257.2.2.2.2.1.2.2.2.2.2.2.1 k0_t1
theorem k0_off457_inb : ∀ (v1803 : BitVec 32) (k0_hw257 : k0_chk257 v1803) (k0_t1 : Fin (k0_t1_loop v1803).trips), ∀ a, (k0_off457 v1803 k0_t1) a + S1x128.size a ≤ S6400x128.size a := fun v1803 k0_hw257 k0_t1 => k0_hw257.2.2.2.2.1.2.2.2.2.2.2.2.1 k0_t1
theorem k0_off458_inb : ∀ (v1803 : BitVec 32) (k0_hw257 : k0_chk257 v1803) (k0_t1 : Fin (k0_t1_loop v1803).trips), ∀ a, (k0_off458 v1803 k0_t1) a + S1.size a ≤ S6400.size a := fun v1803 k0_hw257 k0_t1 => k0_hw257.2.2.2.2.1.2.2.2.2.2.2.2.2.1 k0_t1
theorem k0_off460_inb : ∀ (v1803 : BitVec 32) (k0_hw257 : k0_chk257 v1803) (k0_t1 : Fin (k0_t1_loop v1803).trips), ∀ a, (k0_off460 v1803 k0_t1) a + S1x128.size a ≤ S6400x128.size a := fun v1803 k0_hw257 k0_t1 => k0_hw257.2.2.2.2.1.2.2.2.2.2.2.2.2.2.1 k0_t1
theorem k0_off461_inb : ∀ (v1803 : BitVec 32) (k0_hw257 : k0_chk257 v1803) (k0_t1 : Fin (k0_t1_loop v1803).trips), ∀ a, (k0_off461 v1803 k0_t1) a + S1.size a ≤ S6400.size a := fun v1803 k0_hw257 k0_t1 => k0_hw257.2.2.2.2.1.2.2.2.2.2.2.2.2.2.2.1 k0_t1
theorem k0_off463_inb : ∀ (v1803 : BitVec 32) (k0_hw257 : k0_chk257 v1803) (k0_t1 : Fin (k0_t1_loop v1803).trips), ∀ a, (k0_off463 v1803 k0_t1) a + S1x128.size a ≤ S6400x128.size a := fun v1803 k0_hw257 k0_t1 => k0_hw257.2.2.2.2.1.2.2.2.2.2.2.2.2.2.2.2.1 k0_t1
theorem k0_off464_inb : ∀ (v1803 : BitVec 32) (k0_hw257 : k0_chk257 v1803) (k0_t1 : Fin (k0_t1_loop v1803).trips), ∀ a, (k0_off464 v1803 k0_t1) a + S1.size a ≤ S6400.size a := fun v1803 k0_hw257 k0_t1 => k0_hw257.2.2.2.2.1.2.2.2.2.2.2.2.2.2.2.2.2.1 k0_t1
theorem k0_off466_inb : ∀ (v1803 : BitVec 32) (k0_hw257 : k0_chk257 v1803) (k0_t1 : Fin (k0_t1_loop v1803).trips), ∀ a, (k0_off466 v1803 k0_t1) a + S1x128.size a ≤ S6400x128.size a := fun v1803 k0_hw257 k0_t1 => k0_hw257.2.2.2.2.1.2.2.2.2.2.2.2.2.2.2.2.2.2.1 k0_t1
theorem k0_off467_inb : ∀ (v1803 : BitVec 32) (k0_hw257 : k0_chk257 v1803) (k0_t1 : Fin (k0_t1_loop v1803).trips), ∀ a, (k0_off467 v1803 k0_t1) a + S1.size a ≤ S6400.size a := fun v1803 k0_hw257 k0_t1 => k0_hw257.2.2.2.2.1.2.2.2.2.2.2.2.2.2.2.2.2.2.2.1 k0_t1
theorem k0_off469_inb : ∀ (v1803 : BitVec 32) (k0_hw257 : k0_chk257 v1803) (k0_t1 : Fin (k0_t1_loop v1803).trips), ∀ a, (k0_off469 v1803 k0_t1) a + S1x128.size a ≤ S6400x128.size a := fun v1803 k0_hw257 k0_t1 => k0_hw257.2.2.2.2.1.2.2.2.2.2.2.2.2.2.2.2.2.2.2.2.1 k0_t1
theorem k0_off470_inb : ∀ (v1803 : BitVec 32) (k0_hw257 : k0_chk257 v1803) (k0_t1 : Fin (k0_t1_loop v1803).trips), ∀ a, (k0_off470 v1803 k0_t1) a + S1.size a ≤ S6400.size a := fun v1803 k0_hw257 k0_t1 => k0_hw257.2.2.2.2.1.2.2.2.2.2.2.2.2.2.2.2.2.2.2.2.2.1 k0_t1
theorem k0_off472_inb : ∀ (v1803 : BitVec 32) (k0_hw257 : k0_chk257 v1803) (k0_t1 : Fin (k0_t1_loop v1803).trips), ∀ a, (k0_off472 v1803 k0_t1) a + S1x128.size a ≤ S6400x128.size a := fun v1803 k0_hw257 k0_t1 => k0_hw257.2.2.2.2.1.2.2.2.2.2.2.2.2.2.2.2.2.2.2.2.2.2.1 k0_t1
theorem k0_off473_inb : ∀ (v1803 : BitVec 32) (k0_hw257 : k0_chk257 v1803) (k0_t1 : Fin (k0_t1_loop v1803).trips), ∀ a, (k0_off473 v1803 k0_t1) a + S1.size a ≤ S6400.size a := fun v1803 k0_hw257 k0_t1 => k0_hw257.2.2.2.2.1.2.2.2.2.2.2.2.2.2.2.2.2.2.2.2.2.2.2.1 k0_t1
theorem k0_off475_inb : ∀ (v1803 : BitVec 32) (k0_hw257 : k0_chk257 v1803) (k0_t1 : Fin (k0_t1_loop v1803).trips), ∀ a, (k0_off475 v1803 k0_t1) a + S1x128.size a ≤ S6400x128.size a := fun v1803 k0_hw257 k0_t1 => k0_hw257.2.2.2.2.1.2.2.2.2.2.2.2.2.2.2.2.2.2.2.2.2.2.2.2.1 k0_t1
theorem k0_off476_inb : ∀ (v1803 : BitVec 32) (k0_hw257 : k0_chk257 v1803) (k0_t1 : Fin (k0_t1_loop v1803).trips), ∀ a, (k0_off476 v1803 k0_t1) a + S1.size a ≤ S6400.size a := fun v1803 k0_hw257 k0_t1 => k0_hw257.2.2.2.2.1.2.2.2.2.2.2.2.2.2.2.2.2.2.2.2.2.2.2.2.2.1 k0_t1
theorem k0_off478_inb : ∀ (v1803 : BitVec 32) (k0_hw257 : k0_chk257 v1803) (k0_t1 : Fin (k0_t1_loop v1803).trips), ∀ a, (k0_off478 v1803 k0_t1) a + S1x128.size a ≤ S6400x128.size a := fun v1803 k0_hw257 k0_t1 => k0_hw257.2.2.2.2.1.2.2.2.2.2.2.2.2.2.2.2.2.2.2.2.2.2.2.2.2.2.1 k0_t1
theorem k0_off479_inb : ∀ (v1803 : BitVec 32) (k0_hw257 : k0_chk257 v1803) (k0_t1 : Fin (k0_t1_loop v1803).trips), ∀ a, (k0_off479 v1803 k0_t1) a + S1.size a ≤ S6400.size a := fun v1803 k0_hw257 k0_t1 => k0_hw257.2.2.2.2.1.2.2.2.2.2.2.2.2.2.2.2.2.2.2.2.2.2.2.2.2.2.2.1 k0_t1
theorem k0_off481_inb : ∀ (v1803 : BitVec 32) (k0_hw257 : k0_chk257 v1803) (k0_t1 : Fin (k0_t1_loop v1803).trips), ∀ a, (k0_off481 v1803 k0_t1) a + S1x128.size a ≤ S6400x128.size a := fun v1803 k0_hw257 k0_t1 => k0_hw257.2.2.2.2.1.2.2.2.2.2.2.2.2.2.2.2.2.2.2.2.2.2.2.2.2.2.2.2.1 k0_t1
theorem k0_off482_inb : ∀ (v1803 : BitVec 32) (k0_hw257 : k0_chk257 v1803) (k0_t1 : Fin (k0_t1_loop v1803).trips), ∀ a, (k0_off482 v1803 k0_t1) a + S1.size a ≤ S6400.size a := fun v1803 k0_hw257 k0_t1 => k0_hw257.2.2.2.2.1.2.2.2.2.2.2.2.2.2.2.2.2.2.2.2.2.2.2.2.2.2.2.2.2.1 k0_t1
theorem k0_off484_inb : ∀ (v1803 : BitVec 32) (k0_hw257 : k0_chk257 v1803) (k0_t1 : Fin (k0_t1_loop v1803).trips), ∀ a, (k0_off484 v1803 k0_t1) a + S1x128.size a ≤ S6400x128.size a := fun v1803 k0_hw257 k0_t1 => k0_hw257.2.2.2.2.1.2.2.2.2.2.2.2.2.2.2.2.2.2.2.2.2.2.2.2.2.2.2.2.2.2.1 k0_t1
theorem k0_off485_inb : ∀ (v1803 : BitVec 32) (k0_hw257 : k0_chk257 v1803) (k0_t1 : Fin (k0_t1_loop v1803).trips), ∀ a, (k0_off485 v1803 k0_t1) a + S1.size a ≤ S6400.size a := fun v1803 k0_hw257 k0_t1 => k0_hw257.2.2.2.2.1.2.2.2.2.2.2.2.2.2.2.2.2.2.2.2.2.2.2.2.2.2.2.2.2.2.2.1 k0_t1
theorem k0_off487_inb : ∀ (v1803 : BitVec 32) (k0_hw257 : k0_chk257 v1803) (k0_t1 : Fin (k0_t1_loop v1803).trips), ∀ a, (k0_off487 v1803 k0_t1) a + S1x128.size a ≤ S6400x128.size a := fun v1803 k0_hw257 k0_t1 => k0_hw257.2.2.2.2.1.2.2.2.2.2.2.2.2.2.2.2.2.2.2.2.2.2.2.2.2.2.2.2.2.2.2.2.1 k0_t1
theorem k0_off488_inb : ∀ (v1803 : BitVec 32) (k0_hw257 : k0_chk257 v1803) (k0_t1 : Fin (k0_t1_loop v1803).trips), ∀ a, (k0_off488 v1803 k0_t1) a + S1.size a ≤ S6400.size a := fun v1803 k0_hw257 k0_t1 => k0_hw257.2.2.2.2.1.2.2.2.2.2.2.2.2.2.2.2.2.2.2.2.2.2.2.2.2.2.2.2.2.2.2.2.2.1 k0_t1
theorem k0_off490_inb : ∀ (v1803 : BitVec 32) (k0_hw257 : k0_chk257 v1803) (k0_t1 : Fin (k0_t1_loop v1803).trips), ∀ a, (k0_off490 v1803 k0_t1) a + S1x128.size a ≤ S6400x128.size a := fun v1803 k0_hw257 k0_t1 => k0_hw257.2.2.2.2.1.2.2.2.2.2.2.2.2.2.2.2.2.2.2.2.2.2.2.2.2.2.2.2.2.2.2.2.2.2.1 k0_t1
theorem k0_off491_inb : ∀ (v1803 : BitVec 32) (k0_hw257 : k0_chk257 v1803) (k0_t1 : Fin (k0_t1_loop v1803).trips), ∀ a, (k0_off491 v1803 k0_t1) a + S1.size a ≤ S6400.size a := fun v1803 k0_hw257 k0_t1 => k0_hw257.2.2.2.2.1.2.2.2.2.2.2.2.2.2.2.2.2.2.2.2.2.2.2.2.2.2.2.2.2.2.2.2.2.2.2.1 k0_t1
theorem k0_off493_inb : ∀ (v1803 : BitVec 32) (k0_hw257 : k0_chk257 v1803) (k0_t1 : Fin (k0_t1_loop v1803).trips), ∀ a, (k0_off493 v1803 k0_t1) a + S1x128.size a ≤ S6400x128.size a := fun v1803 k0_hw257 k0_t1 => k0_hw257.2.2.2.2.1.2.2.2.2.2.2.2.2.2.2.2.2.2.2.2.2.2.2.2.2.2.2.2.2.2.2.2.2.2.2.2 k0_t1
theorem k0_off494_inb : ∀ (v1803 : BitVec 32) (k0_hw257 : k0_chk257 v1803) (k0_t1 : Fin (k0_t1_loop v1803).trips), ∀ a, (k0_off494 v1803 k0_t1) a + S1.size a ≤ S6400.size a := fun v1803 k0_hw257 k0_t1 => k0_hw257.2.2.2.2.2.1.1 k0_t1
theorem k0_off496_inb : ∀ (v1803 : BitVec 32) (k0_hw257 : k0_chk257 v1803) (k0_t1 : Fin (k0_t1_loop v1803).trips), ∀ a, (k0_off496 v1803 k0_t1) a + S1x128.size a ≤ S6400x128.size a := fun v1803 k0_hw257 k0_t1 => k0_hw257.2.2.2.2.2.1.2.1 k0_t1
theorem k0_off497_inb : ∀ (v1803 : BitVec 32) (k0_hw257 : k0_chk257 v1803) (k0_t1 : Fin (k0_t1_loop v1803).trips), ∀ a, (k0_off497 v1803 k0_t1) a + S1.size a ≤ S6400.size a := fun v1803 k0_hw257 k0_t1 => k0_hw257.2.2.2.2.2.1.2.2.1 k0_t1
theorem k0_off499_inb : ∀ (v1803 : BitVec 32) (k0_hw257 : k0_chk257 v1803) (k0_t1 : Fin (k0_t1_loop v1803).trips), ∀ a, (k0_off499 v1803 k0_t1) a + S1x128.size a ≤ S6400x128.size a := fun v1803 k0_hw257 k0_t1 => k0_hw257.2.2.2.2.2.1.2.2.2.1 k0_t1
theorem k0_off500_inb : ∀ (v1803 : BitVec 32) (k0_hw257 : k0_chk257 v1803) (k0_t1 : Fin (k0_t1_loop v1803).trips), ∀ a, (k0_off500 v1803 k0_t1) a + S1.size a ≤ S6400.size a := fun v1803 k0_hw257 k0_t1 => k0_hw257.2.2.2.2.2.1.2.2.2.2.1 k0_t1
theorem k0_off502_inb : ∀ (v1803 : BitVec 32) (k0_hw257 : k0_chk257 v1803) (k0_t1 : Fin (k0_t1_loop v1803).trips), ∀ a, (k0_off502 v1803 k0_t1) a + S1x128.size a ≤ S6400x128.size a := fun v1803 k0_hw257 k0_t1 => k0_hw257.2.2.2.2.2.1.2.2.2.2.2.1 k0_t1
theorem k0_off503_inb : ∀ (v1803 : BitVec 32) (k0_hw257 : k0_chk257 v1803) (k0_t1 : Fin (k0_t1_loop v1803).trips), ∀ a, (k0_off503 v1803 k0_t1) a + S1.size a ≤ S6400.size a := fun v1803 k0_hw257 k0_t1 => k0_hw257.2.2.2.2.2.1.2.2.2.2.2.2.1 k0_t1
theorem k0_off505_inb : ∀ (v1803 : BitVec 32) (k0_hw257 : k0_chk257 v1803) (k0_t1 : Fin (k0_t1_loop v1803).trips), ∀ a, (k0_off505 v1803 k0_t1) a + S1x128.size a ≤ S6400x128.size a := fun v1803 k0_hw257 k0_t1 => k0_hw257.2.2.2.2.2.1.2.2.2.2.2.2.2.1 k0_t1
theorem k0_off506_inb : ∀ (v1803 : BitVec 32) (k0_hw257 : k0_chk257 v1803) (k0_t1 : Fin (k0_t1_loop v1803).trips), ∀ a, (k0_off506 v1803 k0_t1) a + S1.size a ≤ S6400.size a := fun v1803 k0_hw257 k0_t1 => k0_hw257.2.2.2.2.2.1.2.2.2.2.2.2.2.2.1 k0_t1
theorem k0_off508_inb : ∀ (v1803 : BitVec 32) (k0_hw257 : k0_chk257 v1803) (k0_t1 : Fin (k0_t1_loop v1803).trips), ∀ a, (k0_off508 v1803 k0_t1) a + S1x128.size a ≤ S6400x128.size a := fun v1803 k0_hw257 k0_t1 => k0_hw257.2.2.2.2.2.1.2.2.2.2.2.2.2.2.2.1 k0_t1
theorem k0_off509_inb : ∀ (v1803 : BitVec 32) (k0_hw257 : k0_chk257 v1803) (k0_t1 : Fin (k0_t1_loop v1803).trips), ∀ a, (k0_off509 v1803 k0_t1) a + S1.size a ≤ S6400.size a := fun v1803 k0_hw257 k0_t1 => k0_hw257.2.2.2.2.2.1.2.2.2.2.2.2.2.2.2.2.1 k0_t1
theorem k0_off511_inb : ∀ (v1803 : BitVec 32) (k0_hw257 : k0_chk257 v1803) (k0_t1 : Fin (k0_t1_loop v1803).trips), ∀ a, (k0_off511 v1803 k0_t1) a + S1x128.size a ≤ S6400x128.size a := fun v1803 k0_hw257 k0_t1 => k0_hw257.2.2.2.2.2.1.2.2.2.2.2.2.2.2.2.2.2.1 k0_t1
theorem k0_off512_inb : ∀ (v1803 : BitVec 32) (k0_hw257 : k0_chk257 v1803) (k0_t1 : Fin (k0_t1_loop v1803).trips), ∀ a, (k0_off512 v1803 k0_t1) a + S1.size a ≤ S6400.size a := fun v1803 k0_hw257 k0_t1 => k0_hw257.2.2.2.2.2.1.2.2.2.2.2.2.2.2.2.2.2.2.1 k0_t1
theorem k0_off514_inb : ∀ (v1803 : BitVec 32) (k0_hw257 : k0_chk257 v1803) (k0_t1 : Fin (k0_t1_loop v1803).trips), ∀ a, (k0_off514 v1803 k0_t1) a + S1x128.size a ≤ S6400x128.size a := fun v1803 k0_hw257 k0_t1 => k0_hw257.2.2.2.2.2.1.2.2.2.2.2.2.2.2.2.2.2.2.2.1 k0_t1
theorem k0_off515_inb : ∀ (v1803 : BitVec 32) (k0_hw257 : k0_chk257 v1803) (k0_t1 : Fin (k0_t1_loop v1803).trips), ∀ a, (k0_off515 v1803 k0_t1) a + S1.size a ≤ S6400.size a := fun v1803 k0_hw257 k0_t1 => k0_hw257.2.2.2.2.2.1.2.2.2.2.2.2.2.2.2.2.2.2.2.2.1 k0_t1
theorem k0_off517_inb : ∀ (v1803 : BitVec 32) (k0_hw257 : k0_chk257 v1803) (k0_t1 : Fin (k0_t1_loop v1803).trips), ∀ a, (k0_off517 v1803 k0_t1) a + S1x128.size a ≤ S6400x128.size a := fun v1803 k0_hw257 k0_t1 => k0_hw257.2.2.2.2.2.1.2.2.2.2.2.2.2.2.2.2.2.2.2.2.2.1 k0_t1
theorem k0_off518_inb : ∀ (v1803 : BitVec 32) (k0_hw257 : k0_chk257 v1803) (k0_t1 : Fin (k0_t1_loop v1803).trips), ∀ a, (k0_off518 v1803 k0_t1) a + S1.size a ≤ S6400.size a := fun v1803 k0_hw257 k0_t1 => k0_hw257.2.2.2.2.2.1.2.2.2.2.2.2.2.2.2.2.2.2.2.2.2.2.1 k0_t1
theorem k0_off520_inb : ∀ (v1803 : BitVec 32) (k0_hw257 : k0_chk257 v1803) (k0_t1 : Fin (k0_t1_loop v1803).trips), ∀ a, (k0_off520 v1803 k0_t1) a + S1x128.size a ≤ S6400x128.size a := fun v1803 k0_hw257 k0_t1 => k0_hw257.2.2.2.2.2.1.2.2.2.2.2.2.2.2.2.2.2.2.2.2.2.2.2.1 k0_t1
theorem k0_off521_inb : ∀ (v1803 : BitVec 32) (k0_hw257 : k0_chk257 v1803) (k0_t1 : Fin (k0_t1_loop v1803).trips), ∀ a, (k0_off521 v1803 k0_t1) a + S1.size a ≤ S6400.size a := fun v1803 k0_hw257 k0_t1 => k0_hw257.2.2.2.2.2.1.2.2.2.2.2.2.2.2.2.2.2.2.2.2.2.2.2.2.1 k0_t1
theorem k0_off523_inb : ∀ (v1803 : BitVec 32) (k0_hw257 : k0_chk257 v1803) (k0_t1 : Fin (k0_t1_loop v1803).trips), ∀ a, (k0_off523 v1803 k0_t1) a + S1x128.size a ≤ S6400x128.size a := fun v1803 k0_hw257 k0_t1 => k0_hw257.2.2.2.2.2.1.2.2.2.2.2.2.2.2.2.2.2.2.2.2.2.2.2.2.2.1 k0_t1
theorem k0_off524_inb : ∀ (v1803 : BitVec 32) (k0_hw257 : k0_chk257 v1803) (k0_t1 : Fin (k0_t1_loop v1803).trips), ∀ a, (k0_off524 v1803 k0_t1) a + S1.size a ≤ S6400.size a := fun v1803 k0_hw257 k0_t1 => k0_hw257.2.2.2.2.2.1.2.2.2.2.2.2.2.2.2.2.2.2.2.2.2.2.2.2.2.2.1 k0_t1
theorem k0_off526_inb : ∀ (v1803 : BitVec 32) (k0_hw257 : k0_chk257 v1803) (k0_t1 : Fin (k0_t1_loop v1803).trips), ∀ a, (k0_off526 v1803 k0_t1) a + S1x128.size a ≤ S6400x128.size a := fun v1803 k0_hw257 k0_t1 => k0_hw257.2.2.2.2.2.1.2.2.2.2.2.2.2.2.2.2.2.2.2.2.2.2.2.2.2.2.2.1 k0_t1
theorem k0_off527_inb : ∀ (v1803 : BitVec 32) (k0_hw257 : k0_chk257 v1803) (k0_t1 : Fin (k0_t1_loop v1803).trips), ∀ a, (k0_off527 v1803 k0_t1) a + S1.size a ≤ S6400.size a := fun v1803 k0_hw257 k0_t1 => k0_hw257.2.2.2.2.2.1.2.2.2.2.2.2.2.2.2.2.2.2.2.2.2.2.2.2.2.2.2.2.1 k0_t1
theorem k0_off529_inb : ∀ (v1803 : BitVec 32) (k0_hw257 : k0_chk257 v1803) (k0_t1 : Fin (k0_t1_loop v1803).trips), ∀ a, (k0_off529 v1803 k0_t1) a + S1x128.size a ≤ S6400x128.size a := fun v1803 k0_hw257 k0_t1 => k0_hw257.2.2.2.2.2.1.2.2.2.2.2.2.2.2.2.2.2.2.2.2.2.2.2.2.2.2.2.2.2.1 k0_t1
theorem k0_off530_inb : ∀ (v1803 : BitVec 32) (k0_hw257 : k0_chk257 v1803) (k0_t1 : Fin (k0_t1_loop v1803).trips), ∀ a, (k0_off530 v1803 k0_t1) a + S1.size a ≤ S6400.size a := fun v1803 k0_hw257 k0_t1 => k0_hw257.2.2.2.2.2.1.2.2.2.2.2.2.2.2.2.2.2.2.2.2.2.2.2.2.2.2.2.2.2.2.1 k0_t1
theorem k0_off532_inb : ∀ (v1803 : BitVec 32) (k0_hw257 : k0_chk257 v1803) (k0_t1 : Fin (k0_t1_loop v1803).trips), ∀ a, (k0_off532 v1803 k0_t1) a + S1x128.size a ≤ S6400x128.size a := fun v1803 k0_hw257 k0_t1 => k0_hw257.2.2.2.2.2.1.2.2.2.2.2.2.2.2.2.2.2.2.2.2.2.2.2.2.2.2.2.2.2.2.2.1 k0_t1
theorem k0_off533_inb : ∀ (v1803 : BitVec 32) (k0_hw257 : k0_chk257 v1803) (k0_t1 : Fin (k0_t1_loop v1803).trips), ∀ a, (k0_off533 v1803 k0_t1) a + S1.size a ≤ S6400.size a := fun v1803 k0_hw257 k0_t1 => k0_hw257.2.2.2.2.2.1.2.2.2.2.2.2.2.2.2.2.2.2.2.2.2.2.2.2.2.2.2.2.2.2.2.2.1 k0_t1
theorem k0_off535_inb : ∀ (v1803 : BitVec 32) (k0_hw257 : k0_chk257 v1803) (k0_t1 : Fin (k0_t1_loop v1803).trips), ∀ a, (k0_off535 v1803 k0_t1) a + S1x128.size a ≤ S6400x128.size a := fun v1803 k0_hw257 k0_t1 => k0_hw257.2.2.2.2.2.1.2.2.2.2.2.2.2.2.2.2.2.2.2.2.2.2.2.2.2.2.2.2.2.2.2.2.2.1 k0_t1
theorem k0_off536_inb : ∀ (v1803 : BitVec 32) (k0_hw257 : k0_chk257 v1803) (k0_t1 : Fin (k0_t1_loop v1803).trips), ∀ a, (k0_off536 v1803 k0_t1) a + S1.size a ≤ S6400.size a := fun v1803 k0_hw257 k0_t1 => k0_hw257.2.2.2.2.2.1.2.2.2.2.2.2.2.2.2.2.2.2.2.2.2.2.2.2.2.2.2.2.2.2.2.2.2.2.1 k0_t1
theorem k0_off538_inb : ∀ (v1803 : BitVec 32) (k0_hw257 : k0_chk257 v1803) (k0_t1 : Fin (k0_t1_loop v1803).trips), ∀ a, (k0_off538 v1803 k0_t1) a + S1x128.size a ≤ S6400x128.size a := fun v1803 k0_hw257 k0_t1 => k0_hw257.2.2.2.2.2.1.2.2.2.2.2.2.2.2.2.2.2.2.2.2.2.2.2.2.2.2.2.2.2.2.2.2.2.2.2.1 k0_t1
theorem k0_off539_inb : ∀ (v1803 : BitVec 32) (k0_hw257 : k0_chk257 v1803) (k0_t1 : Fin (k0_t1_loop v1803).trips), ∀ a, (k0_off539 v1803 k0_t1) a + S1.size a ≤ S6400.size a := fun v1803 k0_hw257 k0_t1 => k0_hw257.2.2.2.2.2.1.2.2.2.2.2.2.2.2.2.2.2.2.2.2.2.2.2.2.2.2.2.2.2.2.2.2.2.2.2.2.1 k0_t1
theorem k0_off541_inb : ∀ (v1803 : BitVec 32) (k0_hw257 : k0_chk257 v1803) (k0_t1 : Fin (k0_t1_loop v1803).trips), ∀ a, (k0_off541 v1803 k0_t1) a + S1x128.size a ≤ S6400x128.size a := fun v1803 k0_hw257 k0_t1 => k0_hw257.2.2.2.2.2.1.2.2.2.2.2.2.2.2.2.2.2.2.2.2.2.2.2.2.2.2.2.2.2.2.2.2.2.2.2.2.2 k0_t1
theorem k0_off542_inb : ∀ (v1803 : BitVec 32) (k0_hw257 : k0_chk257 v1803) (k0_t1 : Fin (k0_t1_loop v1803).trips), ∀ a, (k0_off542 v1803 k0_t1) a + S1.size a ≤ S6400.size a := fun v1803 k0_hw257 k0_t1 => k0_hw257.2.2.2.2.2.2.1.1 k0_t1
theorem k0_off544_inb : ∀ (v1803 : BitVec 32) (k0_hw257 : k0_chk257 v1803) (k0_t1 : Fin (k0_t1_loop v1803).trips), ∀ a, (k0_off544 v1803 k0_t1) a + S1x128.size a ≤ S6400x128.size a := fun v1803 k0_hw257 k0_t1 => k0_hw257.2.2.2.2.2.2.1.2.1 k0_t1
theorem k0_off545_inb : ∀ (v1803 : BitVec 32) (k0_hw257 : k0_chk257 v1803) (k0_t1 : Fin (k0_t1_loop v1803).trips), ∀ a, (k0_off545 v1803 k0_t1) a + S1.size a ≤ S6400.size a := fun v1803 k0_hw257 k0_t1 => k0_hw257.2.2.2.2.2.2.1.2.2.1 k0_t1
theorem k0_off547_inb : ∀ (v1803 : BitVec 32) (k0_hw257 : k0_chk257 v1803) (k0_t1 : Fin (k0_t1_loop v1803).trips), ∀ a, (k0_off547 v1803 k0_t1) a + S1x128.size a ≤ S6400x128.size a := fun v1803 k0_hw257 k0_t1 => k0_hw257.2.2.2.2.2.2.1.2.2.2.1 k0_t1
theorem k0_off548_inb : ∀ (v1803 : BitVec 32) (k0_hw257 : k0_chk257 v1803) (k0_t1 : Fin (k0_t1_loop v1803).trips), ∀ a, (k0_off548 v1803 k0_t1) a + S1.size a ≤ S6400.size a := fun v1803 k0_hw257 k0_t1 => k0_hw257.2.2.2.2.2.2.1.2.2.2.2.1 k0_t1
theorem k0_off550_inb : ∀ (v1803 : BitVec 32) (k0_hw257 : k0_chk257 v1803) (k0_t1 : Fin (k0_t1_loop v1803).trips), ∀ a, (k0_off550 v1803 k0_t1) a + S1x128.size a ≤ S6400x128.size a := fun v1803 k0_hw257 k0_t1 => k0_hw257.2.2.2.2.2.2.1.2.2.2.2.2.1 k0_t1
theorem k0_off551_inb : ∀ (v1803 : BitVec 32) (k0_hw257 : k0_chk257 v1803) (k0_t1 : Fin (k0_t1_loop v1803).trips), ∀ a, (k0_off551 v1803 k0_t1) a + S1.size a ≤ S6400.size a := fun v1803 k0_hw257 k0_t1 => k0_hw257.2.2.2.2.2.2.1.2.2.2.2.2.2.1 k0_t1
theorem k0_off553_inb : ∀ (v1803 : BitVec 32) (k0_hw257 : k0_chk257 v1803) (k0_t1 : Fin (k0_t1_loop v1803).trips), ∀ a, (k0_off553 v1803 k0_t1) a + S1x128.size a ≤ S6400x128.size a := fun v1803 k0_hw257 k0_t1 => k0_hw257.2.2.2.2.2.2.1.2.2.2.2.2.2.2.1 k0_t1
theorem k0_off554_inb : ∀ (v1803 : BitVec 32) (k0_hw257 : k0_chk257 v1803) (k0_t1 : Fin (k0_t1_loop v1803).trips), ∀ a, (k0_off554 v1803 k0_t1) a + S1.size a ≤ S6400.size a := fun v1803 k0_hw257 k0_t1 => k0_hw257.2.2.2.2.2.2.1.2.2.2.2.2.2.2.2.1 k0_t1
theorem k0_off556_inb : ∀ (v1803 : BitVec 32) (k0_hw257 : k0_chk257 v1803) (k0_t1 : Fin (k0_t1_loop v1803).trips), ∀ a, (k0_off556 v1803 k0_t1) a + S1x128.size a ≤ S6400x128.size a := fun v1803 k0_hw257 k0_t1 => k0_hw257.2.2.2.2.2.2.1.2.2.2.2.2.2.2.2.2.1 k0_t1
theorem k0_off557_inb : ∀ (v1803 : BitVec 32) (k0_hw257 : k0_chk257 v1803) (k0_t1 : Fin (k0_t1_loop v1803).trips), ∀ a, (k0_off557 v1803 k0_t1) a + S1.size a ≤ S6400.size a := fun v1803 k0_hw257 k0_t1 => k0_hw257.2.2.2.2.2.2.1.2.2.2.2.2.2.2.2.2.2.1 k0_t1
theorem k0_off559_inb : ∀ (v1803 : BitVec 32) (k0_hw257 : k0_chk257 v1803) (k0_t1 : Fin (k0_t1_loop v1803).trips), ∀ a, (k0_off559 v1803 k0_t1) a + S1x128.size a ≤ S6400x128.size a := fun v1803 k0_hw257 k0_t1 => k0_hw257.2.2.2.2.2.2.1.2.2.2.2.2.2.2.2.2.2.2.1 k0_t1
theorem k0_off560_inb : ∀ (v1803 : BitVec 32) (k0_hw257 : k0_chk257 v1803) (k0_t1 : Fin (k0_t1_loop v1803).trips), ∀ a, (k0_off560 v1803 k0_t1) a + S1.size a ≤ S6400.size a := fun v1803 k0_hw257 k0_t1 => k0_hw257.2.2.2.2.2.2.1.2.2.2.2.2.2.2.2.2.2.2.2.1 k0_t1
theorem k0_off562_inb : ∀ (v1803 : BitVec 32) (k0_hw257 : k0_chk257 v1803) (k0_t1 : Fin (k0_t1_loop v1803).trips), ∀ a, (k0_off562 v1803 k0_t1) a + S1x128.size a ≤ S6400x128.size a := fun v1803 k0_hw257 k0_t1 => k0_hw257.2.2.2.2.2.2.1.2.2.2.2.2.2.2.2.2.2.2.2.2.1 k0_t1
theorem k0_off563_inb : ∀ (v1803 : BitVec 32) (k0_hw257 : k0_chk257 v1803) (k0_t1 : Fin (k0_t1_loop v1803).trips), ∀ a, (k0_off563 v1803 k0_t1) a + S1.size a ≤ S6400.size a := fun v1803 k0_hw257 k0_t1 => k0_hw257.2.2.2.2.2.2.1.2.2.2.2.2.2.2.2.2.2.2.2.2.2.1 k0_t1
theorem k0_off565_inb : ∀ (v1803 : BitVec 32) (k0_hw257 : k0_chk257 v1803) (k0_t1 : Fin (k0_t1_loop v1803).trips), ∀ a, (k0_off565 v1803 k0_t1) a + S1x128.size a ≤ S6400x128.size a := fun v1803 k0_hw257 k0_t1 => k0_hw257.2.2.2.2.2.2.1.2.2.2.2.2.2.2.2.2.2.2.2.2.2.2.1 k0_t1
theorem k0_off566_inb : ∀ (v1803 : BitVec 32) (k0_hw257 : k0_chk257 v1803) (k0_t1 : Fin (k0_t1_loop v1803).trips), ∀ a, (k0_off566 v1803 k0_t1) a + S1.size a ≤ S6400.size a := fun v1803 k0_hw257 k0_t1 => k0_hw257.2.2.2.2.2.2.1.2.2.2.2.2.2.2.2.2.2.2.2.2.2.2.2.1 k0_t1
theorem k0_off568_inb : ∀ (v1803 : BitVec 32) (k0_hw257 : k0_chk257 v1803) (k0_t1 : Fin (k0_t1_loop v1803).trips), ∀ a, (k0_off568 v1803 k0_t1) a + S1x128.size a ≤ S6400x128.size a := fun v1803 k0_hw257 k0_t1 => k0_hw257.2.2.2.2.2.2.1.2.2.2.2.2.2.2.2.2.2.2.2.2.2.2.2.2.1 k0_t1
theorem k0_off569_inb : ∀ (v1803 : BitVec 32) (k0_hw257 : k0_chk257 v1803) (k0_t1 : Fin (k0_t1_loop v1803).trips), ∀ a, (k0_off569 v1803 k0_t1) a + S1.size a ≤ S6400.size a := fun v1803 k0_hw257 k0_t1 => k0_hw257.2.2.2.2.2.2.1.2.2.2.2.2.2.2.2.2.2.2.2.2.2.2.2.2.2.1 k0_t1
theorem k0_off571_inb : ∀ (v1803 : BitVec 32) (k0_hw257 : k0_chk257 v1803) (k0_t1 : Fin (k0_t1_loop v1803).trips), ∀ a, (k0_off571 v1803 k0_t1) a + S1x128.size a ≤ S6400x128.size a := fun v1803 k0_hw257 k0_t1 => k0_hw257.2.2.2.2.2.2.1.2.2.2.2.2.2.2.2.2.2.2.2.2.2.2.2.2.2.2.1 k0_t1
theorem k0_off572_inb : ∀ (v1803 : BitVec 32) (k0_hw257 : k0_chk257 v1803) (k0_t1 : Fin (k0_t1_loop v1803).trips), ∀ a, (k0_off572 v1803 k0_t1) a + S1.size a ≤ S6400.size a := fun v1803 k0_hw257 k0_t1 => k0_hw257.2.2.2.2.2.2.1.2.2.2.2.2.2.2.2.2.2.2.2.2.2.2.2.2.2.2.2.1 k0_t1
theorem k0_off574_inb : ∀ (v1803 : BitVec 32) (k0_hw257 : k0_chk257 v1803) (k0_t1 : Fin (k0_t1_loop v1803).trips), ∀ a, (k0_off574 v1803 k0_t1) a + S1x128.size a ≤ S6400x128.size a := fun v1803 k0_hw257 k0_t1 => k0_hw257.2.2.2.2.2.2.1.2.2.2.2.2.2.2.2.2.2.2.2.2.2.2.2.2.2.2.2.2.1 k0_t1
theorem k0_off575_inb : ∀ (v1803 : BitVec 32) (k0_hw257 : k0_chk257 v1803) (k0_t1 : Fin (k0_t1_loop v1803).trips), ∀ a, (k0_off575 v1803 k0_t1) a + S1.size a ≤ S6400.size a := fun v1803 k0_hw257 k0_t1 => k0_hw257.2.2.2.2.2.2.1.2.2.2.2.2.2.2.2.2.2.2.2.2.2.2.2.2.2.2.2.2.2.1 k0_t1
theorem k0_off577_inb : ∀ (v1803 : BitVec 32) (k0_hw257 : k0_chk257 v1803) (k0_t1 : Fin (k0_t1_loop v1803).trips), ∀ a, (k0_off577 v1803 k0_t1) a + S1x128.size a ≤ S6400x128.size a := fun v1803 k0_hw257 k0_t1 => k0_hw257.2.2.2.2.2.2.1.2.2.2.2.2.2.2.2.2.2.2.2.2.2.2.2.2.2.2.2.2.2.2.1 k0_t1
theorem k0_off578_inb : ∀ (v1803 : BitVec 32) (k0_hw257 : k0_chk257 v1803) (k0_t1 : Fin (k0_t1_loop v1803).trips), ∀ a, (k0_off578 v1803 k0_t1) a + S1.size a ≤ S6400.size a := fun v1803 k0_hw257 k0_t1 => k0_hw257.2.2.2.2.2.2.1.2.2.2.2.2.2.2.2.2.2.2.2.2.2.2.2.2.2.2.2.2.2.2.2.1 k0_t1
theorem k0_off580_inb : ∀ (v1803 : BitVec 32) (k0_hw257 : k0_chk257 v1803) (k0_t1 : Fin (k0_t1_loop v1803).trips), ∀ a, (k0_off580 v1803 k0_t1) a + S1x128.size a ≤ S6400x128.size a := fun v1803 k0_hw257 k0_t1 => k0_hw257.2.2.2.2.2.2.1.2.2.2.2.2.2.2.2.2.2.2.2.2.2.2.2.2.2.2.2.2.2.2.2.2.1 k0_t1
theorem k0_off581_inb : ∀ (v1803 : BitVec 32) (k0_hw257 : k0_chk257 v1803) (k0_t1 : Fin (k0_t1_loop v1803).trips), ∀ a, (k0_off581 v1803 k0_t1) a + S1.size a ≤ S6400.size a := fun v1803 k0_hw257 k0_t1 => k0_hw257.2.2.2.2.2.2.1.2.2.2.2.2.2.2.2.2.2.2.2.2.2.2.2.2.2.2.2.2.2.2.2.2.2.1 k0_t1
theorem k0_off583_inb : ∀ (v1803 : BitVec 32) (k0_hw257 : k0_chk257 v1803) (k0_t1 : Fin (k0_t1_loop v1803).trips), ∀ a, (k0_off583 v1803 k0_t1) a + S1x128.size a ≤ S6400x128.size a := fun v1803 k0_hw257 k0_t1 => k0_hw257.2.2.2.2.2.2.1.2.2.2.2.2.2.2.2.2.2.2.2.2.2.2.2.2.2.2.2.2.2.2.2.2.2.2.1 k0_t1
theorem k0_off584_inb : ∀ (v1803 : BitVec 32) (k0_hw257 : k0_chk257 v1803) (k0_t1 : Fin (k0_t1_loop v1803).trips), ∀ a, (k0_off584 v1803 k0_t1) a + S1.size a ≤ S6400.size a := fun v1803 k0_hw257 k0_t1 => k0_hw257.2.2.2.2.2.2.1.2.2.2.2.2.2.2.2.2.2.2.2.2.2.2.2.2.2.2.2.2.2.2.2.2.2.2.2.1 k0_t1
theorem k0_off586_inb : ∀ (v1803 : BitVec 32) (k0_hw257 : k0_chk257 v1803) (k0_t1 : Fin (k0_t1_loop v1803).trips), ∀ a, (k0_off586 v1803 k0_t1) a + S1x128.size a ≤ S6400x128.size a := fun v1803 k0_hw257 k0_t1 => k0_hw257.2.2.2.2.2.2.1.2.2.2.2.2.2.2.2.2.2.2.2.2.2.2.2.2.2.2.2.2.2.2.2.2.2.2.2.2.1 k0_t1
theorem k0_off587_inb : ∀ (v1803 : BitVec 32) (k0_hw257 : k0_chk257 v1803) (k0_t1 : Fin (k0_t1_loop v1803).trips), ∀ a, (k0_off587 v1803 k0_t1) a + S1.size a ≤ S6400.size a := fun v1803 k0_hw257 k0_t1 => k0_hw257.2.2.2.2.2.2.1.2.2.2.2.2.2.2.2.2.2.2.2.2.2.2.2.2.2.2.2.2.2.2.2.2.2.2.2.2.2.1 k0_t1
theorem k0_off589_inb : ∀ (v1803 : BitVec 32) (k0_hw257 : k0_chk257 v1803) (k0_t1 : Fin (k0_t1_loop v1803).trips), ∀ a, (k0_off589 v1803 k0_t1) a + S1x128.size a ≤ S6400x128.size a := fun v1803 k0_hw257 k0_t1 => k0_hw257.2.2.2.2.2.2.1.2.2.2.2.2.2.2.2.2.2.2.2.2.2.2.2.2.2.2.2.2.2.2.2.2.2.2.2.2.2.2 k0_t1
theorem k0_off590_inb : ∀ (v1803 : BitVec 32) (k0_hw257 : k0_chk257 v1803) (k0_t1 : Fin (k0_t1_loop v1803).trips), ∀ a, (k0_off590 v1803 k0_t1) a + S1.size a ≤ S6400.size a := fun v1803 k0_hw257 k0_t1 => k0_hw257.2.2.2.2.2.2.2.1.1 k0_t1
theorem k0_off592_inb : ∀ (v1803 : BitVec 32) (k0_hw257 : k0_chk257 v1803) (k0_t1 : Fin (k0_t1_loop v1803).trips), ∀ a, (k0_off592 v1803 k0_t1) a + S1x128.size a ≤ S6400x128.size a := fun v1803 k0_hw257 k0_t1 => k0_hw257.2.2.2.2.2.2.2.1.2.1 k0_t1
theorem k0_off593_inb : ∀ (v1803 : BitVec 32) (k0_hw257 : k0_chk257 v1803) (k0_t1 : Fin (k0_t1_loop v1803).trips), ∀ a, (k0_off593 v1803 k0_t1) a + S1.size a ≤ S6400.size a := fun v1803 k0_hw257 k0_t1 => k0_hw257.2.2.2.2.2.2.2.1.2.2.1 k0_t1
theorem k0_off595_inb : ∀ (v1803 : BitVec 32) (k0_hw257 : k0_chk257 v1803) (k0_t1 : Fin (k0_t1_loop v1803).trips), ∀ a, (k0_off595 v1803 k0_t1) a + S1x128.size a ≤ S6400x128.size a := fun v1803 k0_hw257 k0_t1 => k0_hw257.2.2.2.2.2.2.2.1.2.2.2.1 k0_t1
theorem k0_off596_inb : ∀ (v1803 : BitVec 32) (k0_hw257 : k0_chk257 v1803) (k0_t1 : Fin (k0_t1_loop v1803).trips), ∀ a, (k0_off596 v1803 k0_t1) a + S1.size a ≤ S6400.size a := fun v1803 k0_hw257 k0_t1 => k0_hw257.2.2.2.2.2.2.2.1.2.2.2.2.1 k0_t1
theorem k0_off598_inb : ∀ (v1803 : BitVec 32) (k0_hw257 : k0_chk257 v1803) (k0_t1 : Fin (k0_t1_loop v1803).trips), ∀ a, (k0_off598 v1803 k0_t1) a + S1x128.size a ≤ S6400x128.size a := fun v1803 k0_hw257 k0_t1 => k0_hw257.2.2.2.2.2.2.2.1.2.2.2.2.2.1 k0_t1
theorem k0_off599_inb : ∀ (v1803 : BitVec 32) (k0_hw257 : k0_chk257 v1803) (k0_t1 : Fin (k0_t1_loop v1803).trips), ∀ a, (k0_off599 v1803 k0_t1) a + S1.size a ≤ S6400.size a := fun v1803 k0_hw257 k0_t1 => k0_hw257.2.2.2.2.2.2.2.1.2.2.2.2.2.2.1 k0_t1
theorem k0_off601_inb : ∀ (v1803 : BitVec 32) (k0_hw257 : k0_chk257 v1803) (k0_t1 : Fin (k0_t1_loop v1803).trips), ∀ a, (k0_off601 v1803 k0_t1) a + S1x128.size a ≤ S6400x128.size a := fun v1803 k0_hw257 k0_t1 => k0_hw257.2.2.2.2.2.2.2.1.2.2.2.2.2.2.2.1 k0_t1
theorem k0_off602_inb : ∀ (v1803 : BitVec 32) (k0_hw257 : k0_chk257 v1803) (k0_t1 : Fin (k0_t1_loop v1803).trips), ∀ a, (k0_off602 v1803 k0_t1) a + S1.size a ≤ S6400.size a := fun v1803 k0_hw257 k0_t1 => k0_hw257.2.2.2.2.2.2.2.1.2.2.2.2.2.2.2.2.1 k0_t1
theorem k0_off604_inb : ∀ (v1803 : BitVec 32) (k0_hw257 : k0_chk257 v1803) (k0_t1 : Fin (k0_t1_loop v1803).trips), ∀ a, (k0_off604 v1803 k0_t1) a + S1x128.size a ≤ S6400x128.size a := fun v1803 k0_hw257 k0_t1 => k0_hw257.2.2.2.2.2.2.2.1.2.2.2.2.2.2.2.2.2.1 k0_t1
theorem k0_off605_inb : ∀ (v1803 : BitVec 32) (k0_hw257 : k0_chk257 v1803) (k0_t1 : Fin (k0_t1_loop v1803).trips), ∀ a, (k0_off605 v1803 k0_t1) a + S1.size a ≤ S6400.size a := fun v1803 k0_hw257 k0_t1 => k0_hw257.2.2.2.2.2.2.2.1.2.2.2.2.2.2.2.2.2.2.1 k0_t1
theorem k0_off607_inb : ∀ (v1803 : BitVec 32) (k0_hw257 : k0_chk257 v1803) (k0_t1 : Fin (k0_t1_loop v1803).trips), ∀ a, (k0_off607 v1803 k0_t1) a + S1x128.size a ≤ S6400x128.size a := fun v1803 k0_hw257 k0_t1 => k0_hw257.2.2.2.2.2.2.2.1.2.2.2.2.2.2.2.2.2.2.2.1 k0_t1
theorem k0_off608_inb : ∀ (v1803 : BitVec 32) (k0_hw257 : k0_chk257 v1803) (k0_t1 : Fin (k0_t1_loop v1803).trips), ∀ a, (k0_off608 v1803 k0_t1) a + S1.size a ≤ S6400.size a := fun v1803 k0_hw257 k0_t1 => k0_hw257.2.2.2.2.2.2.2.1.2.2.2.2.2.2.2.2.2.2.2.2.1 k0_t1
theorem k0_off610_inb : ∀ (v1803 : BitVec 32) (k0_hw257 : k0_chk257 v1803) (k0_t1 : Fin (k0_t1_loop v1803).trips), ∀ a, (k0_off610 v1803 k0_t1) a + S1x128.size a ≤ S6400x128.size a := fun v1803 k0_hw257 k0_t1 => k0_hw257.2.2.2.2.2.2.2.1.2.2.2.2.2.2.2.2.2.2.2.2.2.1 k0_t1
theorem k0_off611_inb : ∀ (v1803 : BitVec 32) (k0_hw257 : k0_chk257 v1803) (k0_t1 : Fin (k0_t1_loop v1803).trips), ∀ a, (k0_off611 v1803 k0_t1) a + S1.size a ≤ S6400.size a := fun v1803 k0_hw257 k0_t1 => k0_hw257.2.2.2.2.2.2.2.1.2.2.2.2.2.2.2.2.2.2.2.2.2.2.1 k0_t1
theorem k0_off613_inb : ∀ (v1803 : BitVec 32) (k0_hw257 : k0_chk257 v1803) (k0_t1 : Fin (k0_t1_loop v1803).trips), ∀ a, (k0_off613 v1803 k0_t1) a + S1x128.size a ≤ S6400x128.size a := fun v1803 k0_hw257 k0_t1 => k0_hw257.2.2.2.2.2.2.2.1.2.2.2.2.2.2.2.2.2.2.2.2.2.2.2.1 k0_t1
theorem k0_off614_inb : ∀ (v1803 : BitVec 32) (k0_hw257 : k0_chk257 v1803) (k0_t1 : Fin (k0_t1_loop v1803).trips), ∀ a, (k0_off614 v1803 k0_t1) a + S1.size a ≤ S6400.size a := fun v1803 k0_hw257 k0_t1 => k0_hw257.2.2.2.2.2.2.2.1.2.2.2.2.2.2.2.2.2.2.2.2.2.2.2.2.1 k0_t1
theorem k0_off616_inb : ∀ (v1803 : BitVec 32) (k0_hw257 : k0_chk257 v1803) (k0_t1 : Fin (k0_t1_loop v1803).trips), ∀ a, (k0_off616 v1803 k0_t1) a + S1x128.size a ≤ S6400x128.size a := fun v1803 k0_hw257 k0_t1 => k0_hw257.2.2.2.2.2.2.2.1.2.2.2.2.2.2.2.2.2.2.2.2.2.2.2.2.2.1 k0_t1
theorem k0_off617_inb : ∀ (v1803 : BitVec 32) (k0_hw257 : k0_chk257 v1803) (k0_t1 : Fin (k0_t1_loop v1803).trips), ∀ a, (k0_off617 v1803 k0_t1) a + S1.size a ≤ S6400.size a := fun v1803 k0_hw257 k0_t1 => k0_hw257.2.2.2.2.2.2.2.1.2.2.2.2.2.2.2.2.2.2.2.2.2.2.2.2.2.2.1 k0_t1
theorem k0_off619_inb : ∀ (v1803 : BitVec 32) (k0_hw257 : k0_chk257 v1803) (k0_t1 : Fin (k0_t1_loop v1803).trips), ∀ a, (k0_off619 v1803 k0_t1) a + S1x128.size a ≤ S6400x128.size a := fun v1803 k0_hw257 k0_t1 => k0_hw257.2.2.2.2.2.2.2.1.2.2.2.2.2.2.2.2.2.2.2.2.2.2.2.2.2.2.2.1 k0_t1
theorem k0_off620_inb : ∀ (v1803 : BitVec 32) (k0_hw257 : k0_chk257 v1803) (k0_t1 : Fin (k0_t1_loop v1803).trips), ∀ a, (k0_off620 v1803 k0_t1) a + S1.size a ≤ S6400.size a := fun v1803 k0_hw257 k0_t1 => k0_hw257.2.2.2.2.2.2.2.1.2.2.2.2.2.2.2.2.2.2.2.2.2.2.2.2.2.2.2.2.1 k0_t1
theorem k0_off622_inb : ∀ (v1803 : BitVec 32) (k0_hw257 : k0_chk257 v1803) (k0_t1 : Fin (k0_t1_loop v1803).trips), ∀ a, (k0_off622 v1803 k0_t1) a + S1x128.size a ≤ S6400x128.size a := fun v1803 k0_hw257 k0_t1 => k0_hw257.2.2.2.2.2.2.2.1.2.2.2.2.2.2.2.2.2.2.2.2.2.2.2.2.2.2.2.2.2.1 k0_t1
theorem k0_off623_inb : ∀ (v1803 : BitVec 32) (k0_hw257 : k0_chk257 v1803) (k0_t1 : Fin (k0_t1_loop v1803).trips), ∀ a, (k0_off623 v1803 k0_t1) a + S1.size a ≤ S6400.size a := fun v1803 k0_hw257 k0_t1 => k0_hw257.2.2.2.2.2.2.2.1.2.2.2.2.2.2.2.2.2.2.2.2.2.2.2.2.2.2.2.2.2.2.1 k0_t1
theorem k0_off625_inb : ∀ (v1803 : BitVec 32) (k0_hw257 : k0_chk257 v1803) (k0_t1 : Fin (k0_t1_loop v1803).trips), ∀ a, (k0_off625 v1803 k0_t1) a + S1x128.size a ≤ S6400x128.size a := fun v1803 k0_hw257 k0_t1 => k0_hw257.2.2.2.2.2.2.2.1.2.2.2.2.2.2.2.2.2.2.2.2.2.2.2.2.2.2.2.2.2.2.2.1 k0_t1
theorem k0_off626_inb : ∀ (v1803 : BitVec 32) (k0_hw257 : k0_chk257 v1803) (k0_t1 : Fin (k0_t1_loop v1803).trips), ∀ a, (k0_off626 v1803 k0_t1) a + S1.size a ≤ S6400.size a := fun v1803 k0_hw257 k0_t1 => k0_hw257.2.2.2.2.2.2.2.1.2.2.2.2.2.2.2.2.2.2.2.2.2.2.2.2.2.2.2.2.2.2.2.2.1 k0_t1
theorem k0_off628_inb : ∀ (v1803 : BitVec 32) (k0_hw257 : k0_chk257 v1803) (k0_t1 : Fin (k0_t1_loop v1803).trips), ∀ a, (k0_off628 v1803 k0_t1) a + S1x128.size a ≤ S6400x128.size a := fun v1803 k0_hw257 k0_t1 => k0_hw257.2.2.2.2.2.2.2.1.2.2.2.2.2.2.2.2.2.2.2.2.2.2.2.2.2.2.2.2.2.2.2.2.2.1 k0_t1
theorem k0_off629_inb : ∀ (v1803 : BitVec 32) (k0_hw257 : k0_chk257 v1803) (k0_t1 : Fin (k0_t1_loop v1803).trips), ∀ a, (k0_off629 v1803 k0_t1) a + S1.size a ≤ S6400.size a := fun v1803 k0_hw257 k0_t1 => k0_hw257.2.2.2.2.2.2.2.1.2.2.2.2.2.2.2.2.2.2.2.2.2.2.2.2.2.2.2.2.2.2.2.2.2.2.1 k0_t1
theorem k0_off631_inb : ∀ (v1803 : BitVec 32) (k0_hw257 : k0_chk257 v1803) (k0_t1 : Fin (k0_t1_loop v1803).trips), ∀ a, (k0_off631 v1803 k0_t1) a + S1x128.size a ≤ S6400x128.size a := fun v1803 k0_hw257 k0_t1 => k0_hw257.2.2.2.2.2.2.2.1.2.2.2.2.2.2.2.2.2.2.2.2.2.2.2.2.2.2.2.2.2.2.2.2.2.2.2.1 k0_t1
theorem k0_off632_inb : ∀ (v1803 : BitVec 32) (k0_hw257 : k0_chk257 v1803) (k0_t1 : Fin (k0_t1_loop v1803).trips), ∀ a, (k0_off632 v1803 k0_t1) a + S1.size a ≤ S6400.size a := fun v1803 k0_hw257 k0_t1 => k0_hw257.2.2.2.2.2.2.2.1.2.2.2.2.2.2.2.2.2.2.2.2.2.2.2.2.2.2.2.2.2.2.2.2.2.2.2.2.1 k0_t1
theorem k0_off634_inb : ∀ (v1803 : BitVec 32) (k0_hw257 : k0_chk257 v1803) (k0_t1 : Fin (k0_t1_loop v1803).trips), ∀ a, (k0_off634 v1803 k0_t1) a + S1x128.size a ≤ S6400x128.size a := fun v1803 k0_hw257 k0_t1 => k0_hw257.2.2.2.2.2.2.2.1.2.2.2.2.2.2.2.2.2.2.2.2.2.2.2.2.2.2.2.2.2.2.2.2.2.2.2.2.2.1 k0_t1
theorem k0_off635_inb : ∀ (v1803 : BitVec 32) (k0_hw257 : k0_chk257 v1803) (k0_t1 : Fin (k0_t1_loop v1803).trips), ∀ a, (k0_off635 v1803 k0_t1) a + S1.size a ≤ S6400.size a := fun v1803 k0_hw257 k0_t1 => k0_hw257.2.2.2.2.2.2.2.1.2.2.2.2.2.2.2.2.2.2.2.2.2.2.2.2.2.2.2.2.2.2.2.2.2.2.2.2.2.2.1 k0_t1
theorem k0_off637_inb : ∀ (v1803 : BitVec 32) (k0_hw257 : k0_chk257 v1803) (k0_t1 : Fin (k0_t1_loop v1803).trips), ∀ a, (k0_off637 v1803 k0_t1) a + S1x128.size a ≤ S6400x128.size a := fun v1803 k0_hw257 k0_t1 => k0_hw257.2.2.2.2.2.2.2.1.2.2.2.2.2.2.2.2.2.2.2.2.2.2.2.2.2.2.2.2.2.2.2.2.2.2.2.2.2.2.2 k0_t1
theorem k0_off638_inb : ∀ (v1803 : BitVec 32) (k0_hw257 : k0_chk257 v1803) (k0_t1 : Fin (k0_t1_loop v1803).trips), ∀ a, (k0_off638 v1803 k0_t1) a + S1.size a ≤ S6400.size a := fun v1803 k0_hw257 k0_t1 => k0_hw257.2.2.2.2.2.2.2.2.1.1 k0_t1
theorem k0_off640_inb : ∀ (v1803 : BitVec 32) (k0_hw257 : k0_chk257 v1803) (k0_t1 : Fin (k0_t1_loop v1803).trips), ∀ a, (k0_off640 v1803 k0_t1) a + S1x128.size a ≤ S6400x128.size a := fun v1803 k0_hw257 k0_t1 => k0_hw257.2.2.2.2.2.2.2.2.1.2.1 k0_t1
theorem k0_t2_ok : ∀ (v1803 : BitVec 32) (k0_hw257 : k0_chk257 v1803), (k0_t2_loop v1803).OK := fun v1803 k0_hw257 => k0_hw257.2.2.2.2.2.2.2.2.1.2.2.1
theorem k0_mult2_dvd : ∀ (v1803 : BitVec 32) (k0_hw257 : k0_chk257 v1803) (k0_t2 : Fin (k0_t2_loop v1803).trips), 128 ∣ (k0_mult2 v1803 k0_t2).toNat := fun v1803 k0_hw257 k0_t2 => k0_hw257.2.2.2.2.2.2.2.2.1.2.2.2.1 k0_t2
theorem k0_off641_inb : ∀ (v1803 : BitVec 32) (k0_hw257 : k0_chk257 v1803) (k0_t2 : Fin (k0_t2_loop v1803).trips), ∀ a, (k0_off641 v1803 k0_t2) a + S1.size a ≤ S6400.size a := fun v1803 k0_hw257 k0_t2 => k0_hw257.2.2.2.2.2.2.2.2.1.2.2.2.2.1 k0_t2
theorem k0_off643_inb : ∀ (v1803 : BitVec 32) (k0_hw257 : k0_chk257 v1803) (k0_t2 : Fin (k0_t2_loop v1803).trips), ∀ a, (k0_off643 v1803 k0_t2) a + S1x128.size a ≤ S6400x128.size a := fun v1803 k0_hw257 k0_t2 => k0_hw257.2.2.2.2.2.2.2.2.1.2.2.2.2.2.1 k0_t2
theorem k0_off644_inb : ∀ (v1803 : BitVec 32) (k0_hw257 : k0_chk257 v1803) (k0_t2 : Fin (k0_t2_loop v1803).trips), ∀ a, (k0_off644 v1803 k0_t2) a + S1.size a ≤ S6400.size a := fun v1803 k0_hw257 k0_t2 => k0_hw257.2.2.2.2.2.2.2.2.1.2.2.2.2.2.2.1 k0_t2
theorem k0_off646_inb : ∀ (v1803 : BitVec 32) (k0_hw257 : k0_chk257 v1803) (k0_t2 : Fin (k0_t2_loop v1803).trips), ∀ a, (k0_off646 v1803 k0_t2) a + S1x128.size a ≤ S6400x128.size a := fun v1803 k0_hw257 k0_t2 => k0_hw257.2.2.2.2.2.2.2.2.1.2.2.2.2.2.2.2.1 k0_t2
theorem k0_off647_inb : ∀ (v1803 : BitVec 32) (k0_hw257 : k0_chk257 v1803) (k0_t2 : Fin (k0_t2_loop v1803).trips), ∀ a, (k0_off647 v1803 k0_t2) a + S1.size a ≤ S6400.size a := fun v1803 k0_hw257 k0_t2 => k0_hw257.2.2.2.2.2.2.2.2.1.2.2.2.2.2.2.2.2.1 k0_t2
theorem k0_off649_inb : ∀ (v1803 : BitVec 32) (k0_hw257 : k0_chk257 v1803) (k0_t2 : Fin (k0_t2_loop v1803).trips), ∀ a, (k0_off649 v1803 k0_t2) a + S1x128.size a ≤ S6400x128.size a := fun v1803 k0_hw257 k0_t2 => k0_hw257.2.2.2.2.2.2.2.2.1.2.2.2.2.2.2.2.2.2.1 k0_t2
theorem k0_off650_inb : ∀ (v1803 : BitVec 32) (k0_hw257 : k0_chk257 v1803) (k0_t2 : Fin (k0_t2_loop v1803).trips), ∀ a, (k0_off650 v1803 k0_t2) a + S1.size a ≤ S6400.size a := fun v1803 k0_hw257 k0_t2 => k0_hw257.2.2.2.2.2.2.2.2.1.2.2.2.2.2.2.2.2.2.2.1 k0_t2
theorem k0_off652_inb : ∀ (v1803 : BitVec 32) (k0_hw257 : k0_chk257 v1803) (k0_t2 : Fin (k0_t2_loop v1803).trips), ∀ a, (k0_off652 v1803 k0_t2) a + S1x128.size a ≤ S6400x128.size a := fun v1803 k0_hw257 k0_t2 => k0_hw257.2.2.2.2.2.2.2.2.1.2.2.2.2.2.2.2.2.2.2.2.1 k0_t2
theorem k0_off653_inb : ∀ (v1803 : BitVec 32) (k0_hw257 : k0_chk257 v1803) (k0_t2 : Fin (k0_t2_loop v1803).trips), ∀ a, (k0_off653 v1803 k0_t2) a + S1.size a ≤ S6400.size a := fun v1803 k0_hw257 k0_t2 => k0_hw257.2.2.2.2.2.2.2.2.1.2.2.2.2.2.2.2.2.2.2.2.2.1 k0_t2
theorem k0_off655_inb : ∀ (v1803 : BitVec 32) (k0_hw257 : k0_chk257 v1803) (k0_t2 : Fin (k0_t2_loop v1803).trips), ∀ a, (k0_off655 v1803 k0_t2) a + S1x128.size a ≤ S6400x128.size a := fun v1803 k0_hw257 k0_t2 => k0_hw257.2.2.2.2.2.2.2.2.1.2.2.2.2.2.2.2.2.2.2.2.2.2.1 k0_t2
theorem k0_off656_inb : ∀ (v1803 : BitVec 32) (k0_hw257 : k0_chk257 v1803) (k0_t2 : Fin (k0_t2_loop v1803).trips), ∀ a, (k0_off656 v1803 k0_t2) a + S1.size a ≤ S6400.size a := fun v1803 k0_hw257 k0_t2 => k0_hw257.2.2.2.2.2.2.2.2.1.2.2.2.2.2.2.2.2.2.2.2.2.2.2.1 k0_t2
theorem k0_off658_inb : ∀ (v1803 : BitVec 32) (k0_hw257 : k0_chk257 v1803) (k0_t2 : Fin (k0_t2_loop v1803).trips), ∀ a, (k0_off658 v1803 k0_t2) a + S1x128.size a ≤ S6400x128.size a := fun v1803 k0_hw257 k0_t2 => k0_hw257.2.2.2.2.2.2.2.2.1.2.2.2.2.2.2.2.2.2.2.2.2.2.2.2.1 k0_t2
theorem k0_off659_inb : ∀ (v1803 : BitVec 32) (k0_hw257 : k0_chk257 v1803) (k0_t2 : Fin (k0_t2_loop v1803).trips), ∀ a, (k0_off659 v1803 k0_t2) a + S1.size a ≤ S6400.size a := fun v1803 k0_hw257 k0_t2 => k0_hw257.2.2.2.2.2.2.2.2.1.2.2.2.2.2.2.2.2.2.2.2.2.2.2.2.2.1 k0_t2
theorem k0_off661_inb : ∀ (v1803 : BitVec 32) (k0_hw257 : k0_chk257 v1803) (k0_t2 : Fin (k0_t2_loop v1803).trips), ∀ a, (k0_off661 v1803 k0_t2) a + S1x128.size a ≤ S6400x128.size a := fun v1803 k0_hw257 k0_t2 => k0_hw257.2.2.2.2.2.2.2.2.1.2.2.2.2.2.2.2.2.2.2.2.2.2.2.2.2.2.1 k0_t2
theorem k0_off662_inb : ∀ (v1803 : BitVec 32) (k0_hw257 : k0_chk257 v1803) (k0_t2 : Fin (k0_t2_loop v1803).trips), ∀ a, (k0_off662 v1803 k0_t2) a + S1.size a ≤ S6400.size a := fun v1803 k0_hw257 k0_t2 => k0_hw257.2.2.2.2.2.2.2.2.1.2.2.2.2.2.2.2.2.2.2.2.2.2.2.2.2.2.2.1 k0_t2
theorem k0_off664_inb : ∀ (v1803 : BitVec 32) (k0_hw257 : k0_chk257 v1803) (k0_t2 : Fin (k0_t2_loop v1803).trips), ∀ a, (k0_off664 v1803 k0_t2) a + S1x128.size a ≤ S6400x128.size a := fun v1803 k0_hw257 k0_t2 => k0_hw257.2.2.2.2.2.2.2.2.1.2.2.2.2.2.2.2.2.2.2.2.2.2.2.2.2.2.2.2.1 k0_t2
theorem k0_off665_inb : ∀ (v1803 : BitVec 32) (k0_hw257 : k0_chk257 v1803) (k0_t2 : Fin (k0_t2_loop v1803).trips), ∀ a, (k0_off665 v1803 k0_t2) a + S1.size a ≤ S6400.size a := fun v1803 k0_hw257 k0_t2 => k0_hw257.2.2.2.2.2.2.2.2.1.2.2.2.2.2.2.2.2.2.2.2.2.2.2.2.2.2.2.2.2.1 k0_t2
theorem k0_off667_inb : ∀ (v1803 : BitVec 32) (k0_hw257 : k0_chk257 v1803) (k0_t2 : Fin (k0_t2_loop v1803).trips), ∀ a, (k0_off667 v1803 k0_t2) a + S1x128.size a ≤ S6400x128.size a := fun v1803 k0_hw257 k0_t2 => k0_hw257.2.2.2.2.2.2.2.2.1.2.2.2.2.2.2.2.2.2.2.2.2.2.2.2.2.2.2.2.2.2.1 k0_t2
theorem k0_off668_inb : ∀ (v1803 : BitVec 32) (k0_hw257 : k0_chk257 v1803) (k0_t2 : Fin (k0_t2_loop v1803).trips), ∀ a, (k0_off668 v1803 k0_t2) a + S1.size a ≤ S6400.size a := fun v1803 k0_hw257 k0_t2 => k0_hw257.2.2.2.2.2.2.2.2.1.2.2.2.2.2.2.2.2.2.2.2.2.2.2.2.2.2.2.2.2.2.2.1 k0_t2
theorem k0_off670_inb : ∀ (v1803 : BitVec 32) (k0_hw257 : k0_chk257 v1803) (k0_t2 : Fin (k0_t2_loop v1803).trips), ∀ a, (k0_off670 v1803 k0_t2) a + S1x128.size a ≤ S6400x128.size a := fun v1803 k0_hw257 k0_t2 => k0_hw257.2.2.2.2.2.2.2.2.1.2.2.2.2.2.2.2.2.2.2.2.2.2.2.2.2.2.2.2.2.2.2.2.1 k0_t2
theorem k0_off671_inb : ∀ (v1803 : BitVec 32) (k0_hw257 : k0_chk257 v1803) (k0_t2 : Fin (k0_t2_loop v1803).trips), ∀ a, (k0_off671 v1803 k0_t2) a + S1.size a ≤ S6400.size a := fun v1803 k0_hw257 k0_t2 => k0_hw257.2.2.2.2.2.2.2.2.1.2.2.2.2.2.2.2.2.2.2.2.2.2.2.2.2.2.2.2.2.2.2.2.2.1 k0_t2
theorem k0_off673_inb : ∀ (v1803 : BitVec 32) (k0_hw257 : k0_chk257 v1803) (k0_t2 : Fin (k0_t2_loop v1803).trips), ∀ a, (k0_off673 v1803 k0_t2) a + S1x128.size a ≤ S6400x128.size a := fun v1803 k0_hw257 k0_t2 => k0_hw257.2.2.2.2.2.2.2.2.1.2.2.2.2.2.2.2.2.2.2.2.2.2.2.2.2.2.2.2.2.2.2.2.2.2.1 k0_t2
theorem k0_off674_inb : ∀ (v1803 : BitVec 32) (k0_hw257 : k0_chk257 v1803) (k0_t2 : Fin (k0_t2_loop v1803).trips), ∀ a, (k0_off674 v1803 k0_t2) a + S1.size a ≤ S6400.size a := fun v1803 k0_hw257 k0_t2 => k0_hw257.2.2.2.2.2.2.2.2.1.2.2.2.2.2.2.2.2.2.2.2.2.2.2.2.2.2.2.2.2.2.2.2.2.2.2.1 k0_t2
theorem k0_off676_inb : ∀ (v1803 : BitVec 32) (k0_hw257 : k0_chk257 v1803) (k0_t2 : Fin (k0_t2_loop v1803).trips), ∀ a, (k0_off676 v1803 k0_t2) a + S1x128.size a ≤ S6400x128.size a := fun v1803 k0_hw257 k0_t2 => k0_hw257.2.2.2.2.2.2.2.2.1.2.2.2.2.2.2.2.2.2.2.2.2.2.2.2.2.2.2.2.2.2.2.2.2.2.2.2.1 k0_t2
theorem k0_off677_inb : ∀ (v1803 : BitVec 32) (k0_hw257 : k0_chk257 v1803) (k0_t2 : Fin (k0_t2_loop v1803).trips), ∀ a, (k0_off677 v1803 k0_t2) a + S1.size a ≤ S6400.size a := fun v1803 k0_hw257 k0_t2 => k0_hw257.2.2.2.2.2.2.2.2.1.2.2.2.2.2.2.2.2.2.2.2.2.2.2.2.2.2.2.2.2.2.2.2.2.2.2.2.2.1 k0_t2
theorem k0_off679_inb : ∀ (v1803 : BitVec 32) (k0_hw257 : k0_chk257 v1803) (k0_t2 : Fin (k0_t2_loop v1803).trips), ∀ a, (k0_off679 v1803 k0_t2) a + S1x128.size a ≤ S6400x128.size a := fun v1803 k0_hw257 k0_t2 => k0_hw257.2.2.2.2.2.2.2.2.1.2.2.2.2.2.2.2.2.2.2.2.2.2.2.2.2.2.2.2.2.2.2.2.2.2.2.2.2.2.1 k0_t2
theorem k0_off680_inb : ∀ (v1803 : BitVec 32) (k0_hw257 : k0_chk257 v1803) (k0_t2 : Fin (k0_t2_loop v1803).trips), ∀ a, (k0_off680 v1803 k0_t2) a + S1.size a ≤ S6400.size a := fun v1803 k0_hw257 k0_t2 => k0_hw257.2.2.2.2.2.2.2.2.1.2.2.2.2.2.2.2.2.2.2.2.2.2.2.2.2.2.2.2.2.2.2.2.2.2.2.2.2.2.2.1 k0_t2
theorem k0_off682_inb : ∀ (v1803 : BitVec 32) (k0_hw257 : k0_chk257 v1803) (k0_t2 : Fin (k0_t2_loop v1803).trips), ∀ a, (k0_off682 v1803 k0_t2) a + S1x128.size a ≤ S6400x128.size a := fun v1803 k0_hw257 k0_t2 => k0_hw257.2.2.2.2.2.2.2.2.1.2.2.2.2.2.2.2.2.2.2.2.2.2.2.2.2.2.2.2.2.2.2.2.2.2.2.2.2.2.2.2 k0_t2
theorem k0_off683_inb : ∀ (v1803 : BitVec 32) (k0_hw257 : k0_chk257 v1803) (k0_t2 : Fin (k0_t2_loop v1803).trips), ∀ a, (k0_off683 v1803 k0_t2) a + S1.size a ≤ S6400.size a := fun v1803 k0_hw257 k0_t2 => k0_hw257.2.2.2.2.2.2.2.2.2.1.1 k0_t2
theorem k0_off685_inb : ∀ (v1803 : BitVec 32) (k0_hw257 : k0_chk257 v1803) (k0_t2 : Fin (k0_t2_loop v1803).trips), ∀ a, (k0_off685 v1803 k0_t2) a + S1x128.size a ≤ S6400x128.size a := fun v1803 k0_hw257 k0_t2 => k0_hw257.2.2.2.2.2.2.2.2.2.1.2.1 k0_t2
theorem k0_off686_inb : ∀ (v1803 : BitVec 32) (k0_hw257 : k0_chk257 v1803) (k0_t2 : Fin (k0_t2_loop v1803).trips), ∀ a, (k0_off686 v1803 k0_t2) a + S1.size a ≤ S6400.size a := fun v1803 k0_hw257 k0_t2 => k0_hw257.2.2.2.2.2.2.2.2.2.1.2.2.1 k0_t2
theorem k0_off688_inb : ∀ (v1803 : BitVec 32) (k0_hw257 : k0_chk257 v1803) (k0_t2 : Fin (k0_t2_loop v1803).trips), ∀ a, (k0_off688 v1803 k0_t2) a + S1x128.size a ≤ S6400x128.size a := fun v1803 k0_hw257 k0_t2 => k0_hw257.2.2.2.2.2.2.2.2.2.1.2.2.2.1 k0_t2
theorem k0_off689_inb : ∀ (v1803 : BitVec 32) (k0_hw257 : k0_chk257 v1803) (k0_t2 : Fin (k0_t2_loop v1803).trips), ∀ a, (k0_off689 v1803 k0_t2) a + S1.size a ≤ S6400.size a := fun v1803 k0_hw257 k0_t2 => k0_hw257.2.2.2.2.2.2.2.2.2.1.2.2.2.2.1 k0_t2
theorem k0_off691_inb : ∀ (v1803 : BitVec 32) (k0_hw257 : k0_chk257 v1803) (k0_t2 : Fin (k0_t2_loop v1803).trips), ∀ a, (k0_off691 v1803 k0_t2) a + S1x128.size a ≤ S6400x128.size a := fun v1803 k0_hw257 k0_t2 => k0_hw257.2.2.2.2.2.2.2.2.2.1.2.2.2.2.2.1 k0_t2
theorem k0_off692_inb : ∀ (v1803 : BitVec 32) (k0_hw257 : k0_chk257 v1803) (k0_t2 : Fin (k0_t2_loop v1803).trips), ∀ a, (k0_off692 v1803 k0_t2) a + S1.size a ≤ S6400.size a := fun v1803 k0_hw257 k0_t2 => k0_hw257.2.2.2.2.2.2.2.2.2.1.2.2.2.2.2.2.1 k0_t2
theorem k0_off694_inb : ∀ (v1803 : BitVec 32) (k0_hw257 : k0_chk257 v1803) (k0_t2 : Fin (k0_t2_loop v1803).trips), ∀ a, (k0_off694 v1803 k0_t2) a + S1x128.size a ≤ S6400x128.size a := fun v1803 k0_hw257 k0_t2 => k0_hw257.2.2.2.2.2.2.2.2.2.1.2.2.2.2.2.2.2.1 k0_t2
theorem k0_off695_inb : ∀ (v1803 : BitVec 32) (k0_hw257 : k0_chk257 v1803) (k0_t2 : Fin (k0_t2_loop v1803).trips), ∀ a, (k0_off695 v1803 k0_t2) a + S1.size a ≤ S6400.size a := fun v1803 k0_hw257 k0_t2 => k0_hw257.2.2.2.2.2.2.2.2.2.1.2.2.2.2.2.2.2.2.1 k0_t2
theorem k0_off697_inb : ∀ (v1803 : BitVec 32) (k0_hw257 : k0_chk257 v1803) (k0_t2 : Fin (k0_t2_loop v1803).trips), ∀ a, (k0_off697 v1803 k0_t2) a + S1x128.size a ≤ S6400x128.size a := fun v1803 k0_hw257 k0_t2 => k0_hw257.2.2.2.2.2.2.2.2.2.1.2.2.2.2.2.2.2.2.2.1 k0_t2
theorem k0_off698_inb : ∀ (v1803 : BitVec 32) (k0_hw257 : k0_chk257 v1803) (k0_t2 : Fin (k0_t2_loop v1803).trips), ∀ a, (k0_off698 v1803 k0_t2) a + S1.size a ≤ S6400.size a := fun v1803 k0_hw257 k0_t2 => k0_hw257.2.2.2.2.2.2.2.2.2.1.2.2.2.2.2.2.2.2.2.2.1 k0_t2
theorem k0_off700_inb : ∀ (v1803 : BitVec 32) (k0_hw257 : k0_chk257 v1803) (k0_t2 : Fin (k0_t2_loop v1803).trips), ∀ a, (k0_off700 v1803 k0_t2) a + S1x128.size a ≤ S6400x128.size a := fun v1803 k0_hw257 k0_t2 => k0_hw257.2.2.2.2.2.2.2.2.2.1.2.2.2.2.2.2.2.2.2.2.2.1 k0_t2
theorem k0_off701_inb : ∀ (v1803 : BitVec 32) (k0_hw257 : k0_chk257 v1803) (k0_t2 : Fin (k0_t2_loop v1803).trips), ∀ a, (k0_off701 v1803 k0_t2) a + S1.size a ≤ S6400.size a := fun v1803 k0_hw257 k0_t2 => k0_hw257.2.2.2.2.2.2.2.2.2.1.2.2.2.2.2.2.2.2.2.2.2.2.1 k0_t2
theorem k0_off703_inb : ∀ (v1803 : BitVec 32) (k0_hw257 : k0_chk257 v1803) (k0_t2 : Fin (k0_t2_loop v1803).trips), ∀ a, (k0_off703 v1803 k0_t2) a + S1x128.size a ≤ S6400x128.size a := fun v1803 k0_hw257 k0_t2 => k0_hw257.2.2.2.2.2.2.2.2.2.1.2.2.2.2.2.2.2.2.2.2.2.2.2.1 k0_t2
theorem k0_off704_inb : ∀ (v1803 : BitVec 32) (k0_hw257 : k0_chk257 v1803) (k0_t2 : Fin (k0_t2_loop v1803).trips), ∀ a, (k0_off704 v1803 k0_t2) a + S1.size a ≤ S6400.size a := fun v1803 k0_hw257 k0_t2 => k0_hw257.2.2.2.2.2.2.2.2.2.1.2.2.2.2.2.2.2.2.2.2.2.2.2.2.1 k0_t2
theorem k0_off706_inb : ∀ (v1803 : BitVec 32) (k0_hw257 : k0_chk257 v1803) (k0_t2 : Fin (k0_t2_loop v1803).trips), ∀ a, (k0_off706 v1803 k0_t2) a + S1x128.size a ≤ S6400x128.size a := fun v1803 k0_hw257 k0_t2 => k0_hw257.2.2.2.2.2.2.2.2.2.1.2.2.2.2.2.2.2.2.2.2.2.2.2.2.2.1 k0_t2
theorem k0_off707_inb : ∀ (v1803 : BitVec 32) (k0_hw257 : k0_chk257 v1803) (k0_t2 : Fin (k0_t2_loop v1803).trips), ∀ a, (k0_off707 v1803 k0_t2) a + S1.size a ≤ S6400.size a := fun v1803 k0_hw257 k0_t2 => k0_hw257.2.2.2.2.2.2.2.2.2.1.2.2.2.2.2.2.2.2.2.2.2.2.2.2.2.2.1 k0_t2
theorem k0_off709_inb : ∀ (v1803 : BitVec 32) (k0_hw257 : k0_chk257 v1803) (k0_t2 : Fin (k0_t2_loop v1803).trips), ∀ a, (k0_off709 v1803 k0_t2) a + S1x128.size a ≤ S6400x128.size a := fun v1803 k0_hw257 k0_t2 => k0_hw257.2.2.2.2.2.2.2.2.2.1.2.2.2.2.2.2.2.2.2.2.2.2.2.2.2.2.2.1 k0_t2
theorem k0_off710_inb : ∀ (v1803 : BitVec 32) (k0_hw257 : k0_chk257 v1803) (k0_t2 : Fin (k0_t2_loop v1803).trips), ∀ a, (k0_off710 v1803 k0_t2) a + S1.size a ≤ S6400.size a := fun v1803 k0_hw257 k0_t2 => k0_hw257.2.2.2.2.2.2.2.2.2.1.2.2.2.2.2.2.2.2.2.2.2.2.2.2.2.2.2.2.1 k0_t2
theorem k0_off712_inb : ∀ (v1803 : BitVec 32) (k0_hw257 : k0_chk257 v1803) (k0_t2 : Fin (k0_t2_loop v1803).trips), ∀ a, (k0_off712 v1803 k0_t2) a + S1x128.size a ≤ S6400x128.size a := fun v1803 k0_hw257 k0_t2 => k0_hw257.2.2.2.2.2.2.2.2.2.1.2.2.2.2.2.2.2.2.2.2.2.2.2.2.2.2.2.2.2.1 k0_t2
theorem k0_off713_inb : ∀ (v1803 : BitVec 32) (k0_hw257 : k0_chk257 v1803) (k0_t2 : Fin (k0_t2_loop v1803).trips), ∀ a, (k0_off713 v1803 k0_t2) a + S1.size a ≤ S6400.size a := fun v1803 k0_hw257 k0_t2 => k0_hw257.2.2.2.2.2.2.2.2.2.1.2.2.2.2.2.2.2.2.2.2.2.2.2.2.2.2.2.2.2.2.1 k0_t2
theorem k0_off715_inb : ∀ (v1803 : BitVec 32) (k0_hw257 : k0_chk257 v1803) (k0_t2 : Fin (k0_t2_loop v1803).trips), ∀ a, (k0_off715 v1803 k0_t2) a + S1x128.size a ≤ S6400x128.size a := fun v1803 k0_hw257 k0_t2 => k0_hw257.2.2.2.2.2.2.2.2.2.1.2.2.2.2.2.2.2.2.2.2.2.2.2.2.2.2.2.2.2.2.2.1 k0_t2
theorem k0_off716_inb : ∀ (v1803 : BitVec 32) (k0_hw257 : k0_chk257 v1803) (k0_t2 : Fin (k0_t2_loop v1803).trips), ∀ a, (k0_off716 v1803 k0_t2) a + S1.size a ≤ S6400.size a := fun v1803 k0_hw257 k0_t2 => k0_hw257.2.2.2.2.2.2.2.2.2.1.2.2.2.2.2.2.2.2.2.2.2.2.2.2.2.2.2.2.2.2.2.2.1 k0_t2
theorem k0_off718_inb : ∀ (v1803 : BitVec 32) (k0_hw257 : k0_chk257 v1803) (k0_t2 : Fin (k0_t2_loop v1803).trips), ∀ a, (k0_off718 v1803 k0_t2) a + S1x128.size a ≤ S6400x128.size a := fun v1803 k0_hw257 k0_t2 => k0_hw257.2.2.2.2.2.2.2.2.2.1.2.2.2.2.2.2.2.2.2.2.2.2.2.2.2.2.2.2.2.2.2.2.2.1 k0_t2
theorem k0_off719_inb : ∀ (v1803 : BitVec 32) (k0_hw257 : k0_chk257 v1803) (k0_t2 : Fin (k0_t2_loop v1803).trips), ∀ a, (k0_off719 v1803 k0_t2) a + S1.size a ≤ S6400.size a := fun v1803 k0_hw257 k0_t2 => k0_hw257.2.2.2.2.2.2.2.2.2.1.2.2.2.2.2.2.2.2.2.2.2.2.2.2.2.2.2.2.2.2.2.2.2.2.1 k0_t2
theorem k0_off721_inb : ∀ (v1803 : BitVec 32) (k0_hw257 : k0_chk257 v1803) (k0_t2 : Fin (k0_t2_loop v1803).trips), ∀ a, (k0_off721 v1803 k0_t2) a + S1x128.size a ≤ S6400x128.size a := fun v1803 k0_hw257 k0_t2 => k0_hw257.2.2.2.2.2.2.2.2.2.1.2.2.2.2.2.2.2.2.2.2.2.2.2.2.2.2.2.2.2.2.2.2.2.2.2.1 k0_t2
theorem k0_off722_inb : ∀ (v1803 : BitVec 32) (k0_hw257 : k0_chk257 v1803) (k0_t2 : Fin (k0_t2_loop v1803).trips), ∀ a, (k0_off722 v1803 k0_t2) a + S1.size a ≤ S6400.size a := fun v1803 k0_hw257 k0_t2 => k0_hw257.2.2.2.2.2.2.2.2.2.1.2.2.2.2.2.2.2.2.2.2.2.2.2.2.2.2.2.2.2.2.2.2.2.2.2.2.1 k0_t2
theorem k0_off724_inb : ∀ (v1803 : BitVec 32) (k0_hw257 : k0_chk257 v1803) (k0_t2 : Fin (k0_t2_loop v1803).trips), ∀ a, (k0_off724 v1803 k0_t2) a + S1x128.size a ≤ S6400x128.size a := fun v1803 k0_hw257 k0_t2 => k0_hw257.2.2.2.2.2.2.2.2.2.1.2.2.2.2.2.2.2.2.2.2.2.2.2.2.2.2.2.2.2.2.2.2.2.2.2.2.2.1 k0_t2
theorem k0_off725_inb : ∀ (v1803 : BitVec 32) (k0_hw257 : k0_chk257 v1803) (k0_t2 : Fin (k0_t2_loop v1803).trips), ∀ a, (k0_off725 v1803 k0_t2) a + S1.size a ≤ S6400.size a := fun v1803 k0_hw257 k0_t2 => k0_hw257.2.2.2.2.2.2.2.2.2.1.2.2.2.2.2.2.2.2.2.2.2.2.2.2.2.2.2.2.2.2.2.2.2.2.2.2.2.2.1 k0_t2
theorem k0_off727_inb : ∀ (v1803 : BitVec 32) (k0_hw257 : k0_chk257 v1803) (k0_t2 : Fin (k0_t2_loop v1803).trips), ∀ a, (k0_off727 v1803 k0_t2) a + S1x128.size a ≤ S6400x128.size a := fun v1803 k0_hw257 k0_t2 => k0_hw257.2.2.2.2.2.2.2.2.2.1.2.2.2.2.2.2.2.2.2.2.2.2.2.2.2.2.2.2.2.2.2.2.2.2.2.2.2.2.2.1 k0_t2
theorem k0_off728_inb : ∀ (v1803 : BitVec 32) (k0_hw257 : k0_chk257 v1803) (k0_t2 : Fin (k0_t2_loop v1803).trips), ∀ a, (k0_off728 v1803 k0_t2) a + S1.size a ≤ S6400.size a := fun v1803 k0_hw257 k0_t2 => k0_hw257.2.2.2.2.2.2.2.2.2.1.2.2.2.2.2.2.2.2.2.2.2.2.2.2.2.2.2.2.2.2.2.2.2.2.2.2.2.2.2.2.1 k0_t2
theorem k0_off730_inb : ∀ (v1803 : BitVec 32) (k0_hw257 : k0_chk257 v1803) (k0_t2 : Fin (k0_t2_loop v1803).trips), ∀ a, (k0_off730 v1803 k0_t2) a + S1x128.size a ≤ S6400x128.size a := fun v1803 k0_hw257 k0_t2 => k0_hw257.2.2.2.2.2.2.2.2.2.1.2.2.2.2.2.2.2.2.2.2.2.2.2.2.2.2.2.2.2.2.2.2.2.2.2.2.2.2.2.2.2 k0_t2
theorem k0_off731_inb : ∀ (v1803 : BitVec 32) (k0_hw257 : k0_chk257 v1803) (k0_t2 : Fin (k0_t2_loop v1803).trips), ∀ a, (k0_off731 v1803 k0_t2) a + S1.size a ≤ S6400.size a := fun v1803 k0_hw257 k0_t2 => k0_hw257.2.2.2.2.2.2.2.2.2.2.1.1 k0_t2
theorem k0_off733_inb : ∀ (v1803 : BitVec 32) (k0_hw257 : k0_chk257 v1803) (k0_t2 : Fin (k0_t2_loop v1803).trips), ∀ a, (k0_off733 v1803 k0_t2) a + S1x128.size a ≤ S6400x128.size a := fun v1803 k0_hw257 k0_t2 => k0_hw257.2.2.2.2.2.2.2.2.2.2.1.2.1 k0_t2
theorem k0_off734_inb : ∀ (v1803 : BitVec 32) (k0_hw257 : k0_chk257 v1803) (k0_t2 : Fin (k0_t2_loop v1803).trips), ∀ a, (k0_off734 v1803 k0_t2) a + S1.size a ≤ S6400.size a := fun v1803 k0_hw257 k0_t2 => k0_hw257.2.2.2.2.2.2.2.2.2.2.1.2.2.1 k0_t2
theorem k0_off736_inb : ∀ (v1803 : BitVec 32) (k0_hw257 : k0_chk257 v1803) (k0_t2 : Fin (k0_t2_loop v1803).trips), ∀ a, (k0_off736 v1803 k0_t2) a + S1x128.size a ≤ S6400x128.size a := fun v1803 k0_hw257 k0_t2 => k0_hw257.2.2.2.2.2.2.2.2.2.2.1.2.2.2.1 k0_t2
theorem k0_off737_inb : ∀ (v1803 : BitVec 32) (k0_hw257 : k0_chk257 v1803) (k0_t2 : Fin (k0_t2_loop v1803).trips), ∀ a, (k0_off737 v1803 k0_t2) a + S1.size a ≤ S6400.size a := fun v1803 k0_hw257 k0_t2 => k0_hw257.2.2.2.2.2.2.2.2.2.2.1.2.2.2.2.1 k0_t2
theorem k0_off739_inb : ∀ (v1803 : BitVec 32) (k0_hw257 : k0_chk257 v1803) (k0_t2 : Fin (k0_t2_loop v1803).trips), ∀ a, (k0_off739 v1803 k0_t2) a + S1x128.size a ≤ S6400x128.size a := fun v1803 k0_hw257 k0_t2 => k0_hw257.2.2.2.2.2.2.2.2.2.2.1.2.2.2.2.2.1 k0_t2
theorem k0_off740_inb : ∀ (v1803 : BitVec 32) (k0_hw257 : k0_chk257 v1803) (k0_t2 : Fin (k0_t2_loop v1803).trips), ∀ a, (k0_off740 v1803 k0_t2) a + S1.size a ≤ S6400.size a := fun v1803 k0_hw257 k0_t2 => k0_hw257.2.2.2.2.2.2.2.2.2.2.1.2.2.2.2.2.2.1 k0_t2
theorem k0_off742_inb : ∀ (v1803 : BitVec 32) (k0_hw257 : k0_chk257 v1803) (k0_t2 : Fin (k0_t2_loop v1803).trips), ∀ a, (k0_off742 v1803 k0_t2) a + S1x128.size a ≤ S6400x128.size a := fun v1803 k0_hw257 k0_t2 => k0_hw257.2.2.2.2.2.2.2.2.2.2.1.2.2.2.2.2.2.2.1 k0_t2
theorem k0_off743_inb : ∀ (v1803 : BitVec 32) (k0_hw257 : k0_chk257 v1803) (k0_t2 : Fin (k0_t2_loop v1803).trips), ∀ a, (k0_off743 v1803 k0_t2) a + S1.size a ≤ S6400.size a := fun v1803 k0_hw257 k0_t2 => k0_hw257.2.2.2.2.2.2.2.2.2.2.1.2.2.2.2.2.2.2.2.1 k0_t2
theorem k0_off745_inb : ∀ (v1803 : BitVec 32) (k0_hw257 : k0_chk257 v1803) (k0_t2 : Fin (k0_t2_loop v1803).trips), ∀ a, (k0_off745 v1803 k0_t2) a + S1x128.size a ≤ S6400x128.size a := fun v1803 k0_hw257 k0_t2 => k0_hw257.2.2.2.2.2.2.2.2.2.2.1.2.2.2.2.2.2.2.2.2.1 k0_t2
theorem k0_off746_inb : ∀ (v1803 : BitVec 32) (k0_hw257 : k0_chk257 v1803) (k0_t2 : Fin (k0_t2_loop v1803).trips), ∀ a, (k0_off746 v1803 k0_t2) a + S1.size a ≤ S6400.size a := fun v1803 k0_hw257 k0_t2 => k0_hw257.2.2.2.2.2.2.2.2.2.2.1.2.2.2.2.2.2.2.2.2.2.1 k0_t2
theorem k0_off748_inb : ∀ (v1803 : BitVec 32) (k0_hw257 : k0_chk257 v1803) (k0_t2 : Fin (k0_t2_loop v1803).trips), ∀ a, (k0_off748 v1803 k0_t2) a + S1x128.size a ≤ S6400x128.size a := fun v1803 k0_hw257 k0_t2 => k0_hw257.2.2.2.2.2.2.2.2.2.2.1.2.2.2.2.2.2.2.2.2.2.2.1 k0_t2
theorem k0_off749_inb : ∀ (v1803 : BitVec 32) (k0_hw257 : k0_chk257 v1803) (k0_t2 : Fin (k0_t2_loop v1803).trips), ∀ a, (k0_off749 v1803 k0_t2) a + S1.size a ≤ S6400.size a := fun v1803 k0_hw257 k0_t2 => k0_hw257.2.2.2.2.2.2.2.2.2.2.1.2.2.2.2.2.2.2.2.2.2.2.2.1 k0_t2
theorem k0_off751_inb : ∀ (v1803 : BitVec 32) (k0_hw257 : k0_chk257 v1803) (k0_t2 : Fin (k0_t2_loop v1803).trips), ∀ a, (k0_off751 v1803 k0_t2) a + S1x128.size a ≤ S6400x128.size a := fun v1803 k0_hw257 k0_t2 => k0_hw257.2.2.2.2.2.2.2.2.2.2.1.2.2.2.2.2.2.2.2.2.2.2.2.2.1 k0_t2
theorem k0_off752_inb : ∀ (v1803 : BitVec 32) (k0_hw257 : k0_chk257 v1803) (k0_t2 : Fin (k0_t2_loop v1803).trips), ∀ a, (k0_off752 v1803 k0_t2) a + S1.size a ≤ S6400.size a := fun v1803 k0_hw257 k0_t2 => k0_hw257.2.2.2.2.2.2.2.2.2.2.1.2.2.2.2.2.2.2.2.2.2.2.2.2.2.1 k0_t2
theorem k0_off754_inb : ∀ (v1803 : BitVec 32) (k0_hw257 : k0_chk257 v1803) (k0_t2 : Fin (k0_t2_loop v1803).trips), ∀ a, (k0_off754 v1803 k0_t2) a + S1x128.size a ≤ S6400x128.size a := fun v1803 k0_hw257 k0_t2 => k0_hw257.2.2.2.2.2.2.2.2.2.2.1.2.2.2.2.2.2.2.2.2.2.2.2.2.2.2.1 k0_t2
theorem k0_off755_inb : ∀ (v1803 : BitVec 32) (k0_hw257 : k0_chk257 v1803) (k0_t2 : Fin (k0_t2_loop v1803).trips), ∀ a, (k0_off755 v1803 k0_t2) a + S1.size a ≤ S6400.size a := fun v1803 k0_hw257 k0_t2 => k0_hw257.2.2.2.2.2.2.2.2.2.2.1.2.2.2.2.2.2.2.2.2.2.2.2.2.2.2.2.1 k0_t2
theorem k0_off757_inb : ∀ (v1803 : BitVec 32) (k0_hw257 : k0_chk257 v1803) (k0_t2 : Fin (k0_t2_loop v1803).trips), ∀ a, (k0_off757 v1803 k0_t2) a + S1x128.size a ≤ S6400x128.size a := fun v1803 k0_hw257 k0_t2 => k0_hw257.2.2.2.2.2.2.2.2.2.2.1.2.2.2.2.2.2.2.2.2.2.2.2.2.2.2.2.2.1 k0_t2
theorem k0_off758_inb : ∀ (v1803 : BitVec 32) (k0_hw257 : k0_chk257 v1803) (k0_t2 : Fin (k0_t2_loop v1803).trips), ∀ a, (k0_off758 v1803 k0_t2) a + S1.size a ≤ S6400.size a := fun v1803 k0_hw257 k0_t2 => k0_hw257.2.2.2.2.2.2.2.2.2.2.1.2.2.2.2.2.2.2.2.2.2.2.2.2.2.2.2.2.2.1 k0_t2
theorem k0_off760_inb : ∀ (v1803 : BitVec 32) (k0_hw257 : k0_chk257 v1803) (k0_t2 : Fin (k0_t2_loop v1803).trips), ∀ a, (k0_off760 v1803 k0_t2) a + S1x128.size a ≤ S6400x128.size a := fun v1803 k0_hw257 k0_t2 => k0_hw257.2.2.2.2.2.2.2.2.2.2.1.2.2.2.2.2.2.2.2.2.2.2.2.2.2.2.2.2.2.2.1 k0_t2
theorem k0_off761_inb : ∀ (v1803 : BitVec 32) (k0_hw257 : k0_chk257 v1803) (k0_t2 : Fin (k0_t2_loop v1803).trips), ∀ a, (k0_off761 v1803 k0_t2) a + S1.size a ≤ S6400.size a := fun v1803 k0_hw257 k0_t2 => k0_hw257.2.2.2.2.2.2.2.2.2.2.1.2.2.2.2.2.2.2.2.2.2.2.2.2.2.2.2.2.2.2.2.1 k0_t2
theorem k0_off763_inb : ∀ (v1803 : BitVec 32) (k0_hw257 : k0_chk257 v1803) (k0_t2 : Fin (k0_t2_loop v1803).trips), ∀ a, (k0_off763 v1803 k0_t2) a + S1x128.size a ≤ S6400x128.size a := fun v1803 k0_hw257 k0_t2 => k0_hw257.2.2.2.2.2.2.2.2.2.2.1.2.2.2.2.2.2.2.2.2.2.2.2.2.2.2.2.2.2.2.2.2.1 k0_t2
theorem k0_off764_inb : ∀ (v1803 : BitVec 32) (k0_hw257 : k0_chk257 v1803) (k0_t2 : Fin (k0_t2_loop v1803).trips), ∀ a, (k0_off764 v1803 k0_t2) a + S1.size a ≤ S6400.size a := fun v1803 k0_hw257 k0_t2 => k0_hw257.2.2.2.2.2.2.2.2.2.2.1.2.2.2.2.2.2.2.2.2.2.2.2.2.2.2.2.2.2.2.2.2.2.1 k0_t2
theorem k0_off766_inb : ∀ (v1803 : BitVec 32) (k0_hw257 : k0_chk257 v1803) (k0_t2 : Fin (k0_t2_loop v1803).trips), ∀ a, (k0_off766 v1803 k0_t2) a + S1x128.size a ≤ S6400x128.size a := fun v1803 k0_hw257 k0_t2 => k0_hw257.2.2.2.2.2.2.2.2.2.2.1.2.2.2.2.2.2.2.2.2.2.2.2.2.2.2.2.2.2.2.2.2.2.2.1 k0_t2
theorem k0_off767_inb : ∀ (v1803 : BitVec 32) (k0_hw257 : k0_chk257 v1803) (k0_t2 : Fin (k0_t2_loop v1803).trips), ∀ a, (k0_off767 v1803 k0_t2) a + S1.size a ≤ S6400.size a := fun v1803 k0_hw257 k0_t2 => k0_hw257.2.2.2.2.2.2.2.2.2.2.1.2.2.2.2.2.2.2.2.2.2.2.2.2.2.2.2.2.2.2.2.2.2.2.2.1 k0_t2
theorem k0_off769_inb : ∀ (v1803 : BitVec 32) (k0_hw257 : k0_chk257 v1803) (k0_t2 : Fin (k0_t2_loop v1803).trips), ∀ a, (k0_off769 v1803 k0_t2) a + S1x128.size a ≤ S6400x128.size a := fun v1803 k0_hw257 k0_t2 => k0_hw257.2.2.2.2.2.2.2.2.2.2.1.2.2.2.2.2.2.2.2.2.2.2.2.2.2.2.2.2.2.2.2.2.2.2.2.2.1 k0_t2
theorem k0_off770_inb : ∀ (v1803 : BitVec 32) (k0_hw257 : k0_chk257 v1803) (k0_t2 : Fin (k0_t2_loop v1803).trips), ∀ a, (k0_off770 v1803 k0_t2) a + S1.size a ≤ S6400.size a := fun v1803 k0_hw257 k0_t2 => k0_hw257.2.2.2.2.2.2.2.2.2.2.1.2.2.2.2.2.2.2.2.2.2.2.2.2.2.2.2.2.2.2.2.2.2.2.2.2.2.1 k0_t2
theorem k0_off772_inb : ∀ (v1803 : BitVec 32) (k0_hw257 : k0_chk257 v1803) (k0_t2 : Fin (k0_t2_loop v1803).trips), ∀ a, (k0_off772 v1803 k0_t2) a + S1x128.size a ≤ S6400x128.size a := fun v1803 k0_hw257 k0_t2 => k0_hw257.2.2.2.2.2.2.2.2.2.2.1.2.2.2.2.2.2.2.2.2.2.2.2.2.2.2.2.2.2.2.2.2.2.2.2.2.2.2.1 k0_t2
theorem k0_off773_inb : ∀ (v1803 : BitVec 32) (k0_hw257 : k0_chk257 v1803) (k0_t2 : Fin (k0_t2_loop v1803).trips), ∀ a, (k0_off773 v1803 k0_t2) a + S1.size a ≤ S6400.size a := fun v1803 k0_hw257 k0_t2 => k0_hw257.2.2.2.2.2.2.2.2.2.2.1.2.2.2.2.2.2.2.2.2.2.2.2.2.2.2.2.2.2.2.2.2.2.2.2.2.2.2.2.1 k0_t2
theorem k0_off775_inb : ∀ (v1803 : BitVec 32) (k0_hw257 : k0_chk257 v1803) (k0_t2 : Fin (k0_t2_loop v1803).trips), ∀ a, (k0_off775 v1803 k0_t2) a + S1x128.size a ≤ S6400x128.size a := fun v1803 k0_hw257 k0_t2 => k0_hw257.2.2.2.2.2.2.2.2.2.2.1.2.2.2.2.2.2.2.2.2.2.2.2.2.2.2.2.2.2.2.2.2.2.2.2.2.2.2.2.2.1 k0_t2
theorem k0_off776_inb : ∀ (v1803 : BitVec 32) (k0_hw257 : k0_chk257 v1803) (k0_t2 : Fin (k0_t2_loop v1803).trips), ∀ a, (k0_off776 v1803 k0_t2) a + S1.size a ≤ S6400.size a := fun v1803 k0_hw257 k0_t2 => k0_hw257.2.2.2.2.2.2.2.2.2.2.1.2.2.2.2.2.2.2.2.2.2.2.2.2.2.2.2.2.2.2.2.2.2.2.2.2.2.2.2.2.2.1 k0_t2
theorem k0_off778_inb : ∀ (v1803 : BitVec 32) (k0_hw257 : k0_chk257 v1803) (k0_t2 : Fin (k0_t2_loop v1803).trips), ∀ a, (k0_off778 v1803 k0_t2) a + S1x128.size a ≤ S6400x128.size a := fun v1803 k0_hw257 k0_t2 => k0_hw257.2.2.2.2.2.2.2.2.2.2.1.2.2.2.2.2.2.2.2.2.2.2.2.2.2.2.2.2.2.2.2.2.2.2.2.2.2.2.2.2.2.2 k0_t2
theorem k0_off779_inb : ∀ (v1803 : BitVec 32) (k0_hw257 : k0_chk257 v1803) (k0_t2 : Fin (k0_t2_loop v1803).trips), ∀ a, (k0_off779 v1803 k0_t2) a + S1.size a ≤ S6400.size a := fun v1803 k0_hw257 k0_t2 => k0_hw257.2.2.2.2.2.2.2.2.2.2.2.1.1 k0_t2
theorem k0_off781_inb : ∀ (v1803 : BitVec 32) (k0_hw257 : k0_chk257 v1803) (k0_t2 : Fin (k0_t2_loop v1803).trips), ∀ a, (k0_off781 v1803 k0_t2) a + S1x128.size a ≤ S6400x128.size a := fun v1803 k0_hw257 k0_t2 => k0_hw257.2.2.2.2.2.2.2.2.2.2.2.1.2.1 k0_t2
theorem k0_off782_inb : ∀ (v1803 : BitVec 32) (k0_hw257 : k0_chk257 v1803) (k0_t2 : Fin (k0_t2_loop v1803).trips), ∀ a, (k0_off782 v1803 k0_t2) a + S1.size a ≤ S6400.size a := fun v1803 k0_hw257 k0_t2 => k0_hw257.2.2.2.2.2.2.2.2.2.2.2.1.2.2.1 k0_t2
theorem k0_off784_inb : ∀ (v1803 : BitVec 32) (k0_hw257 : k0_chk257 v1803) (k0_t2 : Fin (k0_t2_loop v1803).trips), ∀ a, (k0_off784 v1803 k0_t2) a + S1x128.size a ≤ S6400x128.size a := fun v1803 k0_hw257 k0_t2 => k0_hw257.2.2.2.2.2.2.2.2.2.2.2.1.2.2.2.1 k0_t2
theorem k0_off785_inb : ∀ (v1803 : BitVec 32) (k0_hw257 : k0_chk257 v1803) (k0_t2 : Fin (k0_t2_loop v1803).trips), ∀ a, (k0_off785 v1803 k0_t2) a + S1.size a ≤ S6400.size a := fun v1803 k0_hw257 k0_t2 => k0_hw257.2.2.2.2.2.2.2.2.2.2.2.1.2.2.2.2.1 k0_t2
theorem k0_off787_inb : ∀ (v1803 : BitVec 32) (k0_hw257 : k0_chk257 v1803) (k0_t2 : Fin (k0_t2_loop v1803).trips), ∀ a, (k0_off787 v1803 k0_t2) a + S1x128.size a ≤ S6400x128.size a := fun v1803 k0_hw257 k0_t2 => k0_hw257.2.2.2.2.2.2.2.2.2.2.2.1.2.2.2.2.2.1 k0_t2
theorem k0_off788_inb : ∀ (v1803 : BitVec 32) (k0_hw257 : k0_chk257 v1803) (k0_t2 : Fin (k0_t2_loop v1803).trips), ∀ a, (k0_off788 v1803 k0_t2) a + S1.size a ≤ S6400.size a := fun v1803 k0_hw257 k0_t2 => k0_hw257.2.2.2.2.2.2.2.2.2.2.2.1.2.2.2.2.2.2.1 k0_t2
theorem k0_off790_inb : ∀ (v1803 : BitVec 32) (k0_hw257 : k0_chk257 v1803) (k0_t2 : Fin (k0_t2_loop v1803).trips), ∀ a, (k0_off790 v1803 k0_t2) a + S1x128.size a ≤ S6400x128.size a := fun v1803 k0_hw257 k0_t2 => k0_hw257.2.2.2.2.2.2.2.2.2.2.2.1.2.2.2.2.2.2.2.1 k0_t2
theorem k0_off791_inb : ∀ (v1803 : BitVec 32) (k0_hw257 : k0_chk257 v1803) (k0_t2 : Fin (k0_t2_loop v1803).trips), ∀ a, (k0_off791 v1803 k0_t2) a + S1.size a ≤ S6400.size a := fun v1803 k0_hw257 k0_t2 => k0_hw257.2.2.2.2.2.2.2.2.2.2.2.1.2.2.2.2.2.2.2.2.1 k0_t2
theorem k0_off793_inb : ∀ (v1803 : BitVec 32) (k0_hw257 : k0_chk257 v1803) (k0_t2 : Fin (k0_t2_loop v1803).trips), ∀ a, (k0_off793 v1803 k0_t2) a + S1x128.size a ≤ S6400x128.size a := fun v1803 k0_hw257 k0_t2 => k0_hw257.2.2.2.2.2.2.2.2.2.2.2.1.2.2.2.2.2.2.2.2.2.1 k0_t2
theorem k0_off794_inb : ∀ (v1803 : BitVec 32) (k0_hw257 : k0_chk257 v1803) (k0_t2 : Fin (k0_t2_loop v1803).trips), ∀ a, (k0_off794 v1803 k0_t2) a + S1.size a ≤ S6400.size a := fun v1803 k0_hw257 k0_t2 => k0_hw257.2.2.2.2.2.2.2.2.2.2.2.1.2.2.2.2.2.2.2.2.2.2.1 k0_t2
theorem k0_off796_inb : ∀ (v1803 : BitVec 32) (k0_hw257 : k0_chk257 v1803) (k0_t2 : Fin (k0_t2_loop v1803).trips), ∀ a, (k0_off796 v1803 k0_t2) a + S1x128.size a ≤ S6400x128.size a := fun v1803 k0_hw257 k0_t2 => k0_hw257.2.2.2.2.2.2.2.2.2.2.2.1.2.2.2.2.2.2.2.2.2.2.2.1 k0_t2
theorem k0_off797_inb : ∀ (v1803 : BitVec 32) (k0_hw257 : k0_chk257 v1803) (k0_t2 : Fin (k0_t2_loop v1803).trips), ∀ a, (k0_off797 v1803 k0_t2) a + S1.size a ≤ S6400.size a := fun v1803 k0_hw257 k0_t2 => k0_hw257.2.2.2.2.2.2.2.2.2.2.2.1.2.2.2.2.2.2.2.2.2.2.2.2.1 k0_t2
theorem k0_off799_inb : ∀ (v1803 : BitVec 32) (k0_hw257 : k0_chk257 v1803) (k0_t2 : Fin (k0_t2_loop v1803).trips), ∀ a, (k0_off799 v1803 k0_t2) a + S1x128.size a ≤ S6400x128.size a := fun v1803 k0_hw257 k0_t2 => k0_hw257.2.2.2.2.2.2.2.2.2.2.2.1.2.2.2.2.2.2.2.2.2.2.2.2.2.1 k0_t2
theorem k0_off800_inb : ∀ (v1803 : BitVec 32) (k0_hw257 : k0_chk257 v1803) (k0_t2 : Fin (k0_t2_loop v1803).trips), ∀ a, (k0_off800 v1803 k0_t2) a + S1.size a ≤ S6400.size a := fun v1803 k0_hw257 k0_t2 => k0_hw257.2.2.2.2.2.2.2.2.2.2.2.1.2.2.2.2.2.2.2.2.2.2.2.2.2.2.1 k0_t2
theorem k0_off802_inb : ∀ (v1803 : BitVec 32) (k0_hw257 : k0_chk257 v1803) (k0_t2 : Fin (k0_t2_loop v1803).trips), ∀ a, (k0_off802 v1803 k0_t2) a + S1x128.size a ≤ S6400x128.size a := fun v1803 k0_hw257 k0_t2 => k0_hw257.2.2.2.2.2.2.2.2.2.2.2.1.2.2.2.2.2.2.2.2.2.2.2.2.2.2.2.1 k0_t2
theorem k0_off803_inb : ∀ (v1803 : BitVec 32) (k0_hw257 : k0_chk257 v1803) (k0_t2 : Fin (k0_t2_loop v1803).trips), ∀ a, (k0_off803 v1803 k0_t2) a + S1.size a ≤ S6400.size a := fun v1803 k0_hw257 k0_t2 => k0_hw257.2.2.2.2.2.2.2.2.2.2.2.1.2.2.2.2.2.2.2.2.2.2.2.2.2.2.2.2.1 k0_t2
theorem k0_off805_inb : ∀ (v1803 : BitVec 32) (k0_hw257 : k0_chk257 v1803) (k0_t2 : Fin (k0_t2_loop v1803).trips), ∀ a, (k0_off805 v1803 k0_t2) a + S1x128.size a ≤ S6400x128.size a := fun v1803 k0_hw257 k0_t2 => k0_hw257.2.2.2.2.2.2.2.2.2.2.2.1.2.2.2.2.2.2.2.2.2.2.2.2.2.2.2.2.2.1 k0_t2
theorem k0_off806_inb : ∀ (v1803 : BitVec 32) (k0_hw257 : k0_chk257 v1803) (k0_t2 : Fin (k0_t2_loop v1803).trips), ∀ a, (k0_off806 v1803 k0_t2) a + S1.size a ≤ S6400.size a := fun v1803 k0_hw257 k0_t2 => k0_hw257.2.2.2.2.2.2.2.2.2.2.2.1.2.2.2.2.2.2.2.2.2.2.2.2.2.2.2.2.2.2.1 k0_t2
theorem k0_off808_inb : ∀ (v1803 : BitVec 32) (k0_hw257 : k0_chk257 v1803) (k0_t2 : Fin (k0_t2_loop v1803).trips), ∀ a, (k0_off808 v1803 k0_t2) a + S1x128.size a ≤ S6400x128.size a := fun v1803 k0_hw257 k0_t2 => k0_hw257.2.2.2.2.2.2.2.2.2.2.2.1.2.2.2.2.2.2.2.2.2.2.2.2.2.2.2.2.2.2.2.1 k0_t2
theorem k0_off809_inb : ∀ (v1803 : BitVec 32) (k0_hw257 : k0_chk257 v1803) (k0_t2 : Fin (k0_t2_loop v1803).trips), ∀ a, (k0_off809 v1803 k0_t2) a + S1.size a ≤ S6400.size a := fun v1803 k0_hw257 k0_t2 => k0_hw257.2.2.2.2.2.2.2.2.2.2.2.1.2.2.2.2.2.2.2.2.2.2.2.2.2.2.2.2.2.2.2.2.1 k0_t2
theorem k0_off811_inb : ∀ (v1803 : BitVec 32) (k0_hw257 : k0_chk257 v1803) (k0_t2 : Fin (k0_t2_loop v1803).trips), ∀ a, (k0_off811 v1803 k0_t2) a + S1x128.size a ≤ S6400x128.size a := fun v1803 k0_hw257 k0_t2 => k0_hw257.2.2.2.2.2.2.2.2.2.2.2.1.2.2.2.2.2.2.2.2.2.2.2.2.2.2.2.2.2.2.2.2.2.1 k0_t2
theorem k0_off812_inb : ∀ (v1803 : BitVec 32) (k0_hw257 : k0_chk257 v1803) (k0_t2 : Fin (k0_t2_loop v1803).trips), ∀ a, (k0_off812 v1803 k0_t2) a + S1.size a ≤ S6400.size a := fun v1803 k0_hw257 k0_t2 => k0_hw257.2.2.2.2.2.2.2.2.2.2.2.1.2.2.2.2.2.2.2.2.2.2.2.2.2.2.2.2.2.2.2.2.2.2.1 k0_t2
theorem k0_off814_inb : ∀ (v1803 : BitVec 32) (k0_hw257 : k0_chk257 v1803) (k0_t2 : Fin (k0_t2_loop v1803).trips), ∀ a, (k0_off814 v1803 k0_t2) a + S1x128.size a ≤ S6400x128.size a := fun v1803 k0_hw257 k0_t2 => k0_hw257.2.2.2.2.2.2.2.2.2.2.2.1.2.2.2.2.2.2.2.2.2.2.2.2.2.2.2.2.2.2.2.2.2.2.2.1 k0_t2
theorem k0_off815_inb : ∀ (v1803 : BitVec 32) (k0_hw257 : k0_chk257 v1803) (k0_t2 : Fin (k0_t2_loop v1803).trips), ∀ a, (k0_off815 v1803 k0_t2) a + S1.size a ≤ S6400.size a := fun v1803 k0_hw257 k0_t2 => k0_hw257.2.2.2.2.2.2.2.2.2.2.2.1.2.2.2.2.2.2.2.2.2.2.2.2.2.2.2.2.2.2.2.2.2.2.2.2.1 k0_t2
theorem k0_off817_inb : ∀ (v1803 : BitVec 32) (k0_hw257 : k0_chk257 v1803) (k0_t2 : Fin (k0_t2_loop v1803).trips), ∀ a, (k0_off817 v1803 k0_t2) a + S1x128.size a ≤ S6400x128.size a := fun v1803 k0_hw257 k0_t2 => k0_hw257.2.2.2.2.2.2.2.2.2.2.2.1.2.2.2.2.2.2.2.2.2.2.2.2.2.2.2.2.2.2.2.2.2.2.2.2.2.1 k0_t2
theorem k0_off818_inb : ∀ (v1803 : BitVec 32) (k0_hw257 : k0_chk257 v1803) (k0_t2 : Fin (k0_t2_loop v1803).trips), ∀ a, (k0_off818 v1803 k0_t2) a + S1.size a ≤ S6400.size a := fun v1803 k0_hw257 k0_t2 => k0_hw257.2.2.2.2.2.2.2.2.2.2.2.1.2.2.2.2.2.2.2.2.2.2.2.2.2.2.2.2.2.2.2.2.2.2.2.2.2.2.1 k0_t2
theorem k0_off820_inb : ∀ (v1803 : BitVec 32) (k0_hw257 : k0_chk257 v1803) (k0_t2 : Fin (k0_t2_loop v1803).trips), ∀ a, (k0_off820 v1803 k0_t2) a + S1x128.size a ≤ S6400x128.size a := fun v1803 k0_hw257 k0_t2 => k0_hw257.2.2.2.2.2.2.2.2.2.2.2.1.2.2.2.2.2.2.2.2.2.2.2.2.2.2.2.2.2.2.2.2.2.2.2.2.2.2.2.1 k0_t2
theorem k0_off821_inb : ∀ (v1803 : BitVec 32) (k0_hw257 : k0_chk257 v1803) (k0_t2 : Fin (k0_t2_loop v1803).trips), ∀ a, (k0_off821 v1803 k0_t2) a + S1.size a ≤ S6400.size a := fun v1803 k0_hw257 k0_t2 => k0_hw257.2.2.2.2.2.2.2.2.2.2.2.1.2.2.2.2.2.2.2.2.2.2.2.2.2.2.2.2.2.2.2.2.2.2.2.2.2.2.2.2.1 k0_t2
theorem k0_off823_inb : ∀ (v1803 : BitVec 32) (k0_hw257 : k0_chk257 v1803) (k0_t2 : Fin (k0_t2_loop v1803).trips), ∀ a, (k0_off823 v1803 k0_t2) a + S1x128.size a ≤ S6400x128.size a := fun v1803 k0_hw257 k0_t2 => k0_hw257.2.2.2.2.2.2.2.2.2.2.2.1.2.2.2.2.2.2.2.2.2.2.2.2.2.2.2.2.2.2.2.2.2.2.2.2.2.2.2.2.2.1 k0_t2
theorem k0_off824_inb : ∀ (v1803 : BitVec 32) (k0_hw257 : k0_chk257 v1803) (k0_t2 : Fin (k0_t2_loop v1803).trips), ∀ a, (k0_off824 v1803 k0_t2) a + S1.size a ≤ S6400.size a := fun v1803 k0_hw257 k0_t2 => k0_hw257.2.2.2.2.2.2.2.2.2.2.2.1.2.2.2.2.2.2.2.2.2.2.2.2.2.2.2.2.2.2.2.2.2.2.2.2.2.2.2.2.2.2.1 k0_t2
theorem k0_off826_inb : ∀ (v1803 : BitVec 32) (k0_hw257 : k0_chk257 v1803) (k0_t2 : Fin (k0_t2_loop v1803).trips), ∀ a, (k0_off826 v1803 k0_t2) a + S1x128.size a ≤ S6400x128.size a := fun v1803 k0_hw257 k0_t2 => k0_hw257.2.2.2.2.2.2.2.2.2.2.2.1.2.2.2.2.2.2.2.2.2.2.2.2.2.2.2.2.2.2.2.2.2.2.2.2.2.2.2.2.2.2.2 k0_t2
theorem k0_off827_inb : ∀ (v1803 : BitVec 32) (k0_hw257 : k0_chk257 v1803) (k0_t2 : Fin (k0_t2_loop v1803).trips), ∀ a, (k0_off827 v1803 k0_t2) a + S1.size a ≤ S6400.size a := fun v1803 k0_hw257 k0_t2 => k0_hw257.2.2.2.2.2.2.2.2.2.2.2.2.1.1 k0_t2
theorem k0_off829_inb : ∀ (v1803 : BitVec 32) (k0_hw257 : k0_chk257 v1803) (k0_t2 : Fin (k0_t2_loop v1803).trips), ∀ a, (k0_off829 v1803 k0_t2) a + S1x128.size a ≤ S6400x128.size a := fun v1803 k0_hw257 k0_t2 => k0_hw257.2.2.2.2.2.2.2.2.2.2.2.2.1.2.1 k0_t2
theorem k0_off830_inb : ∀ (v1803 : BitVec 32) (k0_hw257 : k0_chk257 v1803) (k0_t2 : Fin (k0_t2_loop v1803).trips), ∀ a, (k0_off830 v1803 k0_t2) a + S1.size a ≤ S6400.size a := fun v1803 k0_hw257 k0_t2 => k0_hw257.2.2.2.2.2.2.2.2.2.2.2.2.1.2.2.1 k0_t2
theorem k0_off832_inb : ∀ (v1803 : BitVec 32) (k0_hw257 : k0_chk257 v1803) (k0_t2 : Fin (k0_t2_loop v1803).trips), ∀ a, (k0_off832 v1803 k0_t2) a + S1x128.size a ≤ S6400x128.size a := fun v1803 k0_hw257 k0_t2 => k0_hw257.2.2.2.2.2.2.2.2.2.2.2.2.1.2.2.2.1 k0_t2
theorem k0_off833_inb : ∀ (v1803 : BitVec 32) (k0_hw257 : k0_chk257 v1803) (k0_t2 : Fin (k0_t2_loop v1803).trips), ∀ a, (k0_off833 v1803 k0_t2) a + S1.size a ≤ S6400.size a := fun v1803 k0_hw257 k0_t2 => k0_hw257.2.2.2.2.2.2.2.2.2.2.2.2.1.2.2.2.2.1 k0_t2
theorem k0_off835_inb : ∀ (v1803 : BitVec 32) (k0_hw257 : k0_chk257 v1803) (k0_t2 : Fin (k0_t2_loop v1803).trips), ∀ a, (k0_off835 v1803 k0_t2) a + S1x128.size a ≤ S6400x128.size a := fun v1803 k0_hw257 k0_t2 => k0_hw257.2.2.2.2.2.2.2.2.2.2.2.2.1.2.2.2.2.2.1 k0_t2
theorem k0_off836_inb : ∀ (v1803 : BitVec 32) (k0_hw257 : k0_chk257 v1803) (k0_t2 : Fin (k0_t2_loop v1803).trips), ∀ a, (k0_off836 v1803 k0_t2) a + S1.size a ≤ S6400.size a := fun v1803 k0_hw257 k0_t2 => k0_hw257.2.2.2.2.2.2.2.2.2.2.2.2.1.2.2.2.2.2.2.1 k0_t2
theorem k0_off838_inb : ∀ (v1803 : BitVec 32) (k0_hw257 : k0_chk257 v1803) (k0_t2 : Fin (k0_t2_loop v1803).trips), ∀ a, (k0_off838 v1803 k0_t2) a + S1x128.size a ≤ S6400x128.size a := fun v1803 k0_hw257 k0_t2 => k0_hw257.2.2.2.2.2.2.2.2.2.2.2.2.1.2.2.2.2.2.2.2.1 k0_t2
theorem k0_off839_inb : ∀ (v1803 : BitVec 32) (k0_hw257 : k0_chk257 v1803) (k0_t2 : Fin (k0_t2_loop v1803).trips), ∀ a, (k0_off839 v1803 k0_t2) a + S1.size a ≤ S6400.size a := fun v1803 k0_hw257 k0_t2 => k0_hw257.2.2.2.2.2.2.2.2.2.2.2.2.1.2.2.2.2.2.2.2.2.1 k0_t2
theorem k0_off841_inb : ∀ (v1803 : BitVec 32) (k0_hw257 : k0_chk257 v1803) (k0_t2 : Fin (k0_t2_loop v1803).trips), ∀ a, (k0_off841 v1803 k0_t2) a + S1x128.size a ≤ S6400x128.size a := fun v1803 k0_hw257 k0_t2 => k0_hw257.2.2.2.2.2.2.2.2.2.2.2.2.1.2.2.2.2.2.2.2.2.2.1 k0_t2
theorem k0_off842_inb : ∀ (v1803 : BitVec 32) (k0_hw257 : k0_chk257 v1803) (k0_t2 : Fin (k0_t2_loop v1803).trips), ∀ a, (k0_off842 v1803 k0_t2) a + S1.size a ≤ S6400.size a := fun v1803 k0_hw257 k0_t2 => k0_hw257.2.2.2.2.2.2.2.2.2.2.2.2.1.2.2.2.2.2.2.2.2.2.2.1 k0_t2
theorem k0_off844_inb : ∀ (v1803 : BitVec 32) (k0_hw257 : k0_chk257 v1803) (k0_t2 : Fin (k0_t2_loop v1803).trips), ∀ a, (k0_off844 v1803 k0_t2) a + S1x128.size a ≤ S6400x128.size a := fun v1803 k0_hw257 k0_t2 => k0_hw257.2.2.2.2.2.2.2.2.2.2.2.2.1.2.2.2.2.2.2.2.2.2.2.2.1 k0_t2
theorem k0_off845_inb : ∀ (v1803 : BitVec 32) (k0_hw257 : k0_chk257 v1803) (k0_t2 : Fin (k0_t2_loop v1803).trips), ∀ a, (k0_off845 v1803 k0_t2) a + S1.size a ≤ S6400.size a := fun v1803 k0_hw257 k0_t2 => k0_hw257.2.2.2.2.2.2.2.2.2.2.2.2.1.2.2.2.2.2.2.2.2.2.2.2.2.1 k0_t2
theorem k0_off847_inb : ∀ (v1803 : BitVec 32) (k0_hw257 : k0_chk257 v1803) (k0_t2 : Fin (k0_t2_loop v1803).trips), ∀ a, (k0_off847 v1803 k0_t2) a + S1x128.size a ≤ S6400x128.size a := fun v1803 k0_hw257 k0_t2 => k0_hw257.2.2.2.2.2.2.2.2.2.2.2.2.1.2.2.2.2.2.2.2.2.2.2.2.2.2.1 k0_t2
theorem k0_off848_inb : ∀ (v1803 : BitVec 32) (k0_hw257 : k0_chk257 v1803) (k0_t2 : Fin (k0_t2_loop v1803).trips), ∀ a, (k0_off848 v1803 k0_t2) a + S1.size a ≤ S6400.size a := fun v1803 k0_hw257 k0_t2 => k0_hw257.2.2.2.2.2.2.2.2.2.2.2.2.1.2.2.2.2.2.2.2.2.2.2.2.2.2.2.1 k0_t2
theorem k0_off850_inb : ∀ (v1803 : BitVec 32) (k0_hw257 : k0_chk257 v1803) (k0_t2 : Fin (k0_t2_loop v1803).trips), ∀ a, (k0_off850 v1803 k0_t2) a + S1x128.size a ≤ S6400x128.size a := fun v1803 k0_hw257 k0_t2 => k0_hw257.2.2.2.2.2.2.2.2.2.2.2.2.1.2.2.2.2.2.2.2.2.2.2.2.2.2.2.2.1 k0_t2
theorem k0_off851_inb : ∀ (v1803 : BitVec 32) (k0_hw257 : k0_chk257 v1803) (k0_t2 : Fin (k0_t2_loop v1803).trips), ∀ a, (k0_off851 v1803 k0_t2) a + S1.size a ≤ S6400.size a := fun v1803 k0_hw257 k0_t2 => k0_hw257.2.2.2.2.2.2.2.2.2.2.2.2.1.2.2.2.2.2.2.2.2.2.2.2.2.2.2.2.2.1 k0_t2
theorem k0_off853_inb : ∀ (v1803 : BitVec 32) (k0_hw257 : k0_chk257 v1803) (k0_t2 : Fin (k0_t2_loop v1803).trips), ∀ a, (k0_off853 v1803 k0_t2) a + S1x128.size a ≤ S6400x128.size a := fun v1803 k0_hw257 k0_t2 => k0_hw257.2.2.2.2.2.2.2.2.2.2.2.2.1.2.2.2.2.2.2.2.2.2.2.2.2.2.2.2.2.2.1 k0_t2
theorem k0_off854_inb : ∀ (v1803 : BitVec 32) (k0_hw257 : k0_chk257 v1803) (k0_t2 : Fin (k0_t2_loop v1803).trips), ∀ a, (k0_off854 v1803 k0_t2) a + S1.size a ≤ S6400.size a := fun v1803 k0_hw257 k0_t2 => k0_hw257.2.2.2.2.2.2.2.2.2.2.2.2.1.2.2.2.2.2.2.2.2.2.2.2.2.2.2.2.2.2.2.1 k0_t2
theorem k0_off856_inb : ∀ (v1803 : BitVec 32) (k0_hw257 : k0_chk257 v1803) (k0_t2 : Fin (k0_t2_loop v1803).trips), ∀ a, (k0_off856 v1803 k0_t2) a + S1x128.size a ≤ S6400x128.size a := fun v1803 k0_hw257 k0_t2 => k0_hw257.2.2.2.2.2.2.2.2.2.2.2.2.1.2.2.2.2.2.2.2.2.2.2.2.2.2.2.2.2.2.2.2.1 k0_t2
theorem k0_off857_inb : ∀ (v1803 : BitVec 32) (k0_hw257 : k0_chk257 v1803) (k0_t2 : Fin (k0_t2_loop v1803).trips), ∀ a, (k0_off857 v1803 k0_t2) a + S1.size a ≤ S6400.size a := fun v1803 k0_hw257 k0_t2 => k0_hw257.2.2.2.2.2.2.2.2.2.2.2.2.1.2.2.2.2.2.2.2.2.2.2.2.2.2.2.2.2.2.2.2.2.1 k0_t2
theorem k0_off859_inb : ∀ (v1803 : BitVec 32) (k0_hw257 : k0_chk257 v1803) (k0_t2 : Fin (k0_t2_loop v1803).trips), ∀ a, (k0_off859 v1803 k0_t2) a + S1x128.size a ≤ S6400x128.size a := fun v1803 k0_hw257 k0_t2 => k0_hw257.2.2.2.2.2.2.2.2.2.2.2.2.1.2.2.2.2.2.2.2.2.2.2.2.2.2.2.2.2.2.2.2.2.2.1 k0_t2
theorem k0_off860_inb : ∀ (v1803 : BitVec 32) (k0_hw257 : k0_chk257 v1803) (k0_t2 : Fin (k0_t2_loop v1803).trips), ∀ a, (k0_off860 v1803 k0_t2) a + S1.size a ≤ S6400.size a := fun v1803 k0_hw257 k0_t2 => k0_hw257.2.2.2.2.2.2.2.2.2.2.2.2.1.2.2.2.2.2.2.2.2.2.2.2.2.2.2.2.2.2.2.2.2.2.2.1 k0_t2
theorem k0_off862_inb : ∀ (v1803 : BitVec 32) (k0_hw257 : k0_chk257 v1803) (k0_t2 : Fin (k0_t2_loop v1803).trips), ∀ a, (k0_off862 v1803 k0_t2) a + S1x128.size a ≤ S6400x128.size a := fun v1803 k0_hw257 k0_t2 => k0_hw257.2.2.2.2.2.2.2.2.2.2.2.2.1.2.2.2.2.2.2.2.2.2.2.2.2.2.2.2.2.2.2.2.2.2.2.2.1 k0_t2
theorem k0_off863_inb : ∀ (v1803 : BitVec 32) (k0_hw257 : k0_chk257 v1803) (k0_t2 : Fin (k0_t2_loop v1803).trips), ∀ a, (k0_off863 v1803 k0_t2) a + S1.size a ≤ S6400.size a := fun v1803 k0_hw257 k0_t2 => k0_hw257.2.2.2.2.2.2.2.2.2.2.2.2.1.2.2.2.2.2.2.2.2.2.2.2.2.2.2.2.2.2.2.2.2.2.2.2.2.1 k0_t2
theorem k0_off865_inb : ∀ (v1803 : BitVec 32) (k0_hw257 : k0_chk257 v1803) (k0_t2 : Fin (k0_t2_loop v1803).trips), ∀ a, (k0_off865 v1803 k0_t2) a + S1x128.size a ≤ S6400x128.size a := fun v1803 k0_hw257 k0_t2 => k0_hw257.2.2.2.2.2.2.2.2.2.2.2.2.1.2.2.2.2.2.2.2.2.2.2.2.2.2.2.2.2.2.2.2.2.2.2.2.2.2.1 k0_t2
theorem k0_off866_inb : ∀ (v1803 : BitVec 32) (k0_hw257 : k0_chk257 v1803) (k0_t2 : Fin (k0_t2_loop v1803).trips), ∀ a, (k0_off866 v1803 k0_t2) a + S1.size a ≤ S6400.size a := fun v1803 k0_hw257 k0_t2 => k0_hw257.2.2.2.2.2.2.2.2.2.2.2.2.1.2.2.2.2.2.2.2.2.2.2.2.2.2.2.2.2.2.2.2.2.2.2.2.2.2.2.1 k0_t2
theorem k0_off868_inb : ∀ (v1803 : BitVec 32) (k0_hw257 : k0_chk257 v1803) (k0_t2 : Fin (k0_t2_loop v1803).trips), ∀ a, (k0_off868 v1803 k0_t2) a + S1x128.size a ≤ S6400x128.size a := fun v1803 k0_hw257 k0_t2 => k0_hw257.2.2.2.2.2.2.2.2.2.2.2.2.1.2.2.2.2.2.2.2.2.2.2.2.2.2.2.2.2.2.2.2.2.2.2.2.2.2.2.2.1 k0_t2
theorem k0_off869_inb : ∀ (v1803 : BitVec 32) (k0_hw257 : k0_chk257 v1803) (k0_t2 : Fin (k0_t2_loop v1803).trips), ∀ a, (k0_off869 v1803 k0_t2) a + S1.size a ≤ S6400.size a := fun v1803 k0_hw257 k0_t2 => k0_hw257.2.2.2.2.2.2.2.2.2.2.2.2.1.2.2.2.2.2.2.2.2.2.2.2.2.2.2.2.2.2.2.2.2.2.2.2.2.2.2.2.2.1 k0_t2
theorem k0_off871_inb : ∀ (v1803 : BitVec 32) (k0_hw257 : k0_chk257 v1803) (k0_t2 : Fin (k0_t2_loop v1803).trips), ∀ a, (k0_off871 v1803 k0_t2) a + S1x128.size a ≤ S6400x128.size a := fun v1803 k0_hw257 k0_t2 => k0_hw257.2.2.2.2.2.2.2.2.2.2.2.2.1.2.2.2.2.2.2.2.2.2.2.2.2.2.2.2.2.2.2.2.2.2.2.2.2.2.2.2.2.2.1 k0_t2
theorem k0_off872_inb : ∀ (v1803 : BitVec 32) (k0_hw257 : k0_chk257 v1803) (k0_t2 : Fin (k0_t2_loop v1803).trips), ∀ a, (k0_off872 v1803 k0_t2) a + S1.size a ≤ S6400.size a := fun v1803 k0_hw257 k0_t2 => k0_hw257.2.2.2.2.2.2.2.2.2.2.2.2.1.2.2.2.2.2.2.2.2.2.2.2.2.2.2.2.2.2.2.2.2.2.2.2.2.2.2.2.2.2.2.1 k0_t2
theorem k0_off874_inb : ∀ (v1803 : BitVec 32) (k0_hw257 : k0_chk257 v1803) (k0_t2 : Fin (k0_t2_loop v1803).trips), ∀ a, (k0_off874 v1803 k0_t2) a + S1x128.size a ≤ S6400x128.size a := fun v1803 k0_hw257 k0_t2 => k0_hw257.2.2.2.2.2.2.2.2.2.2.2.2.1.2.2.2.2.2.2.2.2.2.2.2.2.2.2.2.2.2.2.2.2.2.2.2.2.2.2.2.2.2.2.2 k0_t2
theorem k0_off875_inb : ∀ (v1803 : BitVec 32) (k0_hw257 : k0_chk257 v1803) (k0_t2 : Fin (k0_t2_loop v1803).trips), ∀ a, (k0_off875 v1803 k0_t2) a + S1.size a ≤ S6400.size a := fun v1803 k0_hw257 k0_t2 => k0_hw257.2.2.2.2.2.2.2.2.2.2.2.2.2.1.1 k0_t2
theorem k0_off877_inb : ∀ (v1803 : BitVec 32) (k0_hw257 : k0_chk257 v1803) (k0_t2 : Fin (k0_t2_loop v1803).trips), ∀ a, (k0_off877 v1803 k0_t2) a + S1x128.size a ≤ S6400x128.size a := fun v1803 k0_hw257 k0_t2 => k0_hw257.2.2.2.2.2.2.2.2.2.2.2.2.2.1.2.1 k0_t2
theorem k0_off878_inb : ∀ (v1803 : BitVec 32) (k0_hw257 : k0_chk257 v1803) (k0_t2 : Fin (k0_t2_loop v1803).trips), ∀ a, (k0_off878 v1803 k0_t2) a + S1.size a ≤ S6400.size a := fun v1803 k0_hw257 k0_t2 => k0_hw257.2.2.2.2.2.2.2.2.2.2.2.2.2.1.2.2.1 k0_t2
theorem k0_off880_inb : ∀ (v1803 : BitVec 32) (k0_hw257 : k0_chk257 v1803) (k0_t2 : Fin (k0_t2_loop v1803).trips), ∀ a, (k0_off880 v1803 k0_t2) a + S1x128.size a ≤ S6400x128.size a := fun v1803 k0_hw257 k0_t2 => k0_hw257.2.2.2.2.2.2.2.2.2.2.2.2.2.1.2.2.2.1 k0_t2
theorem k0_off881_inb : ∀ (v1803 : BitVec 32) (k0_hw257 : k0_chk257 v1803) (k0_t2 : Fin (k0_t2_loop v1803).trips), ∀ a, (k0_off881 v1803 k0_t2) a + S1.size a ≤ S6400.size a := fun v1803 k0_hw257 k0_t2 => k0_hw257.2.2.2.2.2.2.2.2.2.2.2.2.2.1.2.2.2.2.1 k0_t2
theorem k0_off883_inb : ∀ (v1803 : BitVec 32) (k0_hw257 : k0_chk257 v1803) (k0_t2 : Fin (k0_t2_loop v1803).trips), ∀ a, (k0_off883 v1803 k0_t2) a + S1x128.size a ≤ S6400x128.size a := fun v1803 k0_hw257 k0_t2 => k0_hw257.2.2.2.2.2.2.2.2.2.2.2.2.2.1.2.2.2.2.2.1 k0_t2
theorem k0_off884_inb : ∀ (v1803 : BitVec 32) (k0_hw257 : k0_chk257 v1803) (k0_t2 : Fin (k0_t2_loop v1803).trips), ∀ a, (k0_off884 v1803 k0_t2) a + S1.size a ≤ S6400.size a := fun v1803 k0_hw257 k0_t2 => k0_hw257.2.2.2.2.2.2.2.2.2.2.2.2.2.1.2.2.2.2.2.2.1 k0_t2
theorem k0_off886_inb : ∀ (v1803 : BitVec 32) (k0_hw257 : k0_chk257 v1803) (k0_t2 : Fin (k0_t2_loop v1803).trips), ∀ a, (k0_off886 v1803 k0_t2) a + S1x128.size a ≤ S6400x128.size a := fun v1803 k0_hw257 k0_t2 => k0_hw257.2.2.2.2.2.2.2.2.2.2.2.2.2.1.2.2.2.2.2.2.2.1 k0_t2
theorem k0_off887_inb : ∀ (v1803 : BitVec 32) (k0_hw257 : k0_chk257 v1803) (k0_t2 : Fin (k0_t2_loop v1803).trips), ∀ a, (k0_off887 v1803 k0_t2) a + S1.size a ≤ S6400.size a := fun v1803 k0_hw257 k0_t2 => k0_hw257.2.2.2.2.2.2.2.2.2.2.2.2.2.1.2.2.2.2.2.2.2.2.1 k0_t2
theorem k0_off889_inb : ∀ (v1803 : BitVec 32) (k0_hw257 : k0_chk257 v1803) (k0_t2 : Fin (k0_t2_loop v1803).trips), ∀ a, (k0_off889 v1803 k0_t2) a + S1x128.size a ≤ S6400x128.size a := fun v1803 k0_hw257 k0_t2 => k0_hw257.2.2.2.2.2.2.2.2.2.2.2.2.2.1.2.2.2.2.2.2.2.2.2.1 k0_t2
theorem k0_off890_inb : ∀ (v1803 : BitVec 32) (k0_hw257 : k0_chk257 v1803) (k0_t2 : Fin (k0_t2_loop v1803).trips), ∀ a, (k0_off890 v1803 k0_t2) a + S1.size a ≤ S6400.size a := fun v1803 k0_hw257 k0_t2 => k0_hw257.2.2.2.2.2.2.2.2.2.2.2.2.2.1.2.2.2.2.2.2.2.2.2.2.1 k0_t2
theorem k0_off892_inb : ∀ (v1803 : BitVec 32) (k0_hw257 : k0_chk257 v1803) (k0_t2 : Fin (k0_t2_loop v1803).trips), ∀ a, (k0_off892 v1803 k0_t2) a + S1x128.size a ≤ S6400x128.size a := fun v1803 k0_hw257 k0_t2 => k0_hw257.2.2.2.2.2.2.2.2.2.2.2.2.2.1.2.2.2.2.2.2.2.2.2.2.2.1 k0_t2
theorem k0_off893_inb : ∀ (v1803 : BitVec 32) (k0_hw257 : k0_chk257 v1803) (k0_t2 : Fin (k0_t2_loop v1803).trips), ∀ a, (k0_off893 v1803 k0_t2) a + S1.size a ≤ S6400.size a := fun v1803 k0_hw257 k0_t2 => k0_hw257.2.2.2.2.2.2.2.2.2.2.2.2.2.1.2.2.2.2.2.2.2.2.2.2.2.2.1 k0_t2
theorem k0_off895_inb : ∀ (v1803 : BitVec 32) (k0_hw257 : k0_chk257 v1803) (k0_t2 : Fin (k0_t2_loop v1803).trips), ∀ a, (k0_off895 v1803 k0_t2) a + S1x128.size a ≤ S6400x128.size a := fun v1803 k0_hw257 k0_t2 => k0_hw257.2.2.2.2.2.2.2.2.2.2.2.2.2.1.2.2.2.2.2.2.2.2.2.2.2.2.2.1 k0_t2
theorem k0_off896_inb : ∀ (v1803 : BitVec 32) (k0_hw257 : k0_chk257 v1803) (k0_t2 : Fin (k0_t2_loop v1803).trips), ∀ a, (k0_off896 v1803 k0_t2) a + S1.size a ≤ S6400.size a := fun v1803 k0_hw257 k0_t2 => k0_hw257.2.2.2.2.2.2.2.2.2.2.2.2.2.1.2.2.2.2.2.2.2.2.2.2.2.2.2.2.1 k0_t2
theorem k0_off898_inb : ∀ (v1803 : BitVec 32) (k0_hw257 : k0_chk257 v1803) (k0_t2 : Fin (k0_t2_loop v1803).trips), ∀ a, (k0_off898 v1803 k0_t2) a + S1x128.size a ≤ S6400x128.size a := fun v1803 k0_hw257 k0_t2 => k0_hw257.2.2.2.2.2.2.2.2.2.2.2.2.2.1.2.2.2.2.2.2.2.2.2.2.2.2.2.2.2.1 k0_t2
theorem k0_off899_inb : ∀ (v1803 : BitVec 32) (k0_hw257 : k0_chk257 v1803) (k0_t2 : Fin (k0_t2_loop v1803).trips), ∀ a, (k0_off899 v1803 k0_t2) a + S1.size a ≤ S6400.size a := fun v1803 k0_hw257 k0_t2 => k0_hw257.2.2.2.2.2.2.2.2.2.2.2.2.2.1.2.2.2.2.2.2.2.2.2.2.2.2.2.2.2.2.1 k0_t2
theorem k0_off901_inb : ∀ (v1803 : BitVec 32) (k0_hw257 : k0_chk257 v1803) (k0_t2 : Fin (k0_t2_loop v1803).trips), ∀ a, (k0_off901 v1803 k0_t2) a + S1x128.size a ≤ S6400x128.size a := fun v1803 k0_hw257 k0_t2 => k0_hw257.2.2.2.2.2.2.2.2.2.2.2.2.2.1.2.2.2.2.2.2.2.2.2.2.2.2.2.2.2.2.2.1 k0_t2
theorem k0_off902_inb : ∀ (v1803 : BitVec 32) (k0_hw257 : k0_chk257 v1803) (k0_t2 : Fin (k0_t2_loop v1803).trips), ∀ a, (k0_off902 v1803 k0_t2) a + S1.size a ≤ S6400.size a := fun v1803 k0_hw257 k0_t2 => k0_hw257.2.2.2.2.2.2.2.2.2.2.2.2.2.1.2.2.2.2.2.2.2.2.2.2.2.2.2.2.2.2.2.2.1 k0_t2
theorem k0_off904_inb : ∀ (v1803 : BitVec 32) (k0_hw257 : k0_chk257 v1803) (k0_t2 : Fin (k0_t2_loop v1803).trips), ∀ a, (k0_off904 v1803 k0_t2) a + S1x128.size a ≤ S6400x128.size a := fun v1803 k0_hw257 k0_t2 => k0_hw257.2.2.2.2.2.2.2.2.2.2.2.2.2.1.2.2.2.2.2.2.2.2.2.2.2.2.2.2.2.2.2.2.2.1 k0_t2
theorem k0_off905_inb : ∀ (v1803 : BitVec 32) (k0_hw257 : k0_chk257 v1803) (k0_t2 : Fin (k0_t2_loop v1803).trips), ∀ a, (k0_off905 v1803 k0_t2) a + S1.size a ≤ S6400.size a := fun v1803 k0_hw257 k0_t2 => k0_hw257.2.2.2.2.2.2.2.2.2.2.2.2.2.1.2.2.2.2.2.2.2.2.2.2.2.2.2.2.2.2.2.2.2.2.1 k0_t2
theorem k0_off907_inb : ∀ (v1803 : BitVec 32) (k0_hw257 : k0_chk257 v1803) (k0_t2 : Fin (k0_t2_loop v1803).trips), ∀ a, (k0_off907 v1803 k0_t2) a + S1x128.size a ≤ S6400x128.size a := fun v1803 k0_hw257 k0_t2 => k0_hw257.2.2.2.2.2.2.2.2.2.2.2.2.2.1.2.2.2.2.2.2.2.2.2.2.2.2.2.2.2.2.2.2.2.2.2.1 k0_t2
theorem k0_off908_inb : ∀ (v1803 : BitVec 32) (k0_hw257 : k0_chk257 v1803) (k0_t2 : Fin (k0_t2_loop v1803).trips), ∀ a, (k0_off908 v1803 k0_t2) a + S1.size a ≤ S6400.size a := fun v1803 k0_hw257 k0_t2 => k0_hw257.2.2.2.2.2.2.2.2.2.2.2.2.2.1.2.2.2.2.2.2.2.2.2.2.2.2.2.2.2.2.2.2.2.2.2.2.1 k0_t2
theorem k0_off910_inb : ∀ (v1803 : BitVec 32) (k0_hw257 : k0_chk257 v1803) (k0_t2 : Fin (k0_t2_loop v1803).trips), ∀ a, (k0_off910 v1803 k0_t2) a + S1x128.size a ≤ S6400x128.size a := fun v1803 k0_hw257 k0_t2 => k0_hw257.2.2.2.2.2.2.2.2.2.2.2.2.2.1.2.2.2.2.2.2.2.2.2.2.2.2.2.2.2.2.2.2.2.2.2.2.2.1 k0_t2
theorem k0_off911_inb : ∀ (v1803 : BitVec 32) (k0_hw257 : k0_chk257 v1803) (k0_t2 : Fin (k0_t2_loop v1803).trips), ∀ a, (k0_off911 v1803 k0_t2) a + S1.size a ≤ S6400.size a := fun v1803 k0_hw257 k0_t2 => k0_hw257.2.2.2.2.2.2.2.2.2.2.2.2.2.1.2.2.2.2.2.2.2.2.2.2.2.2.2.2.2.2.2.2.2.2.2.2.2.2.1 k0_t2
theorem k0_off913_inb : ∀ (v1803 : BitVec 32) (k0_hw257 : k0_chk257 v1803) (k0_t2 : Fin (k0_t2_loop v1803).trips), ∀ a, (k0_off913 v1803 k0_t2) a + S1x128.size a ≤ S6400x128.size a := fun v1803 k0_hw257 k0_t2 => k0_hw257.2.2.2.2.2.2.2.2.2.2.2.2.2.1.2.2.2.2.2.2.2.2.2.2.2.2.2.2.2.2.2.2.2.2.2.2.2.2.2.1 k0_t2
theorem k0_off914_inb : ∀ (v1803 : BitVec 32) (k0_hw257 : k0_chk257 v1803) (k0_t2 : Fin (k0_t2_loop v1803).trips), ∀ a, (k0_off914 v1803 k0_t2) a + S1.size a ≤ S6400.size a := fun v1803 k0_hw257 k0_t2 => k0_hw257.2.2.2.2.2.2.2.2.2.2.2.2.2.1.2.2.2.2.2.2.2.2.2.2.2.2.2.2.2.2.2.2.2.2.2.2.2.2.2.2.1 k0_t2
theorem k0_off916_inb : ∀ (v1803 : BitVec 32) (k0_hw257 : k0_chk257 v1803) (k0_t2 : Fin (k0_t2_loop v1803).trips), ∀ a, (k0_off916 v1803 k0_t2) a + S1x128.size a ≤ S6400x128.size a := fun v1803 k0_hw257 k0_t2 => k0_hw257.2.2.2.2.2.2.2.2.2.2.2.2.2.1.2.2.2.2.2.2.2.2.2.2.2.2.2.2.2.2.2.2.2.2.2.2.2.2.2.2.2.1 k0_t2
theorem k0_off917_inb : ∀ (v1803 : BitVec 32) (k0_hw257 : k0_chk257 v1803) (k0_t2 : Fin (k0_t2_loop v1803).trips), ∀ a, (k0_off917 v1803 k0_t2) a + S1.size a ≤ S6400.size a := fun v1803 k0_hw257 k0_t2 => k0_hw257.2.2.2.2.2.2.2.2.2.2.2.2.2.1.2.2.2.2.2.2.2.2.2.2.2.2.2.2.2.2.2.2.2.2.2.2.2.2.2.2.2.2.1 k0_t2
theorem k0_off919_inb : ∀ (v1803 : BitVec 32) (k0_hw257 : k0_chk257 v1803) (k0_t2 : Fin (k0_t2_loop v1803).trips), ∀ a, (k0_off919 v1803 k0_t2) a + S1x128.size a ≤ S6400x128.size a := fun v1803 k0_hw257 k0_t2 => k0_hw257.2.2.2.2.2.2.2.2.2.2.2.2.2.1.2.2.2.2.2.2.2.2.2.2.2.2.2.2.2.2.2.2.2.2.2.2.2.2.2.2.2.2.2.1 k0_t2
theorem k0_off920_inb : ∀ (v1803 : BitVec 32) (k0_hw257 : k0_chk257 v1803) (k0_t2 : Fin (k0_t2_loop v1803).trips), ∀ a, (k0_off920 v1803 k0_t2) a + S1.size a ≤ S6400.size a := fun v1803 k0_hw257 k0_t2 => k0_hw257.2.2.2.2.2.2.2.2.2.2.2.2.2.1.2.2.2.2.2.2.2.2.2.2.2.2.2.2.2.2.2.2.2.2.2.2.2.2.2.2.2.2.2.2.1 k0_t2
theorem k0_off922_inb : ∀ (v1803 : BitVec 32) (k0_hw257 : k0_chk257 v1803) (k0_t2 : Fin (k0_t2_loop v1803).trips), ∀ a, (k0_off922 v1803 k0_t2) a + S1x128.size a ≤ S6400x128.size a := fun v1803 k0_hw257 k0_t2 => k0_hw257.2.2.2.2.2.2.2.2.2.2.2.2.2.1.2.2.2.2.2.2.2.2.2.2.2.2.2.2.2.2.2.2.2.2.2.2.2.2.2.2.2.2.2.2.2 k0_t2
theorem k0_off923_inb : ∀ (v1803 : BitVec 32) (k0_hw257 : k0_chk257 v1803) (k0_t2 : Fin (k0_t2_loop v1803).trips), ∀ a, (k0_off923 v1803 k0_t2) a + S1.size a ≤ S6400.size a := fun v1803 k0_hw257 k0_t2 => k0_hw257.2.2.2.2.2.2.2.2.2.2.2.2.2.2.1.1 k0_t2
theorem k0_off925_inb : ∀ (v1803 : BitVec 32) (k0_hw257 : k0_chk257 v1803) (k0_t2 : Fin (k0_t2_loop v1803).trips), ∀ a, (k0_off925 v1803 k0_t2) a + S1x128.size a ≤ S6400x128.size a := fun v1803 k0_hw257 k0_t2 => k0_hw257.2.2.2.2.2.2.2.2.2.2.2.2.2.2.1.2.1 k0_t2
theorem k0_off926_inb : ∀ (v1803 : BitVec 32) (k0_hw257 : k0_chk257 v1803) (k0_t2 : Fin (k0_t2_loop v1803).trips), ∀ a, (k0_off926 v1803 k0_t2) a + S1.size a ≤ S6400.size a := fun v1803 k0_hw257 k0_t2 => k0_hw257.2.2.2.2.2.2.2.2.2.2.2.2.2.2.1.2.2.1 k0_t2
theorem k0_off928_inb : ∀ (v1803 : BitVec 32) (k0_hw257 : k0_chk257 v1803) (k0_t2 : Fin (k0_t2_loop v1803).trips), ∀ a, (k0_off928 v1803 k0_t2) a + S1x128.size a ≤ S6400x128.size a := fun v1803 k0_hw257 k0_t2 => k0_hw257.2.2.2.2.2.2.2.2.2.2.2.2.2.2.1.2.2.2.1 k0_t2
theorem k0_off929_inb : ∀ (v1803 : BitVec 32) (k0_hw257 : k0_chk257 v1803) (k0_t2 : Fin (k0_t2_loop v1803).trips), ∀ a, (k0_off929 v1803 k0_t2) a + S1.size a ≤ S6400.size a := fun v1803 k0_hw257 k0_t2 => k0_hw257.2.2.2.2.2.2.2.2.2.2.2.2.2.2.1.2.2.2.2.1 k0_t2
theorem k0_off931_inb : ∀ (v1803 : BitVec 32) (k0_hw257 : k0_chk257 v1803) (k0_t2 : Fin (k0_t2_loop v1803).trips), ∀ a, (k0_off931 v1803 k0_t2) a + S1x128.size a ≤ S6400x128.size a := fun v1803 k0_hw257 k0_t2 => k0_hw257.2.2.2.2.2.2.2.2.2.2.2.2.2.2.1.2.2.2.2.2.1 k0_t2
theorem k0_off932_inb : ∀ (v1803 : BitVec 32) (k0_hw257 : k0_chk257 v1803) (k0_t2 : Fin (k0_t2_loop v1803).trips), ∀ a, (k0_off932 v1803 k0_t2) a + S1.size a ≤ S6400.size a := fun v1803 k0_hw257 k0_t2 => k0_hw257.2.2.2.2.2.2.2.2.2.2.2.2.2.2.1.2.2.2.2.2.2.1 k0_t2
theorem k0_off934_inb : ∀ (v1803 : BitVec 32) (k0_hw257 : k0_chk257 v1803) (k0_t2 : Fin (k0_t2_loop v1803).trips), ∀ a, (k0_off934 v1803 k0_t2) a + S1x128.size a ≤ S6400x128.size a := fun v1803 k0_hw257 k0_t2 => k0_hw257.2.2.2.2.2.2.2.2.2.2.2.2.2.2.1.2.2.2.2.2.2.2.1 k0_t2
theorem k0_off935_inb : ∀ (v1803 : BitVec 32) (k0_hw257 : k0_chk257 v1803) (k0_t2 : Fin (k0_t2_loop v1803).trips), ∀ a, (k0_off935 v1803 k0_t2) a + S1.size a ≤ S6400.size a := fun v1803 k0_hw257 k0_t2 => k0_hw257.2.2.2.2.2.2.2.2.2.2.2.2.2.2.1.2.2.2.2.2.2.2.2.1 k0_t2
theorem k0_off937_inb : ∀ (v1803 : BitVec 32) (k0_hw257 : k0_chk257 v1803) (k0_t2 : Fin (k0_t2_loop v1803).trips), ∀ a, (k0_off937 v1803 k0_t2) a + S1x128.size a ≤ S6400x128.size a := fun v1803 k0_hw257 k0_t2 => k0_hw257.2.2.2.2.2.2.2.2.2.2.2.2.2.2.1.2.2.2.2.2.2.2.2.2.1 k0_t2
theorem k0_off938_inb : ∀ (v1803 : BitVec 32) (k0_hw257 : k0_chk257 v1803) (k0_t2 : Fin (k0_t2_loop v1803).trips), ∀ a, (k0_off938 v1803 k0_t2) a + S1.size a ≤ S6400.size a := fun v1803 k0_hw257 k0_t2 => k0_hw257.2.2.2.2.2.2.2.2.2.2.2.2.2.2.1.2.2.2.2.2.2.2.2.2.2.1 k0_t2
theorem k0_off940_inb : ∀ (v1803 : BitVec 32) (k0_hw257 : k0_chk257 v1803) (k0_t2 : Fin (k0_t2_loop v1803).trips), ∀ a, (k0_off940 v1803 k0_t2) a + S1x128.size a ≤ S6400x128.size a := fun v1803 k0_hw257 k0_t2 => k0_hw257.2.2.2.2.2.2.2.2.2.2.2.2.2.2.1.2.2.2.2.2.2.2.2.2.2.2.1 k0_t2
theorem k0_off941_inb : ∀ (v1803 : BitVec 32) (k0_hw257 : k0_chk257 v1803) (k0_t2 : Fin (k0_t2_loop v1803).trips), ∀ a, (k0_off941 v1803 k0_t2) a + S1.size a ≤ S6400.size a := fun v1803 k0_hw257 k0_t2 => k0_hw257.2.2.2.2.2.2.2.2.2.2.2.2.2.2.1.2.2.2.2.2.2.2.2.2.2.2.2.1 k0_t2
theorem k0_off943_inb : ∀ (v1803 : BitVec 32) (k0_hw257 : k0_chk257 v1803) (k0_t2 : Fin (k0_t2_loop v1803).trips), ∀ a, (k0_off943 v1803 k0_t2) a + S1x128.size a ≤ S6400x128.size a := fun v1803 k0_hw257 k0_t2 => k0_hw257.2.2.2.2.2.2.2.2.2.2.2.2.2.2.1.2.2.2.2.2.2.2.2.2.2.2.2.2.1 k0_t2
theorem k0_off944_inb : ∀ (v1803 : BitVec 32) (k0_hw257 : k0_chk257 v1803) (k0_t2 : Fin (k0_t2_loop v1803).trips), ∀ a, (k0_off944 v1803 k0_t2) a + S1.size a ≤ S6400.size a := fun v1803 k0_hw257 k0_t2 => k0_hw257.2.2.2.2.2.2.2.2.2.2.2.2.2.2.1.2.2.2.2.2.2.2.2.2.2.2.2.2.2.1 k0_t2
theorem k0_off946_inb : ∀ (v1803 : BitVec 32) (k0_hw257 : k0_chk257 v1803) (k0_t2 : Fin (k0_t2_loop v1803).trips), ∀ a, (k0_off946 v1803 k0_t2) a + S1x128.size a ≤ S6400x128.size a := fun v1803 k0_hw257 k0_t2 => k0_hw257.2.2.2.2.2.2.2.2.2.2.2.2.2.2.1.2.2.2.2.2.2.2.2.2.2.2.2.2.2.2.1 k0_t2
theorem k0_off947_inb : ∀ (v1803 : BitVec 32) (k0_hw257 : k0_chk257 v1803) (k0_t2 : Fin (k0_t2_loop v1803).trips), ∀ a, (k0_off947 v1803 k0_t2) a + S1.size a ≤ S6400.size a := fun v1803 k0_hw257 k0_t2 => k0_hw257.2.2.2.2.2.2.2.2.2.2.2.2.2.2.1.2.2.2.2.2.2.2.2.2.2.2.2.2.2.2.2.1 k0_t2
theorem k0_off949_inb : ∀ (v1803 : BitVec 32) (k0_hw257 : k0_chk257 v1803) (k0_t2 : Fin (k0_t2_loop v1803).trips), ∀ a, (k0_off949 v1803 k0_t2) a + S1x128.size a ≤ S6400x128.size a := fun v1803 k0_hw257 k0_t2 => k0_hw257.2.2.2.2.2.2.2.2.2.2.2.2.2.2.1.2.2.2.2.2.2.2.2.2.2.2.2.2.2.2.2.2.1 k0_t2
theorem k0_off950_inb : ∀ (v1803 : BitVec 32) (k0_hw257 : k0_chk257 v1803) (k0_t2 : Fin (k0_t2_loop v1803).trips), ∀ a, (k0_off950 v1803 k0_t2) a + S1.size a ≤ S6400.size a := fun v1803 k0_hw257 k0_t2 => k0_hw257.2.2.2.2.2.2.2.2.2.2.2.2.2.2.1.2.2.2.2.2.2.2.2.2.2.2.2.2.2.2.2.2.2.1 k0_t2
theorem k0_off952_inb : ∀ (v1803 : BitVec 32) (k0_hw257 : k0_chk257 v1803) (k0_t2 : Fin (k0_t2_loop v1803).trips), ∀ a, (k0_off952 v1803 k0_t2) a + S1x128.size a ≤ S6400x128.size a := fun v1803 k0_hw257 k0_t2 => k0_hw257.2.2.2.2.2.2.2.2.2.2.2.2.2.2.1.2.2.2.2.2.2.2.2.2.2.2.2.2.2.2.2.2.2.2.1 k0_t2
theorem k0_off953_inb : ∀ (v1803 : BitVec 32) (k0_hw257 : k0_chk257 v1803) (k0_t2 : Fin (k0_t2_loop v1803).trips), ∀ a, (k0_off953 v1803 k0_t2) a + S1.size a ≤ S6400.size a := fun v1803 k0_hw257 k0_t2 => k0_hw257.2.2.2.2.2.2.2.2.2.2.2.2.2.2.1.2.2.2.2.2.2.2.2.2.2.2.2.2.2.2.2.2.2.2.2.1 k0_t2
theorem k0_off955_inb : ∀ (v1803 : BitVec 32) (k0_hw257 : k0_chk257 v1803) (k0_t2 : Fin (k0_t2_loop v1803).trips), ∀ a, (k0_off955 v1803 k0_t2) a + S1x128.size a ≤ S6400x128.size a := fun v1803 k0_hw257 k0_t2 => k0_hw257.2.2.2.2.2.2.2.2.2.2.2.2.2.2.1.2.2.2.2.2.2.2.2.2.2.2.2.2.2.2.2.2.2.2.2.2.1 k0_t2
theorem k0_off956_inb : ∀ (v1803 : BitVec 32) (k0_hw257 : k0_chk257 v1803) (k0_t2 : Fin (k0_t2_loop v1803).trips), ∀ a, (k0_off956 v1803 k0_t2) a + S1.size a ≤ S6400.size a := fun v1803 k0_hw257 k0_t2 => k0_hw257.2.2.2.2.2.2.2.2.2.2.2.2.2.2.1.2.2.2.2.2.2.2.2.2.2.2.2.2.2.2.2.2.2.2.2.2.2.1 k0_t2
theorem k0_off958_inb : ∀ (v1803 : BitVec 32) (k0_hw257 : k0_chk257 v1803) (k0_t2 : Fin (k0_t2_loop v1803).trips), ∀ a, (k0_off958 v1803 k0_t2) a + S1x128.size a ≤ S6400x128.size a := fun v1803 k0_hw257 k0_t2 => k0_hw257.2.2.2.2.2.2.2.2.2.2.2.2.2.2.1.2.2.2.2.2.2.2.2.2.2.2.2.2.2.2.2.2.2.2.2.2.2.2.1 k0_t2
theorem k0_off959_inb : ∀ (v1803 : BitVec 32) (k0_hw257 : k0_chk257 v1803) (k0_t2 : Fin (k0_t2_loop v1803).trips), ∀ a, (k0_off959 v1803 k0_t2) a + S1.size a ≤ S6400.size a := fun v1803 k0_hw257 k0_t2 => k0_hw257.2.2.2.2.2.2.2.2.2.2.2.2.2.2.1.2.2.2.2.2.2.2.2.2.2.2.2.2.2.2.2.2.2.2.2.2.2.2.2.1 k0_t2
theorem k0_off961_inb : ∀ (v1803 : BitVec 32) (k0_hw257 : k0_chk257 v1803) (k0_t2 : Fin (k0_t2_loop v1803).trips), ∀ a, (k0_off961 v1803 k0_t2) a + S1x128.size a ≤ S6400x128.size a := fun v1803 k0_hw257 k0_t2 => k0_hw257.2.2.2.2.2.2.2.2.2.2.2.2.2.2.1.2.2.2.2.2.2.2.2.2.2.2.2.2.2.2.2.2.2.2.2.2.2.2.2.2.1 k0_t2
theorem k0_off962_inb : ∀ (v1803 : BitVec 32) (k0_hw257 : k0_chk257 v1803) (k0_t2 : Fin (k0_t2_loop v1803).trips), ∀ a, (k0_off962 v1803 k0_t2) a + S1.size a ≤ S6400.size a := fun v1803 k0_hw257 k0_t2 => k0_hw257.2.2.2.2.2.2.2.2.2.2.2.2.2.2.1.2.2.2.2.2.2.2.2.2.2.2.2.2.2.2.2.2.2.2.2.2.2.2.2.2.2.1 k0_t2
theorem k0_off964_inb : ∀ (v1803 : BitVec 32) (k0_hw257 : k0_chk257 v1803) (k0_t2 : Fin (k0_t2_loop v1803).trips), ∀ a, (k0_off964 v1803 k0_t2) a + S1x128.size a ≤ S6400x128.size a := fun v1803 k0_hw257 k0_t2 => k0_hw257.2.2.2.2.2.2.2.2.2.2.2.2.2.2.1.2.2.2.2.2.2.2.2.2.2.2.2.2.2.2.2.2.2.2.2.2.2.2.2.2.2.2.1 k0_t2
theorem k0_off965_inb : ∀ (v1803 : BitVec 32) (k0_hw257 : k0_chk257 v1803) (k0_t2 : Fin (k0_t2_loop v1803).trips), ∀ a, (k0_off965 v1803 k0_t2) a + S1.size a ≤ S6400.size a := fun v1803 k0_hw257 k0_t2 => k0_hw257.2.2.2.2.2.2.2.2.2.2.2.2.2.2.1.2.2.2.2.2.2.2.2.2.2.2.2.2.2.2.2.2.2.2.2.2.2.2.2.2.2.2.2.1 k0_t2
theorem k0_off967_inb : ∀ (v1803 : BitVec 32) (k0_hw257 : k0_chk257 v1803) (k0_t2 : Fin (k0_t2_loop v1803).trips), ∀ a, (k0_off967 v1803 k0_t2) a + S1x128.size a ≤ S6400x128.size a := fun v1803 k0_hw257 k0_t2 => k0_hw257.2.2.2.2.2.2.2.2.2.2.2.2.2.2.1.2.2.2.2.2.2.2.2.2.2.2.2.2.2.2.2.2.2.2.2.2.2.2.2.2.2.2.2.2.1 k0_t2
theorem k0_off968_inb : ∀ (v1803 : BitVec 32) (k0_hw257 : k0_chk257 v1803) (k0_t2 : Fin (k0_t2_loop v1803).trips), ∀ a, (k0_off968 v1803 k0_t2) a + S1.size a ≤ S6400.size a := fun v1803 k0_hw257 k0_t2 => k0_hw257.2.2.2.2.2.2.2.2.2.2.2.2.2.2.1.2.2.2.2.2.2.2.2.2.2.2.2.2.2.2.2.2.2.2.2.2.2.2.2.2.2.2.2.2.2.1 k0_t2
theorem k0_off970_inb : ∀ (v1803 : BitVec 32) (k0_hw257 : k0_chk257 v1803) (k0_t2 : Fin (k0_t2_loop v1803).trips), ∀ a, (k0_off970 v1803 k0_t2) a + S1x128.size a ≤ S6400x128.size a := fun v1803 k0_hw257 k0_t2 => k0_hw257.2.2.2.2.2.2.2.2.2.2.2.2.2.2.1.2.2.2.2.2.2.2.2.2.2.2.2.2.2.2.2.2.2.2.2.2.2.2.2.2.2.2.2.2.2.2 k0_t2
theorem k0_off971_inb : ∀ (v1803 : BitVec 32) (k0_hw257 : k0_chk257 v1803) (k0_t2 : Fin (k0_t2_loop v1803).trips), ∀ a, (k0_off971 v1803 k0_t2) a + S1.size a ≤ S6400.size a := fun v1803 k0_hw257 k0_t2 => k0_hw257.2.2.2.2.2.2.2.2.2.2.2.2.2.2.2.1.1 k0_t2
theorem k0_off973_inb : ∀ (v1803 : BitVec 32) (k0_hw257 : k0_chk257 v1803) (k0_t2 : Fin (k0_t2_loop v1803).trips), ∀ a, (k0_off973 v1803 k0_t2) a + S1x128.size a ≤ S6400x128.size a := fun v1803 k0_hw257 k0_t2 => k0_hw257.2.2.2.2.2.2.2.2.2.2.2.2.2.2.2.1.2.1 k0_t2
theorem k0_off974_inb : ∀ (v1803 : BitVec 32) (k0_hw257 : k0_chk257 v1803) (k0_t2 : Fin (k0_t2_loop v1803).trips), ∀ a, (k0_off974 v1803 k0_t2) a + S1.size a ≤ S6400.size a := fun v1803 k0_hw257 k0_t2 => k0_hw257.2.2.2.2.2.2.2.2.2.2.2.2.2.2.2.1.2.2.1 k0_t2
theorem k0_off976_inb : ∀ (v1803 : BitVec 32) (k0_hw257 : k0_chk257 v1803) (k0_t2 : Fin (k0_t2_loop v1803).trips), ∀ a, (k0_off976 v1803 k0_t2) a + S1x128.size a ≤ S6400x128.size a := fun v1803 k0_hw257 k0_t2 => k0_hw257.2.2.2.2.2.2.2.2.2.2.2.2.2.2.2.1.2.2.2.1 k0_t2
theorem k0_off977_inb : ∀ (v1803 : BitVec 32) (k0_hw257 : k0_chk257 v1803) (k0_t2 : Fin (k0_t2_loop v1803).trips), ∀ a, (k0_off977 v1803 k0_t2) a + S1.size a ≤ S6400.size a := fun v1803 k0_hw257 k0_t2 => k0_hw257.2.2.2.2.2.2.2.2.2.2.2.2.2.2.2.1.2.2.2.2.1 k0_t2
theorem k0_off979_inb : ∀ (v1803 : BitVec 32) (k0_hw257 : k0_chk257 v1803) (k0_t2 : Fin (k0_t2_loop v1803).trips), ∀ a, (k0_off979 v1803 k0_t2) a + S1x128.size a ≤ S6400x128.size a := fun v1803 k0_hw257 k0_t2 => k0_hw257.2.2.2.2.2.2.2.2.2.2.2.2.2.2.2.1.2.2.2.2.2.1 k0_t2
theorem k0_off980_inb : ∀ (v1803 : BitVec 32) (k0_hw257 : k0_chk257 v1803) (k0_t2 : Fin (k0_t2_loop v1803).trips), ∀ a, (k0_off980 v1803 k0_t2) a + S1.size a ≤ S6400.size a := fun v1803 k0_hw257 k0_t2 => k0_hw257.2.2.2.2.2.2.2.2.2.2.2.2.2.2.2.1.2.2.2.2.2.2.1 k0_t2
theorem k0_off982_inb : ∀ (v1803 : BitVec 32) (k0_hw257 : k0_chk257 v1803) (k0_t2 : Fin (k0_t2_loop v1803).trips), ∀ a, (k0_off982 v1803 k0_t2) a + S1x128.size a ≤ S6400x128.size a := fun v1803 k0_hw257 k0_t2 => k0_hw257.2.2.2.2.2.2.2.2.2.2.2.2.2.2.2.1.2.2.2.2.2.2.2.1 k0_t2
theorem k0_off983_inb : ∀ (v1803 : BitVec 32) (k0_hw257 : k0_chk257 v1803) (k0_t2 : Fin (k0_t2_loop v1803).trips), ∀ a, (k0_off983 v1803 k0_t2) a + S1.size a ≤ S6400.size a := fun v1803 k0_hw257 k0_t2 => k0_hw257.2.2.2.2.2.2.2.2.2.2.2.2.2.2.2.1.2.2.2.2.2.2.2.2.1 k0_t2
theorem k0_off985_inb : ∀ (v1803 : BitVec 32) (k0_hw257 : k0_chk257 v1803) (k0_t2 : Fin (k0_t2_loop v1803).trips), ∀ a, (k0_off985 v1803 k0_t2) a + S1x128.size a ≤ S6400x128.size a := fun v1803 k0_hw257 k0_t2 => k0_hw257.2.2.2.2.2.2.2.2.2.2.2.2.2.2.2.1.2.2.2.2.2.2.2.2.2.1 k0_t2
theorem k0_off986_inb : ∀ (v1803 : BitVec 32) (k0_hw257 : k0_chk257 v1803) (k0_t2 : Fin (k0_t2_loop v1803).trips), ∀ a, (k0_off986 v1803 k0_t2) a + S1.size a ≤ S6400.size a := fun v1803 k0_hw257 k0_t2 => k0_hw257.2.2.2.2.2.2.2.2.2.2.2.2.2.2.2.1.2.2.2.2.2.2.2.2.2.2.1 k0_t2
theorem k0_off988_inb : ∀ (v1803 : BitVec 32) (k0_hw257 : k0_chk257 v1803) (k0_t2 : Fin (k0_t2_loop v1803).trips), ∀ a, (k0_off988 v1803 k0_t2) a + S1x128.size a ≤ S6400x128.size a := fun v1803 k0_hw257 k0_t2 => k0_hw257.2.2.2.2.2.2.2.2.2.2.2.2.2.2.2.1.2.2.2.2.2.2.2.2.2.2.2.1 k0_t2
theorem k0_off989_inb : ∀ (v1803 : BitVec 32) (k0_hw257 : k0_chk257 v1803) (k0_t2 : Fin (k0_t2_loop v1803).trips), ∀ a, (k0_off989 v1803 k0_t2) a + S1.size a ≤ S6400.size a := fun v1803 k0_hw257 k0_t2 => k0_hw257.2.2.2.2.2.2.2.2.2.2.2.2.2.2.2.1.2.2.2.2.2.2.2.2.2.2.2.2.1 k0_t2
theorem k0_off991_inb : ∀ (v1803 : BitVec 32) (k0_hw257 : k0_chk257 v1803) (k0_t2 : Fin (k0_t2_loop v1803).trips), ∀ a, (k0_off991 v1803 k0_t2) a + S1x128.size a ≤ S6400x128.size a := fun v1803 k0_hw257 k0_t2 => k0_hw257.2.2.2.2.2.2.2.2.2.2.2.2.2.2.2.1.2.2.2.2.2.2.2.2.2.2.2.2.2.1 k0_t2
theorem k0_off992_inb : ∀ (v1803 : BitVec 32) (k0_hw257 : k0_chk257 v1803) (k0_t2 : Fin (k0_t2_loop v1803).trips), ∀ a, (k0_off992 v1803 k0_t2) a + S1.size a ≤ S6400.size a := fun v1803 k0_hw257 k0_t2 => k0_hw257.2.2.2.2.2.2.2.2.2.2.2.2.2.2.2.1.2.2.2.2.2.2.2.2.2.2.2.2.2.2.1 k0_t2
theorem k0_off994_inb : ∀ (v1803 : BitVec 32) (k0_hw257 : k0_chk257 v1803) (k0_t2 : Fin (k0_t2_loop v1803).trips), ∀ a, (k0_off994 v1803 k0_t2) a + S1x128.size a ≤ S6400x128.size a := fun v1803 k0_hw257 k0_t2 => k0_hw257.2.2.2.2.2.2.2.2.2.2.2.2.2.2.2.1.2.2.2.2.2.2.2.2.2.2.2.2.2.2.2.1 k0_t2
theorem k0_off995_inb : ∀ (v1803 : BitVec 32) (k0_hw257 : k0_chk257 v1803) (k0_t2 : Fin (k0_t2_loop v1803).trips), ∀ a, (k0_off995 v1803 k0_t2) a + S1.size a ≤ S6400.size a := fun v1803 k0_hw257 k0_t2 => k0_hw257.2.2.2.2.2.2.2.2.2.2.2.2.2.2.2.1.2.2.2.2.2.2.2.2.2.2.2.2.2.2.2.2.1 k0_t2
theorem k0_off997_inb : ∀ (v1803 : BitVec 32) (k0_hw257 : k0_chk257 v1803) (k0_t2 : Fin (k0_t2_loop v1803).trips), ∀ a, (k0_off997 v1803 k0_t2) a + S1x128.size a ≤ S6400x128.size a := fun v1803 k0_hw257 k0_t2 => k0_hw257.2.2.2.2.2.2.2.2.2.2.2.2.2.2.2.1.2.2.2.2.2.2.2.2.2.2.2.2.2.2.2.2.2.1 k0_t2
theorem k0_off998_inb : ∀ (v1803 : BitVec 32) (k0_hw257 : k0_chk257 v1803) (k0_t2 : Fin (k0_t2_loop v1803).trips), ∀ a, (k0_off998 v1803 k0_t2) a + S1.size a ≤ S6400.size a := fun v1803 k0_hw257 k0_t2 => k0_hw257.2.2.2.2.2.2.2.2.2.2.2.2.2.2.2.1.2.2.2.2.2.2.2.2.2.2.2.2.2.2.2.2.2.2.1 k0_t2
theorem k0_off1000_inb : ∀ (v1803 : BitVec 32) (k0_hw257 : k0_chk257 v1803) (k0_t2 : Fin (k0_t2_loop v1803).trips), ∀ a, (k0_off1000 v1803 k0_t2) a + S1x128.size a ≤ S6400x128.size a := fun v1803 k0_hw257 k0_t2 => k0_hw257.2.2.2.2.2.2.2.2.2.2.2.2.2.2.2.1.2.2.2.2.2.2.2.2.2.2.2.2.2.2.2.2.2.2.2.1 k0_t2
theorem k0_off1001_inb : ∀ (v1803 : BitVec 32) (k0_hw257 : k0_chk257 v1803) (k0_t2 : Fin (k0_t2_loop v1803).trips), ∀ a, (k0_off1001 v1803 k0_t2) a + S1.size a ≤ S6400.size a := fun v1803 k0_hw257 k0_t2 => k0_hw257.2.2.2.2.2.2.2.2.2.2.2.2.2.2.2.1.2.2.2.2.2.2.2.2.2.2.2.2.2.2.2.2.2.2.2.2.1 k0_t2
theorem k0_off1003_inb : ∀ (v1803 : BitVec 32) (k0_hw257 : k0_chk257 v1803) (k0_t2 : Fin (k0_t2_loop v1803).trips), ∀ a, (k0_off1003 v1803 k0_t2) a + S1x128.size a ≤ S6400x128.size a := fun v1803 k0_hw257 k0_t2 => k0_hw257.2.2.2.2.2.2.2.2.2.2.2.2.2.2.2.1.2.2.2.2.2.2.2.2.2.2.2.2.2.2.2.2.2.2.2.2.2.1 k0_t2
theorem k0_off1004_inb : ∀ (v1803 : BitVec 32) (k0_hw257 : k0_chk257 v1803) (k0_t2 : Fin (k0_t2_loop v1803).trips), ∀ a, (k0_off1004 v1803 k0_t2) a + S1.size a ≤ S6400.size a := fun v1803 k0_hw257 k0_t2 => k0_hw257.2.2.2.2.2.2.2.2.2.2.2.2.2.2.2.1.2.2.2.2.2.2.2.2.2.2.2.2.2.2.2.2.2.2.2.2.2.2.1 k0_t2
theorem k0_off1006_inb : ∀ (v1803 : BitVec 32) (k0_hw257 : k0_chk257 v1803) (k0_t2 : Fin (k0_t2_loop v1803).trips), ∀ a, (k0_off1006 v1803 k0_t2) a + S1x128.size a ≤ S6400x128.size a := fun v1803 k0_hw257 k0_t2 => k0_hw257.2.2.2.2.2.2.2.2.2.2.2.2.2.2.2.1.2.2.2.2.2.2.2.2.2.2.2.2.2.2.2.2.2.2.2.2.2.2.2.1 k0_t2
theorem k0_off1007_inb : ∀ (v1803 : BitVec 32) (k0_hw257 : k0_chk257 v1803) (k0_t2 : Fin (k0_t2_loop v1803).trips), ∀ a, (k0_off1007 v1803 k0_t2) a + S1.size a ≤ S6400.size a := fun v1803 k0_hw257 k0_t2 => k0_hw257.2.2.2.2.2.2.2.2.2.2.2.2.2.2.2.1.2.2.2.2.2.2.2.2.2.2.2.2.2.2.2.2.2.2.2.2.2.2.2.2.1 k0_t2
theorem k0_off1009_inb : ∀ (v1803 : BitVec 32) (k0_hw257 : k0_chk257 v1803) (k0_t2 : Fin (k0_t2_loop v1803).trips), ∀ a, (k0_off1009 v1803 k0_t2) a + S1x128.size a ≤ S6400x128.size a := fun v1803 k0_hw257 k0_t2 => k0_hw257.2.2.2.2.2.2.2.2.2.2.2.2.2.2.2.1.2.2.2.2.2.2.2.2.2.2.2.2.2.2.2.2.2.2.2.2.2.2.2.2.2.1 k0_t2
theorem k0_off1010_inb : ∀ (v1803 : BitVec 32) (k0_hw257 : k0_chk257 v1803) (k0_t2 : Fin (k0_t2_loop v1803).trips), ∀ a, (k0_off1010 v1803 k0_t2) a + S1.size a ≤ S6400.size a := fun v1803 k0_hw257 k0_t2 => k0_hw257.2.2.2.2.2.2.2.2.2.2.2.2.2.2.2.1.2.2.2.2.2.2.2.2.2.2.2.2.2.2.2.2.2.2.2.2.2.2.2.2.2.2.1 k0_t2
theorem k0_off1012_inb : ∀ (v1803 : BitVec 32) (k0_hw257 : k0_chk257 v1803) (k0_t2 : Fin (k0_t2_loop v1803).trips), ∀ a, (k0_off1012 v1803 k0_t2) a + S1x128.size a ≤ S6400x128.size a := fun v1803 k0_hw257 k0_t2 => k0_hw257.2.2.2.2.2.2.2.2.2.2.2.2.2.2.2.1.2.2.2.2.2.2.2.2.2.2.2.2.2.2.2.2.2.2.2.2.2.2.2.2.2.2.2.1 k0_t2
theorem k0_off1013_inb : ∀ (v1803 : BitVec 32) (k0_hw257 : k0_chk257 v1803) (k0_t2 : Fin (k0_t2_loop v1803).trips), ∀ a, (k0_off1013 v1803 k0_t2) a + S1.size a ≤ S6400.size a := fun v1803 k0_hw257 k0_t2 => k0_hw257.2.2.2.2.2.2.2.2.2.2.2.2.2.2.2.1.2.2.2.2.2.2.2.2.2.2.2.2.2.2.2.2.2.2.2.2.2.2.2.2.2.2.2.2.1 k0_t2
theorem k0_off1015_inb : ∀ (v1803 : BitVec 32) (k0_hw257 : k0_chk257 v1803) (k0_t2 : Fin (k0_t2_loop v1803).trips), ∀ a, (k0_off1015 v1803 k0_t2) a + S1x128.size a ≤ S6400x128.size a := fun v1803 k0_hw257 k0_t2 => k0_hw257.2.2.2.2.2.2.2.2.2.2.2.2.2.2.2.1.2.2.2.2.2.2.2.2.2.2.2.2.2.2.2.2.2.2.2.2.2.2.2.2.2.2.2.2.2.1 k0_t2
theorem k0_off1016_inb : ∀ (v1803 : BitVec 32) (k0_hw257 : k0_chk257 v1803) (k0_t2 : Fin (k0_t2_loop v1803).trips), ∀ a, (k0_off1016 v1803 k0_t2) a + S1.size a ≤ S6400.size a := fun v1803 k0_hw257 k0_t2 => k0_hw257.2.2.2.2.2.2.2.2.2.2.2.2.2.2.2.1.2.2.2.2.2.2.2.2.2.2.2.2.2.2.2.2.2.2.2.2.2.2.2.2.2.2.2.2.2.2.1 k0_t2
theorem k0_off1018_inb : ∀ (v1803 : BitVec 32) (k0_hw257 : k0_chk257 v1803) (k0_t2 : Fin (k0_t2_loop v1803).trips), ∀ a, (k0_off1018 v1803 k0_t2) a + S1x128.size a ≤ S6400x128.size a := fun v1803 k0_hw257 k0_t2 => k0_hw257.2.2.2.2.2.2.2.2.2.2.2.2.2.2.2.1.2.2.2.2.2.2.2.2.2.2.2.2.2.2.2.2.2.2.2.2.2.2.2.2.2.2.2.2.2.2.2 k0_t2
theorem k0_off1019_inb : ∀ (v1803 : BitVec 32) (k0_hw257 : k0_chk257 v1803) (k0_t2 : Fin (k0_t2_loop v1803).trips), ∀ a, (k0_off1019 v1803 k0_t2) a + S1.size a ≤ S6400.size a := fun v1803 k0_hw257 k0_t2 => k0_hw257.2.2.2.2.2.2.2.2.2.2.2.2.2.2.2.2.1 k0_t2
theorem k0_off1021_inb : ∀ (v1803 : BitVec 32) (k0_hw257 : k0_chk257 v1803) (k0_t2 : Fin (k0_t2_loop v1803).trips), ∀ a, (k0_off1021 v1803 k0_t2) a + S1x128.size a ≤ S6400x128.size a := fun v1803 k0_hw257 k0_t2 => k0_hw257.2.2.2.2.2.2.2.2.2.2.2.2.2.2.2.2.2.1 k0_t2
theorem k0_off1022_inb : ∀ (v1803 : BitVec 32) (k0_hw257 : k0_chk257 v1803) (k0_t2 : Fin (k0_t2_loop v1803).trips), ∀ a, (k0_off1022 v1803 k0_t2) a + S1.size a ≤ S6400.size a := fun v1803 k0_hw257 k0_t2 => k0_hw257.2.2.2.2.2.2.2.2.2.2.2.2.2.2.2.2.2.2.1 k0_t2
theorem k0_off1024_inb : ∀ (v1803 : BitVec 32) (k0_hw257 : k0_chk257 v1803) (k0_t2 : Fin (k0_t2_loop v1803).trips), ∀ a, (k0_off1024 v1803 k0_t2) a + S1x128.size a ≤ S6400x128.size a := fun v1803 k0_hw257 k0_t2 => k0_hw257.2.2.2.2.2.2.2.2.2.2.2.2.2.2.2.2.2.2.2 k0_t2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x6400 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x264 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S50000x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S25000x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10000x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S800x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x6400 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x800 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S192x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x128x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S16384 : Shape := ⟨1, ![16384]⟩
abbrev S16384x50 : Shape := ⟨2, ![16384, 50]⟩
abbrev S100000x64 : Shape := ⟨2, ![100000, 64]⟩
abbrev S50000x64 : Shape := ⟨2, ![50000, 64]⟩
abbrev S20000x64 : Shape := ⟨2, ![20000, 64]⟩
abbrev S128x16 : Shape := ⟨2, ![128, 16]⟩
abbrev S16 : Shape := ⟨1, ![16]⟩
abbrev S16x1 : Shape := ⟨2, ![16, 1]⟩
abbrev S1 : Shape := ⟨1, ![1]⟩
abbrev S192x8 : Shape := ⟨2, ![192, 8]⟩
abbrev S8 : Shape := ⟨1, ![8]⟩
abbrev S8x1 : Shape := ⟨2, ![8, 1]⟩
abbrev S50 : Shape := ⟨1, ![50]⟩
abbrev S1x50 : Shape := ⟨2, ![1, 50]⟩
abbrev S16384x1 : Shape := ⟨2, ![16384, 1]⟩
abbrev S_ : Shape := ⟨0, ![]⟩
abbrev S16384x50x1 : Shape := ⟨3, ![16384, 50, 1]⟩
abbrev S16384x50x64 : Shape := ⟨3, ![16384, 50, 64]⟩
abbrev S16384x64 : Shape := ⟨2, ![16384, 64]⟩
abbrev S16384x1x64 : Shape := ⟨3, ![16384, 1, 64]⟩
abbrev S16384x50x128 : Shape := ⟨3, ![16384, 50, 128]⟩
abbrev S16384x50x16 : Shape := ⟨3, ![16384, 50, 16]⟩
abbrev S1x1x16 : Shape := ⟨3, ![1, 1, 16]⟩
abbrev S1x1x1 : Shape := ⟨3, ![1, 1, 1]⟩
abbrev S16384x192 : Shape := ⟨2, ![16384, 192]⟩
abbrev S16384x8 : Shape := ⟨2, ![16384, 8]⟩
abbrev S1x8 : Shape := ⟨2, ![1, 8]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x50, .i32⟩
  | .hbm, ⟨3, _⟩ => ⟨S16384, .i32⟩
  | .hbm, ⟨4, _⟩ => ⟨S100000x64, .f32⟩
  | .hbm, ⟨5, _⟩ => ⟨S50000x64, .f32⟩
  | .hbm, ⟨6, _⟩ => ⟨S20000x64, .f32⟩
  | .hbm, ⟨7, _⟩ => ⟨S128x16, .f32⟩
  | .hbm, ⟨8, _⟩ => ⟨S16, .f32⟩
  | .hbm, ⟨9, _⟩ => ⟨S16x1, .f32⟩
  | .hbm, ⟨10, _⟩ => ⟨S1, .f32⟩
  | .hbm, ⟨11, _⟩ => ⟨S192x8, .f32⟩
  | .hbm, ⟨12, _⟩ => ⟨S8, .f32⟩
  | .hbm, ⟨13, _⟩ => ⟨S8x1, .f32⟩
  | .hbm, ⟨14, _⟩ => ⟨S1, .f32⟩
  | .hbm, ⟨15, _⟩ => ⟨S50, .i32⟩
  | .hbm, ⟨16, _⟩ => ⟨S1x50, .i32⟩
  | .hbm, ⟨17, _⟩ => ⟨S16384x1, .i32⟩
  | .hbm, ⟨18, _⟩ => ⟨S16384x50, .i32⟩
  | .hbm, ⟨19, _⟩ => ⟨S16384x50, .i32⟩
  | .hbm, ⟨20, _⟩ => ⟨S16384x50, .i1⟩
  | .hbm, ⟨21, _⟩ => ⟨S_, .i32⟩
  | .hbm, ⟨22, _⟩ => ⟨S16384x50, .i32⟩
  | .hbm, ⟨23, _⟩ => ⟨S16384x50, .i1⟩
  | .hbm, ⟨24, _⟩ => ⟨S_, .i32⟩
  | .hbm, ⟨25, _⟩ => ⟨S16384x50, .i32⟩
  | .hbm, ⟨26, _⟩ => ⟨S16384x50, .i32⟩
  | .hbm, ⟨27, _⟩ => ⟨S16384x50, .i32⟩
  | .hbm, ⟨28, _⟩ => ⟨S16384x50x1, .i32⟩
  | .hbm, ⟨29, _⟩ => ⟨S16384x50x64, .f32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S16384x64, .f32⟩
  | .hbm, ⟨39, _⟩ => ⟨S16384x1x64, .f32⟩
  | .hbm, ⟨40, _⟩ => ⟨S16384x50x64, .f32⟩
  | .hbm, ⟨41, _⟩ => ⟨S16384x50x128, .f32⟩
  | .hbm, ⟨42, _⟩ => ⟨S16384x50x16, .f32⟩
  | .hbm, ⟨43, _⟩ => ⟨S1x1x16, .f32⟩
  | .hbm, ⟨44, _⟩ => ⟨S16384x50x16, .f32⟩
  | .hbm, ⟨45, _⟩ => ⟨S16384x50x16, .f32⟩
  | .hbm, ⟨46, _⟩ => ⟨S_, .f32⟩
  | .hbm, ⟨47, _⟩ => ⟨S16384x50x16, .f32⟩
  | .hbm, ⟨48, _⟩ => ⟨S16384x50x16, .f32⟩
  | .hbm, ⟨49, _⟩ => ⟨S16384x50x1, .f32⟩
  | .hbm, ⟨50, _⟩ => ⟨S1x1x1, .f32⟩
  | .hbm, ⟨51, _⟩ => ⟨S16384x50x1, .f32⟩
  | .hbm, ⟨52, _⟩ => ⟨S16384x50x1, .f32⟩
  | .hbm, ⟨53, _⟩ => ⟨S16384x50, .f32⟩
  | .hbm, ⟨54, _⟩ => ⟨S_, .f32⟩
  | .hbm, ⟨55, _⟩ => ⟨S_, .f32⟩
  | .hbm, ⟨56, _⟩ => ⟨S16384x50, .f32⟩
  | .hbm, ⟨57, _⟩ => ⟨S16384x50, .f32⟩
  | .hbm, ⟨58, _⟩ => ⟨S_, .f32⟩
  | .hbm, ⟨59, _⟩ => ⟨S16384, .f32⟩
  | .hbm, ⟨60, _⟩ => ⟨S_, .f32⟩
  | .hbm, ⟨61, _⟩ => ⟨S16384, .f32⟩
  | .hbm, ⟨62, _⟩ => ⟨S16384, .f32⟩
  | .hbm, ⟨63, _⟩ => ⟨S16384x1, .f32⟩
  | .hbm, ⟨64, _⟩ => ⟨S16384x50, .f32⟩
  | .hbm, ⟨65, _⟩ => ⟨S16384x50, .f32⟩
  | .hbm, ⟨66, _⟩ => ⟨S16384x50, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S16384x50, .f32⟩
  | .hbm, ⟨71, _⟩ => ⟨S16384x50, .f32⟩
  | .hbm, ⟨72, _⟩ => ⟨S16384x64, .f32⟩
  | .hbm, ⟨73, _⟩ => ⟨S_, .i32⟩
  | .hbm, ⟨74, _⟩ => ⟨S16384, .i32⟩
  | .hbm, ⟨75, _⟩ => ⟨S16384, .i1⟩
  | .hbm, ⟨76, _⟩ => ⟨S_, .i32⟩
  | .hbm, ⟨77, _⟩ => ⟨S16384, .i32⟩
  | .hbm, ⟨78, _⟩ => ⟨S16384, .i32⟩
  | .hbm, ⟨79, _⟩ => ⟨S16384, .i32⟩
  | .hbm, ⟨80, _⟩ => ⟨S16384x1, .i32⟩
  | .hbm, ⟨81, _⟩ => ⟨S16384x64, .f32⟩
  | .hbm, ⟨82, _⟩ => ⟨S16384x64, .f32⟩
  | .hbm, ⟨83, _⟩ => ⟨S16384x64, .f32⟩
  | .hbm, ⟨84, _⟩ => ⟨S16384x192, .f32⟩
  | .hbm, ⟨85, _⟩ => ⟨S16384x8, .f32⟩
  | .hbm, ⟨86, _⟩ => ⟨S1x8, .f32⟩
  | .hbm, ⟨87, _⟩ => ⟨S16384x8, .f32⟩
  | .hbm, ⟨88, _⟩ => ⟨S16384x8, .f32⟩
  | .hbm, ⟨89, _⟩ => ⟨S_, .f32⟩
  | .hbm, ⟨90, _⟩ => ⟨S16384x8, .f32⟩
  | .hbm, ⟨91, _⟩ => ⟨S16384x8, .f32⟩
  | .hbm, ⟨92, _⟩ => ⟨S16384x1, .f32⟩
  | .hbm, ⟨93, _⟩ => ⟨S1x1, .f32⟩
  | .hbm, ⟨94, _⟩ => ⟨S16384x1, .f32⟩
  | .hbm, ⟨95, _⟩ => ⟨S16384x1, .f32⟩
  | .hbm, ⟨96, _⟩ => ⟨S16384x1, .f32⟩
  | .hbm, ⟨97, _⟩ => ⟨S16384x1, .f32⟩
  | .hbm, ⟨98, _⟩ => ⟨S_, .f32⟩
  | .hbm, ⟨99, _⟩ => ⟨S16384x1, .f32⟩
  | .hbm, ⟨100, _⟩ => ⟨S16384x1, .f32⟩
  | .hbm, ⟨101, _⟩ => ⟨S_, .f32⟩
  | .hbm, ⟨102, _⟩ => ⟨S16384x1, .f32⟩
  | .hbm, ⟨103, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst : Ref sig .tc := ⟨.hbm, 54, rfl⟩
abbrev main_call1_v0 : Ref sig .tc := ⟨.hbm, 55, rfl⟩
abbrev main_call1_v1 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_6 : Ref sig .tc := ⟨.hbm, 73, rfl⟩
abbrev main_v46 : Ref sig .tc := ⟨.hbm, 74, rfl⟩
abbrev main_v47 : Ref sig .tc := ⟨.hbm, 75, rfl⟩
abbrev main_c_7 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_call2_cst : Ref sig .tc := ⟨.hbm, 89, rfl⟩
abbrev main_call2_v0 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_8 : Ref sig .tc := ⟨.hbm, 98, rfl⟩
abbrev main_v67 : Ref sig .tc := ⟨.hbm, 99, rfl⟩
abbrev main_v68 : Ref sig .tc := ⟨.hbm, 100, rfl⟩
abbrev main_cst_9 : Ref sig .tc := ⟨.hbm, 101, rfl⟩
abbrev main_v69 : Ref sig .tc := ⟨.hbm, 102, rfl⟩
abbrev main_v70 : Ref sig .tc := ⟨.hbm, 103, rfl⟩

abbrev nD : Nat := 1
abbrev τ : Topo := Topo.v7x

variable {F : FTy → Type} [FloatOps F]
-- ==== Proof.Overlay.lean ====
/-
  A buffer of rows overwritten from the top: `ov T n D` has the rows of the target `T` below row `n` and the old
  rows of `D` from `n` on.  One store of a whole row at row `n` takes `ov T n D` to `ov T (n + 1) D`.
-/
module

public import Idealize.ShloMosaic.Lib.WritesUnit
public import Idealize.ShloMosaic.Lib.Tactic

@[expose] public section

namespace Cert.P

open Idealize.ShloMosaic

variable {α : Type} {R W : ℕ}

/-- Rows below `n` from `T`, the others from `D`. -/
def ov (T : ℕ → ℕ → α) (n : ℕ) (D : (⟨2, ![R, W]⟩ : Shape).Idx → α) : (⟨2, ![R, W]⟩ : Shape).Idx → α :=
  fun y => if (y 0).val < n then T (y 0).val (y 1).val else D y

theorem ov_zero (T : ℕ → ℕ → α) (D : (⟨2, ![R, W]⟩ : Shape).Idx → α) : ov T 0 D = D := by
  funext y; simp [ov]

variable {sig : RefSig} {κ : Kind} {sp : Space} {e : EltTy} {Val : EltTy → Type}

/-- One more row stored at row `n`. -/
theorem ov_step (v : View sig κ sp (⟨2, ![R, W]⟩ : Shape) e) (f : v.ty.Contents Val) {off size : Fin 2 → ℕ}
    (inb : ∀ a : Fin 2, off a + size a ≤ ![R, W] a)
    (w : (Rect.unit (s := ⟨2, ![R, W]⟩) off size inb).shape.Idx → Val e)
    (L : List (View.Piece Val (⟨2, ![R, W]⟩ : Shape) e)) (T : ℕ → ℕ → Val e) (n : ℕ)
    (D : (⟨2, ![R, W]⟩ : Shape).Idx → Val e) (hs : size = ![1, W])
    (hoff : off = ![n, 0]) (hw : ∀ x, w x = T n (x (1 : Fin 2)).val)
    (hL : v.read Val (v.writes Val f L) = ov T n D) :
    v.read Val (v.writes Val f ((⟨Rect.unit (s := ⟨2, ![R, W]⟩) off size inb, w⟩ :
      View.Piece Val (⟨2, ![R, W]⟩ : Shape) e) :: L)) = ov T (n + 1) D := by
  funext y
  rw [View.read_writes_cons_rows v f inb w L y hoff (W := 1) (by rw [hs]; rfl) (by rw [hs]; rfl)]
  split
  · rename_i h
    rw [hw]
    have h1 : (y (0 : Fin 2)).val = n := by omega
    have h2 : (y (0 : Fin 2)).val < n + 1 := by omega
    unfold ov
    rw [if_pos h2, h1]
    congr 1
  · rename_i h
    rw [hL]
    unfold ov
    by_cases h3 : (y (0 : Fin 2)).val < n
    · rw [if_pos h3, if_pos (by omega)]
    · rw [if_neg h3, if_neg (by omega)]

end Cert.P
-- ==== Proof.Checks.lean ====
/-
  The loop over the slabs: for a slab count between 0 and 50 the first printed loop runs that many trips, its
  remainder copy none, and every row number either computes lies inside its buffer.
-/
module

public import proofs.«01_k».proof.Proof.Gen.KernelIdeal.Skeleton
public import Idealize.ShloMosaic.Lib.Affine
public import Idealize.ShloMosaic.Lib.WordArith

@[expose] public section

set_option maxRecDepth 16384

namespace Cert.PIdeal

open Cert.KernelIdeal Cert.KernelIdeal.Gen
open Idealize.ShloMosaic

/-- The first loop: it has a meaning and runs as many trips as the word says. -/
theorem t1_trips (n : BitVec 32) (h0 : 0 ≤ n.toInt) (h : n.toInt ≤ 50) :
    (k0_t1_loop n).OK ∧ (k0_t1_loop n).trips ≤ 50 := by
  have h_c0 : Affine.IsInt 0#32 (0) := Affine.ofNat _ (by omega)
  have h_c1 : Affine.IsInt 1#32 (1) := Affine.ofNat _ (by omega)
  have h_n : Affine.IsInt n n.toInt := Affine.word n
  have h1 : Affine.IsInt _ n.toInt := Affine.subi h_n h_c0 (by omega)
  have h2 : Affine.IsInt _ n.toInt := Affine.divsi_one h1 h_c1 (by omega)
  have h3 : Affine.IsInt _ n.toInt := Affine.muli h2 h_c1 (by omega)
  have h4 : Affine.IsInt _ n.toInt := Affine.addi h_c0 h3 (by omega)
  exact ⟨Affine.ok h_c0 h4 h_c1 (by omega), Affine.trips_le h_c0 h4 h_c1 _ (by omega)⟩

/-- The remainder copy runs no trip. -/
theorem t2_trips (n : BitVec 32) (h0 : 0 ≤ n.toInt) (h : n.toInt ≤ 50) :
    (k0_t2_loop n).OK ∧ (k0_t2_loop n).trips = 0 := by
  have h_c0 : Affine.IsInt 0#32 (0) := Affine.ofNat _ (by omega)
  have h_c1 : Affine.IsInt 1#32 (1) := Affine.ofNat _ (by omega)
  have h_n : Affine.IsInt n n.toInt := Affine.word n
  have h1 : Affine.IsInt _ n.toInt := Affine.subi h_n h_c0 (by omega)
  have h2 : Affine.IsInt _ n.toInt := Affine.divsi_one h1 h_c1 (by omega)
  have h3 : Affine.IsInt _ n.toInt := Affine.muli h2 h_c1 (by omega)
  have h4 : Affine.IsInt _ n.toInt := Affine.addi h_c0 h3 (by omega)
  have h5 : Affine.IsInt _ n.toInt := Affine.addi h_c0 h1 (by omega)
  exact ⟨Affine.ok h4 h5 h_c1 (by omega), Affine.trips_eq h4 h5 h_c1 _ (by omega)⟩

/-- The first loop's trip count as a number. -/
theorem t1_trips_eq (n : BitVec 32) (h0 : 0 ≤ n.toInt) (h : n.toInt ≤ 50) :
    (k0_t1_loop n).trips = n.toInt.toNat := by
  have h_c0 : Affine.IsInt 0#32 (0) := Affine.ofNat _ (by omega)
  have h_c1 : Affine.IsInt 1#32 (1) := Affine.ofNat _ (by omega)
  have h_n : Affine.IsInt n n.toInt := Affine.word n
  have h1 : Affine.IsInt _ n.toInt := Affine.subi h_n h_c0 (by omega)
  have h2 : Affine.IsInt _ n.toInt := Affine.divsi_one h1 h_c1 (by omega)
  have h3 : Affine.IsInt _ n.toInt := Affine.muli h2 h_c1 (by omega)
  have h4 : Affine.IsInt _ n.toInt := Affine.addi h_c0 h3 (by omega)
  exact Affine.trips_eq h_c0 h4 h_c1 _ (by omega)

/-- Row `c` of slab `n`, as the loop computes its number. -/
theorem row_word (n c : ℕ) (hn : n < 50) (hc : c < 128) :
    (Scalar.indexCast (Scalar.addi (Scalar.muli (Scf.iv 0#32 1#32 n) 128#32) (BitVec.ofNat 32 c)) : Index).toNat
      = 128 * n + c := by
  show (BitVec.toNat ((0#32 + BitVec.ofNat 32 n * 1#32) * 128#32 + BitVec.ofNat 32 c)) = _
  simp only [BitVec.toNat_add, BitVec.toNat_mul, BitVec.toNat_ofNat]
  omega

/-- One word of the indices, at row `c` of slab `n`. -/
theorem inb_word (n c : ℕ) (hn : n < 50) (hc : c < 128) : ∀ a, (![(Scalar.indexCast (Scalar.addi (Scalar.muli
    (Scf.iv 0#32 1#32 n) 128#32) (BitVec.ofNat 32 c)) : Index).toNat] : Fin 1 → ℕ) a + S1.size a ≤ S6400.size a := by
  rw [row_word n c hn hc]
  intro a
  match a with
  | ⟨0, _⟩ => show 128 * n + c + 1 ≤ 6400; omega

/-- One row of the buffer of member rows, at row `c` of slab `n`. -/
theorem inb_row (n c : ℕ) (hn : n < 50) (hc : c < 128) : ∀ a, (![(Scalar.indexCast (Scalar.addi (Scalar.muli
    (Scf.iv 0#32 1#32 n) 128#32) (BitVec.ofNat 32 c)) : Index).toNat, 0] : Fin 2 → ℕ) a + S1x128.size a
      ≤ S6400x128.size a := by
  rw [row_word n c hn hc]
  intro a
  match a with
  | ⟨0, _⟩ => show 128 * n + c + 1 ≤ 6400; omega
  | ⟨1, _⟩ => show 0 + 128 ≤ 128; omega

/-- The first row of a slab is a multiple of 128. -/
theorem slab_dvd (n : ℕ) (hn : n < 50) : 128 ∣ (Scalar.muli (Scf.iv 0#32 1#32 n) 128#32 : BitVec 32).toNat := by
  show 128 ∣ BitVec.toNat ((0#32 + BitVec.ofNat 32 n * 1#32) * 128#32)
  simp only [BitVec.toNat_add, BitVec.toNat_mul, BitVec.toNat_ofNat]
  omega

set_option maxHeartbeats 4000000 in
/-- Everything the body assumes of the slab count. -/
theorem chk257 (n : BitVec 32) (h0 : 0 ≤ n.toInt) (h : n.toInt ≤ 50) : k0_chk257 n := by
  have a1 := t1_trips n h0 h
  have a2 := t2_trips n h0 h
  have hk : ∀ k : Fin (k0_t1_loop n).trips, k.val < 50 := fun k => lt_of_lt_of_le k.isLt a1.2
  have hz : ∀ {P : Fin (k0_t2_loop n).trips → Prop}, ∀ k, P k := fun k => absurd k.isLt (by omega)
  unfold k0_chk257 k0_chk257_0 k0_chk257_1 k0_chk257_2 k0_chk257_3 k0_chk257_4 k0_chk257_5 k0_chk257_6 k0_chk257_7
    k0_chk257_8 k0_chk257_9 k0_chk257_10 k0_chk257_11 k0_chk257_12 k0_chk257_13 k0_chk257_14 k0_chk257_15 k0_chk257_16
  have hrest : ∀ {A B C D G H I J K : Prop}, B → C → D → G → H → I → J → K → A → (A ∧ B ∧ C ∧ D ∧ G ∧ H ∧ I ∧ J ∧ K) :=
    fun b c d g h i j k a => ⟨a, b, c, d, g, h, i, j, k⟩
  refine ⟨⟨a1.1, fun k => slab_dvd k.val (hk k), ?_⟩, ?_, ?_, ?_, ?_, ?_, ?_, ?_, hrest ?_ ?_ ?_ ?_ ?_ ?_ ?_ ?_ ⟨?_, ?_, a2.1, ?_⟩⟩
  iterate 8
    on_goal 1 =>
      repeat' apply And.intro
      all_goals first
        | exact fun k => inb_row k.val _ (hk k) (by decide)
        | exact fun k => inb_word k.val _ (hk k) (by decide)
  iterate 8
    on_goal 1 =>
      repeat' apply And.intro
      all_goals exact hz
  · exact fun k => inb_word k.val _ (hk k) (by decide)
  · exact fun k => inb_row k.val _ (hk k) (by decide)
  · repeat' apply And.intro
    all_goals exact hz

end Cert.PIdeal
-- ==== Proof.Gather.lean ====
/-
  Gathering table rows: a row of a table read at a row number that an index buffer holds.
-/
module

public import Idealize.ShloMosaic.Lib.WritesUnit
public import Idealize.ShloMosaic.Lib.Pointwise.Index
public import Idealize.ShloMosaic.Lib.Pipeline.Value
public import Idealize.ShloMosaic.Lib.Tactic

@[expose] public section

namespace Cert.P

open Idealize.ShloMosaic

/-- Entry `l` of the table row that word `r` of the indices names. -/
def gath {α : Type} {N : ℕ} [NeZero N] (X : (⟨3, ![N, 1, 128]⟩ : Shape).Idx → α)
    (ids : ℕ → BitVec 32) (r l : ℕ) : α :=
  X (ix3 (Fin.ofNat N (ids r).toNat) (0 : Fin 1) (Fin.ofNat 128 l))

variable {sig : RefSig} {κ κ' : Kind} {sp sp' : Space} {e : EltTy} {Val : EltTy → Type}

/-- A row loaded from the table at the row number a loaded word names, cast to a row vector: the gathered row. -/
theorem pay_row {N : ℕ} [NeZero N] (v : View sig κ sp (⟨3, ![N, 1, 128]⟩ : Shape) e) (X : v.ty.Contents Val)
    (ids : ℕ → BitVec 32) {off : Fin 3 → ℕ} (n : ℕ)
    (inb : ∀ a : Fin 3, off a + (![1, 1, 128] : Fin 3 → ℕ) a ≤ ![N, 1, 128] a)
    (hoff : off = ![(ids n).toNat, 0, 0])
    (h1 : (⟨3, ![1, 1, 128]⟩ : Shape).ShapeCasts (⟨2, ![1, 128]⟩ : Shape))
    (h2 : (⟨2, ![1, 128]⟩ : Shape).ShapeCasts (⟨2, ![1, 128]⟩ : Shape)) (x : (⟨2, ![1, 128]⟩ : Shape).Idx) :
    shapeCast (⟨2, ![1, 128]⟩ : Shape) (shapeCast (⟨2, ![1, 128]⟩ : Shape)
      (v.readAt Val (Rect.unit (s := ⟨3, ![N, 1, 128]⟩) off (![1, 1, 128] : Fin 3 → ℕ) inb).toLoadRect X) h1) h2 x
      = gath (v.read Val X) ids n (x (1 : Fin 2)).val := by
  rw [shapeCast_self]
  have h0 : (x (0 : Fin 2)).val = 0 := by
    have : (x (0 : Fin 2)).val < 1 := (x (0 : Fin 2)).isLt
    omega
  have hl : (x (1 : Fin 2)).val < 128 := (x (1 : Fin 2)).isLt
  have hx := shapeCast_dropUnit_apply (n := 2) ![1, 128]
    (v.readAt Val (Rect.unit (s := ⟨3, ![N, 1, 128]⟩) off (![1, 1, 128] : Fin 3 → ℕ) inb).toLoadRect X) h1 x
  rw [hx, View.readAt_apply]
  unfold gath
  congr 1
  have hb := inb (0 : Fin 3)
  rw [hoff] at hb
  have hb' : (ids n).toNat + 1 ≤ N := hb
  subst hoff
  funext a
  apply Fin.ext
  match a with
  | ⟨0, _⟩ =>
    show (ids n).toNat + 1 * 0 = (ids n).toNat % N
    rw [Nat.mod_eq_of_lt (by omega)]; omega
  | ⟨1, _⟩ =>
    show 0 + 1 * (x (0 : Fin 2)).val = 0
    omega
  | ⟨2, _⟩ =>
    show 0 + 1 * (x (1 : Fin 2)).val = (x (1 : Fin 2)).val % 128
    rw [Nat.mod_eq_of_lt hl]; omega

/-- A buffer written whole reads what was written. -/
theorem read_whole {s : Shape} (v : View sig κ sp s e) (f : v.ty.Contents Val) (w : (Rect.whole s).shape.Idx → Val e) :
    v.read Val (v.writes Val f [⟨Rect.whole s, w⟩]) = w := by
  funext y
  have h := View.read_writes_cons_emb (v := v) (f := f) (Rect.whole s) w [] y
  rwa [Rect.emb_whole_apply] at h

/-- One loaded word, at its place in the index buffer. -/
theorem word_at {M : ℕ} [NeZero M] (v : View sig κ sp (⟨1, ![M]⟩ : Shape) e) (W : v.ty.Contents Val) {off : Fin 1 → ℕ} (n : ℕ)
    (inb : ∀ a : Fin 1, off a + (![1] : Fin 1 → ℕ) a ≤ ![M] a) (hoff : off = ![n])
    (x : (⟨1, ![1]⟩ : Shape).Idx) :
    v.readAt Val (Rect.unit (s := ⟨1, ![M]⟩) off (![1] : Fin 1 → ℕ) inb).toLoadRect W x
      = v.read Val W (ix1 (Fin.ofNat M n)) := by
  rw [View.readAt_apply]
  congr 1
  have hb := inb (0 : Fin 1)
  rw [hoff] at hb
  have hb' : n + 1 ≤ M := hb
  subst hoff
  funext a
  apply Fin.ext
  match a with
  | ⟨0, _⟩ =>
    have h0 : (x (0 : Fin 1)).val = 0 := by
      have : (x (0 : Fin 1)).val < 1 := (x (0 : Fin 1)).isLt
      omega
    show n + 1 * (x (0 : Fin 1)).val = n % M
    rw [Nat.mod_eq_of_lt (by omega)]; omega

end Cert.P
-- ==== Proof.Trip.lean ====
/- One trip of the slab loop. -/
module

public import proofs.«01_k».proof.Proof.Gen.KernelIdeal.Loops
public import proofs.«01_k».proof.Proof.Overlay
public import proofs.«01_k».proof.Proof.Checks
public import proofs.«01_k».proof.Proof.Gather
public import Idealize.ShloMosaic.Lib.Pipeline.FrameBody
public import Idealize.ShloMosaic.Lib.Ring
public import Idealize.ShloMosaic.Lib.Tactic

@[expose] public section

set_option maxRecDepth 16384

noncomputable section

namespace Cert.PIdeal

open Cert.P
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (c : Dev nD)
  (i : grid0.Coords) (arg1 : Memref sig .tc .vmem S1x1x6400 .i32) (harg1 : arg1.IsWhole)
  (arg2 : Memref sig .tc .vmem S1x1x264 .i32) (harg2 : arg2.IsWhole)
  (arg3 : Memref sig .tc .vmem S1x128x1 .i32) (harg3 : arg3.IsWhole)
  (arg4 : Memref sig .tc .vmem S1x128x128 .f32) (harg4 : arg4.IsWhole)
  (arg5 : Memref sig .tc .vmem S1x128x128 .f32) (harg5 : arg5.IsWhole)
  (arg6 : Memref sig .tc .vmem S50000x1x128 .f32) (harg6 : arg6.IsWhole)
  (arg7 : Memref sig .tc .vmem S25000x1x128 .f32) (harg7 : arg7.IsWhole)
  (arg8 : Memref sig .tc .vmem S10000x1x128 .f32) (harg8 : arg8.IsWhole)
  (arg9 : Memref sig .tc .vmem S128x32 .f32) (harg9 : arg9.IsWhole)
  (arg10 : Memref sig .tc .vmem S128x32 .f32) (harg10 : arg10.IsWhole)
  (arg11 : Memref sig .tc .vmem S1x16 .f32) (harg11 : arg11.IsWhole)
  (arg12 : Memref sig .tc .vmem S800x128 .f32) (harg12 : arg12.IsWhole)
  (arg13 : Memref sig .tc .vmem S256x6400 .bf16) (harg13 : arg13.IsWhole)
  (arg14 : Memref sig .tc .vmem S16x800 .f32) (harg14 : arg14.IsWhole)
  (arg15 : Memref sig .tc .vmem S192x128 .f32) (harg15 : arg15.IsWhole)
  (arg16 : Memref sig .tc .vmem S1x128 .f32) (harg16 : arg16.IsWhole)
  (arg17 : Memref sig .tc .vmem S128x128 .f32) (harg17 : arg17.IsWhole)
  (arg18 : Memref sig .tc .vmem S1x128 .f32) (harg18 : arg18.IsWhole)
  (arg19 : Memref sig .tc .vmem S1x128x1 .f32) (harg19 : arg19.IsWhole)
  (arg20 : Memref sig .tc .vmem S6400x128 .f32) (harg20 : arg20.IsWhole)
  (arg21 : Memref sig .tc .vmem S6400x32 .f32) (harg21 : arg21.IsWhole)
  (arg22 : Memref sig .tc .vmem S128x800 .f32) (harg22 : arg22.IsWhole)
  (arg23 : Memref sig .tc .vmem S128x800 .f32) (harg23 : arg23.IsWhole)
  (arg24 : Memref sig .tc .vmem S128x128 .f32) (harg24 : arg24.IsWhole)
  (arg25 : Memref sig .tc .vmem S128x128 .f32) (harg25 : arg25.IsWhole)
  (arg26 : Memref sig .tc .vmem S128x256 .f32) (harg26 : arg26.IsWhole)
  (arg27 : Memref sig .tc .vmem S128x6400 .f32) (harg27 : arg27.IsWhole)
  (arg28 : Memref sig .tc .vmem S128x800 .f32) (harg28 : arg28.IsWhole)
  (arg29 : Memref sig .tc .smem S6400 .i32) (harg29 : arg29.IsWhole) (arg30 : Memref sig .tc .smem S264 .i32)
  (harg30 : arg30.IsWhole)

/-- The words of a one-dimensional buffer, by number. -/
def wordsOf {n : ℕ} [NeZero n] (W : (⟨1, ![n]⟩ : Shape).Idx → BitVec 32) (r : ℕ) : BitVec 32 := W (ix1 (Fin.ofNat n r))

/-- Before trip `k`: the indices and the table as they are, the first `128 k` member rows gathered. -/
def tripInv (W : S6400.Idx → Elt F .i32) (X : S50000x1x128.Idx → Elt F .f32)
    (D : S6400x128.Idx → Elt F .f32) (k : ℕ) : sProp 𝕄 :=
  iprop(owns (c : Thread nD τ) arg29 fullShare W ∗ owns (c : Thread nD τ) arg6 fullShare X
    ∗ owns (c : Thread nD τ) arg20 fullShare (ov (gath (N := 50000) X (wordsOf (n := 6400) W)) (128 * k) D))

/-- A member row number is inside the table. -/
theorem chk_user (w : BitVec 32) (h : w.toNat < 50000) :
    ∀ a, (![w.toNat, 0, 0] : Fin 3 → ℕ) a + S1x1x128.size a ≤ S50000x1x128.size a := by
  intro a
  match a with
  | ⟨0, _⟩ => show w.toNat + 1 ≤ 50000; omega
  | ⟨1, _⟩ => show 0 + 1 ≤ 1; omega
  | ⟨2, _⟩ => show 0 + 128 ≤ 128; omega

/-- The row a trip stores its `c`-th gathered row at. -/
theorem row_off (n c : ℕ) (hn : n < 50) (hc : c < 128) : (![(Scalar.indexCast (Scalar.addi (Scalar.muli
    (Scf.iv 0#32 1#32 n) 128#32) (BitVec.ofNat 32 c)) : Index).toNat, 0] : Fin 2 → ℕ) = ![128 * n + c, 0] := by
  rw [row_word n c hn hc]

/-- The word a trip reads its `c`-th row number from. -/
theorem word_off (n c : ℕ) (hn : n < 50) (hc : c < 128) : (![(Scalar.indexCast (Scalar.addi (Scalar.muli
    (Scf.iv 0#32 1#32 n) 128#32) (BitVec.ofNat 32 c)) : Index).toNat] : Fin 1 → ℕ) = ![128 * n + c] := by
  rw [row_word n c hn hc]

set_option maxHeartbeats 40000000 in
/-- One trip gathers the next 128 rows. -/
theorem trip (v1795 : FVec F S1x128 .f32) (v1803 : Elt F .i32) (hw : k0_chk257 v1803)
    (W : S6400.Idx → Elt F .i32) (X : S50000x1x128.Idx → Elt F .f32) (D : S6400x128.Idx → Elt F .f32)
    (hW : ∀ i, (W i : BitVec 32).toNat < 50000)
    (hv : (k0_t1_loop v1803).trips ≤ 50) (k : Fin (k0_t1_loop v1803).trips) (acc : Unit) :
    tripInv c arg6 arg20 arg29 W X D k.val
      ⊢ wp frame (wpE defs₀ Variants.none (c : Thread nD τ) none) Set.univ
        (k0_t1_body (F := F)
    i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 arg27 harg27 arg28 harg28 arg29 harg29 arg30 harg30 cc0_scratch11 cc0_scratch12 v1795 v1803 hw k acc)
        (fun _ => tripInv c arg6 arg20 arg29 W X D (k.val + 1)) := by
  unfold tripInv owns
  iintro ⟨⟨%fW, %hfW, HW⟩, ⟨%fX, %hfX, HX⟩, %f, %hf, Hf⟩
  have hr : ∀ (r : LoadRect S6400) i, (View.readAt (Elt F) arg29.view r fW i : BitVec 32).toNat < 50000 := by
    intro r i
    rw [View.readAt_apply, hfW]
    exact hW _
  unfold k0_t1_body
  sl_exec (disch := exact chk_user _ (hr _ _))
  sl_step
  isplitl [HW]
  · iexists _
    isplitr
    · ipureintro; exact hfW
    iexact HW
  isplitl [HX]
  · iexists _
    isplitr
    · ipureintro; exact hfX
    iexact HX
  iexists _
  isplitr
  swap
  · iexact Hf
  ipureintro
  have hk : k.val < 50 := lt_of_lt_of_le k.isLt hv
  rw [show 128 * (k.val + 1) = 128 * k.val + 127 + 1 by omega]
  rw [← hfX, ← hfW] at hf ⊢
  iterate 128
    refine ov_step _ _ _ _ _ _ _ _ rfl (row_off k.val _ hk (by decide))
      (fun x => pay_row (N := 50000) _ _ _ _ _ (congrArg (fun w : BitVec 32 => (![w.toNat, 0, 0] : Fin 3 → ℕ))
        (word_at (M := 6400) _ _ _ _ (word_off k.val _ hk (by decide)) _)) _ _ x) ?_
  exact hf

end Cert.PIdeal

end
-- ==== Proof.Words.lean ====
/-
  The words a grid point reads row numbers from, and what they are below.
-/
module

public import proofs.«01_k».proof.Proof.Gen.KernelIdeal.Loops
public import proofs.«01_k».proof.Proof.Overlay
public import Idealize.ShloMosaic.Lib.VecWindow
public import proofs.«01_k».proof.Proof.Trip
public import proofs.«01_k».proof.Proof.Gather
public import Idealize.ShloMosaic.Lib.Pipeline.FrameBody
public import Idealize.ShloMosaic.Lib.Ring
public import Idealize.ShloMosaic.Lib.Tactic

@[expose] public section

set_option maxRecDepth 16384

noncomputable section

namespace Cert.PIdeal

open Cert.P
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- An item row number is inside the table. -/
theorem chk_item (w : BitVec 32) (h : w.toNat < 25000) :
    ∀ a, (![w.toNat, 0, 0] : Fin 3 → ℕ) a + S1x1x128.size a ≤ S25000x1x128.size a := by
  intro a
  match a with
  | ⟨0, _⟩ => show w.toNat + 1 ≤ 25000; omega
  | ⟨1, _⟩ => show 0 + 1 ≤ 1; omega
  | ⟨2, _⟩ => show 0 + 128 ≤ 128; omega

/-- A group row number is inside the table. -/
theorem chk_group (w : BitVec 32) (h : w.toNat < 10000) :
    ∀ a, (![w.toNat, 0, 0] : Fin 3 → ℕ) a + S1x1x128.size a ≤ S10000x1x128.size a := by
  intro a
  match a with
  | ⟨0, _⟩ => show w.toNat + 1 ≤ 10000; omega
  | ⟨1, _⟩ => show 0 + 1 ≤ 1; omega
  | ⟨2, _⟩ => show 0 + 128 ≤ 128; omega

/-- The condition that clears the buffer of member rows holds at the first point only. -/
theorem point_zero (i : grid0.Coords) :
    Scalar.cmpi .ne (Scalar.extui (Scalar.cmpi .eq (BitVec.ofNat 32 (i 0).val) 0#32) : BitVec 32) 0#32 = 1#1
      ↔ (i 0).val = 0 := by
  have h : (i 0).val < 128 := (i 0).isLt
  revert h
  generalize (i 0).val = n
  revert n
  decide

/-- The item and group row numbers and the slab count of a grid point: the words of its second input. -/
def auxWords (W2 : S1x1x264.Idx → Elt F .i32) : ℕ → BitVec 32 :=
  wordsOf (n := 264) (shapeCast S264 W2 (by decide))

/-- What the loaded words are below. -/
structure AuxOK (A : ℕ → BitVec 32) : Prop where
  item : ∀ n < 128, (A n).toNat < 25000
  group : ∀ n < 128, (A (n + 128)).toNat < 10000

end Cert.PIdeal

end
-- ==== Proof.Prefix.lean ====
/- The start of the body. -/
module

public import proofs.«01_k».proof.Proof.Gen.KernelIdeal.Loops
public import proofs.«01_k».proof.Proof.Overlay
public import Idealize.ShloMosaic.Lib.VecWindow
public import proofs.«01_k».proof.Proof.Words
public import proofs.«01_k».proof.Proof.Gather
public import Idealize.ShloMosaic.Lib.Pipeline.FrameBody
public import Idealize.ShloMosaic.Lib.Ring
public import Idealize.ShloMosaic.Lib.Tactic

@[expose] public section

set_option maxRecDepth 16384

noncomputable section

namespace Cert.PIdeal

open Cert.P
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (c : Dev nD)
  (i : grid0.Coords) (arg1 : Memref sig .tc .vmem S1x1x6400 .i32) (harg1 : arg1.IsWhole)
  (arg2 : Memref sig .tc .vmem S1x1x264 .i32) (harg2 : arg2.IsWhole)
  (arg3 : Memref sig .tc .vmem S1x128x1 .i32) (harg3 : arg3.IsWhole)
  (arg4 : Memref sig .tc .vmem S1x128x128 .f32) (harg4 : arg4.IsWhole)
  (arg5 : Memref sig .tc .vmem S1x128x128 .f32) (harg5 : arg5.IsWhole)
  (arg6 : Memref sig .tc .vmem S50000x1x128 .f32) (harg6 : arg6.IsWhole)
  (arg7 : Memref sig .tc .vmem S25000x1x128 .f32) (harg7 : arg7.IsWhole)
  (arg8 : Memref sig .tc .vmem S10000x1x128 .f32) (harg8 : arg8.IsWhole)
  (arg9 : Memref sig .tc .vmem S128x32 .f32) (harg9 : arg9.IsWhole)
  (arg10 : Memref sig .tc .vmem S128x32 .f32) (harg10 : arg10.IsWhole)
  (arg11 : Memref sig .tc .vmem S1x16 .f32) (harg11 : arg11.IsWhole)
  (arg12 : Memref sig .tc .vmem S800x128 .f32) (harg12 : arg12.IsWhole)
  (arg13 : Memref sig .tc .vmem S256x6400 .bf16) (harg13 : arg13.IsWhole)
  (arg14 : Memref sig .tc .vmem S16x800 .f32) (harg14 : arg14.IsWhole)
  (arg15 : Memref sig .tc .vmem S192x128 .f32) (harg15 : arg15.IsWhole)
  (arg16 : Memref sig .tc .vmem S1x128 .f32) (harg16 : arg16.IsWhole)
  (arg17 : Memref sig .tc .vmem S128x128 .f32) (harg17 : arg17.IsWhole)
  (arg18 : Memref sig .tc .vmem S1x128 .f32) (harg18 : arg18.IsWhole)
  (arg19 : Memref sig .tc .vmem S1x128x1 .f32) (harg19 : arg19.IsWhole)
  (arg20 : Memref sig .tc .vmem S6400x128 .f32) (harg20 : arg20.IsWhole)
  (arg21 : Memref sig .tc .vmem S6400x32 .f32) (harg21 : arg21.IsWhole)
  (arg22 : Memref sig .tc .vmem S128x800 .f32) (harg22 : arg22.IsWhole)
  (arg23 : Memref sig .tc .vmem S128x800 .f32) (harg23 : arg23.IsWhole)
  (arg24 : Memref sig .tc .vmem S128x128 .f32) (harg24 : arg24.IsWhole)
  (arg25 : Memref sig .tc .vmem S128x128 .f32) (harg25 : arg25.IsWhole)
  (arg26 : Memref sig .tc .vmem S128x256 .f32) (harg26 : arg26.IsWhole)
  (arg27 : Memref sig .tc .vmem S128x6400 .f32) (harg27 : arg27.IsWhole)
  (arg28 : Memref sig .tc .vmem S128x800 .f32) (harg28 : arg28.IsWhole)
  (arg29 : Memref sig .tc .smem S6400 .i32) (harg29 : arg29.IsWhole) (arg30 : Memref sig .tc .smem S264 .i32)
  (harg30 : arg30.IsWhole)

set_option maxHeartbeats 40000000 in
/-- The two transfers, the buffer of member rows cleared at the first point, the item and group rows gathered (all but the
    last item row stored, and all but the last group row). -/
theorem prefix_run (W1 : S1x1x6400.Idx → Elt F .i32) (W2 : S1x1x264.Idx → Elt F .i32)
    (X7 : S25000x1x128.Idx → Elt F .f32) (X8 : S10000x1x128.Idx → Elt F .f32) (D : S6400x128.Idx → Elt F .f32)
    (hA : AuxOK (auxWords W2)) (W : Waits sig Unit) :
    (iprop(owns (c : Thread nD τ) arg1 fullShare W1 ∗ owns (c : Thread nD τ) arg2 fullShare W2
        ∗ owns (c : Thread nD τ) arg7 fullShare X7 ∗ owns (c : Thread nD τ) arg8 fullShare X8
        ∗ owns (c : Thread nD τ) arg20 fullShare D
        ∗ (∃ d, owns (c : Thread nD τ) arg24 fullShare d) ∗ (∃ d, owns (c : Thread nD τ) arg25 fullShare d)
        ∗ (∃ d, owns (c : Thread nD τ) arg29 fullShare d) ∗ (∃ d, owns (c : Thread nD τ) arg30 fullShare d)
        ∗ semVal ((c : Thread nD τ), SemLoc.dma 25) 0 ∗ semVal ((c : Thread nD τ), SemLoc.dma 26) 0
        ∗ owes (c : Thread nD τ) 0 W) : sProp 𝕄)
      ⊢ wp frame (wpE defs₀ Variants.none (c : Thread nD τ) none) Set.univ
        (k0_part172 (F := F)
    i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 arg27 harg27 arg28 harg28 arg29 harg29 arg30 harg30 cc0_scratch11 cc0_scratch12)
        (fun v => (iprop(owns (c : Thread nD τ) arg1 fullShare W1 ∗ owns (c : Thread nD τ) arg2 fullShare W2
        ∗ owns (c : Thread nD τ) arg7 fullShare X7 ∗ owns (c : Thread nD τ) arg8 fullShare X8
        ∗ owns (c : Thread nD τ) arg20 fullShare (if (i 0).val = 0 then k0_pay340 else D)
        ∗ (∃ d, owns (c : Thread nD τ) arg24 fullShare (ov (gath (N := 25000) X7 (auxWords W2)) 127 d))
        ∗ (∃ d, owns (c : Thread nD τ) arg25 fullShare (ov (gath (N := 10000) X8 (fun n => auxWords W2 (n + 128))) 127 d))
        ∗ owns (c : Thread nD τ) arg29 fullShare (shapeCast S6400 W1 (by decide))
        ∗ owns (c : Thread nD τ) arg30 fullShare (shapeCast S264 W2 (by decide))
        ∗ semVal ((c : Thread nD τ), SemLoc.dma 25) 0 ∗ semVal ((c : Thread nD τ), SemLoc.dma 26) 0
        ∗ (∃ W', owes (c : Thread nD τ) 0 W')
        ∗ ⌜∀ x, v x = gath (N := 25000) X7 (auxWords W2) 127 (x 1).val⌝) : sProp 𝕄)) := by
  unfold owns
  iintro ⟨⟨%f1, %hf1, H1⟩, ⟨%f2, %hf2, H2⟩, ⟨%f7, %hf7, H7⟩, ⟨%f8, %hf8, H8⟩, ⟨%f20, %hf20, H20⟩, ⟨%d24, %f24, -, H24⟩,
    ⟨%d25, %f25, -, H25⟩, ⟨%d29, %f29, -, H29⟩, ⟨%d30, %f30, -, H30⟩, Hs1, Hs2, HW⟩
  simp only [k0_part172_eq_skeleton]
  unfold k0_part172_skel
  simp only [k0_part87_eq_skeleton]
  unfold k0_part87_skel
  sl_exec
  have hw0 : prefix_run.sl.r c arg2 arg30 f2 = auxWords W2 0 := by
    unfold auxWords wordsOf
    rw [← hf2]
    exact (word_at (M := 264) _ _ 0 _ rfl _).trans
      (congrFun ((read_whole _ _ _).trans (Memref.read_squeeze_full _ _ _ _)) _)
  have hc0 : k0_chk1 (prefix_run.sl.r c arg2 arg30 f2) := chk_item _ (by rw [hw0]; exact hA.item 0 (by decide))
  ihave H29' : iprop(∃ g, ⌜arg29.view.read (Elt F) g = shapeCast S6400 W1 (by decide)⌝
      ∗ (arg29.view.loc (c : Thread nD τ) ↦[arg29.view.set]{fullShare} g)) $$ [H29]
  · iexists _
    isplitr
    swap
    · iexact H29
    ipureintro
    rw [← hf1]
    exact (read_whole _ _ _).trans (Memref.read_squeeze_full _ _ _ _)
  icases H29' with ⟨%g29, %hg29, H29⟩
  ihave H30' : iprop(∃ g, ⌜arg30.view.read (Elt F) g = shapeCast S264 W2 (by decide)⌝
      ∗ (arg30.view.loc (c : Thread nD τ) ↦[arg30.view.set]{fullShare} g)) $$ [H30]
  · iexists _
    isplitr
    swap
    · iexact H30
    ipureintro
    rw [← hf2]
    exact (read_whole _ _ _).trans (Memref.read_squeeze_full _ _ _ _)
  icases H30' with ⟨%g30, %hg30, H30⟩
  have hitem : ∀ (n : ℕ) (hn : n < 128) {off : Fin 1 → ℕ} (inb : ∀ a : Fin 1, off a + (![1] : Fin 1 → ℕ) a ≤ ![264] a)
      (hoff : off = ![n]) (x : (⟨1, ![1]⟩ : Shape).Idx),
      (arg30.view.readAt (Elt F) (Rect.unit (s := ⟨1, ![264]⟩) off (![1] : Fin 1 → ℕ) inb).toLoadRect g30 x
        : BitVec 32).toNat < 25000 := by
    intro n hn off inb hoff x
    rw [word_at (M := 264) arg30.view g30 n inb hoff x, hg30]
    exact hA.item n hn
  have hgroup : ∀ (n : ℕ) (hn : n < 128) {off : Fin 1 → ℕ} (inb : ∀ a : Fin 1, off a + (![1] : Fin 1 → ℕ) a ≤ ![264] a)
      (hoff : off = ![n + 128]) (x : (⟨1, ![1]⟩ : Shape).Idx),
      (arg30.view.readAt (Elt F) (Rect.unit (s := ⟨1, ![264]⟩) off (![1] : Fin 1 → ℕ) inb).toLoadRect g30 x
        : BitVec 32).toNat < 10000 := by
    intro n hn off inb hoff x
    rw [word_at (M := 264) arg30.view g30 (n + 128) inb hoff x, hg30]
    exact hA.group n hn
  generalize hr0 : prefix_run.sl.r c arg2 arg30 f2 = w0 at *
  sl_exec (disch := first | exact chk_item _ (hitem _ (by decide) _ rfl _) | exact chk_group _ (hgroup _ (by decide) _ rfl _))
  sl_step
  have hcond : (prefix_run.sl.v10 i = 1#1) ↔ (i 0).val = 0 := point_zero i
  isplitl [H1]
  · iexists _
    isplitr
    · ipureintro; exact hf1
    iexact H1
  isplitl [H2]
  · iexists _
    isplitr
    · ipureintro; exact hf2
    iexact H2
  isplitl [H7]
  · iexists _
    isplitr
    · ipureintro; exact hf7
    iexact H7
  isplitl [H8]
  · iexists _
    isplitr
    · ipureintro; exact hf8
    iexact H8
  isplitl [H20]
  · iexists _
    isplitr
    swap
    · iexact H20
    ipureintro
    by_cases h0 : (i 0).val = 0
    · rw [if_pos h0, dif_pos (hcond.mpr h0)]
      exact View.read_writes_full _ _ _ _ _
    · rw [if_neg h0, dif_neg (fun h => h0 (hcond.mp h))]
      exact hf20
  isplitl [H24]
  · iexists (arg24.view.read (Elt F) f24), _
    isplitr
    swap
    · iexact H24
    ipureintro
    rw [← hf7]
    iterate 126
      refine ov_step _ _ _ _ _ _ _ _ rfl rfl
        (fun x => pay_row (N := 25000) _ _ _ _ _ (congrArg (fun w : BitVec 32 => (![w.toNat, 0, 0] : Fin 3 → ℕ))
          ((word_at (M := 264) _ _ _ _ rfl _).trans (congrFun hg30 _))) _ _ x) ?_
    refine ov_step _ _ _ _ _ _ _ _ rfl rfl
      (fun x => pay_row (N := 25000) _ _ _ 0 _ (congrArg (fun w : BitVec 32 => (![w.toNat, 0, 0] : Fin 3 → ℕ)) hw0) _ _ x) ?_
    exact (ov_zero _ _).symm
  isplitl [H25]
  · iexists (arg25.view.read (Elt F) f25), _
    isplitr
    swap
    · iexact H25
    ipureintro
    rw [← hf8]
    iterate 127
      refine ov_step _ _ _ _ _ _ _ _ rfl rfl
        (fun x => pay_row (N := 10000) _ _ (fun n => auxWords W2 (n + 128)) _ _
          (congrArg (fun w : BitVec 32 => (![w.toNat, 0, 0] : Fin 3 → ℕ))
            ((word_at (M := 264) _ _ _ _ rfl _).trans (congrFun hg30 _))) _ _ x) ?_
    exact (ov_zero _ _).symm
  isplitl [H29]
  · iexists _
    isplitr
    · ipureintro; exact hg29
    iexact H29
  isplitl [H30]
  · iexists _
    isplitr
    · ipureintro; exact hg30
    iexact H30
  isplitl [Hs1]
  · iexact Hs1
  isplitl [Hs2]
  · iexact Hs2
  isplitl [HW]
  · iexists _; iexact HW
  ipureintro
  intro x
  rw [← hf7]
  exact pay_row (N := 25000) _ _ _ 127 _ (congrArg (fun w : BitVec 32 => (![w.toNat, 0, 0] : Fin 3 → ℕ))
    ((word_at (M := 264) _ _ _ _ rfl _).trans (congrFun hg30 _))) _ _ x

end Cert.PIdeal

end
-- ==== Proof.Slab.lean ====
/-
  The middle of the body: the last item and group row, the slabs' member rows, and the products the scores start from.
-/
module

public import Idealize.ShloMosaic.Lib.VecWindow
public import proofs.«01_k».proof.Proof.Words
public import proofs.«01_k».proof.Proof.Checks
public import Idealize.ShloMosaic.Lib.Pipeline.FrameBody
public import Idealize.ShloMosaic.Lib.Ring
public import Idealize.ShloMosaic.Lib.Tactic

@[expose] public section

set_option maxRecDepth 16384

noncomputable section

namespace Cert.PIdeal

open Cert.P
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (c : Dev nD)
  (i : grid0.Coords) (arg1 : Memref sig .tc .vmem S1x1x6400 .i32) (harg1 : arg1.IsWhole)
  (arg2 : Memref sig .tc .vmem S1x1x264 .i32) (harg2 : arg2.IsWhole)
  (arg3 : Memref sig .tc .vmem S1x128x1 .i32) (harg3 : arg3.IsWhole)
  (arg4 : Memref sig .tc .vmem S1x128x128 .f32) (harg4 : arg4.IsWhole)
  (arg5 : Memref sig .tc .vmem S1x128x128 .f32) (harg5 : arg5.IsWhole)
  (arg6 : Memref sig .tc .vmem S50000x1x128 .f32) (harg6 : arg6.IsWhole)
  (arg7 : Memref sig .tc .vmem S25000x1x128 .f32) (harg7 : arg7.IsWhole)
  (arg8 : Memref sig .tc .vmem S10000x1x128 .f32) (harg8 : arg8.IsWhole)
  (arg9 : Memref sig .tc .vmem S128x32 .f32) (harg9 : arg9.IsWhole)
  (arg10 : Memref sig .tc .vmem S128x32 .f32) (harg10 : arg10.IsWhole)
  (arg11 : Memref sig .tc .vmem S1x16 .f32) (harg11 : arg11.IsWhole)
  (arg12 : Memref sig .tc .vmem S800x128 .f32) (harg12 : arg12.IsWhole)
  (arg13 : Memref sig .tc .vmem S256x6400 .bf16) (harg13 : arg13.IsWhole)
  (arg14 : Memref sig .tc .vmem S16x800 .f32) (harg14 : arg14.IsWhole)
  (arg15 : Memref sig .tc .vmem S192x128 .f32) (harg15 : arg15.IsWhole)
  (arg16 : Memref sig .tc .vmem S1x128 .f32) (harg16 : arg16.IsWhole)
  (arg17 : Memref sig .tc .vmem S128x128 .f32) (harg17 : arg17.IsWhole)
  (arg18 : Memref sig .tc .vmem S1x128 .f32) (harg18 : arg18.IsWhole)
  (arg19 : Memref sig .tc .vmem S1x128x1 .f32) (harg19 : arg19.IsWhole)
  (arg20 : Memref sig .tc .vmem S6400x128 .f32) (harg20 : arg20.IsWhole)
  (arg21 : Memref sig .tc .vmem S6400x32 .f32) (harg21 : arg21.IsWhole)
  (arg22 : Memref sig .tc .vmem S128x800 .f32) (harg22 : arg22.IsWhole)
  (arg23 : Memref sig .tc .vmem S128x800 .f32) (harg23 : arg23.IsWhole)
  (arg24 : Memref sig .tc .vmem S128x128 .f32) (harg24 : arg24.IsWhole)
  (arg25 : Memref sig .tc .vmem S128x128 .f32) (harg25 : arg25.IsWhole)
  (arg26 : Memref sig .tc .vmem S128x256 .f32) (harg26 : arg26.IsWhole)
  (arg27 : Memref sig .tc .vmem S128x6400 .f32) (harg27 : arg27.IsWhole)
  (arg28 : Memref sig .tc .vmem S128x800 .f32) (harg28 : arg28.IsWhole)
  (arg29 : Memref sig .tc .smem S6400 .i32) (harg29 : arg29.IsWhole) (arg30 : Memref sig .tc .smem S264 .i32)
  (harg30 : arg30.IsWhole)

/-- A buffer overlaid on all its rows. -/
theorem ov_all {α : Type} {R W : ℕ} (T : ℕ → ℕ → α) (n : ℕ) (h : R ≤ n) (D : (⟨2, ![R, W]⟩ : Shape).Idx → α) :
    ov T n D = fun y => T (y (0 : Fin 2)).val (y (1 : Fin 2)).val := by
  funext y
  have : (y (0 : Fin 2)).val < R := (y (0 : Fin 2)).isLt
  unfold ov
  rw [if_pos (by omega)]

/-- The gathered item rows. -/
def itemRows (X7 : S25000x1x128.Idx → Elt F .f32) (A : ℕ → BitVec 32) : S128x128.Idx → Elt F .f32 :=
  fun y => gath (N := 25000) X7 A (y (0 : Fin 2)).val (y (1 : Fin 2)).val

/-- The gathered group rows. -/
def groupRows (X8 : S10000x1x128.Idx → Elt F .f32) (A : ℕ → BitVec 32) : S128x128.Idx → Elt F .f32 :=
  fun y => gath (N := 10000) X8 (fun n => A (n + 128)) (y (0 : Fin 2)).val (y (1 : Fin 2)).val

/-- The member rows after the slabs a point has are gathered over what the buffer held. -/
def memberRows (X6 : S50000x1x128.Idx → Elt F .f32) (W : S6400.Idx → Elt F .i32) (n : BitVec 32)
    (D : S6400x128.Idx → Elt F .f32) : S6400x128.Idx → Elt F .f32 :=
  ov (gath (N := 50000) X6 (wordsOf (n := 6400) W)) (128 * n.toInt.toNat) D

set_option maxHeartbeats 40000000 in
/-- The middle of the body. -/
theorem slab_run (A : ℕ → BitVec 32) (W29 : S6400.Idx → Elt F .i32) (W30 : S264.Idx → Elt F .i32)
    (h30 : A = wordsOf (n := 264) W30)
    (W5 : S1x128x128.Idx → Elt F .f32) (X6 : S50000x1x128.Idx → Elt F .f32)
    (X7 : S25000x1x128.Idx → Elt F .f32) (X8 : S10000x1x128.Idx → Elt F .f32) (W9 W10 : S128x32.Idx → Elt F .f32)
    (D : S6400x128.Idx → Elt F .f32) (d24 d25 : S128x128.Idx → Elt F .f32)
    (hA : AuxOK A) (hn0 : 0 ≤ (A 256).toInt) (hn : (A 256).toInt ≤ 50)
    (hW : ∀ i, (W29 i : BitVec 32).toNat < 50000) (v1795 : FVec F S1x128 .f32)
    (hv : ∀ x, v1795 x = gath (N := 25000) X7 A 127 (x 1).val) :
    (iprop(owns (c : Thread nD τ) arg5 fullShare W5 ∗ owns (c : Thread nD τ) arg6 fullShare X6
        ∗ owns (c : Thread nD τ) arg8 fullShare X8 ∗ owns (c : Thread nD τ) arg9 fullShare W9
        ∗ owns (c : Thread nD τ) arg10 fullShare W10 ∗ owns (c : Thread nD τ) arg20 fullShare D
        ∗ (∃ d, owns (c : Thread nD τ) arg21 fullShare d)
        ∗ owns (c : Thread nD τ) arg24 fullShare (ov (gath (N := 25000) X7 A) 127 d24)
        ∗ owns (c : Thread nD τ) arg25 fullShare (ov (gath (N := 10000) X8 (fun n => A (n + 128))) 127 d25)
        ∗ owns (c : Thread nD τ) arg29 fullShare W29 ∗ owns (c : Thread nD τ) arg30 fullShare W30) : sProp 𝕄)
      ⊢ wp frame (wpE defs₀ Variants.none (c : Thread nD τ) none) Set.univ
        (k0_part147 (F := F)
    i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 arg27 harg27 arg28 harg28 arg29 harg29 arg30 harg30 cc0_scratch11 cc0_scratch12 v1795)
        (fun v => (iprop(owns (c : Thread nD τ) arg5 fullShare W5 ∗ owns (c : Thread nD τ) arg6 fullShare X6
        ∗ owns (c : Thread nD τ) arg8 fullShare X8 ∗ owns (c : Thread nD τ) arg9 fullShare W9
        ∗ owns (c : Thread nD τ) arg10 fullShare W10
        ∗ owns (c : Thread nD τ) arg20 fullShare (memberRows X6 W29 (A 256) D)
        ∗ owns (c : Thread nD τ) arg21 fullShare (k0_pay618 (memberRows X6 W29 (A 256) D) W9)
        ∗ owns (c : Thread nD τ) arg24 fullShare (itemRows X7 A)
        ∗ owns (c : Thread nD τ) arg25 fullShare (groupRows X8 A)
        ∗ owns (c : Thread nD τ) arg29 fullShare W29 ∗ owns (c : Thread nD τ) arg30 fullShare W30
        ∗ ⌜v = ⟨k0_pay619 (itemRows X7 A) W10, k0_pay620 W5, k0_pay621 (itemRows X7 A) W10⟩⌝) : sProp 𝕄)) := by
  unfold owns
  iintro ⟨⟨%f5, %hf5, H5⟩, ⟨%f6, %hf6, H6⟩, ⟨%f8, %hf8, H8⟩, ⟨%f9, %hf9, H9⟩, ⟨%f10, %hf10, H10⟩, ⟨%f20, %hf20, H20⟩,
    ⟨%d21, %f21, -, H21⟩, ⟨%f24, %hf24, H24⟩, ⟨%f25, %hf25, H25⟩, ⟨%f29, %hf29, H29⟩, ⟨%f30, %hf30, H30⟩⟩
  have hword : ∀ (n : ℕ) {off : Fin 1 → ℕ} (inb : ∀ a : Fin 1, off a + (![1] : Fin 1 → ℕ) a ≤ ![264] a)
      (hoff : off = ![n]) (x : (⟨1, ![1]⟩ : Shape).Idx),
      (arg30.view.readAt (Elt F) (Rect.unit (s := ⟨1, ![264]⟩) off (![1] : Fin 1 → ℕ) inb).toLoadRect f30 x
        : BitVec 32) = A n := by
    intro n off inb hoff x
    rw [word_at (M := 264) arg30.view f30 n inb hoff x, hf30, h30]
    rfl
  simp only [k0_part147_eq_skeleton]
  unfold k0_part147_skel
  sl_exec (disch := first
    | exact chk_group _ (lt_of_eq_of_lt (congrArg BitVec.toNat (hword 255 _ rfl _)) (hA.group 127 (by decide)))
    | exact chk257 _ (le_of_le_of_eq hn0 (congrArg BitVec.toInt (hword 256 _ rfl _).symm))
        (le_of_eq_of_le (congrArg BitVec.toInt (hword 256 _ rfl _)) hn))
  have hr1 : slab_run.sl.r_1 c arg30 f30 = A 256 := hword 256 _ rfl _
  have hchk : k0_chk257 (slab_run.sl.r_1 c arg30 f30) := chk257 _ (by rw [hr1]; exact hn0) (by rw [hr1]; exact hn)
  have htrip := t1_trips (slab_run.sl.r_1 c arg30 f30) (by rw [hr1]; exact hn0) (by rw [hr1]; exact hn)
  have htrips := t1_trips_eq (slab_run.sl.r_1 c arg30 f30) (by rw [hr1]; exact hn0) (by rw [hr1]; exact hn)
  have htr2 : (k0_t2_loop (slab_run.sl.r_1 c arg30 f30)).trips = 0 :=
    (t2_trips (slab_run.sl.r_1 c arg30 f30) (by rw [hr1]; exact hn0) (by rw [hr1]; exact hn)).2
  let L : Gen.LoopInvTy_k0_t1 (F := F) Unit ℕ (Pipeline.UD sig nD τ) ℕ Variants.none c none Set.univ
    i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 arg27 harg27 arg28 harg28 arg29 harg29 arg30 harg30 cc0_scratch11 cc0_scratch12 v1795 (slab_run.sl.r_1 c arg30 f30) hchk :=
    ⟨fun k _ => tripInv c arg6 arg20 arg29 W29 X6 D k,
      fun k acc => trip c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 arg27 harg27 arg28 harg28 arg29 harg29 arg30 harg30 v1795
        (slab_run.sl.r_1 c arg30 f30) hchk W29 X6 D hW htrip.2 k acc⟩
  have hf20' : View.read (Elt F) arg20.view f20 = ov (gath (N := 50000) X6 (wordsOf (n := 6400) W29)) (128 * 0) D := by
    rw [hf20]; exact (ov_zero _ _).symm
  sl_exec
  sl_step
  have h20 : View.read (Elt F) arg20.view fL2
      = memberRows (View.read (Elt F) arg6.view fL1) (View.read (Elt F) arg29.view fL0) (A 256) D := by
    rw [hL4]
    unfold memberRows
    rw [← hr1, ← htrips]
  have h24 : View.read (Elt F) arg24.view (arg24.view.writes (Elt F) f24
      [⟨Rect.unit ![127, 0] S1x128.size inb_S128x128_S1x128_127_0, v1795⟩]) = itemRows X7 A := by
    refine (ov_step _ _ _ _ _ _ 127 d24 rfl rfl hv hf24).trans ?_
    exact ov_all _ _ (by decide) _
  have h25 : View.read (Elt F) arg25.view (arg25.view.writes (Elt F) f25
      [⟨Rect.unit ![127, 0] S1x128.size inb_S128x128_S1x128_127_0,
          k0_pay613 (slab_run.sl.v1798 c arg8 arg30 A hA f8 f30 hword)⟩]) = groupRows X8 A := by
    rw [← hf8] at hf25 ⊢
    refine (ov_step _ _ _ _ _ _ 127 d25 rfl rfl
      (fun x => pay_row (N := 10000) _ _ (fun n => A (n + 128)) 127 _
          (congrArg (fun w : BitVec 32 => (![w.toNat, 0, 0] : Fin 3 → ℕ)) (hword 255 _ rfl _)) _ _ x) hf25).trans ?_
    exact ov_all _ _ (by decide) _
  have h1816 : slab_run.sl.v1816 c arg24 v1795 f24 = itemRows X7 A := (View.readAt_full _ _ _).trans h24
  have h10 : View.readAt (Elt F) arg10.view (Rect.unit ![0, 0] S128x32.size inb_S128x32_S128x32_0_0).toLoadRect f10 = W10 :=
    (View.readAt_full _ _ _).trans hf10
  have h5 : View.readAt (Elt F) arg5.view
      (Rect.unit ![0, 0, 0] S1x128x128.size inb_S1x128x128_S1x128x128_0_0_0).toLoadRect f5 = W5 :=
    (View.readAt_full _ _ _).trans hf5
  isplitl [H5]
  · iexists _
    isplitr
    swap
    · iexact H5
    ipureintro
    exact hf5
  isplitl [H6]
  · iexists _
    isplitr
    swap
    · iexact H6
    ipureintro
    rfl
  isplitl [H8]
  · iexists _
    isplitr
    swap
    · iexact H8
    ipureintro
    exact hf8
  isplitl [H9]
  · iexists _
    isplitr
    swap
    · iexact H9
    ipureintro
    exact hf9
  isplitl [H10]
  · iexists _
    isplitr
    swap
    · iexact H10
    ipureintro
    exact hf10
  isplitl [H20]
  · iexists _
    isplitr
    swap
    · iexact H20
    ipureintro
    exact h20
  isplitl [H21]
  · iexists _
    isplitr
    swap
    · iexact H21
    ipureintro
    refine (View.read_writes_full _ _ _ _ _).trans ?_
    exact congr (congrArg k0_pay618 ((View.readAt_full _ _ _).trans h20)) ((View.readAt_full _ _ _).trans hf9)
  isplitl [H24]
  · iexists _
    isplitr
    swap
    · iexact H24
    ipureintro
    exact h24
  isplitl [H25]
  · iexists _
    isplitr
    swap
    · iexact H25
    ipureintro
    exact h25
  isplitl [H29]
  · iexists _
    isplitr
    swap
    · iexact H29
    ipureintro
    rfl
  isplitl [H30]
  · iexists _
    isplitr
    swap
    · iexact H30
    ipureintro
    exact hf30
  ipureintro
  rw [h1816, h10, h5]

end Cert.PIdeal

end
-- ==== Proof.Cols.lean ====
/-
  A buffer written column block by column block, and blocks loaded out of a buffer.
-/
module

public import Idealize.ShloMosaic.Lib.WritesUnit
public import Idealize.ShloMosaic.Lib.Pointwise.Index
public import Idealize.ShloMosaic.Lib.Pipeline.Value
public import Idealize.ShloMosaic.Lib.Tactic

@[expose] public section

namespace Cert.P

open Idealize.ShloMosaic

variable {α : Type} {R W : ℕ}

/-- What a buffer of `R` rows holds whose first `n` columns follow `T`, the others as `D` has them. -/
def ovc (T : ℕ → ℕ → α) (n : ℕ) (D : (⟨2, ![R, W]⟩ : Shape).Idx → α) : (⟨2, ![R, W]⟩ : Shape).Idx → α :=
  fun y => if (y (1 : Fin 2)).val < n then T (y (0 : Fin 2)).val (y (1 : Fin 2)).val else D y

theorem ovc_zero (T : ℕ → ℕ → α) (D : (⟨2, ![R, W]⟩ : Shape).Idx → α) : ovc T 0 D = D := by
  funext y; simp [ovc]

theorem ovc_all (T : ℕ → ℕ → α) (n : ℕ) (h : W ≤ n) (D : (⟨2, ![R, W]⟩ : Shape).Idx → α) :
    ovc T n D = fun y => T (y (0 : Fin 2)).val (y (1 : Fin 2)).val := by
  funext y
  have : (y (1 : Fin 2)).val < W := (y (1 : Fin 2)).isLt
  unfold ovc
  rw [if_pos (by omega)]

variable {sig : RefSig} {κ : Kind} {sp : Space} {e : EltTy} {Val : EltTy → Type}

/-- One more block of `B` columns stored from column `n` on. -/
theorem ovc_step (v : View sig κ sp (⟨2, ![R, W]⟩ : Shape) e) (f : v.ty.Contents Val) {off size : Fin 2 → ℕ}
    (inb : ∀ a : Fin 2, off a + size a ≤ ![R, W] a)
    (w : (Rect.unit (s := ⟨2, ![R, W]⟩) off size inb).shape.Idx → Val e)
    (L : List (View.Piece Val (⟨2, ![R, W]⟩ : Shape) e)) (T : ℕ → ℕ → Val e) (n B : ℕ)
    (D : (⟨2, ![R, W]⟩ : Shape).Idx → Val e) (hs : size = ![R, B])
    (hoff : off = ![0, n]) (hw : ∀ x, w x = T (x (0 : Fin 2)).val (n + (x (1 : Fin 2)).val))
    (hL : v.read Val (v.writes Val f L) = ovc T n D) :
    v.read Val (v.writes Val f ((⟨Rect.unit (s := ⟨2, ![R, W]⟩) off size inb, w⟩ :
      View.Piece Val (⟨2, ![R, W]⟩ : Shape) e) :: L)) = ovc T (n + B) D := by
  funext y
  have y0 : (y (0 : Fin 2)).val < R := (y (0 : Fin 2)).isLt
  by_cases h : n ≤ (y (1 : Fin 2)).val ∧ (y (1 : Fin 2)).val < n + B
  · have hall : ∀ a : Fin 2, (![0, n] : Fin 2 → ℕ) a ≤ (y a).val ∧ (y a).val < (![0, n] : Fin 2 → ℕ) a + size a := by
      rw [hs]
      exact Fin.forall_fin_two.mpr ⟨⟨Nat.zero_le _, by show _ < 0 + R; omega⟩, h.1, h.2⟩
    rw [View.read_writes_cons_unit v f inb w L y hoff, dif_pos hall, hw]
    unfold ovc
    rw [if_pos h.2]
    show T ((y (0 : Fin 2)).val - 0) (n + ((y (1 : Fin 2)).val - n)) = _
    rw [Nat.sub_zero, Nat.add_sub_cancel' h.1]
  · have hne : (y (1 : Fin 2)).val < (![0, n] : Fin 2 → ℕ) 1 ∨ (![0, n] : Fin 2 → ℕ) 1 + size 1 ≤ (y (1 : Fin 2)).val := by
      rw [hs]
      show (y (1 : Fin 2)).val < n ∨ n + B ≤ (y (1 : Fin 2)).val
      omega
    rw [View.read_writes_cons_unit_of_not_mem v f inb w L y hoff (1 : Fin 2) hne, hL]
    unfold ovc
    by_cases h3 : (y (1 : Fin 2)).val < n
    · rw [if_pos h3, if_pos (by omega)]
    · rw [if_neg h3, if_neg (by omega)]

/-- The block of `B` rows and `C` columns of `X` from row `r`, column `k` on. -/
def blk {N M : ℕ} [NeZero N] [NeZero M] (B C r k : ℕ) (X : (⟨2, ![N, M]⟩ : Shape).Idx → α) :
    (⟨2, ![B, C]⟩ : Shape).Idx → α :=
  fun y => X (ix2 (Fin.ofNat N (r + (y (0 : Fin 2)).val)) (Fin.ofNat M (k + (y (1 : Fin 2)).val)))

/-- A loaded block. -/
theorem readAt_blk {N M : ℕ} [NeZero N] [NeZero M] (v : View sig κ sp (⟨2, ![N, M]⟩ : Shape) e) (f : v.ty.Contents Val)
    (B C r k : ℕ) (inb : ∀ a : Fin 2, (![r, k] : Fin 2 → ℕ) a + (![B, C] : Fin 2 → ℕ) a ≤ ![N, M] a) :
    v.readAt Val (Rect.unit (s := ⟨2, ![N, M]⟩) ![r, k] ![B, C] inb).toLoadRect f = blk B C r k (v.read Val f) := by
  funext y
  rw [View.readAt_apply]
  unfold blk
  congr 1
  have h0 : r + B ≤ N := inb (0 : Fin 2)
  have h1 : k + C ≤ M := inb (1 : Fin 2)
  have y0 : (y (0 : Fin 2)).val < B := (y (0 : Fin 2)).isLt
  have y1 : (y (1 : Fin 2)).val < C := (y (1 : Fin 2)).isLt
  funext a
  apply Fin.ext
  match a with
  | ⟨0, _⟩ =>
    show r + 1 * (y (0 : Fin 2)).val = (r + (y (0 : Fin 2)).val) % N
    rw [Nat.mod_eq_of_lt (by omega)]; omega
  | ⟨1, _⟩ =>
    show k + 1 * (y (1 : Fin 2)).val = (k + (y (1 : Fin 2)).val) % M
    rw [Nat.mod_eq_of_lt (by omega)]; omega

/-- Entry `r, j` of the products laid out member after member, 16 columns each, cut from column `o` on. -/
def flat (o : ℕ) (X : (⟨2, ![6400, 32]⟩ : Shape).Idx → α) (r j : ℕ) : α :=
  X (ix2 (Fin.ofNat 6400 (128 * (j / 16) + r)) (Fin.ofNat 32 (o + j % 16)))

/-- The block a member's columns are stored from. -/
theorem pay_cols (v : View sig κ sp (⟨2, ![6400, 32]⟩ : Shape) e) (f : v.ty.Contents Val) (n o : ℕ) (r : ℕ)
    (inb : ∀ a : Fin 2, (![r, 0] : Fin 2 → ℕ) a + (![128, 32] : Fin 2 → ℕ) a ≤ ![6400, 32] a) (ho : o + 16 ≤ 32)
    (hr : r = 128 * (n / 16) ∧ n % 16 = 0)
    (h1 : (⟨2, ![128, 32]⟩ : Shape).Slices ![0, o] (⟨2, ![128, 16]⟩ : Shape))
    (h2 : (⟨2, ![128, 16]⟩ : Shape).ShapeCasts (⟨2, ![128, 16]⟩ : Shape)) (x : (⟨2, ![128, 16]⟩ : Shape).Idx) :
    shapeCast (⟨2, ![128, 16]⟩ : Shape) (extractStridedSlice (s := (⟨2, ![128, 32]⟩ : Shape)) (⟨2, ![128, 16]⟩ : Shape) ![0, o]
      (v.readAt Val (Rect.unit (s := ⟨2, ![6400, 32]⟩) ![r, 0] ![128, 32] inb).toLoadRect f) h1) h2 x
      = flat o (v.read Val f) (x (0 : Fin 2)).val (n + (x (1 : Fin 2)).val) := by
  obtain ⟨m, hm⟩ : ∃ m, n = 16 * m := ⟨n / 16, by omega⟩
  have hr' : r = 128 * m := by omega
  clear hr
  subst hm hr'
  have x0 : (x (0 : Fin 2)).val < 128 := (x (0 : Fin 2)).isLt
  have x1 : (x (1 : Fin 2)).val < 16 := (x (1 : Fin 2)).isLt
  have hb : 128 * m + 128 ≤ 6400 := inb (0 : Fin 2)
  rw [shapeCast_self, readAt_blk]
  rw [extractStridedSlice_apply _ _ h1 x (ix2 (⟨(x (0 : Fin 2)).val, x0⟩ : Fin 128) (⟨o + (x (1 : Fin 2)).val, by omega⟩ : Fin 32))
    (fun a => by
      match a with
      | ⟨0, _⟩ => show (x (0 : Fin 2)).val = 0 + (x (0 : Fin 2)).val; omega
      | ⟨1, _⟩ => rfl)]
  unfold blk flat
  have e1 : (16 * m + (x (1 : Fin 2)).val) / 16 = m := by omega
  have e2 : (16 * m + (x (1 : Fin 2)).val) % 16 = (x (1 : Fin 2)).val := by omega
  rw [e1, e2]
  show v.read Val f (ix2 (Fin.ofNat 6400 (128 * m + (x (0 : Fin 2)).val)) (Fin.ofNat 32 (0 + (o + (x (1 : Fin 2)).val)))) = _
  rw [Nat.zero_add]

end Cert.P
-- ==== Proof.Wide.lean ====
/-
  The products cut into the two wide buffers, member after member, and the bias row added.
-/
module

public import Idealize.ShloMosaic.Lib.VecWindow
public import proofs.«01_k».proof.Proof.Words
public import proofs.«01_k».proof.Proof.Cols
public import Idealize.ShloMosaic.Lib.Pipeline.FrameBody
public import Idealize.ShloMosaic.Lib.Ring
public import Idealize.ShloMosaic.Lib.Tactic

@[expose] public section

set_option maxRecDepth 16384

noncomputable section

namespace Cert.PIdeal

open Cert.P
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (c : Dev nD)
  (i : grid0.Coords) (arg1 : Memref sig .tc .vmem S1x1x6400 .i32) (harg1 : arg1.IsWhole)
  (arg2 : Memref sig .tc .vmem S1x1x264 .i32) (harg2 : arg2.IsWhole)
  (arg3 : Memref sig .tc .vmem S1x128x1 .i32) (harg3 : arg3.IsWhole)
  (arg4 : Memref sig .tc .vmem S1x128x128 .f32) (harg4 : arg4.IsWhole)
  (arg5 : Memref sig .tc .vmem S1x128x128 .f32) (harg5 : arg5.IsWhole)
  (arg6 : Memref sig .tc .vmem S50000x1x128 .f32) (harg6 : arg6.IsWhole)
  (arg7 : Memref sig .tc .vmem S25000x1x128 .f32) (harg7 : arg7.IsWhole)
  (arg8 : Memref sig .tc .vmem S10000x1x128 .f32) (harg8 : arg8.IsWhole)
  (arg9 : Memref sig .tc .vmem S128x32 .f32) (harg9 : arg9.IsWhole)
  (arg10 : Memref sig .tc .vmem S128x32 .f32) (harg10 : arg10.IsWhole)
  (arg11 : Memref sig .tc .vmem S1x16 .f32) (harg11 : arg11.IsWhole)
  (arg12 : Memref sig .tc .vmem S800x128 .f32) (harg12 : arg12.IsWhole)
  (arg13 : Memref sig .tc .vmem S256x6400 .bf16) (harg13 : arg13.IsWhole)
  (arg14 : Memref sig .tc .vmem S16x800 .f32) (harg14 : arg14.IsWhole)
  (arg15 : Memref sig .tc .vmem S192x128 .f32) (harg15 : arg15.IsWhole)
  (arg16 : Memref sig .tc .vmem S1x128 .f32) (harg16 : arg16.IsWhole)
  (arg17 : Memref sig .tc .vmem S128x128 .f32) (harg17 : arg17.IsWhole)
  (arg18 : Memref sig .tc .vmem S1x128 .f32) (harg18 : arg18.IsWhole)
  (arg19 : Memref sig .tc .vmem S1x128x1 .f32) (harg19 : arg19.IsWhole)
  (arg20 : Memref sig .tc .vmem S6400x128 .f32) (harg20 : arg20.IsWhole)
  (arg21 : Memref sig .tc .vmem S6400x32 .f32) (harg21 : arg21.IsWhole)
  (arg22 : Memref sig .tc .vmem S128x800 .f32) (harg22 : arg22.IsWhole)
  (arg23 : Memref sig .tc .vmem S128x800 .f32) (harg23 : arg23.IsWhole)
  (arg24 : Memref sig .tc .vmem S128x128 .f32) (harg24 : arg24.IsWhole)
  (arg25 : Memref sig .tc .vmem S128x128 .f32) (harg25 : arg25.IsWhole)
  (arg26 : Memref sig .tc .vmem S128x256 .f32) (harg26 : arg26.IsWhole)
  (arg27 : Memref sig .tc .vmem S128x6400 .f32) (harg27 : arg27.IsWhole)
  (arg28 : Memref sig .tc .vmem S128x800 .f32) (harg28 : arg28.IsWhole)
  (arg29 : Memref sig .tc .smem S6400 .i32) (harg29 : arg29.IsWhole) (arg30 : Memref sig .tc .smem S264 .i32)
  (harg30 : arg30.IsWhole)

/-- The products of the even halves, member after member. -/
def wideE (X : S6400x32.Idx → Elt F .f32) : S128x800.Idx → Elt F .f32 :=
  fun y => flat 0 X (y (0 : Fin 2)).val (y (1 : Fin 2)).val

/-- The products of the odd halves, member after member. -/
def wideO (X : S6400x32.Idx → Elt F .f32) : S128x800.Idx → Elt F .f32 :=
  fun y => flat 16 X (y (0 : Fin 2)).val (y (1 : Fin 2)).val

set_option maxHeartbeats 40000000 in
/-- The products cut into the wide buffers. -/
theorem wide_run (X21 : S6400x32.Idx → Elt F .f32) (W11 : S1x16.Idx → Elt F .f32) (W14 : S16x800.Idx → Elt F .f32)
    (v1819 : FVec F S128x32 .f32) (v1821 : FVec F S128x128 .f32) (v1822 : FVec F S128x16 .f32)
    (κ : FVec F S128x800 .f32 → Prog (TpuEff nD τ sig (Elt F) Λ₀ .tc) PUnit) (Q : PUnit → sProp 𝕄) :
    (iprop(owns (c : Thread nD τ) arg11 fullShare W11 ∗ owns (c : Thread nD τ) arg14 fullShare W14
        ∗ owns (c : Thread nD τ) arg21 fullShare X21
        ∗ (∃ d, owns (c : Thread nD τ) arg22 fullShare d) ∗ (∃ d, owns (c : Thread nD τ) arg23 fullShare d)
        ∗ (∃ d, owns (c : Thread nD τ) arg28 fullShare d)
        ∗ (owns (c : Thread nD τ) arg11 fullShare W11 ∗ owns (c : Thread nD τ) arg14 fullShare W14
          ∗ owns (c : Thread nD τ) arg21 fullShare X21
          ∗ owns (c : Thread nD τ) arg22 fullShare (k0_pay731 (wideE X21) (k0_pay730 (k0_pay622 v1819 v1821 v1822 W11) W14))
          ∗ (∃ d, owns (c : Thread nD τ) arg23 fullShare d)
          ∗ (∃ d, owns (c : Thread nD τ) arg28 fullShare d)
          -∗ wp frame (wpE defs₀ Variants.none (c : Thread nD τ) none) Set.univ
              (κ (k0_pay732 (wideO X21) (k0_pay730 (k0_pay622 v1819 v1821 v1822 W11) W14))) Q)) : sProp 𝕄)
      ⊢ wp frame (wpE defs₀ Variants.none (c : Thread nD τ) none) Set.univ
        (do
      let ⟨v1831, v1855⟩ : Σ' (v1831 : FVec F S128x16 .f32), FVec F S128x16 .f32 ← k0_part148 (F := F) i arg1
          harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19
          harg19 arg20 harg20 arg21 harg21 arg22 harg22 arg23 harg23 arg24 harg24 arg25 harg25 arg26 harg26 arg27 harg27
          arg28 harg28 arg29 harg29 arg30 harg30 cc0_scratch11 cc0_scratch12 v1819 v1821 v1822
      let ⟨v1886, v1887, v1888⟩ : Σ' (v1886 : Vec F S128x32 .f32) (v1887 : FVec F S128x16 .f32), Vec F S128x16
          .f32 ← k0_part149 (F := F) i arg1 harg1 arg2 harg2 arg3 harg3 arg4 harg4 arg5 harg5 arg6 harg6 arg7 harg7 arg8
          harg8 arg9 harg9 arg10 harg10 arg11 harg11 arg12 harg12 arg13 harg13 arg14 harg14 arg15 harg15 arg16 harg16
          arg17 harg17 arg18 harg18 arg19 harg19 arg20 harg20 arg21 harg21 arg22 harg22 arg23 harg23 arg24 harg24 arg25
          harg25 arg26 harg26 arg27 harg27 arg28 harg28 arg29 harg29 arg30 harg30 cc0_scratch11 cc0_scratch12
          v1855
      let v1921 : FVec F S128x16 .f32 ← k0_part150 (F := F) i arg1 harg1 arg2 harg2 arg3 harg3 arg4 harg4 arg5
          harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 arg21 harg21 arg22 harg22
          arg23 harg23 arg24 harg24 arg25 harg25 arg26 harg26 arg27 harg27 arg28 harg28 arg29 harg29 arg30 harg30
          cc0_scratch11 cc0_scratch12 v1886 v1887 v1888
      let ⟨v1949, v1950⟩ : Σ' (v1949 : Vec F S128x32 .f32), FVec F S128x16 .f32 ← k0_part151 (F := F) i arg1
          harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19
          harg19 arg20 harg20 arg21 harg21 arg22 harg22 arg23 harg23 arg24 harg24 arg25 harg25 arg26 harg26 arg27 harg27
          arg28 harg28 arg29 harg29 arg30 harg30 cc0_scratch11 cc0_scratch12 v1921
      k0_part152 (F := F) i arg1 harg1 arg2 harg2 arg3 harg3 arg4 harg4 arg5 harg5 arg6 harg6 arg7 harg7 arg8
          harg8 arg9 harg9 arg10 harg10 arg11 harg11 arg12 harg12 arg13 harg13 arg14 harg14 arg15 harg15 arg16 harg16
          arg17 harg17 arg18 harg18 arg19 harg19 arg20 harg20 arg21 harg21 arg22 harg22 arg23 harg23 arg24 harg24 arg25
          harg25 arg26 harg26 arg27 harg27 arg28 harg28 arg29 harg29 arg30 harg30 cc0_scratch11 cc0_scratch12 v1949
          v1950
      let ⟨v2012, v2016⟩ : Σ' (v2012 : Vec F S128x32 .f32), FVec F S128x16 .f32 ← k0_part153 (F := F) i arg1
          harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19
          harg19 arg20 harg20 arg21 harg21 arg22 harg22 arg23 harg23 arg24 harg24 arg25 harg25 arg26 harg26 arg27 harg27
          arg28 harg28 arg29 harg29 arg30 harg30 cc0_scratch11 cc0_scratch12
      k0_part154 (F := F) i arg1 harg1 arg2 harg2 arg3 harg3 arg4 harg4 arg5 harg5 arg6 harg6 arg7 harg7 arg8
          harg8 arg9 harg9 arg10 harg10 arg11 harg11 arg12 harg12 arg13 harg13 arg14 harg14 arg15 harg15 arg16 harg16
          arg17 harg17 arg18 harg18 arg19 harg19 arg20 harg20 arg21 harg21 arg22 harg22 arg23 harg23 arg24 harg24 arg25
          harg25 arg26 harg26 arg27 harg27 arg28 harg28 arg29 harg29 arg30 harg30 cc0_scratch11 cc0_scratch12 v2012
          v2016
      let v2075 : Vec F S128x32 .f32 ← k0_part155 (F := F) i arg1 harg1 arg2 harg2 arg3 harg3 arg4 harg4 arg5
          harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 arg21 harg21 arg22 harg22
          arg23 harg23 arg24 harg24 arg25 harg25 arg26 harg26 arg27 harg27 arg28 harg28 arg29 harg29 arg30 harg30
          cc0_scratch11 cc0_scratch12
      k0_part156 (F := F) i arg1 harg1 arg2 harg2 arg3 harg3 arg4 harg4 arg5 harg5 arg6 harg6 arg7 harg7 arg8
          harg8 arg9 harg9 arg10 harg10 arg11 harg11 arg12 harg12 arg13 harg13 arg14 harg14 arg15 harg15 arg16 harg16
          arg17 harg17 arg18 harg18 arg19 harg19 arg20 harg20 arg21 harg21 arg22 harg22 arg23 harg23 arg24 harg24 arg25
          harg25 arg26 harg26 arg27 harg27 arg28 harg28 arg29 harg29 arg30 harg30 cc0_scratch11 cc0_scratch12
          v2075
      let v2143 : FVec F S128x16 .f32 ← k0_part157 (F := F) i arg1 harg1 arg2 harg2 arg3 harg3 arg4 harg4 arg5
          harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 arg21 harg21 arg22 harg22
          arg23 harg23 arg24 harg24 arg25 harg25 arg26 harg26 arg27 harg27 arg28 harg28 arg29 harg29 arg30 harg30
          cc0_scratch11 cc0_scratch12
      let v2174 : Vec F S128x32 .f32 ← k0_part158 (F := F) i arg1 harg1 arg2 harg2 arg3 harg3 arg4 harg4 arg5
          harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 arg21 harg21 arg22 harg22
          arg23 harg23 arg24 harg24 arg25 harg25 arg26 harg26 arg27 harg27 arg28 harg28 arg29 harg29 arg30 harg30
          cc0_scratch11 cc0_scratch12 v2143
      let v2206 : FVec F S128x16 .f32 ← k0_part159 (F := F) i arg1 harg1 arg2 harg2 arg3 harg3 arg4 harg4 arg5
          harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 arg21 harg21 arg22 harg22
          arg23 harg23 arg24 harg24 arg25 harg25 arg26 harg26 arg27 harg27 arg28 harg28 arg29 harg29 arg30 harg30
          cc0_scratch11 cc0_scratch12 v2174
      let ⟨v2237, v2238⟩ : Σ' (v2237 : Vec F S128x32 .f32), FVec F S128x16 .f32 ← k0_part160 (F := F) i arg1
          harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19
          harg19 arg20 harg20 arg21 harg21 arg22 harg22 arg23 harg23 arg24 harg24 arg25 harg25 arg26 harg26 arg27 harg27
          arg28 harg28 arg29 harg29 arg30 harg30 cc0_scratch11 cc0_scratch12 v2206
      let v2269 : FVec F S128x16 .f32 ← k0_part161 (F := F) i arg1 harg1 arg2 harg2 arg3 harg3 arg4 harg4 arg5
          harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 arg21 harg21 arg22 harg22
          arg23 harg23 arg24 harg24 arg25 harg25 arg26 harg26 arg27 harg27 arg28 harg28 arg29 harg29 arg30 harg30
          cc0_scratch11 cc0_scratch12 v2237 v2238
      let v2300 : FVec F S128x800 .f32 ← k0_part162 (F := F) i arg1 harg1 arg2 harg2 arg3 harg3 arg4 harg4
          arg5 harg5 arg6 harg6 arg7 harg7 arg8 harg8 arg9 harg9 arg10 harg10 arg11 harg11 arg12 harg12 arg13 harg13
          arg14 harg14 arg15 harg15 arg16 harg16 arg17 harg17 arg18 harg18 arg19 harg19 arg20 harg20 arg21 harg21 arg22
          harg22 arg23 harg23 arg24 harg24 arg25 harg25 arg26 harg26 arg27 harg27 arg28 harg28 arg29 harg29 arg30 harg30
          cc0_scratch11 cc0_scratch12 v1831 v2269
      κ v2300) Q := by
  unfold owns
  iintro ⟨⟨%f11, %hf11, H11⟩, ⟨%f14, %hf14, H14⟩, ⟨%f21, %hf21, H21⟩, ⟨%d22, %f22, -, H22⟩, ⟨%d23, %f23, -, H23⟩,
    ⟨%d28, %f28, -, H28⟩, Hk⟩
  sl_exec
  have hcol (o : ℕ) (ho : o + 16 ≤ 32) := fun (n r : ℕ) (hr : r = 128 * (n / 16) ∧ n % 16 = 0) inb h1 h2 x =>
    pay_cols (e := .f32) (Val := Elt F) arg21.view f21 n o r inb ho hr h1 h2 x
  have h22 : ∀ f, View.read (Elt F) arg22.view (arg22.view.writes (Elt F) f (wide_run.sl.H22_50 c arg21 f21)) = wideE X21 := by
    intro f
    rw [← hf21]
    refine Eq.trans ?_ (ovc_all (flat 0 (View.read (Elt F) arg21.view f21)) 800 (le_refl _) (View.read (Elt F) arg22.view f))
    iterate 50
      refine ovc_step _ _ _ _ _ _ _ 16 _ rfl rfl (fun x => hcol 0 (by decide) _ _ (by decide) _ (by decide) (by decide) x) ?_
    exact (ovc_zero _ _).symm
  have h23 : ∀ f, View.read (Elt F) arg23.view (arg23.view.writes (Elt F) f (wide_run.sl.H23_50 c arg21 f21)) = wideO X21 := by
    intro f
    rw [← hf21]
    refine Eq.trans ?_ (ovc_all (flat 16 (View.read (Elt F) arg21.view f21)) 800 (le_refl _) (View.read (Elt F) arg23.view f))
    iterate 50
      refine ovc_step _ _ _ _ _ _ _ 16 _ rfl rfl (fun x => hcol 16 (by decide) _ _ (by decide) _ (by decide) (by decide) x) ?_
    exact (ovc_zero _ _).symm
  have h28 : arg28.view.readCov (wide_run.sl.H28_1 c arg11 arg14 v1819 v1821 v1822 f11 f14)
      (Rect.unit ![0, 0] S128x800.size inb_S128x800_S128x800_0_0).toLoadRect
      = k0_pay730 (k0_pay622 v1819 v1821 v1822 W11) W14 := by
    refine (View.readCov_full _ _ _ _ _).trans ?_
    exact congr (congrArg k0_pay730 (congrArg (k0_pay622 v1819 v1821 v1822) ((View.readAt_full _ _ _).trans hf11)))
      ((View.readAt_full _ _ _).trans hf14)
  have hv : wide_run.sl.v2300 c arg11 arg14 arg21 arg23 arg28 v1819 v1821 v1822 f11 f14 f21
      = k0_pay732 (wideO X21) (k0_pay730 (k0_pay622 v1819 v1821 v1822 W11) W14) :=
    congr (congrArg k0_pay732 ((View.readAt_full _ _ _).trans (h23 _))) h28
  rw [hv]
  iapply Hk
  isplitl [H11]
  · iexists _
    isplitr
    swap
    · iexact H11
    ipureintro
    exact hf11
  isplitl [H14]
  · iexists _
    isplitr
    swap
    · iexact H14
    ipureintro
    exact hf14
  isplitl [H21]
  · iexists _
    isplitr
    swap
    · iexact H21
    ipureintro
    exact hf21
  isplitl [H22]
  · iexists _
    isplitr
    swap
    · iexact H22
    ipureintro
    refine (View.read_writes_full _ _ _ _ _).trans ?_
    exact congr (congrArg k0_pay731 ((View.readAt_full _ _ _).trans (h22 _))) h28
  isplitl [H23]
  · iexists _, _
    isplitr
    swap
    · iexact H23
    ipureintro
    rfl
  iexists _, _
  isplitr
  swap
  · iexact H28
  ipureintro
  rfl

end Cert.PIdeal

end
-- ==== Proof.Finish.lean ====
/-
  From the two wide buffers to the result: scores, weights, the weighted member rows and the last layers.
-/
module

public import Idealize.ShloMosaic.Lib.VecWindow
public import proofs.«01_k».proof.Proof.Words
public import proofs.«01_k».proof.Proof.Cols
public import Idealize.ShloMosaic.Lib.Pipeline.FrameBody
public import Idealize.ShloMosaic.Lib.Ring
public import Idealize.ShloMosaic.Lib.Tactic

@[expose] public section

set_option maxRecDepth 16384

noncomputable section

namespace Cert.PIdeal

open Cert.P
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (c : Dev nD)
  (i : grid0.Coords) (arg1 : Memref sig .tc .vmem S1x1x6400 .i32) (harg1 : arg1.IsWhole)
  (arg2 : Memref sig .tc .vmem S1x1x264 .i32) (harg2 : arg2.IsWhole)
  (arg3 : Memref sig .tc .vmem S1x128x1 .i32) (harg3 : arg3.IsWhole)
  (arg4 : Memref sig .tc .vmem S1x128x128 .f32) (harg4 : arg4.IsWhole)
  (arg5 : Memref sig .tc .vmem S1x128x128 .f32) (harg5 : arg5.IsWhole)
  (arg6 : Memref sig .tc .vmem S50000x1x128 .f32) (harg6 : arg6.IsWhole)
  (arg7 : Memref sig .tc .vmem S25000x1x128 .f32) (harg7 : arg7.IsWhole)
  (arg8 : Memref sig .tc .vmem S10000x1x128 .f32) (harg8 : arg8.IsWhole)
  (arg9 : Memref sig .tc .vmem S128x32 .f32) (harg9 : arg9.IsWhole)
  (arg10 : Memref sig .tc .vmem S128x32 .f32) (harg10 : arg10.IsWhole)
  (arg11 : Memref sig .tc .vmem S1x16 .f32) (harg11 : arg11.IsWhole)
  (arg12 : Memref sig .tc .vmem S800x128 .f32) (harg12 : arg12.IsWhole)
  (arg13 : Memref sig .tc .vmem S256x6400 .bf16) (harg13 : arg13.IsWhole)
  (arg14 : Memref sig .tc .vmem S16x800 .f32) (harg14 : arg14.IsWhole)
  (arg15 : Memref sig .tc .vmem S192x128 .f32) (harg15 : arg15.IsWhole)
  (arg16 : Memref sig .tc .vmem S1x128 .f32) (harg16 : arg16.IsWhole)
  (arg17 : Memref sig .tc .vmem S128x128 .f32) (harg17 : arg17.IsWhole)
  (arg18 : Memref sig .tc .vmem S1x128 .f32) (harg18 : arg18.IsWhole)
  (arg19 : Memref sig .tc .vmem S1x128x1 .f32) (harg19 : arg19.IsWhole)
  (arg20 : Memref sig .tc .vmem S6400x128 .f32) (harg20 : arg20.IsWhole)
  (arg21 : Memref sig .tc .vmem S6400x32 .f32) (harg21 : arg21.IsWhole)
  (arg22 : Memref sig .tc .vmem S128x800 .f32) (harg22 : arg22.IsWhole)
  (arg23 : Memref sig .tc .vmem S128x800 .f32) (harg23 : arg23.IsWhole)
  (arg24 : Memref sig .tc .vmem S128x128 .f32) (harg24 : arg24.IsWhole)
  (arg25 : Memref sig .tc .vmem S128x128 .f32) (harg25 : arg25.IsWhole)
  (arg26 : Memref sig .tc .vmem S128x256 .f32) (harg26 : arg26.IsWhole)
  (arg27 : Memref sig .tc .vmem S128x6400 .f32) (harg27 : arg27.IsWhole)
  (arg28 : Memref sig .tc .vmem S128x800 .f32) (harg28 : arg28.IsWhole)
  (arg29 : Memref sig .tc .smem S6400 .i32) (harg29 : arg29.IsWhole) (arg30 : Memref sig .tc .smem S264 .i32)
  (harg30 : arg30.IsWhole)

/-- Entry `r, k` of two blocks side by side. -/
def besides (a b : S128x128.Idx → Elt F .f32) (r k : ℕ) : Elt F .f32 :=
  if k < 128 then a (ix2 (Fin.ofNat 128 r) (Fin.ofNat 128 k)) else b (ix2 (Fin.ofNat 128 r) (Fin.ofNat 128 (k - 128)))

/-- Two blocks side by side. -/
def sideBySide (a b : S128x128.Idx → Elt F .f32) : S128x256.Idx → Elt F .f32 :=
  fun y => besides a b (y (0 : Fin 2)).val (y (1 : Fin 2)).val

theorem besides_left (a b : S128x128.Idx → Elt F .f32) (x : S128x128.Idx) :
    a x = besides a b (x (0 : Fin 2)).val (0 + (x (1 : Fin 2)).val) := by
  have x0 : (x (0 : Fin 2)).val < 128 := (x (0 : Fin 2)).isLt
  have x1 : (x (1 : Fin 2)).val < 128 := (x (1 : Fin 2)).isLt
  unfold besides
  rw [if_pos (by omega)]
  congr 1
  funext d
  apply Fin.ext
  match d with
  | ⟨0, _⟩ => exact (Nat.mod_eq_of_lt x0).symm
  | ⟨1, _⟩ =>
    show (x (1 : Fin 2)).val = (0 + (x (1 : Fin 2)).val) % 128
    omega

theorem besides_right (a b : S128x128.Idx → Elt F .f32) (x : S128x128.Idx) :
    b x = besides a b (x (0 : Fin 2)).val (128 + (x (1 : Fin 2)).val) := by
  have x0 : (x (0 : Fin 2)).val < 128 := (x (0 : Fin 2)).isLt
  have x1 : (x (1 : Fin 2)).val < 128 := (x (1 : Fin 2)).isLt
  unfold besides
  rw [if_neg (by omega)]
  congr 1
  funext d
  apply Fin.ext
  match d with
  | ⟨0, _⟩ => exact (Nat.mod_eq_of_lt x0).symm
  | ⟨1, _⟩ =>
    show (x (1 : Fin 2)).val = (128 + (x (1 : Fin 2)).val - 128) % 128
    omega

/-- The result block, from the wide buffers on. -/
def finish (W3 : S1x128x1.Idx → Elt F .i32) (W4 : S1x128x128.Idx → Elt F .f32) (W12 : S800x128.Idx → Elt F .f32)
    (W13 : S256x6400.Idx → Elt F .bf16) (W15 : S192x128.Idx → Elt F .f32) (W16 : S1x128.Idx → Elt F .f32)
    (W17 : S128x128.Idx → Elt F .f32) (W18 : S1x128.Idx → Elt F .f32) (X20 : S6400x128.Idx → Elt F .f32)
    (X22 v2300 : S128x800.Idx → Elt F .f32) (X24 X25 v1821 : S128x128.Idx → Elt F .f32) : S1x128x1.Idx → Elt F .f32 :=
  let X23 := k0_pay733 v2300
  let odd := k0_pay736 X22 W12 X23 W12 W4 W3
  let even := k0_pay737 X22 W12 X23 W12 W4 W3
  let ws := sideBySide even (k0_pay738 odd)
  let wu := k0_pay739 ws W13
  let U := fun k : ℕ => blk (N := 128) (M := 6400) 128 128 0 k wu
  let G := fun r : ℕ => blk (N := 6400) (M := 128) 128 128 r 0 X20
  let v2364 := k0_pay740 (U 0) (G 0) (U 128) (G 128) (U 256) (G 256) (U 384) (G 384)
  let v2396 := k0_pay741 v2364 (U 512) (G 512) (U 640) (G 640) (U 768) (G 768) (U 896) (G 896) (U 1024) (G 1024)
    (U 1152) (G 1152) (U 1280) (G 1280) (U 1408) (G 1408)
  let v2424 := k0_pay742 v2396 (U 1536) (G 1536) (U 1664) (G 1664) (U 1792) (G 1792) (U 1920) (G 1920) (U 2048)
    (G 2048) (U 2176) (G 2176) (U 2304) (G 2304)
  let v2456 := k0_pay743 v2424 (U 2432) (G 2432) (U 2560) (G 2560) (U 2688) (G 2688) (U 2816) (G 2816) (U 2944)
    (G 2944) (U 3072) (G 3072) (U 3200) (G 3200) (U 3328) (G 3328)
  let v2484 := k0_pay744 v2456 (U 3456) (G 3456) (U 3584) (G 3584) (U 3712) (G 3712) (U 3840) (G 3840) (U 3968)
    (G 3968) (U 4096) (G 4096) (U 4224) (G 4224)
  let v2516 := k0_pay745 v2484 (U 4352) (G 4352) (U 4480) (G 4480) (U 4608) (G 4608) (U 4736) (G 4736) (U 4864)
    (G 4864) (U 4992) (G 4992) (U 5120) (G 5120) (U 5248) (G 5248)
  let v2544 := k0_pay746 v2516 (U 5376) (G 5376) (U 5504) (G 5504) (U 5632) (G 5632) (U 5760) (G 5760) (U 5888)
    (G 5888) (U 6016) (G 6016) (U 6144) (G 6144)
  let v2588 := k0_pay747 v1821 v2544 (U 6272) (G 6272) X25 X24 W15 W16 W17 W18
  k0_pay1 v2588

set_option maxHeartbeats 40000000 in
/-- The end of the body. -/
theorem finish_run (W3 : S1x128x1.Idx → Elt F .i32) (W4 : S1x128x128.Idx → Elt F .f32) (W12 : S800x128.Idx → Elt F .f32)
    (W13 : S256x6400.Idx → Elt F .bf16) (W15 : S192x128.Idx → Elt F .f32) (W16 : S1x128.Idx → Elt F .f32)
    (W17 : S128x128.Idx → Elt F .f32) (W18 : S1x128.Idx → Elt F .f32) (X20 : S6400x128.Idx → Elt F .f32)
    (X22 v2300 : S128x800.Idx → Elt F .f32) (X24 X25 v1821 : S128x128.Idx → Elt F .f32) (Q : PUnit → sProp 𝕄) :
    (iprop(owns (c : Thread nD τ) arg3 fullShare W3 ∗ owns (c : Thread nD τ) arg4 fullShare W4
        ∗ owns (c : Thread nD τ) arg12 fullShare W12 ∗ owns (c : Thread nD τ) arg13 fullShare W13
        ∗ owns (c : Thread nD τ) arg15 fullShare W15 ∗ owns (c : Thread nD τ) arg16 fullShare W16
        ∗ owns (c : Thread nD τ) arg17 fullShare W17 ∗ owns (c : Thread nD τ) arg18 fullShare W18
        ∗ (∃ d, owns (c : Thread nD τ) arg19 fullShare d) ∗ owns (c : Thread nD τ) arg20 fullShare X20
        ∗ owns (c : Thread nD τ) arg22 fullShare X22 ∗ (∃ d, owns (c : Thread nD τ) arg23 fullShare d)
        ∗ owns (c : Thread nD τ) arg24 fullShare X24 ∗ owns (c : Thread nD τ) arg25 fullShare X25
        ∗ (∃ d, owns (c : Thread nD τ) arg26 fullShare d) ∗ (∃ d, owns (c : Thread nD τ) arg27 fullShare d)
        ∗ (owns (c : Thread nD τ) arg3 fullShare W3 ∗ owns (c : Thread nD τ) arg4 fullShare W4
        ∗ owns (c : Thread nD τ) arg12 fullShare W12 ∗ owns (c : Thread nD τ) arg13 fullShare W13
        ∗ owns (c : Thread nD τ) arg15 fullShare W15 ∗ owns (c : Thread nD τ) arg16 fullShare W16
        ∗ owns (c : Thread nD τ) arg17 fullShare W17 ∗ owns (c : Thread nD τ) arg18 fullShare W18
        ∗ owns (c : Thread nD τ) arg19 fullShare (finish W3 W4 W12 W13 W15 W16 W17 W18 X20 X22 v2300 X24 X25 v1821)
        ∗ owns (c : Thread nD τ) arg20 fullShare X20
        ∗ owns (c : Thread nD τ) arg22 fullShare X22 ∗ (∃ d, owns (c : Thread nD τ) arg23 fullShare d)
        ∗ owns (c : Thread nD τ) arg24 fullShare X24 ∗ owns (c : Thread nD τ) arg25 fullShare X25
        ∗ (∃ d, owns (c : Thread nD τ) arg26 fullShare d) ∗ (∃ d, owns (c : Thread nD τ) arg27 fullShare d)
          -∗ Q ⟨⟩)) : sProp 𝕄)
      ⊢ wp frame (wpE defs₀ Variants.none (c : Thread nD τ) none) Set.univ
        (do
      let ⟨v2333, v2337⟩ : Σ' (v2333 : FVec F S128x128 .f32), FVec F S128x128 .f32 ← k0_part163 (F := F) i
          arg1 harg1 arg2 harg2 arg3 harg3 arg4 harg4 arg5 harg5 arg6 harg6 arg7 harg7 arg8 harg8 arg9 harg9 arg10
          harg10 arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26 arg27
          harg27 arg28 harg28 arg29 harg29 arg30 harg30 cc0_scratch11 cc0_scratch12 v2300
      let ⟨v2364, v2365⟩ : Σ' (v2364 : FVec F S128x128 .f32), Vec F S128x128 .f32 ← k0_part164 (F := F) i arg1
          harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19
          harg19 arg20 harg20 arg21 harg21 arg22 harg22 arg23 harg23 arg24 harg24 arg25 harg25 arg26 harg26 arg27 harg27
          arg28 harg28 arg29 harg29 arg30 harg30 cc0_scratch11 cc0_scratch12 v2333 v2337
      let v2396 : FVec F S128x128 .f32 ← k0_part165 (F := F) i arg1 harg1 arg2 harg2 arg3 harg3 arg4 harg4
          arg5 harg5 arg6 harg6 arg7 harg7 arg8 harg8 arg9 harg9 arg10 harg10 arg11 harg11 arg12 harg12 arg13 harg13
          arg14 harg14 arg15 harg15 arg16 harg16 arg17 harg17 arg18 harg18 arg19 harg19 arg20 harg20 arg21 harg21 arg22
          harg22 arg23 harg23 arg24 harg24 arg25 harg25 arg26 harg26 arg27 harg27 arg28 harg28 arg29 harg29 arg30 harg30
          cc0_scratch11 cc0_scratch12 v2364 v2365
      let ⟨v2424, v2425⟩ : Σ' (v2424 : FVec F S128x128 .f32), Vec F S128x128 .f32 ← k0_part166 (F := F) i arg1
          harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19
          harg19 arg20 harg20 arg21 harg21 arg22 harg22 arg23 harg23 arg24 harg24 arg25 harg25 arg26 harg26 arg27 harg27
          arg28 harg28 arg29 harg29 arg30 harg30 cc0_scratch11 cc0_scratch12 v2396
      let v2456 : FVec F S128x128 .f32 ← k0_part167 (F := F) i arg1 harg1 arg2 harg2 arg3 harg3 arg4 harg4
          arg5 harg5 arg6 harg6 arg7 harg7 arg8 harg8 arg9 harg9 arg10 harg10 arg11 harg11 arg12 harg12 arg13 harg13
          arg14 harg14 arg15 harg15 arg16 harg16 arg17 harg17 arg18 harg18 arg19 harg19 arg20 harg20 arg21 harg21 arg22
          harg22 arg23 harg23 arg24 harg24 arg25 harg25 arg26 harg26 arg27 harg27 arg28 harg28 arg29 harg29 arg30 harg30
          cc0_scratch11 cc0_scratch12 v2424 v2425
      let ⟨v2484, v2485⟩ : Σ' (v2484 : FVec F S128x128 .f32), Vec F S128x128 .f32 ← k0_part168 (F := F) i arg1
          harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19
          harg19 arg20 harg20 arg21 harg21 arg22 harg22 arg23 harg23 arg24 harg24 arg25 harg25 arg26 harg26 arg27 harg27
          arg28 harg28 arg29 harg29 arg30 harg30 cc0_scratch11 cc0_scratch12 v2456
      let v2516 : FVec F S128x128 .f32 ← k0_part169 (F := F) i arg1 harg1 arg2 harg2 arg3 harg3 arg4 harg4
          arg5 harg5 arg6 harg6 arg7 harg7 arg8 harg8 arg9 harg9 arg10 harg10 arg11 harg11 arg12 harg12 arg13 harg13
          arg14 harg14 arg15 harg15 arg16 harg16 arg17 harg17 arg18 harg18 arg19 harg19 arg20 harg20 arg21 harg21 arg22
          harg22 arg23 harg23 arg24 harg24 arg25 harg25 arg26 harg26 arg27 harg27 arg28 harg28 arg29 harg29 arg30 harg30
          cc0_scratch11 cc0_scratch12 v2484 v2485
      let ⟨v2544, v2545⟩ : Σ' (v2544 : FVec F S128x128 .f32), Vec F S128x128 .f32 ← k0_part170 (F := F) i arg1
          harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19
          harg19 arg20 harg20 arg21 harg21 arg22 harg22 arg23 harg23 arg24 harg24 arg25 harg25 arg26 harg26 arg27 harg27
          arg28 harg28 arg29 harg29 arg30 harg30 cc0_scratch11 cc0_scratch12 v2516
      let v2588 : FVec F S128x1 .f32 ← k0_part171 (F := F) i arg1 harg1 arg2 harg2 arg3 harg3 arg4 harg4 arg5
          harg5 arg6 harg6 arg7 harg7 arg8 harg8 arg9 harg9 arg10 harg10 arg11 harg11 arg12 harg12 arg13 harg13 arg14
          harg14 arg15 harg15 arg16 harg16 arg17 harg17 arg18 harg18 arg19 harg19 arg20 harg20 arg21 harg21 arg22 harg22
          arg23 harg23 arg24 harg24 arg25 harg25 arg26 harg26 arg27 harg27 arg28 harg28 arg29 harg29 arg30 harg30
          cc0_scratch11 cc0_scratch12 v1821 v2544 v2545
      let v2589 : Vec F S1x128x1 .f32 ← Prog.lift (.load arg19 (Rect.unit (s := S1x128x1) ![0, 0, 0]
          S1x128x1.size inb_S1x128x1_S1x128x1_0_0_0).toLoadRect (View.loadsAt_vmem h_S1x128x1))
      Prog.lift (.store arg19 (Rect.unit (s := S1x128x1) ![0, 0, 0] S1x128x1.size inb_S1x128x1_S1x128x1_0_0_0)
          (k0_pay1 v2588) Finset.univ (View.stores_vmem_bits_univ h_S1x128x1 rfl) (.inl rfl))
      pure ⟨⟩) Q := by
  unfold owns
  iintro ⟨⟨%f3, %hf3, H3⟩, ⟨%f4, %hf4, H4⟩, ⟨%f12, %hf12, H12⟩, ⟨%f13, %hf13, H13⟩, ⟨%f15, %hf15, H15⟩, ⟨%f16, %hf16, H16⟩,
    ⟨%f17, %hf17, H17⟩, ⟨%f18, %hf18, H18⟩, ⟨%d19, %f19, -, H19⟩, ⟨%f20, %hf20, H20⟩, ⟨%f22, %hf22, H22⟩,
    ⟨%d23, %f23, -, H23⟩, ⟨%f24, %hf24, H24⟩, ⟨%f25, %hf25, H25⟩, ⟨%d26, %f26, -, H26⟩, ⟨%d27, %f27, -, H27⟩, Hk⟩
  sl_exec
  sl_step
  have h4 : View.readAt (Elt F) arg4.view (Rect.unit ![0, 0, 0] S1x128x128.size inb_S1x128x128_S1x128x128_0_0_0).toLoadRect f4 = W4 :=
    (View.readAt_full _ _ _).trans hf4
  have h3 : View.readAt (Elt F) arg3.view (Rect.unit ![0, 0, 0] S1x128x1.size inb_S1x128x1_S1x128x1_0_0_0).toLoadRect f3 = W3 :=
    (View.readAt_full _ _ _).trans hf3
  have h12 : View.readAt (Elt F) arg12.view (Rect.unit ![0, 0] S800x128.size inb_S800x128_S800x128_0_0).toLoadRect f12 = W12 :=
    (View.readAt_full _ _ _).trans hf12
  have h22 : View.readAt (Elt F) arg22.view (Rect.unit ![0, 0] S128x800.size inb_S128x800_S128x800_0_0).toLoadRect f22 = X22 :=
    (View.readAt_full _ _ _).trans hf22
  have h23 : arg23.view.readCov (finish_run.sl.H23_1 v2300)
      (Rect.unit ![0, 0] S128x800.size inb_S128x800_S128x800_0_0).toLoadRect = k0_pay733 v2300 :=
    View.readCov_full _ _ _ _ _
  have h26 : arg26.view.readCov (finish_run.sl.H26_2 c arg3 arg4 arg12 arg22 arg23 v2300 f3 f4 f12 f22)
      (Rect.unit ![0, 0] S128x256.size inb_S128x256_S128x256_0_0).toLoadRect
      = sideBySide (k0_pay737 X22 W12 (k0_pay733 v2300) W12 W4 W3)
          (k0_pay738 (k0_pay736 X22 W12 (k0_pay733 v2300) W12 W4 W3)) := by
    refine (View.readAt_full _ _ _).trans ?_
    refine Eq.trans ?_ (ovc_all (besides _ _) 256 (le_refl _) (View.read (Elt F) arg26.view arg26.view.junk))
    refine ovc_step _ _ _ _ _ _ 128 128 _ rfl rfl (fun x => ?_) (ovc_step _ _ _ _ _ _ 0 128 _ rfl rfl (fun x => ?_) (ovc_zero _ _).symm)
    · refine Eq.trans (congrFun ?_ x) (besides_right _ _ x)
      show k0_pay738 (k0_pay736 _ _ _ _ _ _) = k0_pay738 (k0_pay736 _ _ _ _ _ _)
      exact congrArg k0_pay738 (congr (congr (congr (congr (congr (congrArg k0_pay736 h22) h12) h23) h12) h4) h3)
    · refine Eq.trans (congrFun ?_ x) (besides_left _ _ x)
      show k0_pay737 _ _ _ _ _ _ = k0_pay737 _ _ _ _ _ _
      exact congr (congr (congr (congr (congr (congrArg k0_pay737 h22) h12) h23) h12) h4) h3
  have h27 : ∀ f, View.read (Elt F) arg27.view (arg27.view.writes (Elt F) f
        (finish_run.sl.H27_1 c arg3 arg4 arg12 arg13 arg22 arg23 arg26 v2300 f3 f4 f12 f13 f22))
      = k0_pay739 (sideBySide (k0_pay737 X22 W12 (k0_pay733 v2300) W12 W4 W3)
          (k0_pay738 (k0_pay736 X22 W12 (k0_pay733 v2300) W12 W4 W3))) W13 := by
    intro f
    refine (View.read_writes_full _ _ _ _ _).trans ?_
    exact congr (congrArg k0_pay739 h26) ((View.readAt_full _ _ _).trans hf13)
  have hU : ∀ (k : ℕ) inb, arg27.view.readCov (finish_run.sl.H27_1 c arg3 arg4 arg12 arg13 arg22 arg23 arg26 v2300 f3 f4 f12 f13 f22)
      (Rect.unit (s := S128x6400) ![0, k] ![128, 128] inb).toLoadRect = blk (N := 128) (M := 6400) 128 128 0 k (k0_pay739 (sideBySide (k0_pay737 X22 W12 (k0_pay733 v2300) W12 W4 W3)
          (k0_pay738 (k0_pay736 X22 W12 (k0_pay733 v2300) W12 W4 W3))) W13) := by
    intro k inb
    exact (readAt_blk (N := 128) (M := 6400) arg27.view _ 128 128 0 k inb).trans (congrArg _ (h27 _))
  have hG : ∀ (r : ℕ) inb, View.readAt (Elt F) arg20.view (Rect.unit (s := S6400x128) ![r, 0] ![128, 128] inb).toLoadRect f20
      = blk (N := 6400) (M := 128) 128 128 r 0 X20 := by
    intro r inb
    exact (readAt_blk (N := 6400) (M := 128) arg20.view _ 128 128 r 0 inb).trans (congrArg _ hf20)
  have hfin : k0_pay1 (finish_run.sl.v2588 c arg3 arg4 arg12 arg13 arg15 arg16 arg17 arg18 arg20 arg22 arg23 arg24 arg25 arg26
              arg27 v2300 v1821 f3 f4 f12 f13 f15 f16 f17 f18 f20 f22 f24 f25) = finish W3 W4 W12 W13 W15 W16 W17 W18 X20 X22 v2300 X24 X25 v1821 := by
    refine congrArg k0_pay1 ?_
    show k0_pay747 _ _ _ _ _ _ _ _ _ _ = k0_pay747 _ _ _ _ _ _ _ _ _ _
    refine congr (congr (congr (congr (congr (congr (congr (congr (congrArg (k0_pay747 v1821) ?_) (hU _ _)) (hG _ _))
      ((View.readAt_full _ _ _).trans hf25)) ((View.readAt_full _ _ _).trans hf24)) ((View.readAt_full _ _ _).trans hf15)) ((View.readAt_full _ _ _).trans hf16)) ((View.readAt_full _ _ _).trans hf17)) ((View.readAt_full _ _ _).trans hf18)
    show k0_pay746 _ _ _ _ _ _ _ _ _ _ _ _ _ _ _ = k0_pay746 _ _ _ _ _ _ _ _ _ _ _ _ _ _ _
    iterate 7 refine congr (congr ?_ (hU _ _)) (hG _ _)
    refine congrArg k0_pay746 ?_
    show k0_pay745 _ _ _ _ _ _ _ _ _ _ _ _ _ _ _ _ _ = k0_pay745 _ _ _ _ _ _ _ _ _ _ _ _ _ _ _ _ _
    iterate 8 refine congr (congr ?_ (hU _ _)) (hG _ _)
    refine congrArg k0_pay745 ?_
    show k0_pay744 _ _ _ _ _ _ _ _ _ _ _ _ _ _ _ = k0_pay744 _ _ _ _ _ _ _ _ _ _ _ _ _ _ _
    iterate 7 refine congr (congr ?_ (hU _ _)) (hG _ _)
    refine congrArg k0_pay744 ?_
    show k0_pay743 _ _ _ _ _ _ _ _ _ _ _ _ _ _ _ _ _ = k0_pay743 _ _ _ _ _ _ _ _ _ _ _ _ _ _ _ _ _
    iterate 8 refine congr (congr ?_ (hU _ _)) (hG _ _)
    refine congrArg k0_pay743 ?_
    show k0_pay742 _ _ _ _ _ _ _ _ _ _ _ _ _ _ _ = k0_pay742 _ _ _ _ _ _ _ _ _ _ _ _ _ _ _
    iterate 7 refine congr (congr ?_ (hU _ _)) (hG _ _)
    refine congrArg k0_pay742 ?_
    show k0_pay741 _ _ _ _ _ _ _ _ _ _ _ _ _ _ _ _ _ = k0_pay741 _ _ _ _ _ _ _ _ _ _ _ _ _ _ _ _ _
    iterate 8 refine congr (congr ?_ (hU _ _)) (hG _ _)
    refine congrArg k0_pay741 ?_
    show k0_pay740 _ _ _ _ _ _ _ _ = k0_pay740 _ _ _ _ _ _ _ _
    iterate 3 refine congr (congr ?_ (hU _ _)) (hG _ _)
    exact congr (congrArg k0_pay740 (hU _ _)) (hG _ _)
  iapply Hk
  isplitl [H3]
  · iexists _
    isplitr
    swap
    · iexact H3
    ipureintro
    exact hf3
  isplitl [H4]
  · iexists _
    isplitr
    swap
    · iexact H4
    ipureintro
    exact hf4
  isplitl [H12]
  · iexists _
    isplitr
    swap
    · iexact H12
    ipureintro
    exact hf12
  isplitl [H13]
  · iexists _
    isplitr
    swap
    · iexact H13
    ipureintro
    exact hf13
  isplitl [H15]
  · iexists _
    isplitr
    swap
    · iexact H15
    ipureintro
    exact hf15
  isplitl [H16]
  · iexists _
    isplitr
    swap
    · iexact H16
    ipureintro
    exact hf16
  isplitl [H17]
  · iexists _
    isplitr
    swap
    · iexact H17
    ipureintro
    exact hf17
  isplitl [H18]
  · iexists _
    isplitr
    swap
    · iexact H18
    ipureintro
    exact hf18
  isplitl [H19]
  · iexists _
    isplitr
    swap
    · iexact H19
    ipureintro
    exact (View.read_writes_full _ _ _ _ _).trans hfin
  isplitl [H20]
  · iexists _
    isplitr
    swap
    · iexact H20
    ipureintro
    exact hf20
  isplitl [H22]
  · iexists _
    isplitr
    swap
    · iexact H22
    ipureintro
    exact hf22
  isplitl [H23]
  · iexists _, _
    isplitr
    swap
    · iexact H23
    ipureintro
    rfl
  isplitl [H24]
  · iexists _
    isplitr
    swap
    · iexact H24
    ipureintro
    exact hf24
  isplitl [H25]
  · iexists _
    isplitr
    swap
    · iexact H25
    ipureintro
    exact hf25
  isplitl [H26]
  · iexists _, _
    isplitr
    swap
    · iexact H26
    ipureintro
    rfl
  iexists _, _
  isplitr
  swap
  · iexact H27
  ipureintro
  rfl

end Cert.PIdeal

end
-- ==== Proof.Body.lean ====
/-
  The whole body at one grid point.
-/
module

public import proofs.«01_k».proof.Proof.Prefix
public import proofs.«01_k».proof.Proof.Slab
public import proofs.«01_k».proof.Proof.Wide
public import proofs.«01_k».proof.Proof.Finish

@[expose] public section

set_option maxRecDepth 16384

noncomputable section

namespace Cert.PIdeal

open Cert.P
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (c : Dev nD)
  (i : grid0.Coords) (arg1 : Memref sig .tc .vmem S1x1x6400 .i32) (harg1 : arg1.IsWhole)
  (arg2 : Memref sig .tc .vmem S1x1x264 .i32) (harg2 : arg2.IsWhole)
  (arg3 : Memref sig .tc .vmem S1x128x1 .i32) (harg3 : arg3.IsWhole)
  (arg4 : Memref sig .tc .vmem S1x128x128 .f32) (harg4 : arg4.IsWhole)
  (arg5 : Memref sig .tc .vmem S1x128x128 .f32) (harg5 : arg5.IsWhole)
  (arg6 : Memref sig .tc .vmem S50000x1x128 .f32) (harg6 : arg6.IsWhole)
  (arg7 : Memref sig .tc .vmem S25000x1x128 .f32) (harg7 : arg7.IsWhole)
  (arg8 : Memref sig .tc .vmem S10000x1x128 .f32) (harg8 : arg8.IsWhole)
  (arg9 : Memref sig .tc .vmem S128x32 .f32) (harg9 : arg9.IsWhole)
  (arg10 : Memref sig .tc .vmem S128x32 .f32) (harg10 : arg10.IsWhole)
  (arg11 : Memref sig .tc .vmem S1x16 .f32) (harg11 : arg11.IsWhole)
  (arg12 : Memref sig .tc .vmem S800x128 .f32) (harg12 : arg12.IsWhole)
  (arg13 : Memref sig .tc .vmem S256x6400 .bf16) (harg13 : arg13.IsWhole)
  (arg14 : Memref sig .tc .vmem S16x800 .f32) (harg14 : arg14.IsWhole)
  (arg15 : Memref sig .tc .vmem S192x128 .f32) (harg15 : arg15.IsWhole)
  (arg16 : Memref sig .tc .vmem S1x128 .f32) (harg16 : arg16.IsWhole)
  (arg17 : Memref sig .tc .vmem S128x128 .f32) (harg17 : arg17.IsWhole)
  (arg18 : Memref sig .tc .vmem S1x128 .f32) (harg18 : arg18.IsWhole)
  (arg19 : Memref sig .tc .vmem S1x128x1 .f32) (harg19 : arg19.IsWhole)
  (arg20 : Memref sig .tc .vmem S6400x128 .f32) (harg20 : arg20.IsWhole)
  (arg21 : Memref sig .tc .vmem S6400x32 .f32) (harg21 : arg21.IsWhole)
  (arg22 : Memref sig .tc .vmem S128x800 .f32) (harg22 : arg22.IsWhole)
  (arg23 : Memref sig .tc .vmem S128x800 .f32) (harg23 : arg23.IsWhole)
  (arg24 : Memref sig .tc .vmem S128x128 .f32) (harg24 : arg24.IsWhole)
  (arg25 : Memref sig .tc .vmem S128x128 .f32) (harg25 : arg25.IsWhole)
  (arg26 : Memref sig .tc .vmem S128x256 .f32) (harg26 : arg26.IsWhole)
  (arg27 : Memref sig .tc .vmem S128x6400 .f32) (harg27 : arg27.IsWhole)
  (arg28 : Memref sig .tc .vmem S128x800 .f32) (harg28 : arg28.IsWhole)
  (arg29 : Memref sig .tc .smem S6400 .i32) (harg29 : arg29.IsWhole) (arg30 : Memref sig .tc .smem S264 .i32)
  (harg30 : arg30.IsWhole)

/-- What a grid point's words are below. -/
structure PointOK (W1 : S1x1x6400.Idx → Elt F .i32) (W2 : S1x1x264.Idx → Elt F .i32) : Prop where
  aux : AuxOK (auxWords W2)
  slabs_nonneg : 0 ≤ (auxWords W2 256).toInt
  slabs_le : (auxWords W2 256).toInt ≤ 50
  members : ∀ i, ((shapeCast S6400 W1 (by decide) : S6400.Idx → Elt F .i32) i : BitVec 32).toNat < 50000

/-- The member rows after a grid point. -/
def pointRows (i : grid0.Coords) (W1 : S1x1x6400.Idx → Elt F .i32) (W2 : S1x1x264.Idx → Elt F .i32)
    (W6 : S50000x1x128.Idx → Elt F .f32) (D : S6400x128.Idx → Elt F .f32) : S6400x128.Idx → Elt F .f32 :=
  memberRows W6 (shapeCast S6400 W1 (by decide)) (auxWords W2 256) (if (i 0).val = 0 then k0_pay340 else D)

/-- The result block of a grid point, from its inputs and its member rows. -/
def blockOut (W1 : S1x1x6400.Idx → Elt F .i32)
    (W2 : S1x1x264.Idx → Elt F .i32)
    (W3 : S1x128x1.Idx → Elt F .i32)
    (W4 : S1x128x128.Idx → Elt F .f32)
    (W5 : S1x128x128.Idx → Elt F .f32)
    (W6 : S50000x1x128.Idx → Elt F .f32)
    (W7 : S25000x1x128.Idx → Elt F .f32)
    (W8 : S10000x1x128.Idx → Elt F .f32)
    (W9 : S128x32.Idx → Elt F .f32)
    (W10 : S128x32.Idx → Elt F .f32)
    (W11 : S1x16.Idx → Elt F .f32)
    (W12 : S800x128.Idx → Elt F .f32)
    (W13 : S256x6400.Idx → Elt F .bf16)
    (W14 : S16x800.Idx → Elt F .f32)
    (W15 : S192x128.Idx → Elt F .f32)
    (W16 : S1x128.Idx → Elt F .f32)
    (W17 : S128x128.Idx → Elt F .f32)
    (W18 : S1x128.Idx → Elt F .f32)
    (R : S6400x128.Idx → Elt F .f32) : S1x128x1.Idx → Elt F .f32 :=
  let I := itemRows W7 (auxWords W2)
  let bias := k0_pay730 (k0_pay622 (k0_pay619 I W10) (k0_pay620 W5) (k0_pay621 I W10) W11) W14
  let heo := k0_pay618 R W9
  finish W3 W4 W12 W13 W15 W16 W17 W18 R (k0_pay731 (wideE heo) bias) (k0_pay732 (wideO heo) bias) I
    (groupRows W8 (auxWords W2)) (k0_pay620 W5)

/-- A program's first stretch run, then the rest from what it leaves. -/
theorem bind_wand {α β : Type} {p : Prog (TpuEff nD τ sig (Elt F) Λ₀ .tc) α} {k : α → Prog (TpuEff nD τ sig (Elt F) Λ₀ .tc) β}
    {P : sProp 𝕄} {R : α → sProp 𝕄} {Q : β → sProp 𝕄}
    (h : P ⊢ wp frame (wpE defs₀ Variants.none (c : Thread nD τ) none) Set.univ p R) :
    iprop(P ∗ (∀ v, R v -∗ wp frame (wpE defs₀ Variants.none (c : Thread nD τ) none) Set.univ (k v) Q))
      ⊢ wp frame (wpE defs₀ Variants.none (c : Thread nD τ) none) Set.univ (p >>= k) Q := by
  rw [wp_bind]
  iintro ⟨HP, HR⟩
  ihave HW := h $$ HP
  iapply (wp_wand _ _ _) $$ HW HR

set_option maxHeartbeats 4000000 in
/-- The body at one grid point. -/
theorem body_run (W1 : S1x1x6400.Idx → Elt F .i32)
    (W2 : S1x1x264.Idx → Elt F .i32)
    (W3 : S1x128x1.Idx → Elt F .i32)
    (W4 : S1x128x128.Idx → Elt F .f32)
    (W5 : S1x128x128.Idx → Elt F .f32)
    (W6 : S50000x1x128.Idx → Elt F .f32)
    (W7 : S25000x1x128.Idx → Elt F .f32)
    (W8 : S10000x1x128.Idx → Elt F .f32)
    (W9 : S128x32.Idx → Elt F .f32)
    (W10 : S128x32.Idx → Elt F .f32)
    (W11 : S1x16.Idx → Elt F .f32)
    (W12 : S800x128.Idx → Elt F .f32)
    (W13 : S256x6400.Idx → Elt F .bf16)
    (W14 : S16x800.Idx → Elt F .f32)
    (W15 : S192x128.Idx → Elt F .f32)
    (W16 : S1x128.Idx → Elt F .f32)
    (W17 : S128x128.Idx → Elt F .f32)
    (W18 : S1x128.Idx → Elt F .f32)
    (D : S6400x128.Idx → Elt F .f32) (hok : PointOK W1 W2) (W : Waits sig Unit) :
    (iprop(owns (c : Thread nD τ) arg1 fullShare W1
        ∗ owns (c : Thread nD τ) arg2 fullShare W2
        ∗ owns (c : Thread nD τ) arg3 fullShare W3
        ∗ owns (c : Thread nD τ) arg4 fullShare W4
        ∗ owns (c : Thread nD τ) arg5 fullShare W5
        ∗ owns (c : Thread nD τ) arg6 fullShare W6
        ∗ owns (c : Thread nD τ) arg7 fullShare W7
        ∗ owns (c : Thread nD τ) arg8 fullShare W8
        ∗ owns (c : Thread nD τ) arg9 fullShare W9
        ∗ owns (c : Thread nD τ) arg10 fullShare W10
        ∗ owns (c : Thread nD τ) arg11 fullShare W11
        ∗ owns (c : Thread nD τ) arg12 fullShare W12
        ∗ owns (c : Thread nD τ) arg13 fullShare W13
        ∗ owns (c : Thread nD τ) arg14 fullShare W14
        ∗ owns (c : Thread nD τ) arg15 fullShare W15
        ∗ owns (c : Thread nD τ) arg16 fullShare W16
        ∗ owns (c : Thread nD τ) arg17 fullShare W17
        ∗ owns (c : Thread nD τ) arg18 fullShare W18
        ∗ (∃ d, owns (c : Thread nD τ) arg19 fullShare d)
        ∗ owns (c : Thread nD τ) arg20 fullShare D
        ∗ (∃ d, owns (c : Thread nD τ) arg21 fullShare d)
        ∗ (∃ d, owns (c : Thread nD τ) arg22 fullShare d)
        ∗ (∃ d, owns (c : Thread nD τ) arg23 fullShare d)
        ∗ (∃ d, owns (c : Thread nD τ) arg24 fullShare d)
        ∗ (∃ d, owns (c : Thread nD τ) arg25 fullShare d)
        ∗ (∃ d, owns (c : Thread nD τ) arg26 fullShare d)
        ∗ (∃ d, owns (c : Thread nD τ) arg27 fullShare d)
        ∗ (∃ d, owns (c : Thread nD τ) arg28 fullShare d)
        ∗ (∃ d, owns (c : Thread nD τ) arg29 fullShare d)
        ∗ (∃ d, owns (c : Thread nD τ) arg30 fullShare d)
        ∗ semVal ((c : Thread nD τ), SemLoc.dma 25) 0
        ∗ semVal ((c : Thread nD τ), SemLoc.dma 26) 0
        ∗ owes (c : Thread nD τ) 0 W) : sProp 𝕄)
      ⊢ wp frame (wpE defs₀ Variants.none (c : Thread nD τ) none) Set.univ
        (cc0_agree_fused (F := F)
    i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 arg27 harg27 arg28 harg28 arg29 harg29 arg30 harg30 cc0_scratch11 cc0_scratch12)
        (fun _ => (iprop(owns (c : Thread nD τ) arg1 fullShare W1
        ∗ owns (c : Thread nD τ) arg2 fullShare W2
        ∗ owns (c : Thread nD τ) arg3 fullShare W3
        ∗ owns (c : Thread nD τ) arg4 fullShare W4
        ∗ owns (c : Thread nD τ) arg5 fullShare W5
        ∗ owns (c : Thread nD τ) arg6 fullShare W6
        ∗ owns (c : Thread nD τ) arg7 fullShare W7
        ∗ owns (c : Thread nD τ) arg8 fullShare W8
        ∗ owns (c : Thread nD τ) arg9 fullShare W9
        ∗ owns (c : Thread nD τ) arg10 fullShare W10
        ∗ owns (c : Thread nD τ) arg11 fullShare W11
        ∗ owns (c : Thread nD τ) arg12 fullShare W12
        ∗ owns (c : Thread nD τ) arg13 fullShare W13
        ∗ owns (c : Thread nD τ) arg14 fullShare W14
        ∗ owns (c : Thread nD τ) arg15 fullShare W15
        ∗ owns (c : Thread nD τ) arg16 fullShare W16
        ∗ owns (c : Thread nD τ) arg17 fullShare W17
        ∗ owns (c : Thread nD τ) arg18 fullShare W18
        ∗ owns (c : Thread nD τ) arg19 fullShare (blockOut W1 W2 W3 W4 W5 W6 W7 W8 W9 W10 W11 W12 W13 W14 W15 W16 W17 W18 (pointRows i W1 W2 W6 D))
        ∗ owns (c : Thread nD τ) arg20 fullShare (pointRows i W1 W2 W6 D)
        ∗ (∃ d, owns (c : Thread nD τ) arg21 fullShare d)
        ∗ (∃ d, owns (c : Thread nD τ) arg22 fullShare d)
        ∗ (∃ d, owns (c : Thread nD τ) arg23 fullShare d)
        ∗ (∃ d, owns (c : Thread nD τ) arg24 fullShare d)
        ∗ (∃ d, owns (c : Thread nD τ) arg25 fullShare d)
        ∗ (∃ d, owns (c : Thread nD τ) arg26 fullShare d)
        ∗ (∃ d, owns (c : Thread nD τ) arg27 fullShare d)
        ∗ (∃ d, owns (c : Thread nD τ) arg28 fullShare d)
        ∗ (∃ d, owns (c : Thread nD τ) arg29 fullShare d)
        ∗ (∃ d, owns (c : Thread nD τ) arg30 fullShare d)
        ∗ semVal ((c : Thread nD τ), SemLoc.dma 25) 0
        ∗ semVal ((c : Thread nD τ), SemLoc.dma 26) 0
        ∗ (∃ W', owes (c : Thread nD τ) 0 W')) : sProp 𝕄)) := by
  iintro ⟨H1, H2, H3, H4, H5, H6, H7, H8, H9, H10, H11, H12, H13, H14, H15, H16, H17, H18, H19, H20, H21, H22, H23, H24, H25, H26, H27, H28, H29, H30, Hs1, Hs2, HW⟩
  simp only [cc0_agree_fused_eq_skeleton]
  unfold cc0_agree_fused_skel
  iapply (bind_wand c (prefix_run c
    i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 arg27 harg27 arg28 harg28 arg29 harg29 arg30 harg30
    W1 W2 W7 W8 D hok.aux W))
  isplitl [H1 H2 H7 H8 H20 H24 H25 H29 H30 Hs1 Hs2 HW]
  · isplitl [H1]
    · iexact H1
    isplitl [H2]
    · iexact H2
    isplitl [H7]
    · iexact H7
    isplitl [H8]
    · iexact H8
    isplitl [H20]
    · iexact H20
    isplitl [H24]
    · iexact H24
    isplitl [H25]
    · iexact H25
    isplitl [H29]
    · iexact H29
    isplitl [H30]
    · iexact H30
    isplitl [Hs1]
    · iexact Hs1
    isplitl [Hs2]
    · iexact Hs2
    iexact HW
  iintro %v ⟨H1, H2, H7, H8, H20, ⟨%d24, H24⟩, ⟨%d25, H25⟩, H29, H30, Hs1, Hs2, HW, %hv⟩
  iapply (bind_wand c (slab_run c
    i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 arg27 harg27 arg28 harg28 arg29 harg29 arg30 harg30
    (auxWords W2) (shapeCast S6400 W1 (by decide)) (shapeCast S264 W2 (by decide)) rfl W5 W6 W7 W8 W9 W10
    (if (i 0).val = 0 then k0_pay340 else D) d24 d25 hok.aux hok.slabs_nonneg hok.slabs_le hok.members v hv))
  isplitl [H5 H6 H8 H9 H10 H20 H21 H24 H25 H29 H30]
  · isplitl [H5]
    · iexact H5
    isplitl [H6]
    · iexact H6
    isplitl [H8]
    · iexact H8
    isplitl [H9]
    · iexact H9
    isplitl [H10]
    · iexact H10
    isplitl [H20]
    · iexact H20
    isplitl [H21]
    · iexact H21
    isplitl [H24]
    · iexact H24
    isplitl [H25]
    · iexact H25
    isplitl [H29]
    · iexact H29
    iexact H30
  iintro %w ⟨H5, H6, H8, H9, H10, H20, H21, H24, H25, H29, H30, %hw⟩
  subst hw
  iapply (wide_run c
    i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 arg27 harg27 arg28 harg28 arg29 harg29 arg30 harg30
    (k0_pay618 (pointRows i W1 W2 W6 D) W9) W11 W14 (k0_pay619 (itemRows W7 (auxWords W2)) W10) (k0_pay620 W5)
    (k0_pay621 (itemRows W7 (auxWords W2)) W10) _ _)
  isplitl [H11]
  · iexact H11
  isplitl [H14]
  · iexact H14
  isplitl [H21]
  · iexact H21
  isplitl [H22]
  · iexact H22
  isplitl [H23]
  · iexact H23
  isplitl [H28]
  · iexact H28
  iintro ⟨H11, H14, H21, H22, H23, H28⟩
  iapply (finish_run c
    i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 arg27 harg27 arg28 harg28 arg29 harg29 arg30 harg30
    W3 W4 W12 W13 W15 W16 W17 W18 (pointRows i W1 W2 W6 D) _ _ (itemRows W7 (auxWords W2)) (groupRows W8 (auxWords W2))
    (k0_pay620 W5) _)
  isplitl [H3]
  · iexact H3
  isplitl [H4]
  · iexact H4
  isplitl [H12]
  · iexact H12
  isplitl [H13]
  · iexact H13
  isplitl [H15]
  · iexact H15
  isplitl [H16]
  · iexact H16
  isplitl [H17]
  · iexact H17
  isplitl [H18]
  · iexact H18
  isplitl [H19]
  · iexact H19
  isplitl [H20]
  · iexact H20
  isplitl [H22]
  · iexact H22
  isplitl [H23]
  · iexact H23
  isplitl [H24]
  · iexact H24
  isplitl [H25]
  · iexact H25
  isplitl [H26]
  · iexact H26
  isplitl [H27]
  · iexact H27

  iintro ⟨H3, H4, H12, H13, H15, H16, H17, H18, H19, H20, H22, H23, H24, H25, H26, H27⟩
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexists _; iexact H21
  isplitl [H22]
  · iexists _; iexact H22
  isplitl [H23]
  · iexact H23
  isplitl [H24]
  · iexists _; iexact H24
  isplitl [H25]
  · iexists _; iexact H25
  isplitl [H26]
  · iexact H26
  isplitl [H27]
  · iexact H27
  isplitl [H28]
  · iexact H28
  isplitl [H29]
  · iexists _; iexact H29
  isplitl [H30]
  · iexists _; iexact H30
  isplitl [Hs1]
  · iexact Hs1
  isplitl [Hs2]
  · iexact Hs2
  iexact HW

end Cert.PIdeal

end
-- ==== Proof.Points.lean ====
/-
  The proof data of the pipeline, the body obligation, and the run.
-/
module

public import proofs.«01_k».proof.Proof.Body
public import proofs.«01_k».proof.Proof.Gen.KernelIdeal.Frame
public import proofs.«01_k».proof.Proof.Gen.KernelIdeal.Points
public import Idealize.ShloMosaic.Lib.Pipeline.FrameBody

@[expose] public section

set_option maxRecDepth 16384

noncomputable section

namespace Cert.PIdeal

open Cert.P
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg) (c : Dev nD)

/-! ## What the buffers hold -/

/-- The member rows before grid point `n`: cleared, then each point's rows laid over what the points before left. -/
def rowsAt : ℕ → S6400x128.Idx → Elt F .f32
  | 0 => k0_pay340
  | n + 1 => if h : n < cfg0.N then
      pointRows (grid0.coords ⟨n, h⟩) (iblk m c 0 ⟨n, h⟩) (iblk m c 1 ⟨n, h⟩) (iblk m c 5 ⟨n, h⟩) (rowsAt n)
    else rowsAt n

/-- The result block of point `t`. -/
def outAt (t : Fin cfg0.N) : S1x128x1.Idx → Elt F .f32 :=
  blockOut (iblk m c 0 t)
    (iblk m c 1 t)
    (iblk m c 2 t)
    (iblk m c 3 t)
    (iblk m c 4 t)
    (iblk m c 5 t)
    (iblk m c 6 t)
    (iblk m c 7 t)
    (iblk m c 8 t)
    (iblk m c 9 t)
    (iblk m c 10 t)
    (iblk m c 11 t)
    (iblk m c 12 t)
    (iblk m c 13 t)
    (iblk m c 14 t)
    (iblk m c 15 t)
    (iblk m c 16 t)
    (iblk m c 17 t)
    (rowsAt m c (t.val + 1))

theorem rowsAt_succ (t : Fin cfg0.N) : rowsAt m c (t.val + 1)
    = pointRows (grid0.coords t) (iblk m c 0 t) (iblk m c 1 t) (iblk m c 5 t) (rowsAt m c t.val) := by
  rw [rowsAt, dif_pos t.isLt]

/-- The words of every point are in range. -/
def WordsOK : Prop := ∀ t : Fin cfg0.N, PointOK (F := F) (iblk m c 0 t) (iblk m c 1 t)

/-! ## The invariant between points -/

/-- The kernel's own transfer cells. -/
abbrev osem0 : Fin 2 → SemLoc sig := fun j => (![SemLoc.dma 25, SemLoc.dma 26] : Fin 2 → SemLoc sig) j

theorem ownSemFacts0 : Pipeline.OwnSemFacts spec0 osem0 := by decide

theorem ownSems00_eq :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 25) 0 ∗ semVal ((c : Thread nD τ), SemLoc.dma 26) 0) := by
  rw [Pipeline.ownSems0_eq_of_list c osem0 [0, 1] (by decide) (by decide)]; rfl

/-- The scratch buffers, the member rows apart. -/
def restScratch : sProp 𝕄 :=
  iprop((∃ d, owns (c : Thread nD τ) (Memref.whole cc0_scratch1) fullShare d)
      ∗ (∃ d, owns (c : Thread nD τ) (Memref.whole cc0_scratch2) fullShare d)
      ∗ (∃ d, owns (c : Thread nD τ) (Memref.whole cc0_scratch3) fullShare d)
      ∗ (∃ d, owns (c : Thread nD τ) (Memref.whole cc0_scratch4) fullShare d)
      ∗ (∃ d, owns (c : Thread nD τ) (Memref.whole cc0_scratch5) fullShare d)
      ∗ (∃ d, owns (c : Thread nD τ) (Memref.whole cc0_scratch6) fullShare d)
      ∗ (∃ d, owns (c : Thread nD τ) (Memref.whole cc0_scratch7) fullShare d)
      ∗ (∃ d, owns (c : Thread nD τ) (Memref.whole cc0_scratch8) fullShare d)
      ∗ (∃ d, owns (c : Thread nD τ) (Memref.whole cc0_scratch9) fullShare d)
      ∗ (∃ d, owns (c : Thread nD τ) (Memref.whole cc0_scratch10) fullShare d)
      ∗ (∃ r, prngReg c r) ∗ semVal ((c : Thread nD τ), SemLoc.dma 25) 0 ∗ semVal ((c : Thread nD τ), SemLoc.dma 26) 0)

/-- Between points: the member rows as the points before left them, the other scratch buffers at anything. -/
def inv (n : ℕ) : sProp 𝕄 :=
  iprop((∃ d, ⌜n ≠ 0 → d = rowsAt m c n⌝ ∗ owns (c : Thread nD τ) (Memref.whole cc0_scratch0) fullShare d) ∗ restScratch c)

theorem PhiD_eq :
    (Pipeline.ΦD osem0 spec0 ∅ (V m) c : sProp 𝕄)
      = iprop(iprop((∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)
      ∗ (∃ d, owns (c : Thread nD τ) (Memref.whole cc0_scratch3) fullShare d)
      ∗ (∃ d, owns (c : Thread nD τ) (Memref.whole cc0_scratch4) fullShare d)
      ∗ (∃ d, owns (c : Thread nD τ) (Memref.whole cc0_scratch5) fullShare d)
      ∗ (∃ d, owns (c : Thread nD τ) (Memref.whole cc0_scratch6) fullShare d)
      ∗ (∃ d, owns (c : Thread nD τ) (Memref.whole cc0_scratch7) fullShare d)
      ∗ (∃ d, owns (c : Thread nD τ) (Memref.whole cc0_scratch8) fullShare d)
      ∗ (∃ d, owns (c : Thread nD τ) (Memref.whole cc0_scratch9) fullShare d)
      ∗ (∃ d, owns (c : Thread nD τ) (Memref.whole cc0_scratch10) fullShare d))
      ∗ (∃ r, prngReg c r)
      ∗ iprop(semVal ((c : Thread nD τ), SemLoc.dma 25) 0 ∗ semVal ((c : Thread nD τ), SemLoc.dma 26) 0) ∗ emp) := by
  rw [Pipeline.ΦD_eq, scopedRest0_eq, ownSems00_eq, BI.bigSep_empty]
  simp only [owns_whole]
  try rfl

theorem inv_in : (Pipeline.ΦD osem0 spec0 ∅ (V m) c : sProp 𝕄) ⊢ inv m c 0 := by
  rw [PhiD_eq]
  unfold inv restScratch
  iintro ⟨⟨S0, S1, S2, S3, S4, S5, S6, S7, S8, S9, S10⟩, Hg, ⟨Q1, Q2⟩, -⟩
  isplitl [S0]
  · icases S0 with ⟨%d, S0⟩
    iexists d
    isplitr
    · ipureintro; exact fun h => absurd rfl h
    iexact S0
  isplitl [S1]
  · iexact S1
  isplitl [S2]
  · iexact S2
  isplitl [S3]
  · iexact S3
  isplitl [S4]
  · iexact S4
  isplitl [S5]
  · iexact S5
  isplitl [S6]
  · iexact S6
  isplitl [S7]
  · iexact S7
  isplitl [S8]
  · iexact S8
  isplitl [S9]
  · iexact S9
  isplitl [S10]
  · iexact S10
  isplitl [Hg]
  · iexact Hg
  isplitl [Q1]
  · iexact Q1
  iexact Q2

theorem inv_out (n : ℕ) : inv m c n ⊢ (Pipeline.ΦD osem0 spec0 ∅ (V m) c : sProp 𝕄) := by
  rw [PhiD_eq]
  unfold inv restScratch
  iintro ⟨⟨%d, -, S0⟩, S1, S2, S3, S4, S5, S6, S7, S8, S9, S10, Hg, Q1, Q2⟩
  isplitl [S0 S1 S2 S3 S4 S5 S6 S7 S8 S9 S10]
  · isplitl [S0]
    · iexists d; iexact S0
    isplitl [S1]
    · iexact S1
    isplitl [S2]
    · iexact S2
    isplitl [S3]
    · iexact S3
    isplitl [S4]
    · iexact S4
    isplitl [S5]
    · iexact S5
    isplitl [S6]
    · iexact S6
    isplitl [S7]
    · iexact S7
    isplitl [S8]
    · iexact S8
    isplitl [S9]
    · iexact S9
    iexact S10
  isplitl [Hg]
  · iexact Hg
  isplitl [Q1 Q2]
  · isplitl [Q1]
    · iexact Q1
    iexact Q2
  iempintro

/-! ## The proof data -/

/-- The arrays as the region finds them, every staged block left in place, the result's block at `outAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => outAt m c t
    | ⟨n + 19, h⟩ => absurd (show n + 19 < 19 from h) (by omega)
  Φ t := inv m c t.val
  q _ := fullShare
  owed _ := 0

theorem A_eq (w : Fin cfg0.W) : (dats m 0 c).A w = V m c (Pipeline.arrRef spec0 w) := by
  dsimp only [dats]

/-- The body's resources at a point. -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
)
/-- What the body leaves at a point. -/
def bodyPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
)

theorem before_of_0 (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem after_0 (t : Fin cfg0.N) : (dats m 0 c).after 0 t = iblk m c 0 t := by dsimp only [dats]
theorem before_0 (t : Fin cfg0.N) (d) : (dats m 0 c).before 0 t d = iblk m c 0 t :=
  before_of_0 m c (dats m 0 c) (A_eq m c 0) (after_0 m c) t d
theorem before_of_1 (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
theorem after_1 (t : Fin cfg0.N) : (dats m 0 c).after 1 t = iblk m c 1 t := by dsimp only [dats]
theorem before_1 (t : Fin cfg0.N) (d) : (dats m 0 c).before 1 t d = iblk m c 1 t :=
  before_of_1 m c (dats m 0 c) (A_eq m c 1) (after_1 m c) t d
theorem before_of_2 (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
theorem after_2 (t : Fin cfg0.N) : (dats m 0 c).after 2 t = iblk m c 2 t := by dsimp only [dats]
theorem before_2 (t : Fin cfg0.N) (d) : (dats m 0 c).before 2 t d = iblk m c 2 t :=
  before_of_2 m c (dats m 0 c) (A_eq m c 2) (after_2 m c) t d
theorem before_of_3 (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
theorem after_3 (t : Fin cfg0.N) : (dats m 0 c).after 3 t = iblk m c 3 t := by dsimp only [dats]
theorem before_3 (t : Fin cfg0.N) (d) : (dats m 0 c).before 3 t d = iblk m c 3 t :=
  before_of_3 m c (dats m 0 c) (A_eq m c 3) (after_3 m c) t d
theorem before_of_4 (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)
theorem after_4 (t : Fin cfg0.N) : (dats m 0 c).after 4 t = iblk m c 4 t := by dsimp only [dats]
theorem before_4 (t : Fin cfg0.N) (d) : (dats m 0 c).before 4 t d = iblk m c 4 t :=
  before_of_4 m c (dats m 0 c) (A_eq m c 4) (after_4 m c) t d
theorem before_of_5 (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl)
    (fun t => by rw [hafter]; unfold Dat.blockOf iblk; rw [hA]; try rfl) t d).trans
    (by unfold Dat.fetched Dat.blockOf iblk; rw [hA]; try rfl)
theorem after_5 (t : Fin cfg0.N) : (dats m 0 c).after 5 t = iblk m c 5 t := by dsimp only [dats]
theorem before_5 (t : Fin cfg0.N) (d) : (dats m 0 c).before 5 t d = iblk m c 5 t :=
  before_of_5 m c (dats m 0 c) (A_eq m c 5) (after_5 m c) t d
theorem before_of_6 (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl)
    (fun t => by rw [hafter]; unfold Dat.blockOf iblk; rw [hA]; try rfl) t d).trans
    (by unfold Dat.fetched Dat.blockOf iblk; rw [hA]; try rfl)
theorem after_6 (t : Fin cfg0.N) : (dats m 0 c).after 6 t = iblk m c 6 t := by dsimp only [dats]
theorem before_6 (t : Fin cfg0.N) (d) : (dats m 0 c).before 6 t d = iblk m c 6 t :=
  before_of_6 m c (dats m 0 c) (A_eq m c 6) (after_6 m c) t d
theorem before_of_7 (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl)
    (fun t => by rw [hafter]; unfold Dat.blockOf iblk; rw [hA]; try rfl) t d).trans
    (by unfold Dat.fetched Dat.blockOf iblk; rw [hA]; try rfl)
theorem after_7 (t : Fin cfg0.N) : (dats m 0 c).after 7 t = iblk m c 7 t := by dsimp only [dats]
theorem before_7 (t : Fin cfg0.N) (d) : (dats m 0 c).before 7 t d = iblk m c 7 t :=
  before_of_7 m c (dats m 0 c) (A_eq m c 7) (after_7 m c) t d
theorem before_of_8 (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl)
    (fun t => by rw [hafter]; unfold Dat.blockOf iblk; rw [hA]; try rfl) t d).trans
    (by unfold Dat.fetched Dat.blockOf iblk; rw [hA]; try rfl)
theorem after_8 (t : Fin cfg0.N) : (dats m 0 c).after 8 t = iblk m c 8 t := by dsimp only [dats]
theorem before_8 (t : Fin cfg0.N) (d) : (dats m 0 c).before 8 t d = iblk m c 8 t :=
  before_of_8 m c (dats m 0 c) (A_eq m c 8) (after_8 m c) t d
theorem before_of_9 (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl)
    (fun t => by rw [hafter]; unfold Dat.blockOf iblk; rw [hA]; try rfl) t d).trans
    (by unfold Dat.fetched Dat.blockOf iblk; rw [hA]; try rfl)
theorem after_9 (t : Fin cfg0.N) : (dats m 0 c).after 9 t = iblk m c 9 t := by dsimp only [dats]
theorem before_9 (t : Fin cfg0.N) (d) : (dats m 0 c).before 9 t d = iblk m c 9 t :=
  before_of_9 m c (dats m 0 c) (A_eq m c 9) (after_9 m c) t d
theorem before_of_10 (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl)
    (fun t => by rw [hafter]; unfold Dat.blockOf iblk; rw [hA]; try rfl) t d).trans
    (by unfold Dat.fetched Dat.blockOf iblk; rw [hA]; try rfl)
theorem after_10 (t : Fin cfg0.N) : (dats m 0 c).after 10 t = iblk m c 10 t := by dsimp only [dats]
theorem before_10 (t : Fin cfg0.N) (d) : (dats m 0 c).before 10 t d = iblk m c 10 t :=
  before_of_10 m c (dats m 0 c) (A_eq m c 10) (after_10 m c) t d
theorem before_of_11 (dat : Dat τ (Elt F) Unit ℕ (Pipeline.UD sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl)
    (fun t => by rw [hafter]; unfold Dat.blockOf iblk; rw [hA]; try rfl) t d).trans
    (by unfold Dat.fetched Dat.blockOf iblk; rw [hA]; try rfl)
theorem after_11 (t : Fin cfg0.N) : (dats m 0 c).after 11 t = iblk m c 11 t := by dsimp only [dats]
theorem before_11 (t : Fin cfg0.N) (d) : (dats m 0 c).before 11 t d = iblk m c 11 t :=
  before_of_11 m c (dats m 0 c) (A_eq m c 11) (after_11 m c) t d
theorem before_of_12 (dat : Dat τ (Elt F) Unit ℕ (Pipeline.UD sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl)
    (fun t => by rw [hafter]; unfold Dat.blockOf iblk; rw [hA]; try rfl) t d).trans
    (by unfold Dat.fetched Dat.blockOf iblk; rw [hA]; try rfl)
theorem after_12 (t : Fin cfg0.N) : (dats m 0 c).after 12 t = iblk m c 12 t := by dsimp only [dats]
theorem before_12 (t : Fin cfg0.N) (d) : (dats m 0 c).before 12 t d = iblk m c 12 t :=
  before_of_12 m c (dats m 0 c) (A_eq m c 12) (after_12 m c) t d
theorem before_of_13 (dat : Dat τ (Elt F) Unit ℕ (Pipeline.UD sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl)
    (fun t => by rw [hafter]; unfold Dat.blockOf iblk; rw [hA]; try rfl) t d).trans
    (by unfold Dat.fetched Dat.blockOf iblk; rw [hA]; try rfl)
theorem after_13 (t : Fin cfg0.N) : (dats m 0 c).after 13 t = iblk m c 13 t := by dsimp only [dats]
theorem before_13 (t : Fin cfg0.N) (d) : (dats m 0 c).before 13 t d = iblk m c 13 t :=
  before_of_13 m c (dats m 0 c) (A_eq m c 13) (after_13 m c) t d
theorem before_of_14 (dat : Dat τ (Elt F) Unit ℕ (Pipeline.UD sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl)
    (fun t => by rw [hafter]; unfold Dat.blockOf iblk; rw [hA]; try rfl) t d).trans
    (by unfold Dat.fetched Dat.blockOf iblk; rw [hA]; try rfl)
theorem after_14 (t : Fin cfg0.N) : (dats m 0 c).after 14 t = iblk m c 14 t := by dsimp only [dats]
theorem before_14 (t : Fin cfg0.N) (d) : (dats m 0 c).before 14 t d = iblk m c 14 t :=
  before_of_14 m c (dats m 0 c) (A_eq m c 14) (after_14 m c) t d
theorem before_of_15 (dat : Dat τ (Elt F) Unit ℕ (Pipeline.UD sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl)
    (fun t => by rw [hafter]; unfold Dat.blockOf iblk; rw [hA]; try rfl) t d).trans
    (by unfold Dat.fetched Dat.blockOf iblk; rw [hA]; try rfl)
theorem after_15 (t : Fin cfg0.N) : (dats m 0 c).after 15 t = iblk m c 15 t := by dsimp only [dats]
theorem before_15 (t : Fin cfg0.N) (d) : (dats m 0 c).before 15 t d = iblk m c 15 t :=
  before_of_15 m c (dats m 0 c) (A_eq m c 15) (after_15 m c) t d
theorem before_of_16 (dat : Dat τ (Elt F) Unit ℕ (Pipeline.UD sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl)
    (fun t => by rw [hafter]; unfold Dat.blockOf iblk; rw [hA]; try rfl) t d).trans
    (by unfold Dat.fetched Dat.blockOf iblk; rw [hA]; try rfl)
theorem after_16 (t : Fin cfg0.N) : (dats m 0 c).after 16 t = iblk m c 16 t := by dsimp only [dats]
theorem before_16 (t : Fin cfg0.N) (d) : (dats m 0 c).before 16 t d = iblk m c 16 t :=
  before_of_16 m c (dats m 0 c) (A_eq m c 16) (after_16 m c) t d
theorem before_of_17 (dat : Dat τ (Elt F) Unit ℕ (Pipeline.UD sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl)
    (fun t => by rw [hafter]; unfold Dat.blockOf iblk; rw [hA]; try rfl) t d).trans
    (by unfold Dat.fetched Dat.blockOf iblk; rw [hA]; try rfl)
theorem after_17 (t : Fin cfg0.N) : (dats m 0 c).after 17 t = iblk m c 17 t := by dsimp only [dats]
theorem before_17 (t : Fin cfg0.N) (d) : (dats m 0 c).before 17 t d = iblk m c 17 t :=
  before_of_17 m c (dats m 0 c) (A_eq m c 17) (after_17 m c) t d

set_option maxHeartbeats 4000000 in
theorem sound_body (hok : WordsOK m c) (t : Fin cfg0.N) :
    bodyPre m c t ⊢ wp frame (wpE (defs₀ (F := F)) Variants.none (c : Thread nD τ) none) Set.univ (bodyAt0 t) (fun _ => bodyPost m c t) := by
  have hR : ∀ d : S6400x128.Idx → Elt F .f32, (t.val ≠ 0 → d = rowsAt m c t.val) →
      pointRows (grid0.coords t) (iblk m c 0 t) (iblk m c 1 t) (iblk m c 5 t) d = rowsAt m c (t.val + 1) := by
    intro d hd
    rw [rowsAt_succ]
    by_cases h : t.val = 0
    · have ht : t = ⟨0, by decide⟩ := Fin.ext h
      have h0 : ((grid0.coords t) 0).val = 0 := by rw [ht]; decide
      unfold pointRows
      rw [if_pos h0, if_pos h0]
    · rw [hd h]
  unfold bodyPre bodyPost bodyAt0
  simp only [before_0, before_1, before_2, before_3, before_4, before_5, before_6, before_7, before_8, before_9, before_10, before_11, before_12, before_13, before_14, before_15, before_16, before_17]
  rw [show (dats m 0 c).Φ t.castSucc = inv m c t.val from rfl, show (dats m 0 c).Φ t.succ = inv m c (t.val + 1) from rfl]
  unfold Dat.owesAt Pipeline.owesWithin inv restScratch
  rw [show (dats m 0 c).owed t.castSucc = 0 from rfl, show (dats m 0 c).owed t.succ = 0 from rfl]
  iintro ⟨⟨⟨%d0, %hd, S0⟩, S1, S2, S3, S4, S5, S6, S7, S8, S9, S10, Hg, Q1, Q2⟩, ⟨%W, -, HW⟩,
    ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩⟩
  iapply (wp_wand_r _ _ _)
  isplitl [H0 H1 H2 H3 H4 H5 H6 H7 H8 H9 H10 H11 H12 H13 H14 H15 H16 H17 H18 S0 S1 S2 S3 S4 S5 S6 S7 S8 S9 S10 Q1 Q2 HW]
  · iapply (body_run c (grid0.coords t) (st0_0 t) (hstage0_0 ((cfg0.slots t 0).cast nbuf0_0))
    (st0_1 t) (hstage0_1 ((cfg0.slots t 1).cast nbuf0_1))
    (st0_2 t) (hstage0_2 ((cfg0.slots t 2).cast nbuf0_2))
    (st0_3 t) (hstage0_3 ((cfg0.slots t 3).cast nbuf0_3))
    (st0_4 t) (hstage0_4 ((cfg0.slots t 4).cast nbuf0_4))
    (st0_5 t) (hstage0_5 ((cfg0.slots t 5).cast nbuf0_5))
    (st0_6 t) (hstage0_6 ((cfg0.slots t 6).cast nbuf0_6))
    (st0_7 t) (hstage0_7 ((cfg0.slots t 7).cast nbuf0_7))
    (st0_8 t) (hstage0_8 ((cfg0.slots t 8).cast nbuf0_8))
    (st0_9 t) (hstage0_9 ((cfg0.slots t 9).cast nbuf0_9))
    (st0_10 t) (hstage0_10 ((cfg0.slots t 10).cast nbuf0_10))
    (st0_11 t) (hstage0_11 ((cfg0.slots t 11).cast nbuf0_11))
    (st0_12 t) (hstage0_12 ((cfg0.slots t 12).cast nbuf0_12))
    (st0_13 t) (hstage0_13 ((cfg0.slots t 13).cast nbuf0_13))
    (st0_14 t) (hstage0_14 ((cfg0.slots t 14).cast nbuf0_14))
    (st0_15 t) (hstage0_15 ((cfg0.slots t 15).cast nbuf0_15))
    (st0_16 t) (hstage0_16 ((cfg0.slots t 16).cast nbuf0_16))
    (st0_17 t) (hstage0_17 ((cfg0.slots t 17).cast nbuf0_17))
    (st0_18 t) (hstage0_18 ((cfg0.slots t 18).cast nbuf0_18))
    (Memref.whole cc0_scratch0) (Memref.isWhole_whole _)
    (Memref.whole cc0_scratch1) (Memref.isWhole_whole _)
    (Memref.whole cc0_scratch2) (Memref.isWhole_whole _)
    (Memref.whole cc0_scratch3) (Memref.isWhole_whole _)
    (Memref.whole cc0_scratch4) (Memref.isWhole_whole _)
    (Memref.whole cc0_scratch5) (Memref.isWhole_whole _)
    (Memref.whole cc0_scratch6) (Memref.isWhole_whole _)
    (Memref.whole cc0_scratch7) (Memref.isWhole_whole _)
    (Memref.whole cc0_scratch8) (Memref.isWhole_whole _)
    (Memref.whole cc0_scratch9) (Memref.isWhole_whole _)
    (Memref.whole cc0_scratch10) (Memref.isWhole_whole _)
      (iblk m c 0 t)
      (iblk m c 1 t)
      (iblk m c 2 t)
      (iblk m c 3 t)
      (iblk m c 4 t)
      (iblk m c 5 t)
      (iblk m c 6 t)
      (iblk m c 7 t)
      (iblk m c 8 t)
      (iblk m c 9 t)
      (iblk m c 10 t)
      (iblk m c 11 t)
      (iblk m c 12 t)
      (iblk m c 13 t)
      (iblk m c 14 t)
      (iblk m c 15 t)
      (iblk m c 16 t)
      (iblk m c 17 t)
      d0 (hok t) W)
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexists _; iexact H18
    isplitl [S0]
    · iexact S0
    isplitl [S1]
    · iexact S1
    isplitl [S2]
    · iexact S2
    isplitl [S3]
    · iexact S3
    isplitl [S4]
    · iexact S4
    isplitl [S5]
    · iexact S5
    isplitl [S6]
    · iexact S6
    isplitl [S7]
    · iexact S7
    isplitl [S8]
    · iexact S8
    isplitl [S9]
    · iexact S9
    isplitl [S10]
    · iexact S10
    isplitl [Q1]
    · iexact Q1
    isplitl [Q2]
    · iexact Q2
    iexact HW
  iintro %_ ⟨H0, H1, H2, H3, H4, H5, H6, H7, H8, H9, H10, H11, H12, H13, H14, H15, H16, H17, H18, S0, S1, S2, S3, S4, S5, S6, S7, S8, S9, S10, Q1, Q2, ⟨%W', HW⟩⟩
  rw [hR d0 hd]
  isplitl [S0 S1 S2 S3 S4 S5 S6 S7 S8 S9 S10 Hg Q1 Q2]
  · isplitl [S0]
    · iexists _
      isplitr
      · ipureintro; exact fun _ => rfl
      iexact S0
    isplitl [S1]
    · iexact S1
    isplitl [S2]
    · iexact S2
    isplitl [S3]
    · iexact S3
    isplitl [S4]
    · iexact S4
    isplitl [S5]
    · iexact S5
    isplitl [S6]
    · iexact S6
    isplitl [S7]
    · iexact S7
    isplitl [S8]
    · iexact S8
    isplitl [S9]
    · iexact S9
    isplitl [S10]
    · iexact S10
    isplitl [Hg]
    · iexact Hg
    isplitl [Q1]
    · iexact Q1
    iexact Q2
  isplitl [HW]
  · iexists W'; isplitr; · ipureintro; exact fun _ _ => Or.inl trivial
    iexact HW
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  iexact H18

theorem defs₀_row (t : Fin cfg0.N) :
    defs₀ (F := F) .tc cfg0.body (cfg0.bodyArgs t (cfg0.slots t)) = bodyAt0 t := by
  unfold defs₀; rw [Defs.onTc_tc]

theorem body_obligation (hok : WordsOK m c) :
    BodyObligation (dats (F := F) m 0 c) (defs₀ (F := F)) Variants.none () Set.univ := fun t => by
  rw [bigSep_W0, bigSep_W0, defs₀_row]
  exact triple_restated (sound_body m c hok t) rfl .rfl fun _ => .rfl

end Cert.PIdeal

end
-- ==== Proof.Run.lean ====
/-
  The run of the whole program, from every point's run: the result array at the pipeline's blocks, the lines after the
  region read at their operands, the arguments unchanged, every counter at zero.
-/
module

public import proofs.«01_k».proof.Proof.Points

@[expose] public section

set_option maxRecDepth 16384

noncomputable section

namespace Cert.PIdeal

open Cert.P
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program around the region. -/
theorem hmain (𝒱₀ : Variants) : Pipeline.HMainK (Ix := Unit) (Name := ℕ) (U := Pipeline.UD sig nD τ) (Lvl := ℕ) cfgs 0 defs₀ 𝒱₀ m
      (main (F := F)) (V m) (fun _ => Pipeline.chain ([hostOps1, hostOps1_1].map StableHlo.seq)) :=
  Pipeline.hmain_around cfgs 0 defs₀ 𝒱₀ m main
    [hostOps0, hostOps0_1, hostOps0_2, hostOps0_3, hostOps0_4, hostOps0_5, hostOps0_6, hostOps0_7, hostOps0_8, hostOps0_9,
      hostOps0_10, hostOps0_11, hostOps0_12, hostOps0_13, hostOps0_14, hostOps0_15, hostOps0_16] [hostOps1, hostOps1_1]
    (by simp only [List.Forall]; exact ⟨hostOps0_sub, hostOps0_1_sub, hostOps0_2_sub, hostOps0_3_sub, hostOps0_4_sub,
      hostOps0_5_sub, hostOps0_6_sub, hostOps0_7_sub, hostOps0_8_sub, hostOps0_9_sub, hostOps0_10_sub, hostOps0_11_sub,
      hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh,
      hostOps0_5_fresh, hostOps0_6_fresh, hostOps0_7_fresh, hostOps0_8_fresh, hostOps0_9_fresh, hostOps0_10_fresh,
      hostOps0_11_fresh, hostOps0_12_fresh, hostOps0_13_fresh, hostOps0_14_fresh, hostOps0_15_fresh, hostOps0_16_fresh⟩)
    main_chain

/-- The buffers the lines after the region write. -/
def tailWrites : List (Ref sig .tc) :=
  [main_call8_v0, main_call8_v1_0, main_v142, main_v143, main_c_29, main_v144, main_v145, main_c_30, main_v146, main_v147,
    main_v148, main_v149, main_v150]

theorem tail_writes : ∀ op ∈ ([hostOps1, hostOps1_1] : List (List (HloOp τ sig (Elt F)))).flatten, ∀ b : Ref sig .tc,
    Proc.devRef .tc b ∈ op.writes → b ∈ tailWrites := by
  have h : (([hostOps1, hostOps1_1] : List (List (HloOp τ sig (Elt F)))).flatten).Forall
      fun op => ∀ b : Ref sig .tc, Proc.devRef .tc b ∈ op.writes → b ∈ tailWrites := by
    simp only [hostOps1, hostOps1_1, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals
      intro b hb
      rw [Proc.devRef_injective (τ := τ) _ hb]
      decide
  exact List.forall_iff_forall_mem.mp h

/-- A buffer the lines after the region do not write and no window stages ends as the region found it. -/
theorem tail_keeps (dats : (p : Fin 1) → (c : Dev nD) → Dat τ (Elt F) Unit ℕ (Pipeline.UD sig nD τ) ℕ (cfgs p) c) (c : Dev nD)
    (b : Ref sig .tc) (hb : b ∉ tailWrites) (ha : ∀ w, Pipeline.arrRef spec0 w ≠ b) :
    Pipeline.afterTail₀ cfgs dats 0 (V0 m) [hostOps1, hostOps1_1] c b = V m c b := by
  unfold Pipeline.afterTail₀
  rw [StableHlo.after_of_forall_not_mem (b := Proc.devRef .tc b) _ _ (fun op hop h => hb (tail_writes op hop b h)),
    Pipeline.withArrays_of_ne _ c (V0 m c) _ b ha]

/-- What a run ends with. -/
abbrev Ends (r : PUnit × MemSt nD τ sig (Elt F)) : Prop :=
  Pipeline.FramePost cfgs (dats m) 0 (Pipeline.afterTail₀ cfgs (dats m) 0 (V0 m) [hostOps1, hostOps1_1]) r
    ∧ r.2.sem = fun _ => 0

set_option backward.isDefEq.respectTransparency.types false in
theorem run_main (hok : ∀ c, WordsOK m c) : θ_run defs (onTc (τ := τ) (main (F := F))) (s₀ m ρ) (Ends m) :=
  Pipeline.θ_run_frame_dma_around cfgs (dats m) (0 : Fin 1) launch0 osem0 defs₀ Variants.none ownSemFacts0 ∅
    (Finset.empty_subset _) m ρ main
    (hbody := fun c => (body_obligation m c (hok c)).loose) (hshare := fun c => (dats m 0 c).share_full fun _ => rfl)
    (howed := fun _ _ => rfl) (V0 m) [hostOps1, hostOps1_1]
    (by
      intro ops h op ho
      rw [Pipeline.tailRefsBut_empty]
      exact sfx_sub ops h op ho)
    sfx_fresh sfx_keeps
    (hmain := hmain m Variants.none) (hA := A_eq m)
    (hin := fun c => inv_in m c) (hout := fun c => inv_out m c _) (Q' := Ends m) (hQ' := fun _ h => h)

end Cert.PIdeal

end
-- ==== Proof.Host.lean ====
/-
  What the lines before the region leave in the two arrays of row numbers: the order of the requests by member count, the
  row numbers in that order, and the words the kernel reads.
-/
module

public import proofs.«01_k».proof.Proof.Gen.KernelIdeal.Frame
public import Idealize.ShloMosaic.Lib.StableHlo.RunRead

@[expose] public section

set_option maxRecDepth 16384

noncomputable section

namespace Cert.PIdeal

open Cert.KernelIdeal Cert.KernelIdeal.Gen
open Idealize.ShloMosaic Idealize.ShloMosaic.TcCoe Idealize.ShloMosaic.Tactic
open Idealize.SL.Sem

variable {F : FTy → Type} [FloatOps F] [Named F]

/-- The requests in order of member count: position by position, the request's number. -/
def order (x : IVec S16384 32) : IVec S16384 32 := (Host.sort2 S16384 0 comparator_i32_i32_d0 x (iotaInDim S16384 32 0)).2

/-- A negative number counted from the end, as an index column. -/
def wrapIdx (p : IVec S16384 32) : IVec S16384x1 32 :=
  broadcastInDim S16384x1 ![0] bcast_S16384_S16384x1_0
    (select (cmpi .slt p (broadcastInDim S16384 ![] bcast_S_S16384 (constantI S_ 32 0#32)))
      (addi p (broadcastInDim S16384 ![] bcast_S_S16384 (constantI S_ 32 16384#32))) p)

/-- One word per request, in the order of `l`. -/
def sorted1 (l x : IVec S16384 32) : IVec S16384 32 :=
  Host.gather gather_S16384_S16384x1_S16384_n_0_n_n_0_1_1 x (wrapIdx (order l))

/-- The requests' member numbers, in the order of `l`. -/
def sorted2 (l : IVec S16384 32) (x : IVec S16384x50 32) : IVec S16384x50 32 :=
  Host.gather gather_S16384x50_S16384x1_S16384x50_1_0_n_n_0_1_150 x (wrapIdx (order l))

/-- One more than the largest member count of each group of 128 requests. -/
def slabCount (l : IVec S16384 32) : IVec S128 32 :=
  addi (Host.reduce IntOp.maxsi (shapeCast S128x128 (sorted1 l l) shapeCasts_S16384_S128x128) (constantI S_ 32 2147483648#32)
    reducesTo_S128x128_S128_d1 h_S_) (broadcastInDim S128 ![] bcast_S_S128 (constantI S_ 32 1#32))

/-- The halved member numbers, group by group, member by member. -/
def hostIds (l : IVec S16384 32) (x : IVec S16384x50 32) : IVec S128x1x6400 32 :=
  shapeCast S128x1x6400 (transpose S128x50x128 [0, 2, 1] (shapeCast S128x128x50
    (Host.shrsi (sorted2 l x) (broadcastInDim S16384x50 ![] bcast_S_S16384x50 (constantI S_ 32 1#32)))
    shapeCasts_S16384x50_S128x128x50) transposes_S128x128x50_S128x50x128_0_2_1) shapeCasts_S128x50x128_S128x1x6400

/-- One word per request, halved, group by group. -/
def halved (l x : IVec S16384 32) : IVec S128x1x128 32 :=
  shapeCast S128x1x128 (Host.shrsi (sorted1 l x) (broadcastInDim S16384 ![] bcast_S_S16384 (constantI S_ 32 1#32)))
    shapeCasts_S16384_S128x1x128

/-- Three arrays side by side. -/
def join3 (a b : IVec S128x1x128 32) (d : IVec S128x1x8 32) : IVec S128x1x264 32 :=
  concatenate S128x1x264 2 [⟨S128x1x128, a⟩, ⟨S128x1x128, b⟩, ⟨S128x1x8, d⟩]
    concatenates_S128x1x128_S128x1x128_S128x1x8_S128x1x264_d2

/-- The slab count of each group, eight times. -/
def slabs8 (l : IVec S16384 32) : IVec S128x1x8 32 :=
  broadcastInDim S128x1x8 ![0, 1, 2] bcast_S128x1x1_S128x1x8_0_1_2
    (broadcastInDim S128x1x1 ![0] bcast_S128_S128x1x1_0 (slabCount l))

/-- The halved item and group numbers and the slab count, group by group. -/
def hostAux (l it gr : IVec S16384 32) : IVec S128x1x264 32 := join3 (halved l it) (halved l gr) (slabs8 l)

variable (m : (ℓ : Loc nD τ sig) → Buf (Elt F) ℓ) (c : Dev nD)

abbrev argV (b : Ref sig .tc) : Buf (Elt F) ((c : Thread nD τ).loc b) := m ((c : Thread nD τ).loc b)

set_option maxHeartbeats 4000000 in
theorem V_ids : V m c main_v40 = hostIds (argV m c main_arg3) (argV m c main_arg2) := by
  unfold V V0
  simp only [List.flatten_cons, List.flatten_nil, List.append_nil, List.cons_append, List.nil_append, hostOps0, hostOps0_1, hostOps0_2]
  after_reads_simp
  rfl

set_option maxHeartbeats 4000000 in
theorem V_aux : V m c main_v66
    = hostAux (argV m c main_arg3) (argV m c main_arg1) (argV m c main_arg0) := by
  unfold V V0
  simp only [List.flatten_cons, List.flatten_nil, List.append_nil, List.cons_append, List.nil_append, hostOps0, hostOps0_1, hostOps0_2]
  after_reads_simp
  refine Eq.trans (b := join3 _ _ _) rfl (congr (congr (congrArg join3 ?_) ?_) ?_) <;>
    (try simp only [Matrix.cons_val_zero, Matrix.cons_val_one, Matrix.cons_val]
     after_reads_simp
     rfl)

end Cert.PIdeal

end
-- ==== Proof.HostInts.lean ====
/-
  The words the kernel reads are in range: from the ranges of the requests' numbers to the row numbers of every point.
-/
module

public import proofs.«01_k».proof.Proof.Host
public import proofs.«01_k».proof.Proof.Points
public import Idealize.ShloMosaic.Lib.Pipeline.ValueKit

@[expose] public section

set_option maxRecDepth 16384

noncomputable section

namespace Cert.PIdeal

open Cert.KernelIdeal Cert.KernelIdeal.Gen
open Idealize.ShloMosaic Idealize.ShloMosaic.TcCoe Idealize.ShloMosaic.Tactic
open Idealize.SL.Sem

variable {F : FTy → Type} [FloatOps F] [Named F]

open Cert.P

theorem index_0 : ∀ t : Fin grid0.N, win0_0.index t = ![(grid0.coords t 0).val, 0, 0] := by decide +kernel
theorem index_1 : ∀ t : Fin grid0.N, win0_1.index t = ![(grid0.coords t 0).val, 0, 0] := by decide +kernel
theorem coords_val : ∀ t : Fin grid0.N, (grid0.coords t 0).val = t.val := by decide +kernel

variable (m : (ℓ : Loc nD τ sig) → Buf (Elt F) ℓ) (c : Dev nD)

theorem iblk_0_at (t : Fin cfg0.N) (y : S1x1x6400.Idx) :
    iblk m c 0 t y = V m c main_v40 (ix3 (⟨t.val, t.isLt⟩ : Fin 128) (y 1) (y 2)) := by
  blk_ext [iblk, index_0 t, coords_val t]

theorem iblk_1_at (t : Fin cfg0.N) (y : S1x1x264.Idx) :
    iblk m c 1 t y = V m c main_v66 (ix3 (⟨t.val, t.isLt⟩ : Fin 128) (y 1) (y 2)) := by
  blk_ext [iblk, index_1 t, coords_val t]

/-- Half of a word below an even bound. -/
theorem half_lt (w : BitVec 32) (n : ℕ) (h0 : 0 ≤ w.toInt) (h : w.toInt < 2 * n) :
    (IntOp.shrsi .host w 1#32).toNat < n := by
  have e : IntOp.shrsi .host w 1#32 = w.sshiftRight 1 := rfl
  rw [e]
  have hi : (w.sshiftRight 1).toInt = w.toInt >>> 1 := BitVec.toInt_sshiftRight ..
  have hw : w.toInt = w.toNat := by
    rw [BitVec.toInt_eq_toNat_cond] at h0 ⊢
    split <;> omega
  have h2 : w.toInt >>> 1 = w.toInt / 2 := by rw [Int.shiftRight_eq_div_pow]; rfl
  rw [h2] at hi
  rw [BitVec.toInt_eq_toNat_cond] at hi
  split at hi <;> omega

/-- Every word of `x` lies between zero and `n`. -/
def Below {s : Shape} (x : IVec s 32) (n : ℕ) : Prop := ∀ i, 0 ≤ (x i).toInt ∧ (x i).toInt < n

theorem sorted1_below {l x : IVec S16384 32} {n : ℕ} (h : Below x n) : Below (sorted1 l x) n := fun _ => h _
theorem sorted2_below {l : IVec S16384 32} {x : IVec S16384x50 32} {n : ℕ} (h : Below x n) : Below (sorted2 l x) n :=
  fun _ => h _

theorem foldl_maxsi {α : Type} (f : α → BitVec 32) (hf : ∀ a, 0 ≤ (f a).toInt ∧ (f a).toInt < 50) (L : List α) :
    ∀ r : BitVec 32, (r = 2147483648#32 ∧ L ≠ [] ∨ 0 ≤ r.toInt ∧ r.toInt < 50) →
      0 ≤ (L.foldl (fun r a => IntOp.maxsi r (f a)) r).toInt ∧ (L.foldl (fun r a => IntOp.maxsi r (f a)) r).toInt < 50 := by
  induction L with
  | nil => intro r h; simpa using h
  | cons a L ih =>
    intro r h
    rw [List.foldl_cons]
    refine ih _ (Or.inr ?_)
    have ha := hf a
    unfold IntOp.maxsi
    split
    · rename_i hs
      rcases h with ⟨hr, -⟩ | h
      · exfalso
        subst hr
        have h2 : (2147483648#32 : BitVec 32).toInt = -2147483648 := by decide
        rw [BitVec.slt_iff_toInt_lt, h2] at hs
        omega
      · exact h
    · exact ha

theorem slabCount_range {l : IVec S16384 32} (h : Below l 50) (j : S128.Idx) :
    0 ≤ (slabCount l j).toInt ∧ (slabCount l j).toInt ≤ 50 := by
  have hr := foldl_maxsi (fun n => shapeCast S128x128 (sorted1 l l) shapeCasts_S16384_S128x128 (S128x128.rowMajor.symm n))
    (fun n => sorted1_below h _)
    ((List.finRange S128x128.numel).filter fun n => reducesTo_S128x128_S128_d1.drop (S128x128.rowMajor.symm n) = j) 2147483648#32
    (Or.inl ⟨rfl, by
      intro he
      have hm : S128x128.rowMajor (ix2 (j 0) 0) ∈ (List.finRange S128x128.numel).filter fun n =>
          reducesTo_S128x128_S128_d1.drop (S128x128.rowMajor.symm n) = j := by
        rw [List.mem_filter]
        refine ⟨List.mem_finRange _, ?_⟩
        rw [Equiv.symm_apply_apply]
        simp only [decide_eq_true_eq]
        funext a
        fin_cases a
        rfl
      rw [he] at hm
      cases hm⟩)
  have e (w : BitVec 32) (hw : 0 ≤ w.toInt ∧ w.toInt < 50) : 0 ≤ (w + 1#32).toInt ∧ (w + 1#32).toInt ≤ 50 := by
    have h1 : (1#32 : BitVec 32).toInt = 1 := by decide
    rw [BitVec.toInt_add, h1, Int.bmod_eq_of_le (by omega) (by omega)]
    omega
  exact e _ hr

theorem halved_lt {l x : IVec S16384 32} {n : ℕ} (h : Below x (2 * n)) (i : S128x1x128.Idx) : (halved l x i).toNat < n :=
  half_lt _ _ (sorted1_below (l := l) h _).1 (sorted1_below (l := l) h _).2

theorem hostIds_lt {l : IVec S16384 32} {x : IVec S16384x50 32} {n : ℕ} (h : Below x (2 * n)) (i : S128x1x6400.Idx) :
    (hostIds l x i).toNat < n :=
  half_lt _ _ (sorted2_below (l := l) h _).1 (sorted2_below (l := l) h _).2

theorem join3_at (a b : IVec S128x1x128 32) (d : IVec S128x1x8 32) (t : Fin 128) (n : Fin 264) :
    join3 a b d (ix3 t 0 n) = if h : n.val < 128 then a (ix3 t 0 ⟨n.val, h⟩)
      else if h2 : n.val - 128 < 128 then b (ix3 t 0 ⟨n.val - 128, h2⟩)
      else d (ix3 t 0 ⟨n.val - 128 - 128, by omega⟩) := by
  unfold join3
  pointwise

theorem auxWords_at (W2 : S1x1x264.Idx → Elt F .i32) (n : ℕ) (hn : n < 264) :
    auxWords W2 n = W2 (ix3 0 0 ⟨n, hn⟩) := by
  unfold auxWords wordsOf
  pointwise
  rw [show Fin.ofNat 264 n = ⟨n, hn⟩ from Fin.ext (Nat.mod_eq_of_lt hn)]

variable (h0 : Below (argV m c main_arg0) 20000) (h1 : Below (argV m c main_arg1) 50000)
  (h2 : Below (argV m c main_arg2) 100000) (h3 : Below (argV m c main_arg3) 50)

include h0 h1 in
theorem aux_lt (t : Fin cfg0.N) : AuxOK (auxWords (iblk m c 1 t)) where
  item n hn := by
    rw [auxWords_at _ n (by omega), iblk_1_at, V_aux]
    unfold hostAux
    rw [show (ix3 (⟨t.val, t.isLt⟩ : Fin 128) (ix3 (0 : Fin 1) (0 : Fin 1) (⟨n, by omega⟩ : Fin 264) 1)
      (ix3 (0 : Fin 1) (0 : Fin 1) (⟨n, by omega⟩ : Fin 264) 2) : S128x1x264.Idx) = ix3 (⟨t.val, t.isLt⟩ : Fin 128) 0 (⟨n, by omega⟩ : Fin 264) from rfl,
      join3_at, dif_pos hn]
    exact halved_lt h1 _
  group n hn := by
    rw [auxWords_at _ (n + 128) (by omega), iblk_1_at, V_aux]
    unfold hostAux
    rw [show (ix3 (⟨t.val, t.isLt⟩ : Fin 128) (ix3 (0 : Fin 1) (0 : Fin 1) (⟨n + 128, by omega⟩ : Fin 264) 1)
      (ix3 (0 : Fin 1) (0 : Fin 1) (⟨n + 128, by omega⟩ : Fin 264) 2) : S128x1x264.Idx) = ix3 (⟨t.val, t.isLt⟩ : Fin 128) 0 (⟨n + 128, by omega⟩ : Fin 264) from rfl,
      join3_at, dif_neg (by simp), dif_pos (by simpa using hn)]
    exact halved_lt h0 _

theorem aux_256 (t : Fin cfg0.N) :
    auxWords (iblk m c 1 t) 256 = slabCount (argV m c main_arg3) (ix1 (⟨t.val, t.isLt⟩ : Fin 128)) := by
  rw [auxWords_at _ 256 (by omega), iblk_1_at, V_aux]
  unfold hostAux
  rw [show (ix3 (⟨t.val, t.isLt⟩ : Fin 128) (ix3 (0 : Fin 1) (0 : Fin 1) (⟨256, by omega⟩ : Fin 264) 1)
      (ix3 (0 : Fin 1) (0 : Fin 1) (⟨256, by omega⟩ : Fin 264) 2) : S128x1x264.Idx) = ix3 (⟨t.val, t.isLt⟩ : Fin 128) 0 (⟨256, by omega⟩ : Fin 264) from rfl,
    join3_at, dif_neg (by simp), dif_neg (by simp)]
  unfold slabs8
  pointwise

include h0 h1 h2 h3 in
/-- With every argument word in range, every point's row numbers are in range. -/
theorem words_ok : WordsOK m c := fun t =>
  { aux := aux_lt m c h0 h1 t
    slabs_nonneg := by rw [aux_256]; exact (slabCount_range h3 _).1
    slabs_le := by rw [aux_256]; exact (slabCount_range h3 _).2
    members := fun i => by
      have e : ∀ y : S1x1x6400.Idx, (iblk m c 0 t y).toNat < 50000 := fun y => by
        rw [iblk_0_at, V_ids]
        exact hostIds_lt h2 _
      exact e _ }

end Cert.PIdeal

end
-- ==== Proof.Ranges.lean ====
/-
  What the precondition says: every request number of the arguments is in its table.
-/
module

public import proofs.«01_k».proof.Defs
public import Idealize.ShloMosaic.Lib.ReduceAll
public import Idealize.ShloMosaic.Lib.Affine

@[expose] public section

set_option maxRecDepth 16384

noncomputable section

namespace Cert.P

open Idealize.ShloMosaic

theorem preInts : Cert.Pre_ids_in_range.Facts where
  bcast_S_S16384 := by decide
  reducesTo_S16384_S_d0 := by decide
  h_S_ := by decide
  bcast_S_S16384x50 := by decide
  reducesTo_S16384x50_S_d0_1 := by decide

/-- Every word of `x` lies between zero and `n`. -/
def Words {s : Shape} (x : IVec s 32) (n : ℕ) : Prop := ∀ i, 0 ≤ (x i).toInt ∧ (x i).toInt < n

instance : Subsingleton (⟨0, ![]⟩ : Shape).Idx := ⟨fun _ _ => funext fun i => Fin.elim0 i⟩

/-- Both range tests of every word passed. -/
theorem words_of {s : Shape} {axes : List (Fin s.rank)} {S0 : Shape} [Subsingleton S0.Idx] {x lo hi : IVec s 32} {n : ℕ} {init : IVec S0 1}
    {h : s.ReducesTo axes S0} {hu : 0 < S0.numel} {j : S0.Idx} {w : BitVec 32}
    (e : Host.reduce IntOp.andi (andi (cmpi .sge x lo) (cmpi .slt x hi)) init h hu j = 1#1)
    (hlo : ∀ i, lo i = 0#32) (hhi : ∀ i, hi i = w) (hw : w.toInt = n) : Words x n := by
  intro i
  have e1 := Host.reduce_andi_all _ init h hu j e i
  obtain ⟨a, b⟩ := IntOp.andi_eq_one.1 (show IntOp.andi _ _ = 1#1 from e1)
  have a' := IntOp.cmpi_sge.1 a
  have b' := IntOp.cmpi_slt.1 b
  rw [hlo] at a'
  rw [hhi, hw] at b'
  exact ⟨a', b'⟩

section
variable {F : FTy → Type} [FloatOps F]

variable (x0 x1 : IVec ⟨1, ![16384]⟩ 32) (x2 : IVec ⟨2, ![16384, 50]⟩ 32) (x3 : IVec ⟨1, ![16384]⟩ 32)
  (x4 : FVec F ⟨2, ![100000, 64]⟩ .f32) (x5 : FVec F ⟨2, ![50000, 64]⟩ .f32) (x6 : FVec F ⟨2, ![20000, 64]⟩ .f32)
  (x7 : FVec F ⟨2, ![128, 16]⟩ .f32) (x8 : FVec F ⟨1, ![16]⟩ .f32) (x9 : FVec F ⟨2, ![16, 1]⟩ .f32)
  (x10 : FVec F ⟨1, ![1]⟩ .f32) (x11 : FVec F ⟨2, ![192, 8]⟩ .f32) (x12 : FVec F ⟨1, ![8]⟩ .f32)
  (x13 : FVec F ⟨2, ![8, 1]⟩ .f32) (x14 : FVec F ⟨1, ![1]⟩ .f32)

theorem ints_of (h : @Cert.Pre_ids_in_range.fn preInts F _ x0 x1 x2 x3 x4 x5 x6 x7 x8 x9 x10 x11 x12 x13 x14 = fun _ => 1#1) :
    Words x0 20000 ∧ Words x1 50000 ∧ Words x2 100000 ∧ Words x3 50 := by
  have h' := congrFun h (fun i => Fin.elim0 i)
  dsimp only [Cert.Pre_ids_in_range.fn, Cert.Pre_ids_in_range.fn_part1] at h'
  obtain ⟨h012, h3⟩ := IntOp.andi_eq_one.1 (show IntOp.andi _ _ = 1#1 from h')
  obtain ⟨h01, h2⟩ := IntOp.andi_eq_one.1 (show IntOp.andi _ _ = 1#1 from h012)
  obtain ⟨h0, h1⟩ := IntOp.andi_eq_one.1 (show IntOp.andi _ _ = 1#1 from h01)
  exact ⟨words_of h0 (fun _ => rfl) (fun _ => rfl) (by decide), words_of h1 (fun _ => rfl) (fun _ => rfl) (by decide),
    words_of h2 (fun _ => rfl) (fun _ => rfl) (by decide), words_of h3 (fun _ => rfl) (fun _ => rfl) (by decide)⟩

end

end Cert.P

end
-- ==== Proof.Frame.lean ====
/-
  A run of the whole program ends with the arguments untouched.
-/
module

public import proofs.«01_k».proof.Proof.Run
public import proofs.«01_k».proof.Proof.HostInts
public import proofs.«01_k».proof.Proof.Ranges

@[expose] public section

set_option maxRecDepth 16384

noncomputable section

namespace Cert.PIdeal

open Cert.KernelIdeal Cert.KernelIdeal.Gen
open Idealize.ShloMosaic Idealize.ShloMosaic.TcCoe Idealize.ShloMosaic.Tactic
open Idealize.SL.Sem

variable {F : FTy → Type} [FloatOps F] [Named F]

open Cert.P

variable (m : (ℓ : Loc nD τ sig) → Buf (Elt F) ℓ) (ρ : Dev nD → PrngReg)

/-- The request numbers of an initial memory are in their tables. -/
def InTables : Prop := ∀ c : Dev nD,
  Words (s := S16384) (m ((c.tc : Thread nD τ).loc main_arg0)) 20000 ∧ Words (s := S16384) (m ((c.tc : Thread nD τ).loc main_arg1)) 50000
    ∧ Words (s := S16384x50) (m ((c.tc : Thread nD τ).loc main_arg2)) 100000 ∧ Words (s := S16384) (m ((c.tc : Thread nD τ).loc main_arg3)) 50

/-- Request numbers in their tables give every point words in range. -/
theorem words_of_tables (h : InTables m) (c : Dev nD) : WordsOK m c :=
  words_ok m c (h c).1 (h c).2.1 (h c).2.2.1 (h c).2.2.2

/-- The program's run, from request numbers in their tables. -/
theorem run_tables (h : InTables m) : θ_run defs (onTc (τ := τ) (main (F := F))) (s₀ m ρ) (Ends m) :=
  run_main m ρ (words_of_tables m h)

/-- A buffer no line of the program writes ends as it began. -/
theorem kept {r : PUnit × MemSt nD τ sig (Elt F)} (h : Ends m r) (c : Dev nD) (b : Ref sig .tc)
    (hs : b ∈ Pipeline.restRefs sig spec0) (hb : b ∉ tailWrites) (ha : ∀ w, Pipeline.arrRef spec0 w ≠ b)
    (hV : V m c b = m ((c.tc : Thread nD τ).loc b)) : r.2.mem ((c.tc : Thread nD τ).loc b) = m ((c.tc : Thread nD τ).loc b) :=
  ((h.1 c).2 b hs).trans ((tail_keeps m (dats m) c b hb ha).trans hV)

/-- The arguments of a memory after a run are those before it. -/
def ArgsKept (r : MemSt nD τ sig (Elt F)) (c : Dev nD) : Prop :=
  r.mem ((c.tc : Thread nD τ).loc main_arg0) = m ((c.tc : Thread nD τ).loc main_arg0)
    ∧ r.mem ((c.tc : Thread nD τ).loc main_arg1) = m ((c.tc : Thread nD τ).loc main_arg1)
    ∧ r.mem ((c.tc : Thread nD τ).loc main_arg2) = m ((c.tc : Thread nD τ).loc main_arg2)
    ∧ r.mem ((c.tc : Thread nD τ).loc main_arg3) = m ((c.tc : Thread nD τ).loc main_arg3)
    ∧ r.mem ((c.tc : Thread nD τ).loc main_arg4) = m ((c.tc : Thread nD τ).loc main_arg4)
    ∧ r.mem ((c.tc : Thread nD τ).loc main_arg5) = m ((c.tc : Thread nD τ).loc main_arg5)
    ∧ r.mem ((c.tc : Thread nD τ).loc main_arg6) = m ((c.tc : Thread nD τ).loc main_arg6)
    ∧ r.mem ((c.tc : Thread nD τ).loc main_arg7) = m ((c.tc : Thread nD τ).loc main_arg7)
    ∧ r.mem ((c.tc : Thread nD τ).loc main_arg8) = m ((c.tc : Thread nD τ).loc main_arg8)
    ∧ r.mem ((c.tc : Thread nD τ).loc main_arg9) = m ((c.tc : Thread nD τ).loc main_arg9)
    ∧ r.mem ((c.tc : Thread nD τ).loc main_arg10) = m ((c.tc : Thread nD τ).loc main_arg10)
    ∧ r.mem ((c.tc : Thread nD τ).loc main_arg11) = m ((c.tc : Thread nD τ).loc main_arg11)
    ∧ r.mem ((c.tc : Thread nD τ).loc main_arg12) = m ((c.tc : Thread nD τ).loc main_arg12)
    ∧ r.mem ((c.tc : Thread nD τ).loc main_arg13) = m ((c.tc : Thread nD τ).loc main_arg13)
    ∧ r.mem ((c.tc : Thread nD τ).loc main_arg14) = m ((c.tc : Thread nD τ).loc main_arg14)

theorem args_kept {r : PUnit × MemSt nD τ sig (Elt F)} (h : Ends m r) (c : Dev nD) : ArgsKept m r.2 c := by
  refine ⟨?_, ?_, ?_, ?_, ?_, ?_, ?_, ?_, ?_, ?_, ?_, ?_, ?_, ?_, ?_⟩
  · exact kept m h c main_arg0 (Pipeline.mem_restRefs_of main_arg0 (by decide) (by decide)) (by decide) (by decide) (V_main_arg0 m c)
  · exact kept m h c main_arg1 (Pipeline.mem_restRefs_of main_arg1 (by decide) (by decide)) (by decide) (by decide) (V_main_arg1 m c)
  · exact kept m h c main_arg2 (Pipeline.mem_restRefs_of main_arg2 (by decide) (by decide)) (by decide) (by decide) (V_main_arg2 m c)
  · exact kept m h c main_arg3 (Pipeline.mem_restRefs_of main_arg3 (by decide) (by decide)) (by decide) (by decide) (V_main_arg3 m c)
  · exact kept m h c main_arg4 (Pipeline.mem_restRefs_of main_arg4 (by decide) (by decide)) (by decide) (by decide) (V_main_arg4 m c)
  · exact kept m h c main_arg5 (Pipeline.mem_restRefs_of main_arg5 (by decide) (by decide)) (by decide) (by decide) (V_main_arg5 m c)
  · exact kept m h c main_arg6 (Pipeline.mem_restRefs_of main_arg6 (by decide) (by decide)) (by decide) (by decide) (V_main_arg6 m c)
  · exact kept m h c main_arg7 (Pipeline.mem_restRefs_of main_arg7 (by decide) (by decide)) (by decide) (by decide) (V_main_arg7 m c)
  · exact kept m h c main_arg8 (Pipeline.mem_restRefs_of main_arg8 (by decide) (by decide)) (by decide) (by decide) (V_main_arg8 m c)
  · exact kept m h c main_arg9 (Pipeline.mem_restRefs_of main_arg9 (by decide) (by decide)) (by decide) (by decide) (V_main_arg9 m c)
  · exact kept m h c main_arg10 (Pipeline.mem_restRefs_of main_arg10 (by decide) (by decide)) (by decide) (by decide) (V_main_arg10 m c)
  · exact kept m h c main_arg11 (Pipeline.mem_restRefs_of main_arg11 (by decide) (by decide)) (by decide) (by decide) (V_main_arg11 m c)
  · exact kept m h c main_arg12 (Pipeline.mem_restRefs_of main_arg12 (by decide) (by decide)) (by decide) (by decide) (V_main_arg12 m c)
  · exact kept m h c main_arg13 (Pipeline.mem_restRefs_of main_arg13 (by decide) (by decide)) (by decide) (by decide) (V_main_arg13 m c)
  · exact kept m h c main_arg14 (Pipeline.mem_restRefs_of main_arg14 (by decide) (by decide)) (by decide) (by decide) (V_main_arg14 m c)

/-- The run, its arguments kept and its counters at rest. -/
theorem frame_run (h : InTables m) : θ_run defs (onTc (τ := τ) (main (F := F))) (s₀ m ρ)
    (fun r => (∀ c, ArgsKept m r.2 c) ∧ r.2.sem = fun _ => 0) :=
  (θ_run defs _ _).mono (fun r h => ⟨fun c => args_kept m h c, h.2⟩) (run_tables m ρ h)

end Cert.PIdeal

end
-- ==== Proof.KWords.lean ====
/-
  The words a grid point reads row numbers from, and what they are below.
-/
module

public import proofs.«01_k».proof.Proof.Gen.Kernel.Loops
public import proofs.«01_k».proof.Proof.Overlay
public import Idealize.ShloMosaic.Lib.VecWindow
public import proofs.«01_k».proof.Proof.KTrip
public import proofs.«01_k».proof.Proof.Gather
public import Idealize.ShloMosaic.Lib.Pipeline.FrameBody
public import Idealize.ShloMosaic.Lib.Ring
public import Idealize.ShloMosaic.Lib.Tactic

@[expose] public section

set_option maxRecDepth 16384

noncomputable section

namespace Cert.PBits

open Cert.P
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- An item row number is inside the table. -/
theorem chk_item (w : BitVec 32) (h : w.toNat < 25000) :
    ∀ a, (![w.toNat, 0, 0] : Fin 3 → ℕ) a + S1x1x128.size a ≤ S25000x1x128.size a := by
  intro a
  match a with
  | ⟨0, _⟩ => show w.toNat + 1 ≤ 25000; omega
  | ⟨1, _⟩ => show 0 + 1 ≤ 1; omega
  | ⟨2, _⟩ => show 0 + 128 ≤ 128; omega

/-- A group row number is inside the table. -/
theorem chk_group (w : BitVec 32) (h : w.toNat < 10000) :
    ∀ a, (![w.toNat, 0, 0] : Fin 3 → ℕ) a + S1x1x128.size a ≤ S10000x1x128.size a := by
  intro a
  match a with
  | ⟨0, _⟩ => show w.toNat + 1 ≤ 10000; omega
  | ⟨1, _⟩ => show 0 + 1 ≤ 1; omega
  | ⟨2, _⟩ => show 0 + 128 ≤ 128; omega

/-- The condition that clears the buffer of member rows holds at the first point only. -/
theorem point_zero (i : grid0.Coords) :
    Scalar.cmpi .ne (Scalar.extui (Scalar.cmpi .eq (BitVec.ofNat 32 (i 0).val) 0#32) : BitVec 32) 0#32 = 1#1
      ↔ (i 0).val = 0 := by
  have h : (i 0).val < 128 := (i 0).isLt
  revert h
  generalize (i 0).val = n
  revert n
  decide

/-- The item and group row numbers and the slab count of a grid point: the words of its second input. -/
def auxWords (W2 : S1x1x264.Idx → Elt F .i32) : ℕ → BitVec 32 :=
  wordsOf (n := 264) (shapeCast S264 W2 (by decide))

/-- What the loaded words are below. -/
structure AuxOK (A : ℕ → BitVec 32) : Prop where
  item : ∀ n < 128, (A n).toNat < 25000
  group : ∀ n < 128, (A (n + 128)).toNat < 10000

end Cert.PBits

end
-- ==== Proof.Finite.lean ====
/-
  What the second precondition says: every request number is in its table, and the tables are finite.
-/
module

public import proofs.«01_k».proof.Proof.Ranges

@[expose] public section

set_option maxRecDepth 16384

noncomputable section

namespace Cert.P

open Idealize.ShloMosaic

theorem preFinite : Cert.Pre_ids_in_range_tables_finite.Facts where
  bcast_S_S16384 := by decide
  reducesTo_S16384_S_d0 := by decide
  h_S_ := by decide
  bcast_S_S16384x50 := by decide
  reducesTo_S16384x50_S_d0_1 := by decide
  bcast_S_S100000x64 := by decide
  reducesTo_S100000x64_S_d0_1 := by decide
  bcast_S_S50000x64 := by decide
  reducesTo_S50000x64_S_d0_1 := by decide
  bcast_S_S20000x64 := by decide
  reducesTo_S20000x64_S_d0_1 := by decide
  bcast_S_S128x16 := by decide
  reducesTo_S128x16_S_d0_1 := by decide
  bcast_S_S16 := by decide
  reducesTo_S16_S_d0 := by decide
  bcast_S_S16x1 := by decide
  reducesTo_S16x1_S_d0_1 := by decide
  bcast_S_S1 := by decide
  reducesTo_S1_S_d0 := by decide

/-- Every element of `x` is a real number. -/
def Finites {s : Shape} {F : FTy → Type} [FloatOps F] (x : FVec F s .f32) : Prop :=
  ∀ i, FloatOps.cmpf .olt (FloatOps.hostAbsf (x i)) (FloatOps.ofBits .f32 0x7F800000#32 : F .f32) = 1#1

section
variable {F : FTy → Type} [FloatOps F]

variable (x0 x1 : IVec ⟨1, ![16384]⟩ 32) (x2 : IVec ⟨2, ![16384, 50]⟩ 32) (x3 : IVec ⟨1, ![16384]⟩ 32)
  (x4 : FVec F ⟨2, ![100000, 64]⟩ .f32) (x5 : FVec F ⟨2, ![50000, 64]⟩ .f32) (x6 : FVec F ⟨2, ![20000, 64]⟩ .f32)
  (x7 : FVec F ⟨2, ![128, 16]⟩ .f32) (x8 : FVec F ⟨1, ![16]⟩ .f32) (x9 : FVec F ⟨2, ![16, 1]⟩ .f32)
  (x10 : FVec F ⟨1, ![1]⟩ .f32) (x11 : FVec F ⟨2, ![192, 8]⟩ .f32) (x12 : FVec F ⟨1, ![8]⟩ .f32)
  (x13 : FVec F ⟨2, ![8, 1]⟩ .f32) (x14 : FVec F ⟨1, ![1]⟩ .f32)

/-- The request numbers are in their tables and every table and attention weight is finite. -/
theorem all_of (h : @Cert.Pre_ids_in_range_tables_finite.fn preFinite F _ x0 x1 x2 x3 x4 x5 x6 x7 x8 x9 x10 x11 x12 x13 x14 = fun _ => 1#1) :
    (Words x0 20000 ∧ Words x1 50000 ∧ Words x2 100000 ∧ Words x3 50) ∧ Finites x4 ∧ Finites x5 ∧ Finites x6 ∧ Finites x7
      ∧ Finites x8 ∧ Finites x9 ∧ Finites x10 := by
  have h' := congrFun h (fun i => Fin.elim0 i)
  dsimp only [Cert.Pre_ids_in_range_tables_finite.fn, Cert.Pre_ids_in_range_tables_finite.fn_part1,
    Cert.Pre_ids_in_range_tables_finite.fn_part2, Cert.Pre_ids_in_range_tables_finite.fn_part3] at h'
  obtain ⟨h', g10⟩ := IntOp.andi_eq_one.1 (show IntOp.andi _ _ = 1#1 from h')
  obtain ⟨h', g9⟩ := IntOp.andi_eq_one.1 (show IntOp.andi _ _ = 1#1 from h')
  obtain ⟨h', g8⟩ := IntOp.andi_eq_one.1 (show IntOp.andi _ _ = 1#1 from h')
  obtain ⟨h', g7⟩ := IntOp.andi_eq_one.1 (show IntOp.andi _ _ = 1#1 from h')
  obtain ⟨h', g6⟩ := IntOp.andi_eq_one.1 (show IntOp.andi _ _ = 1#1 from h')
  obtain ⟨h', g5⟩ := IntOp.andi_eq_one.1 (show IntOp.andi _ _ = 1#1 from h')
  obtain ⟨h', g4⟩ := IntOp.andi_eq_one.1 (show IntOp.andi _ _ = 1#1 from h')
  obtain ⟨h012, h3⟩ := IntOp.andi_eq_one.1 (show IntOp.andi _ _ = 1#1 from h')
  obtain ⟨h01, h2⟩ := IntOp.andi_eq_one.1 (show IntOp.andi _ _ = 1#1 from h012)
  obtain ⟨h0, h1⟩ := IntOp.andi_eq_one.1 (show IntOp.andi _ _ = 1#1 from h01)
  exact ⟨⟨words_of h0 (fun _ => rfl) (fun _ => rfl) (by decide), words_of h1 (fun _ => rfl) (fun _ => rfl) (by decide),
    words_of h2 (fun _ => rfl) (fun _ => rfl) (by decide), words_of h3 (fun _ => rfl) (fun _ => rfl) (by decide)⟩,
    fun i => Host.reduce_andi_all _ _ _ _ _ g4 i, fun i => Host.reduce_andi_all _ _ _ _ _ g5 i,
    fun i => Host.reduce_andi_all _ _ _ _ _ g6 i, fun i => Host.reduce_andi_all _ _ _ _ _ g7 i,
    fun i => Host.reduce_andi_all _ _ _ _ _ g8 i, fun i => Host.reduce_andi_all _ _ _ _ _ g9 i,
    fun i => Host.reduce_andi_all _ _ _ _ _ g10 i⟩

end

end Cert.P

end
-- ==== Proof.Claims.lean ====
/-
  The claims about runs: each program ends, its arguments kept and its counters at rest.
-/
module

public import proofs.«01_k».proof.Proof.Frame
public import proofs.«01_k».proof.Proof.KFrame
public import proofs.«01_k».proof.Proof.Finite
public import proofs.«01_k».proof.Proof.Gen.ReferenceIdeal.Run
public import Idealize.ShloMosaic.Adequacy
public import Idealize.ShloMosaic.Init

@[expose] public section

set_option maxRecDepth 16384

noncomputable section

namespace Cert.P

open Idealize.ShloMosaic Idealize.SL.Sem

theorem frame_kernel : Cert.quiescent_Kernel (hKernel := Cert.Kernel.Gen.facts) (hPre_ids_in_range := preInts) :=
  fun m ρ h => Cert.PBits.frame_run (F := Bits) m ρ fun c => ints_of _ _ _ _ _ _ _ _ _ _ _ _ _ _ _ (h c)

theorem frame_ideal : Cert.quiescent_KernelIdeal (hKernelIdeal := Cert.KernelIdeal.Gen.facts) (hPre_ids_in_range := preInts) :=
  fun m ρ h => Cert.PIdeal.frame_run (F := Ideal) m ρ fun c => ints_of _ _ _ _ _ _ _ _ _ _ _ _ _ _ _ (h c)

theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

theorem frame_ideal_finite : Cert.quiescent_KernelIdeal_pre_ids_in_range_tables_finite (hKernelIdeal := Cert.KernelIdeal.Gen.facts)
    (hPre_ids_in_range_tables_finite := preFinite) :=
  fun m ρ h => Cert.PIdeal.frame_run (F := Ideal) m ρ fun c => (all_of _ _ _ _ _ _ _ _ _ _ _ _ _ _ _ (h c)).1

theorem frame_reference_finite : Cert.quiescent_ReferenceIdeal_pre_ids_in_range_tables_finite
    (hReferenceIdeal := Cert.ReferenceIdeal.Gen.facts) (hPre_ids_in_range_tables_finite := preFinite) := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- The mask's name stands for minus infinity. -/
theorem preserves : Cert.preserves_Kernel_KernelIdeal :=
  IdealRules.named_const.statement Cert.KernelIdeal.κ "mask" .f32 0xF149F2CA#32 ⊥ rfl

end Cert.P

end
-- ==== Proof.Blocks.lean ====
/-
  The blocks a point of the grid is given, at an entry.
-/
module

public import proofs.«01_k».proof.Proof.HostInts

@[expose] public section

set_option maxRecDepth 16384

noncomputable section

namespace Cert.PIdeal

open Cert.KernelIdeal Cert.KernelIdeal.Gen
open Idealize.ShloMosaic Idealize.ShloMosaic.TcCoe Idealize.ShloMosaic.Tactic
open Idealize.SL.Sem

variable {F : FTy → Type} [FloatOps F] [Named F]

open Cert.P

theorem index_2 : ∀ t : Fin grid0.N, win0_2.index t = ![(grid0.coords t 0).val, 0, 0] := by decide +kernel
theorem index_3 : ∀ t : Fin grid0.N, win0_3.index t = ![(grid0.coords t 0).val, 0, 0] := by decide +kernel
theorem index_4 : ∀ t : Fin grid0.N, win0_4.index t = ![(grid0.coords t 0).val, 0, 0] := by decide +kernel
theorem index_5 : ∀ t : Fin grid0.N, win0_5.index t = ![0, 0, 0] := by decide +kernel
theorem index_6 : ∀ t : Fin grid0.N, win0_6.index t = ![0, 0, 0] := by decide +kernel
theorem index_7 : ∀ t : Fin grid0.N, win0_7.index t = ![0, 0, 0] := by decide +kernel
theorem index_8 : ∀ t : Fin grid0.N, win0_8.index t = ![0, 0] := by decide +kernel
theorem index_9 : ∀ t : Fin grid0.N, win0_9.index t = ![0, 0] := by decide +kernel
theorem index_10 : ∀ t : Fin grid0.N, win0_10.index t = ![0, 0] := by decide +kernel
theorem index_11 : ∀ t : Fin grid0.N, win0_11.index t = ![0, 0] := by decide +kernel
theorem index_12 : ∀ t : Fin grid0.N, win0_12.index t = ![0, 0] := by decide +kernel
theorem index_13 : ∀ t : Fin grid0.N, win0_13.index t = ![0, 0] := by decide +kernel
theorem index_14 : ∀ t : Fin grid0.N, win0_14.index t = ![0, 0] := by decide +kernel
theorem index_15 : ∀ t : Fin grid0.N, win0_15.index t = ![0, 0] := by decide +kernel
theorem index_16 : ∀ t : Fin grid0.N, win0_16.index t = ![0, 0] := by decide +kernel
theorem index_17 : ∀ t : Fin grid0.N, win0_17.index t = ![0, 0] := by decide +kernel

variable (m : (ℓ : Loc nD τ sig) → Buf (Elt F) ℓ) (c : Dev nD)

theorem iblk_2_at (t : Fin cfg0.N) (y : S1x128x1.Idx) :
    iblk m c 2 t y = V m c main_v67 (ix3 (⟨t.val, t.isLt⟩ : Fin 128) (y 1) (y 2)) := by
  blk_ext [iblk, index_2 t, coords_val t]

theorem iblk_3_at (t : Fin cfg0.N) (y : S1x128x128.Idx) :
    iblk m c 3 t y = V m c main_v45 (ix3 (⟨t.val, t.isLt⟩ : Fin 128) (y 1) (y 2)) := by
  blk_ext [iblk, index_3 t, coords_val t]

theorem iblk_4_at (t : Fin cfg0.N) (y : S1x128x128.Idx) :
    iblk m c 4 t y = V m c main_v57 (ix3 (⟨t.val, t.isLt⟩ : Fin 128) (y 1) (y 2)) := by
  blk_ext [iblk, index_4 t, coords_val t]

theorem iblk_5_at (t : Fin cfg0.N) (y : S50000x1x128.Idx) : iblk m c 5 t y = V m c main_v0 y := by
  blk_ext [iblk, index_5 t]

theorem iblk_6_at (t : Fin cfg0.N) (y : S25000x1x128.Idx) : iblk m c 6 t y = V m c main_v1 y := by
  blk_ext [iblk, index_6 t]

theorem iblk_7_at (t : Fin cfg0.N) (y : S10000x1x128.Idx) : iblk m c 7 t y = V m c main_v2 y := by
  blk_ext [iblk, index_7 t]

theorem iblk_8_at (t : Fin cfg0.N) (y : S128x32.Idx) : iblk m c 8 t y = V m c main_v73 y := by
  blk_ext [iblk, index_8 t]

theorem iblk_9_at (t : Fin cfg0.N) (y : S128x32.Idx) : iblk m c 9 t y = V m c main_v78 y := by
  blk_ext [iblk, index_9 t]

theorem iblk_10_at (t : Fin cfg0.N) (y : S1x16.Idx) : iblk m c 10 t y = V m c main_v79 y := by
  blk_ext [iblk, index_10 t]

theorem iblk_11_at (t : Fin cfg0.N) (y : S800x128.Idx) : iblk m c 11 t y = V m c main_v93 y := by
  blk_ext [iblk, index_11 t]

theorem iblk_12_at (t : Fin cfg0.N) (y : S256x6400.Idx) : iblk m c 12 t y = V m c main_v125 y := by
  blk_ext [iblk, index_12 t]

theorem iblk_13_at (t : Fin cfg0.N) (y : S16x800.Idx) : iblk m c 13 t y = V m c main_v134 y := by
  blk_ext [iblk, index_13 t]

theorem iblk_14_at (t : Fin cfg0.N) (y : S192x128.Idx) : iblk m c 14 t y = V m c main_v135 y := by
  blk_ext [iblk, index_14 t]

theorem iblk_15_at (t : Fin cfg0.N) (y : S1x128.Idx) : iblk m c 15 t y = V m c main_v137 y := by
  blk_ext [iblk, index_15 t]

theorem iblk_16_at (t : Fin cfg0.N) (y : S128x128.Idx) : iblk m c 16 t y = V m c main_v138 y := by
  blk_ext [iblk, index_16 t]

theorem iblk_17_at (t : Fin cfg0.N) (y : S1x128.Idx) : iblk m c 17 t y = V m c main_v140 y := by
  blk_ext [iblk, index_17 t]

end Cert.PIdeal

end
-- ==== Proof.HostTables.lean ====
/-
  What the lines before the region leave in the arrays of the tables, the halves' parities and the member counts.
-/
module

public import proofs.«01_k».proof.Proof.Host

@[expose] public section

set_option maxRecDepth 16384

noncomputable section

namespace Cert.PIdeal

open Cert.KernelIdeal Cert.KernelIdeal.Gen
open Idealize.ShloMosaic Idealize.ShloMosaic.TcCoe Idealize.ShloMosaic.Tactic
open Idealize.SL.Sem

variable {F : FTy → Type} [FloatOps F] [Named F]

/-- The low bits of the members' numbers, group by group, zero on the lanes past the members. -/
def hostPar (l : IVec S16384 32) (x : IVec S16384x50 32) : FVec F S128x128x128 .f32 :=
  shapeCast S128x128x128 (pad S16384x128 ![0, 0] ![0, 78] ![0, 0] (sitofp .f32
    (andi (sorted2 l x) (broadcastInDim S16384x50 ![] bcast_S_S16384x50 (constantI S_ 32 1#32))) : FVec F S16384x50 .f32)
    (sitofp .f32 (constantI S_ 32 0#32)) pads_S16384x50_S16384x128_000_0780 h_S_) shapeCasts_S16384x128_S128x128x128

/-- The low bit of one word per request, on 64 lanes. -/
def lowBit (l x : IVec S16384 32) : FVec F S16384x64 .f32 :=
  broadcastInDim S16384x64 ![0, 1] bcast_S16384x1_S16384x64_0_1 (broadcastInDim S16384x1 ![0] bcast_S16384_S16384x1_0
    (sitofp .f32 (andi (sorted1 l x) (broadcastInDim S16384 ![] bcast_S_S16384 (constantI S_ 32 1#32)))))

/-- Two arrays of 64 lanes side by side. -/
def join2 (a b : FVec F S16384x64 .f32) : FVec F S16384x128 .f32 :=
  concatenate S16384x128 1 [⟨S16384x64, a⟩, ⟨S16384x64, b⟩] concatenates_S16384x64_S16384x64_S16384x128_d1

variable (m : (ℓ : Loc nD τ sig) → Buf (Elt F) ℓ) (c : Dev nD)

set_option maxHeartbeats 8000000 in
theorem V_user : V m c main_v0 = shapeCast S50000x1x128 (argV m c main_arg4) shapeCasts_S100000x64_S50000x1x128 := by
  unfold V V0
  simp only [List.flatten_cons, List.flatten_nil, List.append_nil, List.cons_append, List.nil_append, hostOps0, hostOps0_1, hostOps0_2]
  after_reads_simp
  rfl

set_option maxHeartbeats 8000000 in
theorem V_item : V m c main_v1 = shapeCast S25000x1x128 (argV m c main_arg5) shapeCasts_S50000x64_S25000x1x128 := by
  unfold V V0
  simp only [List.flatten_cons, List.flatten_nil, List.append_nil, List.cons_append, List.nil_append, hostOps0, hostOps0_1, hostOps0_2]
  after_reads_simp
  rfl

set_option maxHeartbeats 8000000 in
theorem V_group : V m c main_v2 = shapeCast S10000x1x128 (argV m c main_arg6) shapeCasts_S20000x64_S10000x1x128 := by
  unfold V V0
  simp only [List.flatten_cons, List.flatten_nil, List.append_nil, List.cons_append, List.nil_append, hostOps0, hostOps0_1, hostOps0_2]
  after_reads_simp
  rfl

set_option maxHeartbeats 8000000 in
theorem V_par : V m c main_v45 = hostPar (argV m c main_arg3) (argV m c main_arg2) := by
  unfold V V0
  simp only [List.flatten_cons, List.flatten_nil, List.append_nil, List.cons_append, List.nil_append, hostOps0, hostOps0_1, hostOps0_2]
  after_reads_simp
  rfl

set_option maxHeartbeats 8000000 in
theorem V_aux2 : V m c main_v57 = shapeCast S128x128x128 (join2 (lowBit (argV m c main_arg3) (argV m c main_arg1)) (lowBit (argV m c main_arg3) (argV m c main_arg0))) shapeCasts_S16384x128_S128x128x128 := by
  unfold V V0
  simp only [List.flatten_cons, List.flatten_nil, List.append_nil, List.cons_append, List.nil_append, hostOps0, hostOps0_1, hostOps0_2]
  after_reads_simp
  refine Eq.trans (b := shapeCast S128x128x128 (join2 _ _) shapeCasts_S16384x128_S128x128x128) rfl
    (congrArg (fun x => shapeCast S128x128x128 x shapeCasts_S16384x128_S128x128x128) (congr (congrArg join2 ?_) ?_)) <;>
    (try simp only [Matrix.cons_val_zero, Matrix.cons_val_one, Matrix.cons_val]
     after_reads_simp
     rfl)

set_option maxHeartbeats 8000000 in
theorem V_lens : V m c main_v67 = shapeCast S128x128x1 (sorted1 (argV m c main_arg3) (argV m c main_arg3)) shapeCasts_S16384_S128x128x1 := by
  unfold V V0
  simp only [List.flatten_cons, List.flatten_nil, List.append_nil, List.cons_append, List.nil_append, hostOps0, hostOps0_1, hostOps0_2]
  after_reads_simp
  rfl

end Cert.PIdeal

end
-- ==== Proof.Perm.lean ====
/-
  The order of the requests is a permutation: what it puts where, and what the second sort finds.
-/
module

public import proofs.«01_k».proof.Proof.HostInts
public import Idealize.ShloMosaic.Lib.SortFacts
public import Idealize.ShloMosaic.Lib.StableHlo.Predicate
public import Idealize.ShloMosaic.Lib.Routing.Ops

@[expose] public section

set_option maxRecDepth 16384

noncomputable section

namespace Cert.PIdeal

open Cert.KernelIdeal Cert.KernelIdeal.Gen
open Idealize.ShloMosaic Idealize.ShloMosaic.TcCoe Idealize.ShloMosaic.Tactic
open Idealize.SL.Sem

/-- The source of each position when `n` words are sorted. -/
def source {n : ℕ} (l : IVec ⟨1, ![n]⟩ 32) : Fin n → Fin n :=
  sortedFrom fun k k' => IntOp.cmpi .slt (l (Shape.Idx.ofFin k)) (l (Shape.Idx.ofFin k')) == 1#1

theorem source_bijective {n : ℕ} (l : IVec ⟨1, ![n]⟩ 32) : Function.Bijective (source l) :=
  ⟨sortedFrom_injective _, sortedFrom_surjective _⟩

/-- The position each word is sorted to. -/
def target {n : ℕ} (l : IVec ⟨1, ![n]⟩ 32) : Equiv.Perm (Fin n) :=
  (Equiv.ofBijective (source l) (source_bijective l)).symm

theorem source_target {n : ℕ} (l : IVec ⟨1, ![n]⟩ 32) (r : Fin n) : source l (target l r) = r :=
  (Equiv.ofBijective (source l) (source_bijective l)).apply_symm_apply r

theorem toInt_small (k : ℕ) (h : k < 2 ^ 31) : (BitVec.ofNat 32 k).toInt = k := by
  have h32 : (BitVec.ofNat 32 k).toNat = k := by rw [BitVec.toNat_ofNat]; omega
  rw [BitVec.toInt_eq_toNat_cond, h32, if_pos (by omega)]

theorem slt_small (a b : ℕ) (ha : a < 2 ^ 31) (hb : b < 2 ^ 31) :
    IntOp.cmpi .slt (BitVec.ofNat 32 a) (BitVec.ofNat 32 b) = if a < b then 1#1 else 0#1 := by
  unfold IntOp.cmpi
  simp only [BitVec.slt, toInt_small a ha, toInt_small b hb]
  by_cases h : a < b <;> simp [h]

/-- Sorting the list of sources finds the targets. -/
theorem source_of_sources {n : ℕ} (hn : n ≤ 2 ^ 31) (l o : IVec ⟨1, ![n]⟩ 32)
    (ho : ∀ k, o (Shape.Idx.ofFin k) = BitVec.ofNat 32 (source l k).val) (r : Fin n) : source o r = target l r := by
  have hR : (fun k k' => IntOp.cmpi .slt (o (Shape.Idx.ofFin k)) (o (Shape.Idx.ofFin k')) == 1#1)
      = fun k k' => decide ((target l).symm k < (target l).symm k') := by
    funext k k'
    have hk := (source l k).isLt
    have hk' := (source l k').isLt
    rw [ho, ho, slt_small _ _ (by omega) (by omega)]
    have hs : (target l).symm k = source l k := rfl
    have hs' : (target l).symm k' = source l k' := rfl
    rw [hs, hs']
    by_cases h : (source l k).val < (source l k').val <;> simp [h, Fin.lt_def]
  unfold source sortedFrom
  rw [List.get_of_eq ((congrArg (sortPositions n) hR).trans (sortPositions_of_perm (target l)))]
  simp

theorem sort2_at {n : ℕ} (l y : IVec ⟨1, ![n]⟩ 32) (cmp : BitVec 32 × BitVec 32 → BitVec 32 × BitVec 32 → BitVec 1)
    (hc : ∀ a b, cmp a b = IntOp.cmpi .slt a.1 b.1) (k : Fin n) :
    (Host.sort2 ⟨1, ![n]⟩ 0 cmp l y).2 (Shape.Idx.ofFin k) = y (Shape.Idx.ofFin (source l k)) := by
  unfold Host.sort2
  rw [dif_pos Nat.one_pos]
  have e (i : Fin n) (j : Fin n) : (Shape.Idx.ofFin i : (⟨1, ![n]⟩ : Shape).Idx).along ⟨0, Nat.one_pos⟩ j = Shape.Idx.ofFin j :=
    Shape.Idx.along_rank1 _ _
  show y _ = _
  refine congrArg y ((e k _).trans (congrArg Shape.Idx.ofFin ?_))
  show sortedFrom (fun i j => cmp (l ((Shape.Idx.ofFin k : (⟨1, ![n]⟩ : Shape).Idx).along ⟨0, Nat.one_pos⟩ i), _)
    (l ((Shape.Idx.ofFin k : (⟨1, ![n]⟩ : Shape).Idx).along ⟨0, Nat.one_pos⟩ j), _) == 1#1) k = source l k
  unfold source
  refine congrFun (congrArg sortedFrom ?_) k
  refine funext fun (i : Fin n) => funext fun (j : Fin n) => ?_
  have hi := e k i
  have hj := e k j
  exact congrArg (· == 1#1) ((hc _ _).trans (congrArg₂ (IntOp.cmpi .slt) (congrArg l hi) (congrArg l hj)))

theorem iota_at {n : ℕ} (k : Fin n) : iotaInDim ⟨1, ![n]⟩ 32 0 (Shape.Idx.ofFin k) = BitVec.ofNat 32 k.val := rfl

/-- The request at each position. -/
def at_ (l : IVec S16384 32) (k : Fin 16384) : Fin 16384 := source (n := 16384) l k

/-- The position of each request. -/
def pos (l : IVec S16384 32) (r : Fin 16384) : Fin 16384 := target (n := 16384) l r

theorem at_pos (l : IVec S16384 32) (r : Fin 16384) : at_ l (pos l r) = r := source_target l r

theorem order_at (l : IVec S16384 32) (k : Fin 16384) :
    order l (Shape.Idx.ofFin k) = BitVec.ofNat 32 (at_ l k).val :=
  (sort2_at l (iotaInDim S16384 32 0) comparator_i32_i32_d0 (fun _ _ => rfl) k).trans
    (iota_at (n := 16384) _)

/-- Sorting by the order itself lists each request's position. -/
theorem order_order (l : IVec S16384 32) (r : Fin 16384) :
    order (order l) (Shape.Idx.ofFin r) = BitVec.ofNat 32 (pos l r).val := by
  rw [order_at]
  exact congrArg (fun k : Fin 16384 => BitVec.ofNat 32 k.val)
    (source_of_sources (by norm_num) l (order l) (order_at l) r)

theorem wrapIdx_at (p : IVec S16384 32) (k : Fin 16384) (n : ℕ) (hn : n < 2 ^ 31)
    (h : p (Shape.Idx.ofFin k) = BitVec.ofNat 32 n) : wrapIdx p (ix2 k (0 : Fin 1)) = BitVec.ofNat 32 n := by
  have hj : Shape.Idx.ofFin k = ix1 k := by funext a; fin_cases a; rfl
  rw [hj] at h
  unfold wrapIdx
  pointwise
  rw [h, slt_small n 0 hn (by norm_num), if_neg (by omega)]
  rfl

theorem sorted1_at (l x : IVec S16384 32) (k : Fin 16384) :
    sorted1 l x (Shape.Idx.ofFin k) = x (Shape.Idx.ofFin (at_ l k)) := by
  have hk := (at_ l k).isLt
  have h := wrapIdx_at (order l) k _ (by omega) (order_at l k)
  refine (StableHlo.Predicate.gather_take (N := 16384) (n := 16384) gather_S16384_S16384x1_S16384_n_0_n_n_0_1_1 rfl rfl rfl rfl
    x (wrapIdx (order l)) k (by norm_num)).trans ?_
  refine congrArg (fun k : Fin 16384 => x (Shape.Idx.ofFin k)) (Fin.ext ?_)
  have hx : (StableHlo.Predicate.ixP k : S16384x1.Idx) = ix2 k (0 : Fin 1) := by funext a; fin_cases a <;> rfl
  show min (wrapIdx (order l) (StableHlo.Predicate.ixP k)).toInt.toNat (16384 - 1) = (at_ l k).val
  rw [hx, h, toInt_small _ (by omega)]
  simp only [Int.toNat_natCast]
  omega

theorem sorted2_at (l : IVec S16384 32) (x : IVec S16384x50 32) (k : Fin 16384) (j : Fin 50) :
    sorted2 l x (ix2 k j) = x (ix2 (at_ l k) j) := by
  have hk := (at_ l k).isLt
  unfold sorted2
  exact Routing.gather_row gather_S16384x50_S16384x1_S16384x50_1_0_n_n_0_1_150 rfl rfl rfl rfl rfl x _ k j (at_ l k)
    (wrapIdx_at (order l) k _ (by omega) (order_at l k)) (by decide)

end Cert.PIdeal

end
-- ==== Proof.Spec.lean ====
/-
  What is computed for one request, as an expression of the rows it looks up and of the weights.
-/
module

public import Idealize.ShloMosaic.PureOps.Ideal

@[expose] public section

noncomputable section

namespace Cert.Spec

open Idealize.ShloMosaic

/-- A value that is a real number. -/
def IsReal (x : EReal) : Prop := ∃ r : ℝ, x = r

/-- The part of the hidden layer that the item contributes, with the bias. -/
def hidden (it : Fin 64 → EReal) (w1 : Fin 128 → Fin 16 → EReal) (b1 : Fin 16 → EReal) (k : Fin 16) : EReal :=
  ∑ d : Fin 64, it d * w1 ⟨64 + d.val, by omega⟩ k + b1 k

/-- The score of a member with row `u` for an item with row `it`, without the last bias. -/
def score (u it : Fin 64 → EReal) (w1 : Fin 128 → Fin 16 → EReal) (b1 w2 : Fin 16 → EReal) : EReal :=
  ∑ k : Fin 16, max (∑ d : Fin 64, u d * w1 ⟨d.val, by omega⟩ k + hidden it w1 b1 k) 0 * w2 k

/-- The share of member `m` when the members up to `L` take part, by the exponentials of their scores. -/
def share (s : ℕ → ℝ) (L m : ℕ) : ℝ :=
  if m ≤ L then Real.exp (s m) / ∑ j ∈ Finset.range (L + 1), Real.exp (s j) else 0

/-- The input of the last layers: the product, the group's row, the item's row. -/
def features (g it : Fin 64 → EReal) (j : Fin 192) : EReal :=
  if h : j.val < 64 then g ⟨j.val, h⟩ * it ⟨j.val, h⟩
  else if h' : j.val < 128 then g ⟨j.val - 64, by omega⟩ else it ⟨j.val - 128, by omega⟩

/-- The last layers. -/
def predict (g it : Fin 64 → EReal) (p1 : Fin 192 → Fin 8 → EReal) (pb1 p2 : Fin 8 → EReal) (pb2 : EReal) : EReal :=
  Ideal.div 1 (1 + Ideal.exp (-(∑ o : Fin 8,
    max (∑ j : Fin 192, features g it j * p1 j o + pb1 o) 0 * p2 o + pb2)))

/-- The group's row with the members' rows, weighted, added to it. -/
def pooled (u : Fin 50 → Fin 64 → EReal) (gr : Fin 64 → EReal) (s : ℕ → ℝ) (L : ℕ) (d : Fin 64) : EReal :=
  ∑ j : Fin 50, (share s L j.val : EReal) * u j d + gr d

/-- The members' scores, as real numbers. -/
def scores (u : Fin 50 → Fin 64 → EReal) (it : Fin 64 → EReal) (w1 : Fin 128 → Fin 16 → EReal)
    (b1 w2 : Fin 16 → EReal) (j : ℕ) : ℝ :=
  (score (u (Fin.ofNat 50 j)) it w1 b1 w2).toReal

end Cert.Spec

end
-- ==== Proof.Maths.lean ====
/-
  Facts about the expressions of one request: real values stay real, and a softmax over any lanes past the members
  that take part, after any shift of the scores, gives the same shares.
-/
module

public import proofs.«01_k».proof.Proof.Spec

@[expose] public section

noncomputable section

namespace Cert.Spec

open Idealize.ShloMosaic

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.zero : IsReal 0 := ⟨0, rfl⟩

theorem IsReal.max {x y : EReal} (hx : IsReal x) (hy : IsReal y) : IsReal (max x y) := by
  rcases max_choice x y with h | h <;> rw [h] <;> assumption

theorem IsReal.sum {n : ℕ} (f : Fin n → EReal) (h : ∀ i, IsReal (f i)) : IsReal (∑ i, f i) := by
  choose g hg using h
  refine ⟨∑ i, g i, ?_⟩
  rw [Finset.sum_congr rfl fun i _ => hg i]
  induction (Finset.univ : Finset (Fin n)) using Finset.induction_on with
  | empty => simp
  | insert a s ha ih => rw [Finset.sum_insert ha, Finset.sum_insert ha, ih, EReal.coe_add]

theorem IsReal.coe_toReal {x : EReal} (h : IsReal x) : (x.toReal : EReal) = x := by
  obtain ⟨r, rfl⟩ := h
  rfl

/-- A choice by a zero or a one is a choice. -/
theorem pick_zero (x y : EReal) : x + 0 * (y - x) = x := by rw [zero_mul, add_zero]

theorem pick_one {x y : EReal} (hx : IsReal x) (hy : IsReal y) : x + 1 * (y - x) = y := by
  obtain ⟨a, rfl⟩ := hx
  obtain ⟨b, rfl⟩ := hy
  rw [one_mul, ← EReal.coe_sub, ← EReal.coe_add]
  congr 1
  ring

theorem hidden_real {it : Fin 64 → EReal} {w1 : Fin 128 → Fin 16 → EReal} {b1 : Fin 16 → EReal}
    (hi : ∀ d, IsReal (it d)) (h1 : ∀ d k, IsReal (w1 d k)) (hb : ∀ k, IsReal (b1 k)) (k : Fin 16) :
    IsReal (hidden it w1 b1 k) :=
  (IsReal.sum _ fun d => (hi d).mul (h1 _ k)).add (hb k)

theorem score_real {u it : Fin 64 → EReal} {w1 : Fin 128 → Fin 16 → EReal} {b1 w2 : Fin 16 → EReal}
    (hu : ∀ d, IsReal (u d)) (hi : ∀ d, IsReal (it d)) (h1 : ∀ d k, IsReal (w1 d k)) (hb : ∀ k, IsReal (b1 k))
    (h2 : ∀ k, IsReal (w2 k)) : IsReal (score u it w1 b1 w2) :=
  IsReal.sum _ fun k => (((IsReal.sum _ fun d => (hu d).mul (h1 _ k)).add (hidden_real hi h1 hb k)).max IsReal.zero).mul (h2 k)

/-- Adding one number to every score leaves the shares. -/
theorem share_shift (s : ℕ → ℝ) (c : ℝ) (L m : ℕ) : share (fun j => s j + c) L m = share s L m := by
  unfold share
  simp only [Real.exp_add, ← Finset.sum_mul]
  rw [mul_div_mul_right _ _ (Real.exp_ne_zero c)]

/-- Shares depend on the scores of those that take part only. -/
theorem share_congr {s s' : ℕ → ℝ} {L : ℕ} (h : ∀ j, j ≤ L → s j = s' j) (m : ℕ) : share s L m = share s' L m := by
  unfold share
  split_ifs with hm
  · rw [h m hm, Finset.sum_congr rfl fun j hj => by rw [h j (Nat.lt_succ_iff.mp (Finset.mem_range.mp hj))]]
  · rfl

theorem share_zero (s : ℕ → ℝ) {L m : ℕ} (h : L < m) : share s L m = 0 := if_neg (by omega)

/-- The largest of the entries is real when one is and the others are real or minus infinity. -/
theorem top_real {n : ℕ} (x : Fin n → EReal) (s : ℕ → ℝ) (L : ℕ) (hL : L < n)
    (hx : ∀ j : Fin n, x j = if j.val ≤ L then ((s j.val : ℝ) : EReal) else ⊥) :
    IsReal (Finset.univ.fold max ⊥ x) := by
  have e : Finset.univ.fold max ⊥ x = Finset.univ.sup x := rfl
  rw [e]
  obtain ⟨i, _, hi⟩ := Finset.exists_mem_eq_sup Finset.univ ⟨⟨0, by omega⟩, Finset.mem_univ _⟩ x
  have h0 : x ⟨0, by omega⟩ ≤ Finset.univ.sup x := Finset.le_sup (Finset.mem_univ _)
  rw [hi] at h0 ⊢
  rw [hx i]
  split_ifs with h
  · exact ⟨_, rfl⟩
  · rw [hx i, if_neg h, hx, if_pos (Nat.zero_le _)] at h0
    exact absurd (le_bot_iff.mp h0) (EReal.coe_ne_bot _)

theorem coe_sum_fin {n : ℕ} (f : Fin n → ℝ) : ∑ i, ((f i : ℝ) : EReal) = ((∑ i, f i : ℝ) : EReal) := by
  induction (Finset.univ : Finset (Fin n)) using Finset.induction_on with
  | empty => simp
  | insert a s ha ih => rw [Finset.sum_insert ha, Finset.sum_insert ha, ih, EReal.coe_add]

/-- The exponentials over their sum, after a shift by any real number, are the shares. -/
theorem soft_eq {n : ℕ} (x : Fin n → EReal) (s : ℕ → ℝ) (L : ℕ) (hL : L < n)
    (hx : ∀ j : Fin n, x j = if j.val ≤ L then ((s j.val : ℝ) : EReal) else ⊥) {M : EReal} (hM : IsReal M) (m : Fin n) :
    Ideal.div (Ideal.exp (x m - M)) (∑ j, Ideal.exp (x j - M)) = ((share s L m.val : ℝ) : EReal) := by
  obtain ⟨c, rfl⟩ := hM
  have he : ∀ j : Fin n, Ideal.exp (x j - (c : EReal))
      = (((if j.val ≤ L then Real.exp (s j.val - c) else 0 : ℝ)) : EReal) := by
    intro j
    rw [hx j]
    split_ifs with h
    · rw [← EReal.coe_sub]
      exact Ideal.exp_coe _
    · rw [EReal.bot_sub]
      rfl
  have hs : ∑ j : Fin n, (if j.val ≤ L then Real.exp (s j.val - c) else 0)
      = ∑ j ∈ Finset.range (L + 1), Real.exp (s j - c) := by
    rw [Fin.sum_univ_eq_sum_range (fun j => if j ≤ L then Real.exp (s j - c) else 0) n]
    rw [← Finset.sum_filter]
    congr 1
    ext j
    simp only [Finset.mem_filter, Finset.mem_range]
    omega
  have hp : (∑ j ∈ Finset.range (L + 1), Real.exp (s j - c)) ≠ 0 :=
    (Finset.sum_pos (fun j _ => Real.exp_pos _) ⟨0, Finset.mem_range.mpr (by omega)⟩).ne'
  rw [he m, Finset.sum_congr rfl fun j _ => he j, coe_sum_fin, hs, Ideal.div_coe hp, ← EReal.coe_mul]
  congr 1
  rw [← share_shift s (-c) L m.val]
  unfold share
  simp only [← sub_eq_add_neg]
  split_ifs with h
  · ring
  · ring

/-- A sum over the lanes of equal blocks is the sum over the blocks of the sums over each. -/
theorem sum_blocks {a b : ℕ} (f : Fin (a * b) → EReal) :
    ∑ j, f j = ∑ i : Fin a, ∑ k : Fin b, f (finProdFinEquiv (i, k)) := by
  rw [← Fintype.sum_prod_type']
  exact (Equiv.sum_comp finProdFinEquiv f).symm

/-- A sum over blocks of which one counts. -/
theorem sum_one_block {a b : ℕ} (f : Fin (a * b) → EReal) (m : Fin a) (g : Fin b → EReal)
    (h : ∀ (i : Fin a) (k : Fin b), f (finProdFinEquiv (i, k)) = if i = m then g k else 0) : ∑ j, f j = ∑ k, g k := by
  rw [sum_blocks, Finset.sum_eq_single m]
  · exact Finset.sum_congr rfl fun k _ => by rw [h, if_pos rfl]
  · intro i _ hi
    exact Finset.sum_eq_zero fun k _ => by rw [h, if_neg hi]
  · intro hm
    exact absurd (Finset.mem_univ _) hm

end Cert.Spec

end
-- ==== Proof.ReadScores.lean ====
/-
  The vectors of the block's body read at an entry: the scores and the weights.
-/
module

public import Idealize.ShloMosaic.Lib.Pointwise
public import Idealize.ShloMosaic.PureOps.Ideal.Laws
public import proofs.«01_k».proof.Proof.Wide
public import proofs.«01_k».proof.Proof.Maths
public import proofs.«01_k».proof.Proof.Perm

@[expose] public section

set_option maxRecDepth 16384

noncomputable section

namespace Cert.PIdeal

open Cert.KernelIdeal Cert.KernelIdeal.Gen
open Idealize.ShloMosaic Idealize.ShloMosaic.TcCoe Idealize.ShloMosaic.Tactic

theorem pay618_at (R : S6400x128.Idx → EReal) (W : S128x32.Idx → EReal) (j : Fin 6400) (e : Fin 32) :
    k0_pay618 (F := Ideal) R W (ix2 j e) = ∑ d : Fin 128, R (ix2 j d) * W (ix2 d e) := by
  pointwise [k0_pay618]

theorem pay622_at (I : S128x128.Idx → EReal) (W : S128x32.Idx → EReal) (A : S128x128.Idx → EReal)
    (B : S1x16.Idx → EReal) (r : Fin 128) (k : Fin 16) :
    k0_pay622 (F := Ideal) (k0_pay619 I W) A (k0_pay621 I W) B (ix2 r k)
      = ∑ d : Fin 128, I (ix2 r d) * W (ix2 d ⟨k.val, by omega⟩)
        + A (ix2 r ⟨k.val, by omega⟩) * (∑ d : Fin 128, I (ix2 r d) * W (ix2 d ⟨16 + k.val, by omega⟩)
          - ∑ d : Fin 128, I (ix2 r d) * W (ix2 d ⟨k.val, by omega⟩)) + B (ix2 0 k) := by
  pointwise [k0_pay622, k0_pay619, k0_pay621]

theorem pay730_at (v : S128x16.Idx → EReal) (W : S16x800.Idx → EReal) (r : Fin 128) (j : Fin 800) :
    k0_pay730 (F := Ideal) v W (ix2 r j) = ∑ k : Fin 16, v (ix2 r k) * W (ix2 k j) := by
  pointwise [k0_pay730]

theorem pay731_at (a b : S128x800.Idx → EReal) (r : Fin 128) (j : Fin 800) :
    k0_pay731 (F := Ideal) a b (ix2 r j) = max (a (ix2 r j) + b (ix2 r j)) 0 := by
  pointwise [k0_pay731]

theorem pay732_at (a b : S128x800.Idx → EReal) (r : Fin 128) (j : Fin 800) :
    k0_pay733 (F := Ideal) (k0_pay732 a b) (ix2 r j) = max (a (ix2 r j) + b (ix2 r j)) 0 := by
  pointwise [k0_pay732, k0_pay733]

theorem bits_bot : Ideal.ofBits .f32 0xFF800000#32 = (⊥ : EReal) := by
  simp [Ideal.ofBits, Ideal.ieee]

/-- The mask is minus infinity. -/
theorem mask_bot : (Named.named κ "mask" 0xF149F2CA#32 : Ideal .f32) = (⊥ : EReal) := by
  rfl

/-- A comparison of a lane's number with a small count. -/
theorem sle_small {j n : ℕ} (hj : j < 2 ^ 31) (hn : n < 2 ^ 31) (x y : EReal) :
    Scalar.select (IntOp.cmpi .sle (BitVec.ofNat 32 j) (BitVec.ofNat 32 n)) x y = if j ≤ n then x else y := by
  have h : (BitVec.ofNat 32 j).sle (BitVec.ofNat 32 n) = decide (j ≤ n) := by
    rw [BitVec.sle_eq_decide, toInt_small j hj, toInt_small n hn]
    simp
  unfold Scalar.select IntOp.cmpi
  simp only [h]
  by_cases hle : j ≤ n <;> simp [hle]

/-- The weights are the shares of the scores, where the two halves' scores and the parity choose a real score for each
    member that takes part. -/
theorem pay735_at (X Y : S128x800.Idx → EReal) (W : S800x128.Idx → EReal) (P : S1x128x128.Idx → EReal)
    (L : S1x128x1.Idx → BitVec 32) (r j : Fin 128) (s : ℕ → ℝ) (n : ℕ) (hn : n < 128)
    (hL : L (ix3 0 r 0) = BitVec.ofNat 32 n)
    (hs : ∀ i : Fin 128, i.val ≤ n → ∑ k : Fin 800, X (ix2 r k) * W (ix2 k i)
      + P (ix3 0 r i) * (∑ k : Fin 800, Y (ix2 r k) * W (ix2 k i) - ∑ k : Fin 800, X (ix2 r k) * W (ix2 k i)) = s i.val) :
    k0_pay735 (F := Ideal) X W Y W P L (ix2 r j) = ((Cert.Spec.share s n j.val : ℝ) : EReal) := by
  pointwise [k0_pay735, k0_pay734]
  have hx : ∀ i : Fin 128, Scalar.select (IntOp.cmpi .sle (BitVec.ofNat 32 i.val) (L (ix3 0 r 0)))
      (∑ k : Fin 800, X (ix2 r k) * W (ix2 k i)
        + P (ix3 0 r i) * (∑ k : Fin 800, Y (ix2 r k) * W (ix2 k i) - ∑ k : Fin 800, X (ix2 r k) * W (ix2 k i)))
      (Named.named κ "mask" 0xF149F2CA#32 : Ideal .f32) = if i.val ≤ n then ((s i.val : ℝ) : EReal) else ⊥ := by
    intro i
    rw [hL, sle_small (by omega) (by omega)]
    split_ifs with h
    · exact hs i h
    · exact mask_bot
  simp only [hx, bits_bot]
  exact Cert.Spec.soft_eq _ s n hn (fun i => rfl) (Cert.Spec.top_real _ s n hn fun i => rfl) j

theorem pay739_at (v : S128x256.Idx → EReal) (W : S256x6400.Idx → EReal) (r : Fin 128) (j : Fin 6400) :
    k0_pay739 (F := Ideal) v W (ix2 r j) = ∑ k : Fin 256, v (ix2 r k) * W (ix2 k j) := by
  pointwise [k0_pay739]

end Cert.PIdeal

end
-- ==== Proof.ReadSum.lean ====
/-
  The weighted member rows at an entry: the sum of the members' products.
-/
module

public import Idealize.ShloMosaic.Lib.Pointwise
public import Idealize.ShloMosaic.PureOps.Ideal.Laws
public import proofs.«01_k».proof.Proof.Finish
public import proofs.«01_k».proof.Proof.Maths

@[expose] public section

set_option maxRecDepth 16384

noncomputable section

namespace Cert.PIdeal

open Cert.KernelIdeal Cert.KernelIdeal.Gen
open Idealize.ShloMosaic Idealize.ShloMosaic.TcCoe Idealize.ShloMosaic.Tactic

/-- The sum of the members' products, as the body forms it, but for the last. -/
def acc (U G : ℕ → S128x128.Idx → EReal) : S128x128.Idx → EReal :=
  let v2364 := k0_pay740 (F := Ideal) (U 0) (G 0) (U 128) (G 128) (U 256) (G 256) (U 384) (G 384)
  let v2396 := k0_pay741 (F := Ideal) v2364 (U 512) (G 512) (U 640) (G 640) (U 768) (G 768) (U 896) (G 896) (U 1024) (G 1024)
    (U 1152) (G 1152) (U 1280) (G 1280) (U 1408) (G 1408)
  let v2424 := k0_pay742 (F := Ideal) v2396 (U 1536) (G 1536) (U 1664) (G 1664) (U 1792) (G 1792) (U 1920) (G 1920) (U 2048)
    (G 2048) (U 2176) (G 2176) (U 2304) (G 2304)
  let v2456 := k0_pay743 (F := Ideal) v2424 (U 2432) (G 2432) (U 2560) (G 2560) (U 2688) (G 2688) (U 2816) (G 2816) (U 2944)
    (G 2944) (U 3072) (G 3072) (U 3200) (G 3200) (U 3328) (G 3328)
  let v2484 := k0_pay744 (F := Ideal) v2456 (U 3456) (G 3456) (U 3584) (G 3584) (U 3712) (G 3712) (U 3840) (G 3840) (U 3968)
    (G 3968) (U 4096) (G 4096) (U 4224) (G 4224)
  let v2516 := k0_pay745 (F := Ideal) v2484 (U 4352) (G 4352) (U 4480) (G 4480) (U 4608) (G 4608) (U 4736) (G 4736) (U 4864)
    (G 4864) (U 4992) (G 4992) (U 5120) (G 5120) (U 5248) (G 5248)
  k0_pay746 (F := Ideal) v2516 (U 5376) (G 5376) (U 5504) (G 5504) (U 5632) (G 5632) (U 5760) (G 5760) (U 5888)
    (G 5888) (U 6016) (G 6016) (U 6144) (G 6144)

theorem acc_at (U G : ℕ → S128x128.Idx → EReal) (r l : Fin 128) :
    acc U G (ix2 r l) = ∑ j ∈ Finset.range 49, U (128 * j) (ix2 r l) * G (128 * j) (ix2 r l) := by
  unfold acc
  pointwise [k0_pay740, k0_pay741, k0_pay742, k0_pay743, k0_pay744, k0_pay745, k0_pay746]
  simp only [Finset.sum_range_succ, Finset.sum_range_zero, Nat.reduceMul]
  try simp only [zero_add]

end Cert.PIdeal

end
-- ==== Proof.ReadParts.lean ====
/-
  The parts of a block, of one row: the member's and the item's share of the hidden layer, the two halves' scores, the weights
  spread over the lanes.
-/
module

public import proofs.«01_k».proof.Proof.ReadScores
public import proofs.«01_k».proof.Proof.ReadSum
public import proofs.«01_k».proof.Proof.Body

@[expose] public section

set_option maxRecDepth 16384

noncomputable section

namespace Cert.PIdeal

open Cert.P
open Cert.KernelIdeal Cert.KernelIdeal.Gen
open Idealize.ShloMosaic Idealize.ShloMosaic.TcCoe Idealize.ShloMosaic.Tactic
open Cert.Spec

/-- A sum over 128 lanes against a weight that is zero on the high half. -/
theorem sum_low (f g : Fin 128 → EReal) (w : Fin 64 → EReal)
    (h : ∀ d : Fin 128, g d = if hd : d.val < 64 then w ⟨d.val, hd⟩ else 0) :
    ∑ d, f d * g d = ∑ d : Fin 64, f ⟨d.val, by omega⟩ * w d := by
  have e := Fin.sum_univ_add (a := 64) (b := 64) fun d : Fin 128 => f d * g d
  refine e.trans ?_
  rw [Finset.sum_eq_zero (s := Finset.univ) (f := fun i : Fin 64 => f (Fin.natAdd 64 i) * g (Fin.natAdd 64 i)), add_zero]
  · refine Finset.sum_congr rfl fun d _ => ?_
    rw [h, dif_pos (show (Fin.castAdd 64 d).val < 64 from d.isLt)]
    rfl
  · intro d _
    rw [h, dif_neg (by show ¬ 64 + d.val < 64; omega), mul_zero]

/-- A sum over 128 lanes against a weight that is zero on the low half. -/
theorem sum_high (f g : Fin 128 → EReal) (w : Fin 64 → EReal)
    (h : ∀ d : Fin 128, g d = if hd : d.val < 64 then 0 else w ⟨d.val - 64, by omega⟩) :
    ∑ d, f d * g d = ∑ d : Fin 64, f ⟨64 + d.val, by omega⟩ * w d := by
  have e := Fin.sum_univ_add (a := 64) (b := 64) fun d : Fin 128 => f d * g d
  refine e.trans ?_
  rw [Finset.sum_eq_zero (s := Finset.univ) (f := fun i : Fin 64 => f (Fin.castAdd 64 i) * g (Fin.castAdd 64 i)), zero_add]
  · refine Finset.sum_congr rfl fun d _ => ?_
    rw [h, dif_neg (by show ¬ 64 + d.val < 64; omega)]
    refine congr (congrArg _ rfl) (congrArg w (Fin.ext ?_))
    show 64 + d.val - 64 = d.val
    omega
  · intro d _
    rw [h, dif_pos (show (Fin.castAdd 64 d).val < 64 from d.isLt), mul_zero]

/-- A weight laid out once per half of the lanes. -/
def Twice (W : S128x32.Idx → EReal) (w : Fin 64 → Fin 16 → EReal) : Prop :=
  (∀ (d : Fin 128) (k : Fin 16), W (ix2 d ⟨k.val, by omega⟩) = if hd : d.val < 64 then w ⟨d.val, hd⟩ k else 0)
  ∧ ∀ (d : Fin 128) (k : Fin 16), W (ix2 d ⟨16 + k.val, by omega⟩) = if hd : d.val < 64 then 0 else w ⟨d.val - 64, by omega⟩ k

/-- A row chosen by a parity: the parity is zero and the row is the low half, or it is one and the row is the high half;
    both halves are real. -/
def Picked (p : EReal) (row : Fin 128 → EReal) (x : Fin 64 → EReal) : Prop :=
  (∀ l, IsReal (row l)) ∧ ((p = 0 ∧ ∀ d : Fin 64, row ⟨d.val, by omega⟩ = x d) ∨ (p = 1 ∧ ∀ d : Fin 64, row ⟨64 + d.val, by omega⟩ = x d))

theorem Picked.real {p : EReal} {row : Fin 128 → EReal} {x : Fin 64 → EReal} (h : Picked p row x) (d : Fin 64) : IsReal (x d) := by
  rcases h with ⟨hr, ⟨_, h⟩ | ⟨_, h⟩⟩ <;> exact h d ▸ hr _

/-- The choice gives the row. -/
theorem Picked.pick {p : EReal} {row : Fin 128 → EReal} {x : Fin 64 → EReal} (h : Picked p row x) (d : ℕ) (hd : d < 64) :
    row ⟨d, by omega⟩ + p * (row ⟨64 + d, by omega⟩ - row ⟨d, by omega⟩) = x ⟨d, hd⟩ := by
  rcases h with ⟨hr, ⟨hp, h⟩ | ⟨hp, h⟩⟩
  · rw [hp, pick_zero]
    exact h ⟨d, hd⟩
  · rw [hp, pick_one (hr _) (hr _)]
    exact h ⟨d, hd⟩

/-- The item's share of the hidden layer. -/
theorem hidden_at (I : S128x128.Idx → EReal) (W : S128x32.Idx → EReal) (A : S128x128.Idx → EReal) (B : S1x16.Idx → EReal)
    (r : Fin 128) (p : EReal) (it : Fin 64 → EReal) (w1 : Fin 128 → Fin 16 → EReal) (b1 : Fin 16 → EReal)
    (hW : Twice W fun d => w1 ⟨64 + d.val, by omega⟩) (hA : ∀ d : ℕ, (hd : d < 64) → A (ix2 r ⟨d, by omega⟩) = p)
    (hI : Picked p (fun l => I (ix2 r l)) it) (h1 : ∀ d k, IsReal (w1 d k)) (hB : ∀ k, B (ix2 0 k) = b1 k) (k : Fin 16) :
    k0_pay622 (F := Ideal) (k0_pay619 I W) A (k0_pay621 I W) B (ix2 r k) = Cert.Spec.hidden it w1 b1 k := by
  rw [pay622_at, hA _ (by omega), hB]
  unfold Cert.Spec.hidden
  congr 1
  rw [sum_low (fun d => I (ix2 r d)) (fun d => W (ix2 d ⟨k.val, by omega⟩))
      (fun d => w1 ⟨64 + d.val, by omega⟩ k) fun d => hW.1 d k,
    sum_high (fun d => I (ix2 r d)) (fun d => W (ix2 d ⟨16 + k.val, by omega⟩))
      (fun d => w1 ⟨64 + d.val, by omega⟩ k) fun d => hW.2 d k]
  rcases hI with ⟨hr, ⟨hp, h⟩ | ⟨hp, h⟩⟩
  · rw [hp, pick_zero]
    exact Finset.sum_congr rfl fun d _ => congrArg (· * _) (h d)
  · rw [hp, pick_one (IsReal.sum _ fun d => (hr _).mul (h1 _ k)) (IsReal.sum _ fun d => (hr _).mul (h1 _ k))]
    exact Finset.sum_congr rfl fun d _ => congrArg (· * _) (h d)

/-- The hidden layer's item share, one copy per member. -/
theorem bias_at (v : S128x16.Idx → EReal) (W : S16x800.Idx → EReal) (r : Fin 128)
    (hW : ∀ (k : Fin 16) (j : Fin 800), W (ix2 k j) = if j.val % 16 = k.val then 1 else 0) (j : Fin 800) :
    k0_pay730 (F := Ideal) v W (ix2 r j) = v (ix2 r ⟨j.val % 16, by omega⟩) := by
  rw [pay730_at, Finset.sum_eq_single (⟨j.val % 16, by omega⟩ : Fin 16)]
  · rw [hW, if_pos rfl, mul_one]
  · intro k _ hk
    rw [hW, if_neg fun e => hk (Fin.ext e.symm), mul_zero]
  · intro h
    exact absurd (Finset.mem_univ _) h

/-- A half's score of a member. -/
theorem half_score (X : S128x800.Idx → EReal) (W : S800x128.Idx → EReal) (r i : Fin 128) (hi : i.val < 50) (w2 : Fin 16 → EReal)
    (x : Fin 16 → EReal)
    (hX : ∀ k : Fin 16, X (ix2 r ⟨16 * i.val + k.val, by omega⟩) = x k)
    (hW : ∀ (j : Fin 800) (m : Fin 128), W (ix2 j m) = if j.val / 16 = m.val then w2 ⟨j.val % 16, by omega⟩ else 0) :
    ∑ j : Fin 800, X (ix2 r j) * W (ix2 j i) = ∑ k, x k * w2 k := by
  refine sum_one_block (a := 50) (b := 16) (fun j : Fin (50 * 16) => X (ix2 r j) * W (ix2 j i)) ⟨i.val, hi⟩ (fun k => x k * w2 k) ?_
  intro m k
  have hv : (finProdFinEquiv (m, k) : Fin (50 * 16)).val = k.val + 16 * m.val := rfl
  rw [hW]
  by_cases hm : m = ⟨i.val, hi⟩
  · rw [if_pos hm, if_pos (by rw [hv, hm]; show (k.val + 16 * i.val) / 16 = i.val; omega), ← hX k]
    refine congr (congrArg _ (congrArg (fun q => X (ix2 r q)) (Fin.ext ?_))) (congrArg w2 (Fin.ext ?_))
    · rw [hv, hm]
      show k.val + 16 * i.val = 16 * i.val + k.val
      omega
    · show (finProdFinEquiv (m, k) : Fin (50 * 16)).val % 16 = k.val
      rw [hv]
      omega
  · rw [if_neg hm, if_neg, mul_zero]
    rw [hv]
    intro e
    exact hm (Fin.ext (by show m.val = i.val; omega))

/-- The low half's columns of a member, at an entry. -/
theorem wideE_at (H : S6400x32.Idx → EReal) (r : Fin 128) (i : ℕ) (hi : i < 50) (k : Fin 16) :
    wideE (F := Ideal) H (ix2 r ⟨16 * i + k.val, by omega⟩) = H (ix2 ⟨128 * i + r.val, by omega⟩ ⟨k.val, by omega⟩) := by
  show H _ = H _
  congr 1
  funext a
  apply Fin.ext
  match a with
  | ⟨0, _⟩ =>
    show (128 * ((16 * i + k.val) / 16) + r.val) % 6400 = 128 * i + r.val
    omega
  | ⟨1, _⟩ =>
    show (0 + (16 * i + k.val) % 16) % 32 = k.val
    omega

/-- The high half's columns of a member, at an entry. -/
theorem wideO_at (H : S6400x32.Idx → EReal) (r : Fin 128) (i : ℕ) (hi : i < 50) (k : Fin 16) :
    wideO (F := Ideal) H (ix2 r ⟨16 * i + k.val, by omega⟩) = H (ix2 ⟨128 * i + r.val, by omega⟩ ⟨16 + k.val, by omega⟩) := by
  show H _ = H _
  congr 1
  funext a
  apply Fin.ext
  match a with
  | ⟨0, _⟩ =>
    show (128 * ((16 * i + k.val) / 16) + r.val) % 6400 = 128 * i + r.val
    omega
  | ⟨1, _⟩ =>
    show (16 + (16 * i + k.val) % 16) % 32 = 16 + k.val
    omega

/-- The weights spread over the lanes: the low half's on the low lanes of each member, the high half's on the high lanes. -/
theorem spread_at (a b : S128x128.Idx → EReal) (W : S256x6400.Idx → EReal) (r : Fin 128)
    (hW : ∀ (k : Fin 256) (j : Fin 6400), W (ix2 k j)
      = if k.val = (if j.val % 128 < 64 then j.val / 128 else 128 + j.val / 128) then 1 else 0) (j : ℕ) (hj : j < 50) (l : Fin 128) :
    k0_pay739 (F := Ideal) (sideBySide a b) W (ix2 r ⟨128 * j + l.val, by omega⟩)
      = if l.val < 64 then a (ix2 r ⟨j, by omega⟩) else b (ix2 r ⟨j, by omega⟩) := by
  have h1 : (128 * j + l.val) % 128 = l.val := by omega
  have h2 : (128 * j + l.val) / 128 = j := by omega
  have hW' : ∀ k : Fin 256, W (ix2 k ⟨128 * j + l.val, by omega⟩)
      = if k.val = (if l.val < 64 then j else 128 + j) then 1 else 0 := by
    intro k
    rw [hW]
    show (if k.val = (if (128 * j + l.val) % 128 < 64 then (128 * j + l.val) / 128 else 128 + (128 * j + l.val) / 128) then (1 : EReal)
      else 0) = _
    rw [h1, h2]
  obtain ⟨q, hq⟩ : ∃ q : Fin 256, q.val = if l.val < 64 then j else 128 + j := by
    by_cases h : l.val < 64
    · exact ⟨⟨j, by omega⟩, (if_pos h).symm⟩
    · exact ⟨⟨128 + j, by omega⟩, (if_neg h).symm⟩
  rw [pay739_at, Finset.sum_eq_single q]
  · rw [hW', if_pos hq, mul_one]
    show besides (F := Ideal) a b r.val q.val = _
    have hr : (Fin.ofNat 128 r.val : Fin 128) = r := Fin.ext (Nat.mod_eq_of_lt r.isLt)
    rw [hq]
    unfold besides
    by_cases h : l.val < 64
    · rw [if_pos h, if_pos h, if_pos (by omega), hr]
      exact congrArg (fun q => a (ix2 r q)) (Fin.ext (Nat.mod_eq_of_lt (by omega)))
    · rw [if_neg h, if_neg h, if_neg (by omega), hr]
      refine congrArg (fun q => b (ix2 r q)) (Fin.ext ?_)
      show (128 + j - 128) % 128 = j
      omega
  · intro k _ hk
    rw [hW', if_neg fun e => hk (Fin.ext (e.trans hq.symm)), mul_zero]
  · intro h
    exact absurd (Finset.mem_univ _) h

end Cert.PIdeal

end
-- ==== Proof.WordsRead.lean ====
/-
  The arrays of words, parities and table rows the lines before the region leave, at an entry.
-/
module

public import proofs.«01_k».proof.Proof.HostTables
public import proofs.«01_k».proof.Proof.Perm
public import proofs.«01_k».proof.Proof.ReadParts

@[expose] public section

set_option maxRecDepth 16384

noncomputable section

namespace Cert.PIdeal

open Cert.P
open Cert.KernelIdeal Cert.KernelIdeal.Gen
open Idealize.ShloMosaic Idealize.ShloMosaic.TcCoe Idealize.ShloMosaic.Tactic
open Cert.Spec

/-- The low bit of a number. -/
def parity (b : ℕ) : EReal := if b % 2 = 0 then 0 else 1

/-- The low bit of a word, as a number. -/
theorem low_bit (w : BitVec 32) : (FloatOps.sitofp .f32 (IntOp.andi w 1#32) : Ideal .f32) = parity w.toNat := by
  have e : IntOp.andi w 1#32 = BitVec.ofNat 32 (w.toNat % 2) := by
    apply BitVec.eq_of_toNat_eq
    unfold IntOp.andi
    rw [BitVec.toNat_and, BitVec.toNat_ofNat, BitVec.toNat_ofNat]
    have : (1 % 2 ^ 32 : ℕ) = 2 ^ 1 - 1 := by norm_num
    rw [this, Nat.and_two_pow_sub_one_eq_mod]
    omega
  rw [e]
  unfold parity
  rcases Nat.mod_two_eq_zero_or_one w.toNat with h | h
  · rw [h, if_pos rfl]
    simp [FloatOps.sitofp]
  · rw [h, if_neg (by omega)]
    have h1 : (BitVec.ofNat 32 1).toInt = 1 := by decide
    show (((BitVec.ofNat 32 1).toInt : ℝ) : EReal) = 1
    rw [h1]
    simp

/-- Half of a word that is not negative. -/
theorem half_toNat (w : BitVec 32) (h : 0 ≤ w.toInt) : (IntOp.shrsi .host w 1#32).toNat = w.toNat / 2 := by
  have e : IntOp.shrsi .host w 1#32 = w.sshiftRight 1 := rfl
  have hm : w.msb = false := by
    rw [BitVec.msb_eq_false_iff_two_mul_lt]
    rw [BitVec.toInt_eq_toNat_cond] at h
    split at h <;> omega
  rw [e, BitVec.sshiftRight_eq_of_msb_false hm, BitVec.toNat_ushiftRight, Nat.shiftRight_eq_div_pow]

variable (l x : IVec S16384 32) (y : IVec S16384x50 32)

/-- The request in row `r` of group `t`. -/
def req (t r : Fin 128) : Fin 16384 := at_ l ⟨t.val * 128 + r.val, by omega⟩

theorem sorted1_ix (k : Fin 16384) : sorted1 l x (ix1 k) = x (ix1 (at_ l k)) := by
  have e : ∀ k : Fin 16384, Shape.Idx.ofFin k = ix1 k := fun k => by
    funext a
    fin_cases a
    rfl
  rw [← e, ← e]
  exact sorted1_at l x k

theorem par_at (t r : Fin 128) (j : ℕ) (hj : j < 50) :
    hostPar (F := Ideal) l y (ix3 t r ⟨j, by omega⟩) = parity (y (ix2 (req l t r) ⟨j, hj⟩)).toNat := by
  pointwise [hostPar]
  rw [dif_pos ⟨by omega, hj⟩, sorted2_at, low_bit]
  rfl

theorem aux2_low (a b : S16384x64.Idx → EReal) (t r : Fin 128) (d : ℕ) (hd : d < 64) :
    shapeCast S128x128x128 (join2 (F := Ideal) a b) shapeCasts_S16384x128_S128x128x128 (ix3 t r ⟨d, by omega⟩)
      = a (ix2 ⟨t.val * 128 + r.val, by omega⟩ ⟨d, hd⟩) := by
  pointwise [join2]
  rw [dif_pos hd]

theorem aux2_high (a b : S16384x64.Idx → EReal) (t r : Fin 128) (d : ℕ) (hd : d < 64) :
    shapeCast S128x128x128 (join2 (F := Ideal) a b) shapeCasts_S16384x128_S128x128x128 (ix3 t r ⟨64 + d, by omega⟩)
      = b (ix2 ⟨t.val * 128 + r.val, by omega⟩ ⟨d, hd⟩) := by
  pointwise [join2]

theorem lowBit_at (k : Fin 16384) (d : Fin 64) : lowBit (F := Ideal) l x (ix2 k d) = parity (x (ix1 (at_ l k))).toNat := by
  pointwise [lowBit]
  rw [sorted1_ix, low_bit]

theorem lens_at (t r : Fin 128) : shapeCast S128x128x1 (sorted1 l x) shapeCasts_S16384_S128x128x1 (ix3 t r 0) = x (ix1 (req l t r)) := by
  pointwise
  exact sorted1_ix l x _

theorem ids_at (t r : Fin 128) (j : ℕ) (hj : j < 50) :
    hostIds l y (ix3 t 0 ⟨128 * j + r.val, by omega⟩) = IntOp.shrsi .host (y (ix2 (req l t r) ⟨j, hj⟩)) 1#32 := by
  pointwise [hostIds]
  rw [sorted2_at]
  refine congrArg (fun q => IntOp.shrsi .host (y (ix2 (req l t r) q)) 1#32) (Fin.ext ?_)
  show (128 * j + r.val) / 128 = j
  omega

theorem halved_at (t r : Fin 128) : halved l x (ix3 t 0 r) = IntOp.shrsi .host (x (ix1 (req l t r))) 1#32 := by
  pointwise [halved]
  rw [sorted1_ix]
  rfl

theorem user_at (T : S100000x64.Idx → EReal) (b : Fin 50000) (l : Fin 128) :
    shapeCast S50000x1x128 T shapeCasts_S100000x64_S50000x1x128 (ix3 b 0 l)
      = T (ix2 ⟨b.val * 2 + l.val / 64, by omega⟩ ⟨l.val % 64, by omega⟩) := by
  pointwise

theorem item_at (T : S50000x64.Idx → EReal) (b : Fin 25000) (l : Fin 128) :
    shapeCast S25000x1x128 T shapeCasts_S50000x64_S25000x1x128 (ix3 b 0 l)
      = T (ix2 ⟨b.val * 2 + l.val / 64, by omega⟩ ⟨l.val % 64, by omega⟩) := by
  pointwise

theorem group_at (T : S20000x64.Idx → EReal) (b : Fin 10000) (l : Fin 128) :
    shapeCast S10000x1x128 T shapeCasts_S20000x64_S10000x1x128 (ix3 b 0 l)
      = T (ix2 ⟨b.val * 2 + l.val / 64, by omega⟩ ⟨l.val % 64, by omega⟩) := by
  pointwise

/-- A row of a table of pairs, by the parity of the row's number. -/
theorem picked_row {N : ℕ} (T : ℕ → Fin 64 → EReal) (hT : ∀ b d, b < 2 * N → IsReal (T b d)) (b : ℕ) (hb : b < 2 * N) :
    Picked (parity b) (fun l => T (b / 2 * 2 + l.val / 64) ⟨l.val % 64, by omega⟩) (T b) := by
  refine ⟨fun l => hT _ _ (by omega), ?_⟩
  unfold parity
  rcases Nat.mod_two_eq_zero_or_one b with h | h
  · refine Or.inl ⟨if_pos h, fun d => ?_⟩
    show T (b / 2 * 2 + d.val / 64) ⟨d.val % 64, _⟩ = T b d
    have e1 : b / 2 * 2 + d.val / 64 = b := by omega
    have e2 : (⟨d.val % 64, by omega⟩ : Fin 64) = d := Fin.ext (by show d.val % 64 = d.val; omega)
    rw [e1, e2]
  · refine Or.inr ⟨if_neg (by omega), fun d => ?_⟩
    show T (b / 2 * 2 + (64 + d.val) / 64) ⟨(64 + d.val) % 64, _⟩ = T b d
    have e1 : b / 2 * 2 + (64 + d.val) / 64 = b := by omega
    have e2 : (⟨(64 + d.val) % 64, by omega⟩ : Fin 64) = d := Fin.ext (by show (64 + d.val) % 64 = d.val; omega)
    rw [e1, e2]

end Cert.PIdeal

end
-- ==== Proof.RowsRead.lean ====
/-
  The gathered table rows of a point of the grid, at an entry.
-/
module

public import proofs.«01_k».proof.Proof.Blocks
public import proofs.«01_k».proof.Proof.WordsRead
public import proofs.«01_k».proof.Proof.Points

@[expose] public section

set_option maxRecDepth 16384

noncomputable section

namespace Cert.PIdeal

open Cert.P
open Cert.KernelIdeal Cert.KernelIdeal.Gen
open Idealize.ShloMosaic Idealize.ShloMosaic.TcCoe Idealize.ShloMosaic.Tactic
open Idealize.SL.Sem
open Cert.Spec

/-- A row of a table of 64 columns. -/
def tableRow {N : ℕ} [NeZero N] (T : (⟨2, ![N, 64]⟩ : Shape).Idx → EReal) (b : ℕ) (d : Fin 64) : EReal := T (ix2 (Fin.ofNat N b) d)

/-- A largest word is no smaller than the words it is the largest of. -/
theorem foldl_ge {α : Type} (f : α → BitVec 32) (L : List α) :
    ∀ r : BitVec 32, r.toInt ≤ (L.foldl (fun r a => IntOp.maxsi r (f a)) r).toInt
      ∧ ∀ a ∈ L, (f a).toInt ≤ (L.foldl (fun r a => IntOp.maxsi r (f a)) r).toInt := by
  induction L with
  | nil => intro r; exact ⟨le_refl _, fun a h => by cases h⟩
  | cons a L ih =>
    intro r
    rw [List.foldl_cons]
    have hm : r.toInt ≤ (IntOp.maxsi r (f a)).toInt ∧ (f a).toInt ≤ (IntOp.maxsi r (f a)).toInt := by
      unfold IntOp.maxsi
      split
      · rename_i hs
        rw [BitVec.slt_iff_toInt_lt] at hs
        omega
      · rename_i hs
        rw [BitVec.slt_iff_toInt_lt] at hs
        omega
    have h := ih (IntOp.maxsi r (f a))
    refine ⟨hm.1.trans h.1, fun b hb => ?_⟩
    rcases List.mem_cons.mp hb with rfl | hb
    · exact hm.2.trans h.1
    · exact h.2 b hb

/-- The slab count of a group exceeds every member count of the group. -/
theorem slabCount_gt {l : IVec S16384 32} (h : Below l 50) (t r : Fin 128) :
    (l (ix1 (req l t r))).toInt + 1 ≤ (slabCount l (ix1 t)).toInt := by
  have hr := foldl_maxsi (fun n => shapeCast S128x128 (sorted1 l l) shapeCasts_S16384_S128x128 (S128x128.rowMajor.symm n))
    (fun n => sorted1_below h _)
    ((List.finRange S128x128.numel).filter fun n => reducesTo_S128x128_S128_d1.drop (S128x128.rowMajor.symm n) = ix1 t) 2147483648#32
  have hg := (foldl_ge (fun n => shapeCast S128x128 (sorted1 l l) shapeCasts_S16384_S128x128 (S128x128.rowMajor.symm n))
    ((List.finRange S128x128.numel).filter fun n => reducesTo_S128x128_S128_d1.drop (S128x128.rowMajor.symm n) = ix1 t) 2147483648#32).2
    (S128x128.rowMajor (ix2 t r)) (by
      rw [List.mem_filter]
      refine ⟨List.mem_finRange _, ?_⟩
      rw [Equiv.symm_apply_apply]
      simp only [decide_eq_true_eq]
      funext a
      fin_cases a
      rfl)
  rw [Equiv.symm_apply_apply] at hg
  have ht : shapeCast S128x128 (sorted1 l l) shapeCasts_S16384_S128x128 (ix2 t r) = l (ix1 (req l t r)) := by
    pointwise
    exact sorted1_ix l l _
  rw [ht] at hg
  have hr' := hr (Or.inl ⟨rfl, by
    intro he
    have hm : S128x128.rowMajor (ix2 t r) ∈ (List.finRange S128x128.numel).filter fun n =>
        reducesTo_S128x128_S128_d1.drop (S128x128.rowMajor.symm n) = ix1 t := by
      rw [List.mem_filter]
      refine ⟨List.mem_finRange _, ?_⟩
      rw [Equiv.symm_apply_apply]
      simp only [decide_eq_true_eq]
      funext a
      fin_cases a
      rfl
    rw [he] at hm
    cases hm⟩)
  have e (x w : BitVec 32) (hw : 0 ≤ w.toInt ∧ w.toInt < 50) (hx : x.toInt ≤ w.toInt) : x.toInt + 1 ≤ (w + 1#32).toInt := by
    have h1 : (1#32 : BitVec 32).toInt = 1 := by decide
    rw [BitVec.toInt_add, h1, Int.bmod_eq_of_le (by omega) (by omega)]
    omega
  exact e _ _ hr' hg

/-- A row laid over. -/
theorem ov_pos {α : Type} {R W n : ℕ} (T : ℕ → ℕ → α) (D : (⟨2, ![R, W]⟩ : Shape).Idx → α) (a : Fin R) (b : Fin W) (h : a.val < n) :
    ov T n D (ix2 a b) = T a.val b.val := if_pos h

theorem casts_row : Shape.ShapeCasts S1x1x6400 S6400 := by decide

/-- A word of a row of words. -/
theorem words_row (W1 : S1x1x6400.Idx → BitVec 32) (k : ℕ) (hk : k < 6400) :
    wordsOf (n := 6400) (shapeCast S6400 W1 casts_row) k = W1 (ix3 0 0 ⟨k, hk⟩) := by
  unfold wordsOf
  have e : (Fin.ofNat 6400 k : Fin 6400) = ⟨k, hk⟩ := Fin.ext (Nat.mod_eq_of_lt hk)
  rw [e]
  pointwise

/-- A word that is not negative and below a bound. -/
theorem toNat_below {w : BitVec 32} {n : ℕ} (h : 0 ≤ w.toInt ∧ w.toInt < n) : w.toNat < n ∧ (w.toNat : ℤ) = w.toInt := by
  have h1 := h.1
  have h2 := h.2
  rw [BitVec.toInt_eq_toNat_cond] at h1 h2 ⊢
  split at h1 <;> split at h2 <;> split <;> omega

variable (m : (ℓ : Loc nD τ sig) → Buf (Elt Ideal) ℓ) (c : Dev nD)

/-- The request in row `r` of group `t`. -/
abbrev reqAt (t r : Fin 128) : Fin 16384 := req (argV m c main_arg3 : IVec S16384 32) t r

theorem aux_item (t : Fin cfg0.N) (r : Fin 128) :
    auxWords (iblk m c 1 t) r.val = halved (argV m c main_arg3) (argV m c main_arg1) (ix3 (⟨t.val, t.isLt⟩ : Fin 128) 0 r) := by
  rw [auxWords_at _ r.val (by omega), iblk_1_at, V_aux]
  unfold hostAux
  rw [show (ix3 (⟨t.val, t.isLt⟩ : Fin 128) (ix3 (0 : Fin 1) (0 : Fin 1) (⟨r.val, by omega⟩ : Fin 264) 1)
      (ix3 (0 : Fin 1) (0 : Fin 1) (⟨r.val, by omega⟩ : Fin 264) 2) : S128x1x264.Idx) = ix3 (⟨t.val, t.isLt⟩ : Fin 128) 0 (⟨r.val, by omega⟩ : Fin 264) from rfl,
      join3_at, dif_pos r.isLt]

theorem aux_group (t : Fin cfg0.N) (r : Fin 128) :
    auxWords (iblk m c 1 t) (r.val + 128) = halved (argV m c main_arg3) (argV m c main_arg0) (ix3 (⟨t.val, t.isLt⟩ : Fin 128) 0 r) := by
  rw [auxWords_at _ (r.val + 128) (by omega), iblk_1_at, V_aux]
  unfold hostAux
  rw [show (ix3 (⟨t.val, t.isLt⟩ : Fin 128) (ix3 (0 : Fin 1) (0 : Fin 1) (⟨r.val + 128, by omega⟩ : Fin 264) 1)
      (ix3 (0 : Fin 1) (0 : Fin 1) (⟨r.val + 128, by omega⟩ : Fin 264) 2) : S128x1x264.Idx) = ix3 (⟨t.val, t.isLt⟩ : Fin 128) 0 (⟨r.val + 128, by omega⟩ : Fin 264) from rfl,
      join3_at, dif_neg (by simp), dif_pos (by simp)]
  refine congrArg (fun q => halved _ _ (ix3 (⟨t.val, t.isLt⟩ : Fin 128) 0 q)) (Fin.ext ?_)
  show r.val + 128 - 128 = r.val
  omega

theorem item_row (h1 : Below (argV m c main_arg1) 50000) (hT : ∀ i, IsReal ((argV m c main_arg5 : S50000x64.Idx → EReal) i))
    (t : Fin cfg0.N) (r : Fin 128) :
    Picked (parity ((argV m c main_arg1 : IVec S16384 32) (ix1 (reqAt m c ⟨t.val, t.isLt⟩ r))).toNat)
      (fun l => itemRows (F := Ideal) (iblk m c 6 t) (auxWords (F := Ideal) (iblk m c 1 t)) (ix2 r l))
      (tableRow (N := 50000) (argV m c main_arg5) ((argV m c main_arg1 : IVec S16384 32) (ix1 (reqAt m c ⟨t.val, t.isLt⟩ r))).toNat) := by
  have hb := h1 (ix1 (reqAt m c ⟨t.val, t.isLt⟩ r))
  have hp := picked_row (N := 25000) (tableRow (N := 50000) (argV m c main_arg5)) (fun b d _ => hT _)
    ((argV m c main_arg1 : IVec S16384 32) (ix1 (reqAt m c ⟨t.val, t.isLt⟩ r))).toNat (toNat_below hb).1
  convert hp using 1
  funext l
  show gath (N := 25000) (iblk m c 6 t) (auxWords (F := Ideal) (iblk m c 1 t)) r.val l.val = _
  unfold gath
  rw [aux_item, halved_at, half_toNat _ hb.1, iblk_6_at, V_item, item_at]
  unfold tableRow
  refine congrArg (argV m c main_arg5) (congrArg₂ (fun a b => (ix2 a b : S50000x64.Idx)) (Fin.ext ?_) (Fin.ext ?_))
  · have h := (toNat_below hb).1
    show _ % 25000 * 2 + l.val % 128 / 64 = (_ / 2 * 2 + l.val / 64) % 50000
    omega
  · show l.val % 128 % 64 = l.val % 64
    omega

theorem group_row (h0 : Below (argV m c main_arg0) 20000) (hT : ∀ i, IsReal ((argV m c main_arg6 : S20000x64.Idx → EReal) i))
    (t : Fin cfg0.N) (r : Fin 128) :
    Picked (parity ((argV m c main_arg0 : IVec S16384 32) (ix1 (reqAt m c ⟨t.val, t.isLt⟩ r))).toNat)
      (fun l => groupRows (F := Ideal) (iblk m c 7 t) (auxWords (F := Ideal) (iblk m c 1 t)) (ix2 r l))
      (tableRow (N := 20000) (argV m c main_arg6) ((argV m c main_arg0 : IVec S16384 32) (ix1 (reqAt m c ⟨t.val, t.isLt⟩ r))).toNat) := by
  have hb := h0 (ix1 (reqAt m c ⟨t.val, t.isLt⟩ r))
  have hp := picked_row (N := 10000) (tableRow (N := 20000) (argV m c main_arg6)) (fun b d _ => hT _)
    ((argV m c main_arg0 : IVec S16384 32) (ix1 (reqAt m c ⟨t.val, t.isLt⟩ r))).toNat (toNat_below hb).1
  convert hp using 1
  funext l
  show gath (N := 10000) (iblk m c 7 t) (fun n => auxWords (F := Ideal) (iblk m c 1 t) (n + 128)) r.val l.val = _
  show (iblk m c 7 t : S10000x1x128.Idx → EReal) (ix3 (Fin.ofNat 10000 (auxWords (F := Ideal) (iblk m c 1 t) (r.val + 128)).toNat) 0
    (Fin.ofNat 128 l.val)) = _
  rw [aux_group, halved_at, half_toNat _ hb.1, iblk_7_at, V_group, group_at]
  unfold tableRow
  refine congrArg (argV m c main_arg6) (congrArg₂ (fun a b => (ix2 a b : S20000x64.Idx)) (Fin.ext ?_) (Fin.ext ?_))
  · have h := (toNat_below hb).1
    show _ % 10000 * 2 + l.val % 128 / 64 = (_ / 2 * 2 + l.val / 64) % 20000
    omega
  · show l.val % 128 % 64 = l.val % 64
    omega

theorem member_row (h2 : Below (argV m c main_arg2) 100000) (h3 : Below (argV m c main_arg3) 50)
    (hT : ∀ i, IsReal ((argV m c main_arg4 : S100000x64.Idx → EReal) i)) (t : Fin cfg0.N) (r : Fin 128) (j : ℕ) (hj : j < 50)
    (hn : j ≤ ((argV m c main_arg3 : IVec S16384 32) (ix1 (reqAt m c ⟨t.val, t.isLt⟩ r))).toNat) :
    Picked (parity ((argV m c main_arg2 : IVec S16384x50 32) (ix2 (reqAt m c ⟨t.val, t.isLt⟩ r) ⟨j, hj⟩)).toNat)
      (fun l => rowsAt m c (t.val + 1) (ix2 ⟨128 * j + r.val, by omega⟩ l))
      (tableRow (N := 100000) (argV m c main_arg4) ((argV m c main_arg2 : IVec S16384x50 32) (ix2 (reqAt m c ⟨t.val, t.isLt⟩ r) ⟨j, hj⟩)).toNat) := by
  have hb := h2 (ix2 (reqAt m c ⟨t.val, t.isLt⟩ r) ⟨j, hj⟩)
  have hp := picked_row (N := 50000) (tableRow (N := 100000) (argV m c main_arg4)) (fun b d _ => hT _)
    ((argV m c main_arg2 : IVec S16384x50 32) (ix2 (reqAt m c ⟨t.val, t.isLt⟩ r) ⟨j, hj⟩)).toNat (toNat_below hb).1
  convert hp using 1
  funext l
  have hs := slabCount_gt h3 ⟨t.val, t.isLt⟩ r
  have hl := (toNat_below (h3 (ix1 (reqAt m c ⟨t.val, t.isLt⟩ r)))).2
  have hlt : 128 * j + r.val < 128 * (auxWords (F := Ideal) (iblk m c 1 t) 256).toInt.toNat := by
    rw [aux_256]
    have : j + 1 ≤ (slabCount (argV m c main_arg3) (ix1 (⟨t.val, t.isLt⟩ : Fin 128))).toInt.toNat := by
      simp only [reqAt] at hl hn
      omega
    omega
  rw [rowsAt_succ]
  unfold pointRows memberRows
  rw [ov_pos _ _ _ _ hlt]
  unfold gath
  have hw : wordsOf (n := 6400) (shapeCast S6400 (iblk m c 0 t : S1x1x6400.Idx → BitVec 32) casts_row) (128 * j + r.val)
      = IntOp.shrsi .host ((argV m c main_arg2 : IVec S16384x50 32) (ix2 (reqAt m c ⟨t.val, t.isLt⟩ r) ⟨j, hj⟩)) 1#32 := by
    rw [words_row _ _ (show 128 * j + r.val < 6400 by omega), iblk_0_at, V_ids]
    exact ids_at _ _ _ r j hj
  rw [hw, half_toNat _ hb.1, iblk_5_at, V_user, user_at]
  unfold tableRow
  refine congrArg (argV m c main_arg4) (congrArg₂ (fun a b => (ix2 a b : S100000x64.Idx)) (Fin.ext ?_) (Fin.ext ?_))
  · have h := (toNat_below hb).1
    show _ % 50000 * 2 + l.val % 128 / 64 = (_ / 2 * 2 + l.val / 64) % 100000
    omega
  · show l.val % 128 % 64 = l.val % 64
    omega

end Cert.PIdeal

end
-- ==== Proof.HostWeights.lean ====
/-
  What the lines before the region leave in the arrays of the weights.
-/
module

public import proofs.«01_k».proof.Proof.Host

@[expose] public section

set_option maxRecDepth 16384

noncomputable section

namespace Cert.PIdeal

open Cert.KernelIdeal Cert.KernelIdeal.Gen
open Idealize.ShloMosaic Idealize.ShloMosaic.TcCoe Idealize.ShloMosaic.Tactic
open Idealize.SL.Sem

variable {F : FTy → Type} [FloatOps F] [Named F]

/-- A 64-row weight twice, once per half of the lanes, zero elsewhere. -/
def twice (a : FVec F S64x16 .f32) : FVec F S128x32 .f32 :=
  concatenate S128x32 1 [⟨S128x16, concatenate S128x16 0 [⟨S64x16, a⟩,
      ⟨S64x16, broadcastInDim S64x16 ![] bcast_S_S64x16 (constant S_ .f32 0x00000000#32)⟩] concatenates_S64x16_S64x16_S128x16_d0⟩,
    ⟨S128x16, concatenate S128x16 0 [⟨S64x16, broadcastInDim S64x16 ![] bcast_S_S64x16 (constant S_ .f32 0x00000000#32)⟩,
      ⟨S64x16, a⟩] concatenates_S64x16_S64x16_S128x16_d0⟩] concatenates_S128x16_S128x16_S128x32_d1

/-- One where row and column agree, zero elsewhere. -/
def eye50 : FVec F S50x50 .f32 :=
  uitofp .f32 (cmpi .eq (addi (iotaInDim S50x50 32 0) (broadcastInDim S50x50 ![] bcast_S_S50x50 (constantI S_ 32 0#32)))
    (iotaInDim S50x50 32 1))

/-- The output weights of the attention, one copy per member, zero off the diagonal and past the members. -/
def hostW2 (w : FVec F S16x1 .f32) : FVec F S800x128 .f32 :=
  pad S800x128 ![0, 0] ![0, 78] ![0, 0] (shapeCast S800x50 (mulf
    (broadcastInDim S50x16x50 ![0, 1, 2] bcast_S50x1x50_S50x16x50_0_1_2 (broadcastInDim S50x1x50 ![0, 2] bcast_S50x50_S50x1x50_0_2 eye50))
    (broadcastInDim S50x16x50 ![0, 1, 2] bcast_S1x16x1_S50x16x50_0_1_2 (broadcastInDim S1x16x1 ![1] bcast_S16_S1x16x1_1
      (shapeCast S16 w shapeCasts_S16x1_S16)))) shapeCasts_S50x16x50_S800x50 : FVec F S800x50 .f32)
    (sitofp .f32 (constantI S_ 32 0#32)) pads_S800x50_S800x128_000_0780 h_S_

/-- Fifty copies of the identity side by side. -/
def hostTile : FVec F S16x800 .f32 :=
  shapeCast S16x800 (broadcastInDim S1x16x50x16 ![0, 1, 2, 3] bcast_S1x16x1x16_S1x16x50x16_0_1_2_3 (shapeCast S1x16x1x16
    (uitofp .f32 (cmpi .eq (addi (iotaInDim S16x16 32 0) (broadcastInDim S16x16 ![] bcast_S_S16x16 (constantI S_ 32 0#32)))
      (iotaInDim S16x16 32 1)) : FVec F S16x16 .f32) shapeCasts_S16x16_S1x16x1x16)) shapeCasts_S1x16x50x16_S16x800

variable (m : (ℓ : Loc nD τ sig) → Buf (Elt F) ℓ) (c : Dev nD)

set_option maxHeartbeats 8000000 in
theorem V_w1 : V m c main_v73 = twice (extractStridedSlice S64x16 ![0, 0] (argV m c main_arg7) slices_S128x16_S64x16_0_0) := by
  unfold V V0
  simp only [List.flatten_cons, List.flatten_nil, List.append_nil, List.cons_append, List.nil_append, hostOps0, hostOps0_1, hostOps0_2]
  after_reads_simp
  rfl

set_option maxHeartbeats 8000000 in
theorem V_w1i : V m c main_v78 = twice (extractStridedSlice S64x16 ![64, 0] (argV m c main_arg7) slices_S128x16_S64x16_64_0) := by
  unfold V V0
  simp only [List.flatten_cons, List.flatten_nil, List.append_nil, List.cons_append, List.nil_append, hostOps0, hostOps0_1, hostOps0_2]
  after_reads_simp
  rfl

set_option maxHeartbeats 8000000 in
theorem V_b1 : V m c main_v79 = shapeCast S1x16 (argV m c main_arg8) shapeCasts_S16_S1x16 := by
  unfold V V0
  simp only [List.flatten_cons, List.flatten_nil, List.append_nil, List.cons_append, List.nil_append, hostOps0, hostOps0_1, hostOps0_2]
  after_reads_simp
  rfl

set_option maxHeartbeats 8000000 in
theorem V_w2 : V m c main_v93 = hostW2 (argV m c main_arg9) := by
  unfold V V0
  simp only [List.flatten_cons, List.flatten_nil, List.append_nil, List.cons_append, List.nil_append, hostOps0, hostOps0_1, hostOps0_2]
  after_reads_simp
  rfl

end Cert.PIdeal

end
-- ==== Proof.HostMlp.lean ====
/-
  What the lines before the region leave in the arrays of the last layers' weights.
-/
module

public import proofs.«01_k».proof.Proof.HostWeights

@[expose] public section

set_option maxRecDepth 16384

noncomputable section

namespace Cert.PIdeal

open Cert.KernelIdeal Cert.KernelIdeal.Gen
open Idealize.ShloMosaic Idealize.ShloMosaic.TcCoe Idealize.ShloMosaic.Tactic
open Idealize.SL.Sem

variable {F : FTy → Type} [FloatOps F] [Named F]

variable (m : (ℓ : Loc nD τ sig) → Buf (Elt F) ℓ) (c : Dev nD)

set_option maxHeartbeats 8000000 in
theorem V_tile : V m c main_v134 = hostTile := by
  unfold V V0
  simp only [List.flatten_cons, List.flatten_nil, List.append_nil, List.cons_append, List.nil_append, hostOps0, hostOps0_1, hostOps0_2]
  after_reads_simp
  rfl

set_option maxHeartbeats 8000000 in
theorem V_p1 : V m c main_v135 = pad S192x128 ![0, 0] ![0, 120] ![0, 0] (argV m c main_arg11) (sitofp .f32 (constantI S_ 32 0#32)) pads_S192x8_S192x128_000_01200 h_S_ := by
  unfold V V0
  simp only [List.flatten_cons, List.flatten_nil, List.append_nil, List.cons_append, List.nil_append, hostOps0, hostOps0_1, hostOps0_2]
  after_reads_simp
  rfl

set_option maxHeartbeats 8000000 in
theorem V_pb1 : V m c main_v137 = shapeCast S1x128 (pad S128 ![0] ![120] ![0] (argV m c main_arg12) (sitofp .f32 (constantI S_ 32 0#32)) pads_S8_S128_01200 h_S_) shapeCasts_S128_S1x128 := by
  unfold V V0
  simp only [List.flatten_cons, List.flatten_nil, List.append_nil, List.cons_append, List.nil_append, hostOps0, hostOps0_1, hostOps0_2]
  after_reads_simp
  rfl

set_option maxHeartbeats 8000000 in
theorem V_p2 : V m c main_v138 = pad S128x128 ![0, 0] ![120, 127] ![0, 0] (argV m c main_arg13) (sitofp .f32 (constantI S_ 32 0#32)) pads_S8x1_S128x128_01200_01270 h_S_ := by
  unfold V V0
  simp only [List.flatten_cons, List.flatten_nil, List.append_nil, List.cons_append, List.nil_append, hostOps0, hostOps0_1, hostOps0_2]
  after_reads_simp
  rfl

set_option maxHeartbeats 8000000 in
theorem V_pb2 : V m c main_v140 = broadcastInDim S1x128 ![] bcast_S_S1x128 (shapeCast S_ (argV m c main_arg14) shapeCasts_S1_S_) := by
  unfold V V0
  simp only [List.flatten_cons, List.flatten_nil, List.append_nil, List.cons_append, List.nil_append, hostOps0, hostOps0_1, hostOps0_2]
  after_reads_simp
  rfl

end Cert.PIdeal

end
-- ==== Proof.ReadTail.lean ====
/-
  The vectors of the block's body read at an entry: the weighted member rows and the last layers.
-/
module

public import Idealize.ShloMosaic.Lib.Pointwise
public import Idealize.ShloMosaic.PureOps.Ideal.Laws
public import proofs.«01_k».proof.Proof.Finish
public import proofs.«01_k».proof.Proof.Maths
public import proofs.«01_k».proof.Proof.Perm

@[expose] public section

set_option maxRecDepth 16384

noncomputable section

namespace Cert.PIdeal

open Cert.KernelIdeal Cert.KernelIdeal.Gen
open Idealize.ShloMosaic Idealize.ShloMosaic.TcCoe Idealize.ShloMosaic.Tactic

/-- A sum whose last terms are zero. -/
theorem sum_prefix {a b : ℕ} (f : Fin (a + b) → EReal) (h : ∀ i : Fin b, f (Fin.natAdd a i) = 0) :
    ∑ i, f i = ∑ i : Fin a, f (Fin.castAdd b i) := by
  rw [Fin.sum_univ_add, Finset.sum_eq_zero fun i _ => h i, add_zero]

set_option maxHeartbeats 4000000 in
/-- The last layers at an entry. -/
theorem pay747_at (A v U G X25 X24 : S128x128.Idx → EReal) (W15 : S192x128.Idx → EReal) (W16 : S1x128.Idx → EReal)
    (W17 : S128x128.Idx → EReal) (W18 : S1x128.Idx → EReal) (r : Fin 128)
    (g it : Fin 64 → EReal) (p1 : Fin 192 → Fin 8 → EReal) (pb1 p2 : Fin 8 → EReal) (pb2 : EReal)
    (hg : ∀ (d : ℕ) (hd : d < 64), v (ix2 r ⟨d, by omega⟩) + U (ix2 r ⟨d, by omega⟩) * G (ix2 r ⟨d, by omega⟩)
      + (v (ix2 r ⟨64 + d, by omega⟩) + U (ix2 r ⟨64 + d, by omega⟩) * G (ix2 r ⟨64 + d, by omega⟩))
      + (X25 (ix2 r ⟨d, by omega⟩) + A (ix2 r ⟨64 + d, by omega⟩)
        * (X25 (ix2 r ⟨64 + d, by omega⟩) - X25 (ix2 r ⟨d, by omega⟩))) = g ⟨d, hd⟩)
    (hi : ∀ (d : ℕ) (hd : d < 64), X24 (ix2 r ⟨d, by omega⟩) + A (ix2 r ⟨d, by omega⟩)
        * (X24 (ix2 r ⟨64 + d, by omega⟩) - X24 (ix2 r ⟨d, by omega⟩)) = it ⟨d, hd⟩)
    (h15 : ∀ (j : Fin 192) (o : Fin 128), W15 (ix2 j o) = if h : o.val < 8 then p1 j ⟨o.val, h⟩ else 0)
    (h16 : ∀ o : Fin 128, W16 (ix2 0 o) = if h : o.val < 8 then pb1 ⟨o.val, h⟩ else 0)
    (h17 : ∀ o : Fin 128, W17 (ix2 o 0) = if h : o.val < 8 then p2 ⟨o.val, h⟩ else 0)
    (h18 : W18 (ix2 0 0) = pb2) :
    k0_pay1 (k0_pay747 (F := Ideal) A v U G X25 X24 W15 W16 W17 W18) (ix3 0 r 0)
      = Cert.Spec.predict g it p1 pb1 p2 pb2 := by
  pointwise [k0_pay747, k0_pay1]
  have e : ∀ f : Fin 128 → EReal, (∀ i : Fin 120, f (Fin.natAdd 8 i) = 0) →
      ∑ i, f i = ∑ i : Fin 8, f ⟨i.val, by omega⟩ := fun f h => sum_prefix (a := 8) (b := 120) f h
  rw [h18]
  rw [e _ fun i => by rw [h17, dif_neg (by simp [Fin.natAdd]), mul_zero]]
  unfold Cert.Spec.predict
  show Ideal.div 1 (1 + Ideal.exp (-_)) = _
  congr 5
  refine Finset.sum_congr rfl fun o _ => ?_
  rw [h16, h17, dif_pos o.isLt, dif_pos o.isLt]
  congr 3
  refine Finset.sum_congr rfl fun j _ => ?_
  rw [h15, dif_pos o.isLt]
  refine congrArg (· * _) ?_
  unfold Cert.Spec.features
  by_cases h : j.val < 64
  · rw [dif_pos h, dif_pos h, hg _ h, hi _ h]
  · rw [dif_neg h, dif_neg h]
    by_cases h' : j.val < 128
    · rw [dif_pos h', dif_pos (show j.val - 64 < 64 by omega), hg _ (by omega)]
    · rw [dif_neg h', dif_neg (show ¬ j.val - 64 < 64 by omega), hi _ (by omega)]
      rfl
-- ==== Proof.ReadFinish.lean ====
/-
  The end of the body, of one row of the block: from the two halves' scores to the result.
-/
module

public import proofs.«01_k».proof.Proof.ReadParts
public import proofs.«01_k».proof.Proof.ReadTail

@[expose] public section

set_option maxRecDepth 16384

noncomputable section

namespace Cert.PIdeal

open Cert.P
open Cert.KernelIdeal Cert.KernelIdeal.Gen
open Idealize.ShloMosaic Idealize.ShloMosaic.TcCoe Idealize.ShloMosaic.Tactic
open Cert.Spec

theorem odd_at (X Y : S128x800.Idx → EReal) (W : S800x128.Idx → EReal) (P : S1x128x128.Idx → EReal)
    (L : S1x128x1.Idx → BitVec 32) (r j : Fin 128) :
    k0_pay738 (F := Ideal) (k0_pay736 X W Y W P L) (ix2 r j) = k0_pay735 (F := Ideal) X W Y W P L (ix2 r j) * P (ix3 0 r j) := by
  pointwise [k0_pay738, k0_pay736, k0_pay734]

theorem even_at (X Y : S128x800.Idx → EReal) (W : S800x128.Idx → EReal) (P : S1x128x128.Idx → EReal)
    (L : S1x128x1.Idx → BitVec 32) (r j : Fin 128) :
    k0_pay737 (F := Ideal) X W Y W P L (ix2 r j)
      = k0_pay735 (F := Ideal) X W Y W P L (ix2 r j) - k0_pay735 (F := Ideal) X W Y W P L (ix2 r j) * P (ix3 0 r j) := by
  pointwise [k0_pay737, k0_pay736, k0_pay734]

/-- The two halves of a member's row, weighted by the share and the parity: the share of the row the parity chooses. -/
theorem weigh (a : ℝ) (p : EReal) (row : Fin 128 → EReal) (x : Fin 64 → EReal) (h : Picked p row x) (d : Fin 64) :
    ((a : EReal) - a * p) * row ⟨d.val, by omega⟩ + (a * p) * row ⟨64 + d.val, by omega⟩ = a * x d := by
  rcases h with ⟨_, ⟨hp, h⟩ | ⟨hp, h⟩⟩
  · rw [hp, mul_zero, sub_zero, zero_mul, add_zero, h d]
  · have e : (a : EReal) - a = 0 := by rw [← EReal.coe_sub, sub_self, EReal.coe_zero]
    rw [hp, mul_one, e, zero_mul, zero_add, h d]

/-- A block of columns of the spread weights, at an entry. -/
theorem blk_cols (X : S128x6400.Idx → EReal) (r l : Fin 128) (j : ℕ) (hj : j < 50) :
    blk (N := 128) (M := 6400) 128 128 0 (128 * j) X (ix2 r l) = X (ix2 r ⟨128 * j + l.val, by omega⟩) := by
  unfold blk
  congr 1
  funext a
  apply Fin.ext
  match a with
  | ⟨0, _⟩ =>
    show (0 + r.val) % 128 = r.val
    omega
  | ⟨1, _⟩ =>
    show (128 * j + l.val) % 6400 = 128 * j + l.val
    omega

/-- A block of the member rows, at an entry. -/
theorem blk_rows (X : S6400x128.Idx → EReal) (r l : Fin 128) (j : ℕ) (hj : j < 50) :
    blk (N := 6400) (M := 128) 128 128 (128 * j) 0 X (ix2 r l) = X (ix2 ⟨128 * j + r.val, by omega⟩ l) := by
  unfold blk
  congr 1
  funext a
  apply Fin.ext
  match a with
  | ⟨0, _⟩ =>
    show (128 * j + r.val) % 6400 = 128 * j + r.val
    omega
  | ⟨1, _⟩ =>
    show (0 + l.val) % 128 = l.val
    omega

/-- The layout of the array that spreads the weights. -/
def Spreads (W : S256x6400.Idx → EReal) : Prop :=
  ∀ (k : Fin 256) (j : Fin 6400), W (ix2 k j)
    = if k.val = (if j.val % 128 < 64 then j.val / 128 else 128 + j.val / 128) then 1 else 0

/-- One member's product on one lane. -/
theorem term_at (E O : S128x128.Idx → EReal) (W : S256x6400.Idx → EReal) (h : Spreads W) (X : S6400x128.Idx → EReal)
    (r l : Fin 128) (j : ℕ) (hj : j < 50) :
    blk (N := 128) (M := 6400) 128 128 0 (128 * j) (k0_pay739 (F := Ideal) (sideBySide (F := Ideal) E O) W) (ix2 r l)
        * blk (N := 6400) (M := 128) 128 128 (128 * j) 0 X (ix2 r l)
      = (if l.val < 64 then E (ix2 r ⟨j, by omega⟩) else O (ix2 r ⟨j, by omega⟩)) * X (ix2 ⟨128 * j + r.val, by omega⟩ l) := by
  rw [blk_cols _ r l j hj, blk_rows _ r l j hj, spread_at E O W r h j hj l]

/-- The products of all fifty members on one lane. -/
theorem terms_at (E O : S128x128.Idx → EReal) (W : S256x6400.Idx → EReal) (h : Spreads W) (X : S6400x128.Idx → EReal)
    (r l : Fin 128) :
    acc (fun k => blk (N := 128) (M := 6400) 128 128 0 k (k0_pay739 (F := Ideal) (sideBySide (F := Ideal) E O) W))
        (fun k => blk (N := 6400) (M := 128) 128 128 k 0 X) (ix2 r l)
      + blk (N := 128) (M := 6400) 128 128 0 6272 (k0_pay739 (F := Ideal) (sideBySide (F := Ideal) E O) W) (ix2 r l)
        * blk (N := 6400) (M := 128) 128 128 6272 0 X (ix2 r l)
      = ∑ j : Fin 50, (if l.val < 64 then E (ix2 r ⟨j.val, by omega⟩) else O (ix2 r ⟨j.val, by omega⟩))
        * X (ix2 ⟨128 * j.val + r.val, by omega⟩ l) := by
  rw [acc_at]
  refine (Finset.sum_range_succ (fun j => blk (N := 128) (M := 6400) 128 128 0 (128 * j)
      (k0_pay739 (F := Ideal) (sideBySide (F := Ideal) E O) W) (ix2 r l)
    * blk (N := 6400) (M := 128) 128 128 (128 * j) 0 X (ix2 r l)) 49).symm.trans ?_
  rw [Finset.sum_range]
  exact Finset.sum_congr rfl fun j _ => term_at E O W h X r l j.val j.isLt

section
variable (W3 : S1x128x1.Idx → BitVec 32) (W4 : S1x128x128.Idx → EReal) (W12 : S800x128.Idx → EReal)
  (W13 : S256x6400.Idx → EReal) (W15 : S192x128.Idx → EReal) (W16 : S1x128.Idx → EReal)
  (W17 : S128x128.Idx → EReal) (W18 : S1x128.Idx → EReal) (X20 : S6400x128.Idx → EReal)
  (X22 v2300 Y : S128x800.Idx → EReal) (X24 X25 v1821 : S128x128.Idx → EReal)
  (r : Fin 128) (n : ℕ) (s : ℕ → ℝ) (u : Fin 50 → Fin 64 → EReal) (it gr : Fin 64 → EReal) (pi pg : EReal)
  (p1 : Fin 192 → Fin 8 → EReal) (pb1 p2 : Fin 8 → EReal) (pb2 : EReal)

theorem finish_at (hY : Y = k0_pay733 (F := Ideal) v2300) (hn : n < 50) (hL : W3 (ix3 0 r 0) = BitVec.ofNat 32 n)
    (hs : ∀ i : Fin 128, i.val ≤ n → ∑ k : Fin 800, X22 (ix2 r k) * W12 (ix2 k i)
      + W4 (ix3 0 r i) * (∑ k : Fin 800, Y (ix2 r k) * W12 (ix2 k i)
        - ∑ k : Fin 800, X22 (ix2 r k) * W12 (ix2 k i)) = s i.val)
    (hR : ∀ (j : ℕ) (hj : j < 50), j ≤ n → Picked (W4 (ix3 0 r ⟨j, by omega⟩))
      (fun l => X20 (ix2 ⟨128 * j + r.val, by omega⟩ l)) (u ⟨j, hj⟩))
    (h13 : Spreads W13)
    (hAi : ∀ (d : ℕ) (hd : d < 64), v1821 (ix2 r ⟨d, by omega⟩) = pi)
    (hAg : ∀ (d : ℕ) (hd : d < 64), v1821 (ix2 r ⟨64 + d, by omega⟩) = pg)
    (hI : Picked pi (fun l => X24 (ix2 r l)) it) (hG : Picked pg (fun l => X25 (ix2 r l)) gr)
    (h15 : ∀ (j : Fin 192) (o : Fin 128), W15 (ix2 j o) = if h : o.val < 8 then p1 j ⟨o.val, h⟩ else 0)
    (h16 : ∀ o : Fin 128, W16 (ix2 0 o) = if h : o.val < 8 then pb1 ⟨o.val, h⟩ else 0)
    (h17 : ∀ o : Fin 128, W17 (ix2 o 0) = if h : o.val < 8 then p2 ⟨o.val, h⟩ else 0)
    (h18 : W18 (ix2 0 0) = pb2) :
    finish (F := Ideal) W3 W4 W12 W13 W15 W16 W17 W18 X20 X22 v2300 X24 X25 v1821 (ix3 0 r 0)
      = predict (pooled u gr s n) it p1 pb1 p2 pb2 := by
  have ha : ∀ j : Fin 128, k0_pay735 (F := Ideal) X22 W12 Y W12 W4 W3 (ix2 r j) = ((share s n j.val : ℝ) : EReal) :=
    fun j => pay735_at X22 Y W12 W4 W3 r j s n (by omega) hL hs
  obtain ⟨E, hE⟩ : ∃ E : S128x128.Idx → EReal, E = k0_pay737 (F := Ideal) X22 W12 Y W12 W4 W3 := ⟨_, rfl⟩
  obtain ⟨O, hO⟩ : ∃ O : S128x128.Idx → EReal, O = k0_pay738 (F := Ideal) (k0_pay736 X22 W12 Y W12 W4 W3) := ⟨_, rfl⟩
  have hEat : ∀ j, E (ix2 r j) = ((share s n j.val : ℝ) : EReal) - share s n j.val * W4 (ix3 0 r j) := by
    intro j
    rw [hE, even_at, ha]
  have hOat : ∀ j, O (ix2 r j) = share s n j.val * W4 (ix3 0 r j) := by
    intro j
    rw [hO, odd_at, ha]
  have hend := pay747_at v1821 (acc (fun k => blk (N := 128) (M := 6400) 128 128 0 k (k0_pay739 (F := Ideal) (sideBySide (F := Ideal) E O) W13))
      (fun k => blk (N := 6400) (M := 128) 128 128 k 0 X20))
    (blk (N := 128) (M := 6400) 128 128 0 6272 (k0_pay739 (F := Ideal) (sideBySide (F := Ideal) E O) W13))
    (blk (N := 6400) (M := 128) 128 128 6272 0 X20) X25 X24 W15 W16 W17 W18 r (pooled u gr s n) it p1 pb1 p2 pb2
    (fun d hd => ?_) (fun d hd => ?_) h15 h16 h17 h18
  · rw [hE, hO, hY] at hend
    exact hend
  · rw [terms_at E O W13 h13 X20 r ⟨d, by omega⟩, terms_at E O W13 h13 X20 r ⟨64 + d, by omega⟩, hAg d hd]
    refine congrArg₂ (fun a b : EReal => a + b) ?_ (hG.pick d hd)
    rw [← Finset.sum_add_distrib]
    refine Finset.sum_congr rfl fun j _ => ?_
    rw [if_pos (show d < 64 from hd), if_neg (show ¬ 64 + d < 64 by omega), hEat, hOat]
    by_cases hj : j.val ≤ n
    · exact weigh _ _ _ _ (hR j.val j.isLt hj) ⟨d, hd⟩
    · rw [share_zero s (show n < j.val by omega)]
      simp
  · rw [hAi d hd]
    exact hI.pick d hd

end

end Cert.PIdeal

end
-- ==== Proof.ReadBlock.lean ====
/-
  One row of the block the body leaves: the specification of that row's request.
-/
module

public import proofs.«01_k».proof.Proof.ReadFinish
public import proofs.«01_k».proof.Proof.Body

@[expose] public section

set_option maxRecDepth 16384

noncomputable section

namespace Cert.PIdeal

open Cert.P
open Cert.KernelIdeal Cert.KernelIdeal.Gen
open Idealize.ShloMosaic Idealize.ShloMosaic.TcCoe Idealize.ShloMosaic.Tactic
open Cert.Spec

/-- The layout of the attention's output weights. -/
def PerMember (W : S800x128.Idx → EReal) (w2 : Fin 16 → EReal) : Prop :=
  ∀ (j : Fin 800) (m : Fin 128), W (ix2 j m) = if j.val / 16 = m.val then w2 ⟨j.val % 16, by omega⟩ else 0

/-- The layout of the array that copies the item's share. -/
def Copies (W : S16x800.Idx → EReal) : Prop :=
  ∀ (k : Fin 16) (j : Fin 800), W (ix2 k j) = if j.val % 16 = k.val then 1 else 0

section
variable (R : S6400x128.Idx → EReal) (W9 : S128x32.Idx → EReal) (W12 : S800x128.Idx → EReal) (bias : S128x800.Idx → EReal)
  (r i : Fin 128) (hi : i.val < 50) (w : Fin 64 → Fin 16 → EReal) (w2 h : Fin 16 → EReal)
  (hW9 : Twice W9 w) (hW12 : PerMember W12 w2) (hb : ∀ j : Fin 800, bias (ix2 r j) = h ⟨j.val % 16, by omega⟩)

include hW9 hW12 hb in
/-- The scores the low halves give. -/
theorem low_score : ∑ j : Fin 800, k0_pay731 (F := Ideal) (wideE (F := Ideal) (k0_pay618 (F := Ideal) R W9)) bias (ix2 r j) * W12 (ix2 j i)
    = ∑ k : Fin 16, max (∑ d : Fin 64, R (ix2 ⟨128 * i.val + r.val, by omega⟩ ⟨d.val, by omega⟩) * w d k + h k) 0 * w2 k := by
  refine half_score _ W12 r i hi w2 _ (fun k => ?_) hW12
  rw [pay731_at, wideE_at _ r i.val hi k, hb, pay618_at,
    sum_low (fun d => R (ix2 ⟨128 * i.val + r.val, by omega⟩ d)) (fun d => W9 (ix2 d ⟨k.val, by omega⟩)) (fun d => w d k) fun d => hW9.1 d k]
  refine congrArg (fun q => max (_ + h q) 0) (Fin.ext ?_)
  show (16 * i.val + k.val) % 16 = k.val
  omega

include hW9 hW12 hb in
/-- The scores the high halves give. -/
theorem high_score : ∑ j : Fin 800, k0_pay733 (F := Ideal) (k0_pay732 (wideO (F := Ideal) (k0_pay618 (F := Ideal) R W9)) bias) (ix2 r j) * W12 (ix2 j i)
    = ∑ k : Fin 16, max (∑ d : Fin 64, R (ix2 ⟨128 * i.val + r.val, by omega⟩ ⟨64 + d.val, by omega⟩) * w d k + h k) 0 * w2 k := by
  refine half_score _ W12 r i hi w2 _ (fun k => ?_) hW12
  rw [pay732_at, wideO_at _ r i.val hi k, hb, pay618_at,
    sum_high (fun d => R (ix2 ⟨128 * i.val + r.val, by omega⟩ d)) (fun d => W9 (ix2 d ⟨16 + k.val, by omega⟩)) (fun d => w d k) fun d => hW9.2 d k]
  refine congrArg (fun q => max (_ + h q) 0) (Fin.ext ?_)
  show (16 * i.val + k.val) % 16 = k.val
  omega

end

/-- The sum a half's row gives. -/
theorem half_real {x : Fin 64 → EReal} {w : Fin 64 → Fin 16 → EReal} {w2 h : Fin 16 → EReal} (hx : ∀ d, IsReal (x d))
    (hw : ∀ d k, IsReal (w d k)) (h2 : ∀ k, IsReal (w2 k)) (hh : ∀ k, IsReal (h k)) :
    IsReal (∑ k : Fin 16, max (∑ d : Fin 64, x d * w d k + h k) 0 * w2 k) :=
  IsReal.sum _ fun k => (((IsReal.sum _ fun d => (hx d).mul (hw _ k)).add (hh k)).max IsReal.zero).mul (h2 k)

section
variable (W1 : S1x1x6400.Idx → BitVec 32) (W2 : S1x1x264.Idx → BitVec 32) (W3 : S1x128x1.Idx → BitVec 32)
  (W4 W5 : S1x128x128.Idx → EReal) (W6 : S50000x1x128.Idx → EReal) (W7 : S25000x1x128.Idx → EReal) (W8 : S10000x1x128.Idx → EReal)
  (W9 W10 : S128x32.Idx → EReal) (W11 : S1x16.Idx → EReal) (W12 : S800x128.Idx → EReal)
  (W13 : S256x6400.Idx → EReal) (W14 : S16x800.Idx → EReal) (W15 : S192x128.Idx → EReal) (W16 : S1x128.Idx → EReal)
  (W17 : S128x128.Idx → EReal) (W18 : S1x128.Idx → EReal) (R : S6400x128.Idx → EReal)
  (r : Fin 128) (n : ℕ) (u : Fin 50 → Fin 64 → EReal) (it gr : Fin 64 → EReal) (pi pg : EReal)
  (w1 : Fin 128 → Fin 16 → EReal) (b1 w2 : Fin 16 → EReal)
  (p1 : Fin 192 → Fin 8 → EReal) (pb1 p2 : Fin 8 → EReal) (pb2 : EReal)

theorem pay620_at (d : Fin 128) : k0_pay620 (F := Ideal) W5 (ix2 r d) = W5 (ix3 0 r d) := by
  pointwise [k0_pay620]

theorem blockOut_at (hn : n < 50) (hL : W3 (ix3 0 r 0) = BitVec.ofNat 32 n)
    (hR : ∀ (j : ℕ) (hj : j < 50), j ≤ n → Picked (W4 (ix3 0 r ⟨j, by omega⟩))
      (fun l => R (ix2 ⟨128 * j + r.val, by omega⟩ l)) (u ⟨j, hj⟩))
    (hAi : ∀ (d : ℕ) (hd : d < 64), W5 (ix3 0 r ⟨d, by omega⟩) = pi)
    (hAg : ∀ (d : ℕ) (hd : d < 64), W5 (ix3 0 r ⟨64 + d, by omega⟩) = pg)
    (hI : Picked pi (fun l => itemRows (F := Ideal) W7 (auxWords (F := Ideal) W2) (ix2 r l)) it)
    (hG : Picked pg (fun l => groupRows (F := Ideal) W8 (auxWords (F := Ideal) W2) (ix2 r l)) gr)
    (h1 : ∀ d k, IsReal (w1 d k)) (hb1 : ∀ k, IsReal (b1 k)) (h2 : ∀ k, IsReal (w2 k))
    (h9 : Twice W9 fun d => w1 ⟨d.val, by omega⟩) (h10 : Twice W10 fun d => w1 ⟨64 + d.val, by omega⟩)
    (h11 : ∀ k, W11 (ix2 0 k) = b1 k) (h12 : PerMember W12 w2) (h13 : Spreads W13) (h14 : Copies W14)
    (h15 : ∀ (j : Fin 192) (o : Fin 128), W15 (ix2 j o) = if h : o.val < 8 then p1 j ⟨o.val, h⟩ else 0)
    (h16 : ∀ o : Fin 128, W16 (ix2 0 o) = if h : o.val < 8 then pb1 ⟨o.val, h⟩ else 0)
    (h17 : ∀ o : Fin 128, W17 (ix2 o 0) = if h : o.val < 8 then p2 ⟨o.val, h⟩ else 0)
    (h18 : W18 (ix2 0 0) = pb2) :
    blockOut (F := Ideal) W1 W2 W3 W4 W5 W6 W7 W8 W9 W10 W11 W12 W13 W14 W15 W16 W17 W18 R (ix3 0 r 0)
      = predict (pooled u gr (scores u it w1 b1 w2) n) it p1 pb1 p2 pb2 := by
  have hit : ∀ d, IsReal (it d) := hI.real
  have hh : ∀ k, IsReal (Cert.Spec.hidden it w1 b1 k) := fun k => hidden_real hit h1 hb1 k
  obtain ⟨bias, hbias⟩ : ∃ b : S128x800.Idx → EReal, b = k0_pay730 (F := Ideal) (k0_pay622 (k0_pay619 (itemRows (F := Ideal) W7 (auxWords (F := Ideal) W2)) W10)
    (k0_pay620 W5) (k0_pay621 (itemRows (F := Ideal) W7 (auxWords (F := Ideal) W2)) W10) W11) W14 := ⟨_, rfl⟩
  have hb : ∀ j : Fin 800, bias (ix2 r j) = Cert.Spec.hidden it w1 b1 ⟨j.val % 16, by omega⟩ := by
    intro j
    rw [hbias, bias_at _ W14 r h14 j]
    exact hidden_at _ W10 _ W11 r pi it w1 b1 h10 (fun d hd => (pay620_at W5 r _).trans (hAi d hd)) hI h1 h11 _
  have hs : ∀ i : Fin 128, i.val ≤ n →
      ∑ k : Fin 800, k0_pay731 (F := Ideal) (wideE (F := Ideal) (k0_pay618 (F := Ideal) R W9)) bias (ix2 r k) * W12 (ix2 k i)
      + W4 (ix3 0 r i) * (∑ k : Fin 800, k0_pay733 (F := Ideal) (k0_pay732 (wideO (F := Ideal) (k0_pay618 (F := Ideal) R W9)) bias) (ix2 r k) * W12 (ix2 k i)
        - ∑ k : Fin 800, k0_pay731 (F := Ideal) (wideE (F := Ideal) (k0_pay618 (F := Ideal) R W9)) bias (ix2 r k) * W12 (ix2 k i))
      = scores u it w1 b1 w2 i.val := by
    intro i hin
    have hi : i.val < 50 := by omega
    have hp := hR i.val hi hin
    have e : (Fin.ofNat 50 i.val : Fin 50) = ⟨i.val, hi⟩ := Fin.ext (Nat.mod_eq_of_lt hi)
    unfold scores
    rw [e, (score_real hp.real hit h1 hb1 h2).coe_toReal,
      low_score R W9 W12 bias r i hi _ w2 _ h9 h12 hb, high_score R W9 W12 bias r i hi _ w2 _ h9 h12 hb]
    unfold score
    rcases hp with ⟨hr, ⟨hp, h⟩ | ⟨hp, h⟩⟩
    · rw [hp, pick_zero]
      refine Finset.sum_congr rfl fun k _ => congrArg (fun q => max (q + _) 0 * _) (Finset.sum_congr rfl fun d _ => ?_)
      exact congrArg (· * _) (h d)
    · rw [hp, pick_one (half_real (fun d => hr _) (fun d k => h1 _ k) h2 hh) (half_real (fun d => hr _) (fun d k => h1 _ k) h2 hh)]
      refine Finset.sum_congr rfl fun k _ => congrArg (fun q => max (q + _) 0 * _) (Finset.sum_congr rfl fun d _ => ?_)
      exact congrArg (· * _) (h d)
  have hend := finish_at W3 W4 W12 W13 W15 W16 W17 W18 R _ _ _ _ _ _ r n (scores u it w1 b1 w2) u it gr pi pg p1 pb1 p2 pb2 rfl hn hL hs hR h13
    (fun d hd => (pay620_at W5 r _).trans (hAi d hd)) (fun d hd => (pay620_at W5 r _).trans (hAg d hd)) hI hG h15 h16 h17 h18
  rw [hbias] at hend
  exact hend

end

end Cert.PIdeal

end
-- ==== Proof.HostRead.lean ====
/-
  The arrays of weights the lines before the region leave, at an entry.
-/
module

public import proofs.«01_k».proof.Proof.HostWeights
public import proofs.«01_k».proof.Proof.HostMlp
public import proofs.«01_k».proof.Proof.ReadBlock

@[expose] public section

set_option maxRecDepth 16384

noncomputable section

namespace Cert.PIdeal

open Cert.P
open Cert.KernelIdeal Cert.KernelIdeal.Gen
open Idealize.ShloMosaic Idealize.ShloMosaic.TcCoe Idealize.ShloMosaic.Tactic
open Cert.Spec

theorem bits_zero : Ideal.ofBits .f32 0x00000000#32 = (0 : EReal) := by
  simp [Ideal.ofBits, Ideal.ieee]

/-- A bit as a number. -/
theorem eq_at {φ : FTy} {a b : ℕ} (ha : a < 2 ^ 32) (hb : b < 2 ^ 32) :
    (FloatOps.uitofp φ (IntOp.cmpi .eq (IntOp.addi (BitVec.ofNat 32 a) 0#32) (BitVec.ofNat 32 b)) : Ideal φ)
      = if a = b then (1 : EReal) else 0 := by
  have e : IntOp.addi (BitVec.ofNat 32 a) 0#32 = BitVec.ofNat 32 a := BitVec.add_zero _
  rw [e]
  by_cases h : a = b
  · subst h
    rw [if_pos rfl]
    simp [IntOp.cmpi, FloatOps.uitofp]
  · rw [if_neg h]
    have hne : BitVec.ofNat 32 a ≠ BitVec.ofNat 32 b := by
      intro he
      have := congrArg BitVec.toNat he
      rw [BitVec.toNat_ofNat, BitVec.toNat_ofNat, Nat.mod_eq_of_lt ha, Nat.mod_eq_of_lt hb] at this
      exact h this
    simp [IntOp.cmpi, FloatOps.uitofp, hne]

theorem sitofp_zero {φ : FTy} : (FloatOps.sitofp φ 0#32 : Ideal φ) = (0 : EReal) := by
  simp [FloatOps.sitofp]

theorem twice_twice (a : S64x16.Idx → EReal) : Twice (twice (F := Ideal) a) fun d k => a (ix2 d k) := by
  refine ⟨fun d k => ?_, fun d k => ?_⟩
  · pointwise [twice]
  · pointwise [twice]

theorem w2_at (w : S16x1.Idx → EReal) : PerMember (hostW2 (F := Ideal) w) fun k => w (ix2 k 0) := by
  intro j m
  pointwise [hostW2, eye50]
  by_cases h : m.val < 50
  · rw [dif_pos h, eq_at (by omega) (by omega)]
    split
    · rw [one_mul]
    · rw [zero_mul]
  · rw [dif_neg h, if_neg (by omega), sitofp_zero]

theorem tile_at : Copies (hostTile (F := Ideal)) := by
  intro k j
  pointwise [hostTile]
  rw [eq_at (by omega) (by omega)]
  exact if_congr eq_comm rfl rfl

theorem p1_at (w : S192x8.Idx → EReal) (j : Fin 192) (o : Fin 128) :
    pad S192x128 ![0, 0] ![0, 120] ![0, 0] w (sitofp (F := Ideal) .f32 (constantI S_ 32 0#32)) pads_S192x8_S192x128_000_01200 h_S_ (ix2 j o)
      = if h : o.val < 8 then w (ix2 j ⟨o.val, h⟩) else 0 := by
  pointwise
  rw [sitofp_zero]

theorem pb1_at (w : S8.Idx → EReal) (o : Fin 128) :
    shapeCast S1x128 (pad S128 ![0] ![120] ![0] w (sitofp (F := Ideal) .f32 (constantI S_ 32 0#32)) pads_S8_S128_01200 h_S_) shapeCasts_S128_S1x128 (ix2 0 o)
      = if h : o.val < 8 then w (ix1 ⟨o.val, h⟩) else 0 := by
  pointwise
  rw [sitofp_zero]

theorem p2_at (w : S8x1.Idx → EReal) (o : Fin 128) :
    pad S128x128 ![0, 0] ![120, 127] ![0, 0] w (sitofp (F := Ideal) .f32 (constantI S_ 32 0#32)) pads_S8x1_S128x128_01200_01270 h_S_ (ix2 o 0)
      = if h : o.val < 8 then w (ix2 ⟨o.val, h⟩ 0) else 0 := by
  pointwise
  rw [sitofp_zero]

theorem pb2_at (w : S1.Idx → EReal) :
    broadcastInDim S1x128 ![] bcast_S_S1x128 (shapeCast S_ w shapeCasts_S1_S_) (ix2 0 0) = w (ix1 0) := by
  pointwise

end Cert.PIdeal

end
-- ==== Proof.HostSpread.lean ====
/-
  What the lines before the region leave in the array that spreads the members' weights over their lanes.
-/
module

public import proofs.«01_k».proof.Proof.Host

@[expose] public section

set_option maxRecDepth 16384

noncomputable section

namespace Cert.PIdeal

open Cert.KernelIdeal Cert.KernelIdeal.Gen
open Idealize.ShloMosaic Idealize.ShloMosaic.TcCoe Idealize.ShloMosaic.Tactic
open Idealize.SL.Sem

variable {F : FTy → Type} [FloatOps F] [Named F]

/-- The lane's number. -/
def lane : IVec S1x6400 32 := broadcastInDim S1x6400 ![1] bcast_S6400_S1x6400_1 (iotaInDim S6400 32 0)

/-- A word on every lane. -/
def onLanes (w : IVec S_ 32) : IVec S1x6400 32 := broadcastInDim S1x6400 ![] bcast_S_S1x6400 w

/-- The member a lane belongs to: the lane's number over 128, rounded down. -/
def slabOf : IVec S1x6400 32 :=
  select (andi (cmpi .ne (signi lane) (onLanes (signi (constantI S_ 32 128#32))))
      (cmpi .ne (Host.remsi lane (onLanes (constantI S_ 32 128#32))) (onLanes (constantI S_ 32 0#32))))
    (subi (Host.divsi lane (onLanes (constantI S_ 32 128#32))) (onLanes (constantI S_ 32 1#32)))
    (Host.divsi lane (onLanes (constantI S_ 32 128#32)))

/-- The divisor of the remainder. -/
def lanes128 : IVec S_ 32 :=
  select (cmpi .eq (constantI S_ 32 128#32) (constantI S_ 32 0#32)) (constantI S_ 32 1#32) (constantI S_ 32 128#32)

/-- The lane's number within its member. -/
def laneOf : IVec S1x6400 32 :=
  select (andi (cmpi .ne (cmpi .slt (Host.remsi lane (onLanes lanes128)) (onLanes (constantI S_ 32 0#32)))
        (broadcastInDim S1x6400 ![] bcast_S_S1x6400 (cmpi .slt lanes128 (constantI S_ 32 0#32))))
      (cmpi .ne (Host.remsi lane (onLanes lanes128)) (onLanes (constantI S_ 32 0#32))))
    (addi (Host.remsi lane (onLanes lanes128)) (onLanes lanes128)) (Host.remsi lane (onLanes lanes128))

/-- The row's number. -/
def rowNo : IVec S256x1 32 := broadcastInDim S256x1 ![0] bcast_S256_S256x1_0 (iotaInDim S256 32 0)

/-- A word on every row. -/
def onRows (w : BitVec 32) : IVec S256x1 32 := broadcastInDim S256x1 ![] bcast_S_S256x1 (constantI S_ 32 w)

/-- Row `m` holds ones on the low half of member `m`'s lanes, row `128 + m` on the high half. -/
def hostSpread : FVec F S256x6400 .bf16 :=
  uitofp .bf16 (ori
    (andi (andi (broadcastInDim S256x6400 ![0, 1] bcast_S256x1_S256x6400_0_1 (cmpi .slt rowNo (onRows 128#32))) (cmpi .eq (broadcastInDim S256x6400 ![0, 1] bcast_S1x6400_S256x6400_0_1 slabOf) (broadcastInDim S256x6400 ![0, 1] bcast_S256x1_S256x6400_0_1 rowNo)))
      (broadcastInDim S256x6400 ![0, 1] bcast_S1x6400_S256x6400_0_1 (cmpi .slt laneOf (onLanes (constantI S_ 32 64#32)))))
    (andi (andi (broadcastInDim S256x6400 ![0, 1] bcast_S256x1_S256x6400_0_1 (cmpi .sge rowNo (onRows 128#32))) (cmpi .eq (broadcastInDim S256x6400 ![0, 1] bcast_S1x6400_S256x6400_0_1 slabOf) (broadcastInDim S256x6400 ![0, 1] bcast_S256x1_S256x6400_0_1 (subi rowNo (onRows 128#32)))))
      (broadcastInDim S256x6400 ![0, 1] bcast_S1x6400_S256x6400_0_1 (cmpi .sge laneOf (onLanes (constantI S_ 32 64#32))))))

variable (m : (ℓ : Loc nD τ sig) → Buf (Elt F) ℓ) (c : Dev nD)

set_option maxHeartbeats 8000000 in
theorem V_spread : V m c main_v125 = hostSpread := by
  unfold V V0
  simp only [List.flatten_cons, List.flatten_nil, List.append_nil, List.cons_append, List.nil_append, hostOps0, hostOps0_1, hostOps0_2]
  after_reads_simp
  rfl

end Cert.PIdeal

end
-- ==== Proof.SpreadRead.lean ====
/-
  The array that spreads the weights over the lanes, at an entry.
-/
module

public import proofs.«01_k».proof.Proof.HostSpread
public import proofs.«01_k».proof.Proof.Perm
public import Idealize.ShloMosaic.Lib.Routing.Words
public import proofs.«01_k».proof.Proof.ReadFinish

@[expose] public section

set_option maxRecDepth 16384

noncomputable section

namespace Cert.PIdeal

open Cert.P
open Cert.KernelIdeal Cert.KernelIdeal.Gen
open Idealize.ShloMosaic Idealize.ShloMosaic.TcCoe Idealize.ShloMosaic.Tactic
open Cert.Spec

theorem sge_small (a b : ℕ) (ha : a < 2 ^ 31) (hb : b < 2 ^ 31) :
    IntOp.cmpi .sge (BitVec.ofNat 32 a) (BitVec.ofNat 32 b) = if b ≤ a then 1#1 else 0#1 := by
  unfold IntOp.cmpi
  simp only [BitVec.sle_eq_decide, toInt_small a ha, toInt_small b hb]
  by_cases h : b ≤ a <;> simp [h]

theorem eq_small (a b : ℕ) (ha : a < 2 ^ 31) (hb : b < 2 ^ 31) :
    IntOp.cmpi .eq (BitVec.ofNat 32 a) (BitVec.ofNat 32 b) = if a = b then 1#1 else 0#1 := by
  unfold IntOp.cmpi
  by_cases h : a = b
  · simp [h]
  · have hne : BitVec.ofNat 32 a ≠ BitVec.ofNat 32 b := by
      intro he
      have := congrArg BitVec.toNat he
      rw [BitVec.toNat_ofNat, BitVec.toNat_ofNat] at this
      omega
    rw [if_neg h, beq_eq_false_iff_ne.mpr hne]
    rfl

theorem sub_small (a b : ℕ) (ha : a < 2 ^ 31) (h : b ≤ a) :
    IntOp.subi (BitVec.ofNat 32 a) (BitVec.ofNat 32 b) = BitVec.ofNat 32 (a - b) := by
  apply BitVec.eq_of_toNat_eq
  unfold IntOp.subi
  rw [BitVec.toNat_sub, BitVec.toNat_ofNat, BitVec.toNat_ofNat, BitVec.toNat_ofNat]
  omega

/-- The sign of a small word. -/
theorem sign_small (a : ℕ) (ha : a < 2 ^ 31) (h0 : a ≠ 0) :
    (if BitVec.ofNat 32 a = 0 then (0 : BitVec 32) else if (BitVec.ofNat 32 a).msb = true then -1 else 1) = 1 := by
  have hne : BitVec.ofNat 32 a ≠ 0 := by
    intro he
    have := congrArg BitVec.toNat he
    rw [BitVec.toNat_ofNat] at this
    simp at this
    omega
  have hm : (BitVec.ofNat 32 a).msb = false := by
    rw [BitVec.msb_eq_false_iff_two_mul_lt, BitVec.toNat_ofNat]
    omega
  rw [if_neg hne, hm]
  rfl

theorem slab_at (j : Fin 6400) : slabOf (ix2 0 j) = BitVec.ofNat 32 (j.val / 128) := by
  pointwise [slabOf, lane, onLanes]
  have hd : IntOp.divsi .host (BitVec.ofNat 32 j.val) 128#32 = BitVec.ofNat 32 (j.val / 128) :=
    Routing.divsi_word .host (by omega) (by omega) (by omega)
  have hr : IntOp.remsi .host (BitVec.ofNat 32 j.val) 128#32 = BitVec.ofNat 32 (j.val % 128) :=
    Routing.remsi_word .host (by omega) (by omega) (by omega)
  rw [hd, hr]
  by_cases h : j.val = 0
  · rw [h]
    decide
  · rw [sign_small j.val (by omega) h]
    show Scalar.select (IntOp.andi (IntOp.cmpi .ne (1 : BitVec 32) 1)
      (IntOp.cmpi .ne (BitVec.ofNat 32 (j.val % 128)) 0#32)) (IntOp.subi (BitVec.ofNat 32 (j.val / 128)) 1#32)
      (BitVec.ofNat 32 (j.val / 128)) = _
    have e0 : IntOp.cmpi .ne (1 : BitVec 32) 1 = 0#1 := by decide
    rw [e0]
    have e1 : ∀ x : BitVec 1, IntOp.andi 0#1 x = 0#1 := by decide
    rw [e1]
    rfl

theorem laneOf_at (j : Fin 6400) : laneOf (ix2 0 j) = BitVec.ofNat 32 (j.val % 128) := by
  pointwise [laneOf, lane, onLanes, lanes128]
  have e : Scalar.select (IntOp.cmpi .eq 128#32 0#32) 1#32 128#32 = 128#32 := by decide
  have hr : IntOp.remsi .host (BitVec.ofNat 32 j.val) 128#32 = BitVec.ofNat 32 (j.val % 128) :=
    Routing.remsi_word .host (by omega) (by omega) (by omega)
  rw [e, hr, show (0#32 : BitVec 32) = BitVec.ofNat 32 0 from rfl, show (128#32 : BitVec 32) = BitVec.ofNat 32 128 from rfl,
    slt_small _ _ (by omega) (by omega), slt_small _ _ (by omega) (by omega), if_neg (by omega), if_neg (by omega)]
  have e0 : IntOp.cmpi .ne (0#1) 0#1 = 0#1 := by decide
  rw [e0]
  have e1 : ∀ x : BitVec 1, IntOp.andi 0#1 x = 0#1 := by decide
  rw [e1]
  rfl

theorem hostSpread_at : Spreads (hostSpread (F := Ideal)) := by
  intro k j
  pointwise [hostSpread, rowNo, onRows, onLanes]
  rw [slab_at, laneOf_at, show (64#32 : BitVec 32) = BitVec.ofNat 32 64 from rfl, show (128#32 : BitVec 32) = BitVec.ofNat 32 128 from rfl,
    slt_small _ _ (by omega) (by omega), sge_small _ _ (by omega) (by omega), slt_small _ _ (by omega) (by omega),
    sge_small _ _ (by omega) (by omega), eq_small _ _ (by omega) (by omega)]
  by_cases hk : k.val < 128
  · have hs : ¬ 128 ≤ k.val := by omega
    rw [if_pos hk, if_neg hs]
    by_cases hj : j.val % 128 < 64
    · rw [if_pos hj, if_pos hj, if_neg (show ¬ 64 ≤ j.val % 128 by omega)]
      by_cases hq : j.val / 128 = k.val
      · simp [hq, IntOp.andi, IntOp.ori, FloatOps.uitofp]
      · simp [hq, Ne.symm hq, IntOp.andi, IntOp.ori, FloatOps.uitofp]
    · rw [if_neg hj, if_neg hj, if_neg (show ¬ k.val = 128 + j.val / 128 by omega)]
      simp [IntOp.andi, IntOp.ori, FloatOps.uitofp]
  · have hs : 128 ≤ k.val := by omega
    rw [if_neg hk, if_pos hs, sub_small _ _ (by omega) hs, eq_small _ _ (by omega) (by omega)]
    by_cases hj : j.val % 128 < 64
    · rw [if_pos hj, if_pos hj, if_neg (show ¬ 64 ≤ j.val % 128 by omega), if_neg (show ¬ k.val = j.val / 128 by omega)]
      simp [IntOp.andi, IntOp.ori, FloatOps.uitofp]
    · rw [if_neg hj, if_neg hj, if_pos (show 64 ≤ j.val % 128 by omega)]
      by_cases hq : j.val / 128 = k.val - 128
      · rw [if_pos hq, if_pos (show k.val = 128 + j.val / 128 by omega)]
        simp [IntOp.andi, IntOp.ori, FloatOps.uitofp]
      · rw [if_neg hq, if_neg (show ¬ k.val = 128 + j.val / 128 by omega)]
        simp [IntOp.andi, IntOp.ori, FloatOps.uitofp]

end Cert.PIdeal

end
-- ==== Proof.OutRead.lean ====
/-
  One row of the result block of a point of the grid: the specification of that row's request.
-/
module

public import proofs.«01_k».proof.Proof.RowsRead
public import proofs.«01_k».proof.Proof.HostRead
public import proofs.«01_k».proof.Proof.SpreadRead

@[expose] public section

set_option maxRecDepth 16384

noncomputable section

namespace Cert.PIdeal

open Cert.P
open Cert.KernelIdeal Cert.KernelIdeal.Gen
open Idealize.ShloMosaic Idealize.ShloMosaic.TcCoe Idealize.ShloMosaic.Tactic
open Idealize.SL.Sem
open Cert.Spec

theorem word_self (w : BitVec 32) : w = BitVec.ofNat 32 w.toNat := by simp

theorem w1_low (w : S128x16.Idx → EReal) : Twice (twice (F := Ideal) (extractStridedSlice S64x16 ![0, 0] w slices_S128x16_S64x16_0_0))
    fun d k => w (ix2 ⟨d.val, by omega⟩ k) := by
  have h := twice_twice (extractStridedSlice S64x16 ![0, 0] w slices_S128x16_S64x16_0_0)
  convert h using 3
  pointwise

theorem w1_high (w : S128x16.Idx → EReal) : Twice (twice (F := Ideal) (extractStridedSlice S64x16 ![64, 0] w slices_S128x16_S64x16_64_0))
    fun d k => w (ix2 ⟨64 + d.val, by omega⟩ k) := by
  have h := twice_twice (extractStridedSlice S64x16 ![64, 0] w slices_S128x16_S64x16_64_0)
  convert h using 3
  pointwise

theorem b1_at (w : S16.Idx → EReal) (k : Fin 16) : shapeCast S1x16 w shapeCasts_S16_S1x16 (ix2 0 k) = w (ix1 k) := by
  pointwise

variable (m : (ℓ : Loc nD τ sig) → Buf (Elt Ideal) ℓ) (c : Dev nD)

/-- The specification's value for request `q`. -/
def answer (q : Fin 16384) : EReal :=
  predict (pooled
      (fun j => tableRow (N := 100000) (argV m c main_arg4) ((argV m c main_arg2 : IVec S16384x50 32) (ix2 q j)).toNat)
      (tableRow (N := 20000) (argV m c main_arg6) ((argV m c main_arg0 : IVec S16384 32) (ix1 q)).toNat)
      (scores (fun j => tableRow (N := 100000) (argV m c main_arg4) ((argV m c main_arg2 : IVec S16384x50 32) (ix2 q j)).toNat)
        (tableRow (N := 50000) (argV m c main_arg5) ((argV m c main_arg1 : IVec S16384 32) (ix1 q)).toNat)
        (fun d k => (argV m c main_arg7 : S128x16.Idx → EReal) (ix2 d k)) (fun k => (argV m c main_arg8 : S16.Idx → EReal) (ix1 k))
        (fun k => (argV m c main_arg9 : S16x1.Idx → EReal) (ix2 k 0)))
      ((argV m c main_arg3 : IVec S16384 32) (ix1 q)).toNat)
    (tableRow (N := 50000) (argV m c main_arg5) ((argV m c main_arg1 : IVec S16384 32) (ix1 q)).toNat)
    (fun j o => (argV m c main_arg11 : S192x8.Idx → EReal) (ix2 j o)) (fun o => (argV m c main_arg12 : S8.Idx → EReal) (ix1 o))
    (fun o => (argV m c main_arg13 : S8x1.Idx → EReal) (ix2 o 0)) ((argV m c main_arg14 : S1.Idx → EReal) (ix1 0))

/-- The arguments the value depends on are in range and real. -/
structure Good : Prop where
  h0 : Below (argV m c main_arg0) 20000
  h1 : Below (argV m c main_arg1) 50000
  h2 : Below (argV m c main_arg2) 100000
  h3 : Below (argV m c main_arg3) 50
  r4 : ∀ i, IsReal ((argV m c main_arg4 : S100000x64.Idx → EReal) i)
  r5 : ∀ i, IsReal ((argV m c main_arg5 : S50000x64.Idx → EReal) i)
  r6 : ∀ i, IsReal ((argV m c main_arg6 : S20000x64.Idx → EReal) i)
  r7 : ∀ i, IsReal ((argV m c main_arg7 : S128x16.Idx → EReal) i)
  r8 : ∀ i, IsReal ((argV m c main_arg8 : S16.Idx → EReal) i)
  r9 : ∀ i, IsReal ((argV m c main_arg9 : S16x1.Idx → EReal) i)
  r10 : ∀ i, IsReal ((argV m c main_arg10 : S1.Idx → EReal) i)

theorem outAt_at (g : Good m c) (t : Fin cfg0.N) (r : Fin 128) :
    outAt m c t (ix3 0 r 0) = answer m c (reqAt m c ⟨t.val, t.isLt⟩ r) := by
  have hn := (toNat_below (g.h3 (ix1 (reqAt m c ⟨t.val, t.isLt⟩ r)))).1
  have e8 : (iblk m c 8 t : S128x32.Idx → EReal) = V m c main_v73 := funext fun y => iblk_8_at m c t y
  have e9 : (iblk m c 9 t : S128x32.Idx → EReal) = V m c main_v78 := funext fun y => iblk_9_at m c t y
  have e11 : (iblk m c 11 t : S800x128.Idx → EReal) = V m c main_v93 := funext fun y => iblk_11_at m c t y
  have e12 : (iblk m c 12 t : S256x6400.Idx → EReal) = V m c main_v125 := funext fun y => iblk_12_at m c t y
  have e13 : (iblk m c 13 t : S16x800.Idx → EReal) = V m c main_v134 := funext fun y => iblk_13_at m c t y
  refine blockOut_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    (iblk m c 15 t) (iblk m c 16 t) (iblk m c 17 t) (rowsAt m c (t.val + 1)) r
    ((argV m c main_arg3 : IVec S16384 32) (ix1 (reqAt m c ⟨t.val, t.isLt⟩ r))).toNat _ _ _
    (parity ((argV m c main_arg1 : IVec S16384 32) (ix1 (reqAt m c ⟨t.val, t.isLt⟩ r))).toNat)
    (parity ((argV m c main_arg0 : IVec S16384 32) (ix1 (reqAt m c ⟨t.val, t.isLt⟩ r))).toNat)
    _ _ _ _ _ _ _ hn ?_ ?_ ?_ ?_ (item_row m c g.h1 g.r5 t r) (group_row m c g.h0 g.r6 t r)
    (fun d k => g.r7 _) (fun k => g.r8 _) (fun k => g.r9 _) ?_ ?_ ?_ ?_ ?_ ?_ ?_ ?_ ?_ ?_
  · rw [iblk_2_at, V_lens]
    exact (lens_at _ _ _ r).trans (word_self _)
  · intro j hj hjn
    have e : (iblk m c 3 t : S1x128x128.Idx → EReal) (ix3 0 r ⟨j, by omega⟩)
        = parity ((argV m c main_arg2 : IVec S16384x50 32) (ix2 (reqAt m c ⟨t.val, t.isLt⟩ r) ⟨j, hj⟩)).toNat := by
      rw [iblk_3_at, V_par]
      exact par_at _ _ _ r j hj
    rw [e]
    exact member_row m c g.h2 g.h3 g.r4 t r j hj hjn
  · intro d hd
    rw [iblk_4_at, V_aux2]
    exact (aux2_low _ _ _ r d hd).trans (lowBit_at _ _ _ _)
  · intro d hd
    rw [iblk_4_at, V_aux2]
    exact (aux2_high _ _ _ r d hd).trans (lowBit_at _ _ _ _)
  · rw [e8, V_w1]
    exact w1_low _
  · rw [e9, V_w1i]
    exact w1_high _
  · intro k
    rw [iblk_10_at, V_b1]
    exact b1_at _ k
  · rw [e11, V_w2]
    exact w2_at _
  · rw [e12, V_spread]
    exact hostSpread_at
  · rw [e13, V_tile]
    exact tile_at
  · intro j o
    rw [iblk_14_at, V_p1]
    exact p1_at _ j o
  · intro o
    rw [iblk_15_at, V_pb1]
    exact pb1_at _ o
  · intro o
    rw [iblk_16_at, V_p2]
    exact p2_at _ o
  · rw [iblk_17_at, V_pb2]
    exact pb2_at _

end Cert.PIdeal

end
-- ==== Proof.TailRead.lean ====
/-
  The result: the region's array, row by row, put back in the order of the requests.
-/
module

public import proofs.«01_k».proof.Proof.OutRead
public import proofs.«01_k».proof.Proof.Frame
public import Idealize.ShloMosaic.Lib.Pipeline.ValueKit

@[expose] public section

set_option maxRecDepth 16384

noncomputable section

namespace Cert.PIdeal

open Cert.P
open Cert.KernelIdeal Cert.KernelIdeal.Gen
open Idealize.ShloMosaic Idealize.ShloMosaic.TcCoe Idealize.ShloMosaic.Tactic
open Idealize.SL.Sem

variable {F : FTy → Type} [FloatOps F] [Named F]

/-- The rows of the groups in the order `o` puts them in. -/
def back (o : IVec S16384 32) (X : FVec F S128x128x1 .f32) : FVec F S16384x1 .f32 :=
  Host.gather gather_S16384x1_S16384x1_S16384x1_1_0_n_n_0_1_11 (shapeCast S16384x1 X shapeCasts_S128x128x1_S16384x1) (wrapIdx (order o))

theorem back_at (l : IVec S16384 32) (X : S128x128x1.Idx → EReal) (q : Fin 16384) :
    back (F := Ideal) (order l) X (ix2 q 0)
      = X (ix3 ⟨(pos l q).val / 128, by omega⟩ ⟨(pos l q).val % 128, by omega⟩ 0) := by
  have hk := (pos l q).isLt
  unfold back
  have h := Routing.gather_row gather_S16384x1_S16384x1_S16384x1_1_0_n_n_0_1_11 rfl rfl rfl rfl rfl
    (shapeCast S16384x1 X shapeCasts_S128x128x1_S16384x1) (wrapIdx (order (order l))) q 0 (pos l q)
    (wrapIdx_at (order (order l)) q _ (by omega) (order_order l q)) (by decide)
  refine h.trans ?_
  pointwise

variable (m : (ℓ : Loc nD τ sig) → Buf (Elt F) ℓ) (c : Dev nD)

set_option maxHeartbeats 8000000 in
theorem V_order : V m c main_v3 = order (argV m c main_arg3) := by
  unfold V V0
  simp only [List.flatten_cons, List.flatten_nil, List.append_nil, List.cons_append, List.nil_append, hostOps0, hostOps0_1, hostOps0_2]
  after_reads_simp
  rfl

theorem index_18 : ∀ t : Fin grid0.N, win0_18.index t = ![(grid0.coords t 0).val, 0, 0] := by decide +kernel

/-- The region's result array after every point. -/
theorem arr_result (t : Fin cfg0.N) (r : Fin 128) :
    ((dats m 0 c).arrAt 18 cfg0.N : S128x128x1.Idx → Elt F .f32) (ix3 (⟨t.val, t.isLt⟩ : Fin 128) r 0) = outAt m c t (ix3 0 r 0) := by
  have e : (dats m 0 c).arrAt 18 cfg0.N
      = fun i : S128x128x1.Idx => outAt m c (⟨(i 0).val, (i 0).isLt⟩ : Fin cfg0.N) (ix3 0 (i 1) (i 2)) := by
    refine (dats m 0 c).arrAt_eq_of_covers 18 _ (by decide +kernel) fun t hf y => ?_
    have he : ((cfg0.win 18).blk t).view.emb y = (ix3 (⟨t.val, t.isLt⟩ : Fin 128) (y 1) (y 2) : S128x128x1.Idx) := by
      funext a
      apply Fin.ext
      match a with
      | ⟨0, _⟩ => blk_simp [index_18 t, coords_val t]
      | ⟨1, _⟩ =>
        blk_simp [index_18 t, coords_val t]
        rfl
      | ⟨2, _⟩ => blk_simp [index_18 t, coords_val t]
    refine Eq.trans ?_ (congrArg (fun i : S128x128x1.Idx => outAt m c (⟨(i 0).val, (i 0).isLt⟩ : Fin cfg0.N) (ix3 0 (i 1) (i 2))) he).symm
    refine congrArg (outAt m c t) (funext fun a => ?_)
    match a with
    | ⟨0, _⟩ => exact Fin.ext (by have := (y 0).isLt; show (y 0).val = 0; change (y 0).val < 1 at this; omega)
    | ⟨1, _⟩ => rfl
    | ⟨2, _⟩ => rfl
  exact congrFun e _

set_option maxHeartbeats 8000000 in
theorem tail_value : Pipeline.afterTail₀ cfgs (dats m) 0 (V0 m) [hostOps1, hostOps1_1] c main_v150
    = back (order (argV m c main_arg3)) ((dats m 0 c).arrAt 18 cfg0.N) := by
  have h3 : Pipeline.withArrays spec0 c (V0 m c) (fun w => (dats m 0 c).arrAt w cfg0.N) (Proc.devRef .tc main_v3)
      = order (argV m c main_arg3) := (Pipeline.withArrays_of_ne _ c (V0 m c) _ main_v3 (by decide)).trans (V_order m c)
  have h18 : Pipeline.withArrays spec0 c (V0 m c) (fun w => (dats m 0 c).arrAt w cfg0.N) (Proc.devRef .tc main_v141)
      = (dats m 0 c).arrAt 18 cfg0.N := Pipeline.withArrays_arr spec0 (by decide) c (V0 m c) _ 18
  unfold Pipeline.afterTail₀
  simp only [List.flatten_cons, List.flatten_nil, List.append_nil, List.cons_append, List.nil_append, hostOps1, hostOps1_1]
  after_reads_simp
  refine Eq.trans (b := back (Pipeline.withArrays spec0 c (V0 m c) (fun w => (dats m 0 c).arrAt w cfg0.N) (Proc.devRef .tc main_v3))
    (Pipeline.withArrays spec0 c (V0 m c) (fun w => (dats m 0 c).arrAt w cfg0.N) (Proc.devRef .tc main_v141))) rfl ?_
  rw [h3, h18]

/-- The result at a request. -/
theorem result_at (m : (ℓ : Loc nD τ sig) → Buf (Elt Ideal) ℓ) (c : Dev nD) (g : Good m c) (q : Fin 16384) :
    (Pipeline.afterTail₀ cfgs (dats m) 0 (V0 m) [hostOps1, hostOps1_1] c main_v150 : S16384x1.Idx → EReal) (ix2 q 0) = answer m c q := by
  rw [tail_value, back_at]
  have hq := (pos (argV m c main_arg3) q).isLt
  have hN : (pos (argV m c main_arg3) q).val / 128 < cfg0.N := by show _ < 128; omega
  refine (arr_result m c ⟨(pos (argV m c main_arg3) q).val / 128, hN⟩ ⟨(pos (argV m c main_arg3) q).val % 128, by omega⟩).trans ?_
  rw [outAt_at m c g]
  refine congrArg (answer m c) ?_
  refine Eq.trans (congrArg (at_ (argV m c main_arg3)) (Fin.ext ?_)) (at_pos (argV m c main_arg3) q)
  show (pos (argV m c main_arg3) q).val / 128 * 128 + (pos (argV m c main_arg3) q).val % 128 = (pos (argV m c main_arg3) q).val
  omega

end Cert.PIdeal

end
-- ==== Proof.RefGather.lean ====
/-
  The reference's look-ups at an entry: each row of a table by its number.
-/
module

public import proofs.«01_k».proof.Proof.Perm
public import proofs.«01_k».proof.Proof.Gen.ReferenceIdeal.Run

@[expose] public section

set_option maxRecDepth 16384

noncomputable section

namespace Cert.RefIdeal

open Cert.ReferenceIdeal Cert.ReferenceIdeal.Gen
open Idealize.ShloMosaic Idealize.ShloMosaic.TcCoe Idealize.ShloMosaic.Tactic

/-- `table[idx]` over the rows of a table by a matrix of numbers: where `idx` holds at `(a, c, 0)` a row number `b`, entry
    `(a, c, y)` of the result is the table's entry `(b, y)`. -/
theorem gather_row3 {α : Type} {nb B n k : ℕ} (d : GatherDims ⟨2, ![nb, B]⟩ ⟨3, ![n, k, 1]⟩ ⟨3, ![n, k, B]⟩)
    (hoff : d.offsetDims = [2]) (hcoll : d.collapsedSliceDims = [0]) (hob : d.operandBatchingDims = [])
    (hsim : d.startIndexMap = [0]) (hivd : d.indexVectorDim = 2) (x : Shape.Idx ⟨2, ![nb, B]⟩ → α)
    (idx : IVec ⟨3, ![n, k, 1]⟩ 32) (a : Fin n) (c : Fin k) (y : Fin B) (b : Fin nb)
    (hb : idx (ix3 a c (0 : Fin 1)) = BitVec.ofNat 32 b.val) (hnb : nb < 2 ^ 31) :
    Host.gather d x idx (ix3 a c y) = x (ix2 b y) := by
  obtain ⟨od, cd, obd, sbd, sim, ivd, ss, wf⟩ := d
  dsimp only at hoff hcoll hob hsim hivd
  subst hoff hcoll hob hsim hivd
  have hsl : ss 0 = 1 := GatherDims.slice_collapsed ⟨[2], [0], [], sbd, [0], 2, ss, wf⟩ 0 (List.mem_singleton.2 rfl)
  generalize hd : (⟨[2], [0], [], sbd, [0], 2, ss, wf⟩ : GatherDims ⟨2, ![nb, B]⟩ ⟨3, ![n, k, 1]⟩ ⟨3, ![n, k, B]⟩) = d
  have hN : ∀ a', a' ∉ d.operandBatchingDims := fun a' => by rw [← hd]; exact List.not_mem_nil
  unfold Host.gather
  refine congrArg x (funext fun q => Fin.ext ?_)
  match q with
  | ⟨0, _⟩ =>
    have hk : (0 : Fin 2) ∉ d.sKept := fun h => ((d.mem_sKept 0).1 h).1 (by rw [← hd]; exact List.mem_singleton.2 rfl)
    show d.start (ix3 a c y) idx 0 + d.batchCoord (ix3 a c y) 0 + d.offCoord (ix3 a c y) 0 = b.val
    rw [d.batchCoord_eq_zero _ _ (hN 0), d.offCoord_eq_zero _ _ hk]
    simp only [Nat.add_zero]
    subst hd
    have hm : (0 : Fin 2) ∈ [(0 : Fin 2)] := List.mem_singleton.2 rfl
    unfold GatherDims.start
    rw [dif_pos hm]
    have hsi : GatherDims.siIdx ⟨[2], [0], [], sbd, [0], 2, ss, wf⟩ (ix3 a c y) ⟨[(0 : Fin 2)].idxOf 0, List.idxOf_lt_length_iff.2 hm⟩
        = ix3 a c (0 : Fin 1) := by
      funext b'
      apply Fin.ext
      match b' with
      | ⟨0, _⟩ => rfl
      | ⟨1, _⟩ => rfl
      | ⟨2, _⟩ => rfl
    have hbl := b.isLt
    rw [hsi, hb, Cert.PIdeal.toInt_small _ (by omega)]
    show min ((b.val : Int)).toNat (nb - ss 0) = b.val
    rw [hsl]
    omega
  | ⟨1, _⟩ =>
    show d.start (ix3 a c y) idx 1 + d.batchCoord (ix3 a c y) 1 + d.offCoord (ix3 a c y) 1 = y.val
    rw [d.batchCoord_eq_zero _ _ (hN 1), Nat.add_zero]
    subst hd
    unfold GatherDims.start
    rw [dif_neg (show (1 : Fin 2) ∉ [(0 : Fin 2)] by decide), Nat.zero_add]
    rfl

/-- A number that is not negative stays as it is when negative numbers are counted from the end. -/
theorem wrap_small (n N : ℕ) (hn : n < 2 ^ 31) :
    Scalar.select (IntOp.cmpi .slt (BitVec.ofNat 32 n) 0#32) (BitVec.ofNat 32 n + BitVec.ofNat 32 N) (BitVec.ofNat 32 n)
      = BitVec.ofNat 32 n := by
  have h : (BitVec.ofNat 32 n).slt 0#32 = false := by
    rw [BitVec.slt_eq_decide, Cert.PIdeal.toInt_small n hn]
    simp
  unfold Scalar.select IntOp.cmpi
  simp [h]

/-- The members' rows. -/
def memRows (T : FVec Ideal S100000x64 .f32) (x : IVec S16384x50 32) : FVec Ideal S16384x50x64 .f32 :=
  Host.gather gather_S100000x64_S16384x50x1_S16384x50x64_2_0_n_n_0_2_164 T (broadcastInDim S16384x50x1 ![0, 1] bcast_S16384x50_S16384x50x1_0_1
    (select (cmpi .slt x (broadcastInDim S16384x50 ![] bcast_S_S16384x50 (constantI S_ 32 0#32)))
      (addi x (broadcastInDim S16384x50 ![] bcast_S_S16384x50 (constantI S_ 32 100000#32))) x))

/-- The numbers as row numbers of a table of `N` rows, those below zero counted from the end. -/
def wrapR (N : BitVec 32) (x : IVec S16384 32) : IVec S16384x1 32 :=
  broadcastInDim S16384x1 ![0] bcast_S16384_S16384x1_0
    (select (cmpi .slt x (broadcastInDim S16384 ![] bcast_S_S16384 (constantI S_ 32 0#32)))
      (addi x (broadcastInDim S16384 ![] bcast_S_S16384 (constantI S_ 32 N))) x)

theorem wrapR_at (N n : ℕ) (hn : n < 2 ^ 31) (x : IVec S16384 32) (r : Fin 16384) (h : x (ix1 r) = BitVec.ofNat 32 n) :
    wrapR (BitVec.ofNat 32 N) x (ix2 r (0 : Fin 1)) = BitVec.ofNat 32 n := by
  unfold wrapR
  pointwise
  rw [h]
  exact wrap_small n N hn

/-- The items' rows. -/
def itmRows (T : FVec Ideal S50000x64 .f32) (x : IVec S16384 32) : FVec Ideal S16384x64 .f32 :=
  Host.gather gather_S50000x64_S16384x1_S16384x64_1_0_n_n_0_1_164 T (wrapR 50000#32 x)

/-- The groups' rows. -/
def grpRows (T : FVec Ideal S20000x64 .f32) (x : IVec S16384 32) : FVec Ideal S16384x64 .f32 :=
  Host.gather gather_S20000x64_S16384x1_S16384x64_1_0_n_n_0_1_164 T (wrapR 20000#32 x)

theorem memRows_at (T : FVec Ideal S100000x64 .f32) (x : IVec S16384x50 32) (r : Fin 16384) (j : Fin 50) (d : Fin 64)
    (b : Fin 100000) (hb : x (ix2 r j) = BitVec.ofNat 32 b.val) : memRows T x (ix3 r j d) = T (ix2 b d) := by
  have hbl := b.isLt
  refine gather_row3 _ rfl rfl rfl rfl rfl T _ r j d b ?_ (by decide)
  pointwise
  rw [hb]
  exact wrap_small b.val 100000 (by omega)

theorem itmRows_at (T : FVec Ideal S50000x64 .f32) (x : IVec S16384 32) (r : Fin 16384) (d : Fin 64)
    (b : Fin 50000) (hb : x (ix1 r) = BitVec.ofNat 32 b.val) : itmRows T x (ix2 r d) = T (ix2 b d) := by
  have hbl := b.isLt
  exact Routing.gather_row _ rfl rfl rfl rfl rfl T _ r d b (wrapR_at 50000 b.val (by omega) x r hb) (by decide)

theorem grpRows_at (T : FVec Ideal S20000x64 .f32) (x : IVec S16384 32) (r : Fin 16384) (d : Fin 64)
    (b : Fin 20000) (hb : x (ix1 r) = BitVec.ofNat 32 b.val) : grpRows T x (ix2 r d) = T (ix2 b d) := by
  have hbl := b.isLt
  exact Routing.gather_row _ rfl rfl rfl rfl rfl T _ r d b (wrapR_at 20000 b.val (by omega) x r hb) (by decide)

end Cert.RefIdeal

end
-- ==== Proof.RefValue.lean ====
/-
  The reference's result, taken apart into named steps.
-/
module

public import proofs.«01_k».proof.Proof.RefGather

@[expose] public section

set_option maxRecDepth 16384

noncomputable section

namespace Cert.RefIdeal

open Cert.ReferenceIdeal Cert.ReferenceIdeal.Gen
open Idealize.ShloMosaic Idealize.ShloMosaic.TcCoe Idealize.ShloMosaic.Tactic
open Idealize.SL.Sem

/-- The scores, minus infinity past the members that take part. -/
def scoresR (M : FVec Ideal S16384x50x64 .f32) (I : FVec Ideal S16384x64 .f32) (l : IVec S16384 32) (w1 : FVec Ideal S128x16 .f32)
    (b1 : FVec Ideal S16 .f32) (w2 : FVec Ideal S16x1 .f32) (b2 : FVec Ideal S1 .f32) : FVec Ideal S16384x50 .f32 :=
  select (cmpi .sle (broadcastInDim S16384x50 ![0, 1] bcast_S1x50_S16384x50_0_1 (broadcastInDim S1x50 ![1] bcast_S50_S1x50_1 (iotaInDim S50 32 0)))
      (broadcastInDim S16384x50 ![0, 1] bcast_S16384x1_S16384x50_0_1 (broadcastInDim S16384x1 ![0] bcast_S16384_S16384x1_0 l)))
    (shapeCast _ (addf (Host.dotGeneral dot_S16384x50x16_S16x1_S16384x50x1_2_0_01_1_n_n none
      (maximumf (addf (Host.dotGeneral dot_S16384x50x128_S128x16_S16384x50x16_2_0_01_1_n_n none
          (concatenate S16384x50x128 2 [⟨S16384x50x64, M⟩, ⟨S16384x50x64, (broadcastInDim S16384x50x64 ![0, 1, 2] bcast_S16384x1x64_S16384x50x64_0_1_2
            (broadcastInDim S16384x1x64 ![0, 2] bcast_S16384x64_S16384x1x64_0_2 I))⟩] concatenates_S16384x50x64_S16384x50x64_S16384x50x128_d2) w1)
        (broadcastInDim S16384x50x16 ![0, 1, 2] bcast_S1x1x16_S16384x50x16_0_1_2 (broadcastInDim S1x1x16 ![2] bcast_S16_S1x1x16_2 b1)))
        (broadcastInDim S16384x50x16 ![] bcast_S_S16384x50x16 (constant S_ .f32 0x00000000#32))) w2)
      (broadcastInDim S16384x50x1 ![0, 1, 2] bcast_S1x1x1_S16384x50x1_0_1_2 (broadcastInDim S1x1x1 ![2] bcast_S1_S1x1x1_2 b2))) shapeCasts_S16384x50x1_S16384x50)
    (broadcastInDim S16384x50 ![] bcast_S_S16384x50 (id (constant S_ .f32 0xFF800000#32)))

/-- The exponentials of the scores less the largest. -/
def expsR (S : FVec Ideal S16384x50 .f32) : FVec Ideal S16384x50 .f32 :=
  Host.exp (subf S (broadcastInDim S16384x50 ![0, 1] bcast_S16384x1_S16384x50_0_1 (broadcastInDim S16384x1 ![0] bcast_S16384_S16384x1_0
    (maximumf (broadcastInDim S16384 ![] bcast_S_S16384 (constant S_ .f32 0xFF800000#32))
      (Host.reduce FloatOps.maximumf S (constant S_ .f32 0xFF800000#32) reducesTo_S16384x50_S16384_d1 h_S_)))))

/-- The weights. -/
def weightsR (E : FVec Ideal S16384x50 .f32) : FVec Ideal S16384x50 .f32 :=
  Host.divf E (broadcastInDim S16384x50 ![0, 1] bcast_S16384x1_S16384x50_0_1 (broadcastInDim S16384x1 ![0] bcast_S16384_S16384x1_0
    (Host.reduceAdd E (constant S_ .f32 0x00000000#32) reducesTo_S16384x50_S16384_d1 h_S_)))

/-- The weighted members' rows with the group's row. -/
def pooledR (W : FVec Ideal S16384x50 .f32) (M : FVec Ideal S16384x50x64 .f32) (G : FVec Ideal S16384x64 .f32) : FVec Ideal S16384x64 .f32 :=
  addf (Host.dotGeneral dot_S16384x50_S16384x50x64_S16384x64_1_1_n_2_0_0 none W M) G

/-- The last layers. -/
def predictR (g I : FVec Ideal S16384x64 .f32) (p1 : FVec Ideal S192x8 .f32) (pb1 : FVec Ideal S8 .f32) (p2 : FVec Ideal S8x1 .f32)
    (pb2 : FVec Ideal S1 .f32) : FVec Ideal S16384x1 .f32 :=
  Host.divf (broadcastInDim S16384x1 ![] bcast_S_S16384x1 (constant S_ .f32 0x3F800000#32))
    (addf (broadcastInDim S16384x1 ![] bcast_S_S16384x1 (constant S_ .f32 0x3F800000#32))
      (Host.exp (Host.negf (addf (Host.dotGeneral dot_S16384x8_S8x1_S16384x1_1_0_0_1_n_n none
        (maximumf (addf (Host.dotGeneral dot_S16384x192_S192x8_S16384x8_1_0_0_1_n_n none
            (concatenate S16384x192 1 [⟨S16384x64, mulf g I⟩, ⟨S16384x64, g⟩, ⟨S16384x64, I⟩]
              concatenates_S16384x64_S16384x64_S16384x64_S16384x192_d1) p1)
          (broadcastInDim S16384x8 ![0, 1] bcast_S1x8_S16384x8_0_1 (broadcastInDim S1x8 ![1] bcast_S8_S1x8_1 pb1)))
          (broadcastInDim S16384x8 ![] bcast_S_S16384x8 (constant S_ .f32 0x00000000#32))) p2)
        (broadcastInDim S16384x1 ![0, 1] bcast_S1x1_S16384x1_0_1 (broadcastInDim S1x1 ![1] bcast_S1_S1x1_1 pb2))))))

/-- The result, of the rows and the weights. -/
def outR (M : FVec Ideal S16384x50x64 .f32) (I G : FVec Ideal S16384x64 .f32) (l : IVec S16384 32) (w1 : FVec Ideal S128x16 .f32)
    (b1 : FVec Ideal S16 .f32) (w2 : FVec Ideal S16x1 .f32) (b2 : FVec Ideal S1 .f32) (p1 : FVec Ideal S192x8 .f32)
    (pb1 : FVec Ideal S8 .f32) (p2 : FVec Ideal S8x1 .f32) (pb2 : FVec Ideal S1 .f32) : FVec Ideal S16384x1 .f32 :=
  predictR (pooledR (weightsR (expsR (scoresR M I l w1 b1 w2 b2))) M G) I p1 pb1 p2 pb2

variable (m : (ℓ : Loc nD τ sig) → Buf (Elt Ideal) ℓ) (c : Dev nD)

/-- An argument's contents. -/
abbrev argR (b : Ref sig .tc) : Buf (Elt Ideal) ((c.tc : Thread nD τ).loc b) := m ((c.tc : Thread nD τ).loc b)

theorem res_eq : Value.res_main_v70 m c = outR (memRows (argR m c main_arg4) (argR m c main_arg2))
    (itmRows (argR m c main_arg5) (argR m c main_arg1)) (grpRows (argR m c main_arg6) (argR m c main_arg0)) (argR m c main_arg3)
    (argR m c main_arg7) (argR m c main_arg8) (argR m c main_arg9) (argR m c main_arg10) (argR m c main_arg11) (argR m c main_arg12)
    (argR m c main_arg13) (argR m c main_arg14) := rfl

end Cert.RefIdeal

end
-- ==== Proof.RefRead.lean ====
/-
  The reference's result at an entry.
-/
module

public import proofs.«01_k».proof.Proof.RefValue
public import proofs.«01_k».proof.Proof.ReadScores
public import Idealize.ShloMosaic.Lib.Pointwise
public import Idealize.ShloMosaic.PureOps.Ideal.Laws

@[expose] public section

set_option maxRecDepth 16384

noncomputable section

namespace Cert.RefIdeal

open Cert.ReferenceIdeal Cert.ReferenceIdeal.Gen
open Idealize.ShloMosaic Idealize.ShloMosaic.TcCoe Idealize.ShloMosaic.Tactic
open Idealize.SL.Sem

/-- A matrix by its row and column. -/
abbrev mat {a b : ℕ} (w : Shape.Idx ⟨2, ![a, b]⟩ → EReal) (d : Fin a) (k : Fin b) : EReal := w (ix2 d k)

/-- A vector by its entry. -/
abbrev vec {a : ℕ} (w : Shape.Idx ⟨1, ![a]⟩ → EReal) (k : Fin a) : EReal := w (ix1 k)

/-- A column by its entry. -/
abbrev colm {a : ℕ} (w : Shape.Idx ⟨2, ![a, 1]⟩ → EReal) (k : Fin a) : EReal := w (ix2 k 0)

section
variable (M : FVec Ideal S16384x50x64 .f32) (I G : FVec Ideal S16384x64 .f32) (l : IVec S16384 32) (w1 : FVec Ideal S128x16 .f32)
  (b1 : FVec Ideal S16 .f32) (w2 : FVec Ideal S16x1 .f32) (b2 : FVec Ideal S1 .f32) (p1 : FVec Ideal S192x8 .f32)
  (pb1 : FVec Ideal S8 .f32) (p2 : FVec Ideal S8x1 .f32) (pb2 : FVec Ideal S1 .f32)
  (r : Fin 16384) (u : Fin 50 → Fin 64 → EReal) (it gr : Fin 64 → EReal) (n : ℕ)
  (hM : ∀ j d, M (ix3 r j d) = u j d) (hI : ∀ d, I (ix2 r d) = it d) (hG : ∀ d, G (ix2 r d) = gr d)
  (hn : n < 50) (hl : l (ix1 r) = BitVec.ofNat 32 n)

include hM hI hn hl in
theorem scoresR_at (j : Fin 50) : scoresR M I l w1 b1 w2 b2 (ix2 r j)
    = if j.val ≤ n then Cert.Spec.score (u j) it (mat w1) (vec b1) (colm w2) + b2 (ix1 0) else ⊥ := by
  unfold scoresR
  pointwise
  rw [hl, Cert.PIdeal.sle_small (by omega) (by omega)]
  congr 1
  unfold Cert.Spec.score Cert.Spec.hidden
  simp only [hM, hI, add_assoc]

theorem weightsR_at (S : FVec Ideal S16384x50 .f32) (s : ℕ → ℝ)
    (hS : ∀ j : Fin 50, S (ix2 r j) = if j.val ≤ n then ((s j.val : ℝ) : EReal) else ⊥) (hn : n < 50) (j : Fin 50) :
    weightsR (expsR S) (ix2 r j) = ((Cert.Spec.share s n j.val : ℝ) : EReal) := by
  unfold weightsR expsR
  pointwise
  rw [Cert.PIdeal.bits_bot, max_eq_right bot_le]
  exact Cert.Spec.soft_eq (fun j : Fin 50 => S (ix2 r j)) s n hn hS (Cert.Spec.top_real _ s n hn hS) j

theorem pooledR_at (W : FVec Ideal S16384x50 .f32) (d : Fin 64) :
    pooledR W M G (ix2 r d) = ∑ j : Fin 50, W (ix2 r j) * M (ix3 r j d) + G (ix2 r d) := by
  unfold pooledR
  pointwise

theorem predictR_at (g : FVec Ideal S16384x64 .f32) (q : Fin 64 → EReal) (hg : ∀ d, g (ix2 r d) = q d) (hI : ∀ d, I (ix2 r d) = it d) :
    predictR g I p1 pb1 p2 pb2 (ix2 r 0) = Cert.Spec.predict q it (mat p1) (vec pb1) (colm p2) (pb2 (ix1 0)) := by
  unfold predictR
  pointwise
  unfold Cert.Spec.predict
  congr 5
  refine Finset.sum_congr rfl fun o _ => ?_
  congr 3
  refine Finset.sum_congr rfl fun j _ => ?_
  congr 1
  unfold Cert.Spec.features
  by_cases h : j.val < 64
  · rw [dif_pos h, dif_pos h, hg, hI]
  · rw [dif_neg h, dif_neg h]
    by_cases h' : j.val < 128
    · rw [dif_pos h', dif_pos (show j.val - 64 < 64 by omega), hg]
    · rw [dif_neg h', dif_neg (show ¬ j.val - 64 < 64 by omega), hI]
      rfl

end

end Cert.RefIdeal

end
-- ==== Proof.RefOut.lean ====
/-
  The reference's result for one request.
-/
module

public import proofs.«01_k».proof.Proof.RefRead
public import proofs.«01_k».proof.Proof.ReadScores
public import Idealize.ShloMosaic.Lib.Pointwise
public import Idealize.ShloMosaic.PureOps.Ideal.Laws

@[expose] public section

set_option maxRecDepth 16384

noncomputable section

namespace Cert.RefIdeal

open Cert.ReferenceIdeal Cert.ReferenceIdeal.Gen
open Idealize.ShloMosaic Idealize.ShloMosaic.TcCoe Idealize.ShloMosaic.Tactic
open Idealize.SL.Sem

section
variable (M : FVec Ideal S16384x50x64 .f32) (I G : FVec Ideal S16384x64 .f32) (l : IVec S16384 32) (w1 : FVec Ideal S128x16 .f32)
  (b1 : FVec Ideal S16 .f32) (w2 : FVec Ideal S16x1 .f32) (b2 : FVec Ideal S1 .f32) (p1 : FVec Ideal S192x8 .f32)
  (pb1 : FVec Ideal S8 .f32) (p2 : FVec Ideal S8x1 .f32) (pb2 : FVec Ideal S1 .f32)
  (r : Fin 16384) (u : Fin 50 → Fin 64 → EReal) (it gr : Fin 64 → EReal) (n : ℕ)
  (hM : ∀ j d, M (ix3 r j d) = u j d) (hI : ∀ d, I (ix2 r d) = it d) (hG : ∀ d, G (ix2 r d) = gr d)
  (hn : n < 50) (hl : l (ix1 r) = BitVec.ofNat 32 n)

include hM hI hG hn hl in
/-- The reference's result for request `r`. -/
theorem outR_at (hu : ∀ j d, Cert.Spec.IsReal (u j d)) (hit : ∀ d, Cert.Spec.IsReal (it d)) (h1 : ∀ d k, Cert.Spec.IsReal (mat w1 d k))
    (hb1 : ∀ k, Cert.Spec.IsReal (vec b1 k)) (h2 : ∀ k, Cert.Spec.IsReal (colm w2 k)) (hb2 : Cert.Spec.IsReal (b2 (ix1 0))) :
    outR M I G l w1 b1 w2 b2 p1 pb1 p2 pb2 (ix2 r 0)
      = Cert.Spec.predict (Cert.Spec.pooled u gr (Cert.Spec.scores u it (mat w1) (vec b1) (colm w2)) n) it (mat p1) (vec pb1) (colm p2)
        (pb2 (ix1 0)) := by
  obtain ⟨β, hβ⟩ := hb2
  suffices key : ∀ d, pooledR (weightsR (expsR (scoresR M I l w1 b1 w2 b2))) M G (ix2 r d)
      = Cert.Spec.pooled u gr (Cert.Spec.scores u it (mat w1) (vec b1) (colm w2)) n d by
    have h := predictR_at I p1 pb1 p2 pb2 r it (pooledR (weightsR (expsR (scoresR M I l w1 b1 w2 b2))) M G)
      (Cert.Spec.pooled u gr (Cert.Spec.scores u it (mat w1) (vec b1) (colm w2)) n) key hI
    unfold outR
    exact h
  intro d
  refine (pooledR_at M G r (weightsR (expsR (scoresR M I l w1 b1 w2 b2))) d).trans ?_
  refine (congrArg₂ (fun a b : EReal => a + b) (Finset.sum_congr rfl fun j _ => ?_) (hG d) : _ = Cert.Spec.pooled u gr
    (Cert.Spec.scores u it (mat w1) (vec b1) (colm w2)) n d)
  rw [hM, weightsR_at r n _ (fun j => Cert.Spec.scores u it (mat w1) (vec b1) (colm w2) j + β) (fun j => ?_) hn, Cert.Spec.share_shift]
  rw [scoresR_at M I l w1 b1 w2 b2 r u it n hM hI hn hl, hβ]
  have e : (Fin.ofNat 50 j.val : Fin 50) = j := Fin.ext (Nat.mod_eq_of_lt j.isLt)
  rw [EReal.coe_add]
  unfold Cert.Spec.scores
  rw [e, (Cert.Spec.score_real (hu j) hit h1 hb1 h2).coe_toReal]

end

end Cert.RefIdeal

end
-- ==== Proof.Algebraic.lean ====
/-
  The value claim: the kernel's result and the reference's are the same specification of every request.
-/
module

public import proofs.«01_k».proof.Proof.TailRead
public import proofs.«01_k».proof.Proof.RefOut
public import proofs.«01_k».proof.Proof.Finite
public import proofs.«01_k».proof.Proof.Gen.ReferenceIdeal.Run

@[expose] public section

set_option maxRecDepth 16384

noncomputable section

namespace Cert.P

open Cert.PIdeal Cert.Spec Cert.KernelIdeal.Gen
open Idealize.ShloMosaic Idealize.ShloMosaic.TcCoe Idealize.SL.Sem

/-- A finite element is a real number. -/
theorem real_of_finite {s : Shape} {x : FVec Ideal s .f32} (h : Finites x) (i : s.Idx) : IsReal (x i) := by
  have hi := h i
  generalize x i = v at hi
  have ht : (FloatOps.ofBits .f32 0x7F800000#32 : Ideal .f32) = (⊤ : EReal) := by
    simp [FloatOps.ofBits, Ideal.ofBits, Ideal.ieee]
  rw [ht] at hi
  induction v using EReal.rec with
  | bot => simp [FloatOps.cmpf, FloatOps.hostAbsf, Ideal.cmp] at hi
  | coe r => exact ⟨r, rfl⟩
  | top => simp [FloatOps.cmpf, FloatOps.hostAbsf, Ideal.cmp] at hi

section
variable (x0 x1 : IVec ⟨1, ![16384]⟩ 32) (x2 : IVec ⟨2, ![16384, 50]⟩ 32) (x3 : IVec ⟨1, ![16384]⟩ 32)
  (x4 : FVec Ideal ⟨2, ![100000, 64]⟩ .f32) (x5 : FVec Ideal ⟨2, ![50000, 64]⟩ .f32) (x6 : FVec Ideal ⟨2, ![20000, 64]⟩ .f32)
  (x7 : FVec Ideal ⟨2, ![128, 16]⟩ .f32) (x8 : FVec Ideal ⟨1, ![16]⟩ .f32) (x9 : FVec Ideal ⟨2, ![16, 1]⟩ .f32)
  (x10 : FVec Ideal ⟨1, ![1]⟩ .f32) (x11 : FVec Ideal ⟨2, ![192, 8]⟩ .f32) (x12 : FVec Ideal ⟨1, ![8]⟩ .f32)
  (x13 : FVec Ideal ⟨2, ![8, 1]⟩ .f32) (x14 : FVec Ideal ⟨1, ![1]⟩ .f32)

/-- The reference's result for request `q`. -/
theorem ref_at (h0 : Words x0 20000) (h1 : Words x1 50000) (h2 : Words x2 100000) (h3 : Words x3 50) (r4 : Finites x4) (r5 : Finites x5)
    (r7 : Finites x7) (r8 : Finites x8) (r9 : Finites x9) (r10 : Finites x10) (q : Fin 16384) :
    Cert.RefIdeal.outR (Cert.RefIdeal.memRows x4 x2) (Cert.RefIdeal.itmRows x5 x1) (Cert.RefIdeal.grpRows x6 x0) x3 x7 x8 x9 x10 x11 x12 x13 x14 (ix2 q 0)
      = predict (pooled (fun j => tableRow (N := 100000) x4 (x2 (ix2 q j)).toNat) (tableRow (N := 20000) x6 (x0 (ix1 q)).toNat)
          (scores (fun j => tableRow (N := 100000) x4 (x2 (ix2 q j)).toNat) (tableRow (N := 50000) x5 (x1 (ix1 q)).toNat)
            (fun d k => x7 (ix2 d k)) (fun k => x8 (ix1 k)) (fun k => x9 (ix2 k 0))) (x3 (ix1 q)).toNat)
        (tableRow (N := 50000) x5 (x1 (ix1 q)).toNat) (fun j o => x11 (ix2 j o)) (fun o => x12 (ix1 o)) (fun o => x13 (ix2 o 0)) (x14 (ix1 0)) := by
  have row {N : ℕ} [NeZero N] (T : (⟨2, ![N, 64]⟩ : Shape).Idx → EReal) (b : ℕ) (hb : b < N) (d : Fin 64) :
      T (ix2 ⟨b, hb⟩ d) = tableRow T b d := by
    unfold tableRow
    rw [show (Fin.ofNat N b : Fin N) = ⟨b, hb⟩ from Fin.ext (Nat.mod_eq_of_lt hb)]
  have e2 := fun j : Fin 50 => (toNat_below (h2 (ix2 q j))).1
  have e1 := (toNat_below (h1 (ix1 q))).1
  have e0 := (toNat_below (h0 (ix1 q))).1
  have e3 := (toNat_below (h3 (ix1 q))).1
  exact Cert.RefIdeal.outR_at (Cert.RefIdeal.memRows x4 x2) (Cert.RefIdeal.itmRows x5 x1) (Cert.RefIdeal.grpRows x6 x0) x3 x7 x8 x9 x10 x11 x12 x13 x14 q
    (fun j => tableRow (N := 100000) x4 (x2 (ix2 q j)).toNat) (tableRow (N := 50000) x5 (x1 (ix1 q)).toNat)
    (tableRow (N := 20000) x6 (x0 (ix1 q)).toNat) (x3 (ix1 q)).toNat
    (fun j d => (Cert.RefIdeal.memRows_at x4 x2 q j d ⟨_, e2 j⟩ (word_self _)).trans (row x4 _ (e2 j) d))
    (fun d => (Cert.RefIdeal.itmRows_at x5 x1 q d ⟨_, e1⟩ (word_self _)).trans (row x5 _ e1 d))
    (fun d => (Cert.RefIdeal.grpRows_at x6 x0 q d ⟨_, e0⟩ (word_self _)).trans (row x6 _ e0 d))
    e3 (word_self _) (fun j d => real_of_finite r4 _) (fun d => real_of_finite r5 _) (fun d k => real_of_finite r7 _)
    (fun k => real_of_finite r8 _) (fun k => real_of_finite r9 _) (real_of_finite r10 _)

end

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- What the precondition says of the arguments. -/
def Fits : Prop :=
  (Words (s := ⟨1, ![16384]⟩) (argV m c Cert.KernelIdeal.main_arg0) 20000 ∧ Words (s := ⟨1, ![16384]⟩) (argV m c Cert.KernelIdeal.main_arg1) 50000
      ∧ Words (s := ⟨2, ![16384, 50]⟩) (argV m c Cert.KernelIdeal.main_arg2) 100000 ∧ Words (s := ⟨1, ![16384]⟩) (argV m c Cert.KernelIdeal.main_arg3) 50)
    ∧ Finites (F := Ideal) (s := ⟨2, ![100000, 64]⟩) (argV m c Cert.KernelIdeal.main_arg4) ∧ Finites (F := Ideal) (s := ⟨2, ![50000, 64]⟩) (argV m c Cert.KernelIdeal.main_arg5)
    ∧ Finites (F := Ideal) (s := ⟨2, ![20000, 64]⟩) (argV m c Cert.KernelIdeal.main_arg6) ∧ Finites (F := Ideal) (s := ⟨2, ![128, 16]⟩) (argV m c Cert.KernelIdeal.main_arg7)
    ∧ Finites (F := Ideal) (s := ⟨1, ![16]⟩) (argV m c Cert.KernelIdeal.main_arg8) ∧ Finites (F := Ideal) (s := ⟨2, ![16, 1]⟩) (argV m c Cert.KernelIdeal.main_arg9)
    ∧ Finites (F := Ideal) (s := ⟨1, ![1]⟩) (argV m c Cert.KernelIdeal.main_arg10)

/-- Arguments that fit are good. -/
theorem good_of (h : Fits m c) : Good m c := by
  obtain ⟨⟨h0, h1, h2, h3⟩, r4, r5, r6, r7, r8, r9, r10⟩ := h
  exact ⟨h0, h1, h2, h3, real_of_finite r4, real_of_finite r5, real_of_finite r6, real_of_finite r7, real_of_finite r8,
    real_of_finite r9, real_of_finite r10⟩

/-- The two memories hold the same arguments. -/
def SameArgs : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)

/-- From the same arguments, the kernel's result is the reference's. -/
theorem same_result (h : Fits m c) (e : SameArgs m m' c) :
    (Cert.ReferenceIdeal.Value.res_main_v70 m' c : (⟨2, ![16384, 1]⟩ : Shape).Idx → EReal)
      = (Pipeline.afterTail₀ Cert.KernelIdeal.cfgs (dats m) 0 (V0 m) [Cert.KernelIdeal.Gen.hostOps1, Cert.KernelIdeal.Gen.hostOps1_1] c
          Cert.KernelIdeal.main_v150 : (⟨2, ![16384, 1]⟩ : Shape).Idx → EReal) := by
  obtain ⟨e0, e1, e2, e3, e4, e5, e6, e7, e8, e9, e10, e11, e12, e13, e14⟩ := e
  funext y
  obtain ⟨q, z, rfl⟩ : ∃ (q : Fin 16384) (z : Fin 1), y = ix2 q z := ⟨y 0, y 1, (ix2_eta y).symm⟩
  obtain rfl : z = 0 := Subsingleton.elim _ _
  refine Eq.trans ?_ (result_at m c (good_of m c h) q).symm
  refine (congrFun (Cert.RefIdeal.res_eq m' c) (ix2 q 0)).trans ?_
  simp only [Cert.RefIdeal.argR]
  rw [e0, e1, e2, e3, e4, e5, e6, e7, e8, e9, e10, e11, e12, e13, e14]
  obtain ⟨⟨h0, h1, h2, h3⟩, r4, r5, _, r7, r8, r9, r10⟩ := h
  exact ref_at _ _ _ _ _ _ _ _ _ _ _ _ _ _ _ h0 h1 h2 h3 r4 r5 r7 r8 r9 r10 q

end

theorem algebraic : Cert.algebraic_KernelIdeal_ReferenceIdeal_pre_ids_in_range_tables_finite
    (hKernelIdeal := Cert.KernelIdeal.Gen.facts) (hReferenceIdeal := Cert.ReferenceIdeal.Gen.facts)
    (hPre_ids_in_range_tables_finite := preFinite) := by
  intro m ρ m' ρ' hp e
  have fits : ∀ c, Fits m c := fun c => all_of _ _ _ _ _ _ _ _ _ _ _ _ _ _ _ (hp c)
  refine ⟨fun c => Pipeline.afterTail₀ Cert.KernelIdeal.cfgs (dats m) 0 (V0 m) [Cert.KernelIdeal.Gen.hostOps1, Cert.KernelIdeal.Gen.hostOps1_1] c
    Cert.KernelIdeal.main_v150, ?_, ?_⟩
  · exact (θ_run (Cert.KernelIdeal.defs (F := Ideal)) _ _).mono
      (fun r h c => ⟨(h.1 c).2 Cert.KernelIdeal.main_v150 (Pipeline.mem_restRefs_of Cert.KernelIdeal.main_v150 (by decide) (by decide)),
        args_kept m h c⟩)
      (run_tables (F := Ideal) m ρ fun c => (fits c).1)
  · exact (θ_run (Cert.ReferenceIdeal.defs (F := Ideal)) _ _).mono
      (fun r h c => ⟨(h c).1.trans (same_result m m' c (fits c) (e c)), (h c).2⟩)
      (Cert.ReferenceIdeal.Value.run (F := Ideal) m' ρ')

end Cert.P

end
-- ==== Proof.lean ====
/-
  The certificate: the kernel, its ideal program and the reference run and leave their arguments as they were; the
  ideal program is the kernel with the mask's constant named; over the extended reals the kernel's result is the
  reference's.
-/
module

public import proofs.«01_k».proof.Proof.Claims
public import proofs.«01_k».proof.Proof.Algebraic

@[expose] public section

noncomputable section

namespace Cert.Proof

open Cert.P

theorem claim : Cert.Claim :=
  ⟨Cert.Kernel.Gen.facts, Cert.KernelIdeal.Gen.facts, Cert.ReferenceIdeal.Gen.facts, preInts, preFinite,
    frame_kernel, frame_ideal, frame_ideal_finite, frame_reference, frame_reference_finite, preserves, algebraic⟩

end Cert.Proof

end
